-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v7)) (v1 : (c : Dev Cert.KernelIdeal.nD) → Buf (Elt Ideal) ((c.tc : Thread Cert.KernelIdeal.nD Cert.KernelIdeal.τ).loc Cert.KernelIdeal.main_v9)) (v2 : (c : Dev Cert.KernelIdeal.nD) → Buf (Elt Ideal) ((c.tc : Thread Cert.KernelIdeal.nD Cert.KernelIdeal.τ).loc Cert.KernelIdeal.main_v5_2)) (v3 : (c : Dev Cert.KernelIdeal.nD) → Buf (Elt Ideal) ((c.tc : Thread Cert.KernelIdeal.nD Cert.KernelIdeal.τ).loc Cert.KernelIdeal.main_v11)) (v4 : (c : Dev Cert.KernelIdeal.nD) → Buf (Elt Ideal) ((c.tc : Thread Cert.KernelIdeal.nD Cert.KernelIdeal.τ).loc Cert.KernelIdeal.main_v5_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_v9) = v1 c
          ∧ r.2.mem ((c.tc : Thread Cert.KernelIdeal.nD Cert.KernelIdeal.τ).loc Cert.KernelIdeal.main_v5_2) = v2 c
          ∧ r.2.mem ((c.tc : Thread Cert.KernelIdeal.nD Cert.KernelIdeal.τ).loc Cert.KernelIdeal.main_v11) = v3 c
          ∧ r.2.mem ((c.tc : Thread Cert.KernelIdeal.nD Cert.KernelIdeal.τ).loc Cert.KernelIdeal.main_v5_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0_0) = v0 c
          ∧ r.2.mem ((c.tc : Thread Cert.ReferenceIdeal.nD Cert.ReferenceIdeal.τ).loc Cert.ReferenceIdeal.main_v0_1) = v1 c
          ∧ r.2.mem ((c.tc : Thread Cert.ReferenceIdeal.nD Cert.ReferenceIdeal.τ).loc Cert.ReferenceIdeal.main_v0_2) = v2 c
          ∧ r.2.mem ((c.tc : Thread Cert.ReferenceIdeal.nD Cert.ReferenceIdeal.τ).loc Cert.ReferenceIdeal.main_v0_3) = v3 c
          ∧ r.2.mem ((c.tc : Thread Cert.ReferenceIdeal.nD Cert.ReferenceIdeal.τ).loc Cert.ReferenceIdeal.main_v0_4) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x8x12x8192 : Shape := ⟨4, ![2, 8, 12, 8192]⟩
abbrev S8192x2048 : Shape := ⟨2, ![8192, 2048]⟩
abbrev S2048 : Shape := ⟨1, ![2048]⟩
abbrev S3x2048 : Shape := ⟨2, ![3, 2048]⟩
abbrev S2048x7168 : Shape := ⟨2, ![2048, 7168]⟩
abbrev S7168 : Shape := ⟨1, ![7168]⟩
abbrev S2x12x8x8192 : Shape := ⟨4, ![2, 12, 8, 8192]⟩
abbrev S192x8192 : Shape := ⟨2, ![192, 8192]⟩
abbrev S1x2048 : Shape := ⟨2, ![1, 2048]⟩
abbrev S1x7168 : Shape := ⟨2, ![1, 7168]⟩
abbrev S24x8x7168 : Shape := ⟨3, ![24, 8, 7168]⟩
abbrev S24x8x8192 : Shape := ⟨3, ![24, 8, 8192]⟩
abbrev S2x8x12 : Shape := ⟨3, ![2, 8, 12]⟩
abbrev S24x8x2048 : Shape := ⟨3, ![24, 8, 2048]⟩
abbrev S4x8192x512 : Shape := ⟨3, ![4, 8192, 512]⟩
abbrev S7x2048x1024 : Shape := ⟨3, ![7, 2048, 1024]⟩
abbrev S192x128 : Shape := ⟨2, ![192, 128]⟩
abbrev S192x2048 : Shape := ⟨2, ![192, 2048]⟩
abbrev S7x24x8x1024 : Shape := ⟨4, ![7, 24, 8, 1024]⟩
abbrev S6 : Shape := ⟨1, ![6]⟩
abbrev S4 : Shape := ⟨1, ![4]⟩
abbrev S_ : Shape := ⟨0, ![]⟩
abbrev S7 : Shape := ⟨1, ![7]⟩
abbrev S1 : Shape := ⟨1, ![1]⟩
abbrev S32x8192 : Shape := ⟨2, ![32, 8192]⟩
abbrev S1x8192x512 : Shape := ⟨3, ![1, 8192, 512]⟩
abbrev S8192x512 : Shape := ⟨2, ![8192, 512]⟩
abbrev S1x2048x1024 : Shape := ⟨3, ![1, 2048, 1024]⟩
abbrev S2048x1024 : Shape := ⟨2, ![2048, 1024]⟩
abbrev S32x256 : Shape := ⟨2, ![32, 256]⟩
abbrev S32 : Shape := ⟨1, ![32]⟩
abbrev S32x1 : Shape := ⟨2, ![32, 1]⟩
abbrev S32x128 : Shape := ⟨2, ![32, 128]⟩
abbrev S32x1024 : Shape := ⟨2, ![32, 1024]⟩
abbrev S8x128 : Shape := ⟨2, ![8, 128]⟩
abbrev S8x12 : Shape := ⟨2, ![8, 12]⟩
abbrev S1x8x12 : Shape := ⟨3, ![1, 8, 12]⟩
abbrev S192x512 : Shape := ⟨2, ![192, 512]⟩
abbrev S8x512 : Shape := ⟨2, ![8, 512]⟩
abbrev S3x512 : Shape := ⟨2, ![3, 512]⟩
abbrev S1x512 : Shape := ⟨2, ![1, 512]⟩
abbrev S32x2048 : Shape := ⟨2, ![32, 2048]⟩
abbrev S192x1024 : Shape := ⟨2, ![192, 1024]⟩
abbrev S1x1024 : Shape := ⟨2, ![1, 1024]⟩
abbrev S8x1024 : Shape := ⟨2, ![8, 1024]⟩
abbrev S1x1x8x1024 : Shape := ⟨4, ![1, 1, 8, 1024]⟩
abbrev S24x8x1024 : Shape := ⟨3, ![24, 8, 1024]⟩
abbrev S1x24x8x1024 : Shape := ⟨4, ![1, 24, 8, 1024]⟩
abbrev S2x12x8x7168 : Shape := ⟨4, ![2, 12, 8, 7168]⟩
abbrev S2x8x12x7168 : Shape := ⟨4, ![2, 8, 12, 7168]⟩
abbrev S2x12x8x2048 : Shape := ⟨4, ![2, 12, 8, 2048]⟩
abbrev S2x8x12x2048 : Shape := ⟨4, ![2, 8, 12, 2048]⟩

abbrev nBuf : Space → Nat
  | .hbm => 24
  | .vmem => 17
  | .smem => 0
  | _ => 0

abbrev bufTy : (tb : Table) → Fin (tcTables nBuf tb) → BufTy
  | .hbm, ⟨0, _⟩ => ⟨S2x8x12x8192, .bf16⟩
  | .hbm, ⟨1, _⟩ => ⟨S8192x2048, .fp8e4m3⟩
  | .hbm, ⟨2, _⟩ => ⟨S2048, .f32⟩
  | .hbm, ⟨3, _⟩ => ⟨S3x2048, .bf16⟩
  | .hbm, ⟨4, _⟩ => ⟨S3x2048, .bf16⟩
  | .hbm, ⟨5, _⟩ => ⟨S2048x7168, .fp8e4m3⟩
  | .hbm, ⟨6, _⟩ => ⟨S7168, .f32⟩
  | .hbm, ⟨7, _⟩ => ⟨S7168, .f32⟩
  | .hbm, ⟨8, _⟩ => ⟨S2x12x8x8192, .bf16⟩
  | .hbm, ⟨9, _⟩ => ⟨S192x8192, .bf16⟩
  | .hbm, ⟨10, _⟩ => ⟨S1x2048, .f32⟩
  | .hbm, ⟨11, _⟩ => ⟨S1x7168, .f32⟩
  | .hbm, ⟨12, _⟩ => ⟨S1x7168, .f32⟩
  | .hbm, ⟨13, _⟩ => ⟨S24x8x7168, .bf16⟩
  | .hbm, ⟨14, _⟩ => ⟨S24x8x8192, .fp8e4m3⟩
  | .hbm, ⟨15, _⟩ => ⟨S2x8x12, .f32⟩
  | .hbm, ⟨16, _⟩ => ⟨S24x8x2048, .fp8e4m3⟩
  | .hbm, ⟨17, _⟩ => ⟨S2x8x12, .f32⟩
  | .hbm, ⟨18, _⟩ => ⟨S2x12x8x7168, .bf16⟩
  | .hbm, ⟨19, _⟩ => ⟨S2x8x12x7168, .bf16⟩
  | .hbm, ⟨20, _⟩ => ⟨S2x12x8x8192, .fp8e4m3⟩
  | .hbm, ⟨21, _⟩ => ⟨S2x8x12x8192, .fp8e4m3⟩
  | .hbm, ⟨22, _⟩ => ⟨S2x12x8x2048, .fp8e4m3⟩
  | .hbm, ⟨23, _⟩ => ⟨S2x8x12x2048, .fp8e4m3⟩
  | .local _ .vmem, ⟨0, _⟩ => ⟨S192x8192, .bf16⟩
  | .local _ .vmem, ⟨1, _⟩ => ⟨S192x8192, .fp8e4m3⟩
  | .local _ .vmem, ⟨2, _⟩ => ⟨S4x8192x512, .fp8e4m3⟩
  | .local _ .vmem, ⟨3, _⟩ => ⟨S1x2048, .f32⟩
  | .local _ .vmem, ⟨4, _⟩ => ⟨S3x2048, .bf16⟩
  | .local _ .vmem, ⟨5, _⟩ => ⟨S3x2048, .bf16⟩
  | .local _ .vmem, ⟨6, _⟩ => ⟨S7x2048x1024, .fp8e4m3⟩
  | .local _ .vmem, ⟨7, _⟩ => ⟨S1x7168, .f32⟩
  | .local _ .vmem, ⟨8, _⟩ => ⟨S1x7168, .f32⟩
  | .local _ .vmem, ⟨9, _⟩ => ⟨S192x128, .f32⟩
  | .local _ .vmem, ⟨10, _⟩ => ⟨S2x8x12, .f32⟩
  | .local _ .vmem, ⟨11, _⟩ => ⟨S192x2048, .f32⟩
  | .local _ .vmem, ⟨12, _⟩ => ⟨S192x128, .f32⟩
  | .local _ .vmem, ⟨13, _⟩ => ⟨S192x2048, .fp8e4m3⟩
  | .local _ .vmem, ⟨14, _⟩ => ⟨S192x128, .f32⟩
  | .local _ .vmem, ⟨15, _⟩ => ⟨S2x8x12, .f32⟩
  | .local _ .vmem, ⟨16, _⟩ => ⟨S7x24x8x1024, .bf16⟩
  | _, _ => ⟨S2x8x12x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5_0 : Ref sig .tc := ⟨.hbm, 13, rfl⟩
abbrev main_v5_1 : Ref sig .tc := ⟨.hbm, 14, rfl⟩
abbrev main_v5_2 : Ref sig .tc := ⟨.hbm, 15, rfl⟩
abbrev main_v5_3 : Ref sig .tc := ⟨.hbm, 16, rfl⟩
abbrev main_v5_4 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩
abbrev cc0_scratch3 : Ref sig .tc := ⟨.vmem, 3, rfl⟩
abbrev cc0_scratch4 : Ref sig .tc := ⟨.vmem, 4, rfl⟩
abbrev cc0_scratch5 : Ref sig .tc := ⟨.vmem, 5, rfl⟩
abbrev cc0_scratch6 : Ref sig .tc := ⟨.vmem, 6, rfl⟩
abbrev cc0_scratch7 : Ref sig .tc := ⟨.vmem, 7, rfl⟩
abbrev cc0_scratch8 : Ref sig .tc := ⟨.vmem, 8, rfl⟩
abbrev cc0_scratch9 : Ref sig .tc := ⟨.vmem, 9, rfl⟩
abbrev cc0_scratch10 : Ref sig .tc := ⟨.vmem, 10, rfl⟩
abbrev cc0_scratch11 : Ref sig .tc := ⟨.vmem, 11, rfl⟩
abbrev cc0_scratch12 : Ref sig .tc := ⟨.vmem, 12, rfl⟩
abbrev cc0_scratch13 : Ref sig .tc := ⟨.vmem, 13, rfl⟩
abbrev cc0_scratch14 : Ref sig .tc := ⟨.vmem, 14, rfl⟩
abbrev cc0_scratch15 : Ref sig .tc := ⟨.vmem, 15, rfl⟩
abbrev cc0_scratch16 : Ref sig .tc := ⟨.vmem, 16, rfl⟩

abbrev nD : Nat := 1
abbrev τ : Topo := Topo.v7x

variable {F : FTy → Type} [FloatOps F]

abbrev grid0 : Pipeline.Grid := .none

@[reducible] def k0_t1_loop : Scf.Loop 32 :=
  let c0_i32 : BitVec 32 := 0#32
  let c6_i32 : BitVec 32 := 6#32
  let v0 : BitVec 32 := Scalar.addi c0_i32 c6_i32
  let c1_i32 : BitVec 32 := 1#32
  ⟨c0_i32, v0, c1_i32⟩
def k0_mult1 (k0_t1 : Fin k0_t1_loop.trips) : BitVec 32 :=
  let c0_i32 : BitVec 32 := 0#32
  let c1_i32 : BitVec 32 := 1#32
  let arg43 : BitVec 32 := Scf.iv c0_i32 c1_i32 k0_t1
  let c32_i32_405 : BitVec 32 := 32#32
  let v836 : BitVec 32 := Scalar.muli arg43 c32_i32_405
  v836
def k0_off1 (k0_t1 : Fin k0_t1_loop.trips) : Fin 1 → Nat :=
  let c0_i32 : BitVec 32 := 0#32
  let c1_i32 : BitVec 32 := 1#32
  let arg43 : BitVec 32 := Scf.iv c0_i32 c1_i32 k0_t1
  ![arg43.toNat]
def k0_off2 (k0_t1 : Fin k0_t1_loop.trips) : Fin 2 → Nat :=
  let c0_i32 : BitVec 32 := 0#32
  let c1_i32 : BitVec 32 := 1#32
  let arg43 : BitVec 32 := Scf.iv c0_i32 c1_i32 k0_t1
  let c32_i32_405 : BitVec 32 := 32#32
  let v836 : BitVec 32 := Scalar.muli arg43 c32_i32_405
  let v837 : BitVec 32 := v836
  let c0_i32_406 : BitVec 32 := 0#32
  ![v837.toNat, 0]
@[reducible] def k0_t2_loop : Scf.Loop 32 :=
  let c0_i32_1 : BitVec 32 := 0#32
  let c4_i32 : BitVec 32 := 4#32
  let v1 : BitVec 32 := Scalar.addi c0_i32_1 c4_i32
  let c1_i32_2 : BitVec 32 := 1#32
  ⟨c0_i32_1, v1, c1_i32_2⟩
def k0_mult2 (k0_t2 : Fin k0_t2_loop.trips) : BitVec 32 :=
  let c0_i32_1 : BitVec 32 := 0#32
  let c1_i32_2 : BitVec 32 := 1#32
  let arg43 : BitVec 32 := Scf.iv c0_i32_1 c1_i32_2 k0_t2
  let c512_i32 : BitVec 32 := 512#32
  let v836 : BitVec 32 := Scalar.muli arg43 c512_i32
  v836
def k0_off3 (k0_t2 : Fin k0_t2_loop.trips) : Fin 1 → Nat :=
  let c0_i32_1 : BitVec 32 := 0#32
  let c1_i32_2 : BitVec 32 := 1#32
  let arg43 : BitVec 32 := Scf.iv c0_i32_1 c1_i32_2 k0_t2
  ![arg43.toNat]
def k0_off4 (k0_t2 : Fin k0_t2_loop.trips) : Fin 3 → Nat :=
  let c0_i32_1 : BitVec 32 := 0#32
  let c1_i32_2 : BitVec 32 := 1#32
  let arg43 : BitVec 32 := Scf.iv c0_i32_1 c1_i32_2 k0_t2
  let c0_i32_405 : BitVec 32 := 0#32
  let c0_i32_406 : BitVec 32 := 0#32
  ![arg43.toNat, 0, 0]
def k0_off5 (k0_t2 : Fin k0_t2_loop.trips) : Fin 2 → Nat :=
  let c0_i32_407 : BitVec 32 := 0#32
  let c0_i32_1 : BitVec 32 := 0#32
  let c1_i32_2 : BitVec 32 := 1#32
  let arg43 : BitVec 32 := Scf.iv c0_i32_1 c1_i32_2 k0_t2
  let c512_i32 : BitVec 32 := 512#32
  let v836 : BitVec 32 := Scalar.muli arg43 c512_i32
  let v837 : BitVec 32 := v836
  ![0, v837.toNat]
@[reducible] def k0_t3_loop : Scf.Loop 32 :=
  let c0_i32_4 : BitVec 32 := 0#32
  let c7_i32 : BitVec 32 := 7#32
  let v2 : BitVec 32 := Scalar.addi c0_i32_4 c7_i32
  let c1_i32_5 : BitVec 32 := 1#32
  ⟨c0_i32_4, v2, c1_i32_5⟩
def k0_mult3 (k0_t3 : Fin k0_t3_loop.trips) : BitVec 32 :=
  let c0_i32_4 : BitVec 32 := 0#32
  let c1_i32_5 : BitVec 32 := 1#32
  let arg43 : BitVec 32 := Scf.iv c0_i32_4 c1_i32_5 k0_t3
  let c1024_i32_405 : BitVec 32 := 1024#32
  let v836 : BitVec 32 := Scalar.muli arg43 c1024_i32_405
  v836
def k0_off6 (k0_t3 : Fin k0_t3_loop.trips) : Fin 1 → Nat :=
  let c0_i32_4 : BitVec 32 := 0#32
  let c1_i32_5 : BitVec 32 := 1#32
  let arg43 : BitVec 32 := Scf.iv c0_i32_4 c1_i32_5 k0_t3
  ![arg43.toNat]
def k0_off7 (k0_t3 : Fin k0_t3_loop.trips) : Fin 3 → Nat :=
  let c0_i32_4 : BitVec 32 := 0#32
  let c1_i32_5 : BitVec 32 := 1#32
  let arg43 : BitVec 32 := Scf.iv c0_i32_4 c1_i32_5 k0_t3
  let c0_i32_406 : BitVec 32 := 0#32
  let c0_i32_407 : BitVec 32 := 0#32
  ![arg43.toNat, 0, 0]
def k0_off8 (k0_t3 : Fin k0_t3_loop.trips) : Fin 2 → Nat :=
  let c0_i32_408 : BitVec 32 := 0#32
  let c0_i32_4 : BitVec 32 := 0#32
  let c1_i32_5 : BitVec 32 := 1#32
  let arg43 : BitVec 32 := Scf.iv c0_i32_4 c1_i32_5 k0_t3
  let c1024_i32_405 : BitVec 32 := 1024#32
  let v836 : BitVec 32 := Scalar.muli arg43 c1024_i32_405
  let v837 : BitVec 32 := v836
  ![0, v837.toNat]
@[reducible] def k0_t4_loop : Scf.Loop 32 :=
  let c0_i32_7 : BitVec 32 := 0#32
  let c6_i32_8 : BitVec 32 := 6#32
  let v3 : BitVec 32 := Scalar.addi c0_i32_7 c6_i32_8
  let c1_i32_9 : BitVec 32 := 1#32
  ⟨c0_i32_7, v3, c1_i32_9⟩
def k0_mult4 (k0_t4 : Fin k0_t4_loop.trips) : BitVec 32 :=
  let c0_i32_7 : BitVec 32 := 0#32
  let c1_i32_9 : BitVec 32 := 1#32
  let arg43 : BitVec 32 := Scf.iv c0_i32_7 c1_i32_9 k0_t4
  let c32_i32_405 : BitVec 32 := 32#32
  let v836 : BitVec 32 := Scalar.muli arg43 c32_i32_405
  v836
def k0_off9 (k0_t4 : Fin k0_t4_loop.trips) : Fin 1 → Nat :=
  let c0_i32_7 : BitVec 32 := 0#32
  let c1_i32_9 : BitVec 32 := 1#32
  let arg43 : BitVec 32 := Scf.iv c0_i32_7 c1_i32_9 k0_t4
  ![arg43.toNat]
def k0_off10 (k0_t4 : Fin k0_t4_loop.trips) : Fin 2 → Nat :=
  let c0_i32_7 : BitVec 32 := 0#32
  let c1_i32_9 : BitVec 32 := 1#32
  let arg43 : BitVec 32 := Scf.iv c0_i32_7 c1_i32_9 k0_t4
  let c32_i32_405 : BitVec 32 := 32#32
  let v836 : BitVec 32 := Scalar.muli arg43 c32_i32_405
  let v837 : BitVec 32 := v836
  let c0_i32_406 : BitVec 32 := 0#32
  ![v837.toNat, 0]
def k0_mult5 (k0_t4 : Fin k0_t4_loop.trips) : BitVec 32 :=
  let c0_i32_7 : BitVec 32 := 0#32
  let c1_i32_9 : BitVec 32 := 1#32
  let arg43 : BitVec 32 := Scf.iv c0_i32_7 c1_i32_9 k0_t4
  let c32_i32_408 : BitVec 32 := 32#32
  let v842 : BitVec 32 := Scalar.muli arg43 c32_i32_408
  v842
def k0_off11 (k0_t4 : Fin k0_t4_loop.trips) : Fin 2 → Nat :=
  let c0_i32_7 : BitVec 32 := 0#32
  let c1_i32_9 : BitVec 32 := 1#32
  let arg43 : BitVec 32 := Scf.iv c0_i32_7 c1_i32_9 k0_t4
  let c32_i32_408 : BitVec 32 := 32#32
  let v842 : BitVec 32 := Scalar.muli arg43 c32_i32_408
  let v843 : BitVec 32 := v842
  let v844 : Index := Scalar.indexCast v843
  let c0_409 : Index := 0#32
  ![v844.toNat, 0]
def k0_off12 (k0_t4 : Fin k0_t4_loop.trips) : Fin 2 → Nat :=
  let c0_i32_7 : BitVec 32 := 0#32
  let c1_i32_9 : BitVec 32 := 1#32
  let arg43 : BitVec 32 := Scf.iv c0_i32_7 c1_i32_9 k0_t4
  let c32_i32_408 : BitVec 32 := 32#32
  let v842 : BitVec 32 := Scalar.muli arg43 c32_i32_408
  let v843 : BitVec 32 := v842
  let v847 : Index := Scalar.indexCast v843
  let c256 : Index := 256#32
  ![v847.toNat, 256]
def k0_off13 (k0_t4 : Fin k0_t4_loop.trips) : Fin 2 → Nat :=
  let c0_i32_7 : BitVec 32 := 0#32
  let c1_i32_9 : BitVec 32 := 1#32
  let arg43 : BitVec 32 := Scf.iv c0_i32_7 c1_i32_9 k0_t4
  let c32_i32_408 : BitVec 32 := 32#32
  let v842 : BitVec 32 := Scalar.muli arg43 c32_i32_408
  let v843 : BitVec 32 := v842
  let v851 : Index := Scalar.indexCast v843
  let c512 : Index := 512#32
  ![v851.toNat, 512]
def k0_off14 (k0_t4 : Fin k0_t4_loop.trips) : Fin 2 → Nat :=
  let c0_i32_7 : BitVec 32 := 0#32
  let c1_i32_9 : BitVec 32 := 1#32
  let arg43 : BitVec 32 := Scf.iv c0_i32_7 c1_i32_9 k0_t4
  let c32_i32_408 : BitVec 32 := 32#32
  let v842 : BitVec 32 := Scalar.muli arg43 c32_i32_408
  let v843 : BitVec 32 := v842
  let v855 : Index := Scalar.indexCast v843
  let c768 : Index := 768#32
  ![v855.toNat, 768]
def k0_off15 (k0_t4 : Fin k0_t4_loop.trips) : Fin 2 → Nat :=
  let c0_i32_7 : BitVec 32 := 0#32
  let c1_i32_9 : BitVec 32 := 1#32
  let arg43 : BitVec 32 := Scf.iv c0_i32_7 c1_i32_9 k0_t4
  let c32_i32_408 : BitVec 32 := 32#32
  let v842 : BitVec 32 := Scalar.muli arg43 c32_i32_408
  let v843 : BitVec 32 := v842
  let v859 : Index := Scalar.indexCast v843
  let c1024 : Index := 1024#32
  ![v859.toNat, 1024]
def k0_off16 (k0_t4 : Fin k0_t4_loop.trips) : Fin 2 → Nat :=
  let c0_i32_7 : BitVec 32 := 0#32
  let c1_i32_9 : BitVec 32 := 1#32
  let arg43 : BitVec 32 := Scf.iv c0_i32_7 c1_i32_9 k0_t4
  let c32_i32_408 : BitVec 32 := 32#32
  let v842 : BitVec 32 := Scalar.muli arg43 c32_i32_408
  let v843 : BitVec 32 := v842
  let v863 : Index := Scalar.indexCast v843
  let c1280 : Index := 1280#32
  ![v863.toNat, 1280]
def k0_off17 (k0_t4 : Fin k0_t4_loop.trips) : Fin 2 → Nat :=
  let c0_i32_7 : BitVec 32 := 0#32
  let c1_i32_9 : BitVec 32 := 1#32
  let arg43 : BitVec 32 := Scf.iv c0_i32_7 c1_i32_9 k0_t4
  let c32_i32_408 : BitVec 32 := 32#32
  let v842 : BitVec 32 := Scalar.muli arg43 c32_i32_408
  let v843 : BitVec 32 := v842
  let v867 : Index := Scalar.indexCast v843
  let c1536 : Index := 1536#32
  ![v867.toNat, 1536]
def k0_off18 (k0_t4 : Fin k0_t4_loop.trips) : Fin 2 → Nat :=
  let c0_i32_7 : BitVec 32 := 0#32
  let c1_i32_9 : BitVec 32 := 1#32
  let arg43 : BitVec 32 := Scf.iv c0_i32_7 c1_i32_9 k0_t4
  let c32_i32_408 : BitVec 32 := 32#32
  let v842 : BitVec 32 := Scalar.muli arg43 c32_i32_408
  let v843 : BitVec 32 := v842
  let v871 : Index := Scalar.indexCast v843
  let c1792 : Index := 1792#32
  ![v871.toNat, 1792]
def k0_off19 (k0_t4 : Fin k0_t4_loop.trips) : Fin 2 → Nat :=
  let c0_i32_7 : BitVec 32 := 0#32
  let c1_i32_9 : BitVec 32 := 1#32
  let arg43 : BitVec 32 := Scf.iv c0_i32_7 c1_i32_9 k0_t4
  let c32_i32_408 : BitVec 32 := 32#32
  let v842 : BitVec 32 := Scalar.muli arg43 c32_i32_408
  let v843 : BitVec 32 := v842
  let v875 : Index := Scalar.indexCast v843
  let c2048 : Index := 2048#32
  ![v875.toNat, 2048]
def k0_off20 (k0_t4 : Fin k0_t4_loop.trips) : Fin 2 → Nat :=
  let c0_i32_7 : BitVec 32 := 0#32
  let c1_i32_9 : BitVec 32 := 1#32
  let arg43 : BitVec 32 := Scf.iv c0_i32_7 c1_i32_9 k0_t4
  let c32_i32_408 : BitVec 32 := 32#32
  let v842 : BitVec 32 := Scalar.muli arg43 c32_i32_408
  let v843 : BitVec 32 := v842
  let v879 : Index := Scalar.indexCast v843
  let c2304 : Index := 2304#32
  ![v879.toNat, 2304]
def k0_off21 (k0_t4 : Fin k0_t4_loop.trips) : Fin 2 → Nat :=
  let c0_i32_7 : BitVec 32 := 0#32
  let c1_i32_9 : BitVec 32 := 1#32
  let arg43 : BitVec 32 := Scf.iv c0_i32_7 c1_i32_9 k0_t4
  let c32_i32_408 : BitVec 32 := 32#32
  let v842 : BitVec 32 := Scalar.muli arg43 c32_i32_408
  let v843 : BitVec 32 := v842
  let v883 : Index := Scalar.indexCast v843
  let c2560 : Index := 2560#32
  ![v883.toNat, 2560]
def k0_off22 (k0_t4 : Fin k0_t4_loop.trips) : Fin 2 → Nat :=
  let c0_i32_7 : BitVec 32 := 0#32
  let c1_i32_9 : BitVec 32 := 1#32
  let arg43 : BitVec 32 := Scf.iv c0_i32_7 c1_i32_9 k0_t4
  let c32_i32_408 : BitVec 32 := 32#32
  let v842 : BitVec 32 := Scalar.muli arg43 c32_i32_408
  let v843 : BitVec 32 := v842
  let v887 : Index := Scalar.indexCast v843
  let c2816 : Index := 2816#32
  ![v887.toNat, 2816]
def k0_off23 (k0_t4 : Fin k0_t4_loop.trips) : Fin 2 → Nat :=
  let c0_i32_7 : BitVec 32 := 0#32
  let c1_i32_9 : BitVec 32 := 1#32
  let arg43 : BitVec 32 := Scf.iv c0_i32_7 c1_i32_9 k0_t4
  let c32_i32_408 : BitVec 32 := 32#32
  let v842 : BitVec 32 := Scalar.muli arg43 c32_i32_408
  let v843 : BitVec 32 := v842
  let v891 : Index := Scalar.indexCast v843
  let c3072 : Index := 3072#32
  ![v891.toNat, 3072]
def k0_off24 (k0_t4 : Fin k0_t4_loop.trips) : Fin 2 → Nat :=
  let c0_i32_7 : BitVec 32 := 0#32
  let c1_i32_9 : BitVec 32 := 1#32
  let arg43 : BitVec 32 := Scf.iv c0_i32_7 c1_i32_9 k0_t4
  let c32_i32_408 : BitVec 32 := 32#32
  let v842 : BitVec 32 := Scalar.muli arg43 c32_i32_408
  let v843 : BitVec 32 := v842
  let v895 : Index := Scalar.indexCast v843
  let c3328 : Index := 3328#32
  ![v895.toNat, 3328]
def k0_off25 (k0_t4 : Fin k0_t4_loop.trips) : Fin 2 → Nat :=
  let c0_i32_7 : BitVec 32 := 0#32
  let c1_i32_9 : BitVec 32 := 1#32
  let arg43 : BitVec 32 := Scf.iv c0_i32_7 c1_i32_9 k0_t4
  let c32_i32_408 : BitVec 32 := 32#32
  let v842 : BitVec 32 := Scalar.muli arg43 c32_i32_408
  let v843 : BitVec 32 := v842
  let v899 : Index := Scalar.indexCast v843
  let c3584 : Index := 3584#32
  ![v899.toNat, 3584]
def k0_off26 (k0_t4 : Fin k0_t4_loop.trips) : Fin 2 → Nat :=
  let c0_i32_7 : BitVec 32 := 0#32
  let c1_i32_9 : BitVec 32 := 1#32
  let arg43 : BitVec 32 := Scf.iv c0_i32_7 c1_i32_9 k0_t4
  let c32_i32_408 : BitVec 32 := 32#32
  let v842 : BitVec 32 := Scalar.muli arg43 c32_i32_408
  let v843 : BitVec 32 := v842
  let v903 : Index := Scalar.indexCast v843
  let c3840 : Index := 3840#32
  ![v903.toNat, 3840]
def k0_off27 (k0_t4 : Fin k0_t4_loop.trips) : Fin 2 → Nat :=
  let c0_i32_7 : BitVec 32 := 0#32
  let c1_i32_9 : BitVec 32 := 1#32
  let arg43 : BitVec 32 := Scf.iv c0_i32_7 c1_i32_9 k0_t4
  let c32_i32_408 : BitVec 32 := 32#32
  let v842 : BitVec 32 := Scalar.muli arg43 c32_i32_408
  let v843 : BitVec 32 := v842
  let v907 : Index := Scalar.indexCast v843
  let c4096 : Index := 4096#32
  ![v907.toNat, 4096]
def k0_off28 (k0_t4 : Fin k0_t4_loop.trips) : Fin 2 → Nat :=
  let c0_i32_7 : BitVec 32 := 0#32
  let c1_i32_9 : BitVec 32 := 1#32
  let arg43 : BitVec 32 := Scf.iv c0_i32_7 c1_i32_9 k0_t4
  let c32_i32_408 : BitVec 32 := 32#32
  let v842 : BitVec 32 := Scalar.muli arg43 c32_i32_408
  let v843 : BitVec 32 := v842
  let v911 : Index := Scalar.indexCast v843
  let c4352 : Index := 4352#32
  ![v911.toNat, 4352]
def k0_off29 (k0_t4 : Fin k0_t4_loop.trips) : Fin 2 → Nat :=
  let c0_i32_7 : BitVec 32 := 0#32
  let c1_i32_9 : BitVec 32 := 1#32
  let arg43 : BitVec 32 := Scf.iv c0_i32_7 c1_i32_9 k0_t4
  let c32_i32_408 : BitVec 32 := 32#32
  let v842 : BitVec 32 := Scalar.muli arg43 c32_i32_408
  let v843 : BitVec 32 := v842
  let v915 : Index := Scalar.indexCast v843
  let c4608 : Index := 4608#32
  ![v915.toNat, 4608]
def k0_off30 (k0_t4 : Fin k0_t4_loop.trips) : Fin 2 → Nat :=
  let c0_i32_7 : BitVec 32 := 0#32
  let c1_i32_9 : BitVec 32 := 1#32
  let arg43 : BitVec 32 := Scf.iv c0_i32_7 c1_i32_9 k0_t4
  let c32_i32_408 : BitVec 32 := 32#32
  let v842 : BitVec 32 := Scalar.muli arg43 c32_i32_408
  let v843 : BitVec 32 := v842
  let v919 : Index := Scalar.indexCast v843
  let c4864 : Index := 4864#32
  ![v919.toNat, 4864]
def k0_off31 (k0_t4 : Fin k0_t4_loop.trips) : Fin 2 → Nat :=
  let c0_i32_7 : BitVec 32 := 0#32
  let c1_i32_9 : BitVec 32 := 1#32
  let arg43 : BitVec 32 := Scf.iv c0_i32_7 c1_i32_9 k0_t4
  let c32_i32_408 : BitVec 32 := 32#32
  let v842 : BitVec 32 := Scalar.muli arg43 c32_i32_408
  let v843 : BitVec 32 := v842
  let v923 : Index := Scalar.indexCast v843
  let c5120 : Index := 5120#32
  ![v923.toNat, 5120]
def k0_off32 (k0_t4 : Fin k0_t4_loop.trips) : Fin 2 → Nat :=
  let c0_i32_7 : BitVec 32 := 0#32
  let c1_i32_9 : BitVec 32 := 1#32
  let arg43 : BitVec 32 := Scf.iv c0_i32_7 c1_i32_9 k0_t4
  let c32_i32_408 : BitVec 32 := 32#32
  let v842 : BitVec 32 := Scalar.muli arg43 c32_i32_408
  let v843 : BitVec 32 := v842
  let v927 : Index := Scalar.indexCast v843
  let c5376 : Index := 5376#32
  ![v927.toNat, 5376]
def k0_off33 (k0_t4 : Fin k0_t4_loop.trips) : Fin 2 → Nat :=
  let c0_i32_7 : BitVec 32 := 0#32
  let c1_i32_9 : BitVec 32 := 1#32
  let arg43 : BitVec 32 := Scf.iv c0_i32_7 c1_i32_9 k0_t4
  let c32_i32_408 : BitVec 32 := 32#32
  let v842 : BitVec 32 := Scalar.muli arg43 c32_i32_408
  let v843 : BitVec 32 := v842
  let v931 : Index := Scalar.indexCast v843
  let c5632 : Index := 5632#32
  ![v931.toNat, 5632]
def k0_off34 (k0_t4 : Fin k0_t4_loop.trips) : Fin 2 → Nat :=
  let c0_i32_7 : BitVec 32 := 0#32
  let c1_i32_9 : BitVec 32 := 1#32
  let arg43 : BitVec 32 := Scf.iv c0_i32_7 c1_i32_9 k0_t4
  let c32_i32_408 : BitVec 32 := 32#32
  let v842 : BitVec 32 := Scalar.muli arg43 c32_i32_408
  let v843 : BitVec 32 := v842
  let v935 : Index := Scalar.indexCast v843
  let c5888 : Index := 5888#32
  ![v935.toNat, 5888]
def k0_off35 (k0_t4 : Fin k0_t4_loop.trips) : Fin 2 → Nat :=
  let c0_i32_7 : BitVec 32 := 0#32
  let c1_i32_9 : BitVec 32 := 1#32
  let arg43 : BitVec 32 := Scf.iv c0_i32_7 c1_i32_9 k0_t4
  let c32_i32_408 : BitVec 32 := 32#32
  let v842 : BitVec 32 := Scalar.muli arg43 c32_i32_408
  let v843 : BitVec 32 := v842
  let v939 : Index := Scalar.indexCast v843
  let c6144 : Index := 6144#32
  ![v939.toNat, 6144]
def k0_off36 (k0_t4 : Fin k0_t4_loop.trips) : Fin 2 → Nat :=
  let c0_i32_7 : BitVec 32 := 0#32
  let c1_i32_9 : BitVec 32 := 1#32
  let arg43 : BitVec 32 := Scf.iv c0_i32_7 c1_i32_9 k0_t4
  let c32_i32_408 : BitVec 32 := 32#32
  let v842 : BitVec 32 := Scalar.muli arg43 c32_i32_408
  let v843 : BitVec 32 := v842
  let v943 : Index := Scalar.indexCast v843
  let c6400 : Index := 6400#32
  ![v943.toNat, 6400]
def k0_off37 (k0_t4 : Fin k0_t4_loop.trips) : Fin 2 → Nat :=
  let c0_i32_7 : BitVec 32 := 0#32
  let c1_i32_9 : BitVec 32 := 1#32
  let arg43 : BitVec 32 := Scf.iv c0_i32_7 c1_i32_9 k0_t4
  let c32_i32_408 : BitVec 32 := 32#32
  let v842 : BitVec 32 := Scalar.muli arg43 c32_i32_408
  let v843 : BitVec 32 := v842
  let v947 : Index := Scalar.indexCast v843
  let c6656 : Index := 6656#32
  ![v947.toNat, 6656]
def k0_off38 (k0_t4 : Fin k0_t4_loop.trips) : Fin 2 → Nat :=
  let c0_i32_7 : BitVec 32 := 0#32
  let c1_i32_9 : BitVec 32 := 1#32
  let arg43 : BitVec 32 := Scf.iv c0_i32_7 c1_i32_9 k0_t4
  let c32_i32_408 : BitVec 32 := 32#32
  let v842 : BitVec 32 := Scalar.muli arg43 c32_i32_408
  let v843 : BitVec 32 := v842
  let v951 : Index := Scalar.indexCast v843
  let c6912 : Index := 6912#32
  ![v951.toNat, 6912]
def k0_off39 (k0_t4 : Fin k0_t4_loop.trips) : Fin 2 → Nat :=
  let c0_i32_7 : BitVec 32 := 0#32
  let c1_i32_9 : BitVec 32 := 1#32
  let arg43 : BitVec 32 := Scf.iv c0_i32_7 c1_i32_9 k0_t4
  let c32_i32_408 : BitVec 32 := 32#32
  let v842 : BitVec 32 := Scalar.muli arg43 c32_i32_408
  let v843 : BitVec 32 := v842
  let v955 : Index := Scalar.indexCast v843
  let c7168 : Index := 7168#32
  ![v955.toNat, 7168]
def k0_off40 (k0_t4 : Fin k0_t4_loop.trips) : Fin 2 → Nat :=
  let c0_i32_7 : BitVec 32 := 0#32
  let c1_i32_9 : BitVec 32 := 1#32
  let arg43 : BitVec 32 := Scf.iv c0_i32_7 c1_i32_9 k0_t4
  let c32_i32_408 : BitVec 32 := 32#32
  let v842 : BitVec 32 := Scalar.muli arg43 c32_i32_408
  let v843 : BitVec 32 := v842
  let v959 : Index := Scalar.indexCast v843
  let c7424 : Index := 7424#32
  ![v959.toNat, 7424]
def k0_off41 (k0_t4 : Fin k0_t4_loop.trips) : Fin 2 → Nat :=
  let c0_i32_7 : BitVec 32 := 0#32
  let c1_i32_9 : BitVec 32 := 1#32
  let arg43 : BitVec 32 := Scf.iv c0_i32_7 c1_i32_9 k0_t4
  let c32_i32_408 : BitVec 32 := 32#32
  let v842 : BitVec 32 := Scalar.muli arg43 c32_i32_408
  let v843 : BitVec 32 := v842
  let v963 : Index := Scalar.indexCast v843
  let c7680 : Index := 7680#32
  ![v963.toNat, 7680]
def k0_off42 (k0_t4 : Fin k0_t4_loop.trips) : Fin 2 → Nat :=
  let c0_i32_7 : BitVec 32 := 0#32
  let c1_i32_9 : BitVec 32 := 1#32
  let arg43 : BitVec 32 := Scf.iv c0_i32_7 c1_i32_9 k0_t4
  let c32_i32_408 : BitVec 32 := 32#32
  let v842 : BitVec 32 := Scalar.muli arg43 c32_i32_408
  let v843 : BitVec 32 := v842
  let v967 : Index := Scalar.indexCast v843
  let c7936 : Index := 7936#32
  ![v967.toNat, 7936]
def k0_off43 (k0_t4 : Fin k0_t4_loop.trips) : Fin 2 → Nat :=
  let c0_i32_7 : BitVec 32 := 0#32
  let c1_i32_9 : BitVec 32 := 1#32
  let arg43 : BitVec 32 := Scf.iv c0_i32_7 c1_i32_9 k0_t4
  let c32_i32_408 : BitVec 32 := 32#32
  let v842 : BitVec 32 := Scalar.muli arg43 c32_i32_408
  let v843 : BitVec 32 := v842
  let v1056 : Index := Scalar.indexCast v843
  let c0_438 : Index := 0#32
  ![v1056.toNat, 0]
def k0_off44 (k0_t4 : Fin k0_t4_loop.trips) : Fin 2 → Nat :=
  let c0_i32_7 : BitVec 32 := 0#32
  let c1_i32_9 : BitVec 32 := 1#32
  let arg43 : BitVec 32 := Scf.iv c0_i32_7 c1_i32_9 k0_t4
  let c32_i32_408 : BitVec 32 := 32#32
  let v842 : BitVec 32 := Scalar.muli arg43 c32_i32_408
  let v843 : BitVec 32 := v842
  let v1061 : Index := Scalar.indexCast v843
  let c0_439 : Index := 0#32
  ![v1061.toNat, 0]
def k0_off45 (k0_t4 : Fin k0_t4_loop.trips) : Fin 2 → Nat :=
  let c0_i32_7 : BitVec 32 := 0#32
  let c1_i32_9 : BitVec 32 := 1#32
  let arg43 : BitVec 32 := Scf.iv c0_i32_7 c1_i32_9 k0_t4
  let c32_i32_408 : BitVec 32 := 32#32
  let v842 : BitVec 32 := Scalar.muli arg43 c32_i32_408
  let v843 : BitVec 32 := v842
  let v1074 : Index := Scalar.indexCast v843
  let c1024_443 : Index := 1024#32
  ![v1074.toNat, 1024]
def k0_off46 (k0_t4 : Fin k0_t4_loop.trips) : Fin 2 → Nat :=
  let c0_i32_7 : BitVec 32 := 0#32
  let c1_i32_9 : BitVec 32 := 1#32
  let arg43 : BitVec 32 := Scf.iv c0_i32_7 c1_i32_9 k0_t4
  let c32_i32_408 : BitVec 32 := 32#32
  let v842 : BitVec 32 := Scalar.muli arg43 c32_i32_408
  let v843 : BitVec 32 := v842
  let v1087 : Index := Scalar.indexCast v843
  let c2048_447 : Index := 2048#32
  ![v1087.toNat, 2048]
def k0_off47 (k0_t4 : Fin k0_t4_loop.trips) : Fin 2 → Nat :=
  let c0_i32_7 : BitVec 32 := 0#32
  let c1_i32_9 : BitVec 32 := 1#32
  let arg43 : BitVec 32 := Scf.iv c0_i32_7 c1_i32_9 k0_t4
  let c32_i32_408 : BitVec 32 := 32#32
  let v842 : BitVec 32 := Scalar.muli arg43 c32_i32_408
  let v843 : BitVec 32 := v842
  let v1100 : Index := Scalar.indexCast v843
  let c3072_451 : Index := 3072#32
  ![v1100.toNat, 3072]
def k0_off48 (k0_t4 : Fin k0_t4_loop.trips) : Fin 2 → Nat :=
  let c0_i32_7 : BitVec 32 := 0#32
  let c1_i32_9 : BitVec 32 := 1#32
  let arg43 : BitVec 32 := Scf.iv c0_i32_7 c1_i32_9 k0_t4
  let c32_i32_408 : BitVec 32 := 32#32
  let v842 : BitVec 32 := Scalar.muli arg43 c32_i32_408
  let v843 : BitVec 32 := v842
  let v1113 : Index := Scalar.indexCast v843
  let c4096_455 : Index := 4096#32
  ![v1113.toNat, 4096]
def k0_off49 (k0_t4 : Fin k0_t4_loop.trips) : Fin 2 → Nat :=
  let c0_i32_7 : BitVec 32 := 0#32
  let c1_i32_9 : BitVec 32 := 1#32
  let arg43 : BitVec 32 := Scf.iv c0_i32_7 c1_i32_9 k0_t4
  let c32_i32_408 : BitVec 32 := 32#32
  let v842 : BitVec 32 := Scalar.muli arg43 c32_i32_408
  let v843 : BitVec 32 := v842
  let v1126 : Index := Scalar.indexCast v843
  let c5120_459 : Index := 5120#32
  ![v1126.toNat, 5120]
def k0_off50 (k0_t4 : Fin k0_t4_loop.trips) : Fin 2 → Nat :=
  let c0_i32_7 : BitVec 32 := 0#32
  let c1_i32_9 : BitVec 32 := 1#32
  let arg43 : BitVec 32 := Scf.iv c0_i32_7 c1_i32_9 k0_t4
  let c32_i32_408 : BitVec 32 := 32#32
  let v842 : BitVec 32 := Scalar.muli arg43 c32_i32_408
  let v843 : BitVec 32 := v842
  let v1139 : Index := Scalar.indexCast v843
  let c6144_463 : Index := 6144#32
  ![v1139.toNat, 6144]
def k0_off51 (k0_t4 : Fin k0_t4_loop.trips) : Fin 2 → Nat :=
  let c0_i32_7 : BitVec 32 := 0#32
  let c1_i32_9 : BitVec 32 := 1#32
  let arg43 : BitVec 32 := Scf.iv c0_i32_7 c1_i32_9 k0_t4
  let c32_i32_408 : BitVec 32 := 32#32
  let v842 : BitVec 32 := Scalar.muli arg43 c32_i32_408
  let v843 : BitVec 32 := v842
  let v1152 : Index := Scalar.indexCast v843
  let c7168_467 : Index := 7168#32
  ![v1152.toNat, 7168]
@[reducible] def k0_t5_loop : Scf.Loop 32 :=
  let c0_i32_57 : BitVec 32 := 0#32
  let c4_i32_58 : BitVec 32 := 4#32
  let v109 : BitVec 32 := Scalar.addi c0_i32_57 c4_i32_58
  let c1_i32_59 : BitVec 32 := 1#32
  ⟨c0_i32_57, v109, c1_i32_59⟩
def k0_mult6 (k0_t5 : Fin k0_t5_loop.trips) : BitVec 32 :=
  let c0_i32_57 : BitVec 32 := 0#32
  let c1_i32_59 : BitVec 32 := 1#32
  let arg43 : BitVec 32 := Scf.iv c0_i32_57 c1_i32_59 k0_t5
  let c512_i32 : BitVec 32 := 512#32
  let v836 : BitVec 32 := Scalar.muli arg43 c512_i32
  v836
def k0_off52 (k0_t5 : Fin k0_t5_loop.trips) : Fin 1 → Nat :=
  let c0_i32_57 : BitVec 32 := 0#32
  let c1_i32_59 : BitVec 32 := 1#32
  let arg43 : BitVec 32 := Scf.iv c0_i32_57 c1_i32_59 k0_t5
  ![arg43.toNat]
def k0_off53 (k0_t5 : Fin k0_t5_loop.trips) : Fin 3 → Nat :=
  let c0_i32_57 : BitVec 32 := 0#32
  let c1_i32_59 : BitVec 32 := 1#32
  let arg43 : BitVec 32 := Scf.iv c0_i32_57 c1_i32_59 k0_t5
  let c0_i32_405 : BitVec 32 := 0#32
  let c0_i32_406 : BitVec 32 := 0#32
  ![arg43.toNat, 0, 0]
def k0_off54 (k0_t5 : Fin k0_t5_loop.trips) : Fin 2 → Nat :=
  let c0_i32_407 : BitVec 32 := 0#32
  let c0_i32_57 : BitVec 32 := 0#32
  let c1_i32_59 : BitVec 32 := 1#32
  let arg43 : BitVec 32 := Scf.iv c0_i32_57 c1_i32_59 k0_t5
  let c512_i32 : BitVec 32 := 512#32
  let v836 : BitVec 32 := Scalar.muli arg43 c512_i32
  let v837 : BitVec 32 := v836
  ![0, v837.toNat]
def k0_off55 (k0_t5 : Fin k0_t5_loop.trips) : Fin 3 → Nat :=
  let c0_i32_57 : BitVec 32 := 0#32
  let c1_i32_59 : BitVec 32 := 1#32
  let arg43 : BitVec 32 := Scf.iv c0_i32_57 c1_i32_59 k0_t5
  let v844 : Index := Scalar.indexCast arg43
  let c0_410 : Index := 0#32
  let c0_411 : Index := 0#32
  ![v844.toNat, 0, 0]
def k0_mult7 (k0_t5 : Fin k0_t5_loop.trips) : BitVec 32 :=
  let c0_i32_57 : BitVec 32 := 0#32
  let c1_i32_59 : BitVec 32 := 1#32
  let arg43 : BitVec 32 := Scf.iv c0_i32_57 c1_i32_59 k0_t5
  let c512_i32_413 : BitVec 32 := 512#32
  let v848 : BitVec 32 := Scalar.muli arg43 c512_i32_413
  v848
def k0_off56 (k0_t5 : Fin k0_t5_loop.trips) : Fin 2 → Nat :=
  let c0_414 : Index := 0#32
  let c0_i32_57 : BitVec 32 := 0#32
  let c1_i32_59 : BitVec 32 := 1#32
  let arg43 : BitVec 32 := Scf.iv c0_i32_57 c1_i32_59 k0_t5
  let c512_i32_413 : BitVec 32 := 512#32
  let v848 : BitVec 32 := Scalar.muli arg43 c512_i32_413
  let v849 : BitVec 32 := v848
  let v851 : Index := Scalar.indexCast v849
  ![0, v851.toNat]
def k0_off57 (k0_t5 : Fin k0_t5_loop.trips) : Fin 2 → Nat :=
  let c0_416 : Index := 0#32
  let c0_i32_57 : BitVec 32 := 0#32
  let c1_i32_59 : BitVec 32 := 1#32
  let arg43 : BitVec 32 := Scf.iv c0_i32_57 c1_i32_59 k0_t5
  let c512_i32_413 : BitVec 32 := 512#32
  let v848 : BitVec 32 := Scalar.muli arg43 c512_i32_413
  let v849 : BitVec 32 := v848
  let v857 : Index := Scalar.indexCast v849
  ![0, v857.toNat]
def k0_off58 (k0_t5 : Fin k0_t5_loop.trips) : Fin 2 → Nat :=
  let c0_430 : Index := 0#32
  let c0_i32_57 : BitVec 32 := 0#32
  let c1_i32_59 : BitVec 32 := 1#32
  let arg43 : BitVec 32 := Scf.iv c0_i32_57 c1_i32_59 k0_t5
  let c512_i32_413 : BitVec 32 := 512#32
  let v848 : BitVec 32 := Scalar.muli arg43 c512_i32_413
  let v849 : BitVec 32 := v848
  let v923 : Index := Scalar.indexCast v849
  ![0, v923.toNat]
def k0_off59 (k0_t5 : Fin k0_t5_loop.trips) : Fin 2 → Nat :=
  let c8_439 : Index := 8#32
  let c0_i32_57 : BitVec 32 := 0#32
  let c1_i32_59 : BitVec 32 := 1#32
  let arg43 : BitVec 32 := Scf.iv c0_i32_57 c1_i32_59 k0_t5
  let c512_i32_413 : BitVec 32 := 512#32
  let v848 : BitVec 32 := Scalar.muli arg43 c512_i32_413
  let v849 : BitVec 32 := v848
  let v970 : Index := Scalar.indexCast v849
  ![8, v970.toNat]
def k0_off60 (k0_t5 : Fin k0_t5_loop.trips) : Fin 2 → Nat :=
  let c16_448 : Index := 16#32
  let c0_i32_57 : BitVec 32 := 0#32
  let c1_i32_59 : BitVec 32 := 1#32
  let arg43 : BitVec 32 := Scf.iv c0_i32_57 c1_i32_59 k0_t5
  let c512_i32_413 : BitVec 32 := 512#32
  let v848 : BitVec 32 := Scalar.muli arg43 c512_i32_413
  let v849 : BitVec 32 := v848
  let v1017 : Index := Scalar.indexCast v849
  ![16, v1017.toNat]
def k0_off61 (k0_t5 : Fin k0_t5_loop.trips) : Fin 2 → Nat :=
  let c24_457 : Index := 24#32
  let c0_i32_57 : BitVec 32 := 0#32
  let c1_i32_59 : BitVec 32 := 1#32
  let arg43 : BitVec 32 := Scf.iv c0_i32_57 c1_i32_59 k0_t5
  let c512_i32_413 : BitVec 32 := 512#32
  let v848 : BitVec 32 := Scalar.muli arg43 c512_i32_413
  let v849 : BitVec 32 := v848
  let v1064 : Index := Scalar.indexCast v849
  ![24, v1064.toNat]
def k0_off62 (k0_t5 : Fin k0_t5_loop.trips) : Fin 2 → Nat :=
  let c32_466 : Index := 32#32
  let c0_i32_57 : BitVec 32 := 0#32
  let c1_i32_59 : BitVec 32 := 1#32
  let arg43 : BitVec 32 := Scf.iv c0_i32_57 c1_i32_59 k0_t5
  let c512_i32_413 : BitVec 32 := 512#32
  let v848 : BitVec 32 := Scalar.muli arg43 c512_i32_413
  let v849 : BitVec 32 := v848
  let v1111 : Index := Scalar.indexCast v849
  ![32, v1111.toNat]
def k0_off63 (k0_t5 : Fin k0_t5_loop.trips) : Fin 2 → Nat :=
  let c40_475 : Index := 40#32
  let c0_i32_57 : BitVec 32 := 0#32
  let c1_i32_59 : BitVec 32 := 1#32
  let arg43 : BitVec 32 := Scf.iv c0_i32_57 c1_i32_59 k0_t5
  let c512_i32_413 : BitVec 32 := 512#32
  let v848 : BitVec 32 := Scalar.muli arg43 c512_i32_413
  let v849 : BitVec 32 := v848
  let v1158 : Index := Scalar.indexCast v849
  ![40, v1158.toNat]
def k0_off64 (k0_t5 : Fin k0_t5_loop.trips) : Fin 2 → Nat :=
  let c48_484 : Index := 48#32
  let c0_i32_57 : BitVec 32 := 0#32
  let c1_i32_59 : BitVec 32 := 1#32
  let arg43 : BitVec 32 := Scf.iv c0_i32_57 c1_i32_59 k0_t5
  let c512_i32_413 : BitVec 32 := 512#32
  let v848 : BitVec 32 := Scalar.muli arg43 c512_i32_413
  let v849 : BitVec 32 := v848
  let v1205 : Index := Scalar.indexCast v849
  ![48, v1205.toNat]
def k0_off65 (k0_t5 : Fin k0_t5_loop.trips) : Fin 2 → Nat :=
  let c56_493 : Index := 56#32
  let c0_i32_57 : BitVec 32 := 0#32
  let c1_i32_59 : BitVec 32 := 1#32
  let arg43 : BitVec 32 := Scf.iv c0_i32_57 c1_i32_59 k0_t5
  let c512_i32_413 : BitVec 32 := 512#32
  let v848 : BitVec 32 := Scalar.muli arg43 c512_i32_413
  let v849 : BitVec 32 := v848
  let v1252 : Index := Scalar.indexCast v849
  ![56, v1252.toNat]
def k0_off66 (k0_t5 : Fin k0_t5_loop.trips) : Fin 2 → Nat :=
  let c64_502 : Index := 64#32
  let c0_i32_57 : BitVec 32 := 0#32
  let c1_i32_59 : BitVec 32 := 1#32
  let arg43 : BitVec 32 := Scf.iv c0_i32_57 c1_i32_59 k0_t5
  let c512_i32_413 : BitVec 32 := 512#32
  let v848 : BitVec 32 := Scalar.muli arg43 c512_i32_413
  let v849 : BitVec 32 := v848
  let v1299 : Index := Scalar.indexCast v849
  ![64, v1299.toNat]
def k0_off67 (k0_t5 : Fin k0_t5_loop.trips) : Fin 2 → Nat :=
  let c72_511 : Index := 72#32
  let c0_i32_57 : BitVec 32 := 0#32
  let c1_i32_59 : BitVec 32 := 1#32
  let arg43 : BitVec 32 := Scf.iv c0_i32_57 c1_i32_59 k0_t5
  let c512_i32_413 : BitVec 32 := 512#32
  let v848 : BitVec 32 := Scalar.muli arg43 c512_i32_413
  let v849 : BitVec 32 := v848
  let v1346 : Index := Scalar.indexCast v849
  ![72, v1346.toNat]
def k0_off68 (k0_t5 : Fin k0_t5_loop.trips) : Fin 2 → Nat :=
  let c80_520 : Index := 80#32
  let c0_i32_57 : BitVec 32 := 0#32
  let c1_i32_59 : BitVec 32 := 1#32
  let arg43 : BitVec 32 := Scf.iv c0_i32_57 c1_i32_59 k0_t5
  let c512_i32_413 : BitVec 32 := 512#32
  let v848 : BitVec 32 := Scalar.muli arg43 c512_i32_413
  let v849 : BitVec 32 := v848
  let v1393 : Index := Scalar.indexCast v849
  ![80, v1393.toNat]
def k0_off69 (k0_t5 : Fin k0_t5_loop.trips) : Fin 2 → Nat :=
  let c88_525 : Index := 88#32
  let c0_i32_57 : BitVec 32 := 0#32
  let c1_i32_59 : BitVec 32 := 1#32
  let arg43 : BitVec 32 := Scf.iv c0_i32_57 c1_i32_59 k0_t5
  let c512_i32_413 : BitVec 32 := 512#32
  let v848 : BitVec 32 := Scalar.muli arg43 c512_i32_413
  let v849 : BitVec 32 := v848
  let v1421 : Index := Scalar.indexCast v849
  ![88, v1421.toNat]
def k0_off70 (k0_t5 : Fin k0_t5_loop.trips) : Fin 2 → Nat :=
  let c96_538 : Index := 96#32
  let c0_i32_57 : BitVec 32 := 0#32
  let c1_i32_59 : BitVec 32 := 1#32
  let arg43 : BitVec 32 := Scf.iv c0_i32_57 c1_i32_59 k0_t5
  let c512_i32_413 : BitVec 32 := 512#32
  let v848 : BitVec 32 := Scalar.muli arg43 c512_i32_413
  let v849 : BitVec 32 := v848
  let v1487 : Index := Scalar.indexCast v849
  ![96, v1487.toNat]
def k0_off71 (k0_t5 : Fin k0_t5_loop.trips) : Fin 2 → Nat :=
  let c104_547 : Index := 104#32
  let c0_i32_57 : BitVec 32 := 0#32
  let c1_i32_59 : BitVec 32 := 1#32
  let arg43 : BitVec 32 := Scf.iv c0_i32_57 c1_i32_59 k0_t5
  let c512_i32_413 : BitVec 32 := 512#32
  let v848 : BitVec 32 := Scalar.muli arg43 c512_i32_413
  let v849 : BitVec 32 := v848
  let v1534 : Index := Scalar.indexCast v849
  ![104, v1534.toNat]
def k0_off72 (k0_t5 : Fin k0_t5_loop.trips) : Fin 2 → Nat :=
  let c112_556 : Index := 112#32
  let c0_i32_57 : BitVec 32 := 0#32
  let c1_i32_59 : BitVec 32 := 1#32
  let arg43 : BitVec 32 := Scf.iv c0_i32_57 c1_i32_59 k0_t5
  let c512_i32_413 : BitVec 32 := 512#32
  let v848 : BitVec 32 := Scalar.muli arg43 c512_i32_413
  let v849 : BitVec 32 := v848
  let v1581 : Index := Scalar.indexCast v849
  ![112, v1581.toNat]
def k0_off73 (k0_t5 : Fin k0_t5_loop.trips) : Fin 2 → Nat :=
  let c120_565 : Index := 120#32
  let c0_i32_57 : BitVec 32 := 0#32
  let c1_i32_59 : BitVec 32 := 1#32
  let arg43 : BitVec 32 := Scf.iv c0_i32_57 c1_i32_59 k0_t5
  let c512_i32_413 : BitVec 32 := 512#32
  let v848 : BitVec 32 := Scalar.muli arg43 c512_i32_413
  let v849 : BitVec 32 := v848
  let v1628 : Index := Scalar.indexCast v849
  ![120, v1628.toNat]
def k0_off74 (k0_t5 : Fin k0_t5_loop.trips) : Fin 2 → Nat :=
  let c128_574 : Index := 128#32
  let c0_i32_57 : BitVec 32 := 0#32
  let c1_i32_59 : BitVec 32 := 1#32
  let arg43 : BitVec 32 := Scf.iv c0_i32_57 c1_i32_59 k0_t5
  let c512_i32_413 : BitVec 32 := 512#32
  let v848 : BitVec 32 := Scalar.muli arg43 c512_i32_413
  let v849 : BitVec 32 := v848
  let v1675 : Index := Scalar.indexCast v849
  ![128, v1675.toNat]
def k0_off75 (k0_t5 : Fin k0_t5_loop.trips) : Fin 2 → Nat :=
  let c136_583 : Index := 136#32
  let c0_i32_57 : BitVec 32 := 0#32
  let c1_i32_59 : BitVec 32 := 1#32
  let arg43 : BitVec 32 := Scf.iv c0_i32_57 c1_i32_59 k0_t5
  let c512_i32_413 : BitVec 32 := 512#32
  let v848 : BitVec 32 := Scalar.muli arg43 c512_i32_413
  let v849 : BitVec 32 := v848
  let v1722 : Index := Scalar.indexCast v849
  ![136, v1722.toNat]
def k0_off76 (k0_t5 : Fin k0_t5_loop.trips) : Fin 2 → Nat :=
  let c144_592 : Index := 144#32
  let c0_i32_57 : BitVec 32 := 0#32
  let c1_i32_59 : BitVec 32 := 1#32
  let arg43 : BitVec 32 := Scf.iv c0_i32_57 c1_i32_59 k0_t5
  let c512_i32_413 : BitVec 32 := 512#32
  let v848 : BitVec 32 := Scalar.muli arg43 c512_i32_413
  let v849 : BitVec 32 := v848
  let v1769 : Index := Scalar.indexCast v849
  ![144, v1769.toNat]
def k0_off77 (k0_t5 : Fin k0_t5_loop.trips) : Fin 2 → Nat :=
  let c152_601 : Index := 152#32
  let c0_i32_57 : BitVec 32 := 0#32
  let c1_i32_59 : BitVec 32 := 1#32
  let arg43 : BitVec 32 := Scf.iv c0_i32_57 c1_i32_59 k0_t5
  let c512_i32_413 : BitVec 32 := 512#32
  let v848 : BitVec 32 := Scalar.muli arg43 c512_i32_413
  let v849 : BitVec 32 := v848
  let v1816 : Index := Scalar.indexCast v849
  ![152, v1816.toNat]
def k0_off78 (k0_t5 : Fin k0_t5_loop.trips) : Fin 2 → Nat :=
  let c160_610 : Index := 160#32
  let c0_i32_57 : BitVec 32 := 0#32
  let c1_i32_59 : BitVec 32 := 1#32
  let arg43 : BitVec 32 := Scf.iv c0_i32_57 c1_i32_59 k0_t5
  let c512_i32_413 : BitVec 32 := 512#32
  let v848 : BitVec 32 := Scalar.muli arg43 c512_i32_413
  let v849 : BitVec 32 := v848
  let v1863 : Index := Scalar.indexCast v849
  ![160, v1863.toNat]
def k0_off79 (k0_t5 : Fin k0_t5_loop.trips) : Fin 2 → Nat :=
  let c168_619 : Index := 168#32
  let c0_i32_57 : BitVec 32 := 0#32
  let c1_i32_59 : BitVec 32 := 1#32
  let arg43 : BitVec 32 := Scf.iv c0_i32_57 c1_i32_59 k0_t5
  let c512_i32_413 : BitVec 32 := 512#32
  let v848 : BitVec 32 := Scalar.muli arg43 c512_i32_413
  let v849 : BitVec 32 := v848
  let v1910 : Index := Scalar.indexCast v849
  ![168, v1910.toNat]
def k0_off80 (k0_t5 : Fin k0_t5_loop.trips) : Fin 2 → Nat :=
  let c176_628 : Index := 176#32
  let c0_i32_57 : BitVec 32 := 0#32
  let c1_i32_59 : BitVec 32 := 1#32
  let arg43 : BitVec 32 := Scf.iv c0_i32_57 c1_i32_59 k0_t5
  let c512_i32_413 : BitVec 32 := 512#32
  let v848 : BitVec 32 := Scalar.muli arg43 c512_i32_413
  let v849 : BitVec 32 := v848
  let v1957 : Index := Scalar.indexCast v849
  ![176, v1957.toNat]
def k0_off81 (k0_t5 : Fin k0_t5_loop.trips) : Fin 2 → Nat :=
  let c184_633 : Index := 184#32
  let c0_i32_57 : BitVec 32 := 0#32
  let c1_i32_59 : BitVec 32 := 1#32
  let arg43 : BitVec 32 := Scf.iv c0_i32_57 c1_i32_59 k0_t5
  let c512_i32_413 : BitVec 32 := 512#32
  let v848 : BitVec 32 := Scalar.muli arg43 c512_i32_413
  let v849 : BitVec 32 := v848
  let v1985 : Index := Scalar.indexCast v849
  ![184, v1985.toNat]
@[reducible] def k0_t6_loop : Scf.Loop 32 :=
  let c0_i32_358 : BitVec 32 := 0#32
  let c7_i32_359 : BitVec 32 := 7#32
  let v805 : BitVec 32 := Scalar.addi c0_i32_358 c7_i32_359
  let c1_i32_360 : BitVec 32 := 1#32
  ⟨c0_i32_358, v805, c1_i32_360⟩
def k0_mult8 (k0_t6 : Fin k0_t6_loop.trips) : BitVec 32 :=
  let c0_i32_358 : BitVec 32 := 0#32
  let c1_i32_360 : BitVec 32 := 1#32
  let arg43 : BitVec 32 := Scf.iv c0_i32_358 c1_i32_360 k0_t6
  let c1024_i32_405 : BitVec 32 := 1024#32
  let v836 : BitVec 32 := Scalar.muli arg43 c1024_i32_405
  v836
def k0_off82 (k0_t6 : Fin k0_t6_loop.trips) : Fin 1 → Nat :=
  let c0_i32_358 : BitVec 32 := 0#32
  let c1_i32_360 : BitVec 32 := 1#32
  let arg43 : BitVec 32 := Scf.iv c0_i32_358 c1_i32_360 k0_t6
  ![arg43.toNat]
def k0_off83 (k0_t6 : Fin k0_t6_loop.trips) : Fin 3 → Nat :=
  let c0_i32_358 : BitVec 32 := 0#32
  let c1_i32_360 : BitVec 32 := 1#32
  let arg43 : BitVec 32 := Scf.iv c0_i32_358 c1_i32_360 k0_t6
  let c0_i32_406 : BitVec 32 := 0#32
  let c0_i32_407 : BitVec 32 := 0#32
  ![arg43.toNat, 0, 0]
def k0_off84 (k0_t6 : Fin k0_t6_loop.trips) : Fin 2 → Nat :=
  let c0_i32_408 : BitVec 32 := 0#32
  let c0_i32_358 : BitVec 32 := 0#32
  let c1_i32_360 : BitVec 32 := 1#32
  let arg43 : BitVec 32 := Scf.iv c0_i32_358 c1_i32_360 k0_t6
  let c1024_i32_405 : BitVec 32 := 1024#32
  let v836 : BitVec 32 := Scalar.muli arg43 c1024_i32_405
  let v837 : BitVec 32 := v836
  ![0, v837.toNat]
def k0_off85 (k0_t6 : Fin k0_t6_loop.trips) : Fin 3 → Nat :=
  let c0_i32_358 : BitVec 32 := 0#32
  let c1_i32_360 : BitVec 32 := 1#32
  let arg43 : BitVec 32 := Scf.iv c0_i32_358 c1_i32_360 k0_t6
  let v844 : Index := Scalar.indexCast arg43
  let c0_411 : Index := 0#32
  let c0_412 : Index := 0#32
  ![v844.toNat, 0, 0]
def k0_mult9 (k0_t6 : Fin k0_t6_loop.trips) : BitVec 32 :=
  let c0_i32_358 : BitVec 32 := 0#32
  let c1_i32_360 : BitVec 32 := 1#32
  let arg43 : BitVec 32 := Scf.iv c0_i32_358 c1_i32_360 k0_t6
  let c1024_i32_414 : BitVec 32 := 1024#32
  let v848 : BitVec 32 := Scalar.muli arg43 c1024_i32_414
  v848
def k0_off86 (k0_t6 : Fin k0_t6_loop.trips) : Fin 2 → Nat :=
  let c0_415 : Index := 0#32
  let c0_i32_358 : BitVec 32 := 0#32
  let c1_i32_360 : BitVec 32 := 1#32
  let arg43 : BitVec 32 := Scf.iv c0_i32_358 c1_i32_360 k0_t6
  let c1024_i32_414 : BitVec 32 := 1024#32
  let v848 : BitVec 32 := Scalar.muli arg43 c1024_i32_414
  let v849 : BitVec 32 := v848
  let v850 : Index := Scalar.indexCast v849
  ![0, v850.toNat]
def k0_off87 (k0_t6 : Fin k0_t6_loop.trips) : Fin 4 → Nat :=
  let c0_i32_358 : BitVec 32 := 0#32
  let c1_i32_360 : BitVec 32 := 1#32
  let arg43 : BitVec 32 := Scf.iv c0_i32_358 c1_i32_360 k0_t6
  let v863 : Index := Scalar.indexCast arg43
  let c0_419 : Index := 0#32
  let c0_420 : Index := 0#32
  let c0_421 : Index := 0#32
  ![v863.toNat, 0, 0, 0]
def k0_off88 (k0_t6 : Fin k0_t6_loop.trips) : Fin 4 → Nat :=
  let c0_i32_358 : BitVec 32 := 0#32
  let c1_i32_360 : BitVec 32 := 1#32
  let arg43 : BitVec 32 := Scf.iv c0_i32_358 c1_i32_360 k0_t6
  let v876 : Index := Scalar.indexCast arg43
  let c1_424 : Index := 1#32
  let c0_425 : Index := 0#32
  let c0_426 : Index := 0#32
  ![v876.toNat, 1, 0, 0]
def k0_off89 (k0_t6 : Fin k0_t6_loop.trips) : Fin 4 → Nat :=
  let c0_i32_358 : BitVec 32 := 0#32
  let c1_i32_360 : BitVec 32 := 1#32
  let arg43 : BitVec 32 := Scf.iv c0_i32_358 c1_i32_360 k0_t6
  let v889 : Index := Scalar.indexCast arg43
  let c2 : Index := 2#32
  let c0_429 : Index := 0#32
  let c0_430 : Index := 0#32
  ![v889.toNat, 2, 0, 0]
def k0_off90 (k0_t6 : Fin k0_t6_loop.trips) : Fin 4 → Nat :=
  let c0_i32_358 : BitVec 32 := 0#32
  let c1_i32_360 : BitVec 32 := 1#32
  let arg43 : BitVec 32 := Scf.iv c0_i32_358 c1_i32_360 k0_t6
  let v902 : Index := Scalar.indexCast arg43
  let c3 : Index := 3#32
  let c0_433 : Index := 0#32
  let c0_434 : Index := 0#32
  ![v902.toNat, 3, 0, 0]
def k0_off91 (k0_t6 : Fin k0_t6_loop.trips) : Fin 4 → Nat :=
  let c0_i32_358 : BitVec 32 := 0#32
  let c1_i32_360 : BitVec 32 := 1#32
  let arg43 : BitVec 32 := Scf.iv c0_i32_358 c1_i32_360 k0_t6
  let v915 : Index := Scalar.indexCast arg43
  let c4 : Index := 4#32
  let c0_437 : Index := 0#32
  let c0_438 : Index := 0#32
  ![v915.toNat, 4, 0, 0]
def k0_off92 (k0_t6 : Fin k0_t6_loop.trips) : Fin 4 → Nat :=
  let c0_i32_358 : BitVec 32 := 0#32
  let c1_i32_360 : BitVec 32 := 1#32
  let arg43 : BitVec 32 := Scf.iv c0_i32_358 c1_i32_360 k0_t6
  let v928 : Index := Scalar.indexCast arg43
  let c5 : Index := 5#32
  let c0_441 : Index := 0#32
  let c0_442 : Index := 0#32
  ![v928.toNat, 5, 0, 0]
def k0_off93 (k0_t6 : Fin k0_t6_loop.trips) : Fin 4 → Nat :=
  let c0_i32_358 : BitVec 32 := 0#32
  let c1_i32_360 : BitVec 32 := 1#32
  let arg43 : BitVec 32 := Scf.iv c0_i32_358 c1_i32_360 k0_t6
  let v941 : Index := Scalar.indexCast arg43
  let c6 : Index := 6#32
  let c0_445 : Index := 0#32
  let c0_446 : Index := 0#32
  ![v941.toNat, 6, 0, 0]
def k0_off94 (k0_t6 : Fin k0_t6_loop.trips) : Fin 4 → Nat :=
  let c0_i32_358 : BitVec 32 := 0#32
  let c1_i32_360 : BitVec 32 := 1#32
  let arg43 : BitVec 32 := Scf.iv c0_i32_358 c1_i32_360 k0_t6
  let v954 : Index := Scalar.indexCast arg43
  let c7 : Index := 7#32
  let c0_449 : Index := 0#32
  let c0_450 : Index := 0#32
  ![v954.toNat, 7, 0, 0]
def k0_off95 (k0_t6 : Fin k0_t6_loop.trips) : Fin 4 → Nat :=
  let c0_i32_358 : BitVec 32 := 0#32
  let c1_i32_360 : BitVec 32 := 1#32
  let arg43 : BitVec 32 := Scf.iv c0_i32_358 c1_i32_360 k0_t6
  let v967 : Index := Scalar.indexCast arg43
  let c8_453 : Index := 8#32
  let c0_454 : Index := 0#32
  let c0_455 : Index := 0#32
  ![v967.toNat, 8, 0, 0]
def k0_off96 (k0_t6 : Fin k0_t6_loop.trips) : Fin 4 → Nat :=
  let c0_i32_358 : BitVec 32 := 0#32
  let c1_i32_360 : BitVec 32 := 1#32
  let arg43 : BitVec 32 := Scf.iv c0_i32_358 c1_i32_360 k0_t6
  let v980 : Index := Scalar.indexCast arg43
  let c9 : Index := 9#32
  let c0_458 : Index := 0#32
  let c0_459 : Index := 0#32
  ![v980.toNat, 9, 0, 0]
def k0_off97 (k0_t6 : Fin k0_t6_loop.trips) : Fin 4 → Nat :=
  let c0_i32_358 : BitVec 32 := 0#32
  let c1_i32_360 : BitVec 32 := 1#32
  let arg43 : BitVec 32 := Scf.iv c0_i32_358 c1_i32_360 k0_t6
  let v993 : Index := Scalar.indexCast arg43
  let c10 : Index := 10#32
  let c0_462 : Index := 0#32
  let c0_463 : Index := 0#32
  ![v993.toNat, 10, 0, 0]
def k0_off98 (k0_t6 : Fin k0_t6_loop.trips) : Fin 4 → Nat :=
  let c0_i32_358 : BitVec 32 := 0#32
  let c1_i32_360 : BitVec 32 := 1#32
  let arg43 : BitVec 32 := Scf.iv c0_i32_358 c1_i32_360 k0_t6
  let v1006 : Index := Scalar.indexCast arg43
  let c11 : Index := 11#32
  let c0_466 : Index := 0#32
  let c0_467 : Index := 0#32
  ![v1006.toNat, 11, 0, 0]
def k0_off99 (k0_t6 : Fin k0_t6_loop.trips) : Fin 4 → Nat :=
  let c0_i32_358 : BitVec 32 := 0#32
  let c1_i32_360 : BitVec 32 := 1#32
  let arg43 : BitVec 32 := Scf.iv c0_i32_358 c1_i32_360 k0_t6
  let v1019 : Index := Scalar.indexCast arg43
  let c12 : Index := 12#32
  let c0_470 : Index := 0#32
  let c0_471 : Index := 0#32
  ![v1019.toNat, 12, 0, 0]
def k0_off100 (k0_t6 : Fin k0_t6_loop.trips) : Fin 4 → Nat :=
  let c0_i32_358 : BitVec 32 := 0#32
  let c1_i32_360 : BitVec 32 := 1#32
  let arg43 : BitVec 32 := Scf.iv c0_i32_358 c1_i32_360 k0_t6
  let v1032 : Index := Scalar.indexCast arg43
  let c13 : Index := 13#32
  let c0_474 : Index := 0#32
  let c0_475 : Index := 0#32
  ![v1032.toNat, 13, 0, 0]
def k0_off101 (k0_t6 : Fin k0_t6_loop.trips) : Fin 4 → Nat :=
  let c0_i32_358 : BitVec 32 := 0#32
  let c1_i32_360 : BitVec 32 := 1#32
  let arg43 : BitVec 32 := Scf.iv c0_i32_358 c1_i32_360 k0_t6
  let v1045 : Index := Scalar.indexCast arg43
  let c14 : Index := 14#32
  let c0_478 : Index := 0#32
  let c0_479 : Index := 0#32
  ![v1045.toNat, 14, 0, 0]
def k0_off102 (k0_t6 : Fin k0_t6_loop.trips) : Fin 4 → Nat :=
  let c0_i32_358 : BitVec 32 := 0#32
  let c1_i32_360 : BitVec 32 := 1#32
  let arg43 : BitVec 32 := Scf.iv c0_i32_358 c1_i32_360 k0_t6
  let v1058 : Index := Scalar.indexCast arg43
  let c15 : Index := 15#32
  let c0_482 : Index := 0#32
  let c0_483 : Index := 0#32
  ![v1058.toNat, 15, 0, 0]
def k0_off103 (k0_t6 : Fin k0_t6_loop.trips) : Fin 4 → Nat :=
  let c0_i32_358 : BitVec 32 := 0#32
  let c1_i32_360 : BitVec 32 := 1#32
  let arg43 : BitVec 32 := Scf.iv c0_i32_358 c1_i32_360 k0_t6
  let v1071 : Index := Scalar.indexCast arg43
  let c16_486 : Index := 16#32
  let c0_487 : Index := 0#32
  let c0_488 : Index := 0#32
  ![v1071.toNat, 16, 0, 0]
def k0_off104 (k0_t6 : Fin k0_t6_loop.trips) : Fin 4 → Nat :=
  let c0_i32_358 : BitVec 32 := 0#32
  let c1_i32_360 : BitVec 32 := 1#32
  let arg43 : BitVec 32 := Scf.iv c0_i32_358 c1_i32_360 k0_t6
  let v1084 : Index := Scalar.indexCast arg43
  let c17 : Index := 17#32
  let c0_491 : Index := 0#32
  let c0_492 : Index := 0#32
  ![v1084.toNat, 17, 0, 0]
def k0_off105 (k0_t6 : Fin k0_t6_loop.trips) : Fin 4 → Nat :=
  let c0_i32_358 : BitVec 32 := 0#32
  let c1_i32_360 : BitVec 32 := 1#32
  let arg43 : BitVec 32 := Scf.iv c0_i32_358 c1_i32_360 k0_t6
  let v1097 : Index := Scalar.indexCast arg43
  let c18 : Index := 18#32
  let c0_495 : Index := 0#32
  let c0_496 : Index := 0#32
  ![v1097.toNat, 18, 0, 0]
def k0_off106 (k0_t6 : Fin k0_t6_loop.trips) : Fin 4 → Nat :=
  let c0_i32_358 : BitVec 32 := 0#32
  let c1_i32_360 : BitVec 32 := 1#32
  let arg43 : BitVec 32 := Scf.iv c0_i32_358 c1_i32_360 k0_t6
  let v1110 : Index := Scalar.indexCast arg43
  let c19 : Index := 19#32
  let c0_499 : Index := 0#32
  let c0_500 : Index := 0#32
  ![v1110.toNat, 19, 0, 0]
def k0_off107 (k0_t6 : Fin k0_t6_loop.trips) : Fin 4 → Nat :=
  let c0_i32_358 : BitVec 32 := 0#32
  let c1_i32_360 : BitVec 32 := 1#32
  let arg43 : BitVec 32 := Scf.iv c0_i32_358 c1_i32_360 k0_t6
  let v1123 : Index := Scalar.indexCast arg43
  let c20 : Index := 20#32
  let c0_503 : Index := 0#32
  let c0_504 : Index := 0#32
  ![v1123.toNat, 20, 0, 0]
def k0_off108 (k0_t6 : Fin k0_t6_loop.trips) : Fin 4 → Nat :=
  let c0_i32_358 : BitVec 32 := 0#32
  let c1_i32_360 : BitVec 32 := 1#32
  let arg43 : BitVec 32 := Scf.iv c0_i32_358 c1_i32_360 k0_t6
  let v1136 : Index := Scalar.indexCast arg43
  let c21 : Index := 21#32
  let c0_507 : Index := 0#32
  let c0_508 : Index := 0#32
  ![v1136.toNat, 21, 0, 0]
def k0_off109 (k0_t6 : Fin k0_t6_loop.trips) : Fin 4 → Nat :=
  let c0_i32_358 : BitVec 32 := 0#32
  let c1_i32_360 : BitVec 32 := 1#32
  let arg43 : BitVec 32 := Scf.iv c0_i32_358 c1_i32_360 k0_t6
  let v1149 : Index := Scalar.indexCast arg43
  let c22 : Index := 22#32
  let c0_511 : Index := 0#32
  let c0_512 : Index := 0#32
  ![v1149.toNat, 22, 0, 0]
def k0_off110 (k0_t6 : Fin k0_t6_loop.trips) : Fin 4 → Nat :=
  let c0_i32_358 : BitVec 32 := 0#32
  let c1_i32_360 : BitVec 32 := 1#32
  let arg43 : BitVec 32 := Scf.iv c0_i32_358 c1_i32_360 k0_t6
  let v1162 : Index := Scalar.indexCast arg43
  let c23 : Index := 23#32
  let c0_515 : Index := 0#32
  let c0_516 : Index := 0#32
  ![v1162.toNat, 23, 0, 0]
def k0_mult10 (k0_t6 : Fin k0_t6_loop.trips) : BitVec 32 :=
  let c0_i32_358 : BitVec 32 := 0#32
  let c1_i32_360 : BitVec 32 := 1#32
  let arg43 : BitVec 32 := Scf.iv c0_i32_358 c1_i32_360 k0_t6
  let c1024_i32_517 : BitVec 32 := 1024#32
  let v1166 : BitVec 32 := Scalar.muli arg43 c1024_i32_517
  v1166
def k0_off111 (k0_t6 : Fin k0_t6_loop.trips) : Fin 3 → Nat :=
  let c0_i32_518 : BitVec 32 := 0#32
  let c0_i32_519 : BitVec 32 := 0#32
  let c0_i32_358 : BitVec 32 := 0#32
  let c1_i32_360 : BitVec 32 := 1#32
  let arg43 : BitVec 32 := Scf.iv c0_i32_358 c1_i32_360 k0_t6
  let c1024_i32_517 : BitVec 32 := 1024#32
  let v1166 : BitVec 32 := Scalar.muli arg43 c1024_i32_517
  let v1167 : BitVec 32 := v1166
  ![0, 0, v1167.toNat]
def k0_off112 (k0_t6 : Fin k0_t6_loop.trips) : Fin 4 → Nat :=
  let c0_i32_358 : BitVec 32 := 0#32
  let c1_i32_360 : BitVec 32 := 1#32
  let arg43 : BitVec 32 := Scf.iv c0_i32_358 c1_i32_360 k0_t6
  let c0_i32_520 : BitVec 32 := 0#32
  let c0_i32_521 : BitVec 32 := 0#32
  let c0_i32_522 : BitVec 32 := 0#32
  ![arg43.toNat, 0, 0, 0]
def k0_mult11 : BitVec 32 :=
  let c0_i32_362 : BitVec 32 := 0#32
  c0_i32_362
def k0_mult12 : BitVec 32 :=
  let c1024_i32 : BitVec 32 := 1024#32
  c1024_i32
def k0_mult13 : BitVec 32 :=
  let c2048_i32 : BitVec 32 := 2048#32
  c2048_i32
def k0_mult14 : BitVec 32 :=
  let c3072_i32 : BitVec 32 := 3072#32
  c3072_i32
def k0_mult15 : BitVec 32 :=
  let c4096_i32 : BitVec 32 := 4096#32
  c4096_i32
def k0_mult16 : BitVec 32 :=
  let c5120_i32 : BitVec 32 := 5120#32
  c5120_i32
def k0_mult17 : BitVec 32 :=
  let c6144_i32 : BitVec 32 := 6144#32
  c6144_i32
-- ==== ReferenceIdeal.lean ====
abbrev S2x8x12x8192 : Shape := ⟨4, ![2, 8, 12, 8192]⟩
abbrev S8192x2048 : Shape := ⟨2, ![8192, 2048]⟩
abbrev S2048 : Shape := ⟨1, ![2048]⟩
abbrev S3x2048 : Shape := ⟨2, ![3, 2048]⟩
abbrev S2048x7168 : Shape := ⟨2, ![2048, 7168]⟩
abbrev S7168 : Shape := ⟨1, ![7168]⟩
abbrev S2x8x12x7168 : Shape := ⟨4, ![2, 8, 12, 7168]⟩
abbrev S2x8x12 : Shape := ⟨3, ![2, 8, 12]⟩
abbrev S2x8x12x2048 : Shape := ⟨4, ![2, 8, 12, 2048]⟩
abbrev S2x8x12x1 : Shape := ⟨4, ![2, 8, 12, 1]⟩
abbrev S192x8192 : Shape := ⟨2, ![192, 8192]⟩
abbrev S192x2048 : Shape := ⟨2, ![192, 2048]⟩
abbrev S1x1x1x2048 : Shape := ⟨4, ![1, 1, 1, 2048]⟩
abbrev S2x1x12x2048 : Shape := ⟨4, ![2, 1, 12, 2048]⟩
abbrev S2x9x12x2048 : Shape := ⟨4, ![2, 9, 12, 2048]⟩
abbrev S2x10x12x2048 : Shape := ⟨4, ![2, 10, 12, 2048]⟩
abbrev S1x2048 : Shape := ⟨2, ![1, 2048]⟩
abbrev S2x8x1x2048 : Shape := ⟨4, ![2, 8, 1, 2048]⟩
abbrev S2x8x13x2048 : Shape := ⟨4, ![2, 8, 13, 2048]⟩
abbrev S2x8x14x2048 : Shape := ⟨4, ![2, 8, 14, 2048]⟩
abbrev S192x7168 : Shape := ⟨2, ![192, 7168]⟩
abbrev S1x1x1x7168 : Shape := ⟨4, ![1, 1, 1, 7168]⟩

abbrev nBuf : Space → Nat
  | .hbm => 13
  | .vmem => 13
  | .smem => 0
  | _ => 0

abbrev bufTy : (tb : Table) → Fin (tcTables nBuf tb) → BufTy
  | .hbm, ⟨0, _⟩ => ⟨S2x8x12x8192, .bf16⟩
  | .hbm, ⟨1, _⟩ => ⟨S8192x2048, .fp8e4m3⟩
  | .hbm, ⟨2, _⟩ => ⟨S2048, .f32⟩
  | .hbm, ⟨3, _⟩ => ⟨S3x2048, .bf16⟩
  | .hbm, ⟨4, _⟩ => ⟨S3x2048, .bf16⟩
  | .hbm, ⟨5, _⟩ => ⟨S2048x7168, .fp8e4m3⟩
  | .hbm, ⟨6, _⟩ => ⟨S7168, .f32⟩
  | .hbm, ⟨7, _⟩ => ⟨S7168, .f32⟩
  | .hbm, ⟨8, _⟩ => ⟨S2x8x12x7168, .bf16⟩
  | .hbm, ⟨9, _⟩ => ⟨S2x8x12x8192, .fp8e4m3⟩
  | .hbm, ⟨10, _⟩ => ⟨S2x8x12, .f32⟩
  | .hbm, ⟨11, _⟩ => ⟨S2x8x12x2048, .fp8e4m3⟩
  | .hbm, ⟨12, _⟩ => ⟨S2x8x12, .f32⟩
  | .local _ .vmem, ⟨0, _⟩ => ⟨S2x8x12x8192, .bf16⟩
  | .local _ .vmem, ⟨1, _⟩ => ⟨S8192x2048, .fp8e4m3⟩
  | .local _ .vmem, ⟨2, _⟩ => ⟨S2048, .f32⟩
  | .local _ .vmem, ⟨3, _⟩ => ⟨S3x2048, .bf16⟩
  | .local _ .vmem, ⟨4, _⟩ => ⟨S3x2048, .bf16⟩
  | .local _ .vmem, ⟨5, _⟩ => ⟨S2048x7168, .fp8e4m3⟩
  | .local _ .vmem, ⟨6, _⟩ => ⟨S7168, .f32⟩
  | .local _ .vmem, ⟨7, _⟩ => ⟨S7168, .f32⟩
  | .local _ .vmem, ⟨8, _⟩ => ⟨S2x8x12x7168, .bf16⟩
  | .local _ .vmem, ⟨9, _⟩ => ⟨S2x8x12x8192, .fp8e4m3⟩
  | .local _ .vmem, ⟨10, _⟩ => ⟨S2x8x12, .f32⟩
  | .local _ .vmem, ⟨11, _⟩ => ⟨S2x8x12x2048, .fp8e4m3⟩
  | .local _ .vmem, ⟨12, _⟩ => ⟨S2x8x12, .f32⟩
  | _, _ => ⟨S2x8x12x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev main_v0_4 : Ref sig .tc := ⟨.hbm, 12, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12

abbrev nD : Nat := 1
abbrev τ : Topo := Topo.v7x

variable {F : FTy → Type} [FloatOps F]

abbrev grid0 : Pipeline.Grid := .none

abbrev stage0_0 : Fin 1 → Memref sig .tc .vmem S2x8x12x8192 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8192x2048 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S3x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S3x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2048x7168 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S7168 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S7168 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S2x8x12x7168 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S2x8x12x8192 .fp8e4m3 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S2x8x12 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S2x8x12x2048 .fp8e4m3 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S2x8x12 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
-- ==== Proof.KernelIdealHand.Base.lean ====
module

public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import Idealize.ShloMosaic.Lib.Pipeline.FrameSuffixV
public import Idealize.ShloMosaic.Lib.Ring
public import Idealize.ShloMosaic.Lib.Batch
public import Idealize.ShloMosaic.Lib.Pointwise.Index

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The proof's user algebra: the pipeline library's beside the transfers' counters. -/
local notation "𝕄" => MT nD τ sig Unit (Elt F) ℕ (Pipeline.UD sig nD τ) ℕ

/-- The module's threads. -/
abbrev Th := Thread nD τ

/-- A whole buffer, in short. -/
theorem iw {κ : Kind} (b : Ref sig κ) : (Memref.whole b).IsWhole := Memref.isWhole_whole b

/-! ## A family of copies into the slots of a buffer

A member is one slot: not issued (`0`: its semaphore at zero, the slot at any contents, a read share of the source), in
flight (`1`: the flight delivers the slot at `g` and the share's lent elements), landed (`2`: the slot at `g`). -/

/-- A slot's assertion in state `b`. -/
def Fam (c : Dev nD) {s s0 : Shape} {e : EltTy} (slot : Memref sig .tc .vmem s e) (g : Buf (Elt F) (slot.view.loc (c : Th)))
    (base : Memref sig .tc .hbm s0 e) (fb : Buf (Elt F) (base.view.loc (c : Th))) (U S : Finset (Idx (base.view.loc (c : Th))))
    (q : PosShare TreeShare) (N : ℕ) (cl : SemLoc sig) (b : Fin 3) : sProp 𝕄 :=
  match b with
  | 0 => iprop(semVal ((c : Th), cl) 0 ∗ (∃ f, slot.view.loc (c : Th) ↦[slot.view.set]{fullShare} f)
          ∗ base.view.loc (c : Th) ↦[U]{q} fb)
  | 1 => iprop(Transfers.Flight (countersEmb (U := Pipeline.UD sig nD τ)) (c : Th) cl () N
            iprop((slot.view.loc (c : Th) ↦[slot.view.set]{fullShare} g) ∗ base.view.loc (c : Th) ↦[S]{q} fb)
          ∗ base.view.loc (c : Th) ↦[U \ S]{q} fb)
  | 2 => iprop(semVal ((c : Th), cl) 0 ∗ (slot.view.loc (c : Th) ↦[slot.view.set]{fullShare} g)
          ∗ base.view.loc (c : Th) ↦[U]{q} fb)

/-- A memref's elements after a write of the whole memref are at any contents that read as what was written. -/
theorem landed (c : Dev nD) {sp : Space} {s : Shape} {e : EltTy} (m : Memref sig .tc sp s e) (q : PosShare TreeShare)
    (f g : Buf (Elt F) (m.view.loc (c : Th))) (x : s.Idx → Elt F e) (hx : ∀ y, x y = m.view.read (Elt F) g y) :
    (m.view.loc (c : Th) ↦[m.view.set]{q} m.view.writes (Elt F) f [⟨Rect.whole s, x⟩] : sProp 𝕄)
      = (m.view.loc (c : Th) ↦[m.view.set]{q} g) :=
  pointsTo_congr fun i hi => by
    obtain ⟨y, -, rfl⟩ := Finset.mem_map.mp hi
    have h := congrFun (View.read_writes_whole (Val := Elt F) m.view f x) y
    rw [hx] at h
    simpa [View.read] using h

/-- The states of a family whose first `k` members are at `a` and the others at `b`. -/
def stN {n : Nat} (a b : Fin 3) (k : Nat) : Fin n → Fin 3 := fun j => if j.val < k then a else b
theorem stN_succ {n : Nat} (a b : Fin 3) (k : Fin n) : Function.update (stN a b k.val) k a = (stN a b (k.val + 1) : Fin n → Fin 3) := by
  funext j
  by_cases hj : j = k
  · subst hj; rw [Function.update_self]; simp [stN]
  · rw [Function.update_of_ne hj]
    have : j.val ≠ k.val := fun h => hj (Fin.ext h)
    simp only [stN]
    by_cases h : j.val < k.val
    · rw [if_pos h, if_pos (by omega)]
    · rw [if_neg h, if_neg (by omega)]
theorem stN_self {n : Nat} (a b : Fin 3) (k : Fin n) : (stN a b k.val : Fin n → Fin 3) k = b := by simp [stN]
theorem stN_zero {n : Nat} (a b : Fin 3) : (stN a b 0 : Fin n → Fin 3) = fun _ => b := by funext j; simp [stN]
theorem stN_all {n : Nat} (a b : Fin 3) : (stN a b n : Fin n → Fin 3) = fun _ => a := by funext j; simp [stN]

/-! ### Family X -/

/-- The slot at offsets `o`. -/
def slotX (o : Fin 2 → Nat) (h : ∀ a, o a + S32x8192.size a ≤ S192x8192.size a) : Memref sig .tc .vmem S32x8192 .bf16 :=
  (Memref.whole cc0_scratch0).slice (Rect.unit (s := S192x8192) o S32x8192.size h) (fun _ => rfl)
/-- The source block at offsets `o`. -/
def srcX (o : Fin 2 → Nat) (h : ∀ a, o a + S32x8192.size a ≤ S192x8192.size a) : Memref sig .tc .hbm S32x8192 .bf16 :=
  (Memref.whole main_v1).slice (Rect.unit (s := S192x8192) o S32x8192.size h) (fun _ => rfl)
abbrev cellX (k : Fin 6) : SemLoc sig := SemLoc.dma ⟨0 + k.val, by have := k.isLt; show 0 + k.val < 27; omega⟩
theorem inbSlotX (k : Fin 6) : ∀ a, (![32 * k.val, 0] : Fin 2 → Nat) a + S32x8192.size a ≤ S192x8192.size a := by revert k; decide
theorem inbSrcX (k : Fin 6) : ∀ a, (![32 * k.val, 0] : Fin 2 → Nat) a + S32x8192.size a ≤ S192x8192.size a := by revert k; decide
/-- What the buffer holds when every slot has landed. -/
def gX (f : Vec F S192x8192 .bf16) : Vec F S192x8192 .bf16 := f
/-- Member `k`, with its semaphore, its slot's offsets and its source's as they are printed. -/
def ΦoX (c : Dev nD) (f : Vec F S192x8192 .bf16) (k : Fin 6) (cl : SemLoc sig) (o : Fin 2 → Nat) (h : ∀ a, o a + S32x8192.size a ≤ S192x8192.size a)
    (o' : Fin 2 → Nat) (h' : ∀ a, o' a + S32x8192.size a ≤ S192x8192.size a) (b : Fin 3) : sProp 𝕄 :=
  Fam c (slotX o h) (gX f) (Memref.whole main_v1) f (Finset.univ : Finset S192x8192.Idx) (srcX o' h').view.set (Transfers.shareTok fullShare 6 k) 16384 cl b
theorem ΦoX_congr (c : Dev nD) (f : Vec F S192x8192 .bf16) (k : Fin 6) {cl cl₂ : SemLoc sig} (ec : cl = cl₂) {o o₂ : Fin 2 → Nat} (e : o = o₂)
    {o' o₂' : Fin 2 → Nat} (e' : o' = o₂') (h h₂ h' h₂') (b : Fin 3) : ΦoX c f k cl o h o' h' b = ΦoX c f k cl₂ o₂ h₂ o₂' h₂' b := by
  subst ec; subst e; subst e'; rfl
section
variable (c : Dev nD) (f : Vec F S192x8192 .bf16) (k : Fin 6) (cl : SemLoc sig) (o : Fin 2 → Nat) (h : ∀ a, o a + S32x8192.size a ≤ S192x8192.size a)
    (o' : Fin 2 → Nat) (h' : ∀ a, o' a + S32x8192.size a ≤ S192x8192.size a)
theorem ΦoX_0 : ΦoX c f k cl o h o' h' 0 = iprop(semVal ((c : Th), cl) 0
    ∗ (∃ f, (slotX o h).view.loc (c : Th) ↦[(slotX o h).view.set]{fullShare} f)
    ∗ (Memref.whole main_v1).view.loc (c : Th) ↦[(Finset.univ : Finset S192x8192.Idx)]{Transfers.shareTok fullShare 6 k} f) := rfl
theorem ΦoX_1 : ΦoX c f k cl o h o' h' 1 = iprop(Transfers.Flight (countersEmb (U := Pipeline.UD sig nD τ)) (c : Th) cl () 16384
      iprop(((slotX o h).view.loc (c : Th) ↦[(slotX o h).view.set]{fullShare} gX f)
        ∗ (Memref.whole main_v1).view.loc (c : Th) ↦[(srcX o' h').view.set]{Transfers.shareTok fullShare 6 k} f)
    ∗ (Memref.whole main_v1).view.loc (c : Th) ↦[(Finset.univ : Finset S192x8192.Idx) \ (srcX o' h').view.set]{Transfers.shareTok fullShare 6 k} f) := rfl
theorem ΦoX_2 : ΦoX c f k cl o h o' h' 2 = iprop(semVal ((c : Th), cl) 0
    ∗ ((slotX o h).view.loc (c : Th) ↦[(slotX o h).view.set]{fullShare} gX f)
    ∗ (Memref.whole main_v1).view.loc (c : Th) ↦[(Finset.univ : Finset S192x8192.Idx)]{Transfers.shareTok fullShare 6 k} f) := rfl
end

def ΦX (c : Dev nD) (f : Vec F S192x8192 .bf16) (k : Fin 6) (b : Fin 3) : sProp 𝕄 :=
  ΦoX c f k (cellX k) ![32 * k.val, 0] (inbSlotX k) ![32 * k.val, 0] (inbSrcX k) b

abbrev ixXi (k : Fin k0_t1_loop.trips) : Fin 6 := ⟨k.val, (by decide : k0_t1_loop.trips = 6) ▸ k.isLt⟩
abbrev cellXi (k : Fin k0_t1_loop.trips) : SemLoc sig :=
  SemLoc.dma (((cc0_scratch17.slice (Rect.unit (s := S6) (k0_off1 k) S1.size (k0_off1_inb k)) : DmaSems sig S1).squeeze S_ squeezes_S1_S_ : DmaSems sig S_).sem)
theorem cellXi_eq (k : Fin k0_t1_loop.trips) : cellXi k = cellX (ixXi k) := by revert k; decide +kernel
theorem ΦX_at_i (c : Dev nD) (f : Vec F S192x8192 .bf16) (k : Fin k0_t1_loop.trips) (b : Fin 3) :
    ΦX c f (ixXi k) b = ΦoX c f (ixXi k) (cellXi k) (k0_off2 k) (k0_off2_inb k) (k0_off2 k) (k0_off2_inb k) b :=
  ΦoX_congr c f _ (cellXi_eq k).symm (k0_off2_eq k).symm (k0_off2_eq k).symm _ _ _ _ _

abbrev ixXw (k : Fin k0_t4_loop.trips) : Fin 6 := ⟨k.val, (by decide : k0_t4_loop.trips = 6) ▸ k.isLt⟩
abbrev cellXw (k : Fin k0_t4_loop.trips) : SemLoc sig :=
  SemLoc.dma (((cc0_scratch17.slice (Rect.unit (s := S6) (k0_off9 k) S1.size (k0_off9_inb k)) : DmaSems sig S1).squeeze S_ squeezes_S1_S_ : DmaSems sig S_).sem)
theorem cellXw_eq (k : Fin k0_t4_loop.trips) : cellXw k = cellX (ixXw k) := by revert k; decide +kernel
theorem ΦX_at_w (c : Dev nD) (f : Vec F S192x8192 .bf16) (k : Fin k0_t4_loop.trips) (b : Fin 3) :
    ΦX c f (ixXw k) b = ΦoX c f (ixXw k) (cellXw k) (k0_off10 k) (k0_off10_inb k) (k0_off10 k) (k0_off10_inb k) b :=
  ΦoX_congr c f _ (cellXw_eq k).symm (k0_off10_eq k).symm (k0_off10_eq k).symm _ _ _ _ _

/-- What a copy lands in its slot is the global contents there. -/
theorem gX_read (f : Vec F S192x8192 .bf16) (k : Fin 6) {o : Fin 2 → Nat} (e : o = ![32 * k.val, 0]) {o' : Fin 2 → Nat} (e' : o' = ![32 * k.val, 0]) (h h') (y : S32x8192.Idx) :
    (srcX o' h').view.read (Elt F) f y = (slotX o h).view.read (Elt F) (gX f) y := by
  subst e; subst e'
  rfl

set_option warn.classDefReducibility false in
/-- The loop that issues the copies. -/
def invX (c : Dev nD) (f : Vec F S192x8192 .bf16) :
    LoopInv (M := 𝕄) frame (wpE (defs₀ (F := F)) Variants.none (c : Th) none) Set.univ k0_t1_loop.lb k0_t1_loop.ub k0_t1_loop.st k0_t1_ok ()
      (k0_t1_body (F := F) (Memref.whole main_v1) (iw _) (Memref.whole main_arg1) (iw _) (Memref.whole main_v2) (iw _) (Memref.whole main_arg3) (iw _) (Memref.whole main_arg4) (iw _) (Memref.whole main_arg5) (iw _) (Memref.whole main_v3) (iw _) (Memref.whole main_v4) (iw _) (Memref.whole main_v5_0) (iw _) (Memref.whole main_v5_1) (iw _) (Memref.whole main_v5_2) (iw _) (Memref.whole main_v5_3) (iw _) (Memref.whole main_v5_4) (iw _) (Memref.whole cc0_scratch0) (iw _) (Memref.whole cc0_scratch1) (iw _) (Memref.whole cc0_scratch2) (iw _) (Memref.whole cc0_scratch3) (iw _) (Memref.whole cc0_scratch4) (iw _) (Memref.whole cc0_scratch5) (iw _) (Memref.whole cc0_scratch6) (iw _) (Memref.whole cc0_scratch7) (iw _) (Memref.whole cc0_scratch8) (iw _) (Memref.whole cc0_scratch9) (iw _) (Memref.whole cc0_scratch10) (iw _) (Memref.whole cc0_scratch11) (iw _) (Memref.whole cc0_scratch12) (iw _) (Memref.whole cc0_scratch13) (iw _) (Memref.whole cc0_scratch14) (iw _) (Memref.whole cc0_scratch15) (iw _) (Memref.whole cc0_scratch16) (iw _) cc0_scratch17 cc0_scratch18 cc0_scratch19 cc0_scratch20 cc0_scratch21 cc0_scratch22 cc0_scratch23 cc0_scratch24 cc0_scratch25 cc0_scratch26 cc0_scratch27 cc0_scratch28 cc0_scratch29) where
  inv k _ := iprop(Ring.AtW (ΦX c f) (stN 1 0 k) ∗ ∃ W, owes (c : Th) 0 W)
  step k _ := by
    have hs := stN_succ 1 0 (ixXi k)
    rw [show (ixXi k).val = k.val from rfl] at hs
    rw [← hs, Ring.AtW_focus (ΦX c f) (stN 1 0 k.val) (ixXi k), stN_self 1 0 (ixXi k), ΦX_at_i]
    rw [ΦoX_0]
    iintro ⟨⟨⟨Hs, ⟨%fd, Hd⟩, Htok⟩, Hrest⟩, %W, HO⟩
    unfold k0_t1_body
    sl_exec
    sl_step
    isplitr [HO]
    · iapply (Ring.AtW_update (ΦX c f) (stN 1 0 k.val) (ixXi k) 1)
      isplitr [Hrest]
      · rw [ΦX_at_i, ΦoX_1]
        isplitl [Hs]
        · iapply (Transfers.Flight_mono _ _ (sep_mono (Entails.of_eq (landed c _ fullShare fd (gX f) _
            (gX_read f (ixXi k) (k0_off2_eq k) (k0_off2_eq k) (k0_off2_inb k) (k0_off2_inb k)))) (Entails.of_eq rfl)))
          iexact Hs
        iexact Htok
      · iexact Hrest
    · iexists _; iexact HO

/-! ### Family W1 -/

/-- The slot at offsets `o`. -/
def slotW1 (o : Fin 3 → Nat) (h : ∀ a, o a + S1x8192x512.size a ≤ S4x8192x512.size a) : Memref sig .tc .vmem S8192x512 .fp8e4m3 :=
  (((Memref.whole cc0_scratch2).slice (Rect.unit (s := S4x8192x512) o S1x8192x512.size h) (fun _ => rfl) : Memref sig .tc .vmem S1x8192x512 .fp8e4m3)).squeeze S8192x512 squeezes_S1x8192x512_S8192x512
/-- The source block at offsets `o`. -/
def srcW1 (o : Fin 2 → Nat) (h : ∀ a, o a + S8192x512.size a ≤ S8192x2048.size a) : Memref sig .tc .hbm S8192x512 .fp8e4m3 :=
  (Memref.whole main_arg1).slice (Rect.unit (s := S8192x2048) o S8192x512.size h) (fun _ => rfl)
abbrev cellW1 (k : Fin 4) : SemLoc sig := SemLoc.dma ⟨6 + k.val, by have := k.isLt; show 6 + k.val < 27; omega⟩
theorem inbSlotW1 (k : Fin 4) : ∀ a, (![k.val, 0, 0] : Fin 3 → Nat) a + S1x8192x512.size a ≤ S4x8192x512.size a := by revert k; decide
theorem inbSrcW1 (k : Fin 4) : ∀ a, (![0, 512 * k.val] : Fin 2 → Nat) a + S8192x512.size a ≤ S8192x2048.size a := by revert k; decide
/-- What the buffer holds when every slot has landed. -/
def gW1 (f : Vec F S8192x2048 .fp8e4m3) : Vec F S4x8192x512 .fp8e4m3 := fun i => f (ix2 (i 1) ⟨512 * (i 0).val + (i 2).val, by have h0 : (i 0).val < 4 := (i 0).isLt; have h2 : (i 2).val < 512 := (i 2).isLt; omega⟩)
/-- Member `k`, with its semaphore, its slot's offsets and its source's as they are printed. -/
def ΦoW1 (c : Dev nD) (f : Vec F S8192x2048 .fp8e4m3) (k : Fin 4) (cl : SemLoc sig) (o : Fin 3 → Nat) (h : ∀ a, o a + S1x8192x512.size a ≤ S4x8192x512.size a)
    (o' : Fin 2 → Nat) (h' : ∀ a, o' a + S8192x512.size a ≤ S8192x2048.size a) (b : Fin 3) : sProp 𝕄 :=
  Fam c (slotW1 o h) (gW1 f) (Memref.whole main_arg1) f (Finset.univ : Finset S8192x2048.Idx) (srcW1 o' h').view.set (Transfers.shareTok fullShare 4 k) 131072 cl b
theorem ΦoW1_congr (c : Dev nD) (f : Vec F S8192x2048 .fp8e4m3) (k : Fin 4) {cl cl₂ : SemLoc sig} (ec : cl = cl₂) {o o₂ : Fin 3 → Nat} (e : o = o₂)
    {o' o₂' : Fin 2 → Nat} (e' : o' = o₂') (h h₂ h' h₂') (b : Fin 3) : ΦoW1 c f k cl o h o' h' b = ΦoW1 c f k cl₂ o₂ h₂ o₂' h₂' b := by
  subst ec; subst e; subst e'; rfl
section
variable (c : Dev nD) (f : Vec F S8192x2048 .fp8e4m3) (k : Fin 4) (cl : SemLoc sig) (o : Fin 3 → Nat) (h : ∀ a, o a + S1x8192x512.size a ≤ S4x8192x512.size a)
    (o' : Fin 2 → Nat) (h' : ∀ a, o' a + S8192x512.size a ≤ S8192x2048.size a)
theorem ΦoW1_0 : ΦoW1 c f k cl o h o' h' 0 = iprop(semVal ((c : Th), cl) 0
    ∗ (∃ f, (slotW1 o h).view.loc (c : Th) ↦[(slotW1 o h).view.set]{fullShare} f)
    ∗ (Memref.whole main_arg1).view.loc (c : Th) ↦[(Finset.univ : Finset S8192x2048.Idx)]{Transfers.shareTok fullShare 4 k} f) := rfl
theorem ΦoW1_1 : ΦoW1 c f k cl o h o' h' 1 = iprop(Transfers.Flight (countersEmb (U := Pipeline.UD sig nD τ)) (c : Th) cl () 131072
      iprop(((slotW1 o h).view.loc (c : Th) ↦[(slotW1 o h).view.set]{fullShare} gW1 f)
        ∗ (Memref.whole main_arg1).view.loc (c : Th) ↦[(srcW1 o' h').view.set]{Transfers.shareTok fullShare 4 k} f)
    ∗ (Memref.whole main_arg1).view.loc (c : Th) ↦[(Finset.univ : Finset S8192x2048.Idx) \ (srcW1 o' h').view.set]{Transfers.shareTok fullShare 4 k} f) := rfl
theorem ΦoW1_2 : ΦoW1 c f k cl o h o' h' 2 = iprop(semVal ((c : Th), cl) 0
    ∗ ((slotW1 o h).view.loc (c : Th) ↦[(slotW1 o h).view.set]{fullShare} gW1 f)
    ∗ (Memref.whole main_arg1).view.loc (c : Th) ↦[(Finset.univ : Finset S8192x2048.Idx)]{Transfers.shareTok fullShare 4 k} f) := rfl
end

def ΦW1 (c : Dev nD) (f : Vec F S8192x2048 .fp8e4m3) (k : Fin 4) (b : Fin 3) : sProp 𝕄 :=
  ΦoW1 c f k (cellW1 k) ![k.val, 0, 0] (inbSlotW1 k) ![0, 512 * k.val] (inbSrcW1 k) b

abbrev ixW1i (k : Fin k0_t2_loop.trips) : Fin 4 := ⟨k.val, (by decide : k0_t2_loop.trips = 4) ▸ k.isLt⟩
abbrev cellW1i (k : Fin k0_t2_loop.trips) : SemLoc sig :=
  SemLoc.dma (((cc0_scratch18.slice (Rect.unit (s := S4) (k0_off3 k) S1.size (k0_off3_inb k)) : DmaSems sig S1).squeeze S_ squeezes_S1_S_ : DmaSems sig S_).sem)
theorem cellW1i_eq (k : Fin k0_t2_loop.trips) : cellW1i k = cellW1 (ixW1i k) := by revert k; decide +kernel
theorem ΦW1_at_i (c : Dev nD) (f : Vec F S8192x2048 .fp8e4m3) (k : Fin k0_t2_loop.trips) (b : Fin 3) :
    ΦW1 c f (ixW1i k) b = ΦoW1 c f (ixW1i k) (cellW1i k) (k0_off4 k) (k0_off4_inb k) (k0_off5 k) (k0_off5_inb k) b :=
  ΦoW1_congr c f _ (cellW1i_eq k).symm (k0_off4_eq k).symm (k0_off5_eq k).symm _ _ _ _ _

abbrev ixW1w (k : Fin k0_t5_loop.trips) : Fin 4 := ⟨k.val, (by decide : k0_t5_loop.trips = 4) ▸ k.isLt⟩
abbrev cellW1w (k : Fin k0_t5_loop.trips) : SemLoc sig :=
  SemLoc.dma (((cc0_scratch18.slice (Rect.unit (s := S4) (k0_off52 k) S1.size (k0_off52_inb k)) : DmaSems sig S1).squeeze S_ squeezes_S1_S_ : DmaSems sig S_).sem)
theorem cellW1w_eq (k : Fin k0_t5_loop.trips) : cellW1w k = cellW1 (ixW1w k) := by revert k; decide +kernel
theorem ΦW1_at_w (c : Dev nD) (f : Vec F S8192x2048 .fp8e4m3) (k : Fin k0_t5_loop.trips) (b : Fin 3) :
    ΦW1 c f (ixW1w k) b = ΦoW1 c f (ixW1w k) (cellW1w k) (k0_off53 k) (k0_off53_inb k) (k0_off54 k) (k0_off54_inb k) b :=
  ΦoW1_congr c f _ (cellW1w_eq k).symm (k0_off53_eq k).symm (k0_off54_eq k).symm _ _ _ _ _

/-- What a copy lands in its slot is the global contents there. -/
theorem gW1_read (f : Vec F S8192x2048 .fp8e4m3) (k : Fin 4) {o : Fin 3 → Nat} (e : o = ![k.val, 0, 0]) {o' : Fin 2 → Nat} (e' : o' = ![0, 512 * k.val]) (h h') (y : S8192x512.Idx) :
    (srcW1 o' h').view.read (Elt F) f y = (slotW1 o h).view.read (Elt F) (gW1 f) y := by
  subst e; subst e'
  have e : (slotW1 ![k.val, 0, 0] h).view.emb y = ix3 k (y 0) (y 1) := by
    show (Rect.unit (s := S4x8192x512) ![k.val, 0, 0] S1x8192x512.size h).emb (Shape.reshapeEquiv _ y) = _
    rw [show Shape.reshapeEquiv _ y = (Fin.cons (0 : Fin 1) y : S1x8192x512.Idx) from Shape.reshapeEquiv_cons_one _ _]
    funext a
    apply Fin.ext
    fin_cases a
    · show k.val + 1 * 0 = k.val; omega
    · show 0 + 1 * (y 0).val = (y 0).val; omega
    · show 0 + 1 * (y 1).val = (y 1).val; omega
  show f _ = gW1 f ((slotW1 ![k.val, 0, 0] h).view.emb y)
  rw [e]
  show f _ = f _
  congr 1
  funext a
  apply Fin.ext
  fin_cases a
  · show 0 + 1 * (y 0).val = (y 0).val; omega
  · show 512 * k.val + 1 * (y 1).val = 512 * k.val + (y 1).val; omega

set_option warn.classDefReducibility false in
/-- The loop that issues the copies. -/
def invW1 (c : Dev nD) (f : Vec F S8192x2048 .fp8e4m3) :
    LoopInv (M := 𝕄) frame (wpE (defs₀ (F := F)) Variants.none (c : Th) none) Set.univ k0_t2_loop.lb k0_t2_loop.ub k0_t2_loop.st k0_t2_ok ()
      (k0_t2_body (F := F) (Memref.whole main_v1) (iw _) (Memref.whole main_arg1) (iw _) (Memref.whole main_v2) (iw _) (Memref.whole main_arg3) (iw _) (Memref.whole main_arg4) (iw _) (Memref.whole main_arg5) (iw _) (Memref.whole main_v3) (iw _) (Memref.whole main_v4) (iw _) (Memref.whole main_v5_0) (iw _) (Memref.whole main_v5_1) (iw _) (Memref.whole main_v5_2) (iw _) (Memref.whole main_v5_3) (iw _) (Memref.whole main_v5_4) (iw _) (Memref.whole cc0_scratch0) (iw _) (Memref.whole cc0_scratch1) (iw _) (Memref.whole cc0_scratch2) (iw _) (Memref.whole cc0_scratch3) (iw _) (Memref.whole cc0_scratch4) (iw _) (Memref.whole cc0_scratch5) (iw _) (Memref.whole cc0_scratch6) (iw _) (Memref.whole cc0_scratch7) (iw _) (Memref.whole cc0_scratch8) (iw _) (Memref.whole cc0_scratch9) (iw _) (Memref.whole cc0_scratch10) (iw _) (Memref.whole cc0_scratch11) (iw _) (Memref.whole cc0_scratch12) (iw _) (Memref.whole cc0_scratch13) (iw _) (Memref.whole cc0_scratch14) (iw _) (Memref.whole cc0_scratch15) (iw _) (Memref.whole cc0_scratch16) (iw _) cc0_scratch17 cc0_scratch18 cc0_scratch19 cc0_scratch20 cc0_scratch21 cc0_scratch22 cc0_scratch23 cc0_scratch24 cc0_scratch25 cc0_scratch26 cc0_scratch27 cc0_scratch28 cc0_scratch29) where
  inv k _ := iprop(Ring.AtW (ΦW1 c f) (stN 1 0 k) ∗ ∃ W, owes (c : Th) 0 W)
  step k _ := by
    have hs := stN_succ 1 0 (ixW1i k)
    rw [show (ixW1i k).val = k.val from rfl] at hs
    rw [← hs, Ring.AtW_focus (ΦW1 c f) (stN 1 0 k.val) (ixW1i k), stN_self 1 0 (ixW1i k), ΦW1_at_i]
    rw [ΦoW1_0]
    iintro ⟨⟨⟨Hs, ⟨%fd, Hd⟩, Htok⟩, Hrest⟩, %W, HO⟩
    unfold k0_t2_body
    sl_exec
    sl_step
    isplitr [HO]
    · iapply (Ring.AtW_update (ΦW1 c f) (stN 1 0 k.val) (ixW1i k) 1)
      isplitr [Hrest]
      · rw [ΦW1_at_i, ΦoW1_1]
        isplitl [Hs]
        · iapply (Transfers.Flight_mono _ _ (sep_mono (Entails.of_eq (landed c _ fullShare fd (gW1 f) _
            (gW1_read f (ixW1i k) (k0_off4_eq k) (k0_off5_eq k) (k0_off4_inb k) (k0_off5_inb k)))) (Entails.of_eq rfl)))
          iexact Hs
        iexact Htok
      · iexact Hrest
    · iexists _; iexact HO

/-! ### Family W2 -/

/-- The slot at offsets `o`. -/
def slotW2 (o : Fin 3 → Nat) (h : ∀ a, o a + S1x2048x1024.size a ≤ S7x2048x1024.size a) : Memref sig .tc .vmem S2048x1024 .fp8e4m3 :=
  (((Memref.whole cc0_scratch6).slice (Rect.unit (s := S7x2048x1024) o S1x2048x1024.size h) (fun _ => rfl) : Memref sig .tc .vmem S1x2048x1024 .fp8e4m3)).squeeze S2048x1024 squeezes_S1x2048x1024_S2048x1024
/-- The source block at offsets `o`. -/
def srcW2 (o : Fin 2 → Nat) (h : ∀ a, o a + S2048x1024.size a ≤ S2048x7168.size a) : Memref sig .tc .hbm S2048x1024 .fp8e4m3 :=
  (Memref.whole main_arg5).slice (Rect.unit (s := S2048x7168) o S2048x1024.size h) (fun _ => rfl)
abbrev cellW2 (k : Fin 7) : SemLoc sig := SemLoc.dma ⟨15 + k.val, by have := k.isLt; show 15 + k.val < 27; omega⟩
theorem inbSlotW2 (k : Fin 7) : ∀ a, (![k.val, 0, 0] : Fin 3 → Nat) a + S1x2048x1024.size a ≤ S7x2048x1024.size a := by revert k; decide
theorem inbSrcW2 (k : Fin 7) : ∀ a, (![0, 1024 * k.val] : Fin 2 → Nat) a + S2048x1024.size a ≤ S2048x7168.size a := by revert k; decide
/-- What the buffer holds when every slot has landed. -/
def gW2 (f : Vec F S2048x7168 .fp8e4m3) : Vec F S7x2048x1024 .fp8e4m3 := fun i => f (ix2 (i 1) ⟨1024 * (i 0).val + (i 2).val, by have h0 : (i 0).val < 7 := (i 0).isLt; have h2 : (i 2).val < 1024 := (i 2).isLt; omega⟩)
/-- Member `k`, with its semaphore, its slot's offsets and its source's as they are printed. -/
def ΦoW2 (c : Dev nD) (f : Vec F S2048x7168 .fp8e4m3) (k : Fin 7) (cl : SemLoc sig) (o : Fin 3 → Nat) (h : ∀ a, o a + S1x2048x1024.size a ≤ S7x2048x1024.size a)
    (o' : Fin 2 → Nat) (h' : ∀ a, o' a + S2048x1024.size a ≤ S2048x7168.size a) (b : Fin 3) : sProp 𝕄 :=
  Fam c (slotW2 o h) (gW2 f) (Memref.whole main_arg5) f (Finset.univ : Finset S2048x7168.Idx) (srcW2 o' h').view.set (Transfers.shareTok fullShare 7 k) 65536 cl b
theorem ΦoW2_congr (c : Dev nD) (f : Vec F S2048x7168 .fp8e4m3) (k : Fin 7) {cl cl₂ : SemLoc sig} (ec : cl = cl₂) {o o₂ : Fin 3 → Nat} (e : o = o₂)
    {o' o₂' : Fin 2 → Nat} (e' : o' = o₂') (h h₂ h' h₂') (b : Fin 3) : ΦoW2 c f k cl o h o' h' b = ΦoW2 c f k cl₂ o₂ h₂ o₂' h₂' b := by
  subst ec; subst e; subst e'; rfl
section
variable (c : Dev nD) (f : Vec F S2048x7168 .fp8e4m3) (k : Fin 7) (cl : SemLoc sig) (o : Fin 3 → Nat) (h : ∀ a, o a + S1x2048x1024.size a ≤ S7x2048x1024.size a)
    (o' : Fin 2 → Nat) (h' : ∀ a, o' a + S2048x1024.size a ≤ S2048x7168.size a)
theorem ΦoW2_0 : ΦoW2 c f k cl o h o' h' 0 = iprop(semVal ((c : Th), cl) 0
    ∗ (∃ f, (slotW2 o h).view.loc (c : Th) ↦[(slotW2 o h).view.set]{fullShare} f)
    ∗ (Memref.whole main_arg5).view.loc (c : Th) ↦[(Finset.univ : Finset S2048x7168.Idx)]{Transfers.shareTok fullShare 7 k} f) := rfl
theorem ΦoW2_1 : ΦoW2 c f k cl o h o' h' 1 = iprop(Transfers.Flight (countersEmb (U := Pipeline.UD sig nD τ)) (c : Th) cl () 65536
      iprop(((slotW2 o h).view.loc (c : Th) ↦[(slotW2 o h).view.set]{fullShare} gW2 f)
        ∗ (Memref.whole main_arg5).view.loc (c : Th) ↦[(srcW2 o' h').view.set]{Transfers.shareTok fullShare 7 k} f)
    ∗ (Memref.whole main_arg5).view.loc (c : Th) ↦[(Finset.univ : Finset S2048x7168.Idx) \ (srcW2 o' h').view.set]{Transfers.shareTok fullShare 7 k} f) := rfl
theorem ΦoW2_2 : ΦoW2 c f k cl o h o' h' 2 = iprop(semVal ((c : Th), cl) 0
    ∗ ((slotW2 o h).view.loc (c : Th) ↦[(slotW2 o h).view.set]{fullShare} gW2 f)
    ∗ (Memref.whole main_arg5).view.loc (c : Th) ↦[(Finset.univ : Finset S2048x7168.Idx)]{Transfers.shareTok fullShare 7 k} f) := rfl
end

def ΦW2 (c : Dev nD) (f : Vec F S2048x7168 .fp8e4m3) (k : Fin 7) (b : Fin 3) : sProp 𝕄 :=
  ΦoW2 c f k (cellW2 k) ![k.val, 0, 0] (inbSlotW2 k) ![0, 1024 * k.val] (inbSrcW2 k) b

abbrev ixW2i (k : Fin k0_t3_loop.trips) : Fin 7 := ⟨k.val, (by decide : k0_t3_loop.trips = 7) ▸ k.isLt⟩
abbrev cellW2i (k : Fin k0_t3_loop.trips) : SemLoc sig :=
  SemLoc.dma (((cc0_scratch24.slice (Rect.unit (s := S7) (k0_off6 k) S1.size (k0_off6_inb k)) : DmaSems sig S1).squeeze S_ squeezes_S1_S_ : DmaSems sig S_).sem)
theorem cellW2i_eq (k : Fin k0_t3_loop.trips) : cellW2i k = cellW2 (ixW2i k) := by revert k; decide +kernel
theorem ΦW2_at_i (c : Dev nD) (f : Vec F S2048x7168 .fp8e4m3) (k : Fin k0_t3_loop.trips) (b : Fin 3) :
    ΦW2 c f (ixW2i k) b = ΦoW2 c f (ixW2i k) (cellW2i k) (k0_off7 k) (k0_off7_inb k) (k0_off8 k) (k0_off8_inb k) b :=
  ΦoW2_congr c f _ (cellW2i_eq k).symm (k0_off7_eq k).symm (k0_off8_eq k).symm _ _ _ _ _

abbrev ixW2w (k : Fin k0_t6_loop.trips) : Fin 7 := ⟨k.val, (by decide : k0_t6_loop.trips = 7) ▸ k.isLt⟩
abbrev cellW2w (k : Fin k0_t6_loop.trips) : SemLoc sig :=
  SemLoc.dma (((cc0_scratch24.slice (Rect.unit (s := S7) (k0_off82 k) S1.size (k0_off82_inb k)) : DmaSems sig S1).squeeze S_ squeezes_S1_S_ : DmaSems sig S_).sem)
theorem cellW2w_eq (k : Fin k0_t6_loop.trips) : cellW2w k = cellW2 (ixW2w k) := by revert k; decide +kernel
theorem ΦW2_at_w (c : Dev nD) (f : Vec F S2048x7168 .fp8e4m3) (k : Fin k0_t6_loop.trips) (b : Fin 3) :
    ΦW2 c f (ixW2w k) b = ΦoW2 c f (ixW2w k) (cellW2w k) (k0_off83 k) (k0_off83_inb k) (k0_off84 k) (k0_off84_inb k) b :=
  ΦoW2_congr c f _ (cellW2w_eq k).symm (k0_off83_eq k).symm (k0_off84_eq k).symm _ _ _ _ _

/-- What a copy lands in its slot is the global contents there. -/
theorem gW2_read (f : Vec F S2048x7168 .fp8e4m3) (k : Fin 7) {o : Fin 3 → Nat} (e : o = ![k.val, 0, 0]) {o' : Fin 2 → Nat} (e' : o' = ![0, 1024 * k.val]) (h h') (y : S2048x1024.Idx) :
    (srcW2 o' h').view.read (Elt F) f y = (slotW2 o h).view.read (Elt F) (gW2 f) y := by
  subst e; subst e'
  have e : (slotW2 ![k.val, 0, 0] h).view.emb y = ix3 k (y 0) (y 1) := by
    show (Rect.unit (s := S7x2048x1024) ![k.val, 0, 0] S1x2048x1024.size h).emb (Shape.reshapeEquiv _ y) = _
    rw [show Shape.reshapeEquiv _ y = (Fin.cons (0 : Fin 1) y : S1x2048x1024.Idx) from Shape.reshapeEquiv_cons_one _ _]
    funext a
    apply Fin.ext
    fin_cases a
    · show k.val + 1 * 0 = k.val; omega
    · show 0 + 1 * (y 0).val = (y 0).val; omega
    · show 0 + 1 * (y 1).val = (y 1).val; omega
  show f _ = gW2 f ((slotW2 ![k.val, 0, 0] h).view.emb y)
  rw [e]
  show f _ = f _
  congr 1
  funext a
  apply Fin.ext
  fin_cases a
  · show 0 + 1 * (y 0).val = (y 0).val; omega
  · show 1024 * k.val + 1 * (y 1).val = 1024 * k.val + (y 1).val; omega

set_option warn.classDefReducibility false in
/-- The loop that issues the copies. -/
def invW2 (c : Dev nD) (f : Vec F S2048x7168 .fp8e4m3) :
    LoopInv (M := 𝕄) frame (wpE (defs₀ (F := F)) Variants.none (c : Th) none) Set.univ k0_t3_loop.lb k0_t3_loop.ub k0_t3_loop.st k0_t3_ok ()
      (k0_t3_body (F := F) (Memref.whole main_v1) (iw _) (Memref.whole main_arg1) (iw _) (Memref.whole main_v2) (iw _) (Memref.whole main_arg3) (iw _) (Memref.whole main_arg4) (iw _) (Memref.whole main_arg5) (iw _) (Memref.whole main_v3) (iw _) (Memref.whole main_v4) (iw _) (Memref.whole main_v5_0) (iw _) (Memref.whole main_v5_1) (iw _) (Memref.whole main_v5_2) (iw _) (Memref.whole main_v5_3) (iw _) (Memref.whole main_v5_4) (iw _) (Memref.whole cc0_scratch0) (iw _) (Memref.whole cc0_scratch1) (iw _) (Memref.whole cc0_scratch2) (iw _) (Memref.whole cc0_scratch3) (iw _) (Memref.whole cc0_scratch4) (iw _) (Memref.whole cc0_scratch5) (iw _) (Memref.whole cc0_scratch6) (iw _) (Memref.whole cc0_scratch7) (iw _) (Memref.whole cc0_scratch8) (iw _) (Memref.whole cc0_scratch9) (iw _) (Memref.whole cc0_scratch10) (iw _) (Memref.whole cc0_scratch11) (iw _) (Memref.whole cc0_scratch12) (iw _) (Memref.whole cc0_scratch13) (iw _) (Memref.whole cc0_scratch14) (iw _) (Memref.whole cc0_scratch15) (iw _) (Memref.whole cc0_scratch16) (iw _) cc0_scratch17 cc0_scratch18 cc0_scratch19 cc0_scratch20 cc0_scratch21 cc0_scratch22 cc0_scratch23 cc0_scratch24 cc0_scratch25 cc0_scratch26 cc0_scratch27 cc0_scratch28 cc0_scratch29) where
  inv k _ := iprop(Ring.AtW (ΦW2 c f) (stN 1 0 k) ∗ ∃ W, owes (c : Th) 0 W)
  step k _ := by
    have hs := stN_succ 1 0 (ixW2i k)
    rw [show (ixW2i k).val = k.val from rfl] at hs
    rw [← hs, Ring.AtW_focus (ΦW2 c f) (stN 1 0 k.val) (ixW2i k), stN_self 1 0 (ixW2i k), ΦW2_at_i]
    rw [ΦoW2_0]
    iintro ⟨⟨⟨Hs, ⟨%fd, Hd⟩, Htok⟩, Hrest⟩, %W, HO⟩
    unfold k0_t3_body
    sl_exec
    sl_step
    isplitr [HO]
    · iapply (Ring.AtW_update (ΦW2 c f) (stN 1 0 k.val) (ixW2i k) 1)
      isplitr [Hrest]
      · rw [ΦW2_at_i, ΦoW2_1]
        isplitl [Hs]
        · iapply (Transfers.Flight_mono _ _ (sep_mono (Entails.of_eq (landed c _ fullShare fd (gW2 f) _
            (gW2_read f (ixW2i k) (k0_off7_eq k) (k0_off8_eq k) (k0_off7_inb k) (k0_off8_inb k)))) (Entails.of_eq rfl)))
          iexact Hs
        iexact Htok
      · iexact Hrest
    · iexists _; iexact HO

end Cert.KernelIdeal.Hand
-- ==== Proof.KernelIdealHand.Tools.lean ====
module

public import proofs.«01_k».proof.Proof.KernelIdealHand.Base

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The proof's user algebra: the pipeline library's beside the transfers' counters. -/
local notation "𝕄" => MT nD τ sig Unit (Elt F) ℕ (Pipeline.UD sig nD τ) ℕ

/-! ## Contents written piece by piece -/

/-- Two readings of a rectangle at equal offsets agree. -/
theorem readAt_off {κ : Kind} {sp : Space} {s : Shape} {e : EltTy} (v : View sig κ sp s e) {o o' : Fin s.rank → ℕ} {size : Fin s.rank → ℕ}
    (h : o = o') (hb : ∀ a, o a + size a ≤ s.size a) (hb' : ∀ a, o' a + size a ≤ s.size a) (f : v.ty.Contents (Elt F)) :
    v.readAt (Elt F) (Rect.unit o size hb).toLoadRect f = v.readAt (Elt F) (Rect.unit o' size hb').toLoadRect f := by
  subst h; rfl

/-- Where a unit rectangle at a known offset puts its index. -/
theorem emb_at {s : Shape} {o o' : Fin s.rank → ℕ} (h : o = o') {size : Fin s.rank → ℕ} (hb : ∀ a, o a + size a ≤ s.size a)
    (x : (Rect.unit o size hb).shape.Idx) (a : Fin s.rank) : ((Rect.unit o size hb).emb x a).val = o' a + (x a).val := by
  subst h
  show o a + 1 * (x a).val = _
  rw [Nat.one_mul]

/-- Membership in a rank-two unit rectangle at a known offset. -/
theorem mem_unit2 {m n a b : ℕ} {o : Fin 2 → ℕ} {i j : ℕ} (h : o = ![i, j]) (hb : ∀ d, o d + (⟨2, ![a, b]⟩ : Shape).size d ≤ (⟨2, ![m, n]⟩ : Shape).size d)
    (y : (⟨2, ![m, n]⟩ : Shape).Idx) (h0 : i ≤ (y 0).val ∧ (y 0).val < i + a) (h1 : j ≤ (y 1).val ∧ (y 1).val < j + b) :
    y ∈ (Rect.unit (s := ⟨2, ![m, n]⟩) o (⟨2, ![a, b]⟩ : Shape).size hb).set := by
  subst h
  rw [Rect.mem_set_unit]
  intro d
  fin_cases d
  · exact h0
  · exact h1

/-- Pieces that agree with `G` extend the part of a buffer known to hold `G`. -/
theorem fill_step {κ : Kind} {sp : Space} {s : Shape} {e : EltTy} (v : View sig κ sp s e) (f : v.ty.Contents (Elt F))
    (L : List (View.Piece (Elt F) s e)) (G : s.Idx → Elt F e) (P P' : s.Idx → Prop)
    (hG : ∀ p ∈ L, ∀ x : p.1.shape.Idx, p.2 x = G (p.1.emb x)) (hc : ∀ y, P' y → P y ∨ ∃ p ∈ L, y ∈ p.1.set)
    (hf : ∀ y, P y → v.read (Elt F) f y = G y) (y : s.Idx) (hy : P' y) : v.read (Elt F) (v.writes (Elt F) f L) y = G y := by
  by_cases h : ∃ p ∈ L, y ∈ p.1.set
  · exact View.read_writes_apply_of_pieces v f G L hG y h
  · rw [View.read_writes_apply_of_forall_not_mem v f y L fun p hp hm => h ⟨p, hp, hm⟩]
    exact hf y ((hc y hy).resolve_right h)

/-- Slot `i` in a new state, as an equation. -/
theorem AtW_put {n : ℕ} {σ : Fin n → Type} (Φ : (k : Fin n) → σ k → sProp 𝕄) (st : (k : Fin n) → σ k) (i : Fin n) (x : σ i) :
    Ring.AtW Φ (Function.update st i x) = iprop(Φ i x ∗ Ring.restW Φ st i) := by
  rw [Ring.AtW_focus Φ _ i, Function.update_self, Ring.restW_update]

end Cert.KernelIdeal.Hand
-- ==== Proof.KernelIdealHand.L4.lean ====
module

public import proofs.«01_k».proof.Proof.KernelIdealHand.Tools

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The proof's user algebra: the pipeline library's beside the transfers' counters. -/
local notation "𝕄" => MT nD τ sig Unit (Elt F) ℕ (Pipeline.UD sig nD τ) ℕ

/-! ## The quantisation of `x`: what loop `t4` computes

Trip `k` takes 32 rows: the row maxima of `|x|`, the power-of-two scale, and the clamped codes in eight chunks of 1024 columns. -/

section Values
variable (f : Vec F S192x8192 .bf16) (k : Fin k0_t4_loop.trips)

/-- A piece of `x` as it is read. -/
abbrev xRd {a b : ℕ} {o : Fin 2 → ℕ} (h : ∀ d, o d + (⟨2, ![a, b]⟩ : Shape).size d ≤ S192x8192.size d) : Vec F ⟨2, ![a, b]⟩ .bf16 :=
  (Memref.whole cc0_scratch0).view.readAt (Elt F) (Rect.unit (s := S192x8192) o (⟨2, ![a, b]⟩ : Shape).size h).toLoadRect (gX f)

/-- The trip's row maxima times `1/448`. -/
def xT : FVec F S32x1 .f32 :=
  k0_pay3 (k0_pay2 (k0_pay1 (xRd f (k0_off11_inb k)) (xRd f (k0_off12_inb k)) (xRd f (k0_off13_inb k)) (xRd f (k0_off14_inb k)) (xRd f (k0_off15_inb k)) (xRd f (k0_off16_inb k)) (xRd f (k0_off17_inb k)) (xRd f (k0_off18_inb k)) (xRd f (k0_off19_inb k))) (xRd f (k0_off20_inb k)) (xRd f (k0_off21_inb k)) (xRd f (k0_off22_inb k)) (xRd f (k0_off23_inb k)) (xRd f (k0_off24_inb k)) (xRd f (k0_off25_inb k)) (xRd f (k0_off26_inb k)) (xRd f (k0_off27_inb k)) (xRd f (k0_off28_inb k)) (xRd f (k0_off29_inb k)) (xRd f (k0_off30_inb k)) (xRd f (k0_off31_inb k))) (xRd f (k0_off32_inb k)) (xRd f (k0_off33_inb k)) (xRd f (k0_off34_inb k)) (xRd f (k0_off35_inb k)) (xRd f (k0_off36_inb k)) (xRd f (k0_off37_inb k)) (xRd f (k0_off38_inb k)) (xRd f (k0_off39_inb k)) (xRd f (k0_off40_inb k)) (xRd f (k0_off41_inb k)) (xRd f (k0_off42_inb k))

/-- The trip's inverse scales, -/
def xInv : FVec F S32x1 .bf16 := k0_pay9 (xT f k) (k0_pay4 (xT f k)) (k0_pay5 (xT f k)) 23#32

/-- its scales along the lanes, -/
def xSc : FVec F S32x128 .f32 := k0_pay8 (xT f k) (k0_pay4 (xT f k)) (k0_pay5 (xT f k)) 23#32

/-- its codes, by chunk. -/
def xQc (cc : Fin 8) : FVec F S32x1024 .fp8e4m3 :=
  k0_pay12 (xInv f k) ((![(xRd f (k0_off44_inb k)), (xRd f (k0_off45_inb k)), (xRd f (k0_off46_inb k)), (xRd f (k0_off47_inb k)), (xRd f (k0_off48_inb k)), (xRd f (k0_off49_inb k)), (xRd f (k0_off50_inb k)), (xRd f (k0_off51_inb k))] : Fin 8 → Vec F S32x1024 .bf16) cc)

end Values

theorem trips4 : k0_t4_loop.trips = 6 := by decide +kernel

/-- All the codes of `x`. -/
def XQ (f : Vec F S192x8192 .bf16) : Vec F S192x8192 .fp8e4m3 := fun i =>
  xQc f ⟨(i 0).val / 32, by have h : (i 0).val < 192 := (i 0).isLt; rw [trips4]; omega⟩ ⟨(i 1).val / 1024, by have h : (i 1).val < 8192 := (i 1).isLt; omega⟩
    (ix2 ⟨(i 0).val % 32, by omega⟩ ⟨(i 1).val % 1024, by omega⟩)

/-- All the scales of `x`, along the lanes. -/
def XSV (f : Vec F S192x8192 .bf16) : Vec F S192x128 .f32 := fun i =>
  xSc f ⟨(i 0).val / 32, by have h : (i 0).val < 192 := (i 0).isLt; rw [trips4]; omega⟩ (ix2 ⟨(i 0).val % 32, by omega⟩ (i 1))

theorem XQ_at (f : Vec F S192x8192 .bf16) (k : Fin k0_t4_loop.trips) (cc : Fin 8) (x : S32x1024.Idx) (i : S192x8192.Idx)
    (h0 : (i 0).val = 32 * k.val + (x 0).val) (h1 : (i 1).val = 1024 * cc.val + (x 1).val) : XQ f i = xQc f k cc x := by
  have x0 : (x 0).val < 32 := (x 0).isLt
  have x1 : (x 1).val < 1024 := (x 1).isLt
  have e : ∀ k' cc' x', k' = k → cc' = cc → x' = x → xQc f k' cc' x' = xQc f k cc x := by rintro _ _ _ rfl rfl rfl; rfl
  refine e _ _ _ (Fin.ext ?_) (Fin.ext ?_) (funext fun a => ?_)
  · show (i 0).val / 32 = k.val; omega
  · show (i 1).val / 1024 = cc.val; omega
  · fin_cases a <;> apply Fin.ext
    · show (i 0).val % 32 = (x 0).val; omega
    · show (i 1).val % 1024 = (x 1).val; omega

theorem XSV_at (f : Vec F S192x8192 .bf16) (k : Fin k0_t4_loop.trips) (x : S32x128.Idx) (i : S192x128.Idx)
    (h0 : (i 0).val = 32 * k.val + (x 0).val) (h1 : (i 1).val = (x 1).val) : XSV f i = xSc f k x := by
  have x0 : (x 0).val < 32 := (x 0).isLt
  have e : ∀ k' x', k' = k → x' = x → xSc f k' x' = xSc f k x := by rintro _ _ rfl rfl; rfl
  refine e _ _ (Fin.ext ?_) (funext fun a => ?_)
  · show (i 0).val / 32 = k.val; omega
  · fin_cases a <;> apply Fin.ext
    · show (i 0).val % 32 = (x 0).val; omega
    · exact h1

/-- The first `32 k` rows of the codes and of the scales are there before trip `k`. -/
def okQ (f : Vec F S192x8192 .bf16) (k : ℕ) (f14 : Vec F S192x8192 .fp8e4m3) : Prop := ∀ i : S192x8192.Idx, (i 0).val < 32 * k → (Memref.whole cc0_scratch1).view.read (Elt F) f14 i = XQ f i
def okS (f : Vec F S192x8192 .bf16) (k : ℕ) (f22 : Vec F S192x128 .f32) : Prop := ∀ i : S192x128.Idx, (i 0).val < 32 * k → (Memref.whole cc0_scratch9).view.read (Elt F) f22 i = XSV f i

theorem xQc_7 (f : Vec F S192x8192 .bf16) (k : Fin k0_t4_loop.trips) : xQc f k 7 = k0_pay187 (xInv f k) (xRd f (k0_off51_inb k)) := rfl

theorem xQc_6 (f : Vec F S192x8192 .bf16) (k : Fin k0_t4_loop.trips) : xQc f k 6 = k0_pay18 (xInv f k) (xRd f (k0_off50_inb k)) := rfl

theorem xQc_5 (f : Vec F S192x8192 .bf16) (k : Fin k0_t4_loop.trips) : xQc f k 5 = k0_pay17 (xInv f k) (xRd f (k0_off49_inb k)) := rfl

theorem xQc_4 (f : Vec F S192x8192 .bf16) (k : Fin k0_t4_loop.trips) : xQc f k 4 = k0_pay16 (xInv f k) (xRd f (k0_off48_inb k)) := rfl

theorem xQc_3 (f : Vec F S192x8192 .bf16) (k : Fin k0_t4_loop.trips) : xQc f k 3 = k0_pay15 (k0_pay14 (xInv f k) (xRd f (k0_off47_inb k))) := rfl

theorem xQc_2 (f : Vec F S192x8192 .bf16) (k : Fin k0_t4_loop.trips) : xQc f k 2 = k0_pay13 (xInv f k) (xRd f (k0_off46_inb k)) := rfl

theorem xQc_1 (f : Vec F S192x8192 .bf16) (k : Fin k0_t4_loop.trips) : xQc f k 1 = k0_pay12 (xInv f k) (xRd f (k0_off45_inb k)) := rfl

theorem xQc_0 (f : Vec F S192x8192 .bf16) (k : Fin k0_t4_loop.trips) : xQc f k 0 = k0_pay11 (k0_pay10 (xT f k) (k0_pay4 (xT f k)) (k0_pay5 (xT f k)) 23#32 (xRd f (k0_off44_inb k))) (Scalar.ofBits .bf16 0xC3E0#16) (Scalar.ofBits .bf16 0x43E0#16) := rfl

/-- The trip's eight stores of codes, last first. -/
def piecesQ (f : Vec F S192x8192 .bf16) (k : Fin k0_t4_loop.trips) : List (View.Piece (Elt F) S192x8192 .fp8e4m3) :=
  [⟨Rect.unit (s := S192x8192) (k0_off51 k) S32x1024.size (k0_off51_inb k), k0_pay187 (xInv f k) (xRd f (k0_off51_inb k))⟩,
      ⟨Rect.unit (s := S192x8192) (k0_off50 k) S32x1024.size (k0_off50_inb k), k0_pay18 (xInv f k) (xRd f (k0_off50_inb k))⟩,
      ⟨Rect.unit (s := S192x8192) (k0_off49 k) S32x1024.size (k0_off49_inb k), k0_pay17 (xInv f k) (xRd f (k0_off49_inb k))⟩,
      ⟨Rect.unit (s := S192x8192) (k0_off48 k) S32x1024.size (k0_off48_inb k), k0_pay16 (xInv f k) (xRd f (k0_off48_inb k))⟩,
      ⟨Rect.unit (s := S192x8192) (k0_off47 k) S32x1024.size (k0_off47_inb k), k0_pay15 (k0_pay14 (xInv f k) (xRd f (k0_off47_inb k)))⟩,
      ⟨Rect.unit (s := S192x8192) (k0_off46 k) S32x1024.size (k0_off46_inb k), k0_pay13 (xInv f k) (xRd f (k0_off46_inb k))⟩,
      ⟨Rect.unit (s := S192x8192) (k0_off45 k) S32x1024.size (k0_off45_inb k), k0_pay12 (xInv f k) (xRd f (k0_off45_inb k))⟩,
      ⟨Rect.unit (s := S192x8192) (k0_off44 k) S32x1024.size (k0_off44_inb k), k0_pay11 (k0_pay10 (xT f k) (k0_pay4 (xT f k)) (k0_pay5 (xT f k)) 23#32 (xRd f (k0_off44_inb k))) (Scalar.ofBits .bf16 0xC3E0#16) (Scalar.ofBits .bf16 0x43E0#16)⟩]

theorem okQ_step (f : Vec F S192x8192 .bf16) (k : Fin k0_t4_loop.trips) (f14 : Vec F S192x8192 .fp8e4m3) (h : okQ f k.val f14) :
    okQ f (k.val + 1) ((Memref.whole cc0_scratch1).view.writes (Elt F) f14 (piecesQ f k)) := by
  intro y hy
  refine fill_step (Memref.whole cc0_scratch1).view f14 (piecesQ f k) (XQ f) (fun y => (y 0).val < 32 * k.val) (fun y => (y 0).val < 32 * (k.val + 1)) ?_ ?_ (fun y hy => h y hy) y hy
  all_goals clear hy y
  · intro p hp
    simp only [piecesQ, List.mem_cons, List.not_mem_nil, or_false] at hp
    rcases hp with rfl | rfl | rfl | rfl | rfl | rfl | rfl | rfl <;> intro x
    · refine (congrFun (xQc_7 f k) x).symm.trans ?_
      exact (XQ_at f k 7 x _ (emb_at (k0_off51_eq k) (k0_off51_inb k) x 0) (emb_at (k0_off51_eq k) (k0_off51_inb k) x 1)).symm
    · refine (congrFun (xQc_6 f k) x).symm.trans ?_
      exact (XQ_at f k 6 x _ (emb_at (k0_off50_eq k) (k0_off50_inb k) x 0) (emb_at (k0_off50_eq k) (k0_off50_inb k) x 1)).symm
    · refine (congrFun (xQc_5 f k) x).symm.trans ?_
      exact (XQ_at f k 5 x _ (emb_at (k0_off49_eq k) (k0_off49_inb k) x 0) (emb_at (k0_off49_eq k) (k0_off49_inb k) x 1)).symm
    · refine (congrFun (xQc_4 f k) x).symm.trans ?_
      exact (XQ_at f k 4 x _ (emb_at (k0_off48_eq k) (k0_off48_inb k) x 0) (emb_at (k0_off48_eq k) (k0_off48_inb k) x 1)).symm
    · refine (congrFun (xQc_3 f k) x).symm.trans ?_
      exact (XQ_at f k 3 x _ (emb_at (k0_off47_eq k) (k0_off47_inb k) x 0) (emb_at (k0_off47_eq k) (k0_off47_inb k) x 1)).symm
    · refine (congrFun (xQc_2 f k) x).symm.trans ?_
      exact (XQ_at f k 2 x _ (emb_at (k0_off46_eq k) (k0_off46_inb k) x 0) (emb_at (k0_off46_eq k) (k0_off46_inb k) x 1)).symm
    · refine (congrFun (xQc_1 f k) x).symm.trans ?_
      exact (XQ_at f k 1 x _ (emb_at (k0_off45_eq k) (k0_off45_inb k) x 0) (emb_at (k0_off45_eq k) (k0_off45_inb k) x 1)).symm
    · refine (congrFun (xQc_0 f k) x).symm.trans ?_
      exact (XQ_at f k 0 x _ (emb_at (k0_off44_eq k) (k0_off44_inb k) x 0) (emb_at (k0_off44_eq k) (k0_off44_inb k) x 1)).symm
  · intro y hy
    change (y 0).val < 32 * (k.val + 1) at hy
    by_cases hlt : (y 0).val < 32 * k.val
    · exact .inl hlt
    · right
      have y1 : (y 1).val < 8192 := (y 1).isLt
      have hcc : ∃ cc : Fin 8, (y 1).val / 1024 = cc.val := ⟨⟨(y 1).val / 1024, by omega⟩, rfl⟩
      obtain ⟨cc, hcc⟩ := hcc
      unfold piecesQ
      fin_cases cc
      · replace hcc : (y 1).val / 1024 = 0 := hcc
        exact ⟨_, .tail _ (.tail _ (.tail _ (.tail _ (.tail _ (.tail _ (.tail _ (.head _))))))), mem_unit2 (k0_off44_eq k) (k0_off44_inb k) y ⟨by omega, by omega⟩ ⟨by omega, by omega⟩⟩
      · replace hcc : (y 1).val / 1024 = 1 := hcc
        exact ⟨_, .tail _ (.tail _ (.tail _ (.tail _ (.tail _ (.tail _ (.head _)))))), mem_unit2 (k0_off45_eq k) (k0_off45_inb k) y ⟨by omega, by omega⟩ ⟨by omega, by omega⟩⟩
      · replace hcc : (y 1).val / 1024 = 2 := hcc
        exact ⟨_, .tail _ (.tail _ (.tail _ (.tail _ (.tail _ (.head _))))), mem_unit2 (k0_off46_eq k) (k0_off46_inb k) y ⟨by omega, by omega⟩ ⟨by omega, by omega⟩⟩
      · replace hcc : (y 1).val / 1024 = 3 := hcc
        exact ⟨_, .tail _ (.tail _ (.tail _ (.tail _ (.head _)))), mem_unit2 (k0_off47_eq k) (k0_off47_inb k) y ⟨by omega, by omega⟩ ⟨by omega, by omega⟩⟩
      · replace hcc : (y 1).val / 1024 = 4 := hcc
        exact ⟨_, .tail _ (.tail _ (.tail _ (.head _))), mem_unit2 (k0_off48_eq k) (k0_off48_inb k) y ⟨by omega, by omega⟩ ⟨by omega, by omega⟩⟩
      · replace hcc : (y 1).val / 1024 = 5 := hcc
        exact ⟨_, .tail _ (.tail _ (.head _)), mem_unit2 (k0_off49_eq k) (k0_off49_inb k) y ⟨by omega, by omega⟩ ⟨by omega, by omega⟩⟩
      · replace hcc : (y 1).val / 1024 = 6 := hcc
        exact ⟨_, .tail _ (.head _), mem_unit2 (k0_off50_eq k) (k0_off50_inb k) y ⟨by omega, by omega⟩ ⟨by omega, by omega⟩⟩
      · replace hcc : (y 1).val / 1024 = 7 := hcc
        exact ⟨_, .head _, mem_unit2 (k0_off51_eq k) (k0_off51_inb k) y ⟨by omega, by omega⟩ ⟨by omega, by omega⟩⟩

theorem okS_step (f : Vec F S192x8192 .bf16) (k : Fin k0_t4_loop.trips) (f22 : Vec F S192x128 .f32) (h : okS f k.val f22) :
    okS f (k.val + 1) ((Memref.whole cc0_scratch9).view.writes (Elt F) f22
      [⟨Rect.unit (s := S192x128) (k0_off43 k) S32x128.size (k0_off43_inb k), xSc f k⟩]) := by
  intro y hy
  refine fill_step (Memref.whole cc0_scratch9).view f22 _ (XSV f) (fun y => (y 0).val < 32 * k.val) (fun y => (y 0).val < 32 * (k.val + 1)) ?_ ?_ (fun y hy => h y hy) y hy
  all_goals clear hy y
  · intro p hp
    rw [List.mem_singleton] at hp
    subst hp
    intro x
    exact (XSV_at f k x _ (emb_at (k0_off43_eq k) (k0_off43_inb k) x 0) ((emb_at (k0_off43_eq k) (k0_off43_inb k) x 1).trans (Nat.zero_add _))).symm
  · intro y hy
    change (y 0).val < 32 * (k.val + 1) at hy
    by_cases hlt : (y 0).val < 32 * k.val
    · exact .inl hlt
    · refine .inr ⟨_, List.mem_singleton.mpr rfl, ?_⟩
      have y1 : (y 1).val < 128 := (y 1).isLt
      exact mem_unit2 (k0_off43_eq k) (k0_off43_inb k) y ⟨by omega, by omega⟩ ⟨by omega, by omega⟩

/-- Before trip `k` of the loop that quantises `x`. -/
def iQ (c : Dev nD) (f : Vec F S192x8192 .bf16) (k : ℕ) (_ : PUnit) : sProp 𝕄 :=
  iprop(Ring.AtW (ΦX c f) (stN 2 1 k) ∗ (∃ f14, ⌜okQ f k f14⌝ ∗ ((Memref.whole cc0_scratch1).view.loc (c : Th) ↦{fullShare} f14))
    ∗ (∃ f22, ⌜okS f k f22⌝ ∗ ((Memref.whole cc0_scratch9).view.loc (c : Th) ↦{fullShare} f22)) ∗ ∃ W, owes (c : Th) 0 W)

set_option warn.classDefReducibility false in
def invQ (c : Dev nD) (f : Vec F S192x8192 .bf16) :
    LoopInv (M := 𝕄) frame (wpE (defs₀ (F := F)) Variants.none (c : Th) none) Set.univ k0_t4_loop.lb k0_t4_loop.ub k0_t4_loop.st k0_t4_ok ()
      (k0_t4_body (F := F) (Memref.whole main_v1) (iw _) (Memref.whole main_arg1) (iw _) (Memref.whole main_v2) (iw _) (Memref.whole main_arg3) (iw _) (Memref.whole main_arg4) (iw _) (Memref.whole main_arg5) (iw _) (Memref.whole main_v3) (iw _) (Memref.whole main_v4) (iw _) (Memref.whole main_v5_0) (iw _) (Memref.whole main_v5_1) (iw _) (Memref.whole main_v5_2) (iw _) (Memref.whole main_v5_3) (iw _) (Memref.whole main_v5_4) (iw _) (Memref.whole cc0_scratch0) (iw _) (Memref.whole cc0_scratch1) (iw _) (Memref.whole cc0_scratch2) (iw _) (Memref.whole cc0_scratch3) (iw _) (Memref.whole cc0_scratch4) (iw _) (Memref.whole cc0_scratch5) (iw _) (Memref.whole cc0_scratch6) (iw _) (Memref.whole cc0_scratch7) (iw _) (Memref.whole cc0_scratch8) (iw _) (Memref.whole cc0_scratch9) (iw _) (Memref.whole cc0_scratch10) (iw _) (Memref.whole cc0_scratch11) (iw _) (Memref.whole cc0_scratch12) (iw _) (Memref.whole cc0_scratch13) (iw _) (Memref.whole cc0_scratch14) (iw _) (Memref.whole cc0_scratch15) (iw _) (Memref.whole cc0_scratch16) (iw _) cc0_scratch17 cc0_scratch18 cc0_scratch19 cc0_scratch20 cc0_scratch21 cc0_scratch22 cc0_scratch23 cc0_scratch24 cc0_scratch25 cc0_scratch26 cc0_scratch27 cc0_scratch28 cc0_scratch29) where
  inv k _ := iprop(Ring.AtW (ΦX c f) (stN 2 1 k) ∗ (∃ f14, ⌜okQ f k f14⌝ ∗ ((Memref.whole cc0_scratch1).view.loc (c : Th) ↦{fullShare} f14))
    ∗ (∃ f22, ⌜okS f k f22⌝ ∗ ((Memref.whole cc0_scratch9).view.loc (c : Th) ↦{fullShare} f22)) ∗ ∃ W, owes (c : Th) 0 W)
  step k _ := by
    have hs := stN_succ 2 1 (ixXw k)
    rw [show (ixXw k).val = k.val from rfl] at hs
    rw [← hs, Ring.AtW_focus (ΦX c f) (stN 2 1 k.val) (ixXw k), AtW_put (ΦX c f) (stN 2 1 k.val) (ixXw k) 2, stN_self 2 1 (ixXw k),
      ΦX_at_w, ΦoX_1, ΦX_at_w, ΦoX_2]
    iintro ⟨⟨⟨Hs, Htok⟩, Hrest⟩, ⟨%f14, %h14, H14⟩, ⟨%f22, %h22, H22⟩, %W, HO⟩
    unfold k0_t4_body
    sl_exec
    sl_step
    isplitl [Hs Htok Hs_dst Hrest]
    · isplitl [Hs Htok Hs_dst]
      · isplitl [Hs]
        · iexact Hs
        isplitl [Hs_dst]
        · iexact Hs_dst
        iexact Htok
      iexact Hrest
    isplitl [H14]
    · iexists _
      isplitr
      · ipureintro
        exact okQ_step f k f14 h14
      iexact H14
    isplitl [H22]
    · iexists _
      isplitr
      · ipureintro
        exact okS_step f k f22 h22
      iexact H22
    iexists _
    iexact HO

end Cert.KernelIdeal.Hand
-- ==== Proof.KernelIdealHand.L5.lean ====
module

public import proofs.«01_k».proof.Proof.KernelIdealHand.L4

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The proof's user algebra: the pipeline library's beside the transfers' counters. -/
local notation "𝕄" => MT nD τ sig Unit (Elt F) ℕ (Pipeline.UD sig nD τ) ℕ

/-! ## The first product and the stencil: what loop `t5` computes

Trip `k` takes 512 columns of `w1`: the product with the codes, the rescaling of each group of eight rows, the stencil along
the rows of a group (`rH`), the stencil across the groups (`zB`), and the running maxima (`ZM`). -/

theorem trips5 : k0_t5_loop.trips = 4 := by decide +kernel

theorem inb8 (g : Fin 24) : ∀ a, (![8 * g.val, 0] : Fin 2 → ℕ) a + S8x128.size a ≤ S192x128.size a := by revert g; decide

theorem slices8 (g : Fin 24) : S192x512.Slices ![8 * g.val, 0] S8x512 := by revert g; decide

section Values
variable (w1 : Vec F S8192x2048 .fp8e4m3) (w1s : Vec F S1x2048 .f32) (wh ww : Vec F S3x2048 .bf16)
    (f14 : Vec F S192x8192 .fp8e4m3) (f22 : Vec F S192x128 .f32) (k : Fin k0_t5_loop.trips)

/-- The trip's product. -/
def mZ : FVec F S192x512 .f32 :=
  k0_pay19 ((Memref.whole cc0_scratch1).view.readAt (Elt F) (Rect.unit (s := S192x8192) ![0, 0] S192x8192.size inb_S192x8192_S192x8192_0_0).toLoadRect f14)
    ((Memref.whole cc0_scratch2).view.readAt (Elt F) (Rect.unit (s := S4x8192x512) (k0_off55 k) S1x8192x512.size (k0_off55_inb k)).toLoadRect (gW1 w1))

/-- The trip's columns of the two stencils and of the scales of `w1`. -/
def whL : Vec F S3x512 .bf16 := ((Memref.whole cc0_scratch4).view.readAt (Elt F) (Rect.unit (s := S3x2048) (k0_off56 k) S3x512.size (k0_off56_inb k)).toLoadRect wh)
def wwL : Vec F S3x512 .bf16 := ((Memref.whole cc0_scratch5).view.readAt (Elt F) (Rect.unit (s := S3x2048) (k0_off56 k) S3x512.size (k0_off56_inb k)).toLoadRect ww)
def w1sL : Vec F S1x512 .f32 := ((Memref.whole cc0_scratch3).view.readAt (Elt F) (Rect.unit (s := S1x2048) (k0_off57 k) S1x512.size (k0_off57_inb k)).toLoadRect w1s)

/-- Group `g`'s scales of `x`. -/
def sL (g : Fin 24) : Vec F S8x128 .f32 := ((Memref.whole cc0_scratch9).view.readAt (Elt F) (Rect.unit (s := S192x128) ![8 * g.val, 0] S8x128.size (inb8 g)).toLoadRect f22)

/-- Group `g` rescaled and rounded, -/
def uH (g : Fin 24) : FVec F S8x512 .f32 :=
  extf .f32 (truncf .bf16 (mulf (extractStridedSlice S8x512 ![8 * g.val, 0] (mZ w1 f14 k) (slices8 g))
    (mulf (concatenate S8x512 1 [⟨S8x128, sL f22 g⟩, ⟨S8x128, sL f22 g⟩, ⟨S8x128, sL f22 g⟩, ⟨S8x128, sL f22 g⟩] concatenates_S8x128_S8x128_S8x128_S8x128_S8x512_d1)
      (broadcastTo S8x512 (w1sL w1s k) broadcasts_S1x512_S8x512))) bitsLt_bf16_f32) bitsLt_bf16_f32

/-- and then taken through the stencil along its rows and rounded. -/
def rH (g : Fin 24) : FVec F S8x512 .f32 :=
  extf .f32 (truncf .bf16 (addf (addf (mulf (dynamicRotate 0 1#32 none (uH w1 w1s f14 f22 k g) rotates_S8x512_d0) (k0_pay22 (whL wh k)))
      (mulf (uH w1 w1s f14 f22 k g) (broadcastTo S8x512 (extractStridedSlice S1x512 ![1, 0] (k0_pay20 (whL wh k)) slices_S3x512_o1_0_S1x512) broadcasts_S1x512_S8x512)))
    (mulf (dynamicRotate 0 7#32 none (uH w1 w1s f14 f22 k g) rotates_S8x512_d0) (k0_pay23 (whL wh k)))) bitsLt_bf16_f32) bitsLt_bf16_f32

/-- The group before `g` in its row of twelve, or zero; -/
def prevH (g : Fin 24) : FVec F S8x512 .f32 := if g.val % 12 = 0 then k0_pay24 else rH w1 w1s wh f14 f22 k ⟨(g.val + 23) % 24, Nat.mod_lt _ (by decide)⟩

/-- the group after it, or zero. -/
def nextH (g : Fin 24) : FVec F S8x512 .f32 := if g.val % 12 = 11 then k0_pay24 else rH w1 w1s wh f14 f22 k ⟨(g.val + 1) % 24, Nat.mod_lt _ (by decide)⟩

/-- The stencil across groups. -/
def zB (g : Fin 24) : FVec F S8x512 .f32 :=
  addf (addf (mulf (prevH w1 w1s wh f14 f22 k g) (broadcastTo S8x512 (extractStridedSlice S1x512 ![0, 0] (k0_pay20 (wwL ww k)) slices_S3x512_o0_0_S1x512) broadcasts_S1x512_S8x512))
      (mulf (rH w1 w1s wh f14 f22 k g) (broadcastTo S8x512 (extractStridedSlice S1x512 ![1, 0] (k0_pay20 (wwL ww k)) slices_S3x512_o1_0_S1x512) broadcasts_S1x512_S8x512)))
    (mulf (nextH w1 w1s wh f14 f22 k g) (broadcastTo S8x512 (extractStridedSlice S1x512 ![2, 0] (k0_pay20 (wwL ww k)) slices_S3x512_o2_0_S1x512) broadcasts_S1x512_S8x512))

/-- What is stored of it. -/
def zP (g : Fin 24) : FVec F S8x512 .f32 := shapeCast S8x512 (zB w1 w1s wh ww f14 f22 k g) shapeCasts_S8x512_S8x512

/-- Group `g`'s running maxima after the trip, from those before. -/
def zmP (m : Vec F S192x128 .f32) (g : Fin 24) : FVec F S8x128 .f32 :=
  k0_pay29 (zB w1 w1s wh ww f14 f22 k g) ((Memref.whole cc0_scratch12).view.readAt (Elt F) (Rect.unit (s := S192x128) ![8 * g.val, 0] S8x128.size (inb8 g)).toLoadRect m)

/-- The trip's effect on all the running maxima. -/
def zmStep (m : Vec F S192x128 .f32) : Vec F S192x128 .f32 := fun i =>
  zmP w1 w1s wh ww f14 f22 k m ⟨(i 0).val / 8, by have h : (i 0).val < 192 := (i 0).isLt; omega⟩ (ix2 ⟨(i 0).val % 8, by omega⟩ (i 1))

end Values

section Values
variable (w1 : Vec F S8192x2048 .fp8e4m3) (w1s : Vec F S1x2048 .f32) (wh ww : Vec F S3x2048 .bf16)
    (f14 : Vec F S192x8192 .fp8e4m3) (f22 : Vec F S192x128 .f32)

/-- All of `z`. -/
def Z : Vec F S192x2048 .f32 := fun i =>
  zP w1 w1s wh ww f14 f22 ⟨(i 1).val / 512, by have h : (i 1).val < 2048 := (i 1).isLt; rw [trips5]; omega⟩ ⟨(i 0).val / 8, by have h : (i 0).val < 192 := (i 0).isLt; omega⟩
    (ix2 ⟨(i 0).val % 8, by omega⟩ ⟨(i 1).val % 512, by omega⟩)

/-- The running maxima before trip `j`. -/
def ZM : ℕ → Vec F S192x128 .f32
  | 0 => k0_pay194
  | j + 1 => if h : j < k0_t5_loop.trips then zmStep w1 w1s wh ww f14 f22 ⟨j, h⟩ (ZM j) else ZM j

theorem Z_at (k : Fin k0_t5_loop.trips) (g : Fin 24) (x : S8x512.Idx) (i : S192x2048.Idx)
    (h0 : (i 0).val = 8 * g.val + (x 0).val) (h1 : (i 1).val = 512 * k.val + (x 1).val) : Z w1 w1s wh ww f14 f22 i = zP w1 w1s wh ww f14 f22 k g x := by
  have x0 : (x 0).val < 8 := (x 0).isLt
  have x1 : (x 1).val < 512 := (x 1).isLt
  have e : ∀ k' g' x', k' = k → g' = g → x' = x → zP w1 w1s wh ww f14 f22 k' g' x' = zP w1 w1s wh ww f14 f22 k g x := by rintro _ _ _ rfl rfl rfl; rfl
  refine e _ _ _ (Fin.ext ?_) (Fin.ext ?_) (funext fun a => ?_)
  · show (i 1).val / 512 = k.val; omega
  · show (i 0).val / 8 = g.val; omega
  · fin_cases a <;> apply Fin.ext
    · show (i 0).val % 8 = (x 0).val; omega
    · show (i 1).val % 512 = (x 1).val; omega

theorem ZM_at (k : Fin k0_t5_loop.trips) (g : Fin 24) (x : S8x128.Idx) (i : S192x128.Idx)
    (h0 : (i 0).val = 8 * g.val + (x 0).val) (h1 : (i 1).val = (x 1).val) :
    ZM w1 w1s wh ww f14 f22 (k.val + 1) i = zmP w1 w1s wh ww f14 f22 k (ZM w1 w1s wh ww f14 f22 k.val) g x := by
  have x0 : (x 0).val < 8 := (x 0).isLt
  rw [ZM, dif_pos k.isLt]
  have e : ∀ g' x', g' = g → x' = x → zmP w1 w1s wh ww f14 f22 k (ZM w1 w1s wh ww f14 f22 k.val) g' x' = zmP w1 w1s wh ww f14 f22 k (ZM w1 w1s wh ww f14 f22 k.val) g x := by
    rintro _ _ rfl rfl; rfl
  refine e _ _ (Fin.ext ?_) (funext fun a => ?_)
  · show (i 0).val / 8 = g.val; omega
  · fin_cases a <;> apply Fin.ext
    · show (i 0).val % 8 = (x 0).val; omega
    · exact h1

/-- The trip's stores of `z`, last first, -/
def piecesZ (k : Fin k0_t5_loop.trips) : List (View.Piece (Elt F) S192x2048 .f32) :=
  [⟨Rect.unit (s := S192x2048) (k0_off81 k) S8x512.size (k0_off81_inb k), zP w1 w1s wh ww f14 f22 k 23⟩, ⟨Rect.unit (s := S192x2048) (k0_off80 k) S8x512.size (k0_off80_inb k), zP w1 w1s wh ww f14 f22 k 22⟩, ⟨Rect.unit (s := S192x2048) (k0_off79 k) S8x512.size (k0_off79_inb k), zP w1 w1s wh ww f14 f22 k 21⟩, ⟨Rect.unit (s := S192x2048) (k0_off78 k) S8x512.size (k0_off78_inb k), zP w1 w1s wh ww f14 f22 k 20⟩, ⟨Rect.unit (s := S192x2048) (k0_off77 k) S8x512.size (k0_off77_inb k), zP w1 w1s wh ww f14 f22 k 19⟩, ⟨Rect.unit (s := S192x2048) (k0_off76 k) S8x512.size (k0_off76_inb k), zP w1 w1s wh ww f14 f22 k 18⟩, ⟨Rect.unit (s := S192x2048) (k0_off75 k) S8x512.size (k0_off75_inb k), zP w1 w1s wh ww f14 f22 k 17⟩, ⟨Rect.unit (s := S192x2048) (k0_off74 k) S8x512.size (k0_off74_inb k), zP w1 w1s wh ww f14 f22 k 16⟩, ⟨Rect.unit (s := S192x2048) (k0_off73 k) S8x512.size (k0_off73_inb k), zP w1 w1s wh ww f14 f22 k 15⟩, ⟨Rect.unit (s := S192x2048) (k0_off72 k) S8x512.size (k0_off72_inb k), zP w1 w1s wh ww f14 f22 k 14⟩, ⟨Rect.unit (s := S192x2048) (k0_off71 k) S8x512.size (k0_off71_inb k), zP w1 w1s wh ww f14 f22 k 13⟩, ⟨Rect.unit (s := S192x2048) (k0_off70 k) S8x512.size (k0_off70_inb k), zP w1 w1s wh ww f14 f22 k 12⟩, ⟨Rect.unit (s := S192x2048) (k0_off69 k) S8x512.size (k0_off69_inb k), zP w1 w1s wh ww f14 f22 k 11⟩, ⟨Rect.unit (s := S192x2048) (k0_off68 k) S8x512.size (k0_off68_inb k), zP w1 w1s wh ww f14 f22 k 10⟩, ⟨Rect.unit (s := S192x2048) (k0_off67 k) S8x512.size (k0_off67_inb k), zP w1 w1s wh ww f14 f22 k 9⟩, ⟨Rect.unit (s := S192x2048) (k0_off66 k) S8x512.size (k0_off66_inb k), zP w1 w1s wh ww f14 f22 k 8⟩, ⟨Rect.unit (s := S192x2048) (k0_off65 k) S8x512.size (k0_off65_inb k), zP w1 w1s wh ww f14 f22 k 7⟩, ⟨Rect.unit (s := S192x2048) (k0_off64 k) S8x512.size (k0_off64_inb k), zP w1 w1s wh ww f14 f22 k 6⟩, ⟨Rect.unit (s := S192x2048) (k0_off63 k) S8x512.size (k0_off63_inb k), zP w1 w1s wh ww f14 f22 k 5⟩, ⟨Rect.unit (s := S192x2048) (k0_off62 k) S8x512.size (k0_off62_inb k), zP w1 w1s wh ww f14 f22 k 4⟩, ⟨Rect.unit (s := S192x2048) (k0_off61 k) S8x512.size (k0_off61_inb k), zP w1 w1s wh ww f14 f22 k 3⟩, ⟨Rect.unit (s := S192x2048) (k0_off60 k) S8x512.size (k0_off60_inb k), zP w1 w1s wh ww f14 f22 k 2⟩, ⟨Rect.unit (s := S192x2048) (k0_off59 k) S8x512.size (k0_off59_inb k), zP w1 w1s wh ww f14 f22 k 1⟩, ⟨Rect.unit (s := S192x2048) (k0_off58 k) S8x512.size (k0_off58_inb k), zP w1 w1s wh ww f14 f22 k 0⟩]

/-- and of the maxima. -/
def piecesM (k : Fin k0_t5_loop.trips) (m : Vec F S192x128 .f32) : List (View.Piece (Elt F) S192x128 .f32) :=
  [⟨Rect.unit (s := S192x128) ![184, 0] S8x128.size inb_S192x128_S8x128_184_0, zmP w1 w1s wh ww f14 f22 k m 23⟩, ⟨Rect.unit (s := S192x128) ![176, 0] S8x128.size inb_S192x128_S8x128_176_0, zmP w1 w1s wh ww f14 f22 k m 22⟩, ⟨Rect.unit (s := S192x128) ![168, 0] S8x128.size inb_S192x128_S8x128_168_0, zmP w1 w1s wh ww f14 f22 k m 21⟩, ⟨Rect.unit (s := S192x128) ![160, 0] S8x128.size inb_S192x128_S8x128_160_0, zmP w1 w1s wh ww f14 f22 k m 20⟩, ⟨Rect.unit (s := S192x128) ![152, 0] S8x128.size inb_S192x128_S8x128_152_0, zmP w1 w1s wh ww f14 f22 k m 19⟩, ⟨Rect.unit (s := S192x128) ![144, 0] S8x128.size inb_S192x128_S8x128_144_0, zmP w1 w1s wh ww f14 f22 k m 18⟩, ⟨Rect.unit (s := S192x128) ![136, 0] S8x128.size inb_S192x128_S8x128_136_0, zmP w1 w1s wh ww f14 f22 k m 17⟩, ⟨Rect.unit (s := S192x128) ![128, 0] S8x128.size inb_S192x128_S8x128_128_0, zmP w1 w1s wh ww f14 f22 k m 16⟩, ⟨Rect.unit (s := S192x128) ![120, 0] S8x128.size inb_S192x128_S8x128_120_0, zmP w1 w1s wh ww f14 f22 k m 15⟩, ⟨Rect.unit (s := S192x128) ![112, 0] S8x128.size inb_S192x128_S8x128_112_0, zmP w1 w1s wh ww f14 f22 k m 14⟩, ⟨Rect.unit (s := S192x128) ![104, 0] S8x128.size inb_S192x128_S8x128_104_0, zmP w1 w1s wh ww f14 f22 k m 13⟩, ⟨Rect.unit (s := S192x128) ![96, 0] S8x128.size inb_S192x128_S8x128_96_0, zmP w1 w1s wh ww f14 f22 k m 12⟩, ⟨Rect.unit (s := S192x128) ![88, 0] S8x128.size inb_S192x128_S8x128_88_0, zmP w1 w1s wh ww f14 f22 k m 11⟩, ⟨Rect.unit (s := S192x128) ![80, 0] S8x128.size inb_S192x128_S8x128_80_0, zmP w1 w1s wh ww f14 f22 k m 10⟩, ⟨Rect.unit (s := S192x128) ![72, 0] S8x128.size inb_S192x128_S8x128_72_0, zmP w1 w1s wh ww f14 f22 k m 9⟩, ⟨Rect.unit (s := S192x128) ![64, 0] S8x128.size inb_S192x128_S8x128_64_0, zmP w1 w1s wh ww f14 f22 k m 8⟩, ⟨Rect.unit (s := S192x128) ![56, 0] S8x128.size inb_S192x128_S8x128_56_0, zmP w1 w1s wh ww f14 f22 k m 7⟩, ⟨Rect.unit (s := S192x128) ![48, 0] S8x128.size inb_S192x128_S8x128_48_0, zmP w1 w1s wh ww f14 f22 k m 6⟩, ⟨Rect.unit (s := S192x128) ![40, 0] S8x128.size inb_S192x128_S8x128_40_0, zmP w1 w1s wh ww f14 f22 k m 5⟩, ⟨Rect.unit (s := S192x128) ![32, 0] S8x128.size inb_S192x128_S8x128_32_0, zmP w1 w1s wh ww f14 f22 k m 4⟩, ⟨Rect.unit (s := S192x128) ![24, 0] S8x128.size inb_S192x128_S8x128_24_0, zmP w1 w1s wh ww f14 f22 k m 3⟩, ⟨Rect.unit (s := S192x128) ![16, 0] S8x128.size inb_S192x128_S8x128_16_0, zmP w1 w1s wh ww f14 f22 k m 2⟩, ⟨Rect.unit (s := S192x128) ![8, 0] S8x128.size inb_S192x128_S8x128_8_0, zmP w1 w1s wh ww f14 f22 k m 1⟩, ⟨Rect.unit (s := S192x128) ![0, 0] S8x128.size inb_S192x128_S8x128_0_0, zmP w1 w1s wh ww f14 f22 k m 0⟩]

/-- The first `512 k` columns of `z` are there before trip `k`. -/
def okZ (k : ℕ) (f24 : Vec F S192x2048 .f32) : Prop :=
  ∀ i : S192x2048.Idx, (i 1).val < 512 * k → (Memref.whole cc0_scratch11).view.read (Elt F) f24 i = Z w1 w1s wh ww f14 f22 i

theorem okZ_step (k : Fin k0_t5_loop.trips) (f24 : Vec F S192x2048 .f32) (h : okZ w1 w1s wh ww f14 f22 k.val f24) :
    okZ w1 w1s wh ww f14 f22 (k.val + 1) ((Memref.whole cc0_scratch11).view.writes (Elt F) f24 (piecesZ w1 w1s wh ww f14 f22 k)) := by
  intro y hy
  refine fill_step (Memref.whole cc0_scratch11).view f24 (piecesZ w1 w1s wh ww f14 f22 k) (Z w1 w1s wh ww f14 f22) (fun y => (y 1).val < 512 * k.val)
    (fun y => (y 1).val < 512 * (k.val + 1)) ?_ ?_ (fun y hy => h y hy) y hy
  all_goals clear hy y
  · intro p hp
    simp only [piecesZ, List.mem_cons, List.not_mem_nil, or_false] at hp
    rcases hp with rfl | rfl | rfl | rfl | rfl | rfl | rfl | rfl | rfl | rfl | rfl | rfl | rfl | rfl | rfl | rfl | rfl | rfl | rfl | rfl | rfl | rfl | rfl | rfl <;> intro x
    · exact (Z_at w1 w1s wh ww f14 f22 k 23 x _ (emb_at (k0_off81_eq k) (k0_off81_inb k) x 0) (emb_at (k0_off81_eq k) (k0_off81_inb k) x 1)).symm
    · exact (Z_at w1 w1s wh ww f14 f22 k 22 x _ (emb_at (k0_off80_eq k) (k0_off80_inb k) x 0) (emb_at (k0_off80_eq k) (k0_off80_inb k) x 1)).symm
    · exact (Z_at w1 w1s wh ww f14 f22 k 21 x _ (emb_at (k0_off79_eq k) (k0_off79_inb k) x 0) (emb_at (k0_off79_eq k) (k0_off79_inb k) x 1)).symm
    · exact (Z_at w1 w1s wh ww f14 f22 k 20 x _ (emb_at (k0_off78_eq k) (k0_off78_inb k) x 0) (emb_at (k0_off78_eq k) (k0_off78_inb k) x 1)).symm
    · exact (Z_at w1 w1s wh ww f14 f22 k 19 x _ (emb_at (k0_off77_eq k) (k0_off77_inb k) x 0) (emb_at (k0_off77_eq k) (k0_off77_inb k) x 1)).symm
    · exact (Z_at w1 w1s wh ww f14 f22 k 18 x _ (emb_at (k0_off76_eq k) (k0_off76_inb k) x 0) (emb_at (k0_off76_eq k) (k0_off76_inb k) x 1)).symm
    · exact (Z_at w1 w1s wh ww f14 f22 k 17 x _ (emb_at (k0_off75_eq k) (k0_off75_inb k) x 0) (emb_at (k0_off75_eq k) (k0_off75_inb k) x 1)).symm
    · exact (Z_at w1 w1s wh ww f14 f22 k 16 x _ (emb_at (k0_off74_eq k) (k0_off74_inb k) x 0) (emb_at (k0_off74_eq k) (k0_off74_inb k) x 1)).symm
    · exact (Z_at w1 w1s wh ww f14 f22 k 15 x _ (emb_at (k0_off73_eq k) (k0_off73_inb k) x 0) (emb_at (k0_off73_eq k) (k0_off73_inb k) x 1)).symm
    · exact (Z_at w1 w1s wh ww f14 f22 k 14 x _ (emb_at (k0_off72_eq k) (k0_off72_inb k) x 0) (emb_at (k0_off72_eq k) (k0_off72_inb k) x 1)).symm
    · exact (Z_at w1 w1s wh ww f14 f22 k 13 x _ (emb_at (k0_off71_eq k) (k0_off71_inb k) x 0) (emb_at (k0_off71_eq k) (k0_off71_inb k) x 1)).symm
    · exact (Z_at w1 w1s wh ww f14 f22 k 12 x _ (emb_at (k0_off70_eq k) (k0_off70_inb k) x 0) (emb_at (k0_off70_eq k) (k0_off70_inb k) x 1)).symm
    · exact (Z_at w1 w1s wh ww f14 f22 k 11 x _ (emb_at (k0_off69_eq k) (k0_off69_inb k) x 0) (emb_at (k0_off69_eq k) (k0_off69_inb k) x 1)).symm
    · exact (Z_at w1 w1s wh ww f14 f22 k 10 x _ (emb_at (k0_off68_eq k) (k0_off68_inb k) x 0) (emb_at (k0_off68_eq k) (k0_off68_inb k) x 1)).symm
    · exact (Z_at w1 w1s wh ww f14 f22 k 9 x _ (emb_at (k0_off67_eq k) (k0_off67_inb k) x 0) (emb_at (k0_off67_eq k) (k0_off67_inb k) x 1)).symm
    · exact (Z_at w1 w1s wh ww f14 f22 k 8 x _ (emb_at (k0_off66_eq k) (k0_off66_inb k) x 0) (emb_at (k0_off66_eq k) (k0_off66_inb k) x 1)).symm
    · exact (Z_at w1 w1s wh ww f14 f22 k 7 x _ (emb_at (k0_off65_eq k) (k0_off65_inb k) x 0) (emb_at (k0_off65_eq k) (k0_off65_inb k) x 1)).symm
    · exact (Z_at w1 w1s wh ww f14 f22 k 6 x _ (emb_at (k0_off64_eq k) (k0_off64_inb k) x 0) (emb_at (k0_off64_eq k) (k0_off64_inb k) x 1)).symm
    · exact (Z_at w1 w1s wh ww f14 f22 k 5 x _ (emb_at (k0_off63_eq k) (k0_off63_inb k) x 0) (emb_at (k0_off63_eq k) (k0_off63_inb k) x 1)).symm
    · exact (Z_at w1 w1s wh ww f14 f22 k 4 x _ (emb_at (k0_off62_eq k) (k0_off62_inb k) x 0) (emb_at (k0_off62_eq k) (k0_off62_inb k) x 1)).symm
    · exact (Z_at w1 w1s wh ww f14 f22 k 3 x _ (emb_at (k0_off61_eq k) (k0_off61_inb k) x 0) (emb_at (k0_off61_eq k) (k0_off61_inb k) x 1)).symm
    · exact (Z_at w1 w1s wh ww f14 f22 k 2 x _ (emb_at (k0_off60_eq k) (k0_off60_inb k) x 0) (emb_at (k0_off60_eq k) (k0_off60_inb k) x 1)).symm
    · exact (Z_at w1 w1s wh ww f14 f22 k 1 x _ (emb_at (k0_off59_eq k) (k0_off59_inb k) x 0) (emb_at (k0_off59_eq k) (k0_off59_inb k) x 1)).symm
    · exact (Z_at w1 w1s wh ww f14 f22 k 0 x _ (emb_at (k0_off58_eq k) (k0_off58_inb k) x 0) (emb_at (k0_off58_eq k) (k0_off58_inb k) x 1)).symm
  · intro y hy
    change (y 1).val < 512 * (k.val + 1) at hy
    by_cases hlt : (y 1).val < 512 * k.val
    · exact .inl hlt
    · right
      have y0 : (y 0).val < 192 := (y 0).isLt
      have hg : ∃ g : Fin 24, (y 0).val / 8 = g.val := ⟨⟨(y 0).val / 8, by omega⟩, rfl⟩
      obtain ⟨g, hg⟩ := hg
      unfold piecesZ
      fin_cases g
      · replace hg : (y 0).val / 8 = 0 := hg
        exact ⟨_, .tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))), mem_unit2 (k0_off58_eq k) (k0_off58_inb k) y ⟨by omega, by omega⟩ ⟨by omega, by omega⟩⟩
      · replace hg : (y 0).val / 8 = 1 := hg
        exact ⟨_, .tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))), mem_unit2 (k0_off59_eq k) (k0_off59_inb k) y ⟨by omega, by omega⟩ ⟨by omega, by omega⟩⟩
      · replace hg : (y 0).val / 8 = 2 := hg
        exact ⟨_, .tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))), mem_unit2 (k0_off60_eq k) (k0_off60_inb k) y ⟨by omega, by omega⟩ ⟨by omega, by omega⟩⟩
      · replace hg : (y 0).val / 8 = 3 := hg
        exact ⟨_, .tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))), mem_unit2 (k0_off61_eq k) (k0_off61_inb k) y ⟨by omega, by omega⟩ ⟨by omega, by omega⟩⟩
      · replace hg : (y 0).val / 8 = 4 := hg
        exact ⟨_, .tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))), mem_unit2 (k0_off62_eq k) (k0_off62_inb k) y ⟨by omega, by omega⟩ ⟨by omega, by omega⟩⟩
      · replace hg : (y 0).val / 8 = 5 := hg
        exact ⟨_, .tail _ (.tail _ (.tail _ (.tail _ (.tail _ (.tail _ (.tail _ (.tail _ (.tail _ (.tail _ (.tail _ (.tail _ (.tail _ (.tail _ (.tail _ (.tail _ (.tail _ (.tail _ (.head _)))))))))))))))))), mem_unit2 (k0_off63_eq k) (k0_off63_inb k) y ⟨by omega, by omega⟩ ⟨by omega, by omega⟩⟩
      · replace hg : (y 0).val / 8 = 6 := hg
        exact ⟨_, .tail _ (.tail _ (.tail _ (.tail _ (.tail _ (.tail _ (.tail _ (.tail _ (.tail _ (.tail _ (.tail _ (.tail _ (.tail _ (.tail _ (.tail _ (.tail _ (.tail _ (.head _))))))))))))))))), mem_unit2 (k0_off64_eq k) (k0_off64_inb k) y ⟨by omega, by omega⟩ ⟨by omega, by omega⟩⟩
      · replace hg : (y 0).val / 8 = 7 := hg
        exact ⟨_, .tail _ (.tail _ (.tail _ (.tail _ (.tail _ (.tail _ (.tail _ (.tail _ (.tail _ (.tail _ (.tail _ (.tail _ (.tail _ (.tail _ (.tail _ (.tail _ (.head _)))))))))))))))), mem_unit2 (k0_off65_eq k) (k0_off65_inb k) y ⟨by omega, by omega⟩ ⟨by omega, by omega⟩⟩
      · replace hg : (y 0).val / 8 = 8 := hg
        exact ⟨_, .tail _ (.tail _ (.tail _ (.tail _ (.tail _ (.tail _ (.tail _ (.tail _ (.tail _ (.tail _ (.tail _ (.tail _ (.tail _ (.tail _ (.tail _ (.head _))))))))))))))), mem_unit2 (k0_off66_eq k) (k0_off66_inb k) y ⟨by omega, by omega⟩ ⟨by omega, by omega⟩⟩
      · replace hg : (y 0).val / 8 = 9 := hg
        exact ⟨_, .tail _ (.tail _ (.tail _ (.tail _ (.tail _ (.tail _ (.tail _ (.tail _ (.tail _ (.tail _ (.tail _ (.tail _ (.tail _ (.tail _ (.head _)))))))))))))), mem_unit2 (k0_off67_eq k) (k0_off67_inb k) y ⟨by omega, by omega⟩ ⟨by omega, by omega⟩⟩
      · replace hg : (y 0).val / 8 = 10 := hg
        exact ⟨_, .tail _ (.tail _ (.tail _ (.tail _ (.tail _ (.tail _ (.tail _ (.tail _ (.tail _ (.tail _ (.tail _ (.tail _ (.tail _ (.head _))))))))))))), mem_unit2 (k0_off68_eq k) (k0_off68_inb k) y ⟨by omega, by omega⟩ ⟨by omega, by omega⟩⟩
      · replace hg : (y 0).val / 8 = 11 := hg
        exact ⟨_, .tail _ (.tail _ (.tail _ (.tail _ (.tail _ (.tail _ (.tail _ (.tail _ (.tail _ (.tail _ (.tail _ (.tail _ (.head _)))))))))))), mem_unit2 (k0_off69_eq k) (k0_off69_inb k) y ⟨by omega, by omega⟩ ⟨by omega, by omega⟩⟩
      · replace hg : (y 0).val / 8 = 12 := hg
        exact ⟨_, .tail _ (.tail _ (.tail _ (.tail _ (.tail _ (.tail _ (.tail _ (.tail _ (.tail _ (.tail _ (.tail _ (.head _))))))))))), mem_unit2 (k0_off70_eq k) (k0_off70_inb k) y ⟨by omega, by omega⟩ ⟨by omega, by omega⟩⟩
      · replace hg : (y 0).val / 8 = 13 := hg
        exact ⟨_, .tail _ (.tail _ (.tail _ (.tail _ (.tail _ (.tail _ (.tail _ (.tail _ (.tail _ (.tail _ (.head _)))))))))), mem_unit2 (k0_off71_eq k) (k0_off71_inb k) y ⟨by omega, by omega⟩ ⟨by omega, by omega⟩⟩
      · replace hg : (y 0).val / 8 = 14 := hg
        exact ⟨_, .tail _ (.tail _ (.tail _ (.tail _ (.tail _ (.tail _ (.tail _ (.tail _ (.tail _ (.head _))))))))), mem_unit2 (k0_off72_eq k) (k0_off72_inb k) y ⟨by omega, by omega⟩ ⟨by omega, by omega⟩⟩
      · replace hg : (y 0).val / 8 = 15 := hg
        exact ⟨_, .tail _ (.tail _ (.tail _ (.tail _ (.tail _ (.tail _ (.tail _ (.tail _ (.head _)))))))), mem_unit2 (k0_off73_eq k) (k0_off73_inb k) y ⟨by omega, by omega⟩ ⟨by omega, by omega⟩⟩
      · replace hg : (y 0).val / 8 = 16 := hg
        exact ⟨_, .tail _ (.tail _ (.tail _ (.tail _ (.tail _ (.tail _ (.tail _ (.head _))))))), mem_unit2 (k0_off74_eq k) (k0_off74_inb k) y ⟨by omega, by omega⟩ ⟨by omega, by omega⟩⟩
      · replace hg : (y 0).val / 8 = 17 := hg
        exact ⟨_, .tail _ (.tail _ (.tail _ (.tail _ (.tail _ (.tail _ (.head _)))))), mem_unit2 (k0_off75_eq k) (k0_off75_inb k) y ⟨by omega, by omega⟩ ⟨by omega, by omega⟩⟩
      · replace hg : (y 0).val / 8 = 18 := hg
        exact ⟨_, .tail _ (.tail _ (.tail _ (.tail _ (.tail _ (.head _))))), mem_unit2 (k0_off76_eq k) (k0_off76_inb k) y ⟨by omega, by omega⟩ ⟨by omega, by omega⟩⟩
      · replace hg : (y 0).val / 8 = 19 := hg
        exact ⟨_, .tail _ (.tail _ (.tail _ (.tail _ (.head _)))), mem_unit2 (k0_off77_eq k) (k0_off77_inb k) y ⟨by omega, by omega⟩ ⟨by omega, by omega⟩⟩
      · replace hg : (y 0).val / 8 = 20 := hg
        exact ⟨_, .tail _ (.tail _ (.tail _ (.head _))), mem_unit2 (k0_off78_eq k) (k0_off78_inb k) y ⟨by omega, by omega⟩ ⟨by omega, by omega⟩⟩
      · replace hg : (y 0).val / 8 = 21 := hg
        exact ⟨_, .tail _ (.tail _ (.head _)), mem_unit2 (k0_off79_eq k) (k0_off79_inb k) y ⟨by omega, by omega⟩ ⟨by omega, by omega⟩⟩
      · replace hg : (y 0).val / 8 = 22 := hg
        exact ⟨_, .tail _ (.head _), mem_unit2 (k0_off80_eq k) (k0_off80_inb k) y ⟨by omega, by omega⟩ ⟨by omega, by omega⟩⟩
      · replace hg : (y 0).val / 8 = 23 := hg
        exact ⟨_, .head _, mem_unit2 (k0_off81_eq k) (k0_off81_inb k) y ⟨by omega, by omega⟩ ⟨by omega, by omega⟩⟩

theorem okM_step (k : Fin k0_t5_loop.trips) :
    (Memref.whole cc0_scratch12).view.writes (Elt F) (ZM w1 w1s wh ww f14 f22 k.val) (piecesM w1 w1s wh ww f14 f22 k (ZM w1 w1s wh ww f14 f22 k.val))
      = ZM w1 w1s wh ww f14 f22 (k.val + 1) := by
  refine funext fun y => fill_step (Memref.whole cc0_scratch12).view _ (piecesM w1 w1s wh ww f14 f22 k (ZM w1 w1s wh ww f14 f22 k.val)) (ZM w1 w1s wh ww f14 f22 (k.val + 1))
    (fun _ => False) (fun _ => True) ?_ ?_ (fun y hy => hy.elim) y trivial
  · intro p hp
    simp only [piecesM, List.mem_cons, List.not_mem_nil, or_false] at hp
    rcases hp with rfl | rfl | rfl | rfl | rfl | rfl | rfl | rfl | rfl | rfl | rfl | rfl | rfl | rfl | rfl | rfl | rfl | rfl | rfl | rfl | rfl | rfl | rfl | rfl <;> intro x
    · exact (ZM_at w1 w1s wh ww f14 f22 k 23 x _ (emb_at (o' := ![184, 0]) rfl inb_S192x128_S8x128_184_0 x 0) ((emb_at (o' := ![184, 0]) rfl inb_S192x128_S8x128_184_0 x 1).trans (Nat.zero_add _))).symm
    · exact (ZM_at w1 w1s wh ww f14 f22 k 22 x _ (emb_at (o' := ![176, 0]) rfl inb_S192x128_S8x128_176_0 x 0) ((emb_at (o' := ![176, 0]) rfl inb_S192x128_S8x128_176_0 x 1).trans (Nat.zero_add _))).symm
    · exact (ZM_at w1 w1s wh ww f14 f22 k 21 x _ (emb_at (o' := ![168, 0]) rfl inb_S192x128_S8x128_168_0 x 0) ((emb_at (o' := ![168, 0]) rfl inb_S192x128_S8x128_168_0 x 1).trans (Nat.zero_add _))).symm
    · exact (ZM_at w1 w1s wh ww f14 f22 k 20 x _ (emb_at (o' := ![160, 0]) rfl inb_S192x128_S8x128_160_0 x 0) ((emb_at (o' := ![160, 0]) rfl inb_S192x128_S8x128_160_0 x 1).trans (Nat.zero_add _))).symm
    · exact (ZM_at w1 w1s wh ww f14 f22 k 19 x _ (emb_at (o' := ![152, 0]) rfl inb_S192x128_S8x128_152_0 x 0) ((emb_at (o' := ![152, 0]) rfl inb_S192x128_S8x128_152_0 x 1).trans (Nat.zero_add _))).symm
    · exact (ZM_at w1 w1s wh ww f14 f22 k 18 x _ (emb_at (o' := ![144, 0]) rfl inb_S192x128_S8x128_144_0 x 0) ((emb_at (o' := ![144, 0]) rfl inb_S192x128_S8x128_144_0 x 1).trans (Nat.zero_add _))).symm
    · exact (ZM_at w1 w1s wh ww f14 f22 k 17 x _ (emb_at (o' := ![136, 0]) rfl inb_S192x128_S8x128_136_0 x 0) ((emb_at (o' := ![136, 0]) rfl inb_S192x128_S8x128_136_0 x 1).trans (Nat.zero_add _))).symm
    · exact (ZM_at w1 w1s wh ww f14 f22 k 16 x _ (emb_at (o' := ![128, 0]) rfl inb_S192x128_S8x128_128_0 x 0) ((emb_at (o' := ![128, 0]) rfl inb_S192x128_S8x128_128_0 x 1).trans (Nat.zero_add _))).symm
    · exact (ZM_at w1 w1s wh ww f14 f22 k 15 x _ (emb_at (o' := ![120, 0]) rfl inb_S192x128_S8x128_120_0 x 0) ((emb_at (o' := ![120, 0]) rfl inb_S192x128_S8x128_120_0 x 1).trans (Nat.zero_add _))).symm
    · exact (ZM_at w1 w1s wh ww f14 f22 k 14 x _ (emb_at (o' := ![112, 0]) rfl inb_S192x128_S8x128_112_0 x 0) ((emb_at (o' := ![112, 0]) rfl inb_S192x128_S8x128_112_0 x 1).trans (Nat.zero_add _))).symm
    · exact (ZM_at w1 w1s wh ww f14 f22 k 13 x _ (emb_at (o' := ![104, 0]) rfl inb_S192x128_S8x128_104_0 x 0) ((emb_at (o' := ![104, 0]) rfl inb_S192x128_S8x128_104_0 x 1).trans (Nat.zero_add _))).symm
    · exact (ZM_at w1 w1s wh ww f14 f22 k 12 x _ (emb_at (o' := ![96, 0]) rfl inb_S192x128_S8x128_96_0 x 0) ((emb_at (o' := ![96, 0]) rfl inb_S192x128_S8x128_96_0 x 1).trans (Nat.zero_add _))).symm
    · exact (ZM_at w1 w1s wh ww f14 f22 k 11 x _ (emb_at (o' := ![88, 0]) rfl inb_S192x128_S8x128_88_0 x 0) ((emb_at (o' := ![88, 0]) rfl inb_S192x128_S8x128_88_0 x 1).trans (Nat.zero_add _))).symm
    · exact (ZM_at w1 w1s wh ww f14 f22 k 10 x _ (emb_at (o' := ![80, 0]) rfl inb_S192x128_S8x128_80_0 x 0) ((emb_at (o' := ![80, 0]) rfl inb_S192x128_S8x128_80_0 x 1).trans (Nat.zero_add _))).symm
    · exact (ZM_at w1 w1s wh ww f14 f22 k 9 x _ (emb_at (o' := ![72, 0]) rfl inb_S192x128_S8x128_72_0 x 0) ((emb_at (o' := ![72, 0]) rfl inb_S192x128_S8x128_72_0 x 1).trans (Nat.zero_add _))).symm
    · exact (ZM_at w1 w1s wh ww f14 f22 k 8 x _ (emb_at (o' := ![64, 0]) rfl inb_S192x128_S8x128_64_0 x 0) ((emb_at (o' := ![64, 0]) rfl inb_S192x128_S8x128_64_0 x 1).trans (Nat.zero_add _))).symm
    · exact (ZM_at w1 w1s wh ww f14 f22 k 7 x _ (emb_at (o' := ![56, 0]) rfl inb_S192x128_S8x128_56_0 x 0) ((emb_at (o' := ![56, 0]) rfl inb_S192x128_S8x128_56_0 x 1).trans (Nat.zero_add _))).symm
    · exact (ZM_at w1 w1s wh ww f14 f22 k 6 x _ (emb_at (o' := ![48, 0]) rfl inb_S192x128_S8x128_48_0 x 0) ((emb_at (o' := ![48, 0]) rfl inb_S192x128_S8x128_48_0 x 1).trans (Nat.zero_add _))).symm
    · exact (ZM_at w1 w1s wh ww f14 f22 k 5 x _ (emb_at (o' := ![40, 0]) rfl inb_S192x128_S8x128_40_0 x 0) ((emb_at (o' := ![40, 0]) rfl inb_S192x128_S8x128_40_0 x 1).trans (Nat.zero_add _))).symm
    · exact (ZM_at w1 w1s wh ww f14 f22 k 4 x _ (emb_at (o' := ![32, 0]) rfl inb_S192x128_S8x128_32_0 x 0) ((emb_at (o' := ![32, 0]) rfl inb_S192x128_S8x128_32_0 x 1).trans (Nat.zero_add _))).symm
    · exact (ZM_at w1 w1s wh ww f14 f22 k 3 x _ (emb_at (o' := ![24, 0]) rfl inb_S192x128_S8x128_24_0 x 0) ((emb_at (o' := ![24, 0]) rfl inb_S192x128_S8x128_24_0 x 1).trans (Nat.zero_add _))).symm
    · exact (ZM_at w1 w1s wh ww f14 f22 k 2 x _ (emb_at (o' := ![16, 0]) rfl inb_S192x128_S8x128_16_0 x 0) ((emb_at (o' := ![16, 0]) rfl inb_S192x128_S8x128_16_0 x 1).trans (Nat.zero_add _))).symm
    · exact (ZM_at w1 w1s wh ww f14 f22 k 1 x _ (emb_at (o' := ![8, 0]) rfl inb_S192x128_S8x128_8_0 x 0) ((emb_at (o' := ![8, 0]) rfl inb_S192x128_S8x128_8_0 x 1).trans (Nat.zero_add _))).symm
    · exact (ZM_at w1 w1s wh ww f14 f22 k 0 x _ (emb_at (o' := ![0, 0]) rfl inb_S192x128_S8x128_0_0 x 0) ((emb_at (o' := ![0, 0]) rfl inb_S192x128_S8x128_0_0 x 1).trans (Nat.zero_add _))).symm
  · intro y _
    right
    have y0 : (y 0).val < 192 := (y 0).isLt
    have y1 : (y 1).val < 128 := (y 1).isLt
    have hg : ∃ g : Fin 24, (y 0).val / 8 = g.val := ⟨⟨(y 0).val / 8, by omega⟩, rfl⟩
    obtain ⟨g, hg⟩ := hg
    unfold piecesM
    fin_cases g
    · replace hg : (y 0).val / 8 = 0 := hg
      exact ⟨_, .tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))), mem_unit2 rfl inb_S192x128_S8x128_0_0 y ⟨by omega, by omega⟩ ⟨by omega, by omega⟩⟩
    · replace hg : (y 0).val / 8 = 1 := hg
      exact ⟨_, .tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))), mem_unit2 rfl inb_S192x128_S8x128_8_0 y ⟨by omega, by omega⟩ ⟨by omega, by omega⟩⟩
    · replace hg : (y 0).val / 8 = 2 := hg
      exact ⟨_, .tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))), mem_unit2 rfl inb_S192x128_S8x128_16_0 y ⟨by omega, by omega⟩ ⟨by omega, by omega⟩⟩
    · replace hg : (y 0).val / 8 = 3 := hg
      exact ⟨_, .tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))), mem_unit2 rfl inb_S192x128_S8x128_24_0 y ⟨by omega, by omega⟩ ⟨by omega, by omega⟩⟩
    · replace hg : (y 0).val / 8 = 4 := hg
      exact ⟨_, .tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))), mem_unit2 rfl inb_S192x128_S8x128_32_0 y ⟨by omega, by omega⟩ ⟨by omega, by omega⟩⟩
    · replace hg : (y 0).val / 8 = 5 := hg
      exact ⟨_, .tail _ (.tail _ (.tail _ (.tail _ (.tail _ (.tail _ (.tail _ (.tail _ (.tail _ (.tail _ (.tail _ (.tail _ (.tail _ (.tail _ (.tail _ (.tail _ (.tail _ (.tail _ (.head _)))))))))))))))))), mem_unit2 rfl inb_S192x128_S8x128_40_0 y ⟨by omega, by omega⟩ ⟨by omega, by omega⟩⟩
    · replace hg : (y 0).val / 8 = 6 := hg
      exact ⟨_, .tail _ (.tail _ (.tail _ (.tail _ (.tail _ (.tail _ (.tail _ (.tail _ (.tail _ (.tail _ (.tail _ (.tail _ (.tail _ (.tail _ (.tail _ (.tail _ (.tail _ (.head _))))))))))))))))), mem_unit2 rfl inb_S192x128_S8x128_48_0 y ⟨by omega, by omega⟩ ⟨by omega, by omega⟩⟩
    · replace hg : (y 0).val / 8 = 7 := hg
      exact ⟨_, .tail _ (.tail _ (.tail _ (.tail _ (.tail _ (.tail _ (.tail _ (.tail _ (.tail _ (.tail _ (.tail _ (.tail _ (.tail _ (.tail _ (.tail _ (.tail _ (.head _)))))))))))))))), mem_unit2 rfl inb_S192x128_S8x128_56_0 y ⟨by omega, by omega⟩ ⟨by omega, by omega⟩⟩
    · replace hg : (y 0).val / 8 = 8 := hg
      exact ⟨_, .tail _ (.tail _ (.tail _ (.tail _ (.tail _ (.tail _ (.tail _ (.tail _ (.tail _ (.tail _ (.tail _ (.tail _ (.tail _ (.tail _ (.tail _ (.head _))))))))))))))), mem_unit2 rfl inb_S192x128_S8x128_64_0 y ⟨by omega, by omega⟩ ⟨by omega, by omega⟩⟩
    · replace hg : (y 0).val / 8 = 9 := hg
      exact ⟨_, .tail _ (.tail _ (.tail _ (.tail _ (.tail _ (.tail _ (.tail _ (.tail _ (.tail _ (.tail _ (.tail _ (.tail _ (.tail _ (.tail _ (.head _)))))))))))))), mem_unit2 rfl inb_S192x128_S8x128_72_0 y ⟨by omega, by omega⟩ ⟨by omega, by omega⟩⟩
    · replace hg : (y 0).val / 8 = 10 := hg
      exact ⟨_, .tail _ (.tail _ (.tail _ (.tail _ (.tail _ (.tail _ (.tail _ (.tail _ (.tail _ (.tail _ (.tail _ (.tail _ (.tail _ (.head _))))))))))))), mem_unit2 rfl inb_S192x128_S8x128_80_0 y ⟨by omega, by omega⟩ ⟨by omega, by omega⟩⟩
    · replace hg : (y 0).val / 8 = 11 := hg
      exact ⟨_, .tail _ (.tail _ (.tail _ (.tail _ (.tail _ (.tail _ (.tail _ (.tail _ (.tail _ (.tail _ (.tail _ (.tail _ (.head _)))))))))))), mem_unit2 rfl inb_S192x128_S8x128_88_0 y ⟨by omega, by omega⟩ ⟨by omega, by omega⟩⟩
    · replace hg : (y 0).val / 8 = 12 := hg
      exact ⟨_, .tail _ (.tail _ (.tail _ (.tail _ (.tail _ (.tail _ (.tail _ (.tail _ (.tail _ (.tail _ (.tail _ (.head _))))))))))), mem_unit2 rfl inb_S192x128_S8x128_96_0 y ⟨by omega, by omega⟩ ⟨by omega, by omega⟩⟩
    · replace hg : (y 0).val / 8 = 13 := hg
      exact ⟨_, .tail _ (.tail _ (.tail _ (.tail _ (.tail _ (.tail _ (.tail _ (.tail _ (.tail _ (.tail _ (.head _)))))))))), mem_unit2 rfl inb_S192x128_S8x128_104_0 y ⟨by omega, by omega⟩ ⟨by omega, by omega⟩⟩
    · replace hg : (y 0).val / 8 = 14 := hg
      exact ⟨_, .tail _ (.tail _ (.tail _ (.tail _ (.tail _ (.tail _ (.tail _ (.tail _ (.tail _ (.head _))))))))), mem_unit2 rfl inb_S192x128_S8x128_112_0 y ⟨by omega, by omega⟩ ⟨by omega, by omega⟩⟩
    · replace hg : (y 0).val / 8 = 15 := hg
      exact ⟨_, .tail _ (.tail _ (.tail _ (.tail _ (.tail _ (.tail _ (.tail _ (.tail _ (.head _)))))))), mem_unit2 rfl inb_S192x128_S8x128_120_0 y ⟨by omega, by omega⟩ ⟨by omega, by omega⟩⟩
    · replace hg : (y 0).val / 8 = 16 := hg
      exact ⟨_, .tail _ (.tail _ (.tail _ (.tail _ (.tail _ (.tail _ (.tail _ (.head _))))))), mem_unit2 rfl inb_S192x128_S8x128_128_0 y ⟨by omega, by omega⟩ ⟨by omega, by omega⟩⟩
    · replace hg : (y 0).val / 8 = 17 := hg
      exact ⟨_, .tail _ (.tail _ (.tail _ (.tail _ (.tail _ (.tail _ (.head _)))))), mem_unit2 rfl inb_S192x128_S8x128_136_0 y ⟨by omega, by omega⟩ ⟨by omega, by omega⟩⟩
    · replace hg : (y 0).val / 8 = 18 := hg
      exact ⟨_, .tail _ (.tail _ (.tail _ (.tail _ (.tail _ (.head _))))), mem_unit2 rfl inb_S192x128_S8x128_144_0 y ⟨by omega, by omega⟩ ⟨by omega, by omega⟩⟩
    · replace hg : (y 0).val / 8 = 19 := hg
      exact ⟨_, .tail _ (.tail _ (.tail _ (.tail _ (.head _)))), mem_unit2 rfl inb_S192x128_S8x128_152_0 y ⟨by omega, by omega⟩ ⟨by omega, by omega⟩⟩
    · replace hg : (y 0).val / 8 = 20 := hg
      exact ⟨_, .tail _ (.tail _ (.tail _ (.head _))), mem_unit2 rfl inb_S192x128_S8x128_160_0 y ⟨by omega, by omega⟩ ⟨by omega, by omega⟩⟩
    · replace hg : (y 0).val / 8 = 21 := hg
      exact ⟨_, .tail _ (.tail _ (.head _)), mem_unit2 rfl inb_S192x128_S8x128_168_0 y ⟨by omega, by omega⟩ ⟨by omega, by omega⟩⟩
    · replace hg : (y 0).val / 8 = 22 := hg
      exact ⟨_, .tail _ (.head _), mem_unit2 rfl inb_S192x128_S8x128_176_0 y ⟨by omega, by omega⟩ ⟨by omega, by omega⟩⟩
    · replace hg : (y 0).val / 8 = 23 := hg
      exact ⟨_, .head _, mem_unit2 rfl inb_S192x128_S8x128_184_0 y ⟨by omega, by omega⟩ ⟨by omega, by omega⟩⟩

end Values

/-- Before trip `k` of the first matrix product's loop. -/
def iZ (c : Dev nD) (q1 : PosShare TreeShare) (w1 : Vec F S8192x2048 .fp8e4m3) (w1s : Vec F S1x2048 .f32) (wh ww : Vec F S3x2048 .bf16)
    (f14 : Vec F S192x8192 .fp8e4m3) (f22 : Vec F S192x128 .f32) (k : ℕ) (_ : PUnit) : sProp 𝕄 :=
  iprop(Ring.AtW (ΦW1 c w1) (stN 2 1 k) ∗ ((Memref.whole cc0_scratch1).view.loc (c : Th) ↦{q1} f14) ∗ ((Memref.whole cc0_scratch9).view.loc (c : Th) ↦{fullShare} f22) ∗ ((Memref.whole cc0_scratch3).view.loc (c : Th) ↦{fullShare} w1s) ∗ ((Memref.whole cc0_scratch4).view.loc (c : Th) ↦{fullShare} wh) ∗ ((Memref.whole cc0_scratch5).view.loc (c : Th) ↦{fullShare} ww)
    ∗ (∃ f24, ⌜okZ w1 w1s wh ww f14 f22 k f24⌝ ∗ ((Memref.whole cc0_scratch11).view.loc (c : Th) ↦{fullShare} f24)) ∗ (∃ f25, ⌜f25 = ZM w1 w1s wh ww f14 f22 k⌝ ∗ ((Memref.whole cc0_scratch12).view.loc (c : Th) ↦{fullShare} f25)) ∗ ∃ W, owes (c : Th) 0 W)

set_option maxHeartbeats 1000000 in
set_option warn.classDefReducibility false in
def invZ (c : Dev nD) (q1 : PosShare TreeShare) (v54 : IVec S8x128 32) (v87 : Vec F S8x128 .f32) (v88 : IVec S8x128 32) (w1 : Vec F S8192x2048 .fp8e4m3) (w1s : Vec F S1x2048 .f32) (wh ww : Vec F S3x2048 .bf16)
    (f14 : Vec F S192x8192 .fp8e4m3) (f22 : Vec F S192x128 .f32) :
    LoopInv (M := 𝕄) frame (wpE (defs₀ (F := F)) Variants.none (c : Th) none) Set.univ k0_t5_loop.lb k0_t5_loop.ub k0_t5_loop.st k0_t5_ok ()
      (k0_t5_body (F := F) (Memref.whole main_v1) (iw _) (Memref.whole main_arg1) (iw _) (Memref.whole main_v2) (iw _) (Memref.whole main_arg3) (iw _) (Memref.whole main_arg4) (iw _) (Memref.whole main_arg5) (iw _) (Memref.whole main_v3) (iw _) (Memref.whole main_v4) (iw _) (Memref.whole main_v5_0) (iw _) (Memref.whole main_v5_1) (iw _) (Memref.whole main_v5_2) (iw _) (Memref.whole main_v5_3) (iw _) (Memref.whole main_v5_4) (iw _) (Memref.whole cc0_scratch0) (iw _) (Memref.whole cc0_scratch1) (iw _) (Memref.whole cc0_scratch2) (iw _) (Memref.whole cc0_scratch3) (iw _) (Memref.whole cc0_scratch4) (iw _) (Memref.whole cc0_scratch5) (iw _) (Memref.whole cc0_scratch6) (iw _) (Memref.whole cc0_scratch7) (iw _) (Memref.whole cc0_scratch8) (iw _) (Memref.whole cc0_scratch9) (iw _) (Memref.whole cc0_scratch10) (iw _) (Memref.whole cc0_scratch11) (iw _) (Memref.whole cc0_scratch12) (iw _) (Memref.whole cc0_scratch13) (iw _) (Memref.whole cc0_scratch14) (iw _) (Memref.whole cc0_scratch15) (iw _) (Memref.whole cc0_scratch16) (iw _) cc0_scratch17 cc0_scratch18 cc0_scratch19 cc0_scratch20 cc0_scratch21 cc0_scratch22 cc0_scratch23 cc0_scratch24 cc0_scratch25 cc0_scratch26 cc0_scratch27 cc0_scratch28 cc0_scratch29 v54 v87 v88) where
  inv k _ := iprop(Ring.AtW (ΦW1 c w1) (stN 2 1 k) ∗ ((Memref.whole cc0_scratch1).view.loc (c : Th) ↦{q1} f14) ∗ ((Memref.whole cc0_scratch9).view.loc (c : Th) ↦{fullShare} f22) ∗ ((Memref.whole cc0_scratch3).view.loc (c : Th) ↦{fullShare} w1s) ∗ ((Memref.whole cc0_scratch4).view.loc (c : Th) ↦{fullShare} wh) ∗ ((Memref.whole cc0_scratch5).view.loc (c : Th) ↦{fullShare} ww)
    ∗ (∃ f24, ⌜okZ w1 w1s wh ww f14 f22 k f24⌝ ∗ ((Memref.whole cc0_scratch11).view.loc (c : Th) ↦{fullShare} f24)) ∗ (∃ f25, ⌜f25 = ZM w1 w1s wh ww f14 f22 k⌝ ∗ ((Memref.whole cc0_scratch12).view.loc (c : Th) ↦{fullShare} f25)) ∗ ∃ W, owes (c : Th) 0 W)
  step k _ := by
    have hs := stN_succ 2 1 (ixW1w k)
    rw [show (ixW1w k).val = k.val from rfl] at hs
    rw [← hs, Ring.AtW_focus (ΦW1 c w1) (stN 2 1 k.val) (ixW1w k), AtW_put (ΦW1 c w1) (stN 2 1 k.val) (ixW1w k) 2, stN_self 2 1 (ixW1w k),
      ΦW1_at_w, ΦoW1_1, ΦW1_at_w, ΦoW1_2]
    iintro ⟨⟨⟨Hs, Htok⟩, Hrest⟩, H14, H22, H16, H17, H18, ⟨%f24, %h24, H24⟩, ⟨%f25, %h25, H25⟩, %W, HO⟩
    unfold k0_t5_body
    sl_exec
    sl_step
    isplitl [Hs Htok Hs_dst Hrest]
    · isplitl [Hs Htok Hs_dst]
      · isplitl [Hs]
        · iexact Hs
        isplitl [Hs_dst]
        · iexact Hs_dst
        iexact Htok
      iexact Hrest
    isplitl [H14]
    · iexact H14
    isplitl [H22]
    · iexact H22
    isplitl [H16]
    · iexact H16
    isplitl [H17]
    · iexact H17
    isplitl [H18]
    · iexact H18
    isplitl [H24]
    · iexists _
      isplitr
      swap
      · iexact H24
      · ipureintro
        exact okZ_step w1 w1s wh ww f14 f22 k f24 h24
    isplitl [H25]
    · iexists _
      isplitr
      swap
      · iexact H25
      · ipureintro
        subst h25
        exact okM_step w1 w1s wh ww f14 f22 k
    iexists _
    iexact HO

end Cert.KernelIdeal.Hand
-- ==== Proof.KernelIdealHand.L6.lean ====
module

public import proofs.«01_k».proof.Proof.KernelIdealHand.L5

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The proof's user algebra: the pipeline library's beside the transfers' counters. -/
local notation "𝕄" => MT nD τ sig Unit (Elt F) ℕ (Pipeline.UD sig nD τ) ℕ

/-! ## The second product: what loop `t6` computes and copies out -/

/-- A block of the staging buffer of `y`, -/
def slotY (o : Fin 4 → Nat) (h : ∀ a, o a + S1x24x8x1024.size a ≤ S7x24x8x1024.size a) : Memref sig .tc .vmem S24x8x1024 .bf16 :=
  ((Memref.whole cc0_scratch16).slice (Rect.unit (s := S7x24x8x1024) o S1x24x8x1024.size h) (fun _ => rfl)).squeeze S24x8x1024 squeezes_S1x24x8x1024_S24x8x1024

/-- and the block of `y` it is copied to. -/
def dstY (o : Fin 3 → Nat) (h : ∀ a, o a + S24x8x1024.size a ≤ S24x8x7168.size a) : Memref sig .tc .hbm S24x8x1024 .bf16 :=
  (Memref.whole main_v5_0).slice (Rect.unit (s := S24x8x7168) o S24x8x1024.size h) (fun _ => rfl)

theorem slotY_set (o : Fin 4 → Nat) (h : ∀ a, o a + S1x24x8x1024.size a ≤ S7x24x8x1024.size a) :
    (slotY o h).view.set = (Rect.unit (s := S7x24x8x1024) o S1x24x8x1024.size h).set := by
  unfold slotY; exact (View.set_reshape _ _).trans (View.set_slice_whole _ _)

theorem dstY_set (o : Fin 3 → Nat) (h : ∀ a, o a + S24x8x1024.size a ≤ S24x8x7168.size a) :
    (dstY o h).view.set = (Rect.unit (s := S24x8x7168) o S24x8x1024.size h).set := by
  unfold dstY; exact View.set_slice_whole _ _

/-- A group of a block lies in the block. -/
theorem inY {o o' : Fin 4 → Nat} {k g : ℕ} (ho : o = ![k, g, 0, 0]) (ho' : o' = ![k, 0, 0, 0]) (hg : g + 1 ≤ 24)
    (h : ∀ a, o a + S1x1x8x1024.size a ≤ S7x24x8x1024.size a) (h' : ∀ a, o' a + S1x24x8x1024.size a ≤ S7x24x8x1024.size a) :
    (Rect.unit (s := S7x24x8x1024) o S1x1x8x1024.size h).set ≤ (slotY o' h').view.set := by
  subst ho ho'
  rw [slotY_set]
  intro y hy
  rw [Rect.mem_set_unit] at hy ⊢
  intro a
  have := hy a
  fin_cases a
  · exact this
  · have t : g ≤ (y 1).val ∧ (y 1).val < g + 1 := this
    show 0 ≤ (y 1).val ∧ (y 1).val < 0 + 24
    omega
  · exact this
  · exact this

theorem inYa {o o' : Fin 4 → Nat} {k g : ℕ} (ho : o = ![k, g, 0, 0]) (ho' : o' = ![k, 0, 0, 0]) (hg : g + 1 ≤ 24)
    (h : ∀ a, o a + S1x1x8x1024.size a ≤ S7x24x8x1024.size a) (h' : ∀ a, o' a + S1x24x8x1024.size a ≤ S7x24x8x1024.size a) :
    LE.le (α := Finset (slotY o' h').view.ty.Idx) ((Memref.whole cc0_scratch16).access (Rect.unit (s := S7x24x8x1024) o S1x1x8x1024.size h)).set (slotY o' h').view.set :=
  (View.set_slice_whole _ _).trans_le (inY ho ho' hg h h')

theorem inYs {o o' : Fin 4 → Nat} {k g : ℕ} (ho : o = ![k, g, 0, 0]) (ho' : o' = ![k, 0, 0, 0]) (hg : g + 1 ≤ 24)
    (h : ∀ a, o a + S1x1x8x1024.size a ≤ S7x24x8x1024.size a) (h' : ∀ a, o' a + S1x24x8x1024.size a ≤ S7x24x8x1024.size a) :
    LE.le (α := Finset (slotY o' h').view.ty.Idx) (((Memref.whole cc0_scratch16).access (Rect.unit (s := S7x24x8x1024) o S1x1x8x1024.size h)).setOn Finset.univ) (slotY o' h').view.set :=
  inYa ho ho' hg h h'

theorem headY {n : ℕ} (Φ : Fin n → sProp 𝕄) (k : Fin n) :
    bigSep (Ring.rangeSet n k.val n) Φ = iprop(Φ k ∗ bigSep (Ring.rangeSet n (k.val + 1) n) Φ) :=
  Ring.bigSep_rangeSet_head k.isLt k.isLt

theorem trips6 : k0_t6_loop.trips = 7 := by decide +kernel

theorem slicesY8 (g : Fin 24) : S192x1024.Slices ![8 * g.val, 0] S8x1024 := by revert g; decide

section Values
variable (w2 : Vec F S2048x7168 .fp8e4m3) (w2s b2 : Vec F S1x7168 .f32) (f26 : Vec F S192x2048 .fp8e4m3) (f27 : Vec F S192x128 .f32) (k : Fin k0_t6_loop.trips)

/-- The trip's product. -/
def mY : FVec F S192x1024 .f32 :=
  k0_pay155 ((Memref.whole cc0_scratch13).view.readAt (Elt F) (Rect.unit (s := S192x2048) ![0, 0] S192x2048.size inb_S192x2048_S192x2048_0_0).toLoadRect f26)
    ((Memref.whole cc0_scratch6).view.readAt (Elt F) (Rect.unit (s := S7x2048x1024) (k0_off85 k) S1x2048x1024.size (k0_off85_inb k)).toLoadRect (gW2 w2))

/-- The trip's columns of the scales of `w2` and of the bias. -/
def w2sL : Vec F S1x1024 .f32 := ((Memref.whole cc0_scratch7).view.readAt (Elt F) (Rect.unit (s := S1x7168) (k0_off86 k) S1x1024.size (k0_off86_inb k)).toLoadRect w2s)
def b2L : Vec F S1x1024 .f32 := ((Memref.whole cc0_scratch8).view.readAt (Elt F) (Rect.unit (s := S1x7168) (k0_off86 k) S1x1024.size (k0_off86_inb k)).toLoadRect b2)

/-- Group `g`'s scales of `z`. -/
def syL (g : Fin 24) : Vec F S8x128 .f32 := ((Memref.whole cc0_scratch14).view.readAt (Elt F) (Rect.unit (s := S192x128) ![8 * g.val, 0] S8x128.size (inb8 g)).toLoadRect f27)

/-- Group `g` of the trip's columns of `y`, -/
def yB (g : Fin 24) : FVec F S8x1024 .bf16 :=
  truncf .bf16 (addf (mulf (mulf (extractStridedSlice S8x1024 ![8 * g.val, 0] (mY w2 f26 k) (slicesY8 g))
      (concatenate S8x1024 1 [⟨S8x128, syL f27 g⟩, ⟨S8x128, syL f27 g⟩, ⟨S8x128, syL f27 g⟩, ⟨S8x128, syL f27 g⟩, ⟨S8x128, syL f27 g⟩, ⟨S8x128, syL f27 g⟩, ⟨S8x128, syL f27 g⟩, ⟨S8x128, syL f27 g⟩]
        concatenates_S8x128_S8x128_S8x128_S8x128_S8x128_S8x128_S8x128_S8x128_S8x1024_d1))
      (broadcastTo S8x1024 (w2sL w2s k) broadcasts_S1x1024_S8x1024)) (broadcastTo S8x1024 (b2L b2 k) broadcasts_S1x1024_S8x1024)) bitsLt_bf16_f32

/-- as it is stored. -/
def yP (g : Fin 24) : FVec F S1x1x8x1024 .bf16 := shapeCast S1x1x8x1024 (yB w2 w2s b2 f26 f27 k g) shapeCasts_S8x1024_S1x1x8x1024

end Values

section Values
variable (w2 : Vec F S2048x7168 .fp8e4m3) (w2s b2 : Vec F S1x7168 .f32) (f26 : Vec F S192x2048 .fp8e4m3) (f27 : Vec F S192x128 .f32)

/-- All of the staging buffer, -/
def YV : Vec F S7x24x8x1024 .bf16 := fun i =>
  yP w2 w2s b2 f26 f27 ⟨(i 0).val, by have h : (i 0).val < 7 := (i 0).isLt; rw [trips6]; omega⟩ (i 1) (ix4 0 0 (i 2) (i 3))

/-- and all of `y`. -/
def GY : Vec F S24x8x7168 .bf16 := fun i =>
  yP w2 w2s b2 f26 f27 ⟨(i 2).val / 1024, by have h : (i 2).val < 7168 := (i 2).isLt; rw [trips6]; omega⟩ (i 0) (ix4 0 0 (i 1) ⟨(i 2).val % 1024, by omega⟩)

theorem YV_at (k : Fin k0_t6_loop.trips) (g : Fin 24) (x : S1x1x8x1024.Idx) (i : S7x24x8x1024.Idx)
    (h0 : (i 0).val = k.val + (x 0).val) (h1 : (i 1).val = g.val + (x 1).val) (h2 : (i 2).val = (x 2).val) (h3 : (i 3).val = (x 3).val) :
    YV w2 w2s b2 f26 f27 i = yP w2 w2s b2 f26 f27 k g x := by
  have x0 : (x 0).val < 1 := (x 0).isLt
  have x1 : (x 1).val < 1 := (x 1).isLt
  have e : ∀ k' g' x', k' = k → g' = g → x' = x → yP w2 w2s b2 f26 f27 k' g' x' = yP w2 w2s b2 f26 f27 k g x := by rintro _ _ _ rfl rfl rfl; rfl
  refine e _ _ _ (Fin.ext ?_) (Fin.ext ?_) (funext fun a => ?_)
  · show (i 0).val = k.val; omega
  · omega
  · fin_cases a <;> apply Fin.ext
    · show 0 = (x 0).val; omega
    · show 0 = (x 1).val; omega
    · exact h2
    · exact h3

/-- The trip's stores, last first. -/
def piecesY (k : Fin k0_t6_loop.trips) : List (View.Piece (Elt F) S7x24x8x1024 .bf16) :=
  [⟨Rect.unit (s := S7x24x8x1024) (k0_off110 k) S1x1x8x1024.size (k0_off110_inb k), yP w2 w2s b2 f26 f27 k 23⟩, ⟨Rect.unit (s := S7x24x8x1024) (k0_off109 k) S1x1x8x1024.size (k0_off109_inb k), yP w2 w2s b2 f26 f27 k 22⟩, ⟨Rect.unit (s := S7x24x8x1024) (k0_off108 k) S1x1x8x1024.size (k0_off108_inb k), yP w2 w2s b2 f26 f27 k 21⟩, ⟨Rect.unit (s := S7x24x8x1024) (k0_off107 k) S1x1x8x1024.size (k0_off107_inb k), yP w2 w2s b2 f26 f27 k 20⟩, ⟨Rect.unit (s := S7x24x8x1024) (k0_off106 k) S1x1x8x1024.size (k0_off106_inb k), yP w2 w2s b2 f26 f27 k 19⟩, ⟨Rect.unit (s := S7x24x8x1024) (k0_off105 k) S1x1x8x1024.size (k0_off105_inb k), yP w2 w2s b2 f26 f27 k 18⟩, ⟨Rect.unit (s := S7x24x8x1024) (k0_off104 k) S1x1x8x1024.size (k0_off104_inb k), yP w2 w2s b2 f26 f27 k 17⟩, ⟨Rect.unit (s := S7x24x8x1024) (k0_off103 k) S1x1x8x1024.size (k0_off103_inb k), yP w2 w2s b2 f26 f27 k 16⟩, ⟨Rect.unit (s := S7x24x8x1024) (k0_off102 k) S1x1x8x1024.size (k0_off102_inb k), yP w2 w2s b2 f26 f27 k 15⟩, ⟨Rect.unit (s := S7x24x8x1024) (k0_off101 k) S1x1x8x1024.size (k0_off101_inb k), yP w2 w2s b2 f26 f27 k 14⟩, ⟨Rect.unit (s := S7x24x8x1024) (k0_off100 k) S1x1x8x1024.size (k0_off100_inb k), yP w2 w2s b2 f26 f27 k 13⟩, ⟨Rect.unit (s := S7x24x8x1024) (k0_off99 k) S1x1x8x1024.size (k0_off99_inb k), yP w2 w2s b2 f26 f27 k 12⟩, ⟨Rect.unit (s := S7x24x8x1024) (k0_off98 k) S1x1x8x1024.size (k0_off98_inb k), yP w2 w2s b2 f26 f27 k 11⟩, ⟨Rect.unit (s := S7x24x8x1024) (k0_off97 k) S1x1x8x1024.size (k0_off97_inb k), yP w2 w2s b2 f26 f27 k 10⟩, ⟨Rect.unit (s := S7x24x8x1024) (k0_off96 k) S1x1x8x1024.size (k0_off96_inb k), yP w2 w2s b2 f26 f27 k 9⟩, ⟨Rect.unit (s := S7x24x8x1024) (k0_off95 k) S1x1x8x1024.size (k0_off95_inb k), yP w2 w2s b2 f26 f27 k 8⟩, ⟨Rect.unit (s := S7x24x8x1024) (k0_off94 k) S1x1x8x1024.size (k0_off94_inb k), yP w2 w2s b2 f26 f27 k 7⟩, ⟨Rect.unit (s := S7x24x8x1024) (k0_off93 k) S1x1x8x1024.size (k0_off93_inb k), yP w2 w2s b2 f26 f27 k 6⟩, ⟨Rect.unit (s := S7x24x8x1024) (k0_off92 k) S1x1x8x1024.size (k0_off92_inb k), yP w2 w2s b2 f26 f27 k 5⟩, ⟨Rect.unit (s := S7x24x8x1024) (k0_off91 k) S1x1x8x1024.size (k0_off91_inb k), yP w2 w2s b2 f26 f27 k 4⟩, ⟨Rect.unit (s := S7x24x8x1024) (k0_off90 k) S1x1x8x1024.size (k0_off90_inb k), yP w2 w2s b2 f26 f27 k 3⟩, ⟨Rect.unit (s := S7x24x8x1024) (k0_off89 k) S1x1x8x1024.size (k0_off89_inb k), yP w2 w2s b2 f26 f27 k 2⟩, ⟨Rect.unit (s := S7x24x8x1024) (k0_off88 k) S1x1x8x1024.size (k0_off88_inb k), yP w2 w2s b2 f26 f27 k 1⟩, ⟨Rect.unit (s := S7x24x8x1024) (k0_off87 k) S1x1x8x1024.size (k0_off87_inb k), yP w2 w2s b2 f26 f27 k 0⟩]

theorem okY (k : Fin k0_t6_loop.trips) (f : Vec F S7x24x8x1024 .bf16) (y : S7x24x8x1024.Idx) (hy : (y 0).val = k.val) :
    (Memref.whole cc0_scratch16).view.read (Elt F) ((Memref.whole cc0_scratch16).view.writes (Elt F) f (piecesY w2 w2s b2 f26 f27 k)) y = YV w2 w2s b2 f26 f27 y := by
  refine fill_step (Memref.whole cc0_scratch16).view f (piecesY w2 w2s b2 f26 f27 k) (YV w2 w2s b2 f26 f27) (fun _ => False)
    (fun y => (y 0).val = k.val) ?_ ?_ (fun y hy => hy.elim) y hy
  all_goals clear hy y
  · intro p hp
    simp only [piecesY, List.mem_cons, List.not_mem_nil, or_false] at hp
    rcases hp with rfl | rfl | rfl | rfl | rfl | rfl | rfl | rfl | rfl | rfl | rfl | rfl | rfl | rfl | rfl | rfl | rfl | rfl | rfl | rfl | rfl | rfl | rfl | rfl <;> intro x
    · exact (YV_at w2 w2s b2 f26 f27 k 23 x _ (emb_at (k0_off110_eq k) (k0_off110_inb k) x 0) (emb_at (k0_off110_eq k) (k0_off110_inb k) x 1) ((emb_at (k0_off110_eq k) (k0_off110_inb k) x 2).trans (Nat.zero_add _)) ((emb_at (k0_off110_eq k) (k0_off110_inb k) x 3).trans (Nat.zero_add _))).symm
    · exact (YV_at w2 w2s b2 f26 f27 k 22 x _ (emb_at (k0_off109_eq k) (k0_off109_inb k) x 0) (emb_at (k0_off109_eq k) (k0_off109_inb k) x 1) ((emb_at (k0_off109_eq k) (k0_off109_inb k) x 2).trans (Nat.zero_add _)) ((emb_at (k0_off109_eq k) (k0_off109_inb k) x 3).trans (Nat.zero_add _))).symm
    · exact (YV_at w2 w2s b2 f26 f27 k 21 x _ (emb_at (k0_off108_eq k) (k0_off108_inb k) x 0) (emb_at (k0_off108_eq k) (k0_off108_inb k) x 1) ((emb_at (k0_off108_eq k) (k0_off108_inb k) x 2).trans (Nat.zero_add _)) ((emb_at (k0_off108_eq k) (k0_off108_inb k) x 3).trans (Nat.zero_add _))).symm
    · exact (YV_at w2 w2s b2 f26 f27 k 20 x _ (emb_at (k0_off107_eq k) (k0_off107_inb k) x 0) (emb_at (k0_off107_eq k) (k0_off107_inb k) x 1) ((emb_at (k0_off107_eq k) (k0_off107_inb k) x 2).trans (Nat.zero_add _)) ((emb_at (k0_off107_eq k) (k0_off107_inb k) x 3).trans (Nat.zero_add _))).symm
    · exact (YV_at w2 w2s b2 f26 f27 k 19 x _ (emb_at (k0_off106_eq k) (k0_off106_inb k) x 0) (emb_at (k0_off106_eq k) (k0_off106_inb k) x 1) ((emb_at (k0_off106_eq k) (k0_off106_inb k) x 2).trans (Nat.zero_add _)) ((emb_at (k0_off106_eq k) (k0_off106_inb k) x 3).trans (Nat.zero_add _))).symm
    · exact (YV_at w2 w2s b2 f26 f27 k 18 x _ (emb_at (k0_off105_eq k) (k0_off105_inb k) x 0) (emb_at (k0_off105_eq k) (k0_off105_inb k) x 1) ((emb_at (k0_off105_eq k) (k0_off105_inb k) x 2).trans (Nat.zero_add _)) ((emb_at (k0_off105_eq k) (k0_off105_inb k) x 3).trans (Nat.zero_add _))).symm
    · exact (YV_at w2 w2s b2 f26 f27 k 17 x _ (emb_at (k0_off104_eq k) (k0_off104_inb k) x 0) (emb_at (k0_off104_eq k) (k0_off104_inb k) x 1) ((emb_at (k0_off104_eq k) (k0_off104_inb k) x 2).trans (Nat.zero_add _)) ((emb_at (k0_off104_eq k) (k0_off104_inb k) x 3).trans (Nat.zero_add _))).symm
    · exact (YV_at w2 w2s b2 f26 f27 k 16 x _ (emb_at (k0_off103_eq k) (k0_off103_inb k) x 0) (emb_at (k0_off103_eq k) (k0_off103_inb k) x 1) ((emb_at (k0_off103_eq k) (k0_off103_inb k) x 2).trans (Nat.zero_add _)) ((emb_at (k0_off103_eq k) (k0_off103_inb k) x 3).trans (Nat.zero_add _))).symm
    · exact (YV_at w2 w2s b2 f26 f27 k 15 x _ (emb_at (k0_off102_eq k) (k0_off102_inb k) x 0) (emb_at (k0_off102_eq k) (k0_off102_inb k) x 1) ((emb_at (k0_off102_eq k) (k0_off102_inb k) x 2).trans (Nat.zero_add _)) ((emb_at (k0_off102_eq k) (k0_off102_inb k) x 3).trans (Nat.zero_add _))).symm
    · exact (YV_at w2 w2s b2 f26 f27 k 14 x _ (emb_at (k0_off101_eq k) (k0_off101_inb k) x 0) (emb_at (k0_off101_eq k) (k0_off101_inb k) x 1) ((emb_at (k0_off101_eq k) (k0_off101_inb k) x 2).trans (Nat.zero_add _)) ((emb_at (k0_off101_eq k) (k0_off101_inb k) x 3).trans (Nat.zero_add _))).symm
    · exact (YV_at w2 w2s b2 f26 f27 k 13 x _ (emb_at (k0_off100_eq k) (k0_off100_inb k) x 0) (emb_at (k0_off100_eq k) (k0_off100_inb k) x 1) ((emb_at (k0_off100_eq k) (k0_off100_inb k) x 2).trans (Nat.zero_add _)) ((emb_at (k0_off100_eq k) (k0_off100_inb k) x 3).trans (Nat.zero_add _))).symm
    · exact (YV_at w2 w2s b2 f26 f27 k 12 x _ (emb_at (k0_off99_eq k) (k0_off99_inb k) x 0) (emb_at (k0_off99_eq k) (k0_off99_inb k) x 1) ((emb_at (k0_off99_eq k) (k0_off99_inb k) x 2).trans (Nat.zero_add _)) ((emb_at (k0_off99_eq k) (k0_off99_inb k) x 3).trans (Nat.zero_add _))).symm
    · exact (YV_at w2 w2s b2 f26 f27 k 11 x _ (emb_at (k0_off98_eq k) (k0_off98_inb k) x 0) (emb_at (k0_off98_eq k) (k0_off98_inb k) x 1) ((emb_at (k0_off98_eq k) (k0_off98_inb k) x 2).trans (Nat.zero_add _)) ((emb_at (k0_off98_eq k) (k0_off98_inb k) x 3).trans (Nat.zero_add _))).symm
    · exact (YV_at w2 w2s b2 f26 f27 k 10 x _ (emb_at (k0_off97_eq k) (k0_off97_inb k) x 0) (emb_at (k0_off97_eq k) (k0_off97_inb k) x 1) ((emb_at (k0_off97_eq k) (k0_off97_inb k) x 2).trans (Nat.zero_add _)) ((emb_at (k0_off97_eq k) (k0_off97_inb k) x 3).trans (Nat.zero_add _))).symm
    · exact (YV_at w2 w2s b2 f26 f27 k 9 x _ (emb_at (k0_off96_eq k) (k0_off96_inb k) x 0) (emb_at (k0_off96_eq k) (k0_off96_inb k) x 1) ((emb_at (k0_off96_eq k) (k0_off96_inb k) x 2).trans (Nat.zero_add _)) ((emb_at (k0_off96_eq k) (k0_off96_inb k) x 3).trans (Nat.zero_add _))).symm
    · exact (YV_at w2 w2s b2 f26 f27 k 8 x _ (emb_at (k0_off95_eq k) (k0_off95_inb k) x 0) (emb_at (k0_off95_eq k) (k0_off95_inb k) x 1) ((emb_at (k0_off95_eq k) (k0_off95_inb k) x 2).trans (Nat.zero_add _)) ((emb_at (k0_off95_eq k) (k0_off95_inb k) x 3).trans (Nat.zero_add _))).symm
    · exact (YV_at w2 w2s b2 f26 f27 k 7 x _ (emb_at (k0_off94_eq k) (k0_off94_inb k) x 0) (emb_at (k0_off94_eq k) (k0_off94_inb k) x 1) ((emb_at (k0_off94_eq k) (k0_off94_inb k) x 2).trans (Nat.zero_add _)) ((emb_at (k0_off94_eq k) (k0_off94_inb k) x 3).trans (Nat.zero_add _))).symm
    · exact (YV_at w2 w2s b2 f26 f27 k 6 x _ (emb_at (k0_off93_eq k) (k0_off93_inb k) x 0) (emb_at (k0_off93_eq k) (k0_off93_inb k) x 1) ((emb_at (k0_off93_eq k) (k0_off93_inb k) x 2).trans (Nat.zero_add _)) ((emb_at (k0_off93_eq k) (k0_off93_inb k) x 3).trans (Nat.zero_add _))).symm
    · exact (YV_at w2 w2s b2 f26 f27 k 5 x _ (emb_at (k0_off92_eq k) (k0_off92_inb k) x 0) (emb_at (k0_off92_eq k) (k0_off92_inb k) x 1) ((emb_at (k0_off92_eq k) (k0_off92_inb k) x 2).trans (Nat.zero_add _)) ((emb_at (k0_off92_eq k) (k0_off92_inb k) x 3).trans (Nat.zero_add _))).symm
    · exact (YV_at w2 w2s b2 f26 f27 k 4 x _ (emb_at (k0_off91_eq k) (k0_off91_inb k) x 0) (emb_at (k0_off91_eq k) (k0_off91_inb k) x 1) ((emb_at (k0_off91_eq k) (k0_off91_inb k) x 2).trans (Nat.zero_add _)) ((emb_at (k0_off91_eq k) (k0_off91_inb k) x 3).trans (Nat.zero_add _))).symm
    · exact (YV_at w2 w2s b2 f26 f27 k 3 x _ (emb_at (k0_off90_eq k) (k0_off90_inb k) x 0) (emb_at (k0_off90_eq k) (k0_off90_inb k) x 1) ((emb_at (k0_off90_eq k) (k0_off90_inb k) x 2).trans (Nat.zero_add _)) ((emb_at (k0_off90_eq k) (k0_off90_inb k) x 3).trans (Nat.zero_add _))).symm
    · exact (YV_at w2 w2s b2 f26 f27 k 2 x _ (emb_at (k0_off89_eq k) (k0_off89_inb k) x 0) (emb_at (k0_off89_eq k) (k0_off89_inb k) x 1) ((emb_at (k0_off89_eq k) (k0_off89_inb k) x 2).trans (Nat.zero_add _)) ((emb_at (k0_off89_eq k) (k0_off89_inb k) x 3).trans (Nat.zero_add _))).symm
    · exact (YV_at w2 w2s b2 f26 f27 k 1 x _ (emb_at (k0_off88_eq k) (k0_off88_inb k) x 0) (emb_at (k0_off88_eq k) (k0_off88_inb k) x 1) ((emb_at (k0_off88_eq k) (k0_off88_inb k) x 2).trans (Nat.zero_add _)) ((emb_at (k0_off88_eq k) (k0_off88_inb k) x 3).trans (Nat.zero_add _))).symm
    · exact (YV_at w2 w2s b2 f26 f27 k 0 x _ (emb_at (k0_off87_eq k) (k0_off87_inb k) x 0) (emb_at (k0_off87_eq k) (k0_off87_inb k) x 1) ((emb_at (k0_off87_eq k) (k0_off87_inb k) x 2).trans (Nat.zero_add _)) ((emb_at (k0_off87_eq k) (k0_off87_inb k) x 3).trans (Nat.zero_add _))).symm
  · intro y hy
    right
    have y1 : (y 1).val < 24 := (y 1).isLt
    have hg : ∃ g : Fin 24, (y 1).val = g.val := ⟨⟨(y 1).val, by omega⟩, rfl⟩
    obtain ⟨g, hg⟩ := hg
    unfold piecesY
    have hm : ∀ (o : Fin 4 → ℕ) (g : ℕ) (e : o = ![k.val, g, 0, 0]) (h : ∀ a, o a + S1x1x8x1024.size a ≤ S7x24x8x1024.size a), (y 1).val = g →
        y ∈ (Rect.unit (s := S7x24x8x1024) o S1x1x8x1024.size h).set := by
      rintro o g e h hg
      subst e
      rw [Rect.mem_set_unit]
      have y2 : (y 2).val < 8 := (y 2).isLt
      have y3 : (y 3).val < 1024 := (y 3).isLt
      intro a
      fin_cases a
      · show k.val ≤ (y 0).val ∧ (y 0).val < k.val + 1; omega
      · show g ≤ (y 1).val ∧ (y 1).val < g + 1; omega
      · show 0 ≤ (y 2).val ∧ (y 2).val < 0 + 8; omega
      · show 0 ≤ (y 3).val ∧ (y 3).val < 0 + 1024; omega
    fin_cases g
    · exact ⟨_, .tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))), hm _ 0 (k0_off87_eq k) (k0_off87_inb k) hg⟩
    · exact ⟨_, .tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))), hm _ 1 (k0_off88_eq k) (k0_off88_inb k) hg⟩
    · exact ⟨_, .tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))), hm _ 2 (k0_off89_eq k) (k0_off89_inb k) hg⟩
    · exact ⟨_, .tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))), hm _ 3 (k0_off90_eq k) (k0_off90_inb k) hg⟩
    · exact ⟨_, .tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))), hm _ 4 (k0_off91_eq k) (k0_off91_inb k) hg⟩
    · exact ⟨_, .tail _ (.tail _ (.tail _ (.tail _ (.tail _ (.tail _ (.tail _ (.tail _ (.tail _ (.tail _ (.tail _ (.tail _ (.tail _ (.tail _ (.tail _ (.tail _ (.tail _ (.tail _ (.head _)))))))))))))))))), hm _ 5 (k0_off92_eq k) (k0_off92_inb k) hg⟩
    · exact ⟨_, .tail _ (.tail _ (.tail _ (.tail _ (.tail _ (.tail _ (.tail _ (.tail _ (.tail _ (.tail _ (.tail _ (.tail _ (.tail _ (.tail _ (.tail _ (.tail _ (.tail _ (.head _))))))))))))))))), hm _ 6 (k0_off93_eq k) (k0_off93_inb k) hg⟩
    · exact ⟨_, .tail _ (.tail _ (.tail _ (.tail _ (.tail _ (.tail _ (.tail _ (.tail _ (.tail _ (.tail _ (.tail _ (.tail _ (.tail _ (.tail _ (.tail _ (.tail _ (.head _)))))))))))))))), hm _ 7 (k0_off94_eq k) (k0_off94_inb k) hg⟩
    · exact ⟨_, .tail _ (.tail _ (.tail _ (.tail _ (.tail _ (.tail _ (.tail _ (.tail _ (.tail _ (.tail _ (.tail _ (.tail _ (.tail _ (.tail _ (.tail _ (.head _))))))))))))))), hm _ 8 (k0_off95_eq k) (k0_off95_inb k) hg⟩
    · exact ⟨_, .tail _ (.tail _ (.tail _ (.tail _ (.tail _ (.tail _ (.tail _ (.tail _ (.tail _ (.tail _ (.tail _ (.tail _ (.tail _ (.tail _ (.head _)))))))))))))), hm _ 9 (k0_off96_eq k) (k0_off96_inb k) hg⟩
    · exact ⟨_, .tail _ (.tail _ (.tail _ (.tail _ (.tail _ (.tail _ (.tail _ (.tail _ (.tail _ (.tail _ (.tail _ (.tail _ (.tail _ (.head _))))))))))))), hm _ 10 (k0_off97_eq k) (k0_off97_inb k) hg⟩
    · exact ⟨_, .tail _ (.tail _ (.tail _ (.tail _ (.tail _ (.tail _ (.tail _ (.tail _ (.tail _ (.tail _ (.tail _ (.tail _ (.head _)))))))))))), hm _ 11 (k0_off98_eq k) (k0_off98_inb k) hg⟩
    · exact ⟨_, .tail _ (.tail _ (.tail _ (.tail _ (.tail _ (.tail _ (.tail _ (.tail _ (.tail _ (.tail _ (.tail _ (.head _))))))))))), hm _ 12 (k0_off99_eq k) (k0_off99_inb k) hg⟩
    · exact ⟨_, .tail _ (.tail _ (.tail _ (.tail _ (.tail _ (.tail _ (.tail _ (.tail _ (.tail _ (.tail _ (.head _)))))))))), hm _ 13 (k0_off100_eq k) (k0_off100_inb k) hg⟩
    · exact ⟨_, .tail _ (.tail _ (.tail _ (.tail _ (.tail _ (.tail _ (.tail _ (.tail _ (.tail _ (.head _))))))))), hm _ 14 (k0_off101_eq k) (k0_off101_inb k) hg⟩
    · exact ⟨_, .tail _ (.tail _ (.tail _ (.tail _ (.tail _ (.tail _ (.tail _ (.tail _ (.head _)))))))), hm _ 15 (k0_off102_eq k) (k0_off102_inb k) hg⟩
    · exact ⟨_, .tail _ (.tail _ (.tail _ (.tail _ (.tail _ (.tail _ (.tail _ (.head _))))))), hm _ 16 (k0_off103_eq k) (k0_off103_inb k) hg⟩
    · exact ⟨_, .tail _ (.tail _ (.tail _ (.tail _ (.tail _ (.tail _ (.head _)))))), hm _ 17 (k0_off104_eq k) (k0_off104_inb k) hg⟩
    · exact ⟨_, .tail _ (.tail _ (.tail _ (.tail _ (.tail _ (.head _))))), hm _ 18 (k0_off105_eq k) (k0_off105_inb k) hg⟩
    · exact ⟨_, .tail _ (.tail _ (.tail _ (.tail _ (.head _)))), hm _ 19 (k0_off106_eq k) (k0_off106_inb k) hg⟩
    · exact ⟨_, .tail _ (.tail _ (.tail _ (.head _))), hm _ 20 (k0_off107_eq k) (k0_off107_inb k) hg⟩
    · exact ⟨_, .tail _ (.tail _ (.head _)), hm _ 21 (k0_off108_eq k) (k0_off108_inb k) hg⟩
    · exact ⟨_, .tail _ (.head _), hm _ 22 (k0_off109_eq k) (k0_off109_inb k) hg⟩
    · exact ⟨_, .head _, hm _ 23 (k0_off110_eq k) (k0_off110_inb k) hg⟩

/-- What a block's copy carries. -/
theorem read_slotY (k : Fin k0_t6_loop.trips) (y : S24x8x1024.Idx) {o : Fin 4 → ℕ} (e : o = ![k.val, 0, 0, 0]) (h) {o' : Fin 3 → ℕ} (e' : o' = ![0, 0, 1024 * k.val]) (h') :
    (slotY o h).view.read (Elt F) (YV w2 w2s b2 f26 f27) y = (dstY o' h').view.read (Elt F) (GY w2 w2s b2 f26 f27) y := by
  subst e e'
  have hk : k.val < 7 := trips6 ▸ k.isLt
  have y2 : (y 2).val < 1024 := (y 2).isLt
  have e : (slotY ![k.val, 0, 0, 0] h).view.emb y = ix4 ⟨k.val, hk⟩ (y 0) (y 1) (y 2) := by
    show (Rect.unit (s := S7x24x8x1024) ![k.val, 0, 0, 0] S1x24x8x1024.size h).emb (Shape.reshapeEquiv _ y) = _
    rw [show Shape.reshapeEquiv _ y = (Fin.cons (0 : Fin 1) y : S1x24x8x1024.Idx) from Shape.reshapeEquiv_cons_one _ _]
    funext a
    apply Fin.ext
    fin_cases a
    · show k.val + 1 * 0 = k.val; omega
    · show 0 + 1 * (y 0).val = (y 0).val; omega
    · show 0 + 1 * (y 1).val = (y 1).val; omega
    · show 0 + 1 * (y 2).val = (y 2).val; omega
  show YV w2 w2s b2 f26 f27 ((slotY ![k.val, 0, 0, 0] h).view.emb y) = GY w2 w2s b2 f26 f27 ((Rect.unit (s := S24x8x7168) ![0, 0, 1024 * k.val] S24x8x1024.size h').emb y)
  rw [e]
  unfold YV GY
  have e : ∀ k₁ k₂ g₁ g₂ x₁ x₂, k₁ = k₂ → g₁ = g₂ → x₁ = x₂ → yP w2 w2s b2 f26 f27 k₁ g₁ x₁ = yP w2 w2s b2 f26 f27 k₂ g₂ x₂ := by rintro _ _ _ _ _ _ rfl rfl rfl; rfl
  refine e _ _ _ _ _ _ (Fin.ext ?_) (Fin.ext ?_) (funext fun a => ?_)
  · show k.val = (1024 * k.val + 1 * (y 2).val) / 1024; omega
  · show (y 0).val = 0 + 1 * (y 0).val; omega
  · fin_cases a <;> apply Fin.ext
    · rfl
    · rfl
    · show (y 1).val = 0 + 1 * (y 1).val; omega
    · show (y 2).val = (1024 * k.val + 1 * (y 2).val) % 1024; omega

end Values

/-- The block of `y` that trip `k` fills, at some contents, -/
def dY (c : Dev nD) (k : Fin k0_t6_loop.trips) : sProp 𝕄 :=
  iprop(∃ g, (dstY (k0_off111 k) (k0_off111_inb k)).view.loc (c : Th) ↦[(dstY (k0_off111 k) (k0_off111_inb k)).view.set]{fullShare} g)

/-- and the slot it fills it from. -/
def sY (c : Dev nD) (k : Fin k0_t6_loop.trips) : sProp 𝕄 :=
  iprop(∃ g, (slotY (k0_off112 k) (k0_off112_inb k)).view.loc (c : Th) ↦[(slotY (k0_off112 k) (k0_off112_inb k)).view.set]{fullShare} g)

/-- What trip `k`'s copy delivers. -/
def DY (c : Dev nD) (w2 : Vec F S2048x7168 .fp8e4m3) (w2s b2 : Vec F S1x7168 .f32) (f26 : Vec F S192x2048 .fp8e4m3) (f27 : Vec F S192x128 .f32) (k : Fin k0_t6_loop.trips) : sProp 𝕄 :=
  iprop(((dstY (k0_off111 k) (k0_off111_inb k)).view.loc (c : Th) ↦[(dstY (k0_off111 k) (k0_off111_inb k)).view.set]{fullShare} GY w2 w2s b2 f26 f27)
    ∗ (slotY (k0_off112 k) (k0_off112_inb k)).view.loc (c : Th) ↦[(slotY (k0_off112 k) (k0_off112_inb k)).view.set]{fullShare} YV w2 w2s b2 f26 f27)

instance (c : Dev nD) (w2 : Vec F S2048x7168 .fp8e4m3) (w2s b2 : Vec F S1x7168 .f32) (f26 : Vec F S192x2048 .fp8e4m3) (f27 : Vec F S192x128 .f32) (k : Fin k0_t6_loop.trips) : BI.Storable (upEmb : UEmb _ 𝕄) (DY c w2 w2s b2 f26 f27 k) := by
  unfold DY
  have h : ∀ (g : Buf (Elt F) ((dstY (k0_off111 k) (k0_off111_inb k)).view.loc (c : Th))) (g' : Buf (Elt F) ((slotY (k0_off112 k) (k0_off112_inb k)).view.loc (c : Th))),
      BI.Storable (upEmb : UEmb _ 𝕄) (iprop(((dstY (k0_off111 k) (k0_off111_inb k)).view.loc (c : Th) ↦[(dstY (k0_off111 k) (k0_off111_inb k)).view.set]{fullShare} g)
        ∗ (slotY (k0_off112 k) (k0_off112_inb k)).view.loc (c : Th) ↦[(slotY (k0_off112 k) (k0_off112_inb k)).view.set]{fullShare} g')) := fun _ _ => inferInstance
  exact h _ _

theorem DY_of (c : Dev nD) (w2 : Vec F S2048x7168 .fp8e4m3) (w2s b2 : Vec F S1x7168 .f32) (f26 : Vec F S192x2048 .fp8e4m3) (f27 : Vec F S192x128 .f32) (k : Fin k0_t6_loop.trips) (g : Vec F S24x8x7168 .bf16) :
    iprop(((dstY (k0_off111 k) (k0_off111_inb k)).view.loc (c : Th) ↦[(dstY (k0_off111 k) (k0_off111_inb k)).view.set]{fullShare}
        (dstY (k0_off111 k) (k0_off111_inb k)).view.writes (Elt F) g [⟨Rect.whole S24x8x1024, (slotY (k0_off112 k) (k0_off112_inb k)).view.read (Elt F) (YV w2 w2s b2 f26 f27)⟩])
      ∗ (slotY (k0_off112 k) (k0_off112_inb k)).view.loc (c : Th) ↦[(slotY (k0_off112 k) (k0_off112_inb k)).view.set]{fullShare} YV w2 w2s b2 f26 f27)
    ⊢ DY c w2 w2s b2 f26 f27 k := by
  unfold DY
  exact sep_mono (Entails.of_eq (landed c (dstY (k0_off111 k) (k0_off111_inb k)) fullShare g (GY w2 w2s b2 f26 f27) ((slotY (k0_off112 k) (k0_off112_inb k)).view.read (Elt F) (YV w2 w2s b2 f26 f27)) fun y => read_slotY w2 w2s b2 f26 f27 k y (k0_off112_eq k) (k0_off112_inb k) (k0_off111_eq k) (k0_off111_inb k))) .rfl

/-- A filled slot holds its part of the staging buffer's contents. -/
theorem slotY_of (c : Dev nD) (w2 : Vec F S2048x7168 .fp8e4m3) (w2s b2 : Vec F S1x7168 .f32) (f26 : Vec F S192x2048 .fp8e4m3) (f27 : Vec F S192x128 .f32) (k : Fin k0_t6_loop.trips) (f f' : Vec F S7x24x8x1024 .bf16)
    (hf : f' = (Memref.whole cc0_scratch16).view.writes (Elt F) f (piecesY w2 w2s b2 f26 f27 k)) :
    ((slotY (k0_off112 k) (k0_off112_inb k)).view.loc (c : Th) ↦[(slotY (k0_off112 k) (k0_off112_inb k)).view.set]{fullShare} f' : sProp 𝕄)
      ⊢ ((slotY (k0_off112 k) (k0_off112_inb k)).view.loc (c : Th) ↦[(slotY (k0_off112 k) (k0_off112_inb k)).view.set]{fullShare} YV w2 w2s b2 f26 f27) :=
  Entails.of_eq (pointsTo_congr fun i hi => (congrArg (fun f => (Memref.whole cc0_scratch16).view.read (Elt F) f i) hf).trans (okY w2 w2s b2 f26 f27 k f i (by
    change S7x24x8x1024.Idx at i
    have hi : i ∈ (Rect.unit (s := S7x24x8x1024) (k0_off112 k) S1x24x8x1024.size (k0_off112_inb k)).set := slotY_set _ (k0_off112_inb k) ▸ hi
    have h0 := (Rect.mem_set_unit.mp hi) 0
    rw [k0_off112_eq] at h0
    have t : k.val ≤ ((i : S7x24x8x1024.Idx) 0).val ∧ ((i : S7x24x8x1024.Idx) 0).val < k.val + 1 := h0
    show ((i : S7x24x8x1024.Idx) 0).val = k.val
    omega)))

/-- A buffer's contents under a name. -/
theorem nameY (c : Dev nD) (k : Fin k0_t6_loop.trips) (f : Vec F S7x24x8x1024 .bf16) :
    ((slotY (k0_off112 k) (k0_off112_inb k)).view.loc (c : Th) ↦[(slotY (k0_off112 k) (k0_off112_inb k)).view.set]{fullShare} f : sProp 𝕄)
      ⊢ iprop(∃ f' : Vec F S7x24x8x1024 .bf16, ⌜f' = f⌝ ∗ (slotY (k0_off112 k) (k0_off112_inb k)).view.loc (c : Th) ↦[(slotY (k0_off112 k) (k0_off112_inb k)).view.set]{fullShare} f') := by
  iintro H
  iexists f
  isplitr
  · ipureintro; rfl
  · iexact H

abbrev cellY : SemLoc sig := SemLoc.dma (cc0_scratch29).sem

def batchY (c : Dev nD) (w2 : Vec F S2048x7168 .fp8e4m3) (w2s b2 : Vec F S1x7168 .f32) (f26 : Vec F S192x2048 .fp8e4m3) (f27 : Vec F S192x128 .f32) (j u : ℕ) : sProp 𝕄 :=
  Transfers.Batch (countersEmb (U := Pipeline.UD sig nD τ)) (c : Th) cellY () 12288 (DY c w2 w2s b2 f26 f27) j u

/-- Before trip `k` of the second matrix product's loop. -/
def iY (c : Dev nD) (q13 : PosShare TreeShare) (w2 : Vec F S2048x7168 .fp8e4m3) (w2s b2 : Vec F S1x7168 .f32) (f26 : Vec F S192x2048 .fp8e4m3) (f27 : Vec F S192x128 .f32) (k : ℕ) (_ : PUnit) : sProp 𝕄 :=
  iprop(Ring.AtW (ΦW2 c w2) (stN 2 1 k) ∗ ((Memref.whole cc0_scratch13).view.loc (c : Th) ↦{q13} f26) ∗ ((Memref.whole cc0_scratch14).view.loc (c : Th) ↦{fullShare} f27) ∗ ((Memref.whole cc0_scratch7).view.loc (c : Th) ↦{fullShare} w2s) ∗ ((Memref.whole cc0_scratch8).view.loc (c : Th) ↦{fullShare} b2)
    ∗ batchY c w2 w2s b2 f26 f27 k 0 ∗ bigSep (Ring.rangeSet k0_t6_loop.trips k k0_t6_loop.trips) (dY c) ∗ bigSep (Ring.rangeSet k0_t6_loop.trips k k0_t6_loop.trips) (sY c) ∗ ∃ W, owes (c : Th) 0 W)

set_option maxHeartbeats 1000000 in
set_option warn.classDefReducibility false in
def invY (c : Dev nD) (q13 : PosShare TreeShare) (v754 : IVec S8x128 32) (v779 : Vec F S8x128 .f32) (v780 : IVec S8x128 32) (w2 : Vec F S2048x7168 .fp8e4m3) (w2s b2 : Vec F S1x7168 .f32) (f26 : Vec F S192x2048 .fp8e4m3) (f27 : Vec F S192x128 .f32) :
    LoopInv (M := 𝕄) frame (wpE (defs₀ (F := F)) Variants.none (c : Th) none) Set.univ k0_t6_loop.lb k0_t6_loop.ub k0_t6_loop.st k0_t6_ok ()
      (k0_t6_body (F := F) (Memref.whole main_v1) (iw _) (Memref.whole main_arg1) (iw _) (Memref.whole main_v2) (iw _) (Memref.whole main_arg3) (iw _) (Memref.whole main_arg4) (iw _) (Memref.whole main_arg5) (iw _) (Memref.whole main_v3) (iw _) (Memref.whole main_v4) (iw _) (Memref.whole main_v5_0) (iw _) (Memref.whole main_v5_1) (iw _) (Memref.whole main_v5_2) (iw _) (Memref.whole main_v5_3) (iw _) (Memref.whole main_v5_4) (iw _) (Memref.whole cc0_scratch0) (iw _) (Memref.whole cc0_scratch1) (iw _) (Memref.whole cc0_scratch2) (iw _) (Memref.whole cc0_scratch3) (iw _) (Memref.whole cc0_scratch4) (iw _) (Memref.whole cc0_scratch5) (iw _) (Memref.whole cc0_scratch6) (iw _) (Memref.whole cc0_scratch7) (iw _) (Memref.whole cc0_scratch8) (iw _) (Memref.whole cc0_scratch9) (iw _) (Memref.whole cc0_scratch10) (iw _) (Memref.whole cc0_scratch11) (iw _) (Memref.whole cc0_scratch12) (iw _) (Memref.whole cc0_scratch13) (iw _) (Memref.whole cc0_scratch14) (iw _) (Memref.whole cc0_scratch15) (iw _) (Memref.whole cc0_scratch16) (iw _) cc0_scratch17 cc0_scratch18 cc0_scratch19 cc0_scratch20 cc0_scratch21 cc0_scratch22 cc0_scratch23 cc0_scratch24 cc0_scratch25 cc0_scratch26 cc0_scratch27 cc0_scratch28 cc0_scratch29 v754 v779 v780) where
  inv k _ := iprop(Ring.AtW (ΦW2 c w2) (stN 2 1 k) ∗ ((Memref.whole cc0_scratch13).view.loc (c : Th) ↦{q13} f26) ∗ ((Memref.whole cc0_scratch14).view.loc (c : Th) ↦{fullShare} f27) ∗ ((Memref.whole cc0_scratch7).view.loc (c : Th) ↦{fullShare} w2s) ∗ ((Memref.whole cc0_scratch8).view.loc (c : Th) ↦{fullShare} b2)
    ∗ batchY c w2 w2s b2 f26 f27 k 0 ∗ bigSep (Ring.rangeSet k0_t6_loop.trips k k0_t6_loop.trips) (dY c) ∗ bigSep (Ring.rangeSet k0_t6_loop.trips k k0_t6_loop.trips) (sY c) ∗ ∃ W, owes (c : Th) 0 W)
  step k _ := by
    have hs := stN_succ 2 1 (ixW2w k)
    rw [show (ixW2w k).val = k.val from rfl] at hs
    rw [← hs, Ring.AtW_focus (ΦW2 c w2) (stN 2 1 k.val) (ixW2w k), AtW_put (ΦW2 c w2) (stN 2 1 k.val) (ixW2w k) 2, stN_self 2 1 (ixW2w k),
      ΦW2_at_w, ΦoW2_1, ΦW2_at_w, ΦoW2_2, headY (dY c) k, headY (sY c) k]
    unfold dY sY batchY
    iintro ⟨⟨⟨Hs, Htok⟩, Hrest⟩, H26, H27, H20, H21, HB, ⟨⟨%gd, Hd⟩, Hds⟩, ⟨⟨%gs, Hy⟩, Hys⟩, %W, HO⟩
    have ha0 := inYa (k0_off87_eq k) (k0_off112_eq k) (by omega) (k0_off87_inb k) (k0_off112_inb k)
    have hb0 := inYs (k0_off87_eq k) (k0_off112_eq k) (by omega) (k0_off87_inb k) (k0_off112_inb k)
    have ha1 := inYa (k0_off88_eq k) (k0_off112_eq k) (by omega) (k0_off88_inb k) (k0_off112_inb k)
    have hb1 := inYs (k0_off88_eq k) (k0_off112_eq k) (by omega) (k0_off88_inb k) (k0_off112_inb k)
    have ha2 := inYa (k0_off89_eq k) (k0_off112_eq k) (by omega) (k0_off89_inb k) (k0_off112_inb k)
    have hb2 := inYs (k0_off89_eq k) (k0_off112_eq k) (by omega) (k0_off89_inb k) (k0_off112_inb k)
    have ha3 := inYa (k0_off90_eq k) (k0_off112_eq k) (by omega) (k0_off90_inb k) (k0_off112_inb k)
    have hb3 := inYs (k0_off90_eq k) (k0_off112_eq k) (by omega) (k0_off90_inb k) (k0_off112_inb k)
    have ha4 := inYa (k0_off91_eq k) (k0_off112_eq k) (by omega) (k0_off91_inb k) (k0_off112_inb k)
    have hb4 := inYs (k0_off91_eq k) (k0_off112_eq k) (by omega) (k0_off91_inb k) (k0_off112_inb k)
    have ha5 := inYa (k0_off92_eq k) (k0_off112_eq k) (by omega) (k0_off92_inb k) (k0_off112_inb k)
    have hb5 := inYs (k0_off92_eq k) (k0_off112_eq k) (by omega) (k0_off92_inb k) (k0_off112_inb k)
    have ha6 := inYa (k0_off93_eq k) (k0_off112_eq k) (by omega) (k0_off93_inb k) (k0_off112_inb k)
    have hb6 := inYs (k0_off93_eq k) (k0_off112_eq k) (by omega) (k0_off93_inb k) (k0_off112_inb k)
    have ha7 := inYa (k0_off94_eq k) (k0_off112_eq k) (by omega) (k0_off94_inb k) (k0_off112_inb k)
    have hb7 := inYs (k0_off94_eq k) (k0_off112_eq k) (by omega) (k0_off94_inb k) (k0_off112_inb k)
    have ha8 := inYa (k0_off95_eq k) (k0_off112_eq k) (by omega) (k0_off95_inb k) (k0_off112_inb k)
    have hb8 := inYs (k0_off95_eq k) (k0_off112_eq k) (by omega) (k0_off95_inb k) (k0_off112_inb k)
    have ha9 := inYa (k0_off96_eq k) (k0_off112_eq k) (by omega) (k0_off96_inb k) (k0_off112_inb k)
    have hb9 := inYs (k0_off96_eq k) (k0_off112_eq k) (by omega) (k0_off96_inb k) (k0_off112_inb k)
    have ha10 := inYa (k0_off97_eq k) (k0_off112_eq k) (by omega) (k0_off97_inb k) (k0_off112_inb k)
    have hb10 := inYs (k0_off97_eq k) (k0_off112_eq k) (by omega) (k0_off97_inb k) (k0_off112_inb k)
    have ha11 := inYa (k0_off98_eq k) (k0_off112_eq k) (by omega) (k0_off98_inb k) (k0_off112_inb k)
    have hb11 := inYs (k0_off98_eq k) (k0_off112_eq k) (by omega) (k0_off98_inb k) (k0_off112_inb k)
    have ha12 := inYa (k0_off99_eq k) (k0_off112_eq k) (by omega) (k0_off99_inb k) (k0_off112_inb k)
    have hb12 := inYs (k0_off99_eq k) (k0_off112_eq k) (by omega) (k0_off99_inb k) (k0_off112_inb k)
    have ha13 := inYa (k0_off100_eq k) (k0_off112_eq k) (by omega) (k0_off100_inb k) (k0_off112_inb k)
    have hb13 := inYs (k0_off100_eq k) (k0_off112_eq k) (by omega) (k0_off100_inb k) (k0_off112_inb k)
    have ha14 := inYa (k0_off101_eq k) (k0_off112_eq k) (by omega) (k0_off101_inb k) (k0_off112_inb k)
    have hb14 := inYs (k0_off101_eq k) (k0_off112_eq k) (by omega) (k0_off101_inb k) (k0_off112_inb k)
    have ha15 := inYa (k0_off102_eq k) (k0_off112_eq k) (by omega) (k0_off102_inb k) (k0_off112_inb k)
    have hb15 := inYs (k0_off102_eq k) (k0_off112_eq k) (by omega) (k0_off102_inb k) (k0_off112_inb k)
    have ha16 := inYa (k0_off103_eq k) (k0_off112_eq k) (by omega) (k0_off103_inb k) (k0_off112_inb k)
    have hb16 := inYs (k0_off103_eq k) (k0_off112_eq k) (by omega) (k0_off103_inb k) (k0_off112_inb k)
    have ha17 := inYa (k0_off104_eq k) (k0_off112_eq k) (by omega) (k0_off104_inb k) (k0_off112_inb k)
    have hb17 := inYs (k0_off104_eq k) (k0_off112_eq k) (by omega) (k0_off104_inb k) (k0_off112_inb k)
    have ha18 := inYa (k0_off105_eq k) (k0_off112_eq k) (by omega) (k0_off105_inb k) (k0_off112_inb k)
    have hb18 := inYs (k0_off105_eq k) (k0_off112_eq k) (by omega) (k0_off105_inb k) (k0_off112_inb k)
    have ha19 := inYa (k0_off106_eq k) (k0_off112_eq k) (by omega) (k0_off106_inb k) (k0_off112_inb k)
    have hb19 := inYs (k0_off106_eq k) (k0_off112_eq k) (by omega) (k0_off106_inb k) (k0_off112_inb k)
    have ha20 := inYa (k0_off107_eq k) (k0_off112_eq k) (by omega) (k0_off107_inb k) (k0_off112_inb k)
    have hb20 := inYs (k0_off107_eq k) (k0_off112_eq k) (by omega) (k0_off107_inb k) (k0_off112_inb k)
    have ha21 := inYa (k0_off108_eq k) (k0_off112_eq k) (by omega) (k0_off108_inb k) (k0_off112_inb k)
    have hb21 := inYs (k0_off108_eq k) (k0_off112_eq k) (by omega) (k0_off108_inb k) (k0_off112_inb k)
    have ha22 := inYa (k0_off109_eq k) (k0_off112_eq k) (by omega) (k0_off109_inb k) (k0_off112_inb k)
    have hb22 := inYs (k0_off109_eq k) (k0_off112_eq k) (by omega) (k0_off109_inb k) (k0_off112_inb k)
    have ha23 := inYa (k0_off110_eq k) (k0_off112_eq k) (by omega) (k0_off110_inb k) (k0_off112_inb k)
    have hb23 := inYs (k0_off110_eq k) (k0_off112_eq k) (by omega) (k0_off110_inb k) (k0_off112_inb k)
    unfold k0_t6_body
    sl_exec
    ihave Hy := (nameY c k _) $$ Hy
    icases Hy with ⟨%f', %hf', Hy⟩
    have hf : f' = (Memref.whole cc0_scratch16).view.writes (Elt F) gs (piecesY w2 w2s b2 f26 f27 k) := hf'
    ihave Hy := (slotY_of c w2 w2s b2 f26 f27 k gs f' hf) $$ Hy
    clear hf hf'
    clear ha0 hb0 ha1 hb1 ha2 hb2 ha3 hb3 ha4 hb4 ha5 hb5 ha6 hb6 ha7 hb7 ha8 hb8 ha9 hb9 ha10 hb10 ha11 hb11 ha12 hb12 ha13 hb13 ha14 hb14 ha15 hb15 ha16 hb16 ha17 hb17 ha18 hb18 ha19 hb19 ha20 hb20 ha21 hb21 ha22 hb22 ha23 hb23
    have hD := DY_of c w2 w2s b2 f26 f27 k gd
    sl_exec (disch := exact hD)
    sl_step
    isplitl [Hs Htok Hs_dst Hrest]
    · isplitl [Hs Htok Hs_dst]
      · isplitl [Hs]
        · iexact Hs
        isplitl [Hs_dst]
        · iexact Hs_dst
        iexact Htok
      iexact Hrest
    isplitl [H26]
    · iexact H26
    isplitl [H27]
    · iexact H27
    isplitl [H20]
    · iexact H20
    isplitl [H21]
    · iexact H21
    isplitl [HB]
    · iexact HB
    isplitl [Hds]
    · iexact Hds
    isplitl [Hys]
    · iexact Hys
    iexists _
    iexact HO

end Cert.KernelIdeal.Hand
-- ==== Proof.KernelIdealHand.Tools2.lean ====
module

public import proofs.«01_k».proof.Proof.KernelIdealHand.L6
public import Idealize.ShloMosaic.Lib.VecWindow

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The proof's user algebra: the pipeline library's beside the transfers' counters. -/
local notation "𝕄" => MT nD τ sig Unit (Elt F) ℕ (Pipeline.UD sig nD τ) ℕ

/-- A full share is its two halves. -/
theorem halve (ℓ : Loc nD τ sig) (S : Finset (Idx ℓ)) (f : Buf (Elt F) ℓ) :
    (ℓ ↦[S]{fullShare} f : sProp 𝕄) ⊣⊢ iprop((ℓ ↦[S]{fullShare.left} f) ∗ ℓ ↦[S]{fullShare.right} f) :=
  pointsTo_share (PosShare.mem_left_op_right fullShare)

set_option maxRecDepth 100000 in
/-- A copy of the whole buffer leaves what was copied. -/
theorem put16 (c : Dev nD) (f w w' : Vec F S1x2048 .f32) (h : w = w') :
    ((Memref.whole cc0_scratch3).view.loc (c : Th) ↦{fullShare} View.write (Elt F) (Memref.whole cc0_scratch3 : Memref sig .tc .vmem S1x2048 .f32).view f w Finset.univ : sProp 𝕄)
      ⊢ ((Memref.whole cc0_scratch3).view.loc (c : Th) ↦{fullShare} w') := by
  subst h
  have e : View.write (Elt F) (Memref.whole cc0_scratch3 : Memref sig .tc .vmem S1x2048 .f32).view f w Finset.univ = w := by
    funext i
    exact View.read_write_of_mem (v := (Memref.whole cc0_scratch3 : Memref sig .tc .vmem S1x2048 .f32).view) f w (Finset.mem_univ i)
  exact Entails.of_eq (congrArg (fun f => ((Memref.whole cc0_scratch3).view.loc (c : Th) ↦{fullShare} f : sProp 𝕄)) e)

set_option maxRecDepth 100000 in
/-- A copy of the whole buffer leaves what was copied. -/
theorem put17 (c : Dev nD) (f w w' : Vec F S3x2048 .bf16) (h : w = w') :
    ((Memref.whole cc0_scratch4).view.loc (c : Th) ↦{fullShare} View.write (Elt F) (Memref.whole cc0_scratch4 : Memref sig .tc .vmem S3x2048 .bf16).view f w Finset.univ : sProp 𝕄)
      ⊢ ((Memref.whole cc0_scratch4).view.loc (c : Th) ↦{fullShare} w') := by
  subst h
  have e : View.write (Elt F) (Memref.whole cc0_scratch4 : Memref sig .tc .vmem S3x2048 .bf16).view f w Finset.univ = w := by
    funext i
    exact View.read_write_of_mem (v := (Memref.whole cc0_scratch4 : Memref sig .tc .vmem S3x2048 .bf16).view) f w (Finset.mem_univ i)
  exact Entails.of_eq (congrArg (fun f => ((Memref.whole cc0_scratch4).view.loc (c : Th) ↦{fullShare} f : sProp 𝕄)) e)

set_option maxRecDepth 100000 in
/-- A copy of the whole buffer leaves what was copied. -/
theorem put18 (c : Dev nD) (f w w' : Vec F S3x2048 .bf16) (h : w = w') :
    ((Memref.whole cc0_scratch5).view.loc (c : Th) ↦{fullShare} View.write (Elt F) (Memref.whole cc0_scratch5 : Memref sig .tc .vmem S3x2048 .bf16).view f w Finset.univ : sProp 𝕄)
      ⊢ ((Memref.whole cc0_scratch5).view.loc (c : Th) ↦{fullShare} w') := by
  subst h
  have e : View.write (Elt F) (Memref.whole cc0_scratch5 : Memref sig .tc .vmem S3x2048 .bf16).view f w Finset.univ = w := by
    funext i
    exact View.read_write_of_mem (v := (Memref.whole cc0_scratch5 : Memref sig .tc .vmem S3x2048 .bf16).view) f w (Finset.mem_univ i)
  exact Entails.of_eq (congrArg (fun f => ((Memref.whole cc0_scratch5).view.loc (c : Th) ↦{fullShare} f : sProp 𝕄)) e)

set_option maxRecDepth 100000 in
/-- A copy of the whole buffer leaves what was copied. -/
theorem put20 (c : Dev nD) (f w w' : Vec F S1x7168 .f32) (h : w = w') :
    ((Memref.whole cc0_scratch7).view.loc (c : Th) ↦{fullShare} View.write (Elt F) (Memref.whole cc0_scratch7 : Memref sig .tc .vmem S1x7168 .f32).view f w Finset.univ : sProp 𝕄)
      ⊢ ((Memref.whole cc0_scratch7).view.loc (c : Th) ↦{fullShare} w') := by
  subst h
  have e : View.write (Elt F) (Memref.whole cc0_scratch7 : Memref sig .tc .vmem S1x7168 .f32).view f w Finset.univ = w := by
    funext i
    exact View.read_write_of_mem (v := (Memref.whole cc0_scratch7 : Memref sig .tc .vmem S1x7168 .f32).view) f w (Finset.mem_univ i)
  exact Entails.of_eq (congrArg (fun f => ((Memref.whole cc0_scratch7).view.loc (c : Th) ↦{fullShare} f : sProp 𝕄)) e)

set_option maxRecDepth 100000 in
/-- A copy of the whole buffer leaves what was copied. -/
theorem put21 (c : Dev nD) (f w w' : Vec F S1x7168 .f32) (h : w = w') :
    ((Memref.whole cc0_scratch8).view.loc (c : Th) ↦{fullShare} View.write (Elt F) (Memref.whole cc0_scratch8 : Memref sig .tc .vmem S1x7168 .f32).view f w Finset.univ : sProp 𝕄)
      ⊢ ((Memref.whole cc0_scratch8).view.loc (c : Th) ↦{fullShare} w') := by
  subst h
  have e : View.write (Elt F) (Memref.whole cc0_scratch8 : Memref sig .tc .vmem S1x7168 .f32).view f w Finset.univ = w := by
    funext i
    exact View.read_write_of_mem (v := (Memref.whole cc0_scratch8 : Memref sig .tc .vmem S1x7168 .f32).view) f w (Finset.mem_univ i)
  exact Entails.of_eq (congrArg (fun f => ((Memref.whole cc0_scratch8).view.loc (c : Th) ↦{fullShare} f : sProp 𝕄)) e)

set_option maxRecDepth 100000 in
/-- A copy of the whole buffer leaves what was copied. -/
theorem put10 (c : Dev nD) (f w w' : Vec F S2x8x12 .f32) (h : w = w') :
    ((Memref.whole main_v5_2).view.loc (c : Th) ↦{fullShare} View.write (Elt F) (Memref.whole main_v5_2 : Memref sig .tc .hbm S2x8x12 .f32).view f w Finset.univ : sProp 𝕄)
      ⊢ ((Memref.whole main_v5_2).view.loc (c : Th) ↦{fullShare} w') := by
  subst h
  have e : View.write (Elt F) (Memref.whole main_v5_2 : Memref sig .tc .hbm S2x8x12 .f32).view f w Finset.univ = w := by
    funext i
    exact View.read_write_of_mem (v := (Memref.whole main_v5_2 : Memref sig .tc .hbm S2x8x12 .f32).view) f w (Finset.mem_univ i)
  exact Entails.of_eq (congrArg (fun f => ((Memref.whole main_v5_2).view.loc (c : Th) ↦{fullShare} f : sProp 𝕄)) e)

set_option maxRecDepth 100000 in
/-- A copy of the whole buffer leaves what was copied. -/
theorem put12 (c : Dev nD) (f w w' : Vec F S2x8x12 .f32) (h : w = w') :
    ((Memref.whole main_v5_4).view.loc (c : Th) ↦{fullShare} View.write (Elt F) (Memref.whole main_v5_4 : Memref sig .tc .hbm S2x8x12 .f32).view f w Finset.univ : sProp 𝕄)
      ⊢ ((Memref.whole main_v5_4).view.loc (c : Th) ↦{fullShare} w') := by
  subst h
  have e : View.write (Elt F) (Memref.whole main_v5_4 : Memref sig .tc .hbm S2x8x12 .f32).view f w Finset.univ = w := by
    funext i
    exact View.read_write_of_mem (v := (Memref.whole main_v5_4 : Memref sig .tc .hbm S2x8x12 .f32).view) f w (Finset.mem_univ i)
  exact Entails.of_eq (congrArg (fun f => ((Memref.whole main_v5_4).view.loc (c : Th) ↦{fullShare} f : sProp 𝕄)) e)

/-- The running maximum starts at its first value everywhere. -/
theorem fill25 (f : Vec F S192x128 .f32) (h) : (Memref.whole cc0_scratch12 : Memref sig .tc .vmem S192x128 .f32).view.writes (Elt F) f
    [⟨Rect.unit (s := S192x128) ![0, 0] S192x128.size h, k0_pay194⟩] = (k0_pay194 : FVec F S192x128 .f32) := by
  funext i
  have e := congrFun (View.read_writes_full (Val := Elt F) (Memref.whole cc0_scratch12 : Memref sig .tc .vmem S192x128 .f32).view f h k0_pay194 []) i
  exact e

end Cert.KernelIdeal.Hand
-- ==== Proof.KernelIdealHand.Zq.lean ====
module

public import proofs.«01_k».proof.Proof.Gen.KernelIdeal.Skeleton
public import proofs.«01_k».proof.Proof.KernelIdealHand.Tools2

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The proof's user algebra: the pipeline library's beside the transfers' counters. -/
local notation "𝕄" => MT nD τ sig Unit (Elt F) ℕ (Pipeline.UD sig nD τ) ℕ

/-- The scales of 32 rows of `z`, along the lanes, from the rows' running maxima. -/
def zSc (v : Vec F S32x128 .f32) : Vec F S32x128 .f32 :=
  k0_pay203 (k0_pay196 v) (k0_pay198 (k0_pay196 v) k0_pay197) (k0_pay199 (k0_pay196 v) k0_pay197) (k0_pay200 (k0_pay196 v) k0_pay197)

/-- The codes of 32 rows of `z`. -/
def zQc (v : Vec F S32x128 .f32) (w : Vec F S32x2048 .f32) : Vec F S32x2048 .fp8e4m3 :=
  k0_pay206 (k0_pay204 (k0_pay196 v) (k0_pay198 (k0_pay196 v) k0_pay197) (k0_pay199 (k0_pay196 v) k0_pay197) (k0_pay200 (k0_pay196 v) k0_pay197) w) k0_pay205

theorem inbM (k : Fin 6) : ∀ a, (![32 * k.val, 0] : Fin 2 → Nat) a + S32x128.size a ≤ S192x128.size a := by revert k; decide
theorem inbZ (k : Fin 6) : ∀ a, (![32 * k.val, 0] : Fin 2 → Nat) a + S32x2048.size a ≤ S192x2048.size a := by revert k; decide
theorem inb24 (g : Fin 24) : ∀ a, (![8 * g.val, 0] : Fin 2 → Nat) a + S8x128.size a ≤ S192x128.size a := by revert g; decide

/-- A block of 32 rows of the running maxima, -/
def rowsM (m : Vec F S192x128 .f32) (k : Fin 6) : Vec F S32x128 .f32 :=
  (Memref.whole cc0_scratch12).view.readAt (Elt F) (Rect.unit (s := S192x128) ![32 * k.val, 0] S32x128.size (inbM k)).toLoadRect m
/-- and of `z`. -/
def rowsZ (z : Vec F S192x2048 .f32) (k : Fin 6) : Vec F S32x2048 .f32 :=
  (Memref.whole cc0_scratch11).view.readAt (Elt F) (Rect.unit (s := S192x2048) ![32 * k.val, 0] S32x2048.size (inbZ k)).toLoadRect z
/-- A group of 8 rows of the scales of `x`, -/
def grp9 (v : Vec F S192x128 .f32) (g : Fin 24) : Vec F S8x128 .f32 :=
  (Memref.whole cc0_scratch9).view.readAt (Elt F) (Rect.unit (s := S192x128) ![8 * g.val, 0] S8x128.size (inb24 g)).toLoadRect v
/-- and of the scales of `z`. -/
def grp14 (v : Vec F S192x128 .f32) (g : Fin 24) : Vec F S8x128 .f32 :=
  (Memref.whole cc0_scratch14).view.readAt (Elt F) (Rect.unit (s := S192x128) ![8 * g.val, 0] S8x128.size (inb24 g)).toLoadRect v

/-- All the scales of `z`, along the lanes. -/
def ZSV (m : Vec F S192x128 .f32) : Vec F S192x128 .f32 := fun i =>
  zSc (rowsM m ⟨(i 0).val / 32, by have h : (i 0).val < 192 := (i 0).isLt; omega⟩) (ix2 ⟨(i 0).val % 32, by omega⟩ (i 1))

/-- All the codes of `z`. -/
def ZQ (z : Vec F S192x2048 .f32) (m : Vec F S192x128 .f32) : Vec F S192x2048 .fp8e4m3 := fun i =>
  zQc (rowsM m ⟨(i 0).val / 32, by have h : (i 0).val < 192 := (i 0).isLt; omega⟩) (rowsZ z ⟨(i 0).val / 32, by have h : (i 0).val < 192 := (i 0).isLt; omega⟩)
    (ix2 ⟨(i 0).val % 32, by omega⟩ (i 1))

/-- The scales of twelve groups side by side: lane `w` of the result is group `w`'s. -/
def spB (l : Fin 12 → Vec F S8x128 .f32) : FVec F S1x8x12 .f32 :=
  k0_pay190 (iota .tc S8x128 32 [1] iota_S8x128_d1_w32) (k0_pay188 (l 0) (l 1) (l 2) (l 3)) k0_pay189 (l 4) (l 5) (l 6) (l 7) (l 8) (l 9) (l 10) (l 11)

/-- The scales as they are returned. -/
def SP (l : Fin 24 → Vec F S8x128 .f32) : Vec F S2x8x12 .f32 := fun i =>
  spB (fun w => l ⟨12 * (i 0).val + w.val, by have h : (i 0).val < 2 := (i 0).isLt; omega⟩) (ix3 0 (i 1) (i 2))

theorem ZSV_at (m : Vec F S192x128 .f32) (k : Fin 6) (x : S32x128.Idx) (i : S192x128.Idx)
    (h0 : (i 0).val = 32 * k.val + (x 0).val) (h1 : (i 1).val = 0 + (x 1).val) : ZSV m i = zSc (rowsM m k) x := by
  have x0 : (x 0).val < 32 := (x 0).isLt
  have e : ∀ k' x', k' = k → x' = x → zSc (rowsM m k') x' = zSc (rowsM m k) x := by rintro _ _ rfl rfl; rfl
  refine e _ _ (Fin.ext ?_) (funext fun a => ?_)
  · show (i 0).val / 32 = k.val; omega
  · fin_cases a <;> apply Fin.ext
    · show (i 0).val % 32 = (x 0).val; omega
    · exact h1.trans (Nat.zero_add _)

theorem ZQ_at (z : Vec F S192x2048 .f32) (m : Vec F S192x128 .f32) (k : Fin 6) (x : S32x2048.Idx) (i : S192x2048.Idx)
    (h0 : (i 0).val = 32 * k.val + (x 0).val) (h1 : (i 1).val = 0 + (x 1).val) : ZQ z m i = zQc (rowsM m k) (rowsZ z k) x := by
  have x0 : (x 0).val < 32 := (x 0).isLt
  have e : ∀ k' x', k' = k → x' = x → zQc (rowsM m k') (rowsZ z k') x' = zQc (rowsM m k) (rowsZ z k) x := by rintro _ _ rfl rfl; rfl
  refine e _ _ (Fin.ext ?_) (funext fun a => ?_)
  · show (i 0).val / 32 = k.val; omega
  · fin_cases a <;> apply Fin.ext
    · show (i 0).val % 32 = (x 0).val; omega
    · exact h1.trans (Nat.zero_add _)

theorem SP_at (l : Fin 24 → Vec F S8x128 .f32) (b : Fin 2) (x : S1x8x12.Idx) (i : S2x8x12.Idx)
    (h0 : (i 0).val = b.val) (h1 : (i 1).val = (x 1).val) (h2 : (i 2).val = (x 2).val) :
    SP l i = spB (fun w => l ⟨12 * b.val + w.val, by omega⟩) x := by
  have x0 : (x 0).val < 1 := (x 0).isLt
  have e : ∀ (b' : ℕ) (hb : b' < 2) x', b' = b.val → x' = x → spB (fun w => l ⟨12 * b' + w.val, by omega⟩) x' = spB (fun w => l ⟨12 * b.val + w.val, by omega⟩) x := by
    rintro _ _ _ rfl rfl; rfl
  refine e _ (i 0).isLt _ h0 (funext fun a => ?_)
  fin_cases a <;> apply Fin.ext
  · show 0 = (x 0).val; omega
  · exact h1
  · exact h2

/-- The six stores of the scales of `z`, last first, -/
def piecesS (m : Vec F S192x128 .f32) : List (View.Piece (Elt F) S192x128 .f32) :=
  [⟨Rect.unit (s := S192x128) ![160, 0] S32x128.size inb_S192x128_S32x128_160_0, zSc (rowsM m 5)⟩,
    ⟨Rect.unit (s := S192x128) ![128, 0] S32x128.size inb_S192x128_S32x128_128_0, zSc (rowsM m 4)⟩,
    ⟨Rect.unit (s := S192x128) ![96, 0] S32x128.size inb_S192x128_S32x128_96_0, zSc (rowsM m 3)⟩,
    ⟨Rect.unit (s := S192x128) ![64, 0] S32x128.size inb_S192x128_S32x128_64_0, zSc (rowsM m 2)⟩,
    ⟨Rect.unit (s := S192x128) ![32, 0] S32x128.size inb_S192x128_S32x128_32_0, zSc (rowsM m 1)⟩,
    ⟨Rect.unit (s := S192x128) ![0, 0] S32x128.size inb_S192x128_S32x128_0_0, zSc (rowsM m 0)⟩]

/-- of its codes, -/
def piecesZQ (z : Vec F S192x2048 .f32) (m : Vec F S192x128 .f32) : List (View.Piece (Elt F) S192x2048 .fp8e4m3) :=
  [⟨Rect.unit (s := S192x2048) ![160, 0] S32x2048.size inb_S192x2048_S32x2048_160_0, zQc (rowsM m 5) (rowsZ z 5)⟩,
    ⟨Rect.unit (s := S192x2048) ![128, 0] S32x2048.size inb_S192x2048_S32x2048_128_0, zQc (rowsM m 4) (rowsZ z 4)⟩,
    ⟨Rect.unit (s := S192x2048) ![96, 0] S32x2048.size inb_S192x2048_S32x2048_96_0, zQc (rowsM m 3) (rowsZ z 3)⟩,
    ⟨Rect.unit (s := S192x2048) ![64, 0] S32x2048.size inb_S192x2048_S32x2048_64_0, zQc (rowsM m 2) (rowsZ z 2)⟩,
    ⟨Rect.unit (s := S192x2048) ![32, 0] S32x2048.size inb_S192x2048_S32x2048_32_0, zQc (rowsM m 1) (rowsZ z 1)⟩,
    ⟨Rect.unit (s := S192x2048) ![0, 0] S32x2048.size inb_S192x2048_S32x2048_0_0, zQc (rowsM m 0) (rowsZ z 0)⟩]

/-- and the two stores of the scales as they are returned (x). -/
def piecesXP (v : Vec F S192x128 .f32) : List (View.Piece (Elt F) S2x8x12 .f32) :=
  [⟨Rect.unit (s := S2x8x12) ![1, 0, 0] S1x8x12.size inb_S2x8x12_S1x8x12_1_0_0, spB fun w => grp9 v ⟨12 * 1 + w.val, by omega⟩⟩,
    ⟨Rect.unit (s := S2x8x12) ![0, 0, 0] S1x8x12.size inb_S2x8x12_S1x8x12_0_0_0, spB fun w => grp9 v ⟨12 * 0 + w.val, by omega⟩⟩]

/-- and the two stores of the scales as they are returned (z). -/
def piecesZP (v : Vec F S192x128 .f32) : List (View.Piece (Elt F) S2x8x12 .f32) :=
  [⟨Rect.unit (s := S2x8x12) ![1, 0, 0] S1x8x12.size inb_S2x8x12_S1x8x12_1_0_0, spB fun w => grp14 v ⟨12 * 1 + w.val, by omega⟩⟩,
    ⟨Rect.unit (s := S2x8x12) ![0, 0, 0] S1x8x12.size inb_S2x8x12_S1x8x12_0_0_0, spB fun w => grp14 v ⟨12 * 0 + w.val, by omega⟩⟩]

theorem of_read14 (w g : Vec F S192x128 .f32) (h : ∀ y, (Memref.whole cc0_scratch14 : Memref sig .tc .vmem S192x128 .f32).view.read (Elt F) w y = g y) : w = g := funext h

theorem of_read13 (w g : Vec F S192x2048 .fp8e4m3) (h : ∀ y, (Memref.whole cc0_scratch13 : Memref sig .tc .vmem S192x2048 .fp8e4m3).view.read (Elt F) w y = g y) : w = g := funext h

theorem of_read10 (w g : Vec F S2x8x12 .f32) (h : ∀ y, (Memref.whole cc0_scratch10 : Memref sig .tc .vmem S2x8x12 .f32).view.read (Elt F) w y = g y) : w = g := funext h

theorem of_read15 (w g : Vec F S2x8x12 .f32) (h : ∀ y, (Memref.whole cc0_scratch15 : Memref sig .tc .vmem S2x8x12 .f32).view.read (Elt F) w y = g y) : w = g := funext h

theorem fillS (m f : Vec F S192x128 .f32) : (Memref.whole cc0_scratch14 : Memref sig .tc .vmem S192x128 .f32).view.writes (Elt F) f (piecesS m) = ZSV m := by
  refine of_read14 _ _ fun y => ?_
  refine fill_step (Memref.whole cc0_scratch14 : Memref sig .tc .vmem S192x128 .f32).view f (piecesS m) (ZSV m) (fun _ => False) (fun _ => True) ?_ ?_ (fun y hy => hy.elim) y trivial
  all_goals clear y
  · intro p hp
    simp only [piecesS, List.mem_cons, List.not_mem_nil, or_false] at hp
    rcases hp with rfl | rfl | rfl | rfl | rfl | rfl <;> intro x
    · exact (ZSV_at m 5 x _ (emb_at rfl inb_S192x128_S32x128_160_0 x 0) (emb_at rfl inb_S192x128_S32x128_160_0 x 1)).symm
    · exact (ZSV_at m 4 x _ (emb_at rfl inb_S192x128_S32x128_128_0 x 0) (emb_at rfl inb_S192x128_S32x128_128_0 x 1)).symm
    · exact (ZSV_at m 3 x _ (emb_at rfl inb_S192x128_S32x128_96_0 x 0) (emb_at rfl inb_S192x128_S32x128_96_0 x 1)).symm
    · exact (ZSV_at m 2 x _ (emb_at rfl inb_S192x128_S32x128_64_0 x 0) (emb_at rfl inb_S192x128_S32x128_64_0 x 1)).symm
    · exact (ZSV_at m 1 x _ (emb_at rfl inb_S192x128_S32x128_32_0 x 0) (emb_at rfl inb_S192x128_S32x128_32_0 x 1)).symm
    · exact (ZSV_at m 0 x _ (emb_at rfl inb_S192x128_S32x128_0_0 x 0) (emb_at rfl inb_S192x128_S32x128_0_0 x 1)).symm
  · intro y _
    right
    have y0 : (y 0).val < 192 := (y 0).isLt
    have y1 : (y 1).val < 128 := (y 1).isLt
    unfold piecesS
    rcases (by omega : (y 0).val < 32 ∨ (32 ≤ (y 0).val ∧ (y 0).val < 64) ∨ (64 ≤ (y 0).val ∧ (y 0).val < 96) ∨ (96 ≤ (y 0).val ∧ (y 0).val < 128) ∨ (128 ≤ (y 0).val ∧ (y 0).val < 160) ∨ 160 ≤ (y 0).val) with h | h | h | h | h | h
    · exact ⟨_, .tail _ (.tail _ (.tail _ (.tail _ (.tail _ (.head _))))), mem_unit2 rfl inb_S192x128_S32x128_0_0 y ⟨by omega, by omega⟩ ⟨by omega, by omega⟩⟩
    · exact ⟨_, .tail _ (.tail _ (.tail _ (.tail _ (.head _)))), mem_unit2 rfl inb_S192x128_S32x128_32_0 y ⟨by omega, by omega⟩ ⟨by omega, by omega⟩⟩
    · exact ⟨_, .tail _ (.tail _ (.tail _ (.head _))), mem_unit2 rfl inb_S192x128_S32x128_64_0 y ⟨by omega, by omega⟩ ⟨by omega, by omega⟩⟩
    · exact ⟨_, .tail _ (.tail _ (.head _)), mem_unit2 rfl inb_S192x128_S32x128_96_0 y ⟨by omega, by omega⟩ ⟨by omega, by omega⟩⟩
    · exact ⟨_, .tail _ (.head _), mem_unit2 rfl inb_S192x128_S32x128_128_0 y ⟨by omega, by omega⟩ ⟨by omega, by omega⟩⟩
    · exact ⟨_, .head _, mem_unit2 rfl inb_S192x128_S32x128_160_0 y ⟨by omega, by omega⟩ ⟨by omega, by omega⟩⟩

set_option maxHeartbeats 1000000 in
theorem fillZQ (z : Vec F S192x2048 .f32) (m : Vec F S192x128 .f32) (f : Vec F S192x2048 .fp8e4m3) :
    (Memref.whole cc0_scratch13 : Memref sig .tc .vmem S192x2048 .fp8e4m3).view.writes (Elt F) f (piecesZQ z m) = ZQ z m := by
  refine of_read13 _ _ fun y => ?_
  refine fill_step (Memref.whole cc0_scratch13 : Memref sig .tc .vmem S192x2048 .fp8e4m3).view f (piecesZQ z m) (ZQ z m) (fun _ => False) (fun _ => True) ?_ ?_ (fun y hy => hy.elim) y trivial
  all_goals clear y
  · intro p hp
    simp only [piecesZQ, List.mem_cons, List.not_mem_nil, or_false] at hp
    rcases hp with rfl | rfl | rfl | rfl | rfl | rfl <;> intro x
    · exact (ZQ_at z m 5 x _ (emb_at rfl inb_S192x2048_S32x2048_160_0 x 0) (emb_at rfl inb_S192x2048_S32x2048_160_0 x 1)).symm
    · exact (ZQ_at z m 4 x _ (emb_at rfl inb_S192x2048_S32x2048_128_0 x 0) (emb_at rfl inb_S192x2048_S32x2048_128_0 x 1)).symm
    · exact (ZQ_at z m 3 x _ (emb_at rfl inb_S192x2048_S32x2048_96_0 x 0) (emb_at rfl inb_S192x2048_S32x2048_96_0 x 1)).symm
    · exact (ZQ_at z m 2 x _ (emb_at rfl inb_S192x2048_S32x2048_64_0 x 0) (emb_at rfl inb_S192x2048_S32x2048_64_0 x 1)).symm
    · exact (ZQ_at z m 1 x _ (emb_at rfl inb_S192x2048_S32x2048_32_0 x 0) (emb_at rfl inb_S192x2048_S32x2048_32_0 x 1)).symm
    · exact (ZQ_at z m 0 x _ (emb_at rfl inb_S192x2048_S32x2048_0_0 x 0) (emb_at rfl inb_S192x2048_S32x2048_0_0 x 1)).symm
  · intro y _
    right
    have y0 : (y 0).val < 192 := (y 0).isLt
    have y1 : (y 1).val < 2048 := (y 1).isLt
    unfold piecesZQ
    rcases (by omega : (y 0).val < 32 ∨ (32 ≤ (y 0).val ∧ (y 0).val < 64) ∨ (64 ≤ (y 0).val ∧ (y 0).val < 96) ∨ (96 ≤ (y 0).val ∧ (y 0).val < 128) ∨ (128 ≤ (y 0).val ∧ (y 0).val < 160) ∨ 160 ≤ (y 0).val) with h | h | h | h | h | h
    · exact ⟨_, .tail _ (.tail _ (.tail _ (.tail _ (.tail _ (.head _))))), mem_unit2 rfl inb_S192x2048_S32x2048_0_0 y ⟨by omega, by omega⟩ ⟨by omega, by omega⟩⟩
    · exact ⟨_, .tail _ (.tail _ (.tail _ (.tail _ (.head _)))), mem_unit2 rfl inb_S192x2048_S32x2048_32_0 y ⟨by omega, by omega⟩ ⟨by omega, by omega⟩⟩
    · exact ⟨_, .tail _ (.tail _ (.tail _ (.head _))), mem_unit2 rfl inb_S192x2048_S32x2048_64_0 y ⟨by omega, by omega⟩ ⟨by omega, by omega⟩⟩
    · exact ⟨_, .tail _ (.tail _ (.head _)), mem_unit2 rfl inb_S192x2048_S32x2048_96_0 y ⟨by omega, by omega⟩ ⟨by omega, by omega⟩⟩
    · exact ⟨_, .tail _ (.head _), mem_unit2 rfl inb_S192x2048_S32x2048_128_0 y ⟨by omega, by omega⟩ ⟨by omega, by omega⟩⟩
    · exact ⟨_, .head _, mem_unit2 rfl inb_S192x2048_S32x2048_160_0 y ⟨by omega, by omega⟩ ⟨by omega, by omega⟩⟩

/-- Membership in one of the two blocks of the returned scales. -/
theorem mem_sp {o : Fin 3 → ℕ} {b : ℕ} (h : o = ![b, 0, 0]) (hb : ∀ d, o d + S1x8x12.size d ≤ S2x8x12.size d) (y : S2x8x12.Idx) (h0 : (y 0).val = b) :
    y ∈ (Rect.unit (s := S2x8x12) o S1x8x12.size hb).set := by
  subst h
  have y1 : (y 1).val < 8 := (y 1).isLt
  have y2 : (y 2).val < 12 := (y 2).isLt
  rw [Rect.mem_set_unit]
  intro d
  fin_cases d
  · show b ≤ (y 0).val ∧ (y 0).val < b + 1; omega
  · show 0 ≤ (y 1).val ∧ (y 1).val < 0 + 8; omega
  · show 0 ≤ (y 2).val ∧ (y 2).val < 0 + 12; omega

set_option maxHeartbeats 1000000 in
theorem fillXP (v : Vec F S192x128 .f32) (f : Vec F S2x8x12 .f32) : (Memref.whole cc0_scratch10 : Memref sig .tc .vmem S2x8x12 .f32).view.writes (Elt F) f (piecesXP v) = SP (grp9 v) := by
  refine of_read10 _ _ fun y => ?_
  refine fill_step (Memref.whole cc0_scratch10 : Memref sig .tc .vmem S2x8x12 .f32).view f (piecesXP v) (SP (grp9 v)) (fun _ => False) (fun _ => True) ?_ ?_ (fun y hy => hy.elim) y trivial
  all_goals clear y
  · intro p hp
    simp only [piecesXP, List.mem_cons, List.not_mem_nil, or_false] at hp
    rcases hp with rfl | rfl <;> intro x
    · have x0 : (x 0).val < 1 := (x 0).isLt
      exact (SP_at (grp9 v) 1 x _ ((emb_at rfl inb_S2x8x12_S1x8x12_1_0_0 x 0).trans (by show 1 + (x 0).val = 1; omega)) ((emb_at rfl inb_S2x8x12_S1x8x12_1_0_0 x 1).trans (Nat.zero_add _)) ((emb_at rfl inb_S2x8x12_S1x8x12_1_0_0 x 2).trans (Nat.zero_add _))).symm
    · have x0 : (x 0).val < 1 := (x 0).isLt
      exact (SP_at (grp9 v) 0 x _ ((emb_at rfl inb_S2x8x12_S1x8x12_0_0_0 x 0).trans (by show 0 + (x 0).val = 0; omega)) ((emb_at rfl inb_S2x8x12_S1x8x12_0_0_0 x 1).trans (Nat.zero_add _)) ((emb_at rfl inb_S2x8x12_S1x8x12_0_0_0 x 2).trans (Nat.zero_add _))).symm
  · intro y _
    right
    have y0 : (y 0).val < 2 := (y 0).isLt
    unfold piecesXP
    rcases (by omega : (y 0).val = 0 ∨ (y 0).val = 1) with h | h
    · exact ⟨_, .tail _ (.head _), mem_sp rfl inb_S2x8x12_S1x8x12_0_0_0 y h⟩
    · exact ⟨_, .head _, mem_sp rfl inb_S2x8x12_S1x8x12_1_0_0 y h⟩

set_option maxHeartbeats 1000000 in
theorem fillZP (v : Vec F S192x128 .f32) (f : Vec F S2x8x12 .f32) : (Memref.whole cc0_scratch15 : Memref sig .tc .vmem S2x8x12 .f32).view.writes (Elt F) f (piecesZP v) = SP (grp14 v) := by
  refine of_read15 _ _ fun y => ?_
  refine fill_step (Memref.whole cc0_scratch15 : Memref sig .tc .vmem S2x8x12 .f32).view f (piecesZP v) (SP (grp14 v)) (fun _ => False) (fun _ => True) ?_ ?_ (fun y hy => hy.elim) y trivial
  all_goals clear y
  · intro p hp
    simp only [piecesZP, List.mem_cons, List.not_mem_nil, or_false] at hp
    rcases hp with rfl | rfl <;> intro x
    · have x0 : (x 0).val < 1 := (x 0).isLt
      exact (SP_at (grp14 v) 1 x _ ((emb_at rfl inb_S2x8x12_S1x8x12_1_0_0 x 0).trans (by show 1 + (x 0).val = 1; omega)) ((emb_at rfl inb_S2x8x12_S1x8x12_1_0_0 x 1).trans (Nat.zero_add _)) ((emb_at rfl inb_S2x8x12_S1x8x12_1_0_0 x 2).trans (Nat.zero_add _))).symm
    · have x0 : (x 0).val < 1 := (x 0).isLt
      exact (SP_at (grp14 v) 0 x _ ((emb_at rfl inb_S2x8x12_S1x8x12_0_0_0 x 0).trans (by show 0 + (x 0).val = 0; omega)) ((emb_at rfl inb_S2x8x12_S1x8x12_0_0_0 x 1).trans (Nat.zero_add _)) ((emb_at rfl inb_S2x8x12_S1x8x12_0_0_0 x 2).trans (Nat.zero_add _))).symm
  · intro y _
    right
    have y0 : (y 0).val < 2 := (y 0).isLt
    unfold piecesZP
    rcases (by omega : (y 0).val = 0 ∨ (y 0).val = 1) with h | h
    · exact ⟨_, .tail _ (.head _), mem_sp rfl inb_S2x8x12_S1x8x12_0_0_0 y h⟩
    · exact ⟨_, .head _, mem_sp rfl inb_S2x8x12_S1x8x12_1_0_0 y h⟩

/-- The end of the body's 57th part: the first loads of the scales of `z`. -/
def p57 (arg27 : Memref sig .tc .vmem S192x128 .f32) (harg27 : arg27.IsWhole) :
    Prog (TpuEff nD τ sig (Elt F) Λ₀ .tc) (Σ' (v704 : IVec S8x128 32) (v709 : Vec F S8x128 .f32) (v711 : IVec S8x128 1), Vec F S8x128 .f32) := do
  have v704 : IVec S8x128 32 := iota .tc S8x128 32 [1] iota_S8x128_d1_w32
  let v705 : Vec F S8x128 .f32 ← Prog.lift (.load arg27 (Rect.unit (s := S192x128) ![0, 0] S8x128.size inb_S192x128_S8x128_0_0).toLoadRect (View.loadsAt_vmem h_S8x128))
  let v708 : Vec F S8x128 .f32 ← Prog.lift (.load arg27 (Rect.unit (s := S192x128) ![8, 0] S8x128.size inb_S192x128_S8x128_8_0).toLoadRect (View.loadsAt_vmem h_S8x128))
  let v712 : Vec F S8x128 .f32 ← Prog.lift (.load arg27 (Rect.unit (s := S192x128) ![16, 0] S8x128.size inb_S192x128_S8x128_16_0).toLoadRect (View.loadsAt_vmem h_S8x128))
  pure ⟨v704, k0_pay255 v705 v708, k0_pay256, v712⟩
set_option maxRecDepth 65536 in

/-- The body's 57th part up to there, then the rest `p`. -/
def part57s (p : ∀ (arg27 : Memref sig .tc .vmem S192x128 .f32), arg27.IsWhole → Prog (TpuEff nD τ sig (Elt F) Λ₀ .tc) (Σ' (v704 : IVec S8x128 32) (v709 : Vec F S8x128 .f32) (v711 : IVec S8x128 1), Vec F S8x128 .f32)) (arg0 : Memref sig .tc .hbm S192x8192 .bf16) (harg0 : arg0.IsWhole) (arg1 : Memref sig .tc .hbm S8192x2048 .fp8e4m3) (harg1 : arg1.IsWhole) (arg2 : Memref sig .tc .hbm S1x2048 .f32) (harg2 : arg2.IsWhole) (arg3 : Memref sig .tc .hbm S3x2048 .bf16) (harg3 : arg3.IsWhole) (arg4 : Memref sig .tc .hbm S3x2048 .bf16) (harg4 : arg4.IsWhole) (arg5 : Memref sig .tc .hbm S2048x7168 .fp8e4m3) (harg5 : arg5.IsWhole) (arg6 : Memref sig .tc .hbm S1x7168 .f32) (harg6 : arg6.IsWhole) (arg7 : Memref sig .tc .hbm S1x7168 .f32) (harg7 : arg7.IsWhole) (arg8 : Memref sig .tc .hbm S24x8x7168 .bf16) (harg8 : arg8.IsWhole) (arg9 : Memref sig .tc .hbm S24x8x8192 .fp8e4m3) (harg9 : arg9.IsWhole) (arg10 : Memref sig .tc .hbm S2x8x12 .f32) (harg10 : arg10.IsWhole) (arg11 : Memref sig .tc .hbm S24x8x2048 .fp8e4m3) (harg11 : arg11.IsWhole) (arg12 : Memref sig .tc .hbm S2x8x12 .f32) (harg12 : arg12.IsWhole) (arg13 : Memref sig .tc .vmem S192x8192 .bf16) (harg13 : arg13.IsWhole) (arg14 : Memref sig .tc .vmem S192x8192 .fp8e4m3) (harg14 : arg14.IsWhole) (arg15 : Memref sig .tc .vmem S4x8192x512 .fp8e4m3) (harg15 : arg15.IsWhole) (arg16 : Memref sig .tc .vmem S1x2048 .f32) (harg16 : arg16.IsWhole) (arg17 : Memref sig .tc .vmem S3x2048 .bf16) (harg17 : arg17.IsWhole) (arg18 : Memref sig .tc .vmem S3x2048 .bf16) (harg18 : arg18.IsWhole) (arg19 : Memref sig .tc .vmem S7x2048x1024 .fp8e4m3) (harg19 : arg19.IsWhole) (arg20 : Memref sig .tc .vmem S1x7168 .f32) (harg20 : arg20.IsWhole) (arg21 : Memref sig .tc .vmem S1x7168 .f32) (harg21 : arg21.IsWhole) (arg22 : Memref sig .tc .vmem S192x128 .f32) (harg22 : arg22.IsWhole) (arg23 : Memref sig .tc .vmem S2x8x12 .f32) (harg23 : arg23.IsWhole) (arg24 : Memref sig .tc .vmem S192x2048 .f32) (harg24 : arg24.IsWhole) (arg25 : Memref sig .tc .vmem S192x128 .f32) (harg25 : arg25.IsWhole) (arg26 : Memref sig .tc .vmem S192x2048 .fp8e4m3) (harg26 : arg26.IsWhole) (arg27 : Memref sig .tc .vmem S192x128 .f32) (harg27 : arg27.IsWhole) (arg28 : Memref sig .tc .vmem S2x8x12 .f32) (harg28 : arg28.IsWhole) (arg29 : Memref sig .tc .vmem S7x24x8x1024 .bf16) (harg29 : arg29.IsWhole) (arg30 : DmaSems sig S6) (arg31 : DmaSems sig S4) (arg32 : DmaSems sig S_) (arg33 : DmaSems sig S_) (arg34 : DmaSems sig S_) (arg35 : DmaSems sig S_) (arg36 : DmaSems sig S_) (arg37 : DmaSems sig S7) (arg38 : DmaSems sig S_) (arg39 : DmaSems sig S_) (arg40 : DmaSems sig S_) (arg41 : DmaSems sig S_) (arg42 : DmaSems sig S_) (v609 : FVec F S32x1 .f32) (v673 : FVec F S32x1 .f32) (v675 : IVec S32x1 32) :
    Prog (TpuEff nD τ sig (Elt F) Λ₀ .tc) (Σ' (v704 : IVec S8x128 32) (v709 : Vec F S8x128 .f32) (v711 : IVec S8x128 1), Vec F S8x128 .f32) := do
  let v690 : Vec F S32x128 .f32 ← Prog.lift (.load arg27 (Rect.unit (s := S192x128) ![160, 0] S32x128.size inb_S192x128_S32x128_160_0).toLoadRect (View.loadsAt_vmem h_S32x128))
  Prog.lift (.store arg27 (Rect.unit (s := S192x128) ![160, 0] S32x128.size inb_S192x128_S32x128_160_0) (k0_pay253 v609 v673) Finset.univ (View.stores_vmem_bits_univ h_S32x128 rfl) (.inl rfl))
  let v693 : Vec F S32x2048 .f32 ← Prog.lift (.load arg24 (Rect.unit (s := S192x2048) ![160, 0] S32x2048.size inb_S192x2048_S32x2048_160_0).toLoadRect (View.loadsAt_vmem h_S32x2048))
  let v701 : Vec F S32x2048 .fp8e4m3 ← Prog.lift (.load arg26 (Rect.unit (s := S192x2048) ![160, 0] S32x2048.size inb_S192x2048_S32x2048_160_0).toLoadRect (View.loadsAt_vmem h_S32x2048))
  Prog.lift (.store arg26 (Rect.unit (s := S192x2048) ![160, 0] S32x2048.size inb_S192x2048_S32x2048_160_0) (k0_pay254 v609 v675 v693) Finset.univ (View.stores_vmem h_S32x2048 (harg26.storeExact_slice rfl _ packedfp8e4m3_S192x2048_S32x2048_160_0) (fun _ => rfl)) (.inl rfl))
  p arg27 harg27

theorem part57_eq : k0_part57 (F := F) = part57s p57 := rfl

end Cert.KernelIdeal.Hand
-- ==== Proof.KernelIdealHand.Outs.lean ====
module

public import proofs.«01_k».proof.Proof.Gen.KernelIdeal.Skeleton
public import proofs.«01_k».proof.Proof.KernelIdealHand.Zq
public import proofs.«01_k».proof.Proof.KernelIdealHand.L6

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The proof's user algebra: the pipeline library's beside the transfers' counters. -/
local notation "𝕄" => MT nD τ sig Unit (Elt F) ℕ (Pipeline.UD sig nD τ) ℕ

/-- The codes as they are returned, group by group. -/
def GC9 (w : Vec F S192x8192 .fp8e4m3) : Vec F S24x8x8192 .fp8e4m3 := shapeCast S24x8x8192 w (reshapes_S24x8x8192_S192x8192.1).symm

set_option maxRecDepth 100000 in
/-- A copy into the reshaped result leaves what was copied. -/
theorem put9 (c : Dev nD) (g : Vec F S24x8x8192 .fp8e4m3) (w w' : Vec F S192x8192 .fp8e4m3) (h : w = w') :
    ((Memref.whole main_v5_1).view.loc (c : Th) ↦{fullShare} View.write (Elt F) ((Memref.whole main_v5_1 : Memref sig .tc .hbm S24x8x8192 .fp8e4m3).reshape S192x8192 reshapes_S24x8x8192_S192x8192.1 reshapes_S24x8x8192_S192x8192.2 (iw _).contiguous).view g w Finset.univ : sProp 𝕄)
      ⊢ ((Memref.whole main_v5_1).view.loc (c : Th) ↦{fullShare} GC9 w') := by
  subst h
  have e : View.write (Elt F) ((Memref.whole main_v5_1 : Memref sig .tc .hbm S24x8x8192 .fp8e4m3).view.reshape S192x8192 reshapes_S24x8x8192_S192x8192.1) g w Finset.univ = GC9 w := by
    rw [View.write_reshape_univ]
    funext i
    exact View.read_write_of_mem (v := (Memref.whole main_v5_1 : Memref sig .tc .hbm S24x8x8192 .fp8e4m3).view) g _ (Finset.mem_univ i)
  exact Entails.of_eq (congrArg (fun f => ((Memref.whole main_v5_1).view.loc (c : Th) ↦{fullShare} f : sProp 𝕄)) e)

/-- The codes as they are returned, group by group. -/
def GC11 (w : Vec F S192x2048 .fp8e4m3) : Vec F S24x8x2048 .fp8e4m3 := shapeCast S24x8x2048 w (reshapes_S24x8x2048_S192x2048.1).symm

set_option maxRecDepth 100000 in
/-- A copy into the reshaped result leaves what was copied. -/
theorem put11 (c : Dev nD) (g : Vec F S24x8x2048 .fp8e4m3) (w w' : Vec F S192x2048 .fp8e4m3) (h : w = w') :
    ((Memref.whole main_v5_3).view.loc (c : Th) ↦{fullShare} View.write (Elt F) ((Memref.whole main_v5_3 : Memref sig .tc .hbm S24x8x2048 .fp8e4m3).reshape S192x2048 reshapes_S24x8x2048_S192x2048.1 reshapes_S24x8x2048_S192x2048.2 (iw _).contiguous).view g w Finset.univ : sProp 𝕄)
      ⊢ ((Memref.whole main_v5_3).view.loc (c : Th) ↦{fullShare} GC11 w') := by
  subst h
  have e : View.write (Elt F) ((Memref.whole main_v5_3 : Memref sig .tc .hbm S24x8x2048 .fp8e4m3).view.reshape S192x2048 reshapes_S24x8x2048_S192x2048.1) g w Finset.univ = GC11 w := by
    rw [View.write_reshape_univ]
    funext i
    exact View.read_write_of_mem (v := (Memref.whole main_v5_3 : Memref sig .tc .hbm S24x8x2048 .fp8e4m3).view) g _ (Finset.mem_univ i)
  exact Entails.of_eq (congrArg (fun f => ((Memref.whole main_v5_3).view.loc (c : Th) ↦{fullShare} f : sProp 𝕄)) e)

section
variable (X : Vec F S192x8192 .bf16) (w1 : Vec F S8192x2048 .fp8e4m3) (w1s : Vec F S1x2048 .f32) (wh ww : Vec F S3x2048 .bf16)

/-- `z` at the end, -/
def zv : Vec F S192x2048 .f32 := Z w1 w1s wh ww (XQ X) (XSV X)
/-- its rows' maxima, -/
def mv : Vec F S192x128 .f32 := ZM w1 w1s wh ww (XQ X) (XSV X) 4
/-- its codes and its scales. -/
def qz : Vec F S192x2048 .fp8e4m3 := ZQ (zv X w1 w1s wh ww) (mv X w1 w1s wh ww)
def sz : Vec F S192x128 .f32 := ZSV (mv X w1 w1s wh ww)
end

theorem fin7 {n : ℕ} (hn : n = 7) (Φ : Fin n → sProp 𝕄) : bigSep Finset.univ Φ
    = iprop(Φ ⟨0, by omega⟩ ∗ Φ ⟨1, by omega⟩ ∗ Φ ⟨2, by omega⟩ ∗ Φ ⟨3, by omega⟩ ∗ Φ ⟨4, by omega⟩ ∗ Φ ⟨5, by omega⟩ ∗ Φ ⟨6, by omega⟩) := by
  subst hn
  rw [BI.bigSep_eq_bigSepL_of_eq [0, 1, 2, 3, 4, 5, 6] (by decide) (by decide)]; rfl

end Cert.KernelIdeal.Hand
-- ==== Proof.KernelIdealHand.Body.lean ====
module

public import proofs.«01_k».proof.Proof.Gen.KernelIdeal.Skeleton
public import proofs.«01_k».proof.Proof.KernelIdealHand.Tools2
public import proofs.«01_k».proof.Proof.KernelIdealHand.Zq
public import proofs.«01_k».proof.Proof.KernelIdealHand.Outs

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The proof's user algebra: the pipeline library's beside the transfers' counters. -/
local notation "𝕄" => MT nD τ sig Unit (Elt F) ℕ (Pipeline.UD sig nD τ) ℕ

theorem nameZQ (c : Dev nD) (f : Vec F S192x2048 .fp8e4m3) : ((Memref.whole cc0_scratch13).view.loc (c : Th) ↦{fullShare} f) ⊢ (iprop(∃ f', ⌜f' = f⌝ ∗ ((Memref.whole cc0_scratch13).view.loc (c : Th) ↦{fullShare} f')) : sProp 𝕄) := by
  iintro H
  iexists f
  isplitr
  · ipureintro; rfl
  iexact H

theorem name10 (c : Dev nD) (f : Vec F S2x8x12 .f32) : ((Memref.whole main_v5_2).view.loc (c : Th) ↦{fullShare} f) ⊢ (iprop(∃ f', ⌜f' = f⌝ ∗ ((Memref.whole main_v5_2).view.loc (c : Th) ↦{fullShare} f')) : sProp 𝕄) := by
  iintro H
  iexists f
  isplitr
  · ipureintro; rfl
  iexact H

theorem name12 (c : Dev nD) (f : Vec F S2x8x12 .f32) : ((Memref.whole main_v5_4).view.loc (c : Th) ↦{fullShare} f) ⊢ (iprop(∃ f', ⌜f' = f⌝ ∗ ((Memref.whole main_v5_4).view.loc (c : Th) ↦{fullShare} f')) : sProp 𝕄) := by
  iintro H
  iexists f
  isplitr
  · ipureintro; rfl
  iexact H

theorem nameZS (c : Dev nD) (f : Vec F S192x128 .f32) : ((Memref.whole cc0_scratch14).view.loc (c : Th) ↦{fullShare} f) ⊢ (iprop(∃ f', ⌜f' = f⌝ ∗ ((Memref.whole cc0_scratch14).view.loc (c : Th) ↦{fullShare} f')) : sProp 𝕄) := by
  iintro H
  iexists f
  isplitr
  · ipureintro; rfl
  iexact H

/-- What the body is run from: the three families of copies not issued, the operands, the results and the scratch buffers
at anything, its semaphores at zero, and the blocks of `y` with the slots they are copied from. -/
def BodyPre (c : Dev nD) (X : Vec F S192x8192 .bf16) (w1 : Vec F S8192x2048 .fp8e4m3) (w2 : Vec F S2048x7168 .fp8e4m3) (w1s : Vec F S1x2048 .f32) (wh ww : Vec F S3x2048 .bf16) (w2s b2 : Vec F S1x7168 .f32) : sProp 𝕄 :=
  iprop(Ring.AtW (ΦX c X) (fun _ => 0) ∗ Ring.AtW (ΦW1 c w1) (fun _ => 0) ∗ Ring.AtW (ΦW2 c w2) (fun _ => 0) ∗ ((Memref.whole main_v2).view.loc (c : Th) ↦{fullShare} w1s) ∗ ((Memref.whole main_arg3).view.loc (c : Th) ↦{fullShare} wh) ∗ ((Memref.whole main_arg4).view.loc (c : Th) ↦{fullShare} ww) ∗ ((Memref.whole main_v3).view.loc (c : Th) ↦{fullShare} w2s) ∗ ((Memref.whole main_v4).view.loc (c : Th) ↦{fullShare} b2)
    ∗ (∃ f, ((Memref.whole main_v5_1).view.loc (c : Th) ↦{fullShare} f)) ∗ (∃ f, ((Memref.whole main_v5_2).view.loc (c : Th) ↦{fullShare} f)) ∗ (∃ f, ((Memref.whole main_v5_3).view.loc (c : Th) ↦{fullShare} f)) ∗ (∃ f, ((Memref.whole main_v5_4).view.loc (c : Th) ↦{fullShare} f))
    ∗ (∃ f, ((Memref.whole cc0_scratch1).view.loc (c : Th) ↦{fullShare} f)) ∗ (∃ f, ((Memref.whole cc0_scratch3).view.loc (c : Th) ↦{fullShare} f)) ∗ (∃ f, ((Memref.whole cc0_scratch4).view.loc (c : Th) ↦{fullShare} f)) ∗ (∃ f, ((Memref.whole cc0_scratch5).view.loc (c : Th) ↦{fullShare} f)) ∗ (∃ f, ((Memref.whole cc0_scratch7).view.loc (c : Th) ↦{fullShare} f)) ∗ (∃ f, ((Memref.whole cc0_scratch8).view.loc (c : Th) ↦{fullShare} f)) ∗ (∃ f, ((Memref.whole cc0_scratch9).view.loc (c : Th) ↦{fullShare} f)) ∗ (∃ f, ((Memref.whole cc0_scratch10).view.loc (c : Th) ↦{fullShare} f)) ∗ (∃ f, ((Memref.whole cc0_scratch11).view.loc (c : Th) ↦{fullShare} f)) ∗ (∃ f, ((Memref.whole cc0_scratch12).view.loc (c : Th) ↦{fullShare} f)) ∗ (∃ f, ((Memref.whole cc0_scratch13).view.loc (c : Th) ↦{fullShare} f)) ∗ (∃ f, ((Memref.whole cc0_scratch14).view.loc (c : Th) ↦{fullShare} f)) ∗ (∃ f, ((Memref.whole cc0_scratch15).view.loc (c : Th) ↦{fullShare} f))
    ∗ semVal ((c : Th), .dma 10) 0 ∗ semVal ((c : Th), .dma 11) 0 ∗ semVal ((c : Th), .dma 12) 0 ∗ semVal ((c : Th), .dma 13) 0 ∗ semVal ((c : Th), .dma 14) 0 ∗ semVal ((c : Th), .dma 22) 0 ∗ semVal ((c : Th), .dma 23) 0 ∗ semVal ((c : Th), .dma 24) 0 ∗ semVal ((c : Th), .dma 25) 0 ∗ semVal ((c : Th), cellY) 0
    ∗ bigSep Finset.univ (dY c) ∗ bigSep Finset.univ (sY c) ∗ ∃ W, owes (c : Th) 0 W)

/-- What it ends with: the copies landed, the operands as they were, each result at its value. -/
def BodyPost (c : Dev nD) (X : Vec F S192x8192 .bf16) (w1 : Vec F S8192x2048 .fp8e4m3) (w2 : Vec F S2048x7168 .fp8e4m3) (w1s : Vec F S1x2048 .f32) (wh ww : Vec F S3x2048 .bf16) (w2s b2 : Vec F S1x7168 .f32) : sProp 𝕄 :=
  iprop(Ring.AtW (ΦX c X) (fun _ => 2) ∗ Ring.AtW (ΦW1 c w1) (fun _ => 2) ∗ Ring.AtW (ΦW2 c w2) (fun _ => 2) ∗ ((Memref.whole main_v2).view.loc (c : Th) ↦{fullShare} w1s) ∗ ((Memref.whole main_arg3).view.loc (c : Th) ↦{fullShare} wh) ∗ ((Memref.whole main_arg4).view.loc (c : Th) ↦{fullShare} ww) ∗ ((Memref.whole main_v3).view.loc (c : Th) ↦{fullShare} w2s) ∗ ((Memref.whole main_v4).view.loc (c : Th) ↦{fullShare} b2)
    ∗ ((Memref.whole main_v5_1).view.loc (c : Th) ↦{fullShare} GC9 (XQ X)) ∗ ((Memref.whole main_v5_2).view.loc (c : Th) ↦{fullShare} SP (grp9 (XSV X))) ∗ ((Memref.whole main_v5_3).view.loc (c : Th) ↦{fullShare} GC11 (qz X w1 w1s wh ww)) ∗ ((Memref.whole main_v5_4).view.loc (c : Th) ↦{fullShare} SP (grp14 (sz X w1 w1s wh ww)))
    ∗ (∃ f, ((Memref.whole cc0_scratch1).view.loc (c : Th) ↦{fullShare} f)) ∗ (∃ f, ((Memref.whole cc0_scratch3).view.loc (c : Th) ↦{fullShare} f)) ∗ (∃ f, ((Memref.whole cc0_scratch4).view.loc (c : Th) ↦{fullShare} f)) ∗ (∃ f, ((Memref.whole cc0_scratch5).view.loc (c : Th) ↦{fullShare} f)) ∗ (∃ f, ((Memref.whole cc0_scratch7).view.loc (c : Th) ↦{fullShare} f)) ∗ (∃ f, ((Memref.whole cc0_scratch8).view.loc (c : Th) ↦{fullShare} f)) ∗ (∃ f, ((Memref.whole cc0_scratch9).view.loc (c : Th) ↦{fullShare} f)) ∗ (∃ f, ((Memref.whole cc0_scratch10).view.loc (c : Th) ↦{fullShare} f)) ∗ (∃ f, ((Memref.whole cc0_scratch11).view.loc (c : Th) ↦{fullShare} f)) ∗ (∃ f, ((Memref.whole cc0_scratch12).view.loc (c : Th) ↦{fullShare} f)) ∗ (∃ f, ((Memref.whole cc0_scratch13).view.loc (c : Th) ↦{fullShare} f)) ∗ (∃ f, ((Memref.whole cc0_scratch14).view.loc (c : Th) ↦{fullShare} f)) ∗ (∃ f, ((Memref.whole cc0_scratch15).view.loc (c : Th) ↦{fullShare} f))
    ∗ semVal ((c : Th), .dma 10) 0 ∗ semVal ((c : Th), .dma 11) 0 ∗ semVal ((c : Th), .dma 12) 0 ∗ semVal ((c : Th), .dma 13) 0 ∗ semVal ((c : Th), .dma 14) 0 ∗ semVal ((c : Th), .dma 22) 0 ∗ semVal ((c : Th), .dma 23) 0 ∗ semVal ((c : Th), .dma 24) 0 ∗ semVal ((c : Th), .dma 25) 0 ∗ semVal ((c : Th), cellY) 0
    ∗ bigSep Finset.univ (DY c w2 w2s b2 (qz X w1 w1s wh ww) (sz X w1 w1s wh ww)) ∗ ∃ W, owes (c : Th) 0 W)

theorem rangeSet_all (n : ℕ) : Ring.rangeSet n 0 n = Finset.univ := by
  ext i; simp [Ring.rangeSet]

set_option maxHeartbeats 1000000 in
theorem run_body (c : Dev nD) (X : Vec F S192x8192 .bf16) (w1 : Vec F S8192x2048 .fp8e4m3) (w2 : Vec F S2048x7168 .fp8e4m3) (w1s : Vec F S1x2048 .f32) (wh ww : Vec F S3x2048 .bf16) (w2s b2 : Vec F S1x7168 .f32) (K : PUnit → sProp 𝕄) :
    iprop(BodyPre c X w1 w2 w1s wh ww w2s b2 ∗ (BodyPost c X w1 w2 w1s wh ww w2s b2 -∗ K ⟨⟩))
      ⊢ wp frame (wpE (defs₀ (F := F)) Variants.none (c : Th) none) Set.univ (cc0_cp_conv (F := F) (Memref.whole main_v1) (iw _) (Memref.whole main_arg1) (iw _) (Memref.whole main_v2) (iw _) (Memref.whole main_arg3) (iw _) (Memref.whole main_arg4) (iw _) (Memref.whole main_arg5) (iw _) (Memref.whole main_v3) (iw _) (Memref.whole main_v4) (iw _) (Memref.whole main_v5_0) (iw _) (Memref.whole main_v5_1) (iw _) (Memref.whole main_v5_2) (iw _) (Memref.whole main_v5_3) (iw _) (Memref.whole main_v5_4) (iw _) (Memref.whole cc0_scratch0) (iw _) (Memref.whole cc0_scratch1) (iw _) (Memref.whole cc0_scratch2) (iw _) (Memref.whole cc0_scratch3) (iw _) (Memref.whole cc0_scratch4) (iw _) (Memref.whole cc0_scratch5) (iw _) (Memref.whole cc0_scratch6) (iw _) (Memref.whole cc0_scratch7) (iw _) (Memref.whole cc0_scratch8) (iw _) (Memref.whole cc0_scratch9) (iw _) (Memref.whole cc0_scratch10) (iw _) (Memref.whole cc0_scratch11) (iw _) (Memref.whole cc0_scratch12) (iw _) (Memref.whole cc0_scratch13) (iw _) (Memref.whole cc0_scratch14) (iw _) (Memref.whole cc0_scratch15) (iw _) (Memref.whole cc0_scratch16) (iw _) cc0_scratch17 cc0_scratch18 cc0_scratch19 cc0_scratch20 cc0_scratch21 cc0_scratch22 cc0_scratch23 cc0_scratch24 cc0_scratch25 cc0_scratch26 cc0_scratch27 cc0_scratch28 cc0_scratch29) K := by
  unfold BodyPre
  have r0 : (Finset.univ : Finset (Fin k0_t6_loop.trips)) = Ring.rangeSet k0_t6_loop.trips 0 k0_t6_loop.trips := (rangeSet_all _).symm
  rw [← stN_zero (n := 6) 1 0, ← stN_zero (n := 4) 1 0, ← stN_zero (n := 7) 1 0, r0]
  rw [cc0_cp_conv_eq_skeleton]; unfold cc0_cp_conv_skel
  rw [part57_eq]
  generalize hp : p57 (F := F) = pt57
  let L1 := invX c X
  let L2 := invW1 c w1
  let L3 := invW2 c w2
  iintro ⟨⟨HX, HW1, HW2, G2, G3, G4, G6, G7, ⟨%g9, G9⟩, ⟨%g10, G10⟩, ⟨%g11, G11⟩, ⟨%g12, G12⟩, ⟨%f14, H14⟩, ⟨%f16, H16⟩, ⟨%f17, H17⟩, ⟨%f18, H18⟩,
    ⟨%f20, H20⟩, ⟨%f21, H21⟩, ⟨%f22, H22⟩, ⟨%f23, H23⟩, ⟨%f24, H24⟩, ⟨%f25, H25⟩, ⟨%f26, H26⟩, ⟨%f27, H27⟩, ⟨%f28, H28⟩,
    S10, S11, S12, S13, S14, S22, S23, S24, S25, S26, Hds, Hys, %W, HO⟩, HK⟩
  sl_exec
  irename: Ring.AtW (ΦX c X) _ => HX
  irename: Ring.AtW (ΦW1 c w1) _ => HW1
  irename: Ring.AtW (ΦW2 c w2) _ => HW2
  irename: owes _ _ _ => HO
  have eX : (Ring.AtW (ΦX c X) (stN 1 0 (Scf.trips k0_t1_loop.lb k0_t1_loop.ub k0_t1_loop.st)) : sProp 𝕄) = Ring.AtW (ΦX c X) (stN 2 1 0) := by
    rw [show Scf.trips k0_t1_loop.lb k0_t1_loop.ub k0_t1_loop.st = 6 by decide, stN_zero, stN_all]
  have eW1 : (Ring.AtW (ΦW1 c w1) (stN 1 0 (Scf.trips k0_t2_loop.lb k0_t2_loop.ub k0_t2_loop.st)) : sProp 𝕄) = Ring.AtW (ΦW1 c w1) (stN 2 1 0) := by
    rw [show Scf.trips k0_t2_loop.lb k0_t2_loop.ub k0_t2_loop.st = 4 by decide, stN_zero, stN_all]
  have eW2 : (Ring.AtW (ΦW2 c w2) (stN 1 0 (Scf.trips k0_t3_loop.lb k0_t3_loop.ub k0_t3_loop.st)) : sProp 𝕄) = Ring.AtW (ΦW2 c w2) (stN 2 1 0) := by
    rw [show Scf.trips k0_t3_loop.lb k0_t3_loop.ub k0_t3_loop.st = 7 by decide, stN_zero, stN_all]
  ihave HX := (Entails.of_eq eX) $$ HX
  ihave HW1 := (Entails.of_eq eW1) $$ HW1
  ihave HW2 := (Entails.of_eq eW2) $$ HW2
  clear eX eW1 eW2
  sl_for (iQ c X) $$ [HX H14 H22 HO]
  case region => exact fun k a => (invQ c X).step k a
  · unfold iQ
    isplitl [HX]
    · iexact HX
    isplitl [H14]
    · iexists _
      isplitr; swap; · iexact H14
      ipureintro; intro i hi; exact absurd hi (Nat.not_lt_zero _)
    isplitl [H22]
    · iexists _
      isplitr; swap; · iexact H22
      ipureintro; intro i hi; exact absurd hi (Nat.not_lt_zero _)
    iexists _
    iexact HO
  iintro %a HI
  unfold iQ
  icases HI with ⟨HX, ⟨%f14', %h14, H14⟩, ⟨%f22', %h22, H22⟩, %W, HO⟩
  have e14 : f14' = XQ X := funext fun i => h14 i (lt_of_lt_of_eq (i 0).isLt (by rw [show Scf.trips k0_t4_loop.lb k0_t4_loop.ub k0_t4_loop.st = 6 by decide]; rfl))
  have e22 : f22' = XSV X := funext fun i => h22 i (lt_of_lt_of_eq (i 0).isLt (by rw [show Scf.trips k0_t4_loop.lb k0_t4_loop.ub k0_t4_loop.st = 6 by decide]; rfl))
  subst e14 e22
  clear h14 h22
  ihave H14 := (halve _ _ _).1 $$ H14
  icases H14 with ⟨H14a, H14b⟩
  sl_exec
  clear L1 L2 L3
  ihave H18 := (put18 c _ _ _ rfl) $$ H18
  ihave H17 := (put17 c _ _ _ rfl) $$ H17
  ihave H16 := (put16 c _ _ _ rfl) $$ H16
  irename: owes _ _ _ => HO
  sl_for (iZ c fullShare.right w1 w1s wh ww (XQ X) (XSV X)) $$ [HW1 H14b H22 H16 H17 H18 H24 H25 HO]
  case region => exact fun k a => (invZ c fullShare.right _ _ _ w1 w1s wh ww (XQ X) (XSV X)).step k a
  · unfold iZ
    isplitl [HW1]
    · iexact HW1
    isplitl [H14b]
    · iexact H14b
    isplitl [H22]
    · iexact H22
    isplitl [H16]
    · iexact H16
    isplitl [H17]
    · iexact H17
    isplitl [H18]
    · iexact H18
    isplitl [H24]
    · iexists _
      isplitr; swap; · iexact H24
      ipureintro; intro i hi; exact absurd hi (Nat.not_lt_zero _)
    isplitl [H25]
    · iexists _
      isplitr; swap; · iexact H25
      ipureintro; exact fill25 _ _
    iexists _
    iexact HO
  iintro %a HI
  unfold iZ
  icases HI with ⟨HW1, H14b, H22, H16, H17, H18, ⟨%f24', %h24, H24⟩, ⟨%f25', %h25, H25⟩, %W, HO⟩
  sl_exec
  have e24 : f24' = Z w1 w1s wh ww (XQ X) (XSV X) := funext fun i => h24 i (lt_of_lt_of_eq (i 1).isLt (by rw [show Scf.trips k0_t5_loop.lb k0_t5_loop.ub k0_t5_loop.st = 4 by decide]; rfl))
  rw [show Scf.trips k0_t5_loop.lb k0_t5_loop.ub k0_t5_loop.st = 4 by decide] at h25
  subst e24 h25
  clear h24
  ihave H26 := (nameZQ c _) $$ H26
  icases H26 with ⟨%q26, %h26, H26⟩
  have h26' : q26 = (Memref.whole cc0_scratch13 : Memref sig .tc .vmem S192x2048 .fp8e4m3).view.writes (Elt F) f26 (piecesZQ (Z w1 w1s wh ww (XQ X) (XSV X)) (ZM w1 w1s wh ww (XQ X) (XSV X) 4)) := h26
  rw [fillZQ] at h26'
  ihave H27 := (nameZS c _) $$ H27
  icases H27 with ⟨%q27, %h27, H27⟩
  have h27' : q27 = (Memref.whole cc0_scratch14 : Memref sig .tc .vmem S192x128 .f32).view.writes (Elt F) f27 (piecesS (ZM w1 w1s wh ww (XQ X) (XSV X) 4)) := h27
  rw [fillS] at h27'
  subst hp h26' h27'
  clear h26 h27
  ihave H26 := (halve _ _ _).1 $$ H26
  icases H26 with ⟨H26a, H26b⟩
  sl_exec
  ihave H20 := (put20 c _ _ _ rfl) $$ H20
  ihave H21 := (put21 c _ _ _ rfl) $$ H21
  irename: owes _ _ _ => HO
  generalize eQ : ZQ (Z w1 w1s wh ww (XQ X) (XSV X)) (ZM w1 w1s wh ww (XQ X) (XSV X) 4) = qy
  generalize eS : ZSV (ZM w1 w1s wh ww (XQ X) (XSV X) 4) = sy
  imod (Transfers.batch_alloc' (Lvl := ℕ) (countersEmb (U := Pipeline.UD sig nD τ)) (c : Th) () 12288 (DY c w2 w2s b2 qy sy) (sm := cellY) (E := Set.univ)) $$ S26 with HB
  sl_for (iY c fullShare.right w2 w2s b2 qy sy) $$ [HW2 H26b H27 H20 H21 HB Hds Hys HO]
  case region => exact fun k a => (invY c fullShare.right _ _ _ w2 w2s b2 qy sy).step k a
  · unfold iY batchY
    isplitl [HW2]
    · iexact HW2
    isplitl [H26b]
    · iexact H26b
    isplitl [H27]
    · iexact H27
    isplitl [H20]
    · iexact H20
    isplitl [H21]
    · iexact H21
    isplitl [HB]
    · iexact HB
    isplitl [Hds]
    · iexact Hds
    isplitl [Hys]
    · iexact Hys
    iexists _
    iexact HO
  iintro %a HI
  unfold iY batchY
  icases HI with ⟨HW2, H26b, H27, H20, H21, HB, Hds, Hys, %W, HO⟩
  have eB : (Transfers.Batch (countersEmb (U := Pipeline.UD sig nD τ)) (c : Th) cellY () 12288 (DY c w2 w2s b2 qy sy) (Scf.trips k0_t6_loop.lb k0_t6_loop.ub k0_t6_loop.st) 0 : sProp 𝕄)
      = Transfers.Batch (countersEmb (U := Pipeline.UD sig nD τ)) (c : Th) cellY () 12288 (DY c w2 w2s b2 qy sy) 7 0 := by
    rw [show Scf.trips k0_t6_loop.lb k0_t6_loop.ub k0_t6_loop.st = 7 by decide]
  ihave HB := (Entails.of_eq eB) $$ HB
  sl_exec
  irename: owes _ _ _ => HO
  subst eQ eS
  ihave G9 := (put9 c _ _ _ rfl) $$ G9
  ihave G10 := (put10 c _ _ _ rfl) $$ G10
  ihave G10 := (name10 c _) $$ G10
  icases G10 with ⟨%p10, %h10, G10⟩
  have h10' : p10 = (Memref.whole cc0_scratch10 : Memref sig .tc .vmem S2x8x12 .f32).view.writes (Elt F) f23 (piecesXP (XSV X)) := h10
  rw [fillXP] at h10'
  subst h10'
  clear h10
  ihave G11 := (put11 c _ _ _ rfl) $$ G11
  ihave G12 := (put12 c _ _ _ rfl) $$ G12
  ihave G12 := (name12 c _) $$ G12
  icases G12 with ⟨%p12, %h12, G12⟩
  have h12' : p12 = (Memref.whole cc0_scratch15 : Memref sig .tc .vmem S2x8x12 .f32).view.writes (Elt F) f28 (piecesZP (sz X w1 w1s wh ww)) := h12
  rw [fillZP] at h12'
  subst h12'
  clear h12
  ihave H14 := (halve _ _ _).2 $$ [H14a H14b]
  · isplitl [H14a]
    · iexact H14a
    iexact H14b
  ihave H26 := (halve _ _ _).2 $$ [H26a H26b]
  · isplitl [H26a]
    · iexact H26a
    iexact H26b
  have eX : (Ring.AtW (ΦX c X) (stN 2 1 (Scf.trips k0_t4_loop.lb k0_t4_loop.ub k0_t4_loop.st)) : sProp 𝕄) = Ring.AtW (ΦX c X) (fun _ => 2) := by
    rw [show Scf.trips k0_t4_loop.lb k0_t4_loop.ub k0_t4_loop.st = 6 by decide, stN_all]
  have eW1 : (Ring.AtW (ΦW1 c w1) (stN 2 1 (Scf.trips k0_t5_loop.lb k0_t5_loop.ub k0_t5_loop.st)) : sProp 𝕄) = Ring.AtW (ΦW1 c w1) (fun _ => 2) := by
    rw [show Scf.trips k0_t5_loop.lb k0_t5_loop.ub k0_t5_loop.st = 4 by decide, stN_all]
  have eW2 : (Ring.AtW (ΦW2 c w2) (stN 2 1 (Scf.trips k0_t6_loop.lb k0_t6_loop.ub k0_t6_loop.st)) : sProp 𝕄) = Ring.AtW (ΦW2 c w2) (fun _ => 2) := by
    rw [show Scf.trips k0_t6_loop.lb k0_t6_loop.ub k0_t6_loop.st = 7 by decide, stN_all]
  ihave HX := (Entails.of_eq eX) $$ HX
  ihave HW1 := (Entails.of_eq eW1) $$ HW1
  ihave HW2 := (Entails.of_eq eW2) $$ HW2
  sl_step
  iapply HK
  unfold BodyPost
  rw [fin7 trips6]
  unfold DY
  isplitl [HX]
  · iexact HX
  isplitl [HW1]
  · iexact HW1
  isplitl [HW2]
  · iexact HW2
  isplitl [G2]
  · iexact G2
  isplitl [G3]
  · iexact G3
  isplitl [G4]
  · iexact G4
  isplitl [G6]
  · iexact G6
  isplitl [G7]
  · iexact G7
  isplitl [G9]
  · iexact G9
  isplitl [G10]
  · iexact G10
  isplitl [G11]
  · iexact G11
  isplitl [G12]
  · iexact G12
  isplitl [H14]
  · iexists _; iexact H14
  isplitl [H16]
  · iexists _; iexact H16
  isplitl [H17]
  · iexists _; iexact H17
  isplitl [H18]
  · iexists _; iexact H18
  isplitl [H20]
  · iexists _; iexact H20
  isplitl [H21]
  · iexists _; iexact H21
  isplitl [H22]
  · iexists _; iexact H22
  isplitl [H23]
  · iexists _; iexact H23
  isplitl [H24]
  · iexists _; iexact H24
  isplitl [H25]
  · iexists _; iexact H25
  isplitl [H26]
  · iexists _; iexact H26
  isplitl [H27]
  · iexists _; iexact H27
  isplitl [H28]
  · iexists _; iexact H28
  isplitl [S10]
  · iexact S10
  isplitl [S11]
  · iexact S11
  isplitl [S12]
  · iexact S12
  isplitl [S13]
  · iexact S13
  isplitl [S14]
  · iexact S14
  isplitl [S22]
  · iexact S22
  isplitl [S23]
  · iexact S23
  isplitl [S24]
  · iexact S24
  isplitl [S25]
  · iexact S25
  isplitl [HB]
  · iexact HB
  isplitr [HO]
  · isplitl [HB_dst0 HB_src0]
    · isplitl [HB_dst0]
      · iexact HB_dst0
      iexact HB_src0
    isplitl [HB_dst1 HB_src1]
    · isplitl [HB_dst1]
      · iexact HB_dst1
      iexact HB_src1
    isplitl [HB_dst2 HB_src2]
    · isplitl [HB_dst2]
      · iexact HB_dst2
      iexact HB_src2
    isplitl [HB_dst3 HB_src3]
    · isplitl [HB_dst3]
      · iexact HB_dst3
      iexact HB_src3
    isplitl [HB_dst4 HB_src4]
    · isplitl [HB_dst4]
      · iexact HB_dst4
      iexact HB_src4
    isplitl [HB_dst5 HB_src5]
    · isplitl [HB_dst5]
      · iexact HB_dst5
      iexact HB_src5
    isplitl [HB_dst6]
    · iexact HB_dst6
    iexact HB_src6
  iexists _
  iexact HO

end Cert.KernelIdeal.Hand
-- ==== Proof.KernelIdealHand.Split.lean ====
module

public import proofs.«01_k».proof.Proof.Gen.KernelIdeal.Skeleton
public import proofs.«01_k».proof.Proof.KernelIdealHand.Body

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The proof's user algebra: the pipeline library's beside the transfers' counters. -/
local notation "𝕄" => MT nD τ sig Unit (Elt F) ℕ (Pipeline.UD sig nD τ) ℕ

theorem toEx {A : Type} (P : A → sProp 𝕄) (g : A) : P g ⊢ iprop(∃ g, P g) := by
  iintro H; iexists g; iexact H

theorem same (P : sProp 𝕄) : P ⊢ P := by
  iintro H; iexact H

theorem blocks_disj {ι : Type} [DecidableEq ι] {n : ℕ} (I : Fin n → Finset ι) (key : ι → ℕ) (h : ∀ k y, y ∈ I k ↔ key y = k.val) :
    ∀ b b', b ≠ b' → Disjoint (I b) (I b') := fun b b' hne => by
  rw [Finset.disjoint_left]; intro y hy hy'; rw [h] at hy hy'; exact hne (Fin.ext (hy.symm.trans hy'))

theorem blocks_cover {ι : Type} [DecidableEq ι] [Fintype ι] {n : ℕ} (I : Fin n → Finset ι) (key : ι → ℕ) (h : ∀ k y, y ∈ I k ↔ key y = k.val) (hk : ∀ y, key y < n) :
    Finset.univ.biUnion I = Finset.univ := by
  ext y; simp only [Finset.mem_biUnion, Finset.mem_univ, true_and, iff_true]; exact ⟨⟨key y, hk y⟩, (h _ _).mpr rfl⟩

abbrev blkX (k : Fin 6) : Finset S192x8192.Idx := (Rect.unit (s := S192x8192) ![32 * k.val, 0] S32x8192.size (inbSlotX k)).set

theorem mem_X (k : Fin 6) (y : S192x8192.Idx) : y ∈ blkX k ↔ (y 0).val / 32 = k.val := by
  have y0 : (y 0).val < 192 := (y 0).isLt
  have y1 : (y 1).val < 8192 := (y 1).isLt
  rw [Rect.mem_set_unit]
  constructor
  · intro H
    have a0 : 32 * k.val ≤ (y 0).val ∧ (y 0).val < 32 * k.val + 32 := H 0
    omega
  · intro H a
    fin_cases a
    · show 32 * k.val ≤ (y 0).val ∧ (y 0).val < 32 * k.val + 32; omega
    · show 0 ≤ (y 1).val ∧ (y 1).val < 0 + 8192; omega

theorem set_X (k : Fin 6) : (slotX ![32 * k.val, 0] (inbSlotX k)).view.set = blkX k := by
  unfold slotX; exact View.set_slice_whole _ _

theorem semsX (c : Dev nD) : (bigSep Finset.univ (fun k : Fin 6 => semVal ((c : Th), cellX k) 0) : sProp 𝕄)
    = iprop(semVal ((c : Th), .dma 0) 0 ∗ semVal ((c : Th), .dma 1) 0 ∗ semVal ((c : Th), .dma 2) 0 ∗ semVal ((c : Th), .dma 3) 0 ∗ semVal ((c : Th), .dma 4) 0 ∗ semVal ((c : Th), .dma 5) 0) := by
  rw [BI.bigSep_eq_bigSepL_of_eq [0, 1, 2, 3, 4, 5] (by decide) (by decide)]; rfl

theorem wholeX (c : Dev nD) (g : Vec F S192x8192 .bf16) : (((Memref.whole cc0_scratch0).view.loc (c : Th) ↦{fullShare} g) : sProp 𝕄) = bigSep Finset.univ fun k : Fin 6 => ((Memref.whole cc0_scratch0).view.loc (c : Th)) ↦[blkX k]{fullShare} g :=
  Ring.pointsTo_blocks (ℓ := (Memref.whole cc0_scratch0 : Memref sig .tc .vmem S192x8192 .bf16).view.loc (c : Th)) (q := fullShare) blkX
    (blocks_disj blkX (fun y => (y 0).val / 32) mem_X) (blocks_cover blkX (fun y => (y 0).val / 32) mem_X (fun y => by have h : (y 0).val < 192 := (y 0).isLt; show (y 0).val / 32 < 6; omega)) g

/-- The family of copies, none issued, out of its buffers held whole; -/
theorem enterX (c : Dev nD) (f : Vec F S192x8192 .bf16) :
    iprop((∃ g, ((Memref.whole cc0_scratch0).view.loc (c : Th) ↦{fullShare} g)) ∗ ((Memref.whole main_v1).view.loc (c : Th) ↦{fullShare} f) ∗ (semVal ((c : Th), .dma 0) 0 ∗ semVal ((c : Th), .dma 1) 0 ∗ semVal ((c : Th), .dma 2) 0 ∗ semVal ((c : Th), .dma 3) 0 ∗ semVal ((c : Th), .dma 4) 0 ∗ semVal ((c : Th), .dma 5) 0))
      ⊢ (iprop(Ring.AtW (ΦX c f) (fun _ => 0) ∗ ((Memref.whole main_v1).view.loc (c : Th) ↦{Transfers.shareDrop fullShare 6} f)) : sProp 𝕄) := by
  have e : (Ring.AtW (ΦX c f) (fun _ => 0) : sProp 𝕄) = iprop((bigSep Finset.univ fun k : Fin 6 => semVal ((c : Th), cellX k) 0)
      ∗ (bigSep Finset.univ fun k : Fin 6 => iprop(∃ g, (slotX ![32 * k.val, 0] (inbSlotX k)).view.loc (c : Th) ↦[(slotX ![32 * k.val, 0] (inbSlotX k)).view.set]{fullShare} g))
      ∗ bigSep Finset.univ fun k : Fin 6 => (Memref.whole main_v1).view.loc (c : Th) ↦[(Finset.univ : Finset S192x8192.Idx)]{Transfers.shareTok fullShare 6 k} f) := by
    rw [← bigSep_sep', ← bigSep_sep']; rfl
  have hs : ∀ g : Vec F S192x8192 .bf16, (((Memref.whole cc0_scratch0).view.loc (c : Th) ↦{fullShare} g) : sProp 𝕄) ⊢ (bigSep Finset.univ fun k : Fin 6 => iprop(∃ g, (slotX ![32 * k.val, 0] (inbSlotX k)).view.loc (c : Th) ↦[(slotX ![32 * k.val, 0] (inbSlotX k)).view.set]{fullShare} g)) := fun g =>
    (Entails.of_eq (wholeX c g)).trans (BI.bigSep_mono fun k _ => by
      rw [set_X]; exact toEx (fun g => _) g)
  rw [e, semsX]
  iintro ⟨⟨%g, H⟩, Hb, HS⟩
  ihave Hb := (Transfers.pointsTo_toks_split fullShare 6) $$ Hb
  icases Hb with ⟨Hd, Ht⟩
  ihave H := (hs g) $$ H
  isplitr [Hd]
  · isplitl [HS]
    · iexact HS
    isplitl [H]
    · iexact H
    iexact Ht
  iexact Hd

/-- and the other way round, landed. -/
theorem exitX (c : Dev nD) (f : Vec F S192x8192 .bf16) :
    iprop(Ring.AtW (ΦX c f) (fun _ => 2) ∗ ((Memref.whole main_v1).view.loc (c : Th) ↦{Transfers.shareDrop fullShare 6} f))
      ⊢ (iprop((∃ g, ((Memref.whole cc0_scratch0).view.loc (c : Th) ↦{fullShare} g)) ∗ ((Memref.whole main_v1).view.loc (c : Th) ↦{fullShare} f) ∗ (semVal ((c : Th), .dma 0) 0 ∗ semVal ((c : Th), .dma 1) 0 ∗ semVal ((c : Th), .dma 2) 0 ∗ semVal ((c : Th), .dma 3) 0 ∗ semVal ((c : Th), .dma 4) 0 ∗ semVal ((c : Th), .dma 5) 0)) : sProp 𝕄) := by
  have e : (Ring.AtW (ΦX c f) (fun _ => 2) : sProp 𝕄) = iprop((bigSep Finset.univ fun k : Fin 6 => semVal ((c : Th), cellX k) 0)
      ∗ (bigSep Finset.univ fun k : Fin 6 => (slotX ![32 * k.val, 0] (inbSlotX k)).view.loc (c : Th) ↦[(slotX ![32 * k.val, 0] (inbSlotX k)).view.set]{fullShare} gX f)
      ∗ bigSep Finset.univ fun k : Fin 6 => (Memref.whole main_v1).view.loc (c : Th) ↦[(Finset.univ : Finset S192x8192.Idx)]{Transfers.shareTok fullShare 6 k} f) := by
    rw [← bigSep_sep', ← bigSep_sep']; rfl
  have hs : (bigSep Finset.univ fun k : Fin 6 => (slotX ![32 * k.val, 0] (inbSlotX k)).view.loc (c : Th) ↦[(slotX ![32 * k.val, 0] (inbSlotX k)).view.set]{fullShare} gX f) ⊢ (((Memref.whole cc0_scratch0).view.loc (c : Th) ↦{fullShare} gX f) : sProp 𝕄) :=
    (BI.bigSep_mono fun k _ => by rw [set_X]; exact same _).trans (Entails.of_eq (wholeX c (gX f)).symm)
  rw [e, semsX]
  iintro ⟨⟨HS, H, Ht⟩, Hd⟩
  ihave H := hs $$ H
  ihave Hb := (Transfers.pointsTo_toks_join fullShare 6) $$ [Hd Ht]
  · isplitl [Hd]
    · iexact Hd
    iexact Ht
  isplitl [H]
  · iexists _; iexact H
  isplitl [Hb]
  · iexact Hb
  iexact HS

abbrev blkW1 (k : Fin 4) : Finset S4x8192x512.Idx := (Rect.unit (s := S4x8192x512) ![k.val, 0, 0] S1x8192x512.size (inbSlotW1 k)).set

theorem mem_W1 (k : Fin 4) (y : S4x8192x512.Idx) : y ∈ blkW1 k ↔ (y 0).val = k.val := by
  have y0 : (y 0).val < 4 := (y 0).isLt
  have y1 : (y 1).val < 8192 := (y 1).isLt
  have y2 : (y 2).val < 512 := (y 2).isLt
  rw [Rect.mem_set_unit]
  constructor
  · intro H
    have a0 : k.val ≤ (y 0).val ∧ (y 0).val < k.val + 1 := H 0
    omega
  · intro H a
    fin_cases a
    · show k.val ≤ (y 0).val ∧ (y 0).val < k.val + 1; omega
    · show 0 ≤ (y 1).val ∧ (y 1).val < 0 + 8192; omega
    · show 0 ≤ (y 2).val ∧ (y 2).val < 0 + 512; omega

theorem set_W1 (k : Fin 4) : (slotW1 ![k.val, 0, 0] (inbSlotW1 k)).view.set = blkW1 k := by
  unfold slotW1; exact (View.set_reshape _ _).trans (View.set_slice_whole _ _)

theorem semsW1 (c : Dev nD) : (bigSep Finset.univ (fun k : Fin 4 => semVal ((c : Th), cellW1 k) 0) : sProp 𝕄)
    = iprop(semVal ((c : Th), .dma 6) 0 ∗ semVal ((c : Th), .dma 7) 0 ∗ semVal ((c : Th), .dma 8) 0 ∗ semVal ((c : Th), .dma 9) 0) := by
  rw [BI.bigSep_eq_bigSepL_of_eq [0, 1, 2, 3] (by decide) (by decide)]; rfl

theorem wholeW1 (c : Dev nD) (g : Vec F S4x8192x512 .fp8e4m3) : (((Memref.whole cc0_scratch2).view.loc (c : Th) ↦{fullShare} g) : sProp 𝕄) = bigSep Finset.univ fun k : Fin 4 => ((Memref.whole cc0_scratch2).view.loc (c : Th)) ↦[blkW1 k]{fullShare} g :=
  Ring.pointsTo_blocks (ℓ := (Memref.whole cc0_scratch2 : Memref sig .tc .vmem S4x8192x512 .fp8e4m3).view.loc (c : Th)) (q := fullShare) blkW1
    (blocks_disj blkW1 (fun y => (y 0).val) mem_W1) (blocks_cover blkW1 (fun y => (y 0).val) mem_W1 (fun y => by have h : (y 0).val < 4 := (y 0).isLt; exact h)) g

/-- The family of copies, none issued, out of its buffers held whole; -/
theorem enterW1 (c : Dev nD) (f : Vec F S8192x2048 .fp8e4m3) :
    iprop((∃ g, ((Memref.whole cc0_scratch2).view.loc (c : Th) ↦{fullShare} g)) ∗ ((Memref.whole main_arg1).view.loc (c : Th) ↦{fullShare} f) ∗ (semVal ((c : Th), .dma 6) 0 ∗ semVal ((c : Th), .dma 7) 0 ∗ semVal ((c : Th), .dma 8) 0 ∗ semVal ((c : Th), .dma 9) 0))
      ⊢ (iprop(Ring.AtW (ΦW1 c f) (fun _ => 0) ∗ ((Memref.whole main_arg1).view.loc (c : Th) ↦{Transfers.shareDrop fullShare 4} f)) : sProp 𝕄) := by
  have e : (Ring.AtW (ΦW1 c f) (fun _ => 0) : sProp 𝕄) = iprop((bigSep Finset.univ fun k : Fin 4 => semVal ((c : Th), cellW1 k) 0)
      ∗ (bigSep Finset.univ fun k : Fin 4 => iprop(∃ g, (slotW1 ![k.val, 0, 0] (inbSlotW1 k)).view.loc (c : Th) ↦[(slotW1 ![k.val, 0, 0] (inbSlotW1 k)).view.set]{fullShare} g))
      ∗ bigSep Finset.univ fun k : Fin 4 => (Memref.whole main_arg1).view.loc (c : Th) ↦[(Finset.univ : Finset S8192x2048.Idx)]{Transfers.shareTok fullShare 4 k} f) := by
    rw [← bigSep_sep', ← bigSep_sep']; rfl
  have hs : ∀ g : Vec F S4x8192x512 .fp8e4m3, (((Memref.whole cc0_scratch2).view.loc (c : Th) ↦{fullShare} g) : sProp 𝕄) ⊢ (bigSep Finset.univ fun k : Fin 4 => iprop(∃ g, (slotW1 ![k.val, 0, 0] (inbSlotW1 k)).view.loc (c : Th) ↦[(slotW1 ![k.val, 0, 0] (inbSlotW1 k)).view.set]{fullShare} g)) := fun g =>
    (Entails.of_eq (wholeW1 c g)).trans (BI.bigSep_mono fun k _ => by
      rw [set_W1]; exact toEx (fun g => _) g)
  rw [e, semsW1]
  iintro ⟨⟨%g, H⟩, Hb, HS⟩
  ihave Hb := (Transfers.pointsTo_toks_split fullShare 4) $$ Hb
  icases Hb with ⟨Hd, Ht⟩
  ihave H := (hs g) $$ H
  isplitr [Hd]
  · isplitl [HS]
    · iexact HS
    isplitl [H]
    · iexact H
    iexact Ht
  iexact Hd

/-- and the other way round, landed. -/
theorem exitW1 (c : Dev nD) (f : Vec F S8192x2048 .fp8e4m3) :
    iprop(Ring.AtW (ΦW1 c f) (fun _ => 2) ∗ ((Memref.whole main_arg1).view.loc (c : Th) ↦{Transfers.shareDrop fullShare 4} f))
      ⊢ (iprop((∃ g, ((Memref.whole cc0_scratch2).view.loc (c : Th) ↦{fullShare} g)) ∗ ((Memref.whole main_arg1).view.loc (c : Th) ↦{fullShare} f) ∗ (semVal ((c : Th), .dma 6) 0 ∗ semVal ((c : Th), .dma 7) 0 ∗ semVal ((c : Th), .dma 8) 0 ∗ semVal ((c : Th), .dma 9) 0)) : sProp 𝕄) := by
  have e : (Ring.AtW (ΦW1 c f) (fun _ => 2) : sProp 𝕄) = iprop((bigSep Finset.univ fun k : Fin 4 => semVal ((c : Th), cellW1 k) 0)
      ∗ (bigSep Finset.univ fun k : Fin 4 => (slotW1 ![k.val, 0, 0] (inbSlotW1 k)).view.loc (c : Th) ↦[(slotW1 ![k.val, 0, 0] (inbSlotW1 k)).view.set]{fullShare} gW1 f)
      ∗ bigSep Finset.univ fun k : Fin 4 => (Memref.whole main_arg1).view.loc (c : Th) ↦[(Finset.univ : Finset S8192x2048.Idx)]{Transfers.shareTok fullShare 4 k} f) := by
    rw [← bigSep_sep', ← bigSep_sep']; rfl
  have hs : (bigSep Finset.univ fun k : Fin 4 => (slotW1 ![k.val, 0, 0] (inbSlotW1 k)).view.loc (c : Th) ↦[(slotW1 ![k.val, 0, 0] (inbSlotW1 k)).view.set]{fullShare} gW1 f) ⊢ (((Memref.whole cc0_scratch2).view.loc (c : Th) ↦{fullShare} gW1 f) : sProp 𝕄) :=
    (BI.bigSep_mono fun k _ => by rw [set_W1]; exact same _).trans (Entails.of_eq (wholeW1 c (gW1 f)).symm)
  rw [e, semsW1]
  iintro ⟨⟨HS, H, Ht⟩, Hd⟩
  ihave H := hs $$ H
  ihave Hb := (Transfers.pointsTo_toks_join fullShare 4) $$ [Hd Ht]
  · isplitl [Hd]
    · iexact Hd
    iexact Ht
  isplitl [H]
  · iexists _; iexact H
  isplitl [Hb]
  · iexact Hb
  iexact HS

abbrev blkW2 (k : Fin 7) : Finset S7x2048x1024.Idx := (Rect.unit (s := S7x2048x1024) ![k.val, 0, 0] S1x2048x1024.size (inbSlotW2 k)).set

theorem mem_W2 (k : Fin 7) (y : S7x2048x1024.Idx) : y ∈ blkW2 k ↔ (y 0).val = k.val := by
  have y0 : (y 0).val < 7 := (y 0).isLt
  have y1 : (y 1).val < 2048 := (y 1).isLt
  have y2 : (y 2).val < 1024 := (y 2).isLt
  rw [Rect.mem_set_unit]
  constructor
  · intro H
    have a0 : k.val ≤ (y 0).val ∧ (y 0).val < k.val + 1 := H 0
    omega
  · intro H a
    fin_cases a
    · show k.val ≤ (y 0).val ∧ (y 0).val < k.val + 1; omega
    · show 0 ≤ (y 1).val ∧ (y 1).val < 0 + 2048; omega
    · show 0 ≤ (y 2).val ∧ (y 2).val < 0 + 1024; omega

theorem set_W2 (k : Fin 7) : (slotW2 ![k.val, 0, 0] (inbSlotW2 k)).view.set = blkW2 k := by
  unfold slotW2; exact (View.set_reshape _ _).trans (View.set_slice_whole _ _)

theorem semsW2 (c : Dev nD) : (bigSep Finset.univ (fun k : Fin 7 => semVal ((c : Th), cellW2 k) 0) : sProp 𝕄)
    = iprop(semVal ((c : Th), .dma 15) 0 ∗ semVal ((c : Th), .dma 16) 0 ∗ semVal ((c : Th), .dma 17) 0 ∗ semVal ((c : Th), .dma 18) 0 ∗ semVal ((c : Th), .dma 19) 0 ∗ semVal ((c : Th), .dma 20) 0 ∗ semVal ((c : Th), .dma 21) 0) := by
  rw [BI.bigSep_eq_bigSepL_of_eq [0, 1, 2, 3, 4, 5, 6] (by decide) (by decide)]; rfl

theorem wholeW2 (c : Dev nD) (g : Vec F S7x2048x1024 .fp8e4m3) : (((Memref.whole cc0_scratch6).view.loc (c : Th) ↦{fullShare} g) : sProp 𝕄) = bigSep Finset.univ fun k : Fin 7 => ((Memref.whole cc0_scratch6).view.loc (c : Th)) ↦[blkW2 k]{fullShare} g :=
  Ring.pointsTo_blocks (ℓ := (Memref.whole cc0_scratch6 : Memref sig .tc .vmem S7x2048x1024 .fp8e4m3).view.loc (c : Th)) (q := fullShare) blkW2
    (blocks_disj blkW2 (fun y => (y 0).val) mem_W2) (blocks_cover blkW2 (fun y => (y 0).val) mem_W2 (fun y => by have h : (y 0).val < 7 := (y 0).isLt; exact h)) g

/-- The family of copies, none issued, out of its buffers held whole; -/
theorem enterW2 (c : Dev nD) (f : Vec F S2048x7168 .fp8e4m3) :
    iprop((∃ g, ((Memref.whole cc0_scratch6).view.loc (c : Th) ↦{fullShare} g)) ∗ ((Memref.whole main_arg5).view.loc (c : Th) ↦{fullShare} f) ∗ (semVal ((c : Th), .dma 15) 0 ∗ semVal ((c : Th), .dma 16) 0 ∗ semVal ((c : Th), .dma 17) 0 ∗ semVal ((c : Th), .dma 18) 0 ∗ semVal ((c : Th), .dma 19) 0 ∗ semVal ((c : Th), .dma 20) 0 ∗ semVal ((c : Th), .dma 21) 0))
      ⊢ (iprop(Ring.AtW (ΦW2 c f) (fun _ => 0) ∗ ((Memref.whole main_arg5).view.loc (c : Th) ↦{Transfers.shareDrop fullShare 7} f)) : sProp 𝕄) := by
  have e : (Ring.AtW (ΦW2 c f) (fun _ => 0) : sProp 𝕄) = iprop((bigSep Finset.univ fun k : Fin 7 => semVal ((c : Th), cellW2 k) 0)
      ∗ (bigSep Finset.univ fun k : Fin 7 => iprop(∃ g, (slotW2 ![k.val, 0, 0] (inbSlotW2 k)).view.loc (c : Th) ↦[(slotW2 ![k.val, 0, 0] (inbSlotW2 k)).view.set]{fullShare} g))
      ∗ bigSep Finset.univ fun k : Fin 7 => (Memref.whole main_arg5).view.loc (c : Th) ↦[(Finset.univ : Finset S2048x7168.Idx)]{Transfers.shareTok fullShare 7 k} f) := by
    rw [← bigSep_sep', ← bigSep_sep']; rfl
  have hs : ∀ g : Vec F S7x2048x1024 .fp8e4m3, (((Memref.whole cc0_scratch6).view.loc (c : Th) ↦{fullShare} g) : sProp 𝕄) ⊢ (bigSep Finset.univ fun k : Fin 7 => iprop(∃ g, (slotW2 ![k.val, 0, 0] (inbSlotW2 k)).view.loc (c : Th) ↦[(slotW2 ![k.val, 0, 0] (inbSlotW2 k)).view.set]{fullShare} g)) := fun g =>
    (Entails.of_eq (wholeW2 c g)).trans (BI.bigSep_mono fun k _ => by
      rw [set_W2]; exact toEx (fun g => _) g)
  rw [e, semsW2]
  iintro ⟨⟨%g, H⟩, Hb, HS⟩
  ihave Hb := (Transfers.pointsTo_toks_split fullShare 7) $$ Hb
  icases Hb with ⟨Hd, Ht⟩
  ihave H := (hs g) $$ H
  isplitr [Hd]
  · isplitl [HS]
    · iexact HS
    isplitl [H]
    · iexact H
    iexact Ht
  iexact Hd

/-- and the other way round, landed. -/
theorem exitW2 (c : Dev nD) (f : Vec F S2048x7168 .fp8e4m3) :
    iprop(Ring.AtW (ΦW2 c f) (fun _ => 2) ∗ ((Memref.whole main_arg5).view.loc (c : Th) ↦{Transfers.shareDrop fullShare 7} f))
      ⊢ (iprop((∃ g, ((Memref.whole cc0_scratch6).view.loc (c : Th) ↦{fullShare} g)) ∗ ((Memref.whole main_arg5).view.loc (c : Th) ↦{fullShare} f) ∗ (semVal ((c : Th), .dma 15) 0 ∗ semVal ((c : Th), .dma 16) 0 ∗ semVal ((c : Th), .dma 17) 0 ∗ semVal ((c : Th), .dma 18) 0 ∗ semVal ((c : Th), .dma 19) 0 ∗ semVal ((c : Th), .dma 20) 0 ∗ semVal ((c : Th), .dma 21) 0)) : sProp 𝕄) := by
  have e : (Ring.AtW (ΦW2 c f) (fun _ => 2) : sProp 𝕄) = iprop((bigSep Finset.univ fun k : Fin 7 => semVal ((c : Th), cellW2 k) 0)
      ∗ (bigSep Finset.univ fun k : Fin 7 => (slotW2 ![k.val, 0, 0] (inbSlotW2 k)).view.loc (c : Th) ↦[(slotW2 ![k.val, 0, 0] (inbSlotW2 k)).view.set]{fullShare} gW2 f)
      ∗ bigSep Finset.univ fun k : Fin 7 => (Memref.whole main_arg5).view.loc (c : Th) ↦[(Finset.univ : Finset S2048x7168.Idx)]{Transfers.shareTok fullShare 7 k} f) := by
    rw [← bigSep_sep', ← bigSep_sep']; rfl
  have hs : (bigSep Finset.univ fun k : Fin 7 => (slotW2 ![k.val, 0, 0] (inbSlotW2 k)).view.loc (c : Th) ↦[(slotW2 ![k.val, 0, 0] (inbSlotW2 k)).view.set]{fullShare} gW2 f) ⊢ (((Memref.whole cc0_scratch6).view.loc (c : Th) ↦{fullShare} gW2 f) : sProp 𝕄) :=
    (BI.bigSep_mono fun k _ => by rw [set_W2]; exact same _).trans (Entails.of_eq (wholeW2 c (gW2 f)).symm)
  rw [e, semsW2]
  iintro ⟨⟨HS, H, Ht⟩, Hd⟩
  ihave H := hs $$ H
  ihave Hb := (Transfers.pointsTo_toks_join fullShare 7) $$ [Hd Ht]
  · isplitl [Hd]
    · iexact Hd
    iexact Ht
  isplitl [H]
  · iexists _; iexact H
  isplitl [Hb]
  · iexact Hb
  iexact HS

abbrev blkYd (k : Fin k0_t6_loop.trips) : Finset S24x8x7168.Idx := (Rect.unit (s := S24x8x7168) (k0_off111 k) S24x8x1024.size (k0_off111_inb k)).set
abbrev blkYs (k : Fin k0_t6_loop.trips) : Finset S7x24x8x1024.Idx := (Rect.unit (s := S7x24x8x1024) (k0_off112 k) S1x24x8x1024.size (k0_off112_inb k)).set

theorem mem_Yd (k : Fin k0_t6_loop.trips) (y : S24x8x7168.Idx) : y ∈ blkYd k ↔ (y 2).val / 1024 = k.val := by
  have y0 : (y 0).val < 24 := (y 0).isLt
  have y1 : (y 1).val < 8 := (y 1).isLt
  have y2 : (y 2).val < 7168 := (y 2).isLt
  have h : ∀ (o : Fin 3 → ℕ) (e : o = ![0, 0, 1024 * k.val]) (hb : ∀ a, o a + S24x8x1024.size a ≤ S24x8x7168.size a), y ∈ (Rect.unit (s := S24x8x7168) o S24x8x1024.size hb).set ↔ (y 2).val / 1024 = k.val := by
    intro o e hb
    subst e
    rw [Rect.mem_set_unit]
    constructor
    · intro H
      have a0 : 1024 * k.val ≤ (y 2).val ∧ (y 2).val < 1024 * k.val + 1024 := H 2
      omega
    · intro H a
      fin_cases a
      · show 0 ≤ (y 0).val ∧ (y 0).val < 0 + 24; omega
      · show 0 ≤ (y 1).val ∧ (y 1).val < 0 + 8; omega
      · show 1024 * k.val ≤ (y 2).val ∧ (y 2).val < 1024 * k.val + 1024; omega
  exact h _ (k0_off111_eq k) _

theorem mem_Ys (k : Fin k0_t6_loop.trips) (y : S7x24x8x1024.Idx) : y ∈ blkYs k ↔ (y 0).val = k.val := by
  have y0 : (y 0).val < 7 := (y 0).isLt
  have y1 : (y 1).val < 24 := (y 1).isLt
  have y2 : (y 2).val < 8 := (y 2).isLt
  have y3 : (y 3).val < 1024 := (y 3).isLt
  have h : ∀ (o : Fin 4 → ℕ) (e : o = ![k.val, 0, 0, 0]) (hb : ∀ a, o a + S1x24x8x1024.size a ≤ S7x24x8x1024.size a), y ∈ (Rect.unit (s := S7x24x8x1024) o S1x24x8x1024.size hb).set ↔ (y 0).val = k.val := by
    intro o e hb
    subst e
    rw [Rect.mem_set_unit]
    constructor
    · intro H
      have a0 : k.val ≤ (y 0).val ∧ (y 0).val < k.val + 1 := H 0
      omega
    · intro H a
      fin_cases a
      · show k.val ≤ (y 0).val ∧ (y 0).val < k.val + 1; omega
      · show 0 ≤ (y 1).val ∧ (y 1).val < 0 + 24; omega
      · show 0 ≤ (y 2).val ∧ (y 2).val < 0 + 8; omega
      · show 0 ≤ (y 3).val ∧ (y 3).val < 0 + 1024; omega
  exact h _ (k0_off112_eq k) _

theorem wholeYd (c : Dev nD) (g : Vec F S24x8x7168 .bf16) : (((Memref.whole main_v5_0).view.loc (c : Th) ↦{fullShare} g) : sProp 𝕄) = bigSep Finset.univ fun k : Fin k0_t6_loop.trips => ((Memref.whole main_v5_0).view.loc (c : Th)) ↦[blkYd k]{fullShare} g :=
  Ring.pointsTo_blocks (ℓ := (Memref.whole main_v5_0 : Memref sig .tc .hbm S24x8x7168 .bf16).view.loc (c : Th)) (q := fullShare) blkYd
    (blocks_disj blkYd (fun y => (y 2).val / 1024) mem_Yd) (blocks_cover blkYd (fun y => (y 2).val / 1024) mem_Yd (fun y => by have h : (y 2).val < 7168 := (y 2).isLt; rw [trips6]; omega)) g

theorem wholeYs (c : Dev nD) (g : Vec F S7x24x8x1024 .bf16) : (((Memref.whole cc0_scratch16).view.loc (c : Th) ↦{fullShare} g) : sProp 𝕄) = bigSep Finset.univ fun k : Fin k0_t6_loop.trips => ((Memref.whole cc0_scratch16).view.loc (c : Th)) ↦[blkYs k]{fullShare} g :=
  Ring.pointsTo_blocks (ℓ := (Memref.whole cc0_scratch16 : Memref sig .tc .vmem S7x24x8x1024 .bf16).view.loc (c : Th)) (q := fullShare) blkYs
    (blocks_disj blkYs (fun y => (y 0).val) mem_Ys) (blocks_cover blkYs (fun y => (y 0).val) mem_Ys (fun y => by have h : (y 0).val < 7 := (y 0).isLt; rw [trips6]; exact h)) g

theorem enterYd (c : Dev nD) (g : Vec F S24x8x7168 .bf16) : (((Memref.whole main_v5_0).view.loc (c : Th) ↦{fullShare} g) : sProp 𝕄) ⊢ bigSep Finset.univ (dY c) :=
  (Entails.of_eq (wholeYd c g)).trans (BI.bigSep_mono fun k _ => by
    unfold dY; rw [dstY_set]; exact toEx (fun g => _) g)

theorem enterYs (c : Dev nD) (g : Vec F S7x24x8x1024 .bf16) : (((Memref.whole cc0_scratch16).view.loc (c : Th) ↦{fullShare} g) : sProp 𝕄) ⊢ bigSep Finset.univ (sY c) :=
  (Entails.of_eq (wholeYs c g)).trans (BI.bigSep_mono fun k _ => by
    unfold sY; rw [slotY_set]; exact toEx (fun g => _) g)

theorem exitY (c : Dev nD) (w2 : Vec F S2048x7168 .fp8e4m3) (w2s b2 : Vec F S1x7168 .f32) (f26 : Vec F S192x2048 .fp8e4m3) (f27 : Vec F S192x128 .f32) :
    bigSep Finset.univ (DY c w2 w2s b2 f26 f27) ⊢ (iprop(((Memref.whole main_v5_0).view.loc (c : Th) ↦{fullShare} GY w2 w2s b2 f26 f27) ∗ ∃ g, ((Memref.whole cc0_scratch16).view.loc (c : Th) ↦{fullShare} g)) : sProp 𝕄) := by
  have e : bigSep Finset.univ (DY c w2 w2s b2 f26 f27) = (iprop((bigSep Finset.univ fun k : Fin k0_t6_loop.trips => ((Memref.whole main_v5_0).view.loc (c : Th)) ↦[blkYd k]{fullShare} GY w2 w2s b2 f26 f27)
      ∗ bigSep Finset.univ fun k : Fin k0_t6_loop.trips => ((Memref.whole cc0_scratch16).view.loc (c : Th)) ↦[blkYs k]{fullShare} YV w2 w2s b2 f26 f27) : sProp 𝕄) := by
    rw [← bigSep_sep']
    refine BI.bigSep_congr fun k _ => ?_
    unfold DY; rw [dstY_set, slotY_set]; rfl
  rw [e]
  iintro ⟨H, H'⟩
  ihave H := (Entails.of_eq (wholeYd c (GY w2 w2s b2 f26 f27)).symm) $$ H
  ihave H' := (Entails.of_eq (wholeYs c (YV w2 w2s b2 f26 f27)).symm) $$ H'
  isplitl [H]
  · iexact H
  iexists _
  iexact H'

end Cert.KernelIdeal.Hand
-- ==== Proof.KernelIdealHand.Launch.lean ====
module

public import proofs.«01_k».proof.Proof.Gen.KernelIdeal.Frame
public import Idealize.ShloMosaic.Lib.Pipeline.FrameSuffixV
public import proofs.«01_k».proof.Proof.KernelIdealHand.Split

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.ShloMosaic.Rounds
open Idealize.ShloMosaic.Pipeline (Dat Cfg Window BodyObligation cellOf)
open Idealize.SL.BI.BIBase Idealize.SL.BI.Laws Idealize.SL.ProofMode Idealize.SL.Sem

variable {F : FTy → Type} [FloatOps F]

/-- The proof's user algebra: the pipeline library's beside the transfers' counters. -/
local notation "𝕄" => MT nD τ sig Unit (Elt F) ℕ (Pipeline.UD sig nD τ) ℕ

variable (m : (ℓ : Loc nD τ sig) → Buf (Elt F) ℓ) (ρ : Dev nD → PrngReg)

set_option maxHeartbeats 800000 in
/-- `main` around its one call, over the algebra with the transfers' counters. -/
theorem hmain (𝒱₀ : Variants) : Pipeline.HMainK (Ix := Unit) (Name := ℕ) (U := Pipeline.UD sig nD τ) (Lvl := ℕ) cfgs 0 defs₀ 𝒱₀ m (main (F := F)) (V m)
      (fun _ => Pipeline.chain ([hostOps1].map StableHlo.seq)) :=
  Pipeline.hmain_around cfgs 0 defs₀ 𝒱₀ m main [hostOps0] [hostOps1] (by simp only [List.Forall]; exact hostOps0_sub)
    (by simp only [List.Forall]; exact hostOps0_fresh) main_chain

/-- The body's semaphores, in the order of their numbers. -/
abbrev osem0 : Fin 27 → SemLoc sig := fun j => SemLoc.dma ⟨j.val, j.isLt⟩
theorem ownSemFacts0 : Pipeline.OwnSemFacts (cfg0.spec) osem0 := by decide
/-- The buffers the body reads, and those it writes. -/
def H0 : Finset (Ref sig .tc) := {main_v1, main_arg1, main_v2, main_arg3, main_arg4, main_arg5, main_v3, main_v4}
def R0 : Finset (Ref sig .tc) := {main_v5_0, main_v5_1, main_v5_2, main_v5_3, main_v5_4}
theorem H0_sub : H0 ⊆ Pipeline.restRefs sig (cfg0.spec) := by decide
theorem R0_sub : R0 ⊆ Pipeline.restRefs sig (cfg0.spec) \ H0 := by decide

theorem ownSems_eq (c : Dev nD) :
    (Pipeline.ownSems0 (Ix := Unit) (Name := ℕ) (U := Pipeline.UD sig nD τ) (Lvl := ℕ) (Val := Elt F) (τ := τ) osem0 c : sProp 𝕄)
      = iprop(semVal ((c : Th), .dma 0) 0 ∗ semVal ((c : Th), .dma 1) 0 ∗ semVal ((c : Th), .dma 2) 0 ∗ semVal ((c : Th), .dma 3) 0 ∗ semVal ((c : Th), .dma 4) 0 ∗ semVal ((c : Th), .dma 5) 0 ∗ semVal ((c : Th), .dma 6) 0 ∗ semVal ((c : Th), .dma 7) 0 ∗ semVal ((c : Th), .dma 8) 0 ∗ semVal ((c : Th), .dma 9) 0 ∗ semVal ((c : Th), .dma 10) 0 ∗ semVal ((c : Th), .dma 11) 0 ∗ semVal ((c : Th), .dma 12) 0 ∗ semVal ((c : Th), .dma 13) 0 ∗ semVal ((c : Th), .dma 14) 0 ∗ semVal ((c : Th), .dma 15) 0 ∗ semVal ((c : Th), .dma 16) 0 ∗ semVal ((c : Th), .dma 17) 0 ∗ semVal ((c : Th), .dma 18) 0 ∗ semVal ((c : Th), .dma 19) 0 ∗ semVal ((c : Th), .dma 20) 0 ∗ semVal ((c : Th), .dma 21) 0 ∗ semVal ((c : Th), .dma 22) 0 ∗ semVal ((c : Th), .dma 23) 0 ∗ semVal ((c : Th), .dma 24) 0 ∗ semVal ((c : Th), .dma 25) 0 ∗ semVal ((c : Th), .dma 26) 0) := by
  rw [Pipeline.ownSems0_eq_of_list c osem0 [0, 1, 2, 3, 4, 5, 6, 7, 8, 9, 10, 11, 12, 13, 14, 15, 16, 17, 18, 19, 20, 21, 22, 23, 24, 25, 26] (by decide) (by decide)]; rfl
theorem scoped_eq (c : Dev nD) :
    (Pipeline.scopedRest (Ix := Unit) (Name := ℕ) (U := Pipeline.UD sig nD τ) (Lvl := ℕ) (Val := Elt F) (cfg0.spec) c : sProp 𝕄)
      = iprop((∃ f, ((Memref.whole cc0_scratch0).view.loc (c : Th) ↦{fullShare} f)) ∗ (∃ f, ((Memref.whole cc0_scratch1).view.loc (c : Th) ↦{fullShare} f)) ∗ (∃ f, ((Memref.whole cc0_scratch2).view.loc (c : Th) ↦{fullShare} f)) ∗ (∃ f, ((Memref.whole cc0_scratch3).view.loc (c : Th) ↦{fullShare} f)) ∗ (∃ f, ((Memref.whole cc0_scratch4).view.loc (c : Th) ↦{fullShare} f)) ∗ (∃ f, ((Memref.whole cc0_scratch5).view.loc (c : Th) ↦{fullShare} f)) ∗ (∃ f, ((Memref.whole cc0_scratch6).view.loc (c : Th) ↦{fullShare} f)) ∗ (∃ f, ((Memref.whole cc0_scratch7).view.loc (c : Th) ↦{fullShare} f)) ∗ (∃ f, ((Memref.whole cc0_scratch8).view.loc (c : Th) ↦{fullShare} f)) ∗ (∃ f, ((Memref.whole cc0_scratch9).view.loc (c : Th) ↦{fullShare} f)) ∗ (∃ f, ((Memref.whole cc0_scratch10).view.loc (c : Th) ↦{fullShare} f)) ∗ (∃ f, ((Memref.whole cc0_scratch11).view.loc (c : Th) ↦{fullShare} f)) ∗ (∃ f, ((Memref.whole cc0_scratch12).view.loc (c : Th) ↦{fullShare} f)) ∗ (∃ f, ((Memref.whole cc0_scratch13).view.loc (c : Th) ↦{fullShare} f)) ∗ (∃ f, ((Memref.whole cc0_scratch14).view.loc (c : Th) ↦{fullShare} f)) ∗ (∃ f, ((Memref.whole cc0_scratch15).view.loc (c : Th) ↦{fullShare} f)) ∗ (∃ f, ((Memref.whole cc0_scratch16).view.loc (c : Th) ↦{fullShare} f))) := scopedRest0_eq c
theorem readPts_eq (c : Dev nD) (W : (b : Ref sig .tc) → Buf (Elt F) ((c : Th).loc b)) :
    (bigSep H0 (fun b => ((c : Th).loc b) ↦{fullShare} W b) : sProp 𝕄)
      = iprop(((Memref.whole main_v1).view.loc (c : Th) ↦{fullShare} W main_v1) ∗ ((Memref.whole main_arg1).view.loc (c : Th) ↦{fullShare} W main_arg1) ∗ ((Memref.whole main_v2).view.loc (c : Th) ↦{fullShare} W main_v2) ∗ ((Memref.whole main_arg3).view.loc (c : Th) ↦{fullShare} W main_arg3) ∗ ((Memref.whole main_arg4).view.loc (c : Th) ↦{fullShare} W main_arg4) ∗ ((Memref.whole main_arg5).view.loc (c : Th) ↦{fullShare} W main_arg5) ∗ ((Memref.whole main_v3).view.loc (c : Th) ↦{fullShare} W main_v3) ∗ ((Memref.whole main_v4).view.loc (c : Th) ↦{fullShare} W main_v4)) := by
  rw [BI.bigSep_eq_bigSepL_of_eq [main_v1, main_arg1, main_v2, main_arg3, main_arg4, main_arg5, main_v3, main_v4] (by decide) (by decide)]; rfl
theorem writtenPts_eq (c : Dev nD) (W : (b : Ref sig .tc) → Buf (Elt F) ((c : Th).loc b)) :
    (bigSep R0 (fun b => ((c : Th).loc b) ↦{fullShare} W b) : sProp 𝕄)
      = iprop(((Memref.whole main_v5_0).view.loc (c : Th) ↦{fullShare} W main_v5_0) ∗ ((Memref.whole main_v5_1).view.loc (c : Th) ↦{fullShare} W main_v5_1) ∗ ((Memref.whole main_v5_2).view.loc (c : Th) ↦{fullShare} W main_v5_2) ∗ ((Memref.whole main_v5_3).view.loc (c : Th) ↦{fullShare} W main_v5_3) ∗ ((Memref.whole main_v5_4).view.loc (c : Th) ↦{fullShare} W main_v5_4)) := by
  rw [BI.bigSep_eq_bigSepL_of_eq [main_v5_0, main_v5_1, main_v5_2, main_v5_3, main_v5_4] (by decide) (by decide)]; rfl

/-- What the body leaves in each buffer it writes. -/
def G (c : Dev nD) : (b : Ref sig .tc) → Buf (Elt F) ((c : Th).loc b) :=
  Function.update (Function.update (Function.update (Function.update (Function.update (V m c)
    main_v5_0 (GY (V m c main_arg5) (V m c main_v3) (V m c main_v4) (qz (V m c main_v1) (V m c main_arg1) (V m c main_v2) (V m c main_arg3) (V m c main_arg4)) (sz (V m c main_v1) (V m c main_arg1) (V m c main_v2) (V m c main_arg3) (V m c main_arg4)) : Vec F S24x8x7168 .bf16))
    main_v5_1 (GC9 (XQ (V m c main_v1)) : Vec F S24x8x8192 .fp8e4m3))
    main_v5_2 (SP (grp9 (XSV (V m c main_v1))) : Vec F S2x8x12 .f32))
    main_v5_3 (GC11 (qz (V m c main_v1) (V m c main_arg1) (V m c main_v2) (V m c main_arg3) (V m c main_arg4)) : Vec F S24x8x2048 .fp8e4m3))
    main_v5_4 (SP (grp14 (sz (V m c main_v1) (V m c main_arg1) (V m c main_v2) (V m c main_arg3) (V m c main_arg4))) : Vec F S2x8x12 .f32)
theorem G_0 (c : Dev nD) : G m c main_v5_0 = (GY (V m c main_arg5) (V m c main_v3) (V m c main_v4) (qz (V m c main_v1) (V m c main_arg1) (V m c main_v2) (V m c main_arg3) (V m c main_arg4)) (sz (V m c main_v1) (V m c main_arg1) (V m c main_v2) (V m c main_arg3) (V m c main_arg4)) : Vec F S24x8x7168 .bf16) := by
  unfold G
  rw [Function.update_of_ne (show main_v5_0 ≠ main_v5_4 by decide), Function.update_of_ne (show main_v5_0 ≠ main_v5_3 by decide), Function.update_of_ne (show main_v5_0 ≠ main_v5_2 by decide), Function.update_of_ne (show main_v5_0 ≠ main_v5_1 by decide), Function.update_self]
theorem G_1 (c : Dev nD) : G m c main_v5_1 = (GC9 (XQ (V m c main_v1)) : Vec F S24x8x8192 .fp8e4m3) := by
  unfold G
  rw [Function.update_of_ne (show main_v5_1 ≠ main_v5_4 by decide), Function.update_of_ne (show main_v5_1 ≠ main_v5_3 by decide), Function.update_of_ne (show main_v5_1 ≠ main_v5_2 by decide), Function.update_self]
theorem G_2 (c : Dev nD) : G m c main_v5_2 = (SP (grp9 (XSV (V m c main_v1))) : Vec F S2x8x12 .f32) := by
  unfold G
  rw [Function.update_of_ne (show main_v5_2 ≠ main_v5_4 by decide), Function.update_of_ne (show main_v5_2 ≠ main_v5_3 by decide), Function.update_self]
theorem G_3 (c : Dev nD) : G m c main_v5_3 = (GC11 (qz (V m c main_v1) (V m c main_arg1) (V m c main_v2) (V m c main_arg3) (V m c main_arg4)) : Vec F S24x8x2048 .fp8e4m3) := by
  unfold G
  rw [Function.update_of_ne (show main_v5_3 ≠ main_v5_4 by decide), Function.update_self]
theorem G_4 (c : Dev nD) : G m c main_v5_4 = (SP (grp14 (sz (V m c main_v1) (V m c main_arg1) (V m c main_v2) (V m c main_arg3) (V m c main_arg4))) : Vec F S2x8x12 .f32) := by
  unfold G
  rw [Function.update_self]

theorem Phi_eq (c : Dev nD) (W : (c : Dev nD) → (b : Ref sig .tc) → Buf (Elt F) ((c : Th).loc b)) :
    (Pipeline.ΦDRV osem0 (cfg0.spec) H0 R0 (V m) W c : sProp 𝕄)
      = iprop(((∃ f, ((Memref.whole cc0_scratch0).view.loc (c : Th) ↦{fullShare} f)) ∗ (∃ f, ((Memref.whole cc0_scratch1).view.loc (c : Th) ↦{fullShare} f)) ∗ (∃ f, ((Memref.whole cc0_scratch2).view.loc (c : Th) ↦{fullShare} f)) ∗ (∃ f, ((Memref.whole cc0_scratch3).view.loc (c : Th) ↦{fullShare} f)) ∗ (∃ f, ((Memref.whole cc0_scratch4).view.loc (c : Th) ↦{fullShare} f)) ∗ (∃ f, ((Memref.whole cc0_scratch5).view.loc (c : Th) ↦{fullShare} f)) ∗ (∃ f, ((Memref.whole cc0_scratch6).view.loc (c : Th) ↦{fullShare} f)) ∗ (∃ f, ((Memref.whole cc0_scratch7).view.loc (c : Th) ↦{fullShare} f)) ∗ (∃ f, ((Memref.whole cc0_scratch8).view.loc (c : Th) ↦{fullShare} f)) ∗ (∃ f, ((Memref.whole cc0_scratch9).view.loc (c : Th) ↦{fullShare} f)) ∗ (∃ f, ((Memref.whole cc0_scratch10).view.loc (c : Th) ↦{fullShare} f)) ∗ (∃ f, ((Memref.whole cc0_scratch11).view.loc (c : Th) ↦{fullShare} f)) ∗ (∃ f, ((Memref.whole cc0_scratch12).view.loc (c : Th) ↦{fullShare} f)) ∗ (∃ f, ((Memref.whole cc0_scratch13).view.loc (c : Th) ↦{fullShare} f)) ∗ (∃ f, ((Memref.whole cc0_scratch14).view.loc (c : Th) ↦{fullShare} f)) ∗ (∃ f, ((Memref.whole cc0_scratch15).view.loc (c : Th) ↦{fullShare} f)) ∗ (∃ f, ((Memref.whole cc0_scratch16).view.loc (c : Th) ↦{fullShare} f)))
          ∗ (semVal ((c : Th), .dma 0) 0 ∗ semVal ((c : Th), .dma 1) 0 ∗ semVal ((c : Th), .dma 2) 0 ∗ semVal ((c : Th), .dma 3) 0 ∗ semVal ((c : Th), .dma 4) 0 ∗ semVal ((c : Th), .dma 5) 0 ∗ semVal ((c : Th), .dma 6) 0 ∗ semVal ((c : Th), .dma 7) 0 ∗ semVal ((c : Th), .dma 8) 0 ∗ semVal ((c : Th), .dma 9) 0 ∗ semVal ((c : Th), .dma 10) 0 ∗ semVal ((c : Th), .dma 11) 0 ∗ semVal ((c : Th), .dma 12) 0 ∗ semVal ((c : Th), .dma 13) 0 ∗ semVal ((c : Th), .dma 14) 0 ∗ semVal ((c : Th), .dma 15) 0 ∗ semVal ((c : Th), .dma 16) 0 ∗ semVal ((c : Th), .dma 17) 0 ∗ semVal ((c : Th), .dma 18) 0 ∗ semVal ((c : Th), .dma 19) 0 ∗ semVal ((c : Th), .dma 20) 0 ∗ semVal ((c : Th), .dma 21) 0 ∗ semVal ((c : Th), .dma 22) 0 ∗ semVal ((c : Th), .dma 23) 0 ∗ semVal ((c : Th), .dma 24) 0 ∗ semVal ((c : Th), .dma 25) 0 ∗ semVal ((c : Th), .dma 26) 0)
          ∗ (((Memref.whole main_v1).view.loc (c : Th) ↦{fullShare} V m c main_v1) ∗ ((Memref.whole main_arg1).view.loc (c : Th) ↦{fullShare} V m c main_arg1) ∗ ((Memref.whole main_v2).view.loc (c : Th) ↦{fullShare} V m c main_v2) ∗ ((Memref.whole main_arg3).view.loc (c : Th) ↦{fullShare} V m c main_arg3) ∗ ((Memref.whole main_arg4).view.loc (c : Th) ↦{fullShare} V m c main_arg4) ∗ ((Memref.whole main_arg5).view.loc (c : Th) ↦{fullShare} V m c main_arg5) ∗ ((Memref.whole main_v3).view.loc (c : Th) ↦{fullShare} V m c main_v3) ∗ ((Memref.whole main_v4).view.loc (c : Th) ↦{fullShare} V m c main_v4))
          ∗ (((Memref.whole main_v5_0).view.loc (c : Th) ↦{fullShare} W c main_v5_0) ∗ ((Memref.whole main_v5_1).view.loc (c : Th) ↦{fullShare} W c main_v5_1) ∗ ((Memref.whole main_v5_2).view.loc (c : Th) ↦{fullShare} W c main_v5_2) ∗ ((Memref.whole main_v5_3).view.loc (c : Th) ↦{fullShare} W c main_v5_3) ∗ ((Memref.whole main_v5_4).view.loc (c : Th) ↦{fullShare} W c main_v5_4))) := by
  unfold Pipeline.ΦDRV
  rw [scoped_eq, ownSems_eq, readPts_eq, writtenPts_eq]

/-- The call's resources at the start, and from then on. -/
def PhiAt (c : Dev nD) (n : ℕ) : sProp 𝕄 :=
  if n = 0 then Pipeline.ΦDRV osem0 (cfg0.spec) H0 R0 (V m) (V m) c else Pipeline.ΦDRV osem0 (cfg0.spec) H0 R0 (V m) (G m) c
theorem PhiAt_zero (c : Dev nD) (n : ℕ) (h : n = 0) : PhiAt m c n = Pipeline.ΦDRV osem0 (cfg0.spec) H0 R0 (V m) (V m) c := if_pos h
theorem PhiAt_pos (c : Dev nD) (n : ℕ) (h : n ≠ 0) : PhiAt m c n = Pipeline.ΦDRV osem0 (cfg0.spec) H0 R0 (V m) (G m) c := if_neg h

/-- The invariant: the results as the call finds them before the body, at their values after it. -/
def dats (_ : Fin 1) (c : Dev nD) : Dat τ (Elt F) Unit ℕ (Pipeline.UD sig nD τ) ℕ cfg0 c where
  A w := V m c (Pipeline.arrRef (cfg0.spec) w)
  after w t := w.elim0
  Φ t := PhiAt m c t.val
  q _ := fullShare
  owed _ := 0

theorem A_eq (c : Dev nD) (w : Fin cfg0.W) : (dats m 0 c).A w = V m c (Pipeline.arrRef (cfg0.spec) w) := w.elim0
theorem Phi_first (c : Dev nD) (t : Fin cfg0.N) : (dats m 0 c).Φ t.castSucc = Pipeline.ΦDRV osem0 (cfg0.spec) H0 R0 (V m) (V m) c := by
  have h : t.val < 1 := lt_of_lt_of_eq t.isLt N_0
  exact PhiAt_zero m c _ (show t.castSucc.val = 0 by rw [Fin.val_castSucc]; omega)
theorem Phi_next (c : Dev nD) (t : Fin cfg0.N) : (dats m 0 c).Φ t.succ = Pipeline.ΦDRV osem0 (cfg0.spec) H0 R0 (V m) (G m) c :=
  PhiAt_pos m c _ (show ¬ t.succ.val = 0 by rw [Fin.val_succ]; omega)

def bodyPre (c : Dev nD) (t : Fin cfg0.N) : sProp 𝕄 :=
  iprop((dats m 0 c).Φ t.castSucc ∗ (dats m 0 c).owesAt () t.castSucc)
def bodyPost (c : Dev nD) (t : Fin cfg0.N) : sProp 𝕄 :=
  iprop((dats m 0 c).Φ t.succ ∗ (dats m 0 c).owesAt () t.succ)

set_option maxHeartbeats 1000000 in
theorem sound_body (c : Dev nD) (t : Fin cfg0.N) :
    bodyPre m c t ⊢ wp frame (wpE (defs₀ (F := F)) Variants.none (c : Th) none) Set.univ (bodyAt0 t) (fun _ => bodyPost m c t) := by
  unfold bodyPre bodyPost bodyAt0
  rw [Phi_first, Phi_next, Phi_eq, Phi_eq, G_0, G_1, G_2, G_3, G_4]
  unfold Dat.owesAt Pipeline.owesWithin
  rw [show (dats m 0 c).owed t.castSucc = 0 from rfl, show (dats m 0 c).owed t.succ = 0 from rfl]
  iintro ⟨⟨⟨T0, T1, T2, T3, T4, T5, T6, T7, T8, T9, T10, T11, T12, T13, T14, T15, T16⟩, ⟨S0, S1, S2, S3, S4, S5, S6, S7, S8, S9, S10, S11, S12, S13, S14, S15, S16, S17, S18, S19, S20, S21, S22, S23, S24, S25, S26⟩, ⟨B1, B2, G2, G3, G4, B3, G6, G7⟩, ⟨O0, O1, O2, O3, O4⟩⟩, ⟨%W, -, HW⟩⟩
  ihave HX := (enterX c (V m c main_v1)) $$ [T0 B1 S0 S1 S2 S3 S4 S5]
  · isplitl [T0]
    · iexact T0
    isplitl [B1]
    · iexact B1
    iframe S0 S1 S2 S3 S4 S5
  icases HX with ⟨HX, D1⟩
  ihave HW1 := (enterW1 c (V m c main_arg1)) $$ [T2 B2 S6 S7 S8 S9]
  · isplitl [T2]
    · iexact T2
    isplitl [B2]
    · iexact B2
    iframe S6 S7 S8 S9
  icases HW1 with ⟨HW1, D2⟩
  ihave HW2 := (enterW2 c (V m c main_arg5)) $$ [T6 B3 S15 S16 S17 S18 S19 S20 S21]
  · isplitl [T6]
    · iexact T6
    isplitl [B3]
    · iexact B3
    iframe S15 S16 S17 S18 S19 S20 S21
  icases HW2 with ⟨HW2, D3⟩
  ihave Hds := (enterYd c (V m c main_v5_0)) $$ O0
  icases T16 with ⟨%g16, T16⟩
  ihave Hys := (enterYs c g16) $$ T16
  iapply (run_body c (V m c main_v1) (V m c main_arg1) (V m c main_arg5) (V m c main_v2) (V m c main_arg3) (V m c main_arg4) (V m c main_v3) (V m c main_v4) _)
  isplitl [HX HW1 HW2 G2 G3 G4 G6 G7 O1 O2 O3 O4 T1 T3 T4 T5 T7 T8 T9 T10 T11 T12 T13 T14 T15 S10 S11 S12 S13 S14 S22 S23 S24 S25 S26 Hds Hys HW]
  · unfold BodyPre
    isplitl [HX]
    · iexact HX
    isplitl [HW1]
    · iexact HW1
    isplitl [HW2]
    · iexact HW2
    isplitl [G2]
    · iexact G2
    isplitl [G3]
    · iexact G3
    isplitl [G4]
    · iexact G4
    isplitl [G6]
    · iexact G6
    isplitl [G7]
    · iexact G7
    isplitl [O1]
    · iexists _; iexact O1
    isplitl [O2]
    · iexists _; iexact O2
    isplitl [O3]
    · iexists _; iexact O3
    isplitl [O4]
    · iexists _; iexact O4
    isplitl [T1]
    · iexact T1
    isplitl [T3]
    · iexact T3
    isplitl [T4]
    · iexact T4
    isplitl [T5]
    · iexact T5
    isplitl [T7]
    · iexact T7
    isplitl [T8]
    · iexact T8
    isplitl [T9]
    · iexact T9
    isplitl [T10]
    · iexact T10
    isplitl [T11]
    · iexact T11
    isplitl [T12]
    · iexact T12
    isplitl [T13]
    · iexact T13
    isplitl [T14]
    · iexact T14
    isplitl [T15]
    · iexact T15
    isplitl [S10]
    · iexact S10
    isplitl [S11]
    · iexact S11
    isplitl [S12]
    · iexact S12
    isplitl [S13]
    · iexact S13
    isplitl [S14]
    · iexact S14
    isplitl [S22]
    · iexact S22
    isplitl [S23]
    · iexact S23
    isplitl [S24]
    · iexact S24
    isplitl [S25]
    · iexact S25
    isplitl [S26]
    · iexact S26
    isplitl [Hds]
    · iexact Hds
    isplitl [Hys]
    · iexact Hys
    iexists W
    iexact HW
  unfold BodyPost
  iintro ⟨HX, HW1, HW2, G2, G3, G4, G6, G7, O1, O2, O3, O4, T1, T3, T4, T5, T7, T8, T9, T10, T11, T12, T13, T14, T15, S10, S11, S12, S13, S14, S22, S23, S24, S25, S26, HY, %W', HW'⟩
  ihave HX := (exitX c (V m c main_v1)) $$ [HX D1]
  · iframe HX D1
  icases HX with ⟨T0, B1, S0, S1, S2, S3, S4, S5⟩
  ihave HW1 := (exitW1 c (V m c main_arg1)) $$ [HW1 D2]
  · iframe HW1 D2
  icases HW1 with ⟨T2, B2, S6, S7, S8, S9⟩
  ihave HW2 := (exitW2 c (V m c main_arg5)) $$ [HW2 D3]
  · iframe HW2 D3
  icases HW2 with ⟨T6, B3, S15, S16, S17, S18, S19, S20, S21⟩
  ihave HY := (exitY c _ _ _ _ _) $$ HY
  icases HY with ⟨O0, T16⟩
  isplitr [HW']
  · isplitl [T0 T1 T2 T3 T4 T5 T6 T7 T8 T9 T10 T11 T12 T13 T14 T15 T16]
    · isplitl [T0]
      · iexact T0
      isplitl [T1]
      · iexact T1
      isplitl [T2]
      · iexact T2
      isplitl [T3]
      · iexact T3
      isplitl [T4]
      · iexact T4
      isplitl [T5]
      · iexact T5
      isplitl [T6]
      · iexact T6
      isplitl [T7]
      · iexact T7
      isplitl [T8]
      · iexact T8
      isplitl [T9]
      · iexact T9
      isplitl [T10]
      · iexact T10
      isplitl [T11]
      · iexact T11
      isplitl [T12]
      · iexact T12
      isplitl [T13]
      · iexact T13
      isplitl [T14]
      · iexact T14
      isplitl [T15]
      · iexact T15
      iexact T16
    isplitl [S0 S1 S2 S3 S4 S5 S6 S7 S8 S9 S10 S11 S12 S13 S14 S15 S16 S17 S18 S19 S20 S21 S22 S23 S24 S25 S26]
    · isplitl [S0]
      · iexact S0
      isplitl [S1]
      · iexact S1
      isplitl [S2]
      · iexact S2
      isplitl [S3]
      · iexact S3
      isplitl [S4]
      · iexact S4
      isplitl [S5]
      · iexact S5
      isplitl [S6]
      · iexact S6
      isplitl [S7]
      · iexact S7
      isplitl [S8]
      · iexact S8
      isplitl [S9]
      · iexact S9
      isplitl [S10]
      · iexact S10
      isplitl [S11]
      · iexact S11
      isplitl [S12]
      · iexact S12
      isplitl [S13]
      · iexact S13
      isplitl [S14]
      · iexact S14
      isplitl [S15]
      · iexact S15
      isplitl [S16]
      · iexact S16
      isplitl [S17]
      · iexact S17
      isplitl [S18]
      · iexact S18
      isplitl [S19]
      · iexact S19
      isplitl [S20]
      · iexact S20
      isplitl [S21]
      · iexact S21
      isplitl [S22]
      · iexact S22
      isplitl [S23]
      · iexact S23
      isplitl [S24]
      · iexact S24
      isplitl [S25]
      · iexact S25
      iexact S26
    isplitl [B1 B2 G2 G3 G4 B3 G6 G7]
    · isplitl [B1]
      · iexact B1
      isplitl [B2]
      · iexact B2
      isplitl [G2]
      · iexact G2
      isplitl [G3]
      · iexact G3
      isplitl [G4]
      · iexact G4
      isplitl [B3]
      · iexact B3
      isplitl [G6]
      · iexact G6
      iexact G7
    isplitl [O0]
    · iexact O0
    isplitl [O1]
    · iexact O1
    isplitl [O2]
    · iexact O2
    isplitl [O3]
    · iexact O3
    iexact O4
  iexists W'
  isplitr
  · ipureintro; exact fun _ _ => Or.inl trivial
  iexact HW'

theorem defs₀_row (t : Fin cfg0.N) :
    defs₀ (F := F) .tc cfg0.body (cfg0.bodyArgs t (cfg0.slots t)) = bodyAt0 t := by
  unfold defs₀; rw [Defs.onTc_tc]

theorem noWindows (Φ : Fin cfg0.W → sProp 𝕄) : bigSep Finset.univ Φ = (BI.emp : sProp 𝕄) :=
  BI.bigSep_eq_bigSepL_of_eq [] (by decide) (by decide) Φ

theorem body_obligation (c : Dev nD) : BodyObligation (dats (F := F) m 0 c) (defs₀ (F := F)) Variants.none () Set.univ := fun t => by
  rw [noWindows, noWindows, defs₀_row]
  refine triple_restated (sound_body m c t) rfl ?_ fun _ => ?_
  · unfold bodyPre
    iintro ⟨H, H', -⟩
    iframe H H'
  · unfold bodyPost
    iintro ⟨H, H'⟩
    iframe H H'
    exact same _

/-- What the run leaves: each buffer as the closing host lines make it out of the entry contents and the body's results. -/
def Final (r : PUnit × MemSt nD τ sig (Elt F)) : Prop :=
  (∀ c : Dev nD, ∀ b ∈ Pipeline.restRefs sig (cfg0.spec), r.2.mem ((c : Thread nD τ).loc b)
      = StableHlo.after hostOps1 (Pipeline.withR (V0 m c) R0 c (G m c)) (Proc.devRef .tc b))
    ∧ r.2.sem = fun _ => 0

theorem noArrays (c : Dev nD) (W : Valuation τ sig (Elt F)) (A : (w : Fin cfg0.W) → Buf (Elt F) (((cfg0.spec) w).arr.view.loc (c : Thread nD τ))) :
    Pipeline.withArrays (cfg0.spec) c W A = W := by
  funext r
  unfold Pipeline.withArrays
  rw [dif_neg]
  rintro ⟨w, _⟩
  exact w.elim0

set_option backward.isDefEq.respectTransparency.types false in
theorem run_main : θ_run defs (onTc (τ := τ) (main (F := F))) (s₀ m ρ) (Final m) :=
  Pipeline.θ_run_frame_dmaR_aroundV cfgs (dats m) (0 : Fin 1) launch0 osem0 defs₀ Variants.none ownSemFacts0 H0 R0 H0_sub R0_sub m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (G := G m) (hmain := hmain m Variants.none) (hA := A_eq m)
    (hin := fun c => Entails.of_eq (PhiAt_zero m c 0 rfl).symm) (hout := fun c => Entails.of_eq (PhiAt_pos m c grid0.N (by decide)))
    (Q' := Final m) (hQ' := fun r h => ⟨fun c b hb => ((h.1 c).2 b hb).trans (by
      rw [show Pipeline.withArrays (cfgs 0).spec c (Pipeline.withR (V0 m c) R0 c (G m c)) (fun w => (dats m 0 c).arrAt w (cfgs 0).N) = Pipeline.withR (V0 m c) R0 c (G m c) from noArrays c _ _]; rfl), h.2⟩)

/-- A buffer no closing line writes and the body does not write ends as the call found it; -/
theorem final_kept (c : Dev nD) (b : Ref sig .tc) (hb : b ∉ R0)
    (h : b ≠ main_v6 ∧ b ≠ main_v7 ∧ b ≠ main_v8 ∧ b ≠ main_v9 ∧ b ≠ main_v10 ∧ b ≠ main_v11) :
    StableHlo.after hostOps1 (Pipeline.withR (V0 m c) R0 c (G m c)) (Proc.devRef .tc b) = V m c b := by
  have e : (hostOps1 : List (HloOp τ sig (Elt F))).Forall fun op => Proc.devRef .tc b ∉ op.writes := by
    simp only [hostOps1, List.Forall, StableHlo.unary_writes, StableHlo.reshape_writes, Finset.mem_singleton]
    obtain ⟨h6, h7, h8, h9, h10, h11⟩ := h
    repeat' apply And.intro
    all_goals exact StableHlo.devRef_ne_of_ne (by assumption)
  rw [StableHlo.after_of_forall_not_mem _ _ (List.forall_iff_forall_mem.mp e), Pipeline.withR_of_not_mem _ _ _ _ b hb]
theorem final_arg0 (c : Dev nD) : StableHlo.after hostOps1 (Pipeline.withR (V0 m c) R0 c (G m c)) (Proc.devRef .tc main_arg0) = m ((c : Th).loc main_arg0) :=
  (final_kept m c main_arg0 (by decide) (by decide)).trans (V_main_arg0 m c)
theorem final_arg1 (c : Dev nD) : StableHlo.after hostOps1 (Pipeline.withR (V0 m c) R0 c (G m c)) (Proc.devRef .tc main_arg1) = m ((c : Th).loc main_arg1) :=
  (final_kept m c main_arg1 (by decide) (by decide)).trans (V_main_arg1 m c)
theorem final_arg2 (c : Dev nD) : StableHlo.after hostOps1 (Pipeline.withR (V0 m c) R0 c (G m c)) (Proc.devRef .tc main_arg2) = m ((c : Th).loc main_arg2) :=
  (final_kept m c main_arg2 (by decide) (by decide)).trans (V_main_arg2 m c)
theorem final_arg3 (c : Dev nD) : StableHlo.after hostOps1 (Pipeline.withR (V0 m c) R0 c (G m c)) (Proc.devRef .tc main_arg3) = m ((c : Th).loc main_arg3) :=
  (final_kept m c main_arg3 (by decide) (by decide)).trans (V_main_arg3 m c)
theorem final_arg4 (c : Dev nD) : StableHlo.after hostOps1 (Pipeline.withR (V0 m c) R0 c (G m c)) (Proc.devRef .tc main_arg4) = m ((c : Th).loc main_arg4) :=
  (final_kept m c main_arg4 (by decide) (by decide)).trans (V_main_arg4 m c)
theorem final_arg5 (c : Dev nD) : StableHlo.after hostOps1 (Pipeline.withR (V0 m c) R0 c (G m c)) (Proc.devRef .tc main_arg5) = m ((c : Th).loc main_arg5) :=
  (final_kept m c main_arg5 (by decide) (by decide)).trans (V_main_arg5 m c)
theorem final_arg6 (c : Dev nD) : StableHlo.after hostOps1 (Pipeline.withR (V0 m c) R0 c (G m c)) (Proc.devRef .tc main_arg6) = m ((c : Th).loc main_arg6) :=
  (final_kept m c main_arg6 (by decide) (by decide)).trans (V_main_arg6 m c)
theorem final_arg7 (c : Dev nD) : StableHlo.after hostOps1 (Pipeline.withR (V0 m c) R0 c (G m c)) (Proc.devRef .tc main_arg7) = m ((c : Th).loc main_arg7) :=
  (final_kept m c main_arg7 (by decide) (by decide)).trans (V_main_arg7 m c)

/-- The arguments end as launched, every semaphore at zero. -/
theorem frame_all : θ_run defs (onTc (τ := τ) (main (F := F))) ⟨m, fun _ => 0, ρ⟩ (fun r => (∀ c : Dev nD,
      r.2.mem ((c : Thread nD τ).loc main_arg0) = m ((c : Thread nD τ).loc main_arg0) ∧ r.2.mem ((c : Thread nD τ).loc main_arg1) = m ((c : Thread nD τ).loc main_arg1) ∧ r.2.mem ((c : Thread nD τ).loc main_arg2) = m ((c : Thread nD τ).loc main_arg2) ∧ r.2.mem ((c : Thread nD τ).loc main_arg3) = m ((c : Thread nD τ).loc main_arg3) ∧ r.2.mem ((c : Thread nD τ).loc main_arg4) = m ((c : Thread nD τ).loc main_arg4) ∧ r.2.mem ((c : Thread nD τ).loc main_arg5) = m ((c : Thread nD τ).loc main_arg5) ∧ r.2.mem ((c : Thread nD τ).loc main_arg6) = m ((c : Thread nD τ).loc main_arg6) ∧ r.2.mem ((c : Thread nD τ).loc main_arg7) = m ((c : Thread nD τ).loc main_arg7))
      ∧ r.2.sem = fun _ => 0) :=
  (θ_run defs _ _).mono (fun r h => ⟨fun c => ⟨(h.1 c main_arg0 (Pipeline.mem_restRefs_of main_arg0 (by decide) (by decide))).trans (final_arg0 m c), (h.1 c main_arg1 (Pipeline.mem_restRefs_of main_arg1 (by decide) (by decide))).trans (final_arg1 m c), (h.1 c main_arg2 (Pipeline.mem_restRefs_of main_arg2 (by decide) (by decide))).trans (final_arg2 m c), (h.1 c main_arg3 (Pipeline.mem_restRefs_of main_arg3 (by decide) (by decide))).trans (final_arg3 m c), (h.1 c main_arg4 (Pipeline.mem_restRefs_of main_arg4 (by decide) (by decide))).trans (final_arg4 m c), (h.1 c main_arg5 (Pipeline.mem_restRefs_of main_arg5 (by decide) (by decide))).trans (final_arg5 m c), (h.1 c main_arg6 (Pipeline.mem_restRefs_of main_arg6 (by decide) (by decide))).trans (final_arg6 m c), (h.1 c main_arg7 (Pipeline.mem_restRefs_of main_arg7 (by decide) (by decide))).trans (final_arg7 m c)⟩, h.2⟩) (run_main m ρ)

end Cert.KernelIdeal.Hand
-- ==== Proof.KernelHand.Base.lean ====
module

public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import Idealize.ShloMosaic.Lib.Pipeline.FrameSuffixV
public import Idealize.ShloMosaic.Lib.Ring
public import Idealize.ShloMosaic.Lib.Batch
public import Idealize.ShloMosaic.Lib.Pointwise.Index

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The proof's user algebra: the pipeline library's beside the transfers' counters. -/
local notation "𝕄" => MT nD τ sig Unit (Elt F) ℕ (Pipeline.UD sig nD τ) ℕ

/-- The module's threads. -/
abbrev Th := Thread nD τ

/-- A whole buffer, in short. -/
theorem iw {κ : Kind} (b : Ref sig κ) : (Memref.whole b).IsWhole := Memref.isWhole_whole b

/-! ## A family of copies into the slots of a buffer

A member is one slot: not issued (`0`: its semaphore at zero, the slot at any contents, a read share of the source), in
flight (`1`: the flight delivers the slot at `g` and the share's lent elements), landed (`2`: the slot at `g`). -/

/-- A slot's assertion in state `b`. -/
def Fam (c : Dev nD) {s s0 : Shape} {e : EltTy} (slot : Memref sig .tc .vmem s e) (g : Buf (Elt F) (slot.view.loc (c : Th)))
    (base : Memref sig .tc .hbm s0 e) (fb : Buf (Elt F) (base.view.loc (c : Th))) (U S : Finset (Idx (base.view.loc (c : Th))))
    (q : PosShare TreeShare) (N : ℕ) (cl : SemLoc sig) (b : Fin 3) : sProp 𝕄 :=
  match b with
  | 0 => iprop(semVal ((c : Th), cl) 0 ∗ (∃ f, slot.view.loc (c : Th) ↦[slot.view.set]{fullShare} f)
          ∗ base.view.loc (c : Th) ↦[U]{q} fb)
  | 1 => iprop(Transfers.Flight (countersEmb (U := Pipeline.UD sig nD τ)) (c : Th) cl () N
            iprop((slot.view.loc (c : Th) ↦[slot.view.set]{fullShare} g) ∗ base.view.loc (c : Th) ↦[S]{q} fb)
          ∗ base.view.loc (c : Th) ↦[U \ S]{q} fb)
  | 2 => iprop(semVal ((c : Th), cl) 0 ∗ (slot.view.loc (c : Th) ↦[slot.view.set]{fullShare} g)
          ∗ base.view.loc (c : Th) ↦[U]{q} fb)

/-- A memref's elements after a write of the whole memref are at any contents that read as what was written. -/
theorem landed (c : Dev nD) {sp : Space} {s : Shape} {e : EltTy} (m : Memref sig .tc sp s e) (q : PosShare TreeShare)
    (f g : Buf (Elt F) (m.view.loc (c : Th))) (x : s.Idx → Elt F e) (hx : ∀ y, x y = m.view.read (Elt F) g y) :
    (m.view.loc (c : Th) ↦[m.view.set]{q} m.view.writes (Elt F) f [⟨Rect.whole s, x⟩] : sProp 𝕄)
      = (m.view.loc (c : Th) ↦[m.view.set]{q} g) :=
  pointsTo_congr fun i hi => by
    obtain ⟨y, -, rfl⟩ := Finset.mem_map.mp hi
    have h := congrFun (View.read_writes_whole (Val := Elt F) m.view f x) y
    rw [hx] at h
    simpa [View.read] using h

/-- The states of a family whose first `k` members are at `a` and the others at `b`. -/
def stN {n : Nat} (a b : Fin 3) (k : Nat) : Fin n → Fin 3 := fun j => if j.val < k then a else b
theorem stN_succ {n : Nat} (a b : Fin 3) (k : Fin n) : Function.update (stN a b k.val) k a = (stN a b (k.val + 1) : Fin n → Fin 3) := by
  funext j
  by_cases hj : j = k
  · subst hj; rw [Function.update_self]; simp [stN]
  · rw [Function.update_of_ne hj]
    have : j.val ≠ k.val := fun h => hj (Fin.ext h)
    simp only [stN]
    by_cases h : j.val < k.val
    · rw [if_pos h, if_pos (by omega)]
    · rw [if_neg h, if_neg (by omega)]
theorem stN_self {n : Nat} (a b : Fin 3) (k : Fin n) : (stN a b k.val : Fin n → Fin 3) k = b := by simp [stN]
theorem stN_zero {n : Nat} (a b : Fin 3) : (stN a b 0 : Fin n → Fin 3) = fun _ => b := by funext j; simp [stN]
theorem stN_all {n : Nat} (a b : Fin 3) : (stN a b n : Fin n → Fin 3) = fun _ => a := by funext j; simp [stN]

/-! ### Family X -/

/-- The slot at offsets `o`. -/
def slotX (o : Fin 2 → Nat) (h : ∀ a, o a + S32x8192.size a ≤ S192x8192.size a) : Memref sig .tc .vmem S32x8192 .bf16 :=
  (Memref.whole cc0_scratch0).slice (Rect.unit (s := S192x8192) o S32x8192.size h) (fun _ => rfl)
/-- The source block at offsets `o`. -/
def srcX (o : Fin 2 → Nat) (h : ∀ a, o a + S32x8192.size a ≤ S192x8192.size a) : Memref sig .tc .hbm S32x8192 .bf16 :=
  (Memref.whole main_v1).slice (Rect.unit (s := S192x8192) o S32x8192.size h) (fun _ => rfl)
abbrev cellX (k : Fin 6) : SemLoc sig := SemLoc.dma ⟨0 + k.val, by have := k.isLt; show 0 + k.val < 27; omega⟩
theorem inbSlotX (k : Fin 6) : ∀ a, (![32 * k.val, 0] : Fin 2 → Nat) a + S32x8192.size a ≤ S192x8192.size a := by revert k; decide
theorem inbSrcX (k : Fin 6) : ∀ a, (![32 * k.val, 0] : Fin 2 → Nat) a + S32x8192.size a ≤ S192x8192.size a := by revert k; decide
/-- What the buffer holds when every slot has landed. -/
def gX (f : Vec F S192x8192 .bf16) : Vec F S192x8192 .bf16 := f
/-- Member `k`, with its semaphore, its slot's offsets and its source's as they are printed. -/
def ΦoX (c : Dev nD) (f : Vec F S192x8192 .bf16) (k : Fin 6) (cl : SemLoc sig) (o : Fin 2 → Nat) (h : ∀ a, o a + S32x8192.size a ≤ S192x8192.size a)
    (o' : Fin 2 → Nat) (h' : ∀ a, o' a + S32x8192.size a ≤ S192x8192.size a) (b : Fin 3) : sProp 𝕄 :=
  Fam c (slotX o h) (gX f) (Memref.whole main_v1) f (Finset.univ : Finset S192x8192.Idx) (srcX o' h').view.set (Transfers.shareTok fullShare 6 k) 16384 cl b
theorem ΦoX_congr (c : Dev nD) (f : Vec F S192x8192 .bf16) (k : Fin 6) {cl cl₂ : SemLoc sig} (ec : cl = cl₂) {o o₂ : Fin 2 → Nat} (e : o = o₂)
    {o' o₂' : Fin 2 → Nat} (e' : o' = o₂') (h h₂ h' h₂') (b : Fin 3) : ΦoX c f k cl o h o' h' b = ΦoX c f k cl₂ o₂ h₂ o₂' h₂' b := by
  subst ec; subst e; subst e'; rfl
section
variable (c : Dev nD) (f : Vec F S192x8192 .bf16) (k : Fin 6) (cl : SemLoc sig) (o : Fin 2 → Nat) (h : ∀ a, o a + S32x8192.size a ≤ S192x8192.size a)
    (o' : Fin 2 → Nat) (h' : ∀ a, o' a + S32x8192.size a ≤ S192x8192.size a)
theorem ΦoX_0 : ΦoX c f k cl o h o' h' 0 = iprop(semVal ((c : Th), cl) 0
    ∗ (∃ f, (slotX o h).view.loc (c : Th) ↦[(slotX o h).view.set]{fullShare} f)
    ∗ (Memref.whole main_v1).view.loc (c : Th) ↦[(Finset.univ : Finset S192x8192.Idx)]{Transfers.shareTok fullShare 6 k} f) := rfl
theorem ΦoX_1 : ΦoX c f k cl o h o' h' 1 = iprop(Transfers.Flight (countersEmb (U := Pipeline.UD sig nD τ)) (c : Th) cl () 16384
      iprop(((slotX o h).view.loc (c : Th) ↦[(slotX o h).view.set]{fullShare} gX f)
        ∗ (Memref.whole main_v1).view.loc (c : Th) ↦[(srcX o' h').view.set]{Transfers.shareTok fullShare 6 k} f)
    ∗ (Memref.whole main_v1).view.loc (c : Th) ↦[(Finset.univ : Finset S192x8192.Idx) \ (srcX o' h').view.set]{Transfers.shareTok fullShare 6 k} f) := rfl
theorem ΦoX_2 : ΦoX c f k cl o h o' h' 2 = iprop(semVal ((c : Th), cl) 0
    ∗ ((slotX o h).view.loc (c : Th) ↦[(slotX o h).view.set]{fullShare} gX f)
    ∗ (Memref.whole main_v1).view.loc (c : Th) ↦[(Finset.univ : Finset S192x8192.Idx)]{Transfers.shareTok fullShare 6 k} f) := rfl
end

def ΦX (c : Dev nD) (f : Vec F S192x8192 .bf16) (k : Fin 6) (b : Fin 3) : sProp 𝕄 :=
  ΦoX c f k (cellX k) ![32 * k.val, 0] (inbSlotX k) ![32 * k.val, 0] (inbSrcX k) b

abbrev ixXi (k : Fin k0_t1_loop.trips) : Fin 6 := ⟨k.val, (by decide : k0_t1_loop.trips = 6) ▸ k.isLt⟩
abbrev cellXi (k : Fin k0_t1_loop.trips) : SemLoc sig :=
  SemLoc.dma (((cc0_scratch17.slice (Rect.unit (s := S6) (k0_off1 k) S1.size (k0_off1_inb k)) : DmaSems sig S1).squeeze S_ squeezes_S1_S_ : DmaSems sig S_).sem)
theorem cellXi_eq (k : Fin k0_t1_loop.trips) : cellXi k = cellX (ixXi k) := by revert k; decide +kernel
theorem ΦX_at_i (c : Dev nD) (f : Vec F S192x8192 .bf16) (k : Fin k0_t1_loop.trips) (b : Fin 3) :
    ΦX c f (ixXi k) b = ΦoX c f (ixXi k) (cellXi k) (k0_off2 k) (k0_off2_inb k) (k0_off2 k) (k0_off2_inb k) b :=
  ΦoX_congr c f _ (cellXi_eq k).symm (k0_off2_eq k).symm (k0_off2_eq k).symm _ _ _ _ _

abbrev ixXw (k : Fin k0_t4_loop.trips) : Fin 6 := ⟨k.val, (by decide : k0_t4_loop.trips = 6) ▸ k.isLt⟩
abbrev cellXw (k : Fin k0_t4_loop.trips) : SemLoc sig :=
  SemLoc.dma (((cc0_scratch17.slice (Rect.unit (s := S6) (k0_off9 k) S1.size (k0_off9_inb k)) : DmaSems sig S1).squeeze S_ squeezes_S1_S_ : DmaSems sig S_).sem)
theorem cellXw_eq (k : Fin k0_t4_loop.trips) : cellXw k = cellX (ixXw k) := by revert k; decide +kernel
theorem ΦX_at_w (c : Dev nD) (f : Vec F S192x8192 .bf16) (k : Fin k0_t4_loop.trips) (b : Fin 3) :
    ΦX c f (ixXw k) b = ΦoX c f (ixXw k) (cellXw k) (k0_off10 k) (k0_off10_inb k) (k0_off10 k) (k0_off10_inb k) b :=
  ΦoX_congr c f _ (cellXw_eq k).symm (k0_off10_eq k).symm (k0_off10_eq k).symm _ _ _ _ _

/-- What a copy lands in its slot is the global contents there. -/
theorem gX_read (f : Vec F S192x8192 .bf16) (k : Fin 6) {o : Fin 2 → Nat} (e : o = ![32 * k.val, 0]) {o' : Fin 2 → Nat} (e' : o' = ![32 * k.val, 0]) (h h') (y : S32x8192.Idx) :
    (srcX o' h').view.read (Elt F) f y = (slotX o h).view.read (Elt F) (gX f) y := by
  subst e; subst e'
  rfl

set_option warn.classDefReducibility false in
/-- The loop that issues the copies. -/
def invX (c : Dev nD) (f : Vec F S192x8192 .bf16) :
    LoopInv (M := 𝕄) frame (wpE (defs₀ (F := F)) Variants.none (c : Th) none) Set.univ k0_t1_loop.lb k0_t1_loop.ub k0_t1_loop.st k0_t1_ok ()
      (k0_t1_body (F := F) (Memref.whole main_v1) (iw _) (Memref.whole main_arg1) (iw _) (Memref.whole main_v2) (iw _) (Memref.whole main_arg3) (iw _) (Memref.whole main_arg4) (iw _) (Memref.whole main_arg5) (iw _) (Memref.whole main_v3) (iw _) (Memref.whole main_v4) (iw _) (Memref.whole main_v5_0) (iw _) (Memref.whole main_v5_1) (iw _) (Memref.whole main_v5_2) (iw _) (Memref.whole main_v5_3) (iw _) (Memref.whole main_v5_4) (iw _) (Memref.whole cc0_scratch0) (iw _) (Memref.whole cc0_scratch1) (iw _) (Memref.whole cc0_scratch2) (iw _) (Memref.whole cc0_scratch3) (iw _) (Memref.whole cc0_scratch4) (iw _) (Memref.whole cc0_scratch5) (iw _) (Memref.whole cc0_scratch6) (iw _) (Memref.whole cc0_scratch7) (iw _) (Memref.whole cc0_scratch8) (iw _) (Memref.whole cc0_scratch9) (iw _) (Memref.whole cc0_scratch10) (iw _) (Memref.whole cc0_scratch11) (iw _) (Memref.whole cc0_scratch12) (iw _) (Memref.whole cc0_scratch13) (iw _) (Memref.whole cc0_scratch14) (iw _) (Memref.whole cc0_scratch15) (iw _) (Memref.whole cc0_scratch16) (iw _) cc0_scratch17 cc0_scratch18 cc0_scratch19 cc0_scratch20 cc0_scratch21 cc0_scratch22 cc0_scratch23 cc0_scratch24 cc0_scratch25 cc0_scratch26 cc0_scratch27 cc0_scratch28 cc0_scratch29) where
  inv k _ := iprop(Ring.AtW (ΦX c f) (stN 1 0 k) ∗ ∃ W, owes (c : Th) 0 W)
  step k _ := by
    have hs := stN_succ 1 0 (ixXi k)
    rw [show (ixXi k).val = k.val from rfl] at hs
    rw [← hs, Ring.AtW_focus (ΦX c f) (stN 1 0 k.val) (ixXi k), stN_self 1 0 (ixXi k), ΦX_at_i]
    rw [ΦoX_0]
    iintro ⟨⟨⟨Hs, ⟨%fd, Hd⟩, Htok⟩, Hrest⟩, %W, HO⟩
    unfold k0_t1_body
    sl_exec
    sl_step
    isplitr [HO]
    · iapply (Ring.AtW_update (ΦX c f) (stN 1 0 k.val) (ixXi k) 1)
      isplitr [Hrest]
      · rw [ΦX_at_i, ΦoX_1]
        isplitl [Hs]
        · iapply (Transfers.Flight_mono _ _ (sep_mono (Entails.of_eq (landed c _ fullShare fd (gX f) _
            (gX_read f (ixXi k) (k0_off2_eq k) (k0_off2_eq k) (k0_off2_inb k) (k0_off2_inb k)))) (Entails.of_eq rfl)))
          iexact Hs
        iexact Htok
      · iexact Hrest
    · iexists _; iexact HO

/-! ### Family W1 -/

/-- The slot at offsets `o`. -/
def slotW1 (o : Fin 3 → Nat) (h : ∀ a, o a + S1x8192x512.size a ≤ S4x8192x512.size a) : Memref sig .tc .vmem S8192x512 .fp8e4m3 :=
  (((Memref.whole cc0_scratch2).slice (Rect.unit (s := S4x8192x512) o S1x8192x512.size h) (fun _ => rfl) : Memref sig .tc .vmem S1x8192x512 .fp8e4m3)).squeeze S8192x512 squeezes_S1x8192x512_S8192x512
/-- The source block at offsets `o`. -/
def srcW1 (o : Fin 2 → Nat) (h : ∀ a, o a + S8192x512.size a ≤ S8192x2048.size a) : Memref sig .tc .hbm S8192x512 .fp8e4m3 :=
  (Memref.whole main_arg1).slice (Rect.unit (s := S8192x2048) o S8192x512.size h) (fun _ => rfl)
abbrev cellW1 (k : Fin 4) : SemLoc sig := SemLoc.dma ⟨6 + k.val, by have := k.isLt; show 6 + k.val < 27; omega⟩
theorem inbSlotW1 (k : Fin 4) : ∀ a, (![k.val, 0, 0] : Fin 3 → Nat) a + S1x8192x512.size a ≤ S4x8192x512.size a := by revert k; decide
theorem inbSrcW1 (k : Fin 4) : ∀ a, (![0, 512 * k.val] : Fin 2 → Nat) a + S8192x512.size a ≤ S8192x2048.size a := by revert k; decide
/-- What the buffer holds when every slot has landed. -/
def gW1 (f : Vec F S8192x2048 .fp8e4m3) : Vec F S4x8192x512 .fp8e4m3 := fun i => f (ix2 (i 1) ⟨512 * (i 0).val + (i 2).val, by have h0 : (i 0).val < 4 := (i 0).isLt; have h2 : (i 2).val < 512 := (i 2).isLt; omega⟩)
/-- Member `k`, with its semaphore, its slot's offsets and its source's as they are printed. -/
def ΦoW1 (c : Dev nD) (f : Vec F S8192x2048 .fp8e4m3) (k : Fin 4) (cl : SemLoc sig) (o : Fin 3 → Nat) (h : ∀ a, o a + S1x8192x512.size a ≤ S4x8192x512.size a)
    (o' : Fin 2 → Nat) (h' : ∀ a, o' a + S8192x512.size a ≤ S8192x2048.size a) (b : Fin 3) : sProp 𝕄 :=
  Fam c (slotW1 o h) (gW1 f) (Memref.whole main_arg1) f (Finset.univ : Finset S8192x2048.Idx) (srcW1 o' h').view.set (Transfers.shareTok fullShare 4 k) 131072 cl b
theorem ΦoW1_congr (c : Dev nD) (f : Vec F S8192x2048 .fp8e4m3) (k : Fin 4) {cl cl₂ : SemLoc sig} (ec : cl = cl₂) {o o₂ : Fin 3 → Nat} (e : o = o₂)
    {o' o₂' : Fin 2 → Nat} (e' : o' = o₂') (h h₂ h' h₂') (b : Fin 3) : ΦoW1 c f k cl o h o' h' b = ΦoW1 c f k cl₂ o₂ h₂ o₂' h₂' b := by
  subst ec; subst e; subst e'; rfl
section
variable (c : Dev nD) (f : Vec F S8192x2048 .fp8e4m3) (k : Fin 4) (cl : SemLoc sig) (o : Fin 3 → Nat) (h : ∀ a, o a + S1x8192x512.size a ≤ S4x8192x512.size a)
    (o' : Fin 2 → Nat) (h' : ∀ a, o' a + S8192x512.size a ≤ S8192x2048.size a)
theorem ΦoW1_0 : ΦoW1 c f k cl o h o' h' 0 = iprop(semVal ((c : Th), cl) 0
    ∗ (∃ f, (slotW1 o h).view.loc (c : Th) ↦[(slotW1 o h).view.set]{fullShare} f)
    ∗ (Memref.whole main_arg1).view.loc (c : Th) ↦[(Finset.univ : Finset S8192x2048.Idx)]{Transfers.shareTok fullShare 4 k} f) := rfl
theorem ΦoW1_1 : ΦoW1 c f k cl o h o' h' 1 = iprop(Transfers.Flight (countersEmb (U := Pipeline.UD sig nD τ)) (c : Th) cl () 131072
      iprop(((slotW1 o h).view.loc (c : Th) ↦[(slotW1 o h).view.set]{fullShare} gW1 f)
        ∗ (Memref.whole main_arg1).view.loc (c : Th) ↦[(srcW1 o' h').view.set]{Transfers.shareTok fullShare 4 k} f)
    ∗ (Memref.whole main_arg1).view.loc (c : Th) ↦[(Finset.univ : Finset S8192x2048.Idx) \ (srcW1 o' h').view.set]{Transfers.shareTok fullShare 4 k} f) := rfl
theorem ΦoW1_2 : ΦoW1 c f k cl o h o' h' 2 = iprop(semVal ((c : Th), cl) 0
    ∗ ((slotW1 o h).view.loc (c : Th) ↦[(slotW1 o h).view.set]{fullShare} gW1 f)
    ∗ (Memref.whole main_arg1).view.loc (c : Th) ↦[(Finset.univ : Finset S8192x2048.Idx)]{Transfers.shareTok fullShare 4 k} f) := rfl
end

def ΦW1 (c : Dev nD) (f : Vec F S8192x2048 .fp8e4m3) (k : Fin 4) (b : Fin 3) : sProp 𝕄 :=
  ΦoW1 c f k (cellW1 k) ![k.val, 0, 0] (inbSlotW1 k) ![0, 512 * k.val] (inbSrcW1 k) b

abbrev ixW1i (k : Fin k0_t2_loop.trips) : Fin 4 := ⟨k.val, (by decide : k0_t2_loop.trips = 4) ▸ k.isLt⟩
abbrev cellW1i (k : Fin k0_t2_loop.trips) : SemLoc sig :=
  SemLoc.dma (((cc0_scratch18.slice (Rect.unit (s := S4) (k0_off3 k) S1.size (k0_off3_inb k)) : DmaSems sig S1).squeeze S_ squeezes_S1_S_ : DmaSems sig S_).sem)
theorem cellW1i_eq (k : Fin k0_t2_loop.trips) : cellW1i k = cellW1 (ixW1i k) := by revert k; decide +kernel
theorem ΦW1_at_i (c : Dev nD) (f : Vec F S8192x2048 .fp8e4m3) (k : Fin k0_t2_loop.trips) (b : Fin 3) :
    ΦW1 c f (ixW1i k) b = ΦoW1 c f (ixW1i k) (cellW1i k) (k0_off4 k) (k0_off4_inb k) (k0_off5 k) (k0_off5_inb k) b :=
  ΦoW1_congr c f _ (cellW1i_eq k).symm (k0_off4_eq k).symm (k0_off5_eq k).symm _ _ _ _ _

abbrev ixW1w (k : Fin k0_t5_loop.trips) : Fin 4 := ⟨k.val, (by decide : k0_t5_loop.trips = 4) ▸ k.isLt⟩
abbrev cellW1w (k : Fin k0_t5_loop.trips) : SemLoc sig :=
  SemLoc.dma (((cc0_scratch18.slice (Rect.unit (s := S4) (k0_off52 k) S1.size (k0_off52_inb k)) : DmaSems sig S1).squeeze S_ squeezes_S1_S_ : DmaSems sig S_).sem)
theorem cellW1w_eq (k : Fin k0_t5_loop.trips) : cellW1w k = cellW1 (ixW1w k) := by revert k; decide +kernel
theorem ΦW1_at_w (c : Dev nD) (f : Vec F S8192x2048 .fp8e4m3) (k : Fin k0_t5_loop.trips) (b : Fin 3) :
    ΦW1 c f (ixW1w k) b = ΦoW1 c f (ixW1w k) (cellW1w k) (k0_off53 k) (k0_off53_inb k) (k0_off54 k) (k0_off54_inb k) b :=
  ΦoW1_congr c f _ (cellW1w_eq k).symm (k0_off53_eq k).symm (k0_off54_eq k).symm _ _ _ _ _

/-- What a copy lands in its slot is the global contents there. -/
theorem gW1_read (f : Vec F S8192x2048 .fp8e4m3) (k : Fin 4) {o : Fin 3 → Nat} (e : o = ![k.val, 0, 0]) {o' : Fin 2 → Nat} (e' : o' = ![0, 512 * k.val]) (h h') (y : S8192x512.Idx) :
    (srcW1 o' h').view.read (Elt F) f y = (slotW1 o h).view.read (Elt F) (gW1 f) y := by
  subst e; subst e'
  have e : (slotW1 ![k.val, 0, 0] h).view.emb y = ix3 k (y 0) (y 1) := by
    show (Rect.unit (s := S4x8192x512) ![k.val, 0, 0] S1x8192x512.size h).emb (Shape.reshapeEquiv _ y) = _
    rw [show Shape.reshapeEquiv _ y = (Fin.cons (0 : Fin 1) y : S1x8192x512.Idx) from Shape.reshapeEquiv_cons_one _ _]
    funext a
    apply Fin.ext
    fin_cases a
    · show k.val + 1 * 0 = k.val; omega
    · show 0 + 1 * (y 0).val = (y 0).val; omega
    · show 0 + 1 * (y 1).val = (y 1).val; omega
  show f _ = gW1 f ((slotW1 ![k.val, 0, 0] h).view.emb y)
  rw [e]
  show f _ = f _
  congr 1
  funext a
  apply Fin.ext
  fin_cases a
  · show 0 + 1 * (y 0).val = (y 0).val; omega
  · show 512 * k.val + 1 * (y 1).val = 512 * k.val + (y 1).val; omega

set_option warn.classDefReducibility false in
/-- The loop that issues the copies. -/
def invW1 (c : Dev nD) (f : Vec F S8192x2048 .fp8e4m3) :
    LoopInv (M := 𝕄) frame (wpE (defs₀ (F := F)) Variants.none (c : Th) none) Set.univ k0_t2_loop.lb k0_t2_loop.ub k0_t2_loop.st k0_t2_ok ()
      (k0_t2_body (F := F) (Memref.whole main_v1) (iw _) (Memref.whole main_arg1) (iw _) (Memref.whole main_v2) (iw _) (Memref.whole main_arg3) (iw _) (Memref.whole main_arg4) (iw _) (Memref.whole main_arg5) (iw _) (Memref.whole main_v3) (iw _) (Memref.whole main_v4) (iw _) (Memref.whole main_v5_0) (iw _) (Memref.whole main_v5_1) (iw _) (Memref.whole main_v5_2) (iw _) (Memref.whole main_v5_3) (iw _) (Memref.whole main_v5_4) (iw _) (Memref.whole cc0_scratch0) (iw _) (Memref.whole cc0_scratch1) (iw _) (Memref.whole cc0_scratch2) (iw _) (Memref.whole cc0_scratch3) (iw _) (Memref.whole cc0_scratch4) (iw _) (Memref.whole cc0_scratch5) (iw _) (Memref.whole cc0_scratch6) (iw _) (Memref.whole cc0_scratch7) (iw _) (Memref.whole cc0_scratch8) (iw _) (Memref.whole cc0_scratch9) (iw _) (Memref.whole cc0_scratch10) (iw _) (Memref.whole cc0_scratch11) (iw _) (Memref.whole cc0_scratch12) (iw _) (Memref.whole cc0_scratch13) (iw _) (Memref.whole cc0_scratch14) (iw _) (Memref.whole cc0_scratch15) (iw _) (Memref.whole cc0_scratch16) (iw _) cc0_scratch17 cc0_scratch18 cc0_scratch19 cc0_scratch20 cc0_scratch21 cc0_scratch22 cc0_scratch23 cc0_scratch24 cc0_scratch25 cc0_scratch26 cc0_scratch27 cc0_scratch28 cc0_scratch29) where
  inv k _ := iprop(Ring.AtW (ΦW1 c f) (stN 1 0 k) ∗ ∃ W, owes (c : Th) 0 W)
  step k _ := by
    have hs := stN_succ 1 0 (ixW1i k)
    rw [show (ixW1i k).val = k.val from rfl] at hs
    rw [← hs, Ring.AtW_focus (ΦW1 c f) (stN 1 0 k.val) (ixW1i k), stN_self 1 0 (ixW1i k), ΦW1_at_i]
    rw [ΦoW1_0]
    iintro ⟨⟨⟨Hs, ⟨%fd, Hd⟩, Htok⟩, Hrest⟩, %W, HO⟩
    unfold k0_t2_body
    sl_exec
    sl_step
    isplitr [HO]
    · iapply (Ring.AtW_update (ΦW1 c f) (stN 1 0 k.val) (ixW1i k) 1)
      isplitr [Hrest]
      · rw [ΦW1_at_i, ΦoW1_1]
        isplitl [Hs]
        · iapply (Transfers.Flight_mono _ _ (sep_mono (Entails.of_eq (landed c _ fullShare fd (gW1 f) _
            (gW1_read f (ixW1i k) (k0_off4_eq k) (k0_off5_eq k) (k0_off4_inb k) (k0_off5_inb k)))) (Entails.of_eq rfl)))
          iexact Hs
        iexact Htok
      · iexact Hrest
    · iexists _; iexact HO

/-! ### Family W2 -/

/-- The slot at offsets `o`. -/
def slotW2 (o : Fin 3 → Nat) (h : ∀ a, o a + S1x2048x1024.size a ≤ S7x2048x1024.size a) : Memref sig .tc .vmem S2048x1024 .fp8e4m3 :=
  (((Memref.whole cc0_scratch6).slice (Rect.unit (s := S7x2048x1024) o S1x2048x1024.size h) (fun _ => rfl) : Memref sig .tc .vmem S1x2048x1024 .fp8e4m3)).squeeze S2048x1024 squeezes_S1x2048x1024_S2048x1024
/-- The source block at offsets `o`. -/
def srcW2 (o : Fin 2 → Nat) (h : ∀ a, o a + S2048x1024.size a ≤ S2048x7168.size a) : Memref sig .tc .hbm S2048x1024 .fp8e4m3 :=
  (Memref.whole main_arg5).slice (Rect.unit (s := S2048x7168) o S2048x1024.size h) (fun _ => rfl)
abbrev cellW2 (k : Fin 7) : SemLoc sig := SemLoc.dma ⟨15 + k.val, by have := k.isLt; show 15 + k.val < 27; omega⟩
theorem inbSlotW2 (k : Fin 7) : ∀ a, (![k.val, 0, 0] : Fin 3 → Nat) a + S1x2048x1024.size a ≤ S7x2048x1024.size a := by revert k; decide
theorem inbSrcW2 (k : Fin 7) : ∀ a, (![0, 1024 * k.val] : Fin 2 → Nat) a + S2048x1024.size a ≤ S2048x7168.size a := by revert k; decide
/-- What the buffer holds when every slot has landed. -/
def gW2 (f : Vec F S2048x7168 .fp8e4m3) : Vec F S7x2048x1024 .fp8e4m3 := fun i => f (ix2 (i 1) ⟨1024 * (i 0).val + (i 2).val, by have h0 : (i 0).val < 7 := (i 0).isLt; have h2 : (i 2).val < 1024 := (i 2).isLt; omega⟩)
/-- Member `k`, with its semaphore, its slot's offsets and its source's as they are printed. -/
def ΦoW2 (c : Dev nD) (f : Vec F S2048x7168 .fp8e4m3) (k : Fin 7) (cl : SemLoc sig) (o : Fin 3 → Nat) (h : ∀ a, o a + S1x2048x1024.size a ≤ S7x2048x1024.size a)
    (o' : Fin 2 → Nat) (h' : ∀ a, o' a + S2048x1024.size a ≤ S2048x7168.size a) (b : Fin 3) : sProp 𝕄 :=
  Fam c (slotW2 o h) (gW2 f) (Memref.whole main_arg5) f (Finset.univ : Finset S2048x7168.Idx) (srcW2 o' h').view.set (Transfers.shareTok fullShare 7 k) 65536 cl b
theorem ΦoW2_congr (c : Dev nD) (f : Vec F S2048x7168 .fp8e4m3) (k : Fin 7) {cl cl₂ : SemLoc sig} (ec : cl = cl₂) {o o₂ : Fin 3 → Nat} (e : o = o₂)
    {o' o₂' : Fin 2 → Nat} (e' : o' = o₂') (h h₂ h' h₂') (b : Fin 3) : ΦoW2 c f k cl o h o' h' b = ΦoW2 c f k cl₂ o₂ h₂ o₂' h₂' b := by
  subst ec; subst e; subst e'; rfl
section
variable (c : Dev nD) (f : Vec F S2048x7168 .fp8e4m3) (k : Fin 7) (cl : SemLoc sig) (o : Fin 3 → Nat) (h : ∀ a, o a + S1x2048x1024.size a ≤ S7x2048x1024.size a)
    (o' : Fin 2 → Nat) (h' : ∀ a, o' a + S2048x1024.size a ≤ S2048x7168.size a)
theorem ΦoW2_0 : ΦoW2 c f k cl o h o' h' 0 = iprop(semVal ((c : Th), cl) 0
    ∗ (∃ f, (slotW2 o h).view.loc (c : Th) ↦[(slotW2 o h).view.set]{fullShare} f)
    ∗ (Memref.whole main_arg5).view.loc (c : Th) ↦[(Finset.univ : Finset S2048x7168.Idx)]{Transfers.shareTok fullShare 7 k} f) := rfl
theorem ΦoW2_1 : ΦoW2 c f k cl o h o' h' 1 = iprop(Transfers.Flight (countersEmb (U := Pipeline.UD sig nD τ)) (c : Th) cl () 65536
      iprop(((slotW2 o h).view.loc (c : Th) ↦[(slotW2 o h).view.set]{fullShare} gW2 f)
        ∗ (Memref.whole main_arg5).view.loc (c : Th) ↦[(srcW2 o' h').view.set]{Transfers.shareTok fullShare 7 k} f)
    ∗ (Memref.whole main_arg5).view.loc (c : Th) ↦[(Finset.univ : Finset S2048x7168.Idx) \ (srcW2 o' h').view.set]{Transfers.shareTok fullShare 7 k} f) := rfl
theorem ΦoW2_2 : ΦoW2 c f k cl o h o' h' 2 = iprop(semVal ((c : Th), cl) 0
    ∗ ((slotW2 o h).view.loc (c : Th) ↦[(slotW2 o h).view.set]{fullShare} gW2 f)
    ∗ (Memref.whole main_arg5).view.loc (c : Th) ↦[(Finset.univ : Finset S2048x7168.Idx)]{Transfers.shareTok fullShare 7 k} f) := rfl
end

def ΦW2 (c : Dev nD) (f : Vec F S2048x7168 .fp8e4m3) (k : Fin 7) (b : Fin 3) : sProp 𝕄 :=
  ΦoW2 c f k (cellW2 k) ![k.val, 0, 0] (inbSlotW2 k) ![0, 1024 * k.val] (inbSrcW2 k) b

abbrev ixW2i (k : Fin k0_t3_loop.trips) : Fin 7 := ⟨k.val, (by decide : k0_t3_loop.trips = 7) ▸ k.isLt⟩
abbrev cellW2i (k : Fin k0_t3_loop.trips) : SemLoc sig :=
  SemLoc.dma (((cc0_scratch24.slice (Rect.unit (s := S7) (k0_off6 k) S1.size (k0_off6_inb k)) : DmaSems sig S1).squeeze S_ squeezes_S1_S_ : DmaSems sig S_).sem)
theorem cellW2i_eq (k : Fin k0_t3_loop.trips) : cellW2i k = cellW2 (ixW2i k) := by revert k; decide +kernel
theorem ΦW2_at_i (c : Dev nD) (f : Vec F S2048x7168 .fp8e4m3) (k : Fin k0_t3_loop.trips) (b : Fin 3) :
    ΦW2 c f (ixW2i k) b = ΦoW2 c f (ixW2i k) (cellW2i k) (k0_off7 k) (k0_off7_inb k) (k0_off8 k) (k0_off8_inb k) b :=
  ΦoW2_congr c f _ (cellW2i_eq k).symm (k0_off7_eq k).symm (k0_off8_eq k).symm _ _ _ _ _

abbrev ixW2w (k : Fin k0_t6_loop.trips) : Fin 7 := ⟨k.val, (by decide : k0_t6_loop.trips = 7) ▸ k.isLt⟩
abbrev cellW2w (k : Fin k0_t6_loop.trips) : SemLoc sig :=
  SemLoc.dma (((cc0_scratch24.slice (Rect.unit (s := S7) (k0_off82 k) S1.size (k0_off82_inb k)) : DmaSems sig S1).squeeze S_ squeezes_S1_S_ : DmaSems sig S_).sem)
theorem cellW2w_eq (k : Fin k0_t6_loop.trips) : cellW2w k = cellW2 (ixW2w k) := by revert k; decide +kernel
theorem ΦW2_at_w (c : Dev nD) (f : Vec F S2048x7168 .fp8e4m3) (k : Fin k0_t6_loop.trips) (b : Fin 3) :
    ΦW2 c f (ixW2w k) b = ΦoW2 c f (ixW2w k) (cellW2w k) (k0_off83 k) (k0_off83_inb k) (k0_off84 k) (k0_off84_inb k) b :=
  ΦoW2_congr c f _ (cellW2w_eq k).symm (k0_off83_eq k).symm (k0_off84_eq k).symm _ _ _ _ _

/-- What a copy lands in its slot is the global contents there. -/
theorem gW2_read (f : Vec F S2048x7168 .fp8e4m3) (k : Fin 7) {o : Fin 3 → Nat} (e : o = ![k.val, 0, 0]) {o' : Fin 2 → Nat} (e' : o' = ![0, 1024 * k.val]) (h h') (y : S2048x1024.Idx) :
    (srcW2 o' h').view.read (Elt F) f y = (slotW2 o h).view.read (Elt F) (gW2 f) y := by
  subst e; subst e'
  have e : (slotW2 ![k.val, 0, 0] h).view.emb y = ix3 k (y 0) (y 1) := by
    show (Rect.unit (s := S7x2048x1024) ![k.val, 0, 0] S1x2048x1024.size h).emb (Shape.reshapeEquiv _ y) = _
    rw [show Shape.reshapeEquiv _ y = (Fin.cons (0 : Fin 1) y : S1x2048x1024.Idx) from Shape.reshapeEquiv_cons_one _ _]
    funext a
    apply Fin.ext
    fin_cases a
    · show k.val + 1 * 0 = k.val; omega
    · show 0 + 1 * (y 0).val = (y 0).val; omega
    · show 0 + 1 * (y 1).val = (y 1).val; omega
  show f _ = gW2 f ((slotW2 ![k.val, 0, 0] h).view.emb y)
  rw [e]
  show f _ = f _
  congr 1
  funext a
  apply Fin.ext
  fin_cases a
  · show 0 + 1 * (y 0).val = (y 0).val; omega
  · show 1024 * k.val + 1 * (y 1).val = 1024 * k.val + (y 1).val; omega

set_option warn.classDefReducibility false in
/-- The loop that issues the copies. -/
def invW2 (c : Dev nD) (f : Vec F S2048x7168 .fp8e4m3) :
    LoopInv (M := 𝕄) frame (wpE (defs₀ (F := F)) Variants.none (c : Th) none) Set.univ k0_t3_loop.lb k0_t3_loop.ub k0_t3_loop.st k0_t3_ok ()
      (k0_t3_body (F := F) (Memref.whole main_v1) (iw _) (Memref.whole main_arg1) (iw _) (Memref.whole main_v2) (iw _) (Memref.whole main_arg3) (iw _) (Memref.whole main_arg4) (iw _) (Memref.whole main_arg5) (iw _) (Memref.whole main_v3) (iw _) (Memref.whole main_v4) (iw _) (Memref.whole main_v5_0) (iw _) (Memref.whole main_v5_1) (iw _) (Memref.whole main_v5_2) (iw _) (Memref.whole main_v5_3) (iw _) (Memref.whole main_v5_4) (iw _) (Memref.whole cc0_scratch0) (iw _) (Memref.whole cc0_scratch1) (iw _) (Memref.whole cc0_scratch2) (iw _) (Memref.whole cc0_scratch3) (iw _) (Memref.whole cc0_scratch4) (iw _) (Memref.whole cc0_scratch5) (iw _) (Memref.whole cc0_scratch6) (iw _) (Memref.whole cc0_scratch7) (iw _) (Memref.whole cc0_scratch8) (iw _) (Memref.whole cc0_scratch9) (iw _) (Memref.whole cc0_scratch10) (iw _) (Memref.whole cc0_scratch11) (iw _) (Memref.whole cc0_scratch12) (iw _) (Memref.whole cc0_scratch13) (iw _) (Memref.whole cc0_scratch14) (iw _) (Memref.whole cc0_scratch15) (iw _) (Memref.whole cc0_scratch16) (iw _) cc0_scratch17 cc0_scratch18 cc0_scratch19 cc0_scratch20 cc0_scratch21 cc0_scratch22 cc0_scratch23 cc0_scratch24 cc0_scratch25 cc0_scratch26 cc0_scratch27 cc0_scratch28 cc0_scratch29) where
  inv k _ := iprop(Ring.AtW (ΦW2 c f) (stN 1 0 k) ∗ ∃ W, owes (c : Th) 0 W)
  step k _ := by
    have hs := stN_succ 1 0 (ixW2i k)
    rw [show (ixW2i k).val = k.val from rfl] at hs
    rw [← hs, Ring.AtW_focus (ΦW2 c f) (stN 1 0 k.val) (ixW2i k), stN_self 1 0 (ixW2i k), ΦW2_at_i]
    rw [ΦoW2_0]
    iintro ⟨⟨⟨Hs, ⟨%fd, Hd⟩, Htok⟩, Hrest⟩, %W, HO⟩
    unfold k0_t3_body
    sl_exec
    sl_step
    isplitr [HO]
    · iapply (Ring.AtW_update (ΦW2 c f) (stN 1 0 k.val) (ixW2i k) 1)
      isplitr [Hrest]
      · rw [ΦW2_at_i, ΦoW2_1]
        isplitl [Hs]
        · iapply (Transfers.Flight_mono _ _ (sep_mono (Entails.of_eq (landed c _ fullShare fd (gW2 f) _
            (gW2_read f (ixW2i k) (k0_off7_eq k) (k0_off8_eq k) (k0_off7_inb k) (k0_off8_inb k)))) (Entails.of_eq rfl)))
          iexact Hs
        iexact Htok
      · iexact Hrest
    · iexists _; iexact HO

end Cert.Kernel.Hand
-- ==== Proof.KernelHand.Tools.lean ====
module

public import proofs.«01_k».proof.Proof.KernelHand.Base

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The proof's user algebra: the pipeline library's beside the transfers' counters. -/
local notation "𝕄" => MT nD τ sig Unit (Elt F) ℕ (Pipeline.UD sig nD τ) ℕ

/-! ## Contents written piece by piece -/

/-- Two readings of a rectangle at equal offsets agree. -/
theorem readAt_off {κ : Kind} {sp : Space} {s : Shape} {e : EltTy} (v : View sig κ sp s e) {o o' : Fin s.rank → ℕ} {size : Fin s.rank → ℕ}
    (h : o = o') (hb : ∀ a, o a + size a ≤ s.size a) (hb' : ∀ a, o' a + size a ≤ s.size a) (f : v.ty.Contents (Elt F)) :
    v.readAt (Elt F) (Rect.unit o size hb).toLoadRect f = v.readAt (Elt F) (Rect.unit o' size hb').toLoadRect f := by
  subst h; rfl

/-- Where a unit rectangle at a known offset puts its index. -/
theorem emb_at {s : Shape} {o o' : Fin s.rank → ℕ} (h : o = o') {size : Fin s.rank → ℕ} (hb : ∀ a, o a + size a ≤ s.size a)
    (x : (Rect.unit o size hb).shape.Idx) (a : Fin s.rank) : ((Rect.unit o size hb).emb x a).val = o' a + (x a).val := by
  subst h
  show o a + 1 * (x a).val = _
  rw [Nat.one_mul]

/-- Membership in a rank-two unit rectangle at a known offset. -/
theorem mem_unit2 {m n a b : ℕ} {o : Fin 2 → ℕ} {i j : ℕ} (h : o = ![i, j]) (hb : ∀ d, o d + (⟨2, ![a, b]⟩ : Shape).size d ≤ (⟨2, ![m, n]⟩ : Shape).size d)
    (y : (⟨2, ![m, n]⟩ : Shape).Idx) (h0 : i ≤ (y 0).val ∧ (y 0).val < i + a) (h1 : j ≤ (y 1).val ∧ (y 1).val < j + b) :
    y ∈ (Rect.unit (s := ⟨2, ![m, n]⟩) o (⟨2, ![a, b]⟩ : Shape).size hb).set := by
  subst h
  rw [Rect.mem_set_unit]
  intro d
  fin_cases d
  · exact h0
  · exact h1

/-- Pieces that agree with `G` extend the part of a buffer known to hold `G`. -/
theorem fill_step {κ : Kind} {sp : Space} {s : Shape} {e : EltTy} (v : View sig κ sp s e) (f : v.ty.Contents (Elt F))
    (L : List (View.Piece (Elt F) s e)) (G : s.Idx → Elt F e) (P P' : s.Idx → Prop)
    (hG : ∀ p ∈ L, ∀ x : p.1.shape.Idx, p.2 x = G (p.1.emb x)) (hc : ∀ y, P' y → P y ∨ ∃ p ∈ L, y ∈ p.1.set)
    (hf : ∀ y, P y → v.read (Elt F) f y = G y) (y : s.Idx) (hy : P' y) : v.read (Elt F) (v.writes (Elt F) f L) y = G y := by
  by_cases h : ∃ p ∈ L, y ∈ p.1.set
  · exact View.read_writes_apply_of_pieces v f G L hG y h
  · rw [View.read_writes_apply_of_forall_not_mem v f y L fun p hp hm => h ⟨p, hp, hm⟩]
    exact hf y ((hc y hy).resolve_right h)

/-- Slot `i` in a new state, as an equation. -/
theorem AtW_put {n : ℕ} {σ : Fin n → Type} (Φ : (k : Fin n) → σ k → sProp 𝕄) (st : (k : Fin n) → σ k) (i : Fin n) (x : σ i) :
    Ring.AtW Φ (Function.update st i x) = iprop(Φ i x ∗ Ring.restW Φ st i) := by
  rw [Ring.AtW_focus Φ _ i, Function.update_self, Ring.restW_update]

end Cert.Kernel.Hand
-- ==== Proof.KernelHand.L4.lean ====
module

public import proofs.«01_k».proof.Proof.KernelHand.Tools

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The proof's user algebra: the pipeline library's beside the transfers' counters. -/
local notation "𝕄" => MT nD τ sig Unit (Elt F) ℕ (Pipeline.UD sig nD τ) ℕ

/-! ## The quantisation of `x`: what loop `t4` computes

Trip `k` takes 32 rows: the row maxima of `|x|`, the power-of-two scale, and the clamped codes in eight chunks of 1024 columns. -/

section Values
variable (f : Vec F S192x8192 .bf16) (k : Fin k0_t4_loop.trips)

/-- A piece of `x` as it is read. -/
abbrev xRd {a b : ℕ} {o : Fin 2 → ℕ} (h : ∀ d, o d + (⟨2, ![a, b]⟩ : Shape).size d ≤ S192x8192.size d) : Vec F ⟨2, ![a, b]⟩ .bf16 :=
  (Memref.whole cc0_scratch0).view.readAt (Elt F) (Rect.unit (s := S192x8192) o (⟨2, ![a, b]⟩ : Shape).size h).toLoadRect (gX f)

/-- The trip's row maxima times `1/448`. -/
def xT : FVec F S32x1 .f32 :=
  k0_pay3 (k0_pay2 (k0_pay1 (xRd f (k0_off11_inb k)) (xRd f (k0_off12_inb k)) (xRd f (k0_off13_inb k)) (xRd f (k0_off14_inb k)) (xRd f (k0_off15_inb k)) (xRd f (k0_off16_inb k)) (xRd f (k0_off17_inb k)) (xRd f (k0_off18_inb k)) (xRd f (k0_off19_inb k))) (xRd f (k0_off20_inb k)) (xRd f (k0_off21_inb k)) (xRd f (k0_off22_inb k)) (xRd f (k0_off23_inb k)) (xRd f (k0_off24_inb k)) (xRd f (k0_off25_inb k)) (xRd f (k0_off26_inb k)) (xRd f (k0_off27_inb k)) (xRd f (k0_off28_inb k)) (xRd f (k0_off29_inb k)) (xRd f (k0_off30_inb k)) (xRd f (k0_off31_inb k))) (xRd f (k0_off32_inb k)) (xRd f (k0_off33_inb k)) (xRd f (k0_off34_inb k)) (xRd f (k0_off35_inb k)) (xRd f (k0_off36_inb k)) (xRd f (k0_off37_inb k)) (xRd f (k0_off38_inb k)) (xRd f (k0_off39_inb k)) (xRd f (k0_off40_inb k)) (xRd f (k0_off41_inb k)) (xRd f (k0_off42_inb k))

/-- The trip's inverse scales, -/
def xInv : FVec F S32x1 .bf16 := k0_pay9 (xT f k) (k0_pay4 (xT f k)) (k0_pay5 (xT f k)) 23#32

/-- its scales along the lanes, -/
def xSc : FVec F S32x128 .f32 := k0_pay8 (xT f k) (k0_pay4 (xT f k)) (k0_pay5 (xT f k)) 23#32

/-- its codes, by chunk. -/
def xQc (cc : Fin 8) : FVec F S32x1024 .fp8e4m3 :=
  k0_pay12 (xInv f k) ((![(xRd f (k0_off44_inb k)), (xRd f (k0_off45_inb k)), (xRd f (k0_off46_inb k)), (xRd f (k0_off47_inb k)), (xRd f (k0_off48_inb k)), (xRd f (k0_off49_inb k)), (xRd f (k0_off50_inb k)), (xRd f (k0_off51_inb k))] : Fin 8 → Vec F S32x1024 .bf16) cc)

end Values

theorem trips4 : k0_t4_loop.trips = 6 := by decide +kernel

/-- All the codes of `x`. -/
def XQ (f : Vec F S192x8192 .bf16) : Vec F S192x8192 .fp8e4m3 := fun i =>
  xQc f ⟨(i 0).val / 32, by have h : (i 0).val < 192 := (i 0).isLt; rw [trips4]; omega⟩ ⟨(i 1).val / 1024, by have h : (i 1).val < 8192 := (i 1).isLt; omega⟩
    (ix2 ⟨(i 0).val % 32, by omega⟩ ⟨(i 1).val % 1024, by omega⟩)

/-- All the scales of `x`, along the lanes. -/
def XSV (f : Vec F S192x8192 .bf16) : Vec F S192x128 .f32 := fun i =>
  xSc f ⟨(i 0).val / 32, by have h : (i 0).val < 192 := (i 0).isLt; rw [trips4]; omega⟩ (ix2 ⟨(i 0).val % 32, by omega⟩ (i 1))

theorem XQ_at (f : Vec F S192x8192 .bf16) (k : Fin k0_t4_loop.trips) (cc : Fin 8) (x : S32x1024.Idx) (i : S192x8192.Idx)
    (h0 : (i 0).val = 32 * k.val + (x 0).val) (h1 : (i 1).val = 1024 * cc.val + (x 1).val) : XQ f i = xQc f k cc x := by
  have x0 : (x 0).val < 32 := (x 0).isLt
  have x1 : (x 1).val < 1024 := (x 1).isLt
  have e : ∀ k' cc' x', k' = k → cc' = cc → x' = x → xQc f k' cc' x' = xQc f k cc x := by rintro _ _ _ rfl rfl rfl; rfl
  refine e _ _ _ (Fin.ext ?_) (Fin.ext ?_) (funext fun a => ?_)
  · show (i 0).val / 32 = k.val; omega
  · show (i 1).val / 1024 = cc.val; omega
  · fin_cases a <;> apply Fin.ext
    · show (i 0).val % 32 = (x 0).val; omega
    · show (i 1).val % 1024 = (x 1).val; omega

theorem XSV_at (f : Vec F S192x8192 .bf16) (k : Fin k0_t4_loop.trips) (x : S32x128.Idx) (i : S192x128.Idx)
    (h0 : (i 0).val = 32 * k.val + (x 0).val) (h1 : (i 1).val = (x 1).val) : XSV f i = xSc f k x := by
  have x0 : (x 0).val < 32 := (x 0).isLt
  have e : ∀ k' x', k' = k → x' = x → xSc f k' x' = xSc f k x := by rintro _ _ rfl rfl; rfl
  refine e _ _ (Fin.ext ?_) (funext fun a => ?_)
  · show (i 0).val / 32 = k.val; omega
  · fin_cases a <;> apply Fin.ext
    · show (i 0).val % 32 = (x 0).val; omega
    · exact h1

/-- The first `32 k` rows of the codes and of the scales are there before trip `k`. -/
def okQ (f : Vec F S192x8192 .bf16) (k : ℕ) (f14 : Vec F S192x8192 .fp8e4m3) : Prop := ∀ i : S192x8192.Idx, (i 0).val < 32 * k → (Memref.whole cc0_scratch1).view.read (Elt F) f14 i = XQ f i
def okS (f : Vec F S192x8192 .bf16) (k : ℕ) (f22 : Vec F S192x128 .f32) : Prop := ∀ i : S192x128.Idx, (i 0).val < 32 * k → (Memref.whole cc0_scratch9).view.read (Elt F) f22 i = XSV f i

theorem xQc_7 (f : Vec F S192x8192 .bf16) (k : Fin k0_t4_loop.trips) : xQc f k 7 = k0_pay187 (xInv f k) (xRd f (k0_off51_inb k)) := rfl

theorem xQc_6 (f : Vec F S192x8192 .bf16) (k : Fin k0_t4_loop.trips) : xQc f k 6 = k0_pay18 (xInv f k) (xRd f (k0_off50_inb k)) := rfl

theorem xQc_5 (f : Vec F S192x8192 .bf16) (k : Fin k0_t4_loop.trips) : xQc f k 5 = k0_pay17 (xInv f k) (xRd f (k0_off49_inb k)) := rfl

theorem xQc_4 (f : Vec F S192x8192 .bf16) (k : Fin k0_t4_loop.trips) : xQc f k 4 = k0_pay16 (xInv f k) (xRd f (k0_off48_inb k)) := rfl

theorem xQc_3 (f : Vec F S192x8192 .bf16) (k : Fin k0_t4_loop.trips) : xQc f k 3 = k0_pay15 (k0_pay14 (xInv f k) (xRd f (k0_off47_inb k))) := rfl

theorem xQc_2 (f : Vec F S192x8192 .bf16) (k : Fin k0_t4_loop.trips) : xQc f k 2 = k0_pay13 (xInv f k) (xRd f (k0_off46_inb k)) := rfl

theorem xQc_1 (f : Vec F S192x8192 .bf16) (k : Fin k0_t4_loop.trips) : xQc f k 1 = k0_pay12 (xInv f k) (xRd f (k0_off45_inb k)) := rfl

theorem xQc_0 (f : Vec F S192x8192 .bf16) (k : Fin k0_t4_loop.trips) : xQc f k 0 = k0_pay11 (k0_pay10 (xT f k) (k0_pay4 (xT f k)) (k0_pay5 (xT f k)) 23#32 (xRd f (k0_off44_inb k))) (Scalar.ofBits .bf16 0xC3E0#16) (Scalar.ofBits .bf16 0x43E0#16) := rfl

/-- The trip's eight stores of codes, last first. -/
def piecesQ (f : Vec F S192x8192 .bf16) (k : Fin k0_t4_loop.trips) : List (View.Piece (Elt F) S192x8192 .fp8e4m3) :=
  [⟨Rect.unit (s := S192x8192) (k0_off51 k) S32x1024.size (k0_off51_inb k), k0_pay187 (xInv f k) (xRd f (k0_off51_inb k))⟩,
      ⟨Rect.unit (s := S192x8192) (k0_off50 k) S32x1024.size (k0_off50_inb k), k0_pay18 (xInv f k) (xRd f (k0_off50_inb k))⟩,
      ⟨Rect.unit (s := S192x8192) (k0_off49 k) S32x1024.size (k0_off49_inb k), k0_pay17 (xInv f k) (xRd f (k0_off49_inb k))⟩,
      ⟨Rect.unit (s := S192x8192) (k0_off48 k) S32x1024.size (k0_off48_inb k), k0_pay16 (xInv f k) (xRd f (k0_off48_inb k))⟩,
      ⟨Rect.unit (s := S192x8192) (k0_off47 k) S32x1024.size (k0_off47_inb k), k0_pay15 (k0_pay14 (xInv f k) (xRd f (k0_off47_inb k)))⟩,
      ⟨Rect.unit (s := S192x8192) (k0_off46 k) S32x1024.size (k0_off46_inb k), k0_pay13 (xInv f k) (xRd f (k0_off46_inb k))⟩,
      ⟨Rect.unit (s := S192x8192) (k0_off45 k) S32x1024.size (k0_off45_inb k), k0_pay12 (xInv f k) (xRd f (k0_off45_inb k))⟩,
      ⟨Rect.unit (s := S192x8192) (k0_off44 k) S32x1024.size (k0_off44_inb k), k0_pay11 (k0_pay10 (xT f k) (k0_pay4 (xT f k)) (k0_pay5 (xT f k)) 23#32 (xRd f (k0_off44_inb k))) (Scalar.ofBits .bf16 0xC3E0#16) (Scalar.ofBits .bf16 0x43E0#16)⟩]

theorem okQ_step (f : Vec F S192x8192 .bf16) (k : Fin k0_t4_loop.trips) (f14 : Vec F S192x8192 .fp8e4m3) (h : okQ f k.val f14) :
    okQ f (k.val + 1) ((Memref.whole cc0_scratch1).view.writes (Elt F) f14 (piecesQ f k)) := by
  intro y hy
  refine fill_step (Memref.whole cc0_scratch1).view f14 (piecesQ f k) (XQ f) (fun y => (y 0).val < 32 * k.val) (fun y => (y 0).val < 32 * (k.val + 1)) ?_ ?_ (fun y hy => h y hy) y hy
  all_goals clear hy y
  · intro p hp
    simp only [piecesQ, List.mem_cons, List.not_mem_nil, or_false] at hp
    rcases hp with rfl | rfl | rfl | rfl | rfl | rfl | rfl | rfl <;> intro x
    · refine (congrFun (xQc_7 f k) x).symm.trans ?_
      exact (XQ_at f k 7 x _ (emb_at (k0_off51_eq k) (k0_off51_inb k) x 0) (emb_at (k0_off51_eq k) (k0_off51_inb k) x 1)).symm
    · refine (congrFun (xQc_6 f k) x).symm.trans ?_
      exact (XQ_at f k 6 x _ (emb_at (k0_off50_eq k) (k0_off50_inb k) x 0) (emb_at (k0_off50_eq k) (k0_off50_inb k) x 1)).symm
    · refine (congrFun (xQc_5 f k) x).symm.trans ?_
      exact (XQ_at f k 5 x _ (emb_at (k0_off49_eq k) (k0_off49_inb k) x 0) (emb_at (k0_off49_eq k) (k0_off49_inb k) x 1)).symm
    · refine (congrFun (xQc_4 f k) x).symm.trans ?_
      exact (XQ_at f k 4 x _ (emb_at (k0_off48_eq k) (k0_off48_inb k) x 0) (emb_at (k0_off48_eq k) (k0_off48_inb k) x 1)).symm
    · refine (congrFun (xQc_3 f k) x).symm.trans ?_
      exact (XQ_at f k 3 x _ (emb_at (k0_off47_eq k) (k0_off47_inb k) x 0) (emb_at (k0_off47_eq k) (k0_off47_inb k) x 1)).symm
    · refine (congrFun (xQc_2 f k) x).symm.trans ?_
      exact (XQ_at f k 2 x _ (emb_at (k0_off46_eq k) (k0_off46_inb k) x 0) (emb_at (k0_off46_eq k) (k0_off46_inb k) x 1)).symm
    · refine (congrFun (xQc_1 f k) x).symm.trans ?_
      exact (XQ_at f k 1 x _ (emb_at (k0_off45_eq k) (k0_off45_inb k) x 0) (emb_at (k0_off45_eq k) (k0_off45_inb k) x 1)).symm
    · refine (congrFun (xQc_0 f k) x).symm.trans ?_
      exact (XQ_at f k 0 x _ (emb_at (k0_off44_eq k) (k0_off44_inb k) x 0) (emb_at (k0_off44_eq k) (k0_off44_inb k) x 1)).symm
  · intro y hy
    change (y 0).val < 32 * (k.val + 1) at hy
    by_cases hlt : (y 0).val < 32 * k.val
    · exact .inl hlt
    · right
      have y1 : (y 1).val < 8192 := (y 1).isLt
      have hcc : ∃ cc : Fin 8, (y 1).val / 1024 = cc.val := ⟨⟨(y 1).val / 1024, by omega⟩, rfl⟩
      obtain ⟨cc, hcc⟩ := hcc
      unfold piecesQ
      fin_cases cc
      · replace hcc : (y 1).val / 1024 = 0 := hcc
        exact ⟨_, .tail _ (.tail _ (.tail _ (.tail _ (.tail _ (.tail _ (.tail _ (.head _))))))), mem_unit2 (k0_off44_eq k) (k0_off44_inb k) y ⟨by omega, by omega⟩ ⟨by omega, by omega⟩⟩
      · replace hcc : (y 1).val / 1024 = 1 := hcc
        exact ⟨_, .tail _ (.tail _ (.tail _ (.tail _ (.tail _ (.tail _ (.head _)))))), mem_unit2 (k0_off45_eq k) (k0_off45_inb k) y ⟨by omega, by omega⟩ ⟨by omega, by omega⟩⟩
      · replace hcc : (y 1).val / 1024 = 2 := hcc
        exact ⟨_, .tail _ (.tail _ (.tail _ (.tail _ (.tail _ (.head _))))), mem_unit2 (k0_off46_eq k) (k0_off46_inb k) y ⟨by omega, by omega⟩ ⟨by omega, by omega⟩⟩
      · replace hcc : (y 1).val / 1024 = 3 := hcc
        exact ⟨_, .tail _ (.tail _ (.tail _ (.tail _ (.head _)))), mem_unit2 (k0_off47_eq k) (k0_off47_inb k) y ⟨by omega, by omega⟩ ⟨by omega, by omega⟩⟩
      · replace hcc : (y 1).val / 1024 = 4 := hcc
        exact ⟨_, .tail _ (.tail _ (.tail _ (.head _))), mem_unit2 (k0_off48_eq k) (k0_off48_inb k) y ⟨by omega, by omega⟩ ⟨by omega, by omega⟩⟩
      · replace hcc : (y 1).val / 1024 = 5 := hcc
        exact ⟨_, .tail _ (.tail _ (.head _)), mem_unit2 (k0_off49_eq k) (k0_off49_inb k) y ⟨by omega, by omega⟩ ⟨by omega, by omega⟩⟩
      · replace hcc : (y 1).val / 1024 = 6 := hcc
        exact ⟨_, .tail _ (.head _), mem_unit2 (k0_off50_eq k) (k0_off50_inb k) y ⟨by omega, by omega⟩ ⟨by omega, by omega⟩⟩
      · replace hcc : (y 1).val / 1024 = 7 := hcc
        exact ⟨_, .head _, mem_unit2 (k0_off51_eq k) (k0_off51_inb k) y ⟨by omega, by omega⟩ ⟨by omega, by omega⟩⟩

theorem okS_step (f : Vec F S192x8192 .bf16) (k : Fin k0_t4_loop.trips) (f22 : Vec F S192x128 .f32) (h : okS f k.val f22) :
    okS f (k.val + 1) ((Memref.whole cc0_scratch9).view.writes (Elt F) f22
      [⟨Rect.unit (s := S192x128) (k0_off43 k) S32x128.size (k0_off43_inb k), xSc f k⟩]) := by
  intro y hy
  refine fill_step (Memref.whole cc0_scratch9).view f22 _ (XSV f) (fun y => (y 0).val < 32 * k.val) (fun y => (y 0).val < 32 * (k.val + 1)) ?_ ?_ (fun y hy => h y hy) y hy
  all_goals clear hy y
  · intro p hp
    rw [List.mem_singleton] at hp
    subst hp
    intro x
    exact (XSV_at f k x _ (emb_at (k0_off43_eq k) (k0_off43_inb k) x 0) ((emb_at (k0_off43_eq k) (k0_off43_inb k) x 1).trans (Nat.zero_add _))).symm
  · intro y hy
    change (y 0).val < 32 * (k.val + 1) at hy
    by_cases hlt : (y 0).val < 32 * k.val
    · exact .inl hlt
    · refine .inr ⟨_, List.mem_singleton.mpr rfl, ?_⟩
      have y1 : (y 1).val < 128 := (y 1).isLt
      exact mem_unit2 (k0_off43_eq k) (k0_off43_inb k) y ⟨by omega, by omega⟩ ⟨by omega, by omega⟩

/-- Before trip `k` of the loop that quantises `x`. -/
def iQ (c : Dev nD) (f : Vec F S192x8192 .bf16) (k : ℕ) (_ : PUnit) : sProp 𝕄 :=
  iprop(Ring.AtW (ΦX c f) (stN 2 1 k) ∗ (∃ f14, ⌜okQ f k f14⌝ ∗ ((Memref.whole cc0_scratch1).view.loc (c : Th) ↦{fullShare} f14))
    ∗ (∃ f22, ⌜okS f k f22⌝ ∗ ((Memref.whole cc0_scratch9).view.loc (c : Th) ↦{fullShare} f22)) ∗ ∃ W, owes (c : Th) 0 W)

set_option warn.classDefReducibility false in
def invQ (c : Dev nD) (f : Vec F S192x8192 .bf16) :
    LoopInv (M := 𝕄) frame (wpE (defs₀ (F := F)) Variants.none (c : Th) none) Set.univ k0_t4_loop.lb k0_t4_loop.ub k0_t4_loop.st k0_t4_ok ()
      (k0_t4_body (F := F) (Memref.whole main_v1) (iw _) (Memref.whole main_arg1) (iw _) (Memref.whole main_v2) (iw _) (Memref.whole main_arg3) (iw _) (Memref.whole main_arg4) (iw _) (Memref.whole main_arg5) (iw _) (Memref.whole main_v3) (iw _) (Memref.whole main_v4) (iw _) (Memref.whole main_v5_0) (iw _) (Memref.whole main_v5_1) (iw _) (Memref.whole main_v5_2) (iw _) (Memref.whole main_v5_3) (iw _) (Memref.whole main_v5_4) (iw _) (Memref.whole cc0_scratch0) (iw _) (Memref.whole cc0_scratch1) (iw _) (Memref.whole cc0_scratch2) (iw _) (Memref.whole cc0_scratch3) (iw _) (Memref.whole cc0_scratch4) (iw _) (Memref.whole cc0_scratch5) (iw _) (Memref.whole cc0_scratch6) (iw _) (Memref.whole cc0_scratch7) (iw _) (Memref.whole cc0_scratch8) (iw _) (Memref.whole cc0_scratch9) (iw _) (Memref.whole cc0_scratch10) (iw _) (Memref.whole cc0_scratch11) (iw _) (Memref.whole cc0_scratch12) (iw _) (Memref.whole cc0_scratch13) (iw _) (Memref.whole cc0_scratch14) (iw _) (Memref.whole cc0_scratch15) (iw _) (Memref.whole cc0_scratch16) (iw _) cc0_scratch17 cc0_scratch18 cc0_scratch19 cc0_scratch20 cc0_scratch21 cc0_scratch22 cc0_scratch23 cc0_scratch24 cc0_scratch25 cc0_scratch26 cc0_scratch27 cc0_scratch28 cc0_scratch29) where
  inv k _ := iprop(Ring.AtW (ΦX c f) (stN 2 1 k) ∗ (∃ f14, ⌜okQ f k f14⌝ ∗ ((Memref.whole cc0_scratch1).view.loc (c : Th) ↦{fullShare} f14))
    ∗ (∃ f22, ⌜okS f k f22⌝ ∗ ((Memref.whole cc0_scratch9).view.loc (c : Th) ↦{fullShare} f22)) ∗ ∃ W, owes (c : Th) 0 W)
  step k _ := by
    have hs := stN_succ 2 1 (ixXw k)
    rw [show (ixXw k).val = k.val from rfl] at hs
    rw [← hs, Ring.AtW_focus (ΦX c f) (stN 2 1 k.val) (ixXw k), AtW_put (ΦX c f) (stN 2 1 k.val) (ixXw k) 2, stN_self 2 1 (ixXw k),
      ΦX_at_w, ΦoX_1, ΦX_at_w, ΦoX_2]
    iintro ⟨⟨⟨Hs, Htok⟩, Hrest⟩, ⟨%f14, %h14, H14⟩, ⟨%f22, %h22, H22⟩, %W, HO⟩
    unfold k0_t4_body
    sl_exec
    sl_step
    isplitl [Hs Htok Hs_dst Hrest]
    · isplitl [Hs Htok Hs_dst]
      · isplitl [Hs]
        · iexact Hs
        isplitl [Hs_dst]
        · iexact Hs_dst
        iexact Htok
      iexact Hrest
    isplitl [H14]
    · iexists _
      isplitr
      · ipureintro
        exact okQ_step f k f14 h14
      iexact H14
    isplitl [H22]
    · iexists _
      isplitr
      · ipureintro
        exact okS_step f k f22 h22
      iexact H22
    iexists _
    iexact HO

end Cert.Kernel.Hand
-- ==== Proof.KernelHand.L5.lean ====
module

public import proofs.«01_k».proof.Proof.KernelHand.L4

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The proof's user algebra: the pipeline library's beside the transfers' counters. -/
local notation "𝕄" => MT nD τ sig Unit (Elt F) ℕ (Pipeline.UD sig nD τ) ℕ

/-! ## The first product and the stencil: what loop `t5` computes

Trip `k` takes 512 columns of `w1`: the product with the codes, the rescaling of each group of eight rows, the stencil along
the rows of a group (`rH`), the stencil across the groups (`zB`), and the running maxima (`ZM`). -/

theorem trips5 : k0_t5_loop.trips = 4 := by decide +kernel

theorem inb8 (g : Fin 24) : ∀ a, (![8 * g.val, 0] : Fin 2 → ℕ) a + S8x128.size a ≤ S192x128.size a := by revert g; decide

theorem slices8 (g : Fin 24) : S192x512.Slices ![8 * g.val, 0] S8x512 := by revert g; decide

section Values
variable (w1 : Vec F S8192x2048 .fp8e4m3) (w1s : Vec F S1x2048 .f32) (wh ww : Vec F S3x2048 .bf16)
    (f14 : Vec F S192x8192 .fp8e4m3) (f22 : Vec F S192x128 .f32) (k : Fin k0_t5_loop.trips)

/-- The trip's product. -/
def mZ : FVec F S192x512 .f32 :=
  k0_pay19 ((Memref.whole cc0_scratch1).view.readAt (Elt F) (Rect.unit (s := S192x8192) ![0, 0] S192x8192.size inb_S192x8192_S192x8192_0_0).toLoadRect f14)
    ((Memref.whole cc0_scratch2).view.readAt (Elt F) (Rect.unit (s := S4x8192x512) (k0_off55 k) S1x8192x512.size (k0_off55_inb k)).toLoadRect (gW1 w1))

/-- The trip's columns of the two stencils and of the scales of `w1`. -/
def whL : Vec F S3x512 .bf16 := ((Memref.whole cc0_scratch4).view.readAt (Elt F) (Rect.unit (s := S3x2048) (k0_off56 k) S3x512.size (k0_off56_inb k)).toLoadRect wh)
def wwL : Vec F S3x512 .bf16 := ((Memref.whole cc0_scratch5).view.readAt (Elt F) (Rect.unit (s := S3x2048) (k0_off56 k) S3x512.size (k0_off56_inb k)).toLoadRect ww)
def w1sL : Vec F S1x512 .f32 := ((Memref.whole cc0_scratch3).view.readAt (Elt F) (Rect.unit (s := S1x2048) (k0_off57 k) S1x512.size (k0_off57_inb k)).toLoadRect w1s)

/-- Group `g`'s scales of `x`. -/
def sL (g : Fin 24) : Vec F S8x128 .f32 := ((Memref.whole cc0_scratch9).view.readAt (Elt F) (Rect.unit (s := S192x128) ![8 * g.val, 0] S8x128.size (inb8 g)).toLoadRect f22)

/-- Group `g` rescaled and rounded, -/
def uH (g : Fin 24) : FVec F S8x512 .f32 :=
  extf .f32 (truncf .bf16 (mulf (extractStridedSlice S8x512 ![8 * g.val, 0] (mZ w1 f14 k) (slices8 g))
    (mulf (concatenate S8x512 1 [⟨S8x128, sL f22 g⟩, ⟨S8x128, sL f22 g⟩, ⟨S8x128, sL f22 g⟩, ⟨S8x128, sL f22 g⟩] concatenates_S8x128_S8x128_S8x128_S8x128_S8x512_d1)
      (broadcastTo S8x512 (w1sL w1s k) broadcasts_S1x512_S8x512))) bitsLt_bf16_f32) bitsLt_bf16_f32

/-- and then taken through the stencil along its rows and rounded. -/
def rH (g : Fin 24) : FVec F S8x512 .f32 :=
  extf .f32 (truncf .bf16 (addf (addf (mulf (dynamicRotate 0 1#32 none (uH w1 w1s f14 f22 k g) rotates_S8x512_d0) (k0_pay22 (whL wh k)))
      (mulf (uH w1 w1s f14 f22 k g) (broadcastTo S8x512 (extractStridedSlice S1x512 ![1, 0] (k0_pay20 (whL wh k)) slices_S3x512_o1_0_S1x512) broadcasts_S1x512_S8x512)))
    (mulf (dynamicRotate 0 7#32 none (uH w1 w1s f14 f22 k g) rotates_S8x512_d0) (k0_pay23 (whL wh k)))) bitsLt_bf16_f32) bitsLt_bf16_f32

/-- The group before `g` in its row of twelve, or zero; -/
def prevH (g : Fin 24) : FVec F S8x512 .f32 := if g.val % 12 = 0 then k0_pay24 else rH w1 w1s wh f14 f22 k ⟨(g.val + 23) % 24, Nat.mod_lt _ (by decide)⟩

/-- the group after it, or zero. -/
def nextH (g : Fin 24) : FVec F S8x512 .f32 := if g.val % 12 = 11 then k0_pay24 else rH w1 w1s wh f14 f22 k ⟨(g.val + 1) % 24, Nat.mod_lt _ (by decide)⟩

/-- The stencil across groups. -/
def zB (g : Fin 24) : FVec F S8x512 .f32 :=
  addf (addf (mulf (prevH w1 w1s wh f14 f22 k g) (broadcastTo S8x512 (extractStridedSlice S1x512 ![0, 0] (k0_pay20 (wwL ww k)) slices_S3x512_o0_0_S1x512) broadcasts_S1x512_S8x512))
      (mulf (rH w1 w1s wh f14 f22 k g) (broadcastTo S8x512 (extractStridedSlice S1x512 ![1, 0] (k0_pay20 (wwL ww k)) slices_S3x512_o1_0_S1x512) broadcasts_S1x512_S8x512)))
    (mulf (nextH w1 w1s wh f14 f22 k g) (broadcastTo S8x512 (extractStridedSlice S1x512 ![2, 0] (k0_pay20 (wwL ww k)) slices_S3x512_o2_0_S1x512) broadcasts_S1x512_S8x512))

/-- What is stored of it. -/
def zP (g : Fin 24) : FVec F S8x512 .f32 := shapeCast S8x512 (zB w1 w1s wh ww f14 f22 k g) shapeCasts_S8x512_S8x512

/-- Group `g`'s running maxima after the trip, from those before. -/
def zmP (m : Vec F S192x128 .f32) (g : Fin 24) : FVec F S8x128 .f32 :=
  k0_pay29 (zB w1 w1s wh ww f14 f22 k g) ((Memref.whole cc0_scratch12).view.readAt (Elt F) (Rect.unit (s := S192x128) ![8 * g.val, 0] S8x128.size (inb8 g)).toLoadRect m)

/-- The trip's effect on all the running maxima. -/
def zmStep (m : Vec F S192x128 .f32) : Vec F S192x128 .f32 := fun i =>
  zmP w1 w1s wh ww f14 f22 k m ⟨(i 0).val / 8, by have h : (i 0).val < 192 := (i 0).isLt; omega⟩ (ix2 ⟨(i 0).val % 8, by omega⟩ (i 1))

end Values

section Values
variable (w1 : Vec F S8192x2048 .fp8e4m3) (w1s : Vec F S1x2048 .f32) (wh ww : Vec F S3x2048 .bf16)
    (f14 : Vec F S192x8192 .fp8e4m3) (f22 : Vec F S192x128 .f32)

/-- All of `z`. -/
def Z : Vec F S192x2048 .f32 := fun i =>
  zP w1 w1s wh ww f14 f22 ⟨(i 1).val / 512, by have h : (i 1).val < 2048 := (i 1).isLt; rw [trips5]; omega⟩ ⟨(i 0).val / 8, by have h : (i 0).val < 192 := (i 0).isLt; omega⟩
    (ix2 ⟨(i 0).val % 8, by omega⟩ ⟨(i 1).val % 512, by omega⟩)

/-- The running maxima before trip `j`. -/
def ZM : ℕ → Vec F S192x128 .f32
  | 0 => k0_pay194
  | j + 1 => if h : j < k0_t5_loop.trips then zmStep w1 w1s wh ww f14 f22 ⟨j, h⟩ (ZM j) else ZM j

theorem Z_at (k : Fin k0_t5_loop.trips) (g : Fin 24) (x : S8x512.Idx) (i : S192x2048.Idx)
    (h0 : (i 0).val = 8 * g.val + (x 0).val) (h1 : (i 1).val = 512 * k.val + (x 1).val) : Z w1 w1s wh ww f14 f22 i = zP w1 w1s wh ww f14 f22 k g x := by
  have x0 : (x 0).val < 8 := (x 0).isLt
  have x1 : (x 1).val < 512 := (x 1).isLt
  have e : ∀ k' g' x', k' = k → g' = g → x' = x → zP w1 w1s wh ww f14 f22 k' g' x' = zP w1 w1s wh ww f14 f22 k g x := by rintro _ _ _ rfl rfl rfl; rfl
  refine e _ _ _ (Fin.ext ?_) (Fin.ext ?_) (funext fun a => ?_)
  · show (i 1).val / 512 = k.val; omega
  · show (i 0).val / 8 = g.val; omega
  · fin_cases a <;> apply Fin.ext
    · show (i 0).val % 8 = (x 0).val; omega
    · show (i 1).val % 512 = (x 1).val; omega

theorem ZM_at (k : Fin k0_t5_loop.trips) (g : Fin 24) (x : S8x128.Idx) (i : S192x128.Idx)
    (h0 : (i 0).val = 8 * g.val + (x 0).val) (h1 : (i 1).val = (x 1).val) :
    ZM w1 w1s wh ww f14 f22 (k.val + 1) i = zmP w1 w1s wh ww f14 f22 k (ZM w1 w1s wh ww f14 f22 k.val) g x := by
  have x0 : (x 0).val < 8 := (x 0).isLt
  rw [ZM, dif_pos k.isLt]
  have e : ∀ g' x', g' = g → x' = x → zmP w1 w1s wh ww f14 f22 k (ZM w1 w1s wh ww f14 f22 k.val) g' x' = zmP w1 w1s wh ww f14 f22 k (ZM w1 w1s wh ww f14 f22 k.val) g x := by
    rintro _ _ rfl rfl; rfl
  refine e _ _ (Fin.ext ?_) (funext fun a => ?_)
  · show (i 0).val / 8 = g.val; omega
  · fin_cases a <;> apply Fin.ext
    · show (i 0).val % 8 = (x 0).val; omega
    · exact h1

/-- The trip's stores of `z`, last first, -/
def piecesZ (k : Fin k0_t5_loop.trips) : List (View.Piece (Elt F) S192x2048 .f32) :=
  [⟨Rect.unit (s := S192x2048) (k0_off81 k) S8x512.size (k0_off81_inb k), zP w1 w1s wh ww f14 f22 k 23⟩, ⟨Rect.unit (s := S192x2048) (k0_off80 k) S8x512.size (k0_off80_inb k), zP w1 w1s wh ww f14 f22 k 22⟩, ⟨Rect.unit (s := S192x2048) (k0_off79 k) S8x512.size (k0_off79_inb k), zP w1 w1s wh ww f14 f22 k 21⟩, ⟨Rect.unit (s := S192x2048) (k0_off78 k) S8x512.size (k0_off78_inb k), zP w1 w1s wh ww f14 f22 k 20⟩, ⟨Rect.unit (s := S192x2048) (k0_off77 k) S8x512.size (k0_off77_inb k), zP w1 w1s wh ww f14 f22 k 19⟩, ⟨Rect.unit (s := S192x2048) (k0_off76 k) S8x512.size (k0_off76_inb k), zP w1 w1s wh ww f14 f22 k 18⟩, ⟨Rect.unit (s := S192x2048) (k0_off75 k) S8x512.size (k0_off75_inb k), zP w1 w1s wh ww f14 f22 k 17⟩, ⟨Rect.unit (s := S192x2048) (k0_off74 k) S8x512.size (k0_off74_inb k), zP w1 w1s wh ww f14 f22 k 16⟩, ⟨Rect.unit (s := S192x2048) (k0_off73 k) S8x512.size (k0_off73_inb k), zP w1 w1s wh ww f14 f22 k 15⟩, ⟨Rect.unit (s := S192x2048) (k0_off72 k) S8x512.size (k0_off72_inb k), zP w1 w1s wh ww f14 f22 k 14⟩, ⟨Rect.unit (s := S192x2048) (k0_off71 k) S8x512.size (k0_off71_inb k), zP w1 w1s wh ww f14 f22 k 13⟩, ⟨Rect.unit (s := S192x2048) (k0_off70 k) S8x512.size (k0_off70_inb k), zP w1 w1s wh ww f14 f22 k 12⟩, ⟨Rect.unit (s := S192x2048) (k0_off69 k) S8x512.size (k0_off69_inb k), zP w1 w1s wh ww f14 f22 k 11⟩, ⟨Rect.unit (s := S192x2048) (k0_off68 k) S8x512.size (k0_off68_inb k), zP w1 w1s wh ww f14 f22 k 10⟩, ⟨Rect.unit (s := S192x2048) (k0_off67 k) S8x512.size (k0_off67_inb k), zP w1 w1s wh ww f14 f22 k 9⟩, ⟨Rect.unit (s := S192x2048) (k0_off66 k) S8x512.size (k0_off66_inb k), zP w1 w1s wh ww f14 f22 k 8⟩, ⟨Rect.unit (s := S192x2048) (k0_off65 k) S8x512.size (k0_off65_inb k), zP w1 w1s wh ww f14 f22 k 7⟩, ⟨Rect.unit (s := S192x2048) (k0_off64 k) S8x512.size (k0_off64_inb k), zP w1 w1s wh ww f14 f22 k 6⟩, ⟨Rect.unit (s := S192x2048) (k0_off63 k) S8x512.size (k0_off63_inb k), zP w1 w1s wh ww f14 f22 k 5⟩, ⟨Rect.unit (s := S192x2048) (k0_off62 k) S8x512.size (k0_off62_inb k), zP w1 w1s wh ww f14 f22 k 4⟩, ⟨Rect.unit (s := S192x2048) (k0_off61 k) S8x512.size (k0_off61_inb k), zP w1 w1s wh ww f14 f22 k 3⟩, ⟨Rect.unit (s := S192x2048) (k0_off60 k) S8x512.size (k0_off60_inb k), zP w1 w1s wh ww f14 f22 k 2⟩, ⟨Rect.unit (s := S192x2048) (k0_off59 k) S8x512.size (k0_off59_inb k), zP w1 w1s wh ww f14 f22 k 1⟩, ⟨Rect.unit (s := S192x2048) (k0_off58 k) S8x512.size (k0_off58_inb k), zP w1 w1s wh ww f14 f22 k 0⟩]

/-- and of the maxima. -/
def piecesM (k : Fin k0_t5_loop.trips) (m : Vec F S192x128 .f32) : List (View.Piece (Elt F) S192x128 .f32) :=
  [⟨Rect.unit (s := S192x128) ![184, 0] S8x128.size inb_S192x128_S8x128_184_0, zmP w1 w1s wh ww f14 f22 k m 23⟩, ⟨Rect.unit (s := S192x128) ![176, 0] S8x128.size inb_S192x128_S8x128_176_0, zmP w1 w1s wh ww f14 f22 k m 22⟩, ⟨Rect.unit (s := S192x128) ![168, 0] S8x128.size inb_S192x128_S8x128_168_0, zmP w1 w1s wh ww f14 f22 k m 21⟩, ⟨Rect.unit (s := S192x128) ![160, 0] S8x128.size inb_S192x128_S8x128_160_0, zmP w1 w1s wh ww f14 f22 k m 20⟩, ⟨Rect.unit (s := S192x128) ![152, 0] S8x128.size inb_S192x128_S8x128_152_0, zmP w1 w1s wh ww f14 f22 k m 19⟩, ⟨Rect.unit (s := S192x128) ![144, 0] S8x128.size inb_S192x128_S8x128_144_0, zmP w1 w1s wh ww f14 f22 k m 18⟩, ⟨Rect.unit (s := S192x128) ![136, 0] S8x128.size inb_S192x128_S8x128_136_0, zmP w1 w1s wh ww f14 f22 k m 17⟩, ⟨Rect.unit (s := S192x128) ![128, 0] S8x128.size inb_S192x128_S8x128_128_0, zmP w1 w1s wh ww f14 f22 k m 16⟩, ⟨Rect.unit (s := S192x128) ![120, 0] S8x128.size inb_S192x128_S8x128_120_0, zmP w1 w1s wh ww f14 f22 k m 15⟩, ⟨Rect.unit (s := S192x128) ![112, 0] S8x128.size inb_S192x128_S8x128_112_0, zmP w1 w1s wh ww f14 f22 k m 14⟩, ⟨Rect.unit (s := S192x128) ![104, 0] S8x128.size inb_S192x128_S8x128_104_0, zmP w1 w1s wh ww f14 f22 k m 13⟩, ⟨Rect.unit (s := S192x128) ![96, 0] S8x128.size inb_S192x128_S8x128_96_0, zmP w1 w1s wh ww f14 f22 k m 12⟩, ⟨Rect.unit (s := S192x128) ![88, 0] S8x128.size inb_S192x128_S8x128_88_0, zmP w1 w1s wh ww f14 f22 k m 11⟩, ⟨Rect.unit (s := S192x128) ![80, 0] S8x128.size inb_S192x128_S8x128_80_0, zmP w1 w1s wh ww f14 f22 k m 10⟩, ⟨Rect.unit (s := S192x128) ![72, 0] S8x128.size inb_S192x128_S8x128_72_0, zmP w1 w1s wh ww f14 f22 k m 9⟩, ⟨Rect.unit (s := S192x128) ![64, 0] S8x128.size inb_S192x128_S8x128_64_0, zmP w1 w1s wh ww f14 f22 k m 8⟩, ⟨Rect.unit (s := S192x128) ![56, 0] S8x128.size inb_S192x128_S8x128_56_0, zmP w1 w1s wh ww f14 f22 k m 7⟩, ⟨Rect.unit (s := S192x128) ![48, 0] S8x128.size inb_S192x128_S8x128_48_0, zmP w1 w1s wh ww f14 f22 k m 6⟩, ⟨Rect.unit (s := S192x128) ![40, 0] S8x128.size inb_S192x128_S8x128_40_0, zmP w1 w1s wh ww f14 f22 k m 5⟩, ⟨Rect.unit (s := S192x128) ![32, 0] S8x128.size inb_S192x128_S8x128_32_0, zmP w1 w1s wh ww f14 f22 k m 4⟩, ⟨Rect.unit (s := S192x128) ![24, 0] S8x128.size inb_S192x128_S8x128_24_0, zmP w1 w1s wh ww f14 f22 k m 3⟩, ⟨Rect.unit (s := S192x128) ![16, 0] S8x128.size inb_S192x128_S8x128_16_0, zmP w1 w1s wh ww f14 f22 k m 2⟩, ⟨Rect.unit (s := S192x128) ![8, 0] S8x128.size inb_S192x128_S8x128_8_0, zmP w1 w1s wh ww f14 f22 k m 1⟩, ⟨Rect.unit (s := S192x128) ![0, 0] S8x128.size inb_S192x128_S8x128_0_0, zmP w1 w1s wh ww f14 f22 k m 0⟩]

/-- The first `512 k` columns of `z` are there before trip `k`. -/
def okZ (k : ℕ) (f24 : Vec F S192x2048 .f32) : Prop :=
  ∀ i : S192x2048.Idx, (i 1).val < 512 * k → (Memref.whole cc0_scratch11).view.read (Elt F) f24 i = Z w1 w1s wh ww f14 f22 i

theorem okZ_step (k : Fin k0_t5_loop.trips) (f24 : Vec F S192x2048 .f32) (h : okZ w1 w1s wh ww f14 f22 k.val f24) :
    okZ w1 w1s wh ww f14 f22 (k.val + 1) ((Memref.whole cc0_scratch11).view.writes (Elt F) f24 (piecesZ w1 w1s wh ww f14 f22 k)) := by
  intro y hy
  refine fill_step (Memref.whole cc0_scratch11).view f24 (piecesZ w1 w1s wh ww f14 f22 k) (Z w1 w1s wh ww f14 f22) (fun y => (y 1).val < 512 * k.val)
    (fun y => (y 1).val < 512 * (k.val + 1)) ?_ ?_ (fun y hy => h y hy) y hy
  all_goals clear hy y
  · intro p hp
    simp only [piecesZ, List.mem_cons, List.not_mem_nil, or_false] at hp
    rcases hp with rfl | rfl | rfl | rfl | rfl | rfl | rfl | rfl | rfl | rfl | rfl | rfl | rfl | rfl | rfl | rfl | rfl | rfl | rfl | rfl | rfl | rfl | rfl | rfl <;> intro x
    · exact (Z_at w1 w1s wh ww f14 f22 k 23 x _ (emb_at (k0_off81_eq k) (k0_off81_inb k) x 0) (emb_at (k0_off81_eq k) (k0_off81_inb k) x 1)).symm
    · exact (Z_at w1 w1s wh ww f14 f22 k 22 x _ (emb_at (k0_off80_eq k) (k0_off80_inb k) x 0) (emb_at (k0_off80_eq k) (k0_off80_inb k) x 1)).symm
    · exact (Z_at w1 w1s wh ww f14 f22 k 21 x _ (emb_at (k0_off79_eq k) (k0_off79_inb k) x 0) (emb_at (k0_off79_eq k) (k0_off79_inb k) x 1)).symm
    · exact (Z_at w1 w1s wh ww f14 f22 k 20 x _ (emb_at (k0_off78_eq k) (k0_off78_inb k) x 0) (emb_at (k0_off78_eq k) (k0_off78_inb k) x 1)).symm
    · exact (Z_at w1 w1s wh ww f14 f22 k 19 x _ (emb_at (k0_off77_eq k) (k0_off77_inb k) x 0) (emb_at (k0_off77_eq k) (k0_off77_inb k) x 1)).symm
    · exact (Z_at w1 w1s wh ww f14 f22 k 18 x _ (emb_at (k0_off76_eq k) (k0_off76_inb k) x 0) (emb_at (k0_off76_eq k) (k0_off76_inb k) x 1)).symm
    · exact (Z_at w1 w1s wh ww f14 f22 k 17 x _ (emb_at (k0_off75_eq k) (k0_off75_inb k) x 0) (emb_at (k0_off75_eq k) (k0_off75_inb k) x 1)).symm
    · exact (Z_at w1 w1s wh ww f14 f22 k 16 x _ (emb_at (k0_off74_eq k) (k0_off74_inb k) x 0) (emb_at (k0_off74_eq k) (k0_off74_inb k) x 1)).symm
    · exact (Z_at w1 w1s wh ww f14 f22 k 15 x _ (emb_at (k0_off73_eq k) (k0_off73_inb k) x 0) (emb_at (k0_off73_eq k) (k0_off73_inb k) x 1)).symm
    · exact (Z_at w1 w1s wh ww f14 f22 k 14 x _ (emb_at (k0_off72_eq k) (k0_off72_inb k) x 0) (emb_at (k0_off72_eq k) (k0_off72_inb k) x 1)).symm
    · exact (Z_at w1 w1s wh ww f14 f22 k 13 x _ (emb_at (k0_off71_eq k) (k0_off71_inb k) x 0) (emb_at (k0_off71_eq k) (k0_off71_inb k) x 1)).symm
    · exact (Z_at w1 w1s wh ww f14 f22 k 12 x _ (emb_at (k0_off70_eq k) (k0_off70_inb k) x 0) (emb_at (k0_off70_eq k) (k0_off70_inb k) x 1)).symm
    · exact (Z_at w1 w1s wh ww f14 f22 k 11 x _ (emb_at (k0_off69_eq k) (k0_off69_inb k) x 0) (emb_at (k0_off69_eq k) (k0_off69_inb k) x 1)).symm
    · exact (Z_at w1 w1s wh ww f14 f22 k 10 x _ (emb_at (k0_off68_eq k) (k0_off68_inb k) x 0) (emb_at (k0_off68_eq k) (k0_off68_inb k) x 1)).symm
    · exact (Z_at w1 w1s wh ww f14 f22 k 9 x _ (emb_at (k0_off67_eq k) (k0_off67_inb k) x 0) (emb_at (k0_off67_eq k) (k0_off67_inb k) x 1)).symm
    · exact (Z_at w1 w1s wh ww f14 f22 k 8 x _ (emb_at (k0_off66_eq k) (k0_off66_inb k) x 0) (emb_at (k0_off66_eq k) (k0_off66_inb k) x 1)).symm
    · exact (Z_at w1 w1s wh ww f14 f22 k 7 x _ (emb_at (k0_off65_eq k) (k0_off65_inb k) x 0) (emb_at (k0_off65_eq k) (k0_off65_inb k) x 1)).symm
    · exact (Z_at w1 w1s wh ww f14 f22 k 6 x _ (emb_at (k0_off64_eq k) (k0_off64_inb k) x 0) (emb_at (k0_off64_eq k) (k0_off64_inb k) x 1)).symm
    · exact (Z_at w1 w1s wh ww f14 f22 k 5 x _ (emb_at (k0_off63_eq k) (k0_off63_inb k) x 0) (emb_at (k0_off63_eq k) (k0_off63_inb k) x 1)).symm
    · exact (Z_at w1 w1s wh ww f14 f22 k 4 x _ (emb_at (k0_off62_eq k) (k0_off62_inb k) x 0) (emb_at (k0_off62_eq k) (k0_off62_inb k) x 1)).symm
    · exact (Z_at w1 w1s wh ww f14 f22 k 3 x _ (emb_at (k0_off61_eq k) (k0_off61_inb k) x 0) (emb_at (k0_off61_eq k) (k0_off61_inb k) x 1)).symm
    · exact (Z_at w1 w1s wh ww f14 f22 k 2 x _ (emb_at (k0_off60_eq k) (k0_off60_inb k) x 0) (emb_at (k0_off60_eq k) (k0_off60_inb k) x 1)).symm
    · exact (Z_at w1 w1s wh ww f14 f22 k 1 x _ (emb_at (k0_off59_eq k) (k0_off59_inb k) x 0) (emb_at (k0_off59_eq k) (k0_off59_inb k) x 1)).symm
    · exact (Z_at w1 w1s wh ww f14 f22 k 0 x _ (emb_at (k0_off58_eq k) (k0_off58_inb k) x 0) (emb_at (k0_off58_eq k) (k0_off58_inb k) x 1)).symm
  · intro y hy
    change (y 1).val < 512 * (k.val + 1) at hy
    by_cases hlt : (y 1).val < 512 * k.val
    · exact .inl hlt
    · right
      have y0 : (y 0).val < 192 := (y 0).isLt
      have hg : ∃ g : Fin 24, (y 0).val / 8 = g.val := ⟨⟨(y 0).val / 8, by omega⟩, rfl⟩
      obtain ⟨g, hg⟩ := hg
      unfold piecesZ
      fin_cases g
      · replace hg : (y 0).val / 8 = 0 := hg
        exact ⟨_, .tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))), mem_unit2 (k0_off58_eq k) (k0_off58_inb k) y ⟨by omega, by omega⟩ ⟨by omega, by omega⟩⟩
      · replace hg : (y 0).val / 8 = 1 := hg
        exact ⟨_, .tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))), mem_unit2 (k0_off59_eq k) (k0_off59_inb k) y ⟨by omega, by omega⟩ ⟨by omega, by omega⟩⟩
      · replace hg : (y 0).val / 8 = 2 := hg
        exact ⟨_, .tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))), mem_unit2 (k0_off60_eq k) (k0_off60_inb k) y ⟨by omega, by omega⟩ ⟨by omega, by omega⟩⟩
      · replace hg : (y 0).val / 8 = 3 := hg
        exact ⟨_, .tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))), mem_unit2 (k0_off61_eq k) (k0_off61_inb k) y ⟨by omega, by omega⟩ ⟨by omega, by omega⟩⟩
      · replace hg : (y 0).val / 8 = 4 := hg
        exact ⟨_, .tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))), mem_unit2 (k0_off62_eq k) (k0_off62_inb k) y ⟨by omega, by omega⟩ ⟨by omega, by omega⟩⟩
      · replace hg : (y 0).val / 8 = 5 := hg
        exact ⟨_, .tail _ (.tail _ (.tail _ (.tail _ (.tail _ (.tail _ (.tail _ (.tail _ (.tail _ (.tail _ (.tail _ (.tail _ (.tail _ (.tail _ (.tail _ (.tail _ (.tail _ (.tail _ (.head _)))))))))))))))))), mem_unit2 (k0_off63_eq k) (k0_off63_inb k) y ⟨by omega, by omega⟩ ⟨by omega, by omega⟩⟩
      · replace hg : (y 0).val / 8 = 6 := hg
        exact ⟨_, .tail _ (.tail _ (.tail _ (.tail _ (.tail _ (.tail _ (.tail _ (.tail _ (.tail _ (.tail _ (.tail _ (.tail _ (.tail _ (.tail _ (.tail _ (.tail _ (.tail _ (.head _))))))))))))))))), mem_unit2 (k0_off64_eq k) (k0_off64_inb k) y ⟨by omega, by omega⟩ ⟨by omega, by omega⟩⟩
      · replace hg : (y 0).val / 8 = 7 := hg
        exact ⟨_, .tail _ (.tail _ (.tail _ (.tail _ (.tail _ (.tail _ (.tail _ (.tail _ (.tail _ (.tail _ (.tail _ (.tail _ (.tail _ (.tail _ (.tail _ (.tail _ (.head _)))))))))))))))), mem_unit2 (k0_off65_eq k) (k0_off65_inb k) y ⟨by omega, by omega⟩ ⟨by omega, by omega⟩⟩
      · replace hg : (y 0).val / 8 = 8 := hg
        exact ⟨_, .tail _ (.tail _ (.tail _ (.tail _ (.tail _ (.tail _ (.tail _ (.tail _ (.tail _ (.tail _ (.tail _ (.tail _ (.tail _ (.tail _ (.tail _ (.head _))))))))))))))), mem_unit2 (k0_off66_eq k) (k0_off66_inb k) y ⟨by omega, by omega⟩ ⟨by omega, by omega⟩⟩
      · replace hg : (y 0).val / 8 = 9 := hg
        exact ⟨_, .tail _ (.tail _ (.tail _ (.tail _ (.tail _ (.tail _ (.tail _ (.tail _ (.tail _ (.tail _ (.tail _ (.tail _ (.tail _ (.tail _ (.head _)))))))))))))), mem_unit2 (k0_off67_eq k) (k0_off67_inb k) y ⟨by omega, by omega⟩ ⟨by omega, by omega⟩⟩
      · replace hg : (y 0).val / 8 = 10 := hg
        exact ⟨_, .tail _ (.tail _ (.tail _ (.tail _ (.tail _ (.tail _ (.tail _ (.tail _ (.tail _ (.tail _ (.tail _ (.tail _ (.tail _ (.head _))))))))))))), mem_unit2 (k0_off68_eq k) (k0_off68_inb k) y ⟨by omega, by omega⟩ ⟨by omega, by omega⟩⟩
      · replace hg : (y 0).val / 8 = 11 := hg
        exact ⟨_, .tail _ (.tail _ (.tail _ (.tail _ (.tail _ (.tail _ (.tail _ (.tail _ (.tail _ (.tail _ (.tail _ (.tail _ (.head _)))))))))))), mem_unit2 (k0_off69_eq k) (k0_off69_inb k) y ⟨by omega, by omega⟩ ⟨by omega, by omega⟩⟩
      · replace hg : (y 0).val / 8 = 12 := hg
        exact ⟨_, .tail _ (.tail _ (.tail _ (.tail _ (.tail _ (.tail _ (.tail _ (.tail _ (.tail _ (.tail _ (.tail _ (.head _))))))))))), mem_unit2 (k0_off70_eq k) (k0_off70_inb k) y ⟨by omega, by omega⟩ ⟨by omega, by omega⟩⟩
      · replace hg : (y 0).val / 8 = 13 := hg
        exact ⟨_, .tail _ (.tail _ (.tail _ (.tail _ (.tail _ (.tail _ (.tail _ (.tail _ (.tail _ (.tail _ (.head _)))))))))), mem_unit2 (k0_off71_eq k) (k0_off71_inb k) y ⟨by omega, by omega⟩ ⟨by omega, by omega⟩⟩
      · replace hg : (y 0).val / 8 = 14 := hg
        exact ⟨_, .tail _ (.tail _ (.tail _ (.tail _ (.tail _ (.tail _ (.tail _ (.tail _ (.tail _ (.head _))))))))), mem_unit2 (k0_off72_eq k) (k0_off72_inb k) y ⟨by omega, by omega⟩ ⟨by omega, by omega⟩⟩
      · replace hg : (y 0).val / 8 = 15 := hg
        exact ⟨_, .tail _ (.tail _ (.tail _ (.tail _ (.tail _ (.tail _ (.tail _ (.tail _ (.head _)))))))), mem_unit2 (k0_off73_eq k) (k0_off73_inb k) y ⟨by omega, by omega⟩ ⟨by omega, by omega⟩⟩
      · replace hg : (y 0).val / 8 = 16 := hg
        exact ⟨_, .tail _ (.tail _ (.tail _ (.tail _ (.tail _ (.tail _ (.tail _ (.head _))))))), mem_unit2 (k0_off74_eq k) (k0_off74_inb k) y ⟨by omega, by omega⟩ ⟨by omega, by omega⟩⟩
      · replace hg : (y 0).val / 8 = 17 := hg
        exact ⟨_, .tail _ (.tail _ (.tail _ (.tail _ (.tail _ (.tail _ (.head _)))))), mem_unit2 (k0_off75_eq k) (k0_off75_inb k) y ⟨by omega, by omega⟩ ⟨by omega, by omega⟩⟩
      · replace hg : (y 0).val / 8 = 18 := hg
        exact ⟨_, .tail _ (.tail _ (.tail _ (.tail _ (.tail _ (.head _))))), mem_unit2 (k0_off76_eq k) (k0_off76_inb k) y ⟨by omega, by omega⟩ ⟨by omega, by omega⟩⟩
      · replace hg : (y 0).val / 8 = 19 := hg
        exact ⟨_, .tail _ (.tail _ (.tail _ (.tail _ (.head _)))), mem_unit2 (k0_off77_eq k) (k0_off77_inb k) y ⟨by omega, by omega⟩ ⟨by omega, by omega⟩⟩
      · replace hg : (y 0).val / 8 = 20 := hg
        exact ⟨_, .tail _ (.tail _ (.tail _ (.head _))), mem_unit2 (k0_off78_eq k) (k0_off78_inb k) y ⟨by omega, by omega⟩ ⟨by omega, by omega⟩⟩
      · replace hg : (y 0).val / 8 = 21 := hg
        exact ⟨_, .tail _ (.tail _ (.head _)), mem_unit2 (k0_off79_eq k) (k0_off79_inb k) y ⟨by omega, by omega⟩ ⟨by omega, by omega⟩⟩
      · replace hg : (y 0).val / 8 = 22 := hg
        exact ⟨_, .tail _ (.head _), mem_unit2 (k0_off80_eq k) (k0_off80_inb k) y ⟨by omega, by omega⟩ ⟨by omega, by omega⟩⟩
      · replace hg : (y 0).val / 8 = 23 := hg
        exact ⟨_, .head _, mem_unit2 (k0_off81_eq k) (k0_off81_inb k) y ⟨by omega, by omega⟩ ⟨by omega, by omega⟩⟩

theorem okM_step (k : Fin k0_t5_loop.trips) :
    (Memref.whole cc0_scratch12).view.writes (Elt F) (ZM w1 w1s wh ww f14 f22 k.val) (piecesM w1 w1s wh ww f14 f22 k (ZM w1 w1s wh ww f14 f22 k.val))
      = ZM w1 w1s wh ww f14 f22 (k.val + 1) := by
  refine funext fun y => fill_step (Memref.whole cc0_scratch12).view _ (piecesM w1 w1s wh ww f14 f22 k (ZM w1 w1s wh ww f14 f22 k.val)) (ZM w1 w1s wh ww f14 f22 (k.val + 1))
    (fun _ => False) (fun _ => True) ?_ ?_ (fun y hy => hy.elim) y trivial
  · intro p hp
    simp only [piecesM, List.mem_cons, List.not_mem_nil, or_false] at hp
    rcases hp with rfl | rfl | rfl | rfl | rfl | rfl | rfl | rfl | rfl | rfl | rfl | rfl | rfl | rfl | rfl | rfl | rfl | rfl | rfl | rfl | rfl | rfl | rfl | rfl <;> intro x
    · exact (ZM_at w1 w1s wh ww f14 f22 k 23 x _ (emb_at (o' := ![184, 0]) rfl inb_S192x128_S8x128_184_0 x 0) ((emb_at (o' := ![184, 0]) rfl inb_S192x128_S8x128_184_0 x 1).trans (Nat.zero_add _))).symm
    · exact (ZM_at w1 w1s wh ww f14 f22 k 22 x _ (emb_at (o' := ![176, 0]) rfl inb_S192x128_S8x128_176_0 x 0) ((emb_at (o' := ![176, 0]) rfl inb_S192x128_S8x128_176_0 x 1).trans (Nat.zero_add _))).symm
    · exact (ZM_at w1 w1s wh ww f14 f22 k 21 x _ (emb_at (o' := ![168, 0]) rfl inb_S192x128_S8x128_168_0 x 0) ((emb_at (o' := ![168, 0]) rfl inb_S192x128_S8x128_168_0 x 1).trans (Nat.zero_add _))).symm
    · exact (ZM_at w1 w1s wh ww f14 f22 k 20 x _ (emb_at (o' := ![160, 0]) rfl inb_S192x128_S8x128_160_0 x 0) ((emb_at (o' := ![160, 0]) rfl inb_S192x128_S8x128_160_0 x 1).trans (Nat.zero_add _))).symm
    · exact (ZM_at w1 w1s wh ww f14 f22 k 19 x _ (emb_at (o' := ![152, 0]) rfl inb_S192x128_S8x128_152_0 x 0) ((emb_at (o' := ![152, 0]) rfl inb_S192x128_S8x128_152_0 x 1).trans (Nat.zero_add _))).symm
    · exact (ZM_at w1 w1s wh ww f14 f22 k 18 x _ (emb_at (o' := ![144, 0]) rfl inb_S192x128_S8x128_144_0 x 0) ((emb_at (o' := ![144, 0]) rfl inb_S192x128_S8x128_144_0 x 1).trans (Nat.zero_add _))).symm
    · exact (ZM_at w1 w1s wh ww f14 f22 k 17 x _ (emb_at (o' := ![136, 0]) rfl inb_S192x128_S8x128_136_0 x 0) ((emb_at (o' := ![136, 0]) rfl inb_S192x128_S8x128_136_0 x 1).trans (Nat.zero_add _))).symm
    · exact (ZM_at w1 w1s wh ww f14 f22 k 16 x _ (emb_at (o' := ![128, 0]) rfl inb_S192x128_S8x128_128_0 x 0) ((emb_at (o' := ![128, 0]) rfl inb_S192x128_S8x128_128_0 x 1).trans (Nat.zero_add _))).symm
    · exact (ZM_at w1 w1s wh ww f14 f22 k 15 x _ (emb_at (o' := ![120, 0]) rfl inb_S192x128_S8x128_120_0 x 0) ((emb_at (o' := ![120, 0]) rfl inb_S192x128_S8x128_120_0 x 1).trans (Nat.zero_add _))).symm
    · exact (ZM_at w1 w1s wh ww f14 f22 k 14 x _ (emb_at (o' := ![112, 0]) rfl inb_S192x128_S8x128_112_0 x 0) ((emb_at (o' := ![112, 0]) rfl inb_S192x128_S8x128_112_0 x 1).trans (Nat.zero_add _))).symm
    · exact (ZM_at w1 w1s wh ww f14 f22 k 13 x _ (emb_at (o' := ![104, 0]) rfl inb_S192x128_S8x128_104_0 x 0) ((emb_at (o' := ![104, 0]) rfl inb_S192x128_S8x128_104_0 x 1).trans (Nat.zero_add _))).symm
    · exact (ZM_at w1 w1s wh ww f14 f22 k 12 x _ (emb_at (o' := ![96, 0]) rfl inb_S192x128_S8x128_96_0 x 0) ((emb_at (o' := ![96, 0]) rfl inb_S192x128_S8x128_96_0 x 1).trans (Nat.zero_add _))).symm
    · exact (ZM_at w1 w1s wh ww f14 f22 k 11 x _ (emb_at (o' := ![88, 0]) rfl inb_S192x128_S8x128_88_0 x 0) ((emb_at (o' := ![88, 0]) rfl inb_S192x128_S8x128_88_0 x 1).trans (Nat.zero_add _))).symm
    · exact (ZM_at w1 w1s wh ww f14 f22 k 10 x _ (emb_at (o' := ![80, 0]) rfl inb_S192x128_S8x128_80_0 x 0) ((emb_at (o' := ![80, 0]) rfl inb_S192x128_S8x128_80_0 x 1).trans (Nat.zero_add _))).symm
    · exact (ZM_at w1 w1s wh ww f14 f22 k 9 x _ (emb_at (o' := ![72, 0]) rfl inb_S192x128_S8x128_72_0 x 0) ((emb_at (o' := ![72, 0]) rfl inb_S192x128_S8x128_72_0 x 1).trans (Nat.zero_add _))).symm
    · exact (ZM_at w1 w1s wh ww f14 f22 k 8 x _ (emb_at (o' := ![64, 0]) rfl inb_S192x128_S8x128_64_0 x 0) ((emb_at (o' := ![64, 0]) rfl inb_S192x128_S8x128_64_0 x 1).trans (Nat.zero_add _))).symm
    · exact (ZM_at w1 w1s wh ww f14 f22 k 7 x _ (emb_at (o' := ![56, 0]) rfl inb_S192x128_S8x128_56_0 x 0) ((emb_at (o' := ![56, 0]) rfl inb_S192x128_S8x128_56_0 x 1).trans (Nat.zero_add _))).symm
    · exact (ZM_at w1 w1s wh ww f14 f22 k 6 x _ (emb_at (o' := ![48, 0]) rfl inb_S192x128_S8x128_48_0 x 0) ((emb_at (o' := ![48, 0]) rfl inb_S192x128_S8x128_48_0 x 1).trans (Nat.zero_add _))).symm
    · exact (ZM_at w1 w1s wh ww f14 f22 k 5 x _ (emb_at (o' := ![40, 0]) rfl inb_S192x128_S8x128_40_0 x 0) ((emb_at (o' := ![40, 0]) rfl inb_S192x128_S8x128_40_0 x 1).trans (Nat.zero_add _))).symm
    · exact (ZM_at w1 w1s wh ww f14 f22 k 4 x _ (emb_at (o' := ![32, 0]) rfl inb_S192x128_S8x128_32_0 x 0) ((emb_at (o' := ![32, 0]) rfl inb_S192x128_S8x128_32_0 x 1).trans (Nat.zero_add _))).symm
    · exact (ZM_at w1 w1s wh ww f14 f22 k 3 x _ (emb_at (o' := ![24, 0]) rfl inb_S192x128_S8x128_24_0 x 0) ((emb_at (o' := ![24, 0]) rfl inb_S192x128_S8x128_24_0 x 1).trans (Nat.zero_add _))).symm
    · exact (ZM_at w1 w1s wh ww f14 f22 k 2 x _ (emb_at (o' := ![16, 0]) rfl inb_S192x128_S8x128_16_0 x 0) ((emb_at (o' := ![16, 0]) rfl inb_S192x128_S8x128_16_0 x 1).trans (Nat.zero_add _))).symm
    · exact (ZM_at w1 w1s wh ww f14 f22 k 1 x _ (emb_at (o' := ![8, 0]) rfl inb_S192x128_S8x128_8_0 x 0) ((emb_at (o' := ![8, 0]) rfl inb_S192x128_S8x128_8_0 x 1).trans (Nat.zero_add _))).symm
    · exact (ZM_at w1 w1s wh ww f14 f22 k 0 x _ (emb_at (o' := ![0, 0]) rfl inb_S192x128_S8x128_0_0 x 0) ((emb_at (o' := ![0, 0]) rfl inb_S192x128_S8x128_0_0 x 1).trans (Nat.zero_add _))).symm
  · intro y _
    right
    have y0 : (y 0).val < 192 := (y 0).isLt
    have y1 : (y 1).val < 128 := (y 1).isLt
    have hg : ∃ g : Fin 24, (y 0).val / 8 = g.val := ⟨⟨(y 0).val / 8, by omega⟩, rfl⟩
    obtain ⟨g, hg⟩ := hg
    unfold piecesM
    fin_cases g
    · replace hg : (y 0).val / 8 = 0 := hg
      exact ⟨_, .tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))), mem_unit2 rfl inb_S192x128_S8x128_0_0 y ⟨by omega, by omega⟩ ⟨by omega, by omega⟩⟩
    · replace hg : (y 0).val / 8 = 1 := hg
      exact ⟨_, .tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))), mem_unit2 rfl inb_S192x128_S8x128_8_0 y ⟨by omega, by omega⟩ ⟨by omega, by omega⟩⟩
    · replace hg : (y 0).val / 8 = 2 := hg
      exact ⟨_, .tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))), mem_unit2 rfl inb_S192x128_S8x128_16_0 y ⟨by omega, by omega⟩ ⟨by omega, by omega⟩⟩
    · replace hg : (y 0).val / 8 = 3 := hg
      exact ⟨_, .tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))), mem_unit2 rfl inb_S192x128_S8x128_24_0 y ⟨by omega, by omega⟩ ⟨by omega, by omega⟩⟩
    · replace hg : (y 0).val / 8 = 4 := hg
      exact ⟨_, .tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))), mem_unit2 rfl inb_S192x128_S8x128_32_0 y ⟨by omega, by omega⟩ ⟨by omega, by omega⟩⟩
    · replace hg : (y 0).val / 8 = 5 := hg
      exact ⟨_, .tail _ (.tail _ (.tail _ (.tail _ (.tail _ (.tail _ (.tail _ (.tail _ (.tail _ (.tail _ (.tail _ (.tail _ (.tail _ (.tail _ (.tail _ (.tail _ (.tail _ (.tail _ (.head _)))))))))))))))))), mem_unit2 rfl inb_S192x128_S8x128_40_0 y ⟨by omega, by omega⟩ ⟨by omega, by omega⟩⟩
    · replace hg : (y 0).val / 8 = 6 := hg
      exact ⟨_, .tail _ (.tail _ (.tail _ (.tail _ (.tail _ (.tail _ (.tail _ (.tail _ (.tail _ (.tail _ (.tail _ (.tail _ (.tail _ (.tail _ (.tail _ (.tail _ (.tail _ (.head _))))))))))))))))), mem_unit2 rfl inb_S192x128_S8x128_48_0 y ⟨by omega, by omega⟩ ⟨by omega, by omega⟩⟩
    · replace hg : (y 0).val / 8 = 7 := hg
      exact ⟨_, .tail _ (.tail _ (.tail _ (.tail _ (.tail _ (.tail _ (.tail _ (.tail _ (.tail _ (.tail _ (.tail _ (.tail _ (.tail _ (.tail _ (.tail _ (.tail _ (.head _)))))))))))))))), mem_unit2 rfl inb_S192x128_S8x128_56_0 y ⟨by omega, by omega⟩ ⟨by omega, by omega⟩⟩
    · replace hg : (y 0).val / 8 = 8 := hg
      exact ⟨_, .tail _ (.tail _ (.tail _ (.tail _ (.tail _ (.tail _ (.tail _ (.tail _ (.tail _ (.tail _ (.tail _ (.tail _ (.tail _ (.tail _ (.tail _ (.head _))))))))))))))), mem_unit2 rfl inb_S192x128_S8x128_64_0 y ⟨by omega, by omega⟩ ⟨by omega, by omega⟩⟩
    · replace hg : (y 0).val / 8 = 9 := hg
      exact ⟨_, .tail _ (.tail _ (.tail _ (.tail _ (.tail _ (.tail _ (.tail _ (.tail _ (.tail _ (.tail _ (.tail _ (.tail _ (.tail _ (.tail _ (.head _)))))))))))))), mem_unit2 rfl inb_S192x128_S8x128_72_0 y ⟨by omega, by omega⟩ ⟨by omega, by omega⟩⟩
    · replace hg : (y 0).val / 8 = 10 := hg
      exact ⟨_, .tail _ (.tail _ (.tail _ (.tail _ (.tail _ (.tail _ (.tail _ (.tail _ (.tail _ (.tail _ (.tail _ (.tail _ (.tail _ (.head _))))))))))))), mem_unit2 rfl inb_S192x128_S8x128_80_0 y ⟨by omega, by omega⟩ ⟨by omega, by omega⟩⟩
    · replace hg : (y 0).val / 8 = 11 := hg
      exact ⟨_, .tail _ (.tail _ (.tail _ (.tail _ (.tail _ (.tail _ (.tail _ (.tail _ (.tail _ (.tail _ (.tail _ (.tail _ (.head _)))))))))))), mem_unit2 rfl inb_S192x128_S8x128_88_0 y ⟨by omega, by omega⟩ ⟨by omega, by omega⟩⟩
    · replace hg : (y 0).val / 8 = 12 := hg
      exact ⟨_, .tail _ (.tail _ (.tail _ (.tail _ (.tail _ (.tail _ (.tail _ (.tail _ (.tail _ (.tail _ (.tail _ (.head _))))))))))), mem_unit2 rfl inb_S192x128_S8x128_96_0 y ⟨by omega, by omega⟩ ⟨by omega, by omega⟩⟩
    · replace hg : (y 0).val / 8 = 13 := hg
      exact ⟨_, .tail _ (.tail _ (.tail _ (.tail _ (.tail _ (.tail _ (.tail _ (.tail _ (.tail _ (.tail _ (.head _)))))))))), mem_unit2 rfl inb_S192x128_S8x128_104_0 y ⟨by omega, by omega⟩ ⟨by omega, by omega⟩⟩
    · replace hg : (y 0).val / 8 = 14 := hg
      exact ⟨_, .tail _ (.tail _ (.tail _ (.tail _ (.tail _ (.tail _ (.tail _ (.tail _ (.tail _ (.head _))))))))), mem_unit2 rfl inb_S192x128_S8x128_112_0 y ⟨by omega, by omega⟩ ⟨by omega, by omega⟩⟩
    · replace hg : (y 0).val / 8 = 15 := hg
      exact ⟨_, .tail _ (.tail _ (.tail _ (.tail _ (.tail _ (.tail _ (.tail _ (.tail _ (.head _)))))))), mem_unit2 rfl inb_S192x128_S8x128_120_0 y ⟨by omega, by omega⟩ ⟨by omega, by omega⟩⟩
    · replace hg : (y 0).val / 8 = 16 := hg
      exact ⟨_, .tail _ (.tail _ (.tail _ (.tail _ (.tail _ (.tail _ (.tail _ (.head _))))))), mem_unit2 rfl inb_S192x128_S8x128_128_0 y ⟨by omega, by omega⟩ ⟨by omega, by omega⟩⟩
    · replace hg : (y 0).val / 8 = 17 := hg
      exact ⟨_, .tail _ (.tail _ (.tail _ (.tail _ (.tail _ (.tail _ (.head _)))))), mem_unit2 rfl inb_S192x128_S8x128_136_0 y ⟨by omega, by omega⟩ ⟨by omega, by omega⟩⟩
    · replace hg : (y 0).val / 8 = 18 := hg
      exact ⟨_, .tail _ (.tail _ (.tail _ (.tail _ (.tail _ (.head _))))), mem_unit2 rfl inb_S192x128_S8x128_144_0 y ⟨by omega, by omega⟩ ⟨by omega, by omega⟩⟩
    · replace hg : (y 0).val / 8 = 19 := hg
      exact ⟨_, .tail _ (.tail _ (.tail _ (.tail _ (.head _)))), mem_unit2 rfl inb_S192x128_S8x128_152_0 y ⟨by omega, by omega⟩ ⟨by omega, by omega⟩⟩
    · replace hg : (y 0).val / 8 = 20 := hg
      exact ⟨_, .tail _ (.tail _ (.tail _ (.head _))), mem_unit2 rfl inb_S192x128_S8x128_160_0 y ⟨by omega, by omega⟩ ⟨by omega, by omega⟩⟩
    · replace hg : (y 0).val / 8 = 21 := hg
      exact ⟨_, .tail _ (.tail _ (.head _)), mem_unit2 rfl inb_S192x128_S8x128_168_0 y ⟨by omega, by omega⟩ ⟨by omega, by omega⟩⟩
    · replace hg : (y 0).val / 8 = 22 := hg
      exact ⟨_, .tail _ (.head _), mem_unit2 rfl inb_S192x128_S8x128_176_0 y ⟨by omega, by omega⟩ ⟨by omega, by omega⟩⟩
    · replace hg : (y 0).val / 8 = 23 := hg
      exact ⟨_, .head _, mem_unit2 rfl inb_S192x128_S8x128_184_0 y ⟨by omega, by omega⟩ ⟨by omega, by omega⟩⟩

end Values

/-- Before trip `k` of the first matrix product's loop. -/
def iZ (c : Dev nD) (q1 : PosShare TreeShare) (w1 : Vec F S8192x2048 .fp8e4m3) (w1s : Vec F S1x2048 .f32) (wh ww : Vec F S3x2048 .bf16)
    (f14 : Vec F S192x8192 .fp8e4m3) (f22 : Vec F S192x128 .f32) (k : ℕ) (_ : PUnit) : sProp 𝕄 :=
  iprop(Ring.AtW (ΦW1 c w1) (stN 2 1 k) ∗ ((Memref.whole cc0_scratch1).view.loc (c : Th) ↦{q1} f14) ∗ ((Memref.whole cc0_scratch9).view.loc (c : Th) ↦{fullShare} f22) ∗ ((Memref.whole cc0_scratch3).view.loc (c : Th) ↦{fullShare} w1s) ∗ ((Memref.whole cc0_scratch4).view.loc (c : Th) ↦{fullShare} wh) ∗ ((Memref.whole cc0_scratch5).view.loc (c : Th) ↦{fullShare} ww)
    ∗ (∃ f24, ⌜okZ w1 w1s wh ww f14 f22 k f24⌝ ∗ ((Memref.whole cc0_scratch11).view.loc (c : Th) ↦{fullShare} f24)) ∗ (∃ f25, ⌜f25 = ZM w1 w1s wh ww f14 f22 k⌝ ∗ ((Memref.whole cc0_scratch12).view.loc (c : Th) ↦{fullShare} f25)) ∗ ∃ W, owes (c : Th) 0 W)

set_option maxHeartbeats 1000000 in
set_option warn.classDefReducibility false in
def invZ (c : Dev nD) (q1 : PosShare TreeShare) (v54 : IVec S8x128 32) (v87 : Vec F S8x128 .f32) (v88 : IVec S8x128 32) (w1 : Vec F S8192x2048 .fp8e4m3) (w1s : Vec F S1x2048 .f32) (wh ww : Vec F S3x2048 .bf16)
    (f14 : Vec F S192x8192 .fp8e4m3) (f22 : Vec F S192x128 .f32) :
    LoopInv (M := 𝕄) frame (wpE (defs₀ (F := F)) Variants.none (c : Th) none) Set.univ k0_t5_loop.lb k0_t5_loop.ub k0_t5_loop.st k0_t5_ok ()
      (k0_t5_body (F := F) (Memref.whole main_v1) (iw _) (Memref.whole main_arg1) (iw _) (Memref.whole main_v2) (iw _) (Memref.whole main_arg3) (iw _) (Memref.whole main_arg4) (iw _) (Memref.whole main_arg5) (iw _) (Memref.whole main_v3) (iw _) (Memref.whole main_v4) (iw _) (Memref.whole main_v5_0) (iw _) (Memref.whole main_v5_1) (iw _) (Memref.whole main_v5_2) (iw _) (Memref.whole main_v5_3) (iw _) (Memref.whole main_v5_4) (iw _) (Memref.whole cc0_scratch0) (iw _) (Memref.whole cc0_scratch1) (iw _) (Memref.whole cc0_scratch2) (iw _) (Memref.whole cc0_scratch3) (iw _) (Memref.whole cc0_scratch4) (iw _) (Memref.whole cc0_scratch5) (iw _) (Memref.whole cc0_scratch6) (iw _) (Memref.whole cc0_scratch7) (iw _) (Memref.whole cc0_scratch8) (iw _) (Memref.whole cc0_scratch9) (iw _) (Memref.whole cc0_scratch10) (iw _) (Memref.whole cc0_scratch11) (iw _) (Memref.whole cc0_scratch12) (iw _) (Memref.whole cc0_scratch13) (iw _) (Memref.whole cc0_scratch14) (iw _) (Memref.whole cc0_scratch15) (iw _) (Memref.whole cc0_scratch16) (iw _) cc0_scratch17 cc0_scratch18 cc0_scratch19 cc0_scratch20 cc0_scratch21 cc0_scratch22 cc0_scratch23 cc0_scratch24 cc0_scratch25 cc0_scratch26 cc0_scratch27 cc0_scratch28 cc0_scratch29 v54 v87 v88) where
  inv k _ := iprop(Ring.AtW (ΦW1 c w1) (stN 2 1 k) ∗ ((Memref.whole cc0_scratch1).view.loc (c : Th) ↦{q1} f14) ∗ ((Memref.whole cc0_scratch9).view.loc (c : Th) ↦{fullShare} f22) ∗ ((Memref.whole cc0_scratch3).view.loc (c : Th) ↦{fullShare} w1s) ∗ ((Memref.whole cc0_scratch4).view.loc (c : Th) ↦{fullShare} wh) ∗ ((Memref.whole cc0_scratch5).view.loc (c : Th) ↦{fullShare} ww)
    ∗ (∃ f24, ⌜okZ w1 w1s wh ww f14 f22 k f24⌝ ∗ ((Memref.whole cc0_scratch11).view.loc (c : Th) ↦{fullShare} f24)) ∗ (∃ f25, ⌜f25 = ZM w1 w1s wh ww f14 f22 k⌝ ∗ ((Memref.whole cc0_scratch12).view.loc (c : Th) ↦{fullShare} f25)) ∗ ∃ W, owes (c : Th) 0 W)
  step k _ := by
    have hs := stN_succ 2 1 (ixW1w k)
    rw [show (ixW1w k).val = k.val from rfl] at hs
    rw [← hs, Ring.AtW_focus (ΦW1 c w1) (stN 2 1 k.val) (ixW1w k), AtW_put (ΦW1 c w1) (stN 2 1 k.val) (ixW1w k) 2, stN_self 2 1 (ixW1w k),
      ΦW1_at_w, ΦoW1_1, ΦW1_at_w, ΦoW1_2]
    iintro ⟨⟨⟨Hs, Htok⟩, Hrest⟩, H14, H22, H16, H17, H18, ⟨%f24, %h24, H24⟩, ⟨%f25, %h25, H25⟩, %W, HO⟩
    unfold k0_t5_body
    sl_exec
    sl_step
    isplitl [Hs Htok Hs_dst Hrest]
    · isplitl [Hs Htok Hs_dst]
      · isplitl [Hs]
        · iexact Hs
        isplitl [Hs_dst]
        · iexact Hs_dst
        iexact Htok
      iexact Hrest
    isplitl [H14]
    · iexact H14
    isplitl [H22]
    · iexact H22
    isplitl [H16]
    · iexact H16
    isplitl [H17]
    · iexact H17
    isplitl [H18]
    · iexact H18
    isplitl [H24]
    · iexists _
      isplitr
      swap
      · iexact H24
      · ipureintro
        exact okZ_step w1 w1s wh ww f14 f22 k f24 h24
    isplitl [H25]
    · iexists _
      isplitr
      swap
      · iexact H25
      · ipureintro
        subst h25
        exact okM_step w1 w1s wh ww f14 f22 k
    iexists _
    iexact HO

end Cert.Kernel.Hand
-- ==== Proof.KernelHand.L6.lean ====
module

public import proofs.«01_k».proof.Proof.KernelHand.L5

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The proof's user algebra: the pipeline library's beside the transfers' counters. -/
local notation "𝕄" => MT nD τ sig Unit (Elt F) ℕ (Pipeline.UD sig nD τ) ℕ

/-! ## The second product: what loop `t6` computes and copies out -/

/-- A block of the staging buffer of `y`, -/
def slotY (o : Fin 4 → Nat) (h : ∀ a, o a + S1x24x8x1024.size a ≤ S7x24x8x1024.size a) : Memref sig .tc .vmem S24x8x1024 .bf16 :=
  ((Memref.whole cc0_scratch16).slice (Rect.unit (s := S7x24x8x1024) o S1x24x8x1024.size h) (fun _ => rfl)).squeeze S24x8x1024 squeezes_S1x24x8x1024_S24x8x1024

/-- and the block of `y` it is copied to. -/
def dstY (o : Fin 3 → Nat) (h : ∀ a, o a + S24x8x1024.size a ≤ S24x8x7168.size a) : Memref sig .tc .hbm S24x8x1024 .bf16 :=
  (Memref.whole main_v5_0).slice (Rect.unit (s := S24x8x7168) o S24x8x1024.size h) (fun _ => rfl)

theorem slotY_set (o : Fin 4 → Nat) (h : ∀ a, o a + S1x24x8x1024.size a ≤ S7x24x8x1024.size a) :
    (slotY o h).view.set = (Rect.unit (s := S7x24x8x1024) o S1x24x8x1024.size h).set := by
  unfold slotY; exact (View.set_reshape _ _).trans (View.set_slice_whole _ _)

theorem dstY_set (o : Fin 3 → Nat) (h : ∀ a, o a + S24x8x1024.size a ≤ S24x8x7168.size a) :
    (dstY o h).view.set = (Rect.unit (s := S24x8x7168) o S24x8x1024.size h).set := by
  unfold dstY; exact View.set_slice_whole _ _

/-- A group of a block lies in the block. -/
theorem inY {o o' : Fin 4 → Nat} {k g : ℕ} (ho : o = ![k, g, 0, 0]) (ho' : o' = ![k, 0, 0, 0]) (hg : g + 1 ≤ 24)
    (h : ∀ a, o a + S1x1x8x1024.size a ≤ S7x24x8x1024.size a) (h' : ∀ a, o' a + S1x24x8x1024.size a ≤ S7x24x8x1024.size a) :
    (Rect.unit (s := S7x24x8x1024) o S1x1x8x1024.size h).set ≤ (slotY o' h').view.set := by
  subst ho ho'
  rw [slotY_set]
  intro y hy
  rw [Rect.mem_set_unit] at hy ⊢
  intro a
  have := hy a
  fin_cases a
  · exact this
  · have t : g ≤ (y 1).val ∧ (y 1).val < g + 1 := this
    show 0 ≤ (y 1).val ∧ (y 1).val < 0 + 24
    omega
  · exact this
  · exact this

theorem inYa {o o' : Fin 4 → Nat} {k g : ℕ} (ho : o = ![k, g, 0, 0]) (ho' : o' = ![k, 0, 0, 0]) (hg : g + 1 ≤ 24)
    (h : ∀ a, o a + S1x1x8x1024.size a ≤ S7x24x8x1024.size a) (h' : ∀ a, o' a + S1x24x8x1024.size a ≤ S7x24x8x1024.size a) :
    LE.le (α := Finset (slotY o' h').view.ty.Idx) ((Memref.whole cc0_scratch16).access (Rect.unit (s := S7x24x8x1024) o S1x1x8x1024.size h)).set (slotY o' h').view.set :=
  (View.set_slice_whole _ _).trans_le (inY ho ho' hg h h')

theorem inYs {o o' : Fin 4 → Nat} {k g : ℕ} (ho : o = ![k, g, 0, 0]) (ho' : o' = ![k, 0, 0, 0]) (hg : g + 1 ≤ 24)
    (h : ∀ a, o a + S1x1x8x1024.size a ≤ S7x24x8x1024.size a) (h' : ∀ a, o' a + S1x24x8x1024.size a ≤ S7x24x8x1024.size a) :
    LE.le (α := Finset (slotY o' h').view.ty.Idx) (((Memref.whole cc0_scratch16).access (Rect.unit (s := S7x24x8x1024) o S1x1x8x1024.size h)).setOn Finset.univ) (slotY o' h').view.set :=
  inYa ho ho' hg h h'

theorem headY {n : ℕ} (Φ : Fin n → sProp 𝕄) (k : Fin n) :
    bigSep (Ring.rangeSet n k.val n) Φ = iprop(Φ k ∗ bigSep (Ring.rangeSet n (k.val + 1) n) Φ) :=
  Ring.bigSep_rangeSet_head k.isLt k.isLt

theorem trips6 : k0_t6_loop.trips = 7 := by decide +kernel

theorem slicesY8 (g : Fin 24) : S192x1024.Slices ![8 * g.val, 0] S8x1024 := by revert g; decide

section Values
variable (w2 : Vec F S2048x7168 .fp8e4m3) (w2s b2 : Vec F S1x7168 .f32) (f26 : Vec F S192x2048 .fp8e4m3) (f27 : Vec F S192x128 .f32) (k : Fin k0_t6_loop.trips)

/-- The trip's product. -/
def mY : FVec F S192x1024 .f32 :=
  k0_pay155 ((Memref.whole cc0_scratch13).view.readAt (Elt F) (Rect.unit (s := S192x2048) ![0, 0] S192x2048.size inb_S192x2048_S192x2048_0_0).toLoadRect f26)
    ((Memref.whole cc0_scratch6).view.readAt (Elt F) (Rect.unit (s := S7x2048x1024) (k0_off85 k) S1x2048x1024.size (k0_off85_inb k)).toLoadRect (gW2 w2))

/-- The trip's columns of the scales of `w2` and of the bias. -/
def w2sL : Vec F S1x1024 .f32 := ((Memref.whole cc0_scratch7).view.readAt (Elt F) (Rect.unit (s := S1x7168) (k0_off86 k) S1x1024.size (k0_off86_inb k)).toLoadRect w2s)
def b2L : Vec F S1x1024 .f32 := ((Memref.whole cc0_scratch8).view.readAt (Elt F) (Rect.unit (s := S1x7168) (k0_off86 k) S1x1024.size (k0_off86_inb k)).toLoadRect b2)

/-- Group `g`'s scales of `z`. -/
def syL (g : Fin 24) : Vec F S8x128 .f32 := ((Memref.whole cc0_scratch14).view.readAt (Elt F) (Rect.unit (s := S192x128) ![8 * g.val, 0] S8x128.size (inb8 g)).toLoadRect f27)

/-- Group `g` of the trip's columns of `y`, -/
def yB (g : Fin 24) : FVec F S8x1024 .bf16 :=
  truncf .bf16 (addf (mulf (mulf (extractStridedSlice S8x1024 ![8 * g.val, 0] (mY w2 f26 k) (slicesY8 g))
      (concatenate S8x1024 1 [⟨S8x128, syL f27 g⟩, ⟨S8x128, syL f27 g⟩, ⟨S8x128, syL f27 g⟩, ⟨S8x128, syL f27 g⟩, ⟨S8x128, syL f27 g⟩, ⟨S8x128, syL f27 g⟩, ⟨S8x128, syL f27 g⟩, ⟨S8x128, syL f27 g⟩]
        concatenates_S8x128_S8x128_S8x128_S8x128_S8x128_S8x128_S8x128_S8x128_S8x1024_d1))
      (broadcastTo S8x1024 (w2sL w2s k) broadcasts_S1x1024_S8x1024)) (broadcastTo S8x1024 (b2L b2 k) broadcasts_S1x1024_S8x1024)) bitsLt_bf16_f32

/-- as it is stored. -/
def yP (g : Fin 24) : FVec F S1x1x8x1024 .bf16 := shapeCast S1x1x8x1024 (yB w2 w2s b2 f26 f27 k g) shapeCasts_S8x1024_S1x1x8x1024

end Values

section Values
variable (w2 : Vec F S2048x7168 .fp8e4m3) (w2s b2 : Vec F S1x7168 .f32) (f26 : Vec F S192x2048 .fp8e4m3) (f27 : Vec F S192x128 .f32)

/-- All of the staging buffer, -/
def YV : Vec F S7x24x8x1024 .bf16 := fun i =>
  yP w2 w2s b2 f26 f27 ⟨(i 0).val, by have h : (i 0).val < 7 := (i 0).isLt; rw [trips6]; omega⟩ (i 1) (ix4 0 0 (i 2) (i 3))

/-- and all of `y`. -/
def GY : Vec F S24x8x7168 .bf16 := fun i =>
  yP w2 w2s b2 f26 f27 ⟨(i 2).val / 1024, by have h : (i 2).val < 7168 := (i 2).isLt; rw [trips6]; omega⟩ (i 0) (ix4 0 0 (i 1) ⟨(i 2).val % 1024, by omega⟩)

theorem YV_at (k : Fin k0_t6_loop.trips) (g : Fin 24) (x : S1x1x8x1024.Idx) (i : S7x24x8x1024.Idx)
    (h0 : (i 0).val = k.val + (x 0).val) (h1 : (i 1).val = g.val + (x 1).val) (h2 : (i 2).val = (x 2).val) (h3 : (i 3).val = (x 3).val) :
    YV w2 w2s b2 f26 f27 i = yP w2 w2s b2 f26 f27 k g x := by
  have x0 : (x 0).val < 1 := (x 0).isLt
  have x1 : (x 1).val < 1 := (x 1).isLt
  have e : ∀ k' g' x', k' = k → g' = g → x' = x → yP w2 w2s b2 f26 f27 k' g' x' = yP w2 w2s b2 f26 f27 k g x := by rintro _ _ _ rfl rfl rfl; rfl
  refine e _ _ _ (Fin.ext ?_) (Fin.ext ?_) (funext fun a => ?_)
  · show (i 0).val = k.val; omega
  · omega
  · fin_cases a <;> apply Fin.ext
    · show 0 = (x 0).val; omega
    · show 0 = (x 1).val; omega
    · exact h2
    · exact h3

/-- The trip's stores, last first. -/
def piecesY (k : Fin k0_t6_loop.trips) : List (View.Piece (Elt F) S7x24x8x1024 .bf16) :=
  [⟨Rect.unit (s := S7x24x8x1024) (k0_off110 k) S1x1x8x1024.size (k0_off110_inb k), yP w2 w2s b2 f26 f27 k 23⟩, ⟨Rect.unit (s := S7x24x8x1024) (k0_off109 k) S1x1x8x1024.size (k0_off109_inb k), yP w2 w2s b2 f26 f27 k 22⟩, ⟨Rect.unit (s := S7x24x8x1024) (k0_off108 k) S1x1x8x1024.size (k0_off108_inb k), yP w2 w2s b2 f26 f27 k 21⟩, ⟨Rect.unit (s := S7x24x8x1024) (k0_off107 k) S1x1x8x1024.size (k0_off107_inb k), yP w2 w2s b2 f26 f27 k 20⟩, ⟨Rect.unit (s := S7x24x8x1024) (k0_off106 k) S1x1x8x1024.size (k0_off106_inb k), yP w2 w2s b2 f26 f27 k 19⟩, ⟨Rect.unit (s := S7x24x8x1024) (k0_off105 k) S1x1x8x1024.size (k0_off105_inb k), yP w2 w2s b2 f26 f27 k 18⟩, ⟨Rect.unit (s := S7x24x8x1024) (k0_off104 k) S1x1x8x1024.size (k0_off104_inb k), yP w2 w2s b2 f26 f27 k 17⟩, ⟨Rect.unit (s := S7x24x8x1024) (k0_off103 k) S1x1x8x1024.size (k0_off103_inb k), yP w2 w2s b2 f26 f27 k 16⟩, ⟨Rect.unit (s := S7x24x8x1024) (k0_off102 k) S1x1x8x1024.size (k0_off102_inb k), yP w2 w2s b2 f26 f27 k 15⟩, ⟨Rect.unit (s := S7x24x8x1024) (k0_off101 k) S1x1x8x1024.size (k0_off101_inb k), yP w2 w2s b2 f26 f27 k 14⟩, ⟨Rect.unit (s := S7x24x8x1024) (k0_off100 k) S1x1x8x1024.size (k0_off100_inb k), yP w2 w2s b2 f26 f27 k 13⟩, ⟨Rect.unit (s := S7x24x8x1024) (k0_off99 k) S1x1x8x1024.size (k0_off99_inb k), yP w2 w2s b2 f26 f27 k 12⟩, ⟨Rect.unit (s := S7x24x8x1024) (k0_off98 k) S1x1x8x1024.size (k0_off98_inb k), yP w2 w2s b2 f26 f27 k 11⟩, ⟨Rect.unit (s := S7x24x8x1024) (k0_off97 k) S1x1x8x1024.size (k0_off97_inb k), yP w2 w2s b2 f26 f27 k 10⟩, ⟨Rect.unit (s := S7x24x8x1024) (k0_off96 k) S1x1x8x1024.size (k0_off96_inb k), yP w2 w2s b2 f26 f27 k 9⟩, ⟨Rect.unit (s := S7x24x8x1024) (k0_off95 k) S1x1x8x1024.size (k0_off95_inb k), yP w2 w2s b2 f26 f27 k 8⟩, ⟨Rect.unit (s := S7x24x8x1024) (k0_off94 k) S1x1x8x1024.size (k0_off94_inb k), yP w2 w2s b2 f26 f27 k 7⟩, ⟨Rect.unit (s := S7x24x8x1024) (k0_off93 k) S1x1x8x1024.size (k0_off93_inb k), yP w2 w2s b2 f26 f27 k 6⟩, ⟨Rect.unit (s := S7x24x8x1024) (k0_off92 k) S1x1x8x1024.size (k0_off92_inb k), yP w2 w2s b2 f26 f27 k 5⟩, ⟨Rect.unit (s := S7x24x8x1024) (k0_off91 k) S1x1x8x1024.size (k0_off91_inb k), yP w2 w2s b2 f26 f27 k 4⟩, ⟨Rect.unit (s := S7x24x8x1024) (k0_off90 k) S1x1x8x1024.size (k0_off90_inb k), yP w2 w2s b2 f26 f27 k 3⟩, ⟨Rect.unit (s := S7x24x8x1024) (k0_off89 k) S1x1x8x1024.size (k0_off89_inb k), yP w2 w2s b2 f26 f27 k 2⟩, ⟨Rect.unit (s := S7x24x8x1024) (k0_off88 k) S1x1x8x1024.size (k0_off88_inb k), yP w2 w2s b2 f26 f27 k 1⟩, ⟨Rect.unit (s := S7x24x8x1024) (k0_off87 k) S1x1x8x1024.size (k0_off87_inb k), yP w2 w2s b2 f26 f27 k 0⟩]

theorem okY (k : Fin k0_t6_loop.trips) (f : Vec F S7x24x8x1024 .bf16) (y : S7x24x8x1024.Idx) (hy : (y 0).val = k.val) :
    (Memref.whole cc0_scratch16).view.read (Elt F) ((Memref.whole cc0_scratch16).view.writes (Elt F) f (piecesY w2 w2s b2 f26 f27 k)) y = YV w2 w2s b2 f26 f27 y := by
  refine fill_step (Memref.whole cc0_scratch16).view f (piecesY w2 w2s b2 f26 f27 k) (YV w2 w2s b2 f26 f27) (fun _ => False)
    (fun y => (y 0).val = k.val) ?_ ?_ (fun y hy => hy.elim) y hy
  all_goals clear hy y
  · intro p hp
    simp only [piecesY, List.mem_cons, List.not_mem_nil, or_false] at hp
    rcases hp with rfl | rfl | rfl | rfl | rfl | rfl | rfl | rfl | rfl | rfl | rfl | rfl | rfl | rfl | rfl | rfl | rfl | rfl | rfl | rfl | rfl | rfl | rfl | rfl <;> intro x
    · exact (YV_at w2 w2s b2 f26 f27 k 23 x _ (emb_at (k0_off110_eq k) (k0_off110_inb k) x 0) (emb_at (k0_off110_eq k) (k0_off110_inb k) x 1) ((emb_at (k0_off110_eq k) (k0_off110_inb k) x 2).trans (Nat.zero_add _)) ((emb_at (k0_off110_eq k) (k0_off110_inb k) x 3).trans (Nat.zero_add _))).symm
    · exact (YV_at w2 w2s b2 f26 f27 k 22 x _ (emb_at (k0_off109_eq k) (k0_off109_inb k) x 0) (emb_at (k0_off109_eq k) (k0_off109_inb k) x 1) ((emb_at (k0_off109_eq k) (k0_off109_inb k) x 2).trans (Nat.zero_add _)) ((emb_at (k0_off109_eq k) (k0_off109_inb k) x 3).trans (Nat.zero_add _))).symm
    · exact (YV_at w2 w2s b2 f26 f27 k 21 x _ (emb_at (k0_off108_eq k) (k0_off108_inb k) x 0) (emb_at (k0_off108_eq k) (k0_off108_inb k) x 1) ((emb_at (k0_off108_eq k) (k0_off108_inb k) x 2).trans (Nat.zero_add _)) ((emb_at (k0_off108_eq k) (k0_off108_inb k) x 3).trans (Nat.zero_add _))).symm
    · exact (YV_at w2 w2s b2 f26 f27 k 20 x _ (emb_at (k0_off107_eq k) (k0_off107_inb k) x 0) (emb_at (k0_off107_eq k) (k0_off107_inb k) x 1) ((emb_at (k0_off107_eq k) (k0_off107_inb k) x 2).trans (Nat.zero_add _)) ((emb_at (k0_off107_eq k) (k0_off107_inb k) x 3).trans (Nat.zero_add _))).symm
    · exact (YV_at w2 w2s b2 f26 f27 k 19 x _ (emb_at (k0_off106_eq k) (k0_off106_inb k) x 0) (emb_at (k0_off106_eq k) (k0_off106_inb k) x 1) ((emb_at (k0_off106_eq k) (k0_off106_inb k) x 2).trans (Nat.zero_add _)) ((emb_at (k0_off106_eq k) (k0_off106_inb k) x 3).trans (Nat.zero_add _))).symm
    · exact (YV_at w2 w2s b2 f26 f27 k 18 x _ (emb_at (k0_off105_eq k) (k0_off105_inb k) x 0) (emb_at (k0_off105_eq k) (k0_off105_inb k) x 1) ((emb_at (k0_off105_eq k) (k0_off105_inb k) x 2).trans (Nat.zero_add _)) ((emb_at (k0_off105_eq k) (k0_off105_inb k) x 3).trans (Nat.zero_add _))).symm
    · exact (YV_at w2 w2s b2 f26 f27 k 17 x _ (emb_at (k0_off104_eq k) (k0_off104_inb k) x 0) (emb_at (k0_off104_eq k) (k0_off104_inb k) x 1) ((emb_at (k0_off104_eq k) (k0_off104_inb k) x 2).trans (Nat.zero_add _)) ((emb_at (k0_off104_eq k) (k0_off104_inb k) x 3).trans (Nat.zero_add _))).symm
    · exact (YV_at w2 w2s b2 f26 f27 k 16 x _ (emb_at (k0_off103_eq k) (k0_off103_inb k) x 0) (emb_at (k0_off103_eq k) (k0_off103_inb k) x 1) ((emb_at (k0_off103_eq k) (k0_off103_inb k) x 2).trans (Nat.zero_add _)) ((emb_at (k0_off103_eq k) (k0_off103_inb k) x 3).trans (Nat.zero_add _))).symm
    · exact (YV_at w2 w2s b2 f26 f27 k 15 x _ (emb_at (k0_off102_eq k) (k0_off102_inb k) x 0) (emb_at (k0_off102_eq k) (k0_off102_inb k) x 1) ((emb_at (k0_off102_eq k) (k0_off102_inb k) x 2).trans (Nat.zero_add _)) ((emb_at (k0_off102_eq k) (k0_off102_inb k) x 3).trans (Nat.zero_add _))).symm
    · exact (YV_at w2 w2s b2 f26 f27 k 14 x _ (emb_at (k0_off101_eq k) (k0_off101_inb k) x 0) (emb_at (k0_off101_eq k) (k0_off101_inb k) x 1) ((emb_at (k0_off101_eq k) (k0_off101_inb k) x 2).trans (Nat.zero_add _)) ((emb_at (k0_off101_eq k) (k0_off101_inb k) x 3).trans (Nat.zero_add _))).symm
    · exact (YV_at w2 w2s b2 f26 f27 k 13 x _ (emb_at (k0_off100_eq k) (k0_off100_inb k) x 0) (emb_at (k0_off100_eq k) (k0_off100_inb k) x 1) ((emb_at (k0_off100_eq k) (k0_off100_inb k) x 2).trans (Nat.zero_add _)) ((emb_at (k0_off100_eq k) (k0_off100_inb k) x 3).trans (Nat.zero_add _))).symm
    · exact (YV_at w2 w2s b2 f26 f27 k 12 x _ (emb_at (k0_off99_eq k) (k0_off99_inb k) x 0) (emb_at (k0_off99_eq k) (k0_off99_inb k) x 1) ((emb_at (k0_off99_eq k) (k0_off99_inb k) x 2).trans (Nat.zero_add _)) ((emb_at (k0_off99_eq k) (k0_off99_inb k) x 3).trans (Nat.zero_add _))).symm
    · exact (YV_at w2 w2s b2 f26 f27 k 11 x _ (emb_at (k0_off98_eq k) (k0_off98_inb k) x 0) (emb_at (k0_off98_eq k) (k0_off98_inb k) x 1) ((emb_at (k0_off98_eq k) (k0_off98_inb k) x 2).trans (Nat.zero_add _)) ((emb_at (k0_off98_eq k) (k0_off98_inb k) x 3).trans (Nat.zero_add _))).symm
    · exact (YV_at w2 w2s b2 f26 f27 k 10 x _ (emb_at (k0_off97_eq k) (k0_off97_inb k) x 0) (emb_at (k0_off97_eq k) (k0_off97_inb k) x 1) ((emb_at (k0_off97_eq k) (k0_off97_inb k) x 2).trans (Nat.zero_add _)) ((emb_at (k0_off97_eq k) (k0_off97_inb k) x 3).trans (Nat.zero_add _))).symm
    · exact (YV_at w2 w2s b2 f26 f27 k 9 x _ (emb_at (k0_off96_eq k) (k0_off96_inb k) x 0) (emb_at (k0_off96_eq k) (k0_off96_inb k) x 1) ((emb_at (k0_off96_eq k) (k0_off96_inb k) x 2).trans (Nat.zero_add _)) ((emb_at (k0_off96_eq k) (k0_off96_inb k) x 3).trans (Nat.zero_add _))).symm
    · exact (YV_at w2 w2s b2 f26 f27 k 8 x _ (emb_at (k0_off95_eq k) (k0_off95_inb k) x 0) (emb_at (k0_off95_eq k) (k0_off95_inb k) x 1) ((emb_at (k0_off95_eq k) (k0_off95_inb k) x 2).trans (Nat.zero_add _)) ((emb_at (k0_off95_eq k) (k0_off95_inb k) x 3).trans (Nat.zero_add _))).symm
    · exact (YV_at w2 w2s b2 f26 f27 k 7 x _ (emb_at (k0_off94_eq k) (k0_off94_inb k) x 0) (emb_at (k0_off94_eq k) (k0_off94_inb k) x 1) ((emb_at (k0_off94_eq k) (k0_off94_inb k) x 2).trans (Nat.zero_add _)) ((emb_at (k0_off94_eq k) (k0_off94_inb k) x 3).trans (Nat.zero_add _))).symm
    · exact (YV_at w2 w2s b2 f26 f27 k 6 x _ (emb_at (k0_off93_eq k) (k0_off93_inb k) x 0) (emb_at (k0_off93_eq k) (k0_off93_inb k) x 1) ((emb_at (k0_off93_eq k) (k0_off93_inb k) x 2).trans (Nat.zero_add _)) ((emb_at (k0_off93_eq k) (k0_off93_inb k) x 3).trans (Nat.zero_add _))).symm
    · exact (YV_at w2 w2s b2 f26 f27 k 5 x _ (emb_at (k0_off92_eq k) (k0_off92_inb k) x 0) (emb_at (k0_off92_eq k) (k0_off92_inb k) x 1) ((emb_at (k0_off92_eq k) (k0_off92_inb k) x 2).trans (Nat.zero_add _)) ((emb_at (k0_off92_eq k) (k0_off92_inb k) x 3).trans (Nat.zero_add _))).symm
    · exact (YV_at w2 w2s b2 f26 f27 k 4 x _ (emb_at (k0_off91_eq k) (k0_off91_inb k) x 0) (emb_at (k0_off91_eq k) (k0_off91_inb k) x 1) ((emb_at (k0_off91_eq k) (k0_off91_inb k) x 2).trans (Nat.zero_add _)) ((emb_at (k0_off91_eq k) (k0_off91_inb k) x 3).trans (Nat.zero_add _))).symm
    · exact (YV_at w2 w2s b2 f26 f27 k 3 x _ (emb_at (k0_off90_eq k) (k0_off90_inb k) x 0) (emb_at (k0_off90_eq k) (k0_off90_inb k) x 1) ((emb_at (k0_off90_eq k) (k0_off90_inb k) x 2).trans (Nat.zero_add _)) ((emb_at (k0_off90_eq k) (k0_off90_inb k) x 3).trans (Nat.zero_add _))).symm
    · exact (YV_at w2 w2s b2 f26 f27 k 2 x _ (emb_at (k0_off89_eq k) (k0_off89_inb k) x 0) (emb_at (k0_off89_eq k) (k0_off89_inb k) x 1) ((emb_at (k0_off89_eq k) (k0_off89_inb k) x 2).trans (Nat.zero_add _)) ((emb_at (k0_off89_eq k) (k0_off89_inb k) x 3).trans (Nat.zero_add _))).symm
    · exact (YV_at w2 w2s b2 f26 f27 k 1 x _ (emb_at (k0_off88_eq k) (k0_off88_inb k) x 0) (emb_at (k0_off88_eq k) (k0_off88_inb k) x 1) ((emb_at (k0_off88_eq k) (k0_off88_inb k) x 2).trans (Nat.zero_add _)) ((emb_at (k0_off88_eq k) (k0_off88_inb k) x 3).trans (Nat.zero_add _))).symm
    · exact (YV_at w2 w2s b2 f26 f27 k 0 x _ (emb_at (k0_off87_eq k) (k0_off87_inb k) x 0) (emb_at (k0_off87_eq k) (k0_off87_inb k) x 1) ((emb_at (k0_off87_eq k) (k0_off87_inb k) x 2).trans (Nat.zero_add _)) ((emb_at (k0_off87_eq k) (k0_off87_inb k) x 3).trans (Nat.zero_add _))).symm
  · intro y hy
    right
    have y1 : (y 1).val < 24 := (y 1).isLt
    have hg : ∃ g : Fin 24, (y 1).val = g.val := ⟨⟨(y 1).val, by omega⟩, rfl⟩
    obtain ⟨g, hg⟩ := hg
    unfold piecesY
    have hm : ∀ (o : Fin 4 → ℕ) (g : ℕ) (e : o = ![k.val, g, 0, 0]) (h : ∀ a, o a + S1x1x8x1024.size a ≤ S7x24x8x1024.size a), (y 1).val = g →
        y ∈ (Rect.unit (s := S7x24x8x1024) o S1x1x8x1024.size h).set := by
      rintro o g e h hg
      subst e
      rw [Rect.mem_set_unit]
      have y2 : (y 2).val < 8 := (y 2).isLt
      have y3 : (y 3).val < 1024 := (y 3).isLt
      intro a
      fin_cases a
      · show k.val ≤ (y 0).val ∧ (y 0).val < k.val + 1; omega
      · show g ≤ (y 1).val ∧ (y 1).val < g + 1; omega
      · show 0 ≤ (y 2).val ∧ (y 2).val < 0 + 8; omega
      · show 0 ≤ (y 3).val ∧ (y 3).val < 0 + 1024; omega
    fin_cases g
    · exact ⟨_, .tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))), hm _ 0 (k0_off87_eq k) (k0_off87_inb k) hg⟩
    · exact ⟨_, .tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))), hm _ 1 (k0_off88_eq k) (k0_off88_inb k) hg⟩
    · exact ⟨_, .tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))), hm _ 2 (k0_off89_eq k) (k0_off89_inb k) hg⟩
    · exact ⟨_, .tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))), hm _ 3 (k0_off90_eq k) (k0_off90_inb k) hg⟩
    · exact ⟨_, .tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))), hm _ 4 (k0_off91_eq k) (k0_off91_inb k) hg⟩
    · exact ⟨_, .tail _ (.tail _ (.tail _ (.tail _ (.tail _ (.tail _ (.tail _ (.tail _ (.tail _ (.tail _ (.tail _ (.tail _ (.tail _ (.tail _ (.tail _ (.tail _ (.tail _ (.tail _ (.head _)))))))))))))))))), hm _ 5 (k0_off92_eq k) (k0_off92_inb k) hg⟩
    · exact ⟨_, .tail _ (.tail _ (.tail _ (.tail _ (.tail _ (.tail _ (.tail _ (.tail _ (.tail _ (.tail _ (.tail _ (.tail _ (.tail _ (.tail _ (.tail _ (.tail _ (.tail _ (.head _))))))))))))))))), hm _ 6 (k0_off93_eq k) (k0_off93_inb k) hg⟩
    · exact ⟨_, .tail _ (.tail _ (.tail _ (.tail _ (.tail _ (.tail _ (.tail _ (.tail _ (.tail _ (.tail _ (.tail _ (.tail _ (.tail _ (.tail _ (.tail _ (.tail _ (.head _)))))))))))))))), hm _ 7 (k0_off94_eq k) (k0_off94_inb k) hg⟩
    · exact ⟨_, .tail _ (.tail _ (.tail _ (.tail _ (.tail _ (.tail _ (.tail _ (.tail _ (.tail _ (.tail _ (.tail _ (.tail _ (.tail _ (.tail _ (.tail _ (.head _))))))))))))))), hm _ 8 (k0_off95_eq k) (k0_off95_inb k) hg⟩
    · exact ⟨_, .tail _ (.tail _ (.tail _ (.tail _ (.tail _ (.tail _ (.tail _ (.tail _ (.tail _ (.tail _ (.tail _ (.tail _ (.tail _ (.tail _ (.head _)))))))))))))), hm _ 9 (k0_off96_eq k) (k0_off96_inb k) hg⟩
    · exact ⟨_, .tail _ (.tail _ (.tail _ (.tail _ (.tail _ (.tail _ (.tail _ (.tail _ (.tail _ (.tail _ (.tail _ (.tail _ (.tail _ (.head _))))))))))))), hm _ 10 (k0_off97_eq k) (k0_off97_inb k) hg⟩
    · exact ⟨_, .tail _ (.tail _ (.tail _ (.tail _ (.tail _ (.tail _ (.tail _ (.tail _ (.tail _ (.tail _ (.tail _ (.tail _ (.head _)))))))))))), hm _ 11 (k0_off98_eq k) (k0_off98_inb k) hg⟩
    · exact ⟨_, .tail _ (.tail _ (.tail _ (.tail _ (.tail _ (.tail _ (.tail _ (.tail _ (.tail _ (.tail _ (.tail _ (.head _))))))))))), hm _ 12 (k0_off99_eq k) (k0_off99_inb k) hg⟩
    · exact ⟨_, .tail _ (.tail _ (.tail _ (.tail _ (.tail _ (.tail _ (.tail _ (.tail _ (.tail _ (.tail _ (.head _)))))))))), hm _ 13 (k0_off100_eq k) (k0_off100_inb k) hg⟩
    · exact ⟨_, .tail _ (.tail _ (.tail _ (.tail _ (.tail _ (.tail _ (.tail _ (.tail _ (.tail _ (.head _))))))))), hm _ 14 (k0_off101_eq k) (k0_off101_inb k) hg⟩
    · exact ⟨_, .tail _ (.tail _ (.tail _ (.tail _ (.tail _ (.tail _ (.tail _ (.tail _ (.head _)))))))), hm _ 15 (k0_off102_eq k) (k0_off102_inb k) hg⟩
    · exact ⟨_, .tail _ (.tail _ (.tail _ (.tail _ (.tail _ (.tail _ (.tail _ (.head _))))))), hm _ 16 (k0_off103_eq k) (k0_off103_inb k) hg⟩
    · exact ⟨_, .tail _ (.tail _ (.tail _ (.tail _ (.tail _ (.tail _ (.head _)))))), hm _ 17 (k0_off104_eq k) (k0_off104_inb k) hg⟩
    · exact ⟨_, .tail _ (.tail _ (.tail _ (.tail _ (.tail _ (.head _))))), hm _ 18 (k0_off105_eq k) (k0_off105_inb k) hg⟩
    · exact ⟨_, .tail _ (.tail _ (.tail _ (.tail _ (.head _)))), hm _ 19 (k0_off106_eq k) (k0_off106_inb k) hg⟩
    · exact ⟨_, .tail _ (.tail _ (.tail _ (.head _))), hm _ 20 (k0_off107_eq k) (k0_off107_inb k) hg⟩
    · exact ⟨_, .tail _ (.tail _ (.head _)), hm _ 21 (k0_off108_eq k) (k0_off108_inb k) hg⟩
    · exact ⟨_, .tail _ (.head _), hm _ 22 (k0_off109_eq k) (k0_off109_inb k) hg⟩
    · exact ⟨_, .head _, hm _ 23 (k0_off110_eq k) (k0_off110_inb k) hg⟩

/-- What a block's copy carries. -/
theorem read_slotY (k : Fin k0_t6_loop.trips) (y : S24x8x1024.Idx) {o : Fin 4 → ℕ} (e : o = ![k.val, 0, 0, 0]) (h) {o' : Fin 3 → ℕ} (e' : o' = ![0, 0, 1024 * k.val]) (h') :
    (slotY o h).view.read (Elt F) (YV w2 w2s b2 f26 f27) y = (dstY o' h').view.read (Elt F) (GY w2 w2s b2 f26 f27) y := by
  subst e e'
  have hk : k.val < 7 := trips6 ▸ k.isLt
  have y2 : (y 2).val < 1024 := (y 2).isLt
  have e : (slotY ![k.val, 0, 0, 0] h).view.emb y = ix4 ⟨k.val, hk⟩ (y 0) (y 1) (y 2) := by
    show (Rect.unit (s := S7x24x8x1024) ![k.val, 0, 0, 0] S1x24x8x1024.size h).emb (Shape.reshapeEquiv _ y) = _
    rw [show Shape.reshapeEquiv _ y = (Fin.cons (0 : Fin 1) y : S1x24x8x1024.Idx) from Shape.reshapeEquiv_cons_one _ _]
    funext a
    apply Fin.ext
    fin_cases a
    · show k.val + 1 * 0 = k.val; omega
    · show 0 + 1 * (y 0).val = (y 0).val; omega
    · show 0 + 1 * (y 1).val = (y 1).val; omega
    · show 0 + 1 * (y 2).val = (y 2).val; omega
  show YV w2 w2s b2 f26 f27 ((slotY ![k.val, 0, 0, 0] h).view.emb y) = GY w2 w2s b2 f26 f27 ((Rect.unit (s := S24x8x7168) ![0, 0, 1024 * k.val] S24x8x1024.size h').emb y)
  rw [e]
  unfold YV GY
  have e : ∀ k₁ k₂ g₁ g₂ x₁ x₂, k₁ = k₂ → g₁ = g₂ → x₁ = x₂ → yP w2 w2s b2 f26 f27 k₁ g₁ x₁ = yP w2 w2s b2 f26 f27 k₂ g₂ x₂ := by rintro _ _ _ _ _ _ rfl rfl rfl; rfl
  refine e _ _ _ _ _ _ (Fin.ext ?_) (Fin.ext ?_) (funext fun a => ?_)
  · show k.val = (1024 * k.val + 1 * (y 2).val) / 1024; omega
  · show (y 0).val = 0 + 1 * (y 0).val; omega
  · fin_cases a <;> apply Fin.ext
    · rfl
    · rfl
    · show (y 1).val = 0 + 1 * (y 1).val; omega
    · show (y 2).val = (1024 * k.val + 1 * (y 2).val) % 1024; omega

end Values

/-- The block of `y` that trip `k` fills, at some contents, -/
def dY (c : Dev nD) (k : Fin k0_t6_loop.trips) : sProp 𝕄 :=
  iprop(∃ g, (dstY (k0_off111 k) (k0_off111_inb k)).view.loc (c : Th) ↦[(dstY (k0_off111 k) (k0_off111_inb k)).view.set]{fullShare} g)

/-- and the slot it fills it from. -/
def sY (c : Dev nD) (k : Fin k0_t6_loop.trips) : sProp 𝕄 :=
  iprop(∃ g, (slotY (k0_off112 k) (k0_off112_inb k)).view.loc (c : Th) ↦[(slotY (k0_off112 k) (k0_off112_inb k)).view.set]{fullShare} g)

/-- What trip `k`'s copy delivers. -/
def DY (c : Dev nD) (w2 : Vec F S2048x7168 .fp8e4m3) (w2s b2 : Vec F S1x7168 .f32) (f26 : Vec F S192x2048 .fp8e4m3) (f27 : Vec F S192x128 .f32) (k : Fin k0_t6_loop.trips) : sProp 𝕄 :=
  iprop(((dstY (k0_off111 k) (k0_off111_inb k)).view.loc (c : Th) ↦[(dstY (k0_off111 k) (k0_off111_inb k)).view.set]{fullShare} GY w2 w2s b2 f26 f27)
    ∗ (slotY (k0_off112 k) (k0_off112_inb k)).view.loc (c : Th) ↦[(slotY (k0_off112 k) (k0_off112_inb k)).view.set]{fullShare} YV w2 w2s b2 f26 f27)

instance (c : Dev nD) (w2 : Vec F S2048x7168 .fp8e4m3) (w2s b2 : Vec F S1x7168 .f32) (f26 : Vec F S192x2048 .fp8e4m3) (f27 : Vec F S192x128 .f32) (k : Fin k0_t6_loop.trips) : BI.Storable (upEmb : UEmb _ 𝕄) (DY c w2 w2s b2 f26 f27 k) := by
  unfold DY
  have h : ∀ (g : Buf (Elt F) ((dstY (k0_off111 k) (k0_off111_inb k)).view.loc (c : Th))) (g' : Buf (Elt F) ((slotY (k0_off112 k) (k0_off112_inb k)).view.loc (c : Th))),
      BI.Storable (upEmb : UEmb _ 𝕄) (iprop(((dstY (k0_off111 k) (k0_off111_inb k)).view.loc (c : Th) ↦[(dstY (k0_off111 k) (k0_off111_inb k)).view.set]{fullShare} g)
        ∗ (slotY (k0_off112 k) (k0_off112_inb k)).view.loc (c : Th) ↦[(slotY (k0_off112 k) (k0_off112_inb k)).view.set]{fullShare} g')) := fun _ _ => inferInstance
  exact h _ _

theorem DY_of (c : Dev nD) (w2 : Vec F S2048x7168 .fp8e4m3) (w2s b2 : Vec F S1x7168 .f32) (f26 : Vec F S192x2048 .fp8e4m3) (f27 : Vec F S192x128 .f32) (k : Fin k0_t6_loop.trips) (g : Vec F S24x8x7168 .bf16) :
    iprop(((dstY (k0_off111 k) (k0_off111_inb k)).view.loc (c : Th) ↦[(dstY (k0_off111 k) (k0_off111_inb k)).view.set]{fullShare}
        (dstY (k0_off111 k) (k0_off111_inb k)).view.writes (Elt F) g [⟨Rect.whole S24x8x1024, (slotY (k0_off112 k) (k0_off112_inb k)).view.read (Elt F) (YV w2 w2s b2 f26 f27)⟩])
      ∗ (slotY (k0_off112 k) (k0_off112_inb k)).view.loc (c : Th) ↦[(slotY (k0_off112 k) (k0_off112_inb k)).view.set]{fullShare} YV w2 w2s b2 f26 f27)
    ⊢ DY c w2 w2s b2 f26 f27 k := by
  unfold DY
  exact sep_mono (Entails.of_eq (landed c (dstY (k0_off111 k) (k0_off111_inb k)) fullShare g (GY w2 w2s b2 f26 f27) ((slotY (k0_off112 k) (k0_off112_inb k)).view.read (Elt F) (YV w2 w2s b2 f26 f27)) fun y => read_slotY w2 w2s b2 f26 f27 k y (k0_off112_eq k) (k0_off112_inb k) (k0_off111_eq k) (k0_off111_inb k))) .rfl

/-- A filled slot holds its part of the staging buffer's contents. -/
theorem slotY_of (c : Dev nD) (w2 : Vec F S2048x7168 .fp8e4m3) (w2s b2 : Vec F S1x7168 .f32) (f26 : Vec F S192x2048 .fp8e4m3) (f27 : Vec F S192x128 .f32) (k : Fin k0_t6_loop.trips) (f f' : Vec F S7x24x8x1024 .bf16)
    (hf : f' = (Memref.whole cc0_scratch16).view.writes (Elt F) f (piecesY w2 w2s b2 f26 f27 k)) :
    ((slotY (k0_off112 k) (k0_off112_inb k)).view.loc (c : Th) ↦[(slotY (k0_off112 k) (k0_off112_inb k)).view.set]{fullShare} f' : sProp 𝕄)
      ⊢ ((slotY (k0_off112 k) (k0_off112_inb k)).view.loc (c : Th) ↦[(slotY (k0_off112 k) (k0_off112_inb k)).view.set]{fullShare} YV w2 w2s b2 f26 f27) :=
  Entails.of_eq (pointsTo_congr fun i hi => (congrArg (fun f => (Memref.whole cc0_scratch16).view.read (Elt F) f i) hf).trans (okY w2 w2s b2 f26 f27 k f i (by
    change S7x24x8x1024.Idx at i
    have hi : i ∈ (Rect.unit (s := S7x24x8x1024) (k0_off112 k) S1x24x8x1024.size (k0_off112_inb k)).set := slotY_set _ (k0_off112_inb k) ▸ hi
    have h0 := (Rect.mem_set_unit.mp hi) 0
    rw [k0_off112_eq] at h0
    have t : k.val ≤ ((i : S7x24x8x1024.Idx) 0).val ∧ ((i : S7x24x8x1024.Idx) 0).val < k.val + 1 := h0
    show ((i : S7x24x8x1024.Idx) 0).val = k.val
    omega)))

/-- A buffer's contents under a name. -/
theorem nameY (c : Dev nD) (k : Fin k0_t6_loop.trips) (f : Vec F S7x24x8x1024 .bf16) :
    ((slotY (k0_off112 k) (k0_off112_inb k)).view.loc (c : Th) ↦[(slotY (k0_off112 k) (k0_off112_inb k)).view.set]{fullShare} f : sProp 𝕄)
      ⊢ iprop(∃ f' : Vec F S7x24x8x1024 .bf16, ⌜f' = f⌝ ∗ (slotY (k0_off112 k) (k0_off112_inb k)).view.loc (c : Th) ↦[(slotY (k0_off112 k) (k0_off112_inb k)).view.set]{fullShare} f') := by
  iintro H
  iexists f
  isplitr
  · ipureintro; rfl
  · iexact H

abbrev cellY : SemLoc sig := SemLoc.dma (cc0_scratch29).sem

def batchY (c : Dev nD) (w2 : Vec F S2048x7168 .fp8e4m3) (w2s b2 : Vec F S1x7168 .f32) (f26 : Vec F S192x2048 .fp8e4m3) (f27 : Vec F S192x128 .f32) (j u : ℕ) : sProp 𝕄 :=
  Transfers.Batch (countersEmb (U := Pipeline.UD sig nD τ)) (c : Th) cellY () 12288 (DY c w2 w2s b2 f26 f27) j u

/-- Before trip `k` of the second matrix product's loop. -/
def iY (c : Dev nD) (q13 : PosShare TreeShare) (w2 : Vec F S2048x7168 .fp8e4m3) (w2s b2 : Vec F S1x7168 .f32) (f26 : Vec F S192x2048 .fp8e4m3) (f27 : Vec F S192x128 .f32) (k : ℕ) (_ : PUnit) : sProp 𝕄 :=
  iprop(Ring.AtW (ΦW2 c w2) (stN 2 1 k) ∗ ((Memref.whole cc0_scratch13).view.loc (c : Th) ↦{q13} f26) ∗ ((Memref.whole cc0_scratch14).view.loc (c : Th) ↦{fullShare} f27) ∗ ((Memref.whole cc0_scratch7).view.loc (c : Th) ↦{fullShare} w2s) ∗ ((Memref.whole cc0_scratch8).view.loc (c : Th) ↦{fullShare} b2)
    ∗ batchY c w2 w2s b2 f26 f27 k 0 ∗ bigSep (Ring.rangeSet k0_t6_loop.trips k k0_t6_loop.trips) (dY c) ∗ bigSep (Ring.rangeSet k0_t6_loop.trips k k0_t6_loop.trips) (sY c) ∗ ∃ W, owes (c : Th) 0 W)

set_option maxHeartbeats 1000000 in
set_option warn.classDefReducibility false in
def invY (c : Dev nD) (q13 : PosShare TreeShare) (v754 : IVec S8x128 32) (v779 : Vec F S8x128 .f32) (v780 : IVec S8x128 32) (w2 : Vec F S2048x7168 .fp8e4m3) (w2s b2 : Vec F S1x7168 .f32) (f26 : Vec F S192x2048 .fp8e4m3) (f27 : Vec F S192x128 .f32) :
    LoopInv (M := 𝕄) frame (wpE (defs₀ (F := F)) Variants.none (c : Th) none) Set.univ k0_t6_loop.lb k0_t6_loop.ub k0_t6_loop.st k0_t6_ok ()
      (k0_t6_body (F := F) (Memref.whole main_v1) (iw _) (Memref.whole main_arg1) (iw _) (Memref.whole main_v2) (iw _) (Memref.whole main_arg3) (iw _) (Memref.whole main_arg4) (iw _) (Memref.whole main_arg5) (iw _) (Memref.whole main_v3) (iw _) (Memref.whole main_v4) (iw _) (Memref.whole main_v5_0) (iw _) (Memref.whole main_v5_1) (iw _) (Memref.whole main_v5_2) (iw _) (Memref.whole main_v5_3) (iw _) (Memref.whole main_v5_4) (iw _) (Memref.whole cc0_scratch0) (iw _) (Memref.whole cc0_scratch1) (iw _) (Memref.whole cc0_scratch2) (iw _) (Memref.whole cc0_scratch3) (iw _) (Memref.whole cc0_scratch4) (iw _) (Memref.whole cc0_scratch5) (iw _) (Memref.whole cc0_scratch6) (iw _) (Memref.whole cc0_scratch7) (iw _) (Memref.whole cc0_scratch8) (iw _) (Memref.whole cc0_scratch9) (iw _) (Memref.whole cc0_scratch10) (iw _) (Memref.whole cc0_scratch11) (iw _) (Memref.whole cc0_scratch12) (iw _) (Memref.whole cc0_scratch13) (iw _) (Memref.whole cc0_scratch14) (iw _) (Memref.whole cc0_scratch15) (iw _) (Memref.whole cc0_scratch16) (iw _) cc0_scratch17 cc0_scratch18 cc0_scratch19 cc0_scratch20 cc0_scratch21 cc0_scratch22 cc0_scratch23 cc0_scratch24 cc0_scratch25 cc0_scratch26 cc0_scratch27 cc0_scratch28 cc0_scratch29 v754 v779 v780) where
  inv k _ := iprop(Ring.AtW (ΦW2 c w2) (stN 2 1 k) ∗ ((Memref.whole cc0_scratch13).view.loc (c : Th) ↦{q13} f26) ∗ ((Memref.whole cc0_scratch14).view.loc (c : Th) ↦{fullShare} f27) ∗ ((Memref.whole cc0_scratch7).view.loc (c : Th) ↦{fullShare} w2s) ∗ ((Memref.whole cc0_scratch8).view.loc (c : Th) ↦{fullShare} b2)
    ∗ batchY c w2 w2s b2 f26 f27 k 0 ∗ bigSep (Ring.rangeSet k0_t6_loop.trips k k0_t6_loop.trips) (dY c) ∗ bigSep (Ring.rangeSet k0_t6_loop.trips k k0_t6_loop.trips) (sY c) ∗ ∃ W, owes (c : Th) 0 W)
  step k _ := by
    have hs := stN_succ 2 1 (ixW2w k)
    rw [show (ixW2w k).val = k.val from rfl] at hs
    rw [← hs, Ring.AtW_focus (ΦW2 c w2) (stN 2 1 k.val) (ixW2w k), AtW_put (ΦW2 c w2) (stN 2 1 k.val) (ixW2w k) 2, stN_self 2 1 (ixW2w k),
      ΦW2_at_w, ΦoW2_1, ΦW2_at_w, ΦoW2_2, headY (dY c) k, headY (sY c) k]
    unfold dY sY batchY
    iintro ⟨⟨⟨Hs, Htok⟩, Hrest⟩, H26, H27, H20, H21, HB, ⟨⟨%gd, Hd⟩, Hds⟩, ⟨⟨%gs, Hy⟩, Hys⟩, %W, HO⟩
    have ha0 := inYa (k0_off87_eq k) (k0_off112_eq k) (by omega) (k0_off87_inb k) (k0_off112_inb k)
    have hb0 := inYs (k0_off87_eq k) (k0_off112_eq k) (by omega) (k0_off87_inb k) (k0_off112_inb k)
    have ha1 := inYa (k0_off88_eq k) (k0_off112_eq k) (by omega) (k0_off88_inb k) (k0_off112_inb k)
    have hb1 := inYs (k0_off88_eq k) (k0_off112_eq k) (by omega) (k0_off88_inb k) (k0_off112_inb k)
    have ha2 := inYa (k0_off89_eq k) (k0_off112_eq k) (by omega) (k0_off89_inb k) (k0_off112_inb k)
    have hb2 := inYs (k0_off89_eq k) (k0_off112_eq k) (by omega) (k0_off89_inb k) (k0_off112_inb k)
    have ha3 := inYa (k0_off90_eq k) (k0_off112_eq k) (by omega) (k0_off90_inb k) (k0_off112_inb k)
    have hb3 := inYs (k0_off90_eq k) (k0_off112_eq k) (by omega) (k0_off90_inb k) (k0_off112_inb k)
    have ha4 := inYa (k0_off91_eq k) (k0_off112_eq k) (by omega) (k0_off91_inb k) (k0_off112_inb k)
    have hb4 := inYs (k0_off91_eq k) (k0_off112_eq k) (by omega) (k0_off91_inb k) (k0_off112_inb k)
    have ha5 := inYa (k0_off92_eq k) (k0_off112_eq k) (by omega) (k0_off92_inb k) (k0_off112_inb k)
    have hb5 := inYs (k0_off92_eq k) (k0_off112_eq k) (by omega) (k0_off92_inb k) (k0_off112_inb k)
    have ha6 := inYa (k0_off93_eq k) (k0_off112_eq k) (by omega) (k0_off93_inb k) (k0_off112_inb k)
    have hb6 := inYs (k0_off93_eq k) (k0_off112_eq k) (by omega) (k0_off93_inb k) (k0_off112_inb k)
    have ha7 := inYa (k0_off94_eq k) (k0_off112_eq k) (by omega) (k0_off94_inb k) (k0_off112_inb k)
    have hb7 := inYs (k0_off94_eq k) (k0_off112_eq k) (by omega) (k0_off94_inb k) (k0_off112_inb k)
    have ha8 := inYa (k0_off95_eq k) (k0_off112_eq k) (by omega) (k0_off95_inb k) (k0_off112_inb k)
    have hb8 := inYs (k0_off95_eq k) (k0_off112_eq k) (by omega) (k0_off95_inb k) (k0_off112_inb k)
    have ha9 := inYa (k0_off96_eq k) (k0_off112_eq k) (by omega) (k0_off96_inb k) (k0_off112_inb k)
    have hb9 := inYs (k0_off96_eq k) (k0_off112_eq k) (by omega) (k0_off96_inb k) (k0_off112_inb k)
    have ha10 := inYa (k0_off97_eq k) (k0_off112_eq k) (by omega) (k0_off97_inb k) (k0_off112_inb k)
    have hb10 := inYs (k0_off97_eq k) (k0_off112_eq k) (by omega) (k0_off97_inb k) (k0_off112_inb k)
    have ha11 := inYa (k0_off98_eq k) (k0_off112_eq k) (by omega) (k0_off98_inb k) (k0_off112_inb k)
    have hb11 := inYs (k0_off98_eq k) (k0_off112_eq k) (by omega) (k0_off98_inb k) (k0_off112_inb k)
    have ha12 := inYa (k0_off99_eq k) (k0_off112_eq k) (by omega) (k0_off99_inb k) (k0_off112_inb k)
    have hb12 := inYs (k0_off99_eq k) (k0_off112_eq k) (by omega) (k0_off99_inb k) (k0_off112_inb k)
    have ha13 := inYa (k0_off100_eq k) (k0_off112_eq k) (by omega) (k0_off100_inb k) (k0_off112_inb k)
    have hb13 := inYs (k0_off100_eq k) (k0_off112_eq k) (by omega) (k0_off100_inb k) (k0_off112_inb k)
    have ha14 := inYa (k0_off101_eq k) (k0_off112_eq k) (by omega) (k0_off101_inb k) (k0_off112_inb k)
    have hb14 := inYs (k0_off101_eq k) (k0_off112_eq k) (by omega) (k0_off101_inb k) (k0_off112_inb k)
    have ha15 := inYa (k0_off102_eq k) (k0_off112_eq k) (by omega) (k0_off102_inb k) (k0_off112_inb k)
    have hb15 := inYs (k0_off102_eq k) (k0_off112_eq k) (by omega) (k0_off102_inb k) (k0_off112_inb k)
    have ha16 := inYa (k0_off103_eq k) (k0_off112_eq k) (by omega) (k0_off103_inb k) (k0_off112_inb k)
    have hb16 := inYs (k0_off103_eq k) (k0_off112_eq k) (by omega) (k0_off103_inb k) (k0_off112_inb k)
    have ha17 := inYa (k0_off104_eq k) (k0_off112_eq k) (by omega) (k0_off104_inb k) (k0_off112_inb k)
    have hb17 := inYs (k0_off104_eq k) (k0_off112_eq k) (by omega) (k0_off104_inb k) (k0_off112_inb k)
    have ha18 := inYa (k0_off105_eq k) (k0_off112_eq k) (by omega) (k0_off105_inb k) (k0_off112_inb k)
    have hb18 := inYs (k0_off105_eq k) (k0_off112_eq k) (by omega) (k0_off105_inb k) (k0_off112_inb k)
    have ha19 := inYa (k0_off106_eq k) (k0_off112_eq k) (by omega) (k0_off106_inb k) (k0_off112_inb k)
    have hb19 := inYs (k0_off106_eq k) (k0_off112_eq k) (by omega) (k0_off106_inb k) (k0_off112_inb k)
    have ha20 := inYa (k0_off107_eq k) (k0_off112_eq k) (by omega) (k0_off107_inb k) (k0_off112_inb k)
    have hb20 := inYs (k0_off107_eq k) (k0_off112_eq k) (by omega) (k0_off107_inb k) (k0_off112_inb k)
    have ha21 := inYa (k0_off108_eq k) (k0_off112_eq k) (by omega) (k0_off108_inb k) (k0_off112_inb k)
    have hb21 := inYs (k0_off108_eq k) (k0_off112_eq k) (by omega) (k0_off108_inb k) (k0_off112_inb k)
    have ha22 := inYa (k0_off109_eq k) (k0_off112_eq k) (by omega) (k0_off109_inb k) (k0_off112_inb k)
    have hb22 := inYs (k0_off109_eq k) (k0_off112_eq k) (by omega) (k0_off109_inb k) (k0_off112_inb k)
    have ha23 := inYa (k0_off110_eq k) (k0_off112_eq k) (by omega) (k0_off110_inb k) (k0_off112_inb k)
    have hb23 := inYs (k0_off110_eq k) (k0_off112_eq k) (by omega) (k0_off110_inb k) (k0_off112_inb k)
    unfold k0_t6_body
    sl_exec
    ihave Hy := (nameY c k _) $$ Hy
    icases Hy with ⟨%f', %hf', Hy⟩
    have hf : f' = (Memref.whole cc0_scratch16).view.writes (Elt F) gs (piecesY w2 w2s b2 f26 f27 k) := hf'
    ihave Hy := (slotY_of c w2 w2s b2 f26 f27 k gs f' hf) $$ Hy
    clear hf hf'
    clear ha0 hb0 ha1 hb1 ha2 hb2 ha3 hb3 ha4 hb4 ha5 hb5 ha6 hb6 ha7 hb7 ha8 hb8 ha9 hb9 ha10 hb10 ha11 hb11 ha12 hb12 ha13 hb13 ha14 hb14 ha15 hb15 ha16 hb16 ha17 hb17 ha18 hb18 ha19 hb19 ha20 hb20 ha21 hb21 ha22 hb22 ha23 hb23
    have hD := DY_of c w2 w2s b2 f26 f27 k gd
    sl_exec (disch := exact hD)
    sl_step
    isplitl [Hs Htok Hs_dst Hrest]
    · isplitl [Hs Htok Hs_dst]
      · isplitl [Hs]
        · iexact Hs
        isplitl [Hs_dst]
        · iexact Hs_dst
        iexact Htok
      iexact Hrest
    isplitl [H26]
    · iexact H26
    isplitl [H27]
    · iexact H27
    isplitl [H20]
    · iexact H20
    isplitl [H21]
    · iexact H21
    isplitl [HB]
    · iexact HB
    isplitl [Hds]
    · iexact Hds
    isplitl [Hys]
    · iexact Hys
    iexists _
    iexact HO

end Cert.Kernel.Hand
-- ==== Proof.KernelHand.Tools2.lean ====
module

public import proofs.«01_k».proof.Proof.KernelHand.L6
public import Idealize.ShloMosaic.Lib.VecWindow

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The proof's user algebra: the pipeline library's beside the transfers' counters. -/
local notation "𝕄" => MT nD τ sig Unit (Elt F) ℕ (Pipeline.UD sig nD τ) ℕ

/-- A full share is its two halves. -/
theorem halve (ℓ : Loc nD τ sig) (S : Finset (Idx ℓ)) (f : Buf (Elt F) ℓ) :
    (ℓ ↦[S]{fullShare} f : sProp 𝕄) ⊣⊢ iprop((ℓ ↦[S]{fullShare.left} f) ∗ ℓ ↦[S]{fullShare.right} f) :=
  pointsTo_share (PosShare.mem_left_op_right fullShare)

set_option maxRecDepth 100000 in
/-- A copy of the whole buffer leaves what was copied. -/
theorem put16 (c : Dev nD) (f w w' : Vec F S1x2048 .f32) (h : w = w') :
    ((Memref.whole cc0_scratch3).view.loc (c : Th) ↦{fullShare} View.write (Elt F) (Memref.whole cc0_scratch3 : Memref sig .tc .vmem S1x2048 .f32).view f w Finset.univ : sProp 𝕄)
      ⊢ ((Memref.whole cc0_scratch3).view.loc (c : Th) ↦{fullShare} w') := by
  subst h
  have e : View.write (Elt F) (Memref.whole cc0_scratch3 : Memref sig .tc .vmem S1x2048 .f32).view f w Finset.univ = w := by
    funext i
    exact View.read_write_of_mem (v := (Memref.whole cc0_scratch3 : Memref sig .tc .vmem S1x2048 .f32).view) f w (Finset.mem_univ i)
  exact Entails.of_eq (congrArg (fun f => ((Memref.whole cc0_scratch3).view.loc (c : Th) ↦{fullShare} f : sProp 𝕄)) e)

set_option maxRecDepth 100000 in
/-- A copy of the whole buffer leaves what was copied. -/
theorem put17 (c : Dev nD) (f w w' : Vec F S3x2048 .bf16) (h : w = w') :
    ((Memref.whole cc0_scratch4).view.loc (c : Th) ↦{fullShare} View.write (Elt F) (Memref.whole cc0_scratch4 : Memref sig .tc .vmem S3x2048 .bf16).view f w Finset.univ : sProp 𝕄)
      ⊢ ((Memref.whole cc0_scratch4).view.loc (c : Th) ↦{fullShare} w') := by
  subst h
  have e : View.write (Elt F) (Memref.whole cc0_scratch4 : Memref sig .tc .vmem S3x2048 .bf16).view f w Finset.univ = w := by
    funext i
    exact View.read_write_of_mem (v := (Memref.whole cc0_scratch4 : Memref sig .tc .vmem S3x2048 .bf16).view) f w (Finset.mem_univ i)
  exact Entails.of_eq (congrArg (fun f => ((Memref.whole cc0_scratch4).view.loc (c : Th) ↦{fullShare} f : sProp 𝕄)) e)

set_option maxRecDepth 100000 in
/-- A copy of the whole buffer leaves what was copied. -/
theorem put18 (c : Dev nD) (f w w' : Vec F S3x2048 .bf16) (h : w = w') :
    ((Memref.whole cc0_scratch5).view.loc (c : Th) ↦{fullShare} View.write (Elt F) (Memref.whole cc0_scratch5 : Memref sig .tc .vmem S3x2048 .bf16).view f w Finset.univ : sProp 𝕄)
      ⊢ ((Memref.whole cc0_scratch5).view.loc (c : Th) ↦{fullShare} w') := by
  subst h
  have e : View.write (Elt F) (Memref.whole cc0_scratch5 : Memref sig .tc .vmem S3x2048 .bf16).view f w Finset.univ = w := by
    funext i
    exact View.read_write_of_mem (v := (Memref.whole cc0_scratch5 : Memref sig .tc .vmem S3x2048 .bf16).view) f w (Finset.mem_univ i)
  exact Entails.of_eq (congrArg (fun f => ((Memref.whole cc0_scratch5).view.loc (c : Th) ↦{fullShare} f : sProp 𝕄)) e)

set_option maxRecDepth 100000 in
/-- A copy of the whole buffer leaves what was copied. -/
theorem put20 (c : Dev nD) (f w w' : Vec F S1x7168 .f32) (h : w = w') :
    ((Memref.whole cc0_scratch7).view.loc (c : Th) ↦{fullShare} View.write (Elt F) (Memref.whole cc0_scratch7 : Memref sig .tc .vmem S1x7168 .f32).view f w Finset.univ : sProp 𝕄)
      ⊢ ((Memref.whole cc0_scratch7).view.loc (c : Th) ↦{fullShare} w') := by
  subst h
  have e : View.write (Elt F) (Memref.whole cc0_scratch7 : Memref sig .tc .vmem S1x7168 .f32).view f w Finset.univ = w := by
    funext i
    exact View.read_write_of_mem (v := (Memref.whole cc0_scratch7 : Memref sig .tc .vmem S1x7168 .f32).view) f w (Finset.mem_univ i)
  exact Entails.of_eq (congrArg (fun f => ((Memref.whole cc0_scratch7).view.loc (c : Th) ↦{fullShare} f : sProp 𝕄)) e)

set_option maxRecDepth 100000 in
/-- A copy of the whole buffer leaves what was copied. -/
theorem put21 (c : Dev nD) (f w w' : Vec F S1x7168 .f32) (h : w = w') :
    ((Memref.whole cc0_scratch8).view.loc (c : Th) ↦{fullShare} View.write (Elt F) (Memref.whole cc0_scratch8 : Memref sig .tc .vmem S1x7168 .f32).view f w Finset.univ : sProp 𝕄)
      ⊢ ((Memref.whole cc0_scratch8).view.loc (c : Th) ↦{fullShare} w') := by
  subst h
  have e : View.write (Elt F) (Memref.whole cc0_scratch8 : Memref sig .tc .vmem S1x7168 .f32).view f w Finset.univ = w := by
    funext i
    exact View.read_write_of_mem (v := (Memref.whole cc0_scratch8 : Memref sig .tc .vmem S1x7168 .f32).view) f w (Finset.mem_univ i)
  exact Entails.of_eq (congrArg (fun f => ((Memref.whole cc0_scratch8).view.loc (c : Th) ↦{fullShare} f : sProp 𝕄)) e)

set_option maxRecDepth 100000 in
/-- A copy of the whole buffer leaves what was copied. -/
theorem put10 (c : Dev nD) (f w w' : Vec F S2x8x12 .f32) (h : w = w') :
    ((Memref.whole main_v5_2).view.loc (c : Th) ↦{fullShare} View.write (Elt F) (Memref.whole main_v5_2 : Memref sig .tc .hbm S2x8x12 .f32).view f w Finset.univ : sProp 𝕄)
      ⊢ ((Memref.whole main_v5_2).view.loc (c : Th) ↦{fullShare} w') := by
  subst h
  have e : View.write (Elt F) (Memref.whole main_v5_2 : Memref sig .tc .hbm S2x8x12 .f32).view f w Finset.univ = w := by
    funext i
    exact View.read_write_of_mem (v := (Memref.whole main_v5_2 : Memref sig .tc .hbm S2x8x12 .f32).view) f w (Finset.mem_univ i)
  exact Entails.of_eq (congrArg (fun f => ((Memref.whole main_v5_2).view.loc (c : Th) ↦{fullShare} f : sProp 𝕄)) e)

set_option maxRecDepth 100000 in
/-- A copy of the whole buffer leaves what was copied. -/
theorem put12 (c : Dev nD) (f w w' : Vec F S2x8x12 .f32) (h : w = w') :
    ((Memref.whole main_v5_4).view.loc (c : Th) ↦{fullShare} View.write (Elt F) (Memref.whole main_v5_4 : Memref sig .tc .hbm S2x8x12 .f32).view f w Finset.univ : sProp 𝕄)
      ⊢ ((Memref.whole main_v5_4).view.loc (c : Th) ↦{fullShare} w') := by
  subst h
  have e : View.write (Elt F) (Memref.whole main_v5_4 : Memref sig .tc .hbm S2x8x12 .f32).view f w Finset.univ = w := by
    funext i
    exact View.read_write_of_mem (v := (Memref.whole main_v5_4 : Memref sig .tc .hbm S2x8x12 .f32).view) f w (Finset.mem_univ i)
  exact Entails.of_eq (congrArg (fun f => ((Memref.whole main_v5_4).view.loc (c : Th) ↦{fullShare} f : sProp 𝕄)) e)

/-- The running maximum starts at its first value everywhere. -/
theorem fill25 (f : Vec F S192x128 .f32) (h) : (Memref.whole cc0_scratch12 : Memref sig .tc .vmem S192x128 .f32).view.writes (Elt F) f
    [⟨Rect.unit (s := S192x128) ![0, 0] S192x128.size h, k0_pay194⟩] = (k0_pay194 : FVec F S192x128 .f32) := by
  funext i
  have e := congrFun (View.read_writes_full (Val := Elt F) (Memref.whole cc0_scratch12 : Memref sig .tc .vmem S192x128 .f32).view f h k0_pay194 []) i
  exact e

end Cert.Kernel.Hand
-- ==== Proof.KernelHand.Zq.lean ====
module

public import proofs.«01_k».proof.Proof.Gen.Kernel.Skeleton
public import proofs.«01_k».proof.Proof.KernelHand.Tools2

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The proof's user algebra: the pipeline library's beside the transfers' counters. -/
local notation "𝕄" => MT nD τ sig Unit (Elt F) ℕ (Pipeline.UD sig nD τ) ℕ

/-- The scales of 32 rows of `z`, along the lanes, from the rows' running maxima. -/
def zSc (v : Vec F S32x128 .f32) : Vec F S32x128 .f32 :=
  k0_pay203 (k0_pay196 v) (k0_pay198 (k0_pay196 v) k0_pay197) (k0_pay199 (k0_pay196 v) k0_pay197) (k0_pay200 (k0_pay196 v) k0_pay197)

/-- The codes of 32 rows of `z`. -/
def zQc (v : Vec F S32x128 .f32) (w : Vec F S32x2048 .f32) : Vec F S32x2048 .fp8e4m3 :=
  k0_pay206 (k0_pay204 (k0_pay196 v) (k0_pay198 (k0_pay196 v) k0_pay197) (k0_pay199 (k0_pay196 v) k0_pay197) (k0_pay200 (k0_pay196 v) k0_pay197) w) k0_pay205

theorem inbM (k : Fin 6) : ∀ a, (![32 * k.val, 0] : Fin 2 → Nat) a + S32x128.size a ≤ S192x128.size a := by revert k; decide
theorem inbZ (k : Fin 6) : ∀ a, (![32 * k.val, 0] : Fin 2 → Nat) a + S32x2048.size a ≤ S192x2048.size a := by revert k; decide
theorem inb24 (g : Fin 24) : ∀ a, (![8 * g.val, 0] : Fin 2 → Nat) a + S8x128.size a ≤ S192x128.size a := by revert g; decide

/-- A block of 32 rows of the running maxima, -/
def rowsM (m : Vec F S192x128 .f32) (k : Fin 6) : Vec F S32x128 .f32 :=
  (Memref.whole cc0_scratch12).view.readAt (Elt F) (Rect.unit (s := S192x128) ![32 * k.val, 0] S32x128.size (inbM k)).toLoadRect m
/-- and of `z`. -/
def rowsZ (z : Vec F S192x2048 .f32) (k : Fin 6) : Vec F S32x2048 .f32 :=
  (Memref.whole cc0_scratch11).view.readAt (Elt F) (Rect.unit (s := S192x2048) ![32 * k.val, 0] S32x2048.size (inbZ k)).toLoadRect z
/-- A group of 8 rows of the scales of `x`, -/
def grp9 (v : Vec F S192x128 .f32) (g : Fin 24) : Vec F S8x128 .f32 :=
  (Memref.whole cc0_scratch9).view.readAt (Elt F) (Rect.unit (s := S192x128) ![8 * g.val, 0] S8x128.size (inb24 g)).toLoadRect v
/-- and of the scales of `z`. -/
def grp14 (v : Vec F S192x128 .f32) (g : Fin 24) : Vec F S8x128 .f32 :=
  (Memref.whole cc0_scratch14).view.readAt (Elt F) (Rect.unit (s := S192x128) ![8 * g.val, 0] S8x128.size (inb24 g)).toLoadRect v

/-- All the scales of `z`, along the lanes. -/
def ZSV (m : Vec F S192x128 .f32) : Vec F S192x128 .f32 := fun i =>
  zSc (rowsM m ⟨(i 0).val / 32, by have h : (i 0).val < 192 := (i 0).isLt; omega⟩) (ix2 ⟨(i 0).val % 32, by omega⟩ (i 1))

/-- All the codes of `z`. -/
def ZQ (z : Vec F S192x2048 .f32) (m : Vec F S192x128 .f32) : Vec F S192x2048 .fp8e4m3 := fun i =>
  zQc (rowsM m ⟨(i 0).val / 32, by have h : (i 0).val < 192 := (i 0).isLt; omega⟩) (rowsZ z ⟨(i 0).val / 32, by have h : (i 0).val < 192 := (i 0).isLt; omega⟩)
    (ix2 ⟨(i 0).val % 32, by omega⟩ (i 1))

/-- The scales of twelve groups side by side: lane `w` of the result is group `w`'s. -/
def spB (l : Fin 12 → Vec F S8x128 .f32) : FVec F S1x8x12 .f32 :=
  k0_pay190 (iota .tc S8x128 32 [1] iota_S8x128_d1_w32) (k0_pay188 (l 0) (l 1) (l 2) (l 3)) k0_pay189 (l 4) (l 5) (l 6) (l 7) (l 8) (l 9) (l 10) (l 11)

/-- The scales as they are returned. -/
def SP (l : Fin 24 → Vec F S8x128 .f32) : Vec F S2x8x12 .f32 := fun i =>
  spB (fun w => l ⟨12 * (i 0).val + w.val, by have h : (i 0).val < 2 := (i 0).isLt; omega⟩) (ix3 0 (i 1) (i 2))

theorem ZSV_at (m : Vec F S192x128 .f32) (k : Fin 6) (x : S32x128.Idx) (i : S192x128.Idx)
    (h0 : (i 0).val = 32 * k.val + (x 0).val) (h1 : (i 1).val = 0 + (x 1).val) : ZSV m i = zSc (rowsM m k) x := by
  have x0 : (x 0).val < 32 := (x 0).isLt
  have e : ∀ k' x', k' = k → x' = x → zSc (rowsM m k') x' = zSc (rowsM m k) x := by rintro _ _ rfl rfl; rfl
  refine e _ _ (Fin.ext ?_) (funext fun a => ?_)
  · show (i 0).val / 32 = k.val; omega
  · fin_cases a <;> apply Fin.ext
    · show (i 0).val % 32 = (x 0).val; omega
    · exact h1.trans (Nat.zero_add _)

theorem ZQ_at (z : Vec F S192x2048 .f32) (m : Vec F S192x128 .f32) (k : Fin 6) (x : S32x2048.Idx) (i : S192x2048.Idx)
    (h0 : (i 0).val = 32 * k.val + (x 0).val) (h1 : (i 1).val = 0 + (x 1).val) : ZQ z m i = zQc (rowsM m k) (rowsZ z k) x := by
  have x0 : (x 0).val < 32 := (x 0).isLt
  have e : ∀ k' x', k' = k → x' = x → zQc (rowsM m k') (rowsZ z k') x' = zQc (rowsM m k) (rowsZ z k) x := by rintro _ _ rfl rfl; rfl
  refine e _ _ (Fin.ext ?_) (funext fun a => ?_)
  · show (i 0).val / 32 = k.val; omega
  · fin_cases a <;> apply Fin.ext
    · show (i 0).val % 32 = (x 0).val; omega
    · exact h1.trans (Nat.zero_add _)

theorem SP_at (l : Fin 24 → Vec F S8x128 .f32) (b : Fin 2) (x : S1x8x12.Idx) (i : S2x8x12.Idx)
    (h0 : (i 0).val = b.val) (h1 : (i 1).val = (x 1).val) (h2 : (i 2).val = (x 2).val) :
    SP l i = spB (fun w => l ⟨12 * b.val + w.val, by omega⟩) x := by
  have x0 : (x 0).val < 1 := (x 0).isLt
  have e : ∀ (b' : ℕ) (hb : b' < 2) x', b' = b.val → x' = x → spB (fun w => l ⟨12 * b' + w.val, by omega⟩) x' = spB (fun w => l ⟨12 * b.val + w.val, by omega⟩) x := by
    rintro _ _ _ rfl rfl; rfl
  refine e _ (i 0).isLt _ h0 (funext fun a => ?_)
  fin_cases a <;> apply Fin.ext
  · show 0 = (x 0).val; omega
  · exact h1
  · exact h2

/-- The six stores of the scales of `z`, last first, -/
def piecesS (m : Vec F S192x128 .f32) : List (View.Piece (Elt F) S192x128 .f32) :=
  [⟨Rect.unit (s := S192x128) ![160, 0] S32x128.size inb_S192x128_S32x128_160_0, zSc (rowsM m 5)⟩,
    ⟨Rect.unit (s := S192x128) ![128, 0] S32x128.size inb_S192x128_S32x128_128_0, zSc (rowsM m 4)⟩,
    ⟨Rect.unit (s := S192x128) ![96, 0] S32x128.size inb_S192x128_S32x128_96_0, zSc (rowsM m 3)⟩,
    ⟨Rect.unit (s := S192x128) ![64, 0] S32x128.size inb_S192x128_S32x128_64_0, zSc (rowsM m 2)⟩,
    ⟨Rect.unit (s := S192x128) ![32, 0] S32x128.size inb_S192x128_S32x128_32_0, zSc (rowsM m 1)⟩,
    ⟨Rect.unit (s := S192x128) ![0, 0] S32x128.size inb_S192x128_S32x128_0_0, zSc (rowsM m 0)⟩]

/-- of its codes, -/
def piecesZQ (z : Vec F S192x2048 .f32) (m : Vec F S192x128 .f32) : List (View.Piece (Elt F) S192x2048 .fp8e4m3) :=
  [⟨Rect.unit (s := S192x2048) ![160, 0] S32x2048.size inb_S192x2048_S32x2048_160_0, zQc (rowsM m 5) (rowsZ z 5)⟩,
    ⟨Rect.unit (s := S192x2048) ![128, 0] S32x2048.size inb_S192x2048_S32x2048_128_0, zQc (rowsM m 4) (rowsZ z 4)⟩,
    ⟨Rect.unit (s := S192x2048) ![96, 0] S32x2048.size inb_S192x2048_S32x2048_96_0, zQc (rowsM m 3) (rowsZ z 3)⟩,
    ⟨Rect.unit (s := S192x2048) ![64, 0] S32x2048.size inb_S192x2048_S32x2048_64_0, zQc (rowsM m 2) (rowsZ z 2)⟩,
    ⟨Rect.unit (s := S192x2048) ![32, 0] S32x2048.size inb_S192x2048_S32x2048_32_0, zQc (rowsM m 1) (rowsZ z 1)⟩,
    ⟨Rect.unit (s := S192x2048) ![0, 0] S32x2048.size inb_S192x2048_S32x2048_0_0, zQc (rowsM m 0) (rowsZ z 0)⟩]

/-- and the two stores of the scales as they are returned (x). -/
def piecesXP (v : Vec F S192x128 .f32) : List (View.Piece (Elt F) S2x8x12 .f32) :=
  [⟨Rect.unit (s := S2x8x12) ![1, 0, 0] S1x8x12.size inb_S2x8x12_S1x8x12_1_0_0, spB fun w => grp9 v ⟨12 * 1 + w.val, by omega⟩⟩,
    ⟨Rect.unit (s := S2x8x12) ![0, 0, 0] S1x8x12.size inb_S2x8x12_S1x8x12_0_0_0, spB fun w => grp9 v ⟨12 * 0 + w.val, by omega⟩⟩]

/-- and the two stores of the scales as they are returned (z). -/
def piecesZP (v : Vec F S192x128 .f32) : List (View.Piece (Elt F) S2x8x12 .f32) :=
  [⟨Rect.unit (s := S2x8x12) ![1, 0, 0] S1x8x12.size inb_S2x8x12_S1x8x12_1_0_0, spB fun w => grp14 v ⟨12 * 1 + w.val, by omega⟩⟩,
    ⟨Rect.unit (s := S2x8x12) ![0, 0, 0] S1x8x12.size inb_S2x8x12_S1x8x12_0_0_0, spB fun w => grp14 v ⟨12 * 0 + w.val, by omega⟩⟩]

theorem of_read14 (w g : Vec F S192x128 .f32) (h : ∀ y, (Memref.whole cc0_scratch14 : Memref sig .tc .vmem S192x128 .f32).view.read (Elt F) w y = g y) : w = g := funext h

theorem of_read13 (w g : Vec F S192x2048 .fp8e4m3) (h : ∀ y, (Memref.whole cc0_scratch13 : Memref sig .tc .vmem S192x2048 .fp8e4m3).view.read (Elt F) w y = g y) : w = g := funext h

theorem of_read10 (w g : Vec F S2x8x12 .f32) (h : ∀ y, (Memref.whole cc0_scratch10 : Memref sig .tc .vmem S2x8x12 .f32).view.read (Elt F) w y = g y) : w = g := funext h

theorem of_read15 (w g : Vec F S2x8x12 .f32) (h : ∀ y, (Memref.whole cc0_scratch15 : Memref sig .tc .vmem S2x8x12 .f32).view.read (Elt F) w y = g y) : w = g := funext h

theorem fillS (m f : Vec F S192x128 .f32) : (Memref.whole cc0_scratch14 : Memref sig .tc .vmem S192x128 .f32).view.writes (Elt F) f (piecesS m) = ZSV m := by
  refine of_read14 _ _ fun y => ?_
  refine fill_step (Memref.whole cc0_scratch14 : Memref sig .tc .vmem S192x128 .f32).view f (piecesS m) (ZSV m) (fun _ => False) (fun _ => True) ?_ ?_ (fun y hy => hy.elim) y trivial
  all_goals clear y
  · intro p hp
    simp only [piecesS, List.mem_cons, List.not_mem_nil, or_false] at hp
    rcases hp with rfl | rfl | rfl | rfl | rfl | rfl <;> intro x
    · exact (ZSV_at m 5 x _ (emb_at rfl inb_S192x128_S32x128_160_0 x 0) (emb_at rfl inb_S192x128_S32x128_160_0 x 1)).symm
    · exact (ZSV_at m 4 x _ (emb_at rfl inb_S192x128_S32x128_128_0 x 0) (emb_at rfl inb_S192x128_S32x128_128_0 x 1)).symm
    · exact (ZSV_at m 3 x _ (emb_at rfl inb_S192x128_S32x128_96_0 x 0) (emb_at rfl inb_S192x128_S32x128_96_0 x 1)).symm
    · exact (ZSV_at m 2 x _ (emb_at rfl inb_S192x128_S32x128_64_0 x 0) (emb_at rfl inb_S192x128_S32x128_64_0 x 1)).symm
    · exact (ZSV_at m 1 x _ (emb_at rfl inb_S192x128_S32x128_32_0 x 0) (emb_at rfl inb_S192x128_S32x128_32_0 x 1)).symm
    · exact (ZSV_at m 0 x _ (emb_at rfl inb_S192x128_S32x128_0_0 x 0) (emb_at rfl inb_S192x128_S32x128_0_0 x 1)).symm
  · intro y _
    right
    have y0 : (y 0).val < 192 := (y 0).isLt
    have y1 : (y 1).val < 128 := (y 1).isLt
    unfold piecesS
    rcases (by omega : (y 0).val < 32 ∨ (32 ≤ (y 0).val ∧ (y 0).val < 64) ∨ (64 ≤ (y 0).val ∧ (y 0).val < 96) ∨ (96 ≤ (y 0).val ∧ (y 0).val < 128) ∨ (128 ≤ (y 0).val ∧ (y 0).val < 160) ∨ 160 ≤ (y 0).val) with h | h | h | h | h | h
    · exact ⟨_, .tail _ (.tail _ (.tail _ (.tail _ (.tail _ (.head _))))), mem_unit2 rfl inb_S192x128_S32x128_0_0 y ⟨by omega, by omega⟩ ⟨by omega, by omega⟩⟩
    · exact ⟨_, .tail _ (.tail _ (.tail _ (.tail _ (.head _)))), mem_unit2 rfl inb_S192x128_S32x128_32_0 y ⟨by omega, by omega⟩ ⟨by omega, by omega⟩⟩
    · exact ⟨_, .tail _ (.tail _ (.tail _ (.head _))), mem_unit2 rfl inb_S192x128_S32x128_64_0 y ⟨by omega, by omega⟩ ⟨by omega, by omega⟩⟩
    · exact ⟨_, .tail _ (.tail _ (.head _)), mem_unit2 rfl inb_S192x128_S32x128_96_0 y ⟨by omega, by omega⟩ ⟨by omega, by omega⟩⟩
    · exact ⟨_, .tail _ (.head _), mem_unit2 rfl inb_S192x128_S32x128_128_0 y ⟨by omega, by omega⟩ ⟨by omega, by omega⟩⟩
    · exact ⟨_, .head _, mem_unit2 rfl inb_S192x128_S32x128_160_0 y ⟨by omega, by omega⟩ ⟨by omega, by omega⟩⟩

set_option maxHeartbeats 1000000 in
theorem fillZQ (z : Vec F S192x2048 .f32) (m : Vec F S192x128 .f32) (f : Vec F S192x2048 .fp8e4m3) :
    (Memref.whole cc0_scratch13 : Memref sig .tc .vmem S192x2048 .fp8e4m3).view.writes (Elt F) f (piecesZQ z m) = ZQ z m := by
  refine of_read13 _ _ fun y => ?_
  refine fill_step (Memref.whole cc0_scratch13 : Memref sig .tc .vmem S192x2048 .fp8e4m3).view f (piecesZQ z m) (ZQ z m) (fun _ => False) (fun _ => True) ?_ ?_ (fun y hy => hy.elim) y trivial
  all_goals clear y
  · intro p hp
    simp only [piecesZQ, List.mem_cons, List.not_mem_nil, or_false] at hp
    rcases hp with rfl | rfl | rfl | rfl | rfl | rfl <;> intro x
    · exact (ZQ_at z m 5 x _ (emb_at rfl inb_S192x2048_S32x2048_160_0 x 0) (emb_at rfl inb_S192x2048_S32x2048_160_0 x 1)).symm
    · exact (ZQ_at z m 4 x _ (emb_at rfl inb_S192x2048_S32x2048_128_0 x 0) (emb_at rfl inb_S192x2048_S32x2048_128_0 x 1)).symm
    · exact (ZQ_at z m 3 x _ (emb_at rfl inb_S192x2048_S32x2048_96_0 x 0) (emb_at rfl inb_S192x2048_S32x2048_96_0 x 1)).symm
    · exact (ZQ_at z m 2 x _ (emb_at rfl inb_S192x2048_S32x2048_64_0 x 0) (emb_at rfl inb_S192x2048_S32x2048_64_0 x 1)).symm
    · exact (ZQ_at z m 1 x _ (emb_at rfl inb_S192x2048_S32x2048_32_0 x 0) (emb_at rfl inb_S192x2048_S32x2048_32_0 x 1)).symm
    · exact (ZQ_at z m 0 x _ (emb_at rfl inb_S192x2048_S32x2048_0_0 x 0) (emb_at rfl inb_S192x2048_S32x2048_0_0 x 1)).symm
  · intro y _
    right
    have y0 : (y 0).val < 192 := (y 0).isLt
    have y1 : (y 1).val < 2048 := (y 1).isLt
    unfold piecesZQ
    rcases (by omega : (y 0).val < 32 ∨ (32 ≤ (y 0).val ∧ (y 0).val < 64) ∨ (64 ≤ (y 0).val ∧ (y 0).val < 96) ∨ (96 ≤ (y 0).val ∧ (y 0).val < 128) ∨ (128 ≤ (y 0).val ∧ (y 0).val < 160) ∨ 160 ≤ (y 0).val) with h | h | h | h | h | h
    · exact ⟨_, .tail _ (.tail _ (.tail _ (.tail _ (.tail _ (.head _))))), mem_unit2 rfl inb_S192x2048_S32x2048_0_0 y ⟨by omega, by omega⟩ ⟨by omega, by omega⟩⟩
    · exact ⟨_, .tail _ (.tail _ (.tail _ (.tail _ (.head _)))), mem_unit2 rfl inb_S192x2048_S32x2048_32_0 y ⟨by omega, by omega⟩ ⟨by omega, by omega⟩⟩
    · exact ⟨_, .tail _ (.tail _ (.tail _ (.head _))), mem_unit2 rfl inb_S192x2048_S32x2048_64_0 y ⟨by omega, by omega⟩ ⟨by omega, by omega⟩⟩
    · exact ⟨_, .tail _ (.tail _ (.head _)), mem_unit2 rfl inb_S192x2048_S32x2048_96_0 y ⟨by omega, by omega⟩ ⟨by omega, by omega⟩⟩
    · exact ⟨_, .tail _ (.head _), mem_unit2 rfl inb_S192x2048_S32x2048_128_0 y ⟨by omega, by omega⟩ ⟨by omega, by omega⟩⟩
    · exact ⟨_, .head _, mem_unit2 rfl inb_S192x2048_S32x2048_160_0 y ⟨by omega, by omega⟩ ⟨by omega, by omega⟩⟩

/-- Membership in one of the two blocks of the returned scales. -/
theorem mem_sp {o : Fin 3 → ℕ} {b : ℕ} (h : o = ![b, 0, 0]) (hb : ∀ d, o d + S1x8x12.size d ≤ S2x8x12.size d) (y : S2x8x12.Idx) (h0 : (y 0).val = b) :
    y ∈ (Rect.unit (s := S2x8x12) o S1x8x12.size hb).set := by
  subst h
  have y1 : (y 1).val < 8 := (y 1).isLt
  have y2 : (y 2).val < 12 := (y 2).isLt
  rw [Rect.mem_set_unit]
  intro d
  fin_cases d
  · show b ≤ (y 0).val ∧ (y 0).val < b + 1; omega
  · show 0 ≤ (y 1).val ∧ (y 1).val < 0 + 8; omega
  · show 0 ≤ (y 2).val ∧ (y 2).val < 0 + 12; omega

set_option maxHeartbeats 1000000 in
theorem fillXP (v : Vec F S192x128 .f32) (f : Vec F S2x8x12 .f32) : (Memref.whole cc0_scratch10 : Memref sig .tc .vmem S2x8x12 .f32).view.writes (Elt F) f (piecesXP v) = SP (grp9 v) := by
  refine of_read10 _ _ fun y => ?_
  refine fill_step (Memref.whole cc0_scratch10 : Memref sig .tc .vmem S2x8x12 .f32).view f (piecesXP v) (SP (grp9 v)) (fun _ => False) (fun _ => True) ?_ ?_ (fun y hy => hy.elim) y trivial
  all_goals clear y
  · intro p hp
    simp only [piecesXP, List.mem_cons, List.not_mem_nil, or_false] at hp
    rcases hp with rfl | rfl <;> intro x
    · have x0 : (x 0).val < 1 := (x 0).isLt
      exact (SP_at (grp9 v) 1 x _ ((emb_at rfl inb_S2x8x12_S1x8x12_1_0_0 x 0).trans (by show 1 + (x 0).val = 1; omega)) ((emb_at rfl inb_S2x8x12_S1x8x12_1_0_0 x 1).trans (Nat.zero_add _)) ((emb_at rfl inb_S2x8x12_S1x8x12_1_0_0 x 2).trans (Nat.zero_add _))).symm
    · have x0 : (x 0).val < 1 := (x 0).isLt
      exact (SP_at (grp9 v) 0 x _ ((emb_at rfl inb_S2x8x12_S1x8x12_0_0_0 x 0).trans (by show 0 + (x 0).val = 0; omega)) ((emb_at rfl inb_S2x8x12_S1x8x12_0_0_0 x 1).trans (Nat.zero_add _)) ((emb_at rfl inb_S2x8x12_S1x8x12_0_0_0 x 2).trans (Nat.zero_add _))).symm
  · intro y _
    right
    have y0 : (y 0).val < 2 := (y 0).isLt
    unfold piecesXP
    rcases (by omega : (y 0).val = 0 ∨ (y 0).val = 1) with h | h
    · exact ⟨_, .tail _ (.head _), mem_sp rfl inb_S2x8x12_S1x8x12_0_0_0 y h⟩
    · exact ⟨_, .head _, mem_sp rfl inb_S2x8x12_S1x8x12_1_0_0 y h⟩

set_option maxHeartbeats 1000000 in
theorem fillZP (v : Vec F S192x128 .f32) (f : Vec F S2x8x12 .f32) : (Memref.whole cc0_scratch15 : Memref sig .tc .vmem S2x8x12 .f32).view.writes (Elt F) f (piecesZP v) = SP (grp14 v) := by
  refine of_read15 _ _ fun y => ?_
  refine fill_step (Memref.whole cc0_scratch15 : Memref sig .tc .vmem S2x8x12 .f32).view f (piecesZP v) (SP (grp14 v)) (fun _ => False) (fun _ => True) ?_ ?_ (fun y hy => hy.elim) y trivial
  all_goals clear y
  · intro p hp
    simp only [piecesZP, List.mem_cons, List.not_mem_nil, or_false] at hp
    rcases hp with rfl | rfl <;> intro x
    · have x0 : (x 0).val < 1 := (x 0).isLt
      exact (SP_at (grp14 v) 1 x _ ((emb_at rfl inb_S2x8x12_S1x8x12_1_0_0 x 0).trans (by show 1 + (x 0).val = 1; omega)) ((emb_at rfl inb_S2x8x12_S1x8x12_1_0_0 x 1).trans (Nat.zero_add _)) ((emb_at rfl inb_S2x8x12_S1x8x12_1_0_0 x 2).trans (Nat.zero_add _))).symm
    · have x0 : (x 0).val < 1 := (x 0).isLt
      exact (SP_at (grp14 v) 0 x _ ((emb_at rfl inb_S2x8x12_S1x8x12_0_0_0 x 0).trans (by show 0 + (x 0).val = 0; omega)) ((emb_at rfl inb_S2x8x12_S1x8x12_0_0_0 x 1).trans (Nat.zero_add _)) ((emb_at rfl inb_S2x8x12_S1x8x12_0_0_0 x 2).trans (Nat.zero_add _))).symm
  · intro y _
    right
    have y0 : (y 0).val < 2 := (y 0).isLt
    unfold piecesZP
    rcases (by omega : (y 0).val = 0 ∨ (y 0).val = 1) with h | h
    · exact ⟨_, .tail _ (.head _), mem_sp rfl inb_S2x8x12_S1x8x12_0_0_0 y h⟩
    · exact ⟨_, .head _, mem_sp rfl inb_S2x8x12_S1x8x12_1_0_0 y h⟩

/-- The end of the body's 57th part: the first loads of the scales of `z`. -/
def p57 (arg27 : Memref sig .tc .vmem S192x128 .f32) (harg27 : arg27.IsWhole) :
    Prog (TpuEff nD τ sig (Elt F) Λ₀ .tc) (Σ' (v704 : IVec S8x128 32) (v709 : Vec F S8x128 .f32) (v711 : IVec S8x128 1), Vec F S8x128 .f32) := do
  have v704 : IVec S8x128 32 := iota .tc S8x128 32 [1] iota_S8x128_d1_w32
  let v705 : Vec F S8x128 .f32 ← Prog.lift (.load arg27 (Rect.unit (s := S192x128) ![0, 0] S8x128.size inb_S192x128_S8x128_0_0).toLoadRect (View.loadsAt_vmem h_S8x128))
  let v708 : Vec F S8x128 .f32 ← Prog.lift (.load arg27 (Rect.unit (s := S192x128) ![8, 0] S8x128.size inb_S192x128_S8x128_8_0).toLoadRect (View.loadsAt_vmem h_S8x128))
  let v712 : Vec F S8x128 .f32 ← Prog.lift (.load arg27 (Rect.unit (s := S192x128) ![16, 0] S8x128.size inb_S192x128_S8x128_16_0).toLoadRect (View.loadsAt_vmem h_S8x128))
  pure ⟨v704, k0_pay255 v705 v708, k0_pay256, v712⟩
set_option maxRecDepth 65536 in

/-- The body's 57th part up to there, then the rest `p`. -/
def part57s (p : ∀ (arg27 : Memref sig .tc .vmem S192x128 .f32), arg27.IsWhole → Prog (TpuEff nD τ sig (Elt F) Λ₀ .tc) (Σ' (v704 : IVec S8x128 32) (v709 : Vec F S8x128 .f32) (v711 : IVec S8x128 1), Vec F S8x128 .f32)) (arg0 : Memref sig .tc .hbm S192x8192 .bf16) (harg0 : arg0.IsWhole) (arg1 : Memref sig .tc .hbm S8192x2048 .fp8e4m3) (harg1 : arg1.IsWhole) (arg2 : Memref sig .tc .hbm S1x2048 .f32) (harg2 : arg2.IsWhole) (arg3 : Memref sig .tc .hbm S3x2048 .bf16) (harg3 : arg3.IsWhole) (arg4 : Memref sig .tc .hbm S3x2048 .bf16) (harg4 : arg4.IsWhole) (arg5 : Memref sig .tc .hbm S2048x7168 .fp8e4m3) (harg5 : arg5.IsWhole) (arg6 : Memref sig .tc .hbm S1x7168 .f32) (harg6 : arg6.IsWhole) (arg7 : Memref sig .tc .hbm S1x7168 .f32) (harg7 : arg7.IsWhole) (arg8 : Memref sig .tc .hbm S24x8x7168 .bf16) (harg8 : arg8.IsWhole) (arg9 : Memref sig .tc .hbm S24x8x8192 .fp8e4m3) (harg9 : arg9.IsWhole) (arg10 : Memref sig .tc .hbm S2x8x12 .f32) (harg10 : arg10.IsWhole) (arg11 : Memref sig .tc .hbm S24x8x2048 .fp8e4m3) (harg11 : arg11.IsWhole) (arg12 : Memref sig .tc .hbm S2x8x12 .f32) (harg12 : arg12.IsWhole) (arg13 : Memref sig .tc .vmem S192x8192 .bf16) (harg13 : arg13.IsWhole) (arg14 : Memref sig .tc .vmem S192x8192 .fp8e4m3) (harg14 : arg14.IsWhole) (arg15 : Memref sig .tc .vmem S4x8192x512 .fp8e4m3) (harg15 : arg15.IsWhole) (arg16 : Memref sig .tc .vmem S1x2048 .f32) (harg16 : arg16.IsWhole) (arg17 : Memref sig .tc .vmem S3x2048 .bf16) (harg17 : arg17.IsWhole) (arg18 : Memref sig .tc .vmem S3x2048 .bf16) (harg18 : arg18.IsWhole) (arg19 : Memref sig .tc .vmem S7x2048x1024 .fp8e4m3) (harg19 : arg19.IsWhole) (arg20 : Memref sig .tc .vmem S1x7168 .f32) (harg20 : arg20.IsWhole) (arg21 : Memref sig .tc .vmem S1x7168 .f32) (harg21 : arg21.IsWhole) (arg22 : Memref sig .tc .vmem S192x128 .f32) (harg22 : arg22.IsWhole) (arg23 : Memref sig .tc .vmem S2x8x12 .f32) (harg23 : arg23.IsWhole) (arg24 : Memref sig .tc .vmem S192x2048 .f32) (harg24 : arg24.IsWhole) (arg25 : Memref sig .tc .vmem S192x128 .f32) (harg25 : arg25.IsWhole) (arg26 : Memref sig .tc .vmem S192x2048 .fp8e4m3) (harg26 : arg26.IsWhole) (arg27 : Memref sig .tc .vmem S192x128 .f32) (harg27 : arg27.IsWhole) (arg28 : Memref sig .tc .vmem S2x8x12 .f32) (harg28 : arg28.IsWhole) (arg29 : Memref sig .tc .vmem S7x24x8x1024 .bf16) (harg29 : arg29.IsWhole) (arg30 : DmaSems sig S6) (arg31 : DmaSems sig S4) (arg32 : DmaSems sig S_) (arg33 : DmaSems sig S_) (arg34 : DmaSems sig S_) (arg35 : DmaSems sig S_) (arg36 : DmaSems sig S_) (arg37 : DmaSems sig S7) (arg38 : DmaSems sig S_) (arg39 : DmaSems sig S_) (arg40 : DmaSems sig S_) (arg41 : DmaSems sig S_) (arg42 : DmaSems sig S_) (v609 : FVec F S32x1 .f32) (v673 : FVec F S32x1 .f32) (v675 : IVec S32x1 32) :
    Prog (TpuEff nD τ sig (Elt F) Λ₀ .tc) (Σ' (v704 : IVec S8x128 32) (v709 : Vec F S8x128 .f32) (v711 : IVec S8x128 1), Vec F S8x128 .f32) := do
  let v690 : Vec F S32x128 .f32 ← Prog.lift (.load arg27 (Rect.unit (s := S192x128) ![160, 0] S32x128.size inb_S192x128_S32x128_160_0).toLoadRect (View.loadsAt_vmem h_S32x128))
  Prog.lift (.store arg27 (Rect.unit (s := S192x128) ![160, 0] S32x128.size inb_S192x128_S32x128_160_0) (k0_pay253 v609 v673) Finset.univ (View.stores_vmem_bits_univ h_S32x128 rfl) (.inl rfl))
  let v693 : Vec F S32x2048 .f32 ← Prog.lift (.load arg24 (Rect.unit (s := S192x2048) ![160, 0] S32x2048.size inb_S192x2048_S32x2048_160_0).toLoadRect (View.loadsAt_vmem h_S32x2048))
  let v701 : Vec F S32x2048 .fp8e4m3 ← Prog.lift (.load arg26 (Rect.unit (s := S192x2048) ![160, 0] S32x2048.size inb_S192x2048_S32x2048_160_0).toLoadRect (View.loadsAt_vmem h_S32x2048))
  Prog.lift (.store arg26 (Rect.unit (s := S192x2048) ![160, 0] S32x2048.size inb_S192x2048_S32x2048_160_0) (k0_pay254 v609 v675 v693) Finset.univ (View.stores_vmem h_S32x2048 (harg26.storeExact_slice rfl _ packedfp8e4m3_S192x2048_S32x2048_160_0) (fun _ => rfl)) (.inl rfl))
  p arg27 harg27

theorem part57_eq : k0_part57 (F := F) = part57s p57 := rfl

end Cert.Kernel.Hand
-- ==== Proof.KernelHand.Outs.lean ====
module

public import proofs.«01_k».proof.Proof.Gen.Kernel.Skeleton
public import proofs.«01_k».proof.Proof.KernelHand.Zq
public import proofs.«01_k».proof.Proof.KernelHand.L6

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The proof's user algebra: the pipeline library's beside the transfers' counters. -/
local notation "𝕄" => MT nD τ sig Unit (Elt F) ℕ (Pipeline.UD sig nD τ) ℕ

/-- The codes as they are returned, group by group. -/
def GC9 (w : Vec F S192x8192 .fp8e4m3) : Vec F S24x8x8192 .fp8e4m3 := shapeCast S24x8x8192 w (reshapes_S24x8x8192_S192x8192.1).symm

set_option maxRecDepth 100000 in
/-- A copy into the reshaped result leaves what was copied. -/
theorem put9 (c : Dev nD) (g : Vec F S24x8x8192 .fp8e4m3) (w w' : Vec F S192x8192 .fp8e4m3) (h : w = w') :
    ((Memref.whole main_v5_1).view.loc (c : Th) ↦{fullShare} View.write (Elt F) ((Memref.whole main_v5_1 : Memref sig .tc .hbm S24x8x8192 .fp8e4m3).reshape S192x8192 reshapes_S24x8x8192_S192x8192.1 reshapes_S24x8x8192_S192x8192.2 (iw _).contiguous).view g w Finset.univ : sProp 𝕄)
      ⊢ ((Memref.whole main_v5_1).view.loc (c : Th) ↦{fullShare} GC9 w') := by
  subst h
  have e : View.write (Elt F) ((Memref.whole main_v5_1 : Memref sig .tc .hbm S24x8x8192 .fp8e4m3).view.reshape S192x8192 reshapes_S24x8x8192_S192x8192.1) g w Finset.univ = GC9 w := by
    rw [View.write_reshape_univ]
    funext i
    exact View.read_write_of_mem (v := (Memref.whole main_v5_1 : Memref sig .tc .hbm S24x8x8192 .fp8e4m3).view) g _ (Finset.mem_univ i)
  exact Entails.of_eq (congrArg (fun f => ((Memref.whole main_v5_1).view.loc (c : Th) ↦{fullShare} f : sProp 𝕄)) e)

/-- The codes as they are returned, group by group. -/
def GC11 (w : Vec F S192x2048 .fp8e4m3) : Vec F S24x8x2048 .fp8e4m3 := shapeCast S24x8x2048 w (reshapes_S24x8x2048_S192x2048.1).symm

set_option maxRecDepth 100000 in
/-- A copy into the reshaped result leaves what was copied. -/
theorem put11 (c : Dev nD) (g : Vec F S24x8x2048 .fp8e4m3) (w w' : Vec F S192x2048 .fp8e4m3) (h : w = w') :
    ((Memref.whole main_v5_3).view.loc (c : Th) ↦{fullShare} View.write (Elt F) ((Memref.whole main_v5_3 : Memref sig .tc .hbm S24x8x2048 .fp8e4m3).reshape S192x2048 reshapes_S24x8x2048_S192x2048.1 reshapes_S24x8x2048_S192x2048.2 (iw _).contiguous).view g w Finset.univ : sProp 𝕄)
      ⊢ ((Memref.whole main_v5_3).view.loc (c : Th) ↦{fullShare} GC11 w') := by
  subst h
  have e : View.write (Elt F) ((Memref.whole main_v5_3 : Memref sig .tc .hbm S24x8x2048 .fp8e4m3).view.reshape S192x2048 reshapes_S24x8x2048_S192x2048.1) g w Finset.univ = GC11 w := by
    rw [View.write_reshape_univ]
    funext i
    exact View.read_write_of_mem (v := (Memref.whole main_v5_3 : Memref sig .tc .hbm S24x8x2048 .fp8e4m3).view) g _ (Finset.mem_univ i)
  exact Entails.of_eq (congrArg (fun f => ((Memref.whole main_v5_3).view.loc (c : Th) ↦{fullShare} f : sProp 𝕄)) e)

section
variable (X : Vec F S192x8192 .bf16) (w1 : Vec F S8192x2048 .fp8e4m3) (w1s : Vec F S1x2048 .f32) (wh ww : Vec F S3x2048 .bf16)

/-- `z` at the end, -/
def zv : Vec F S192x2048 .f32 := Z w1 w1s wh ww (XQ X) (XSV X)
/-- its rows' maxima, -/
def mv : Vec F S192x128 .f32 := ZM w1 w1s wh ww (XQ X) (XSV X) 4
/-- its codes and its scales. -/
def qz : Vec F S192x2048 .fp8e4m3 := ZQ (zv X w1 w1s wh ww) (mv X w1 w1s wh ww)
def sz : Vec F S192x128 .f32 := ZSV (mv X w1 w1s wh ww)
end

theorem fin7 {n : ℕ} (hn : n = 7) (Φ : Fin n → sProp 𝕄) : bigSep Finset.univ Φ
    = iprop(Φ ⟨0, by omega⟩ ∗ Φ ⟨1, by omega⟩ ∗ Φ ⟨2, by omega⟩ ∗ Φ ⟨3, by omega⟩ ∗ Φ ⟨4, by omega⟩ ∗ Φ ⟨5, by omega⟩ ∗ Φ ⟨6, by omega⟩) := by
  subst hn
  rw [BI.bigSep_eq_bigSepL_of_eq [0, 1, 2, 3, 4, 5, 6] (by decide) (by decide)]; rfl

end Cert.Kernel.Hand
-- ==== Proof.KernelHand.Body.lean ====
module

public import proofs.«01_k».proof.Proof.Gen.Kernel.Skeleton
public import proofs.«01_k».proof.Proof.KernelHand.Tools2
public import proofs.«01_k».proof.Proof.KernelHand.Zq
public import proofs.«01_k».proof.Proof.KernelHand.Outs

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The proof's user algebra: the pipeline library's beside the transfers' counters. -/
local notation "𝕄" => MT nD τ sig Unit (Elt F) ℕ (Pipeline.UD sig nD τ) ℕ

theorem nameZQ (c : Dev nD) (f : Vec F S192x2048 .fp8e4m3) : ((Memref.whole cc0_scratch13).view.loc (c : Th) ↦{fullShare} f) ⊢ (iprop(∃ f', ⌜f' = f⌝ ∗ ((Memref.whole cc0_scratch13).view.loc (c : Th) ↦{fullShare} f')) : sProp 𝕄) := by
  iintro H
  iexists f
  isplitr
  · ipureintro; rfl
  iexact H

theorem name10 (c : Dev nD) (f : Vec F S2x8x12 .f32) : ((Memref.whole main_v5_2).view.loc (c : Th) ↦{fullShare} f) ⊢ (iprop(∃ f', ⌜f' = f⌝ ∗ ((Memref.whole main_v5_2).view.loc (c : Th) ↦{fullShare} f')) : sProp 𝕄) := by
  iintro H
  iexists f
  isplitr
  · ipureintro; rfl
  iexact H

theorem name12 (c : Dev nD) (f : Vec F S2x8x12 .f32) : ((Memref.whole main_v5_4).view.loc (c : Th) ↦{fullShare} f) ⊢ (iprop(∃ f', ⌜f' = f⌝ ∗ ((Memref.whole main_v5_4).view.loc (c : Th) ↦{fullShare} f')) : sProp 𝕄) := by
  iintro H
  iexists f
  isplitr
  · ipureintro; rfl
  iexact H

theorem nameZS (c : Dev nD) (f : Vec F S192x128 .f32) : ((Memref.whole cc0_scratch14).view.loc (c : Th) ↦{fullShare} f) ⊢ (iprop(∃ f', ⌜f' = f⌝ ∗ ((Memref.whole cc0_scratch14).view.loc (c : Th) ↦{fullShare} f')) : sProp 𝕄) := by
  iintro H
  iexists f
  isplitr
  · ipureintro; rfl
  iexact H

/-- What the body is run from: the three families of copies not issued, the operands, the results and the scratch buffers
at anything, its semaphores at zero, and the blocks of `y` with the slots they are copied from. -/
def BodyPre (c : Dev nD) (X : Vec F S192x8192 .bf16) (w1 : Vec F S8192x2048 .fp8e4m3) (w2 : Vec F S2048x7168 .fp8e4m3) (w1s : Vec F S1x2048 .f32) (wh ww : Vec F S3x2048 .bf16) (w2s b2 : Vec F S1x7168 .f32) : sProp 𝕄 :=
  iprop(Ring.AtW (ΦX c X) (fun _ => 0) ∗ Ring.AtW (ΦW1 c w1) (fun _ => 0) ∗ Ring.AtW (ΦW2 c w2) (fun _ => 0) ∗ ((Memref.whole main_v2).view.loc (c : Th) ↦{fullShare} w1s) ∗ ((Memref.whole main_arg3).view.loc (c : Th) ↦{fullShare} wh) ∗ ((Memref.whole main_arg4).view.loc (c : Th) ↦{fullShare} ww) ∗ ((Memref.whole main_v3).view.loc (c : Th) ↦{fullShare} w2s) ∗ ((Memref.whole main_v4).view.loc (c : Th) ↦{fullShare} b2)
    ∗ (∃ f, ((Memref.whole main_v5_1).view.loc (c : Th) ↦{fullShare} f)) ∗ (∃ f, ((Memref.whole main_v5_2).view.loc (c : Th) ↦{fullShare} f)) ∗ (∃ f, ((Memref.whole main_v5_3).view.loc (c : Th) ↦{fullShare} f)) ∗ (∃ f, ((Memref.whole main_v5_4).view.loc (c : Th) ↦{fullShare} f))
    ∗ (∃ f, ((Memref.whole cc0_scratch1).view.loc (c : Th) ↦{fullShare} f)) ∗ (∃ f, ((Memref.whole cc0_scratch3).view.loc (c : Th) ↦{fullShare} f)) ∗ (∃ f, ((Memref.whole cc0_scratch4).view.loc (c : Th) ↦{fullShare} f)) ∗ (∃ f, ((Memref.whole cc0_scratch5).view.loc (c : Th) ↦{fullShare} f)) ∗ (∃ f, ((Memref.whole cc0_scratch7).view.loc (c : Th) ↦{fullShare} f)) ∗ (∃ f, ((Memref.whole cc0_scratch8).view.loc (c : Th) ↦{fullShare} f)) ∗ (∃ f, ((Memref.whole cc0_scratch9).view.loc (c : Th) ↦{fullShare} f)) ∗ (∃ f, ((Memref.whole cc0_scratch10).view.loc (c : Th) ↦{fullShare} f)) ∗ (∃ f, ((Memref.whole cc0_scratch11).view.loc (c : Th) ↦{fullShare} f)) ∗ (∃ f, ((Memref.whole cc0_scratch12).view.loc (c : Th) ↦{fullShare} f)) ∗ (∃ f, ((Memref.whole cc0_scratch13).view.loc (c : Th) ↦{fullShare} f)) ∗ (∃ f, ((Memref.whole cc0_scratch14).view.loc (c : Th) ↦{fullShare} f)) ∗ (∃ f, ((Memref.whole cc0_scratch15).view.loc (c : Th) ↦{fullShare} f))
    ∗ semVal ((c : Th), .dma 10) 0 ∗ semVal ((c : Th), .dma 11) 0 ∗ semVal ((c : Th), .dma 12) 0 ∗ semVal ((c : Th), .dma 13) 0 ∗ semVal ((c : Th), .dma 14) 0 ∗ semVal ((c : Th), .dma 22) 0 ∗ semVal ((c : Th), .dma 23) 0 ∗ semVal ((c : Th), .dma 24) 0 ∗ semVal ((c : Th), .dma 25) 0 ∗ semVal ((c : Th), cellY) 0
    ∗ bigSep Finset.univ (dY c) ∗ bigSep Finset.univ (sY c) ∗ ∃ W, owes (c : Th) 0 W)

/-- What it ends with: the copies landed, the operands as they were, each result at its value. -/
def BodyPost (c : Dev nD) (X : Vec F S192x8192 .bf16) (w1 : Vec F S8192x2048 .fp8e4m3) (w2 : Vec F S2048x7168 .fp8e4m3) (w1s : Vec F S1x2048 .f32) (wh ww : Vec F S3x2048 .bf16) (w2s b2 : Vec F S1x7168 .f32) : sProp 𝕄 :=
  iprop(Ring.AtW (ΦX c X) (fun _ => 2) ∗ Ring.AtW (ΦW1 c w1) (fun _ => 2) ∗ Ring.AtW (ΦW2 c w2) (fun _ => 2) ∗ ((Memref.whole main_v2).view.loc (c : Th) ↦{fullShare} w1s) ∗ ((Memref.whole main_arg3).view.loc (c : Th) ↦{fullShare} wh) ∗ ((Memref.whole main_arg4).view.loc (c : Th) ↦{fullShare} ww) ∗ ((Memref.whole main_v3).view.loc (c : Th) ↦{fullShare} w2s) ∗ ((Memref.whole main_v4).view.loc (c : Th) ↦{fullShare} b2)
    ∗ ((Memref.whole main_v5_1).view.loc (c : Th) ↦{fullShare} GC9 (XQ X)) ∗ ((Memref.whole main_v5_2).view.loc (c : Th) ↦{fullShare} SP (grp9 (XSV X))) ∗ ((Memref.whole main_v5_3).view.loc (c : Th) ↦{fullShare} GC11 (qz X w1 w1s wh ww)) ∗ ((Memref.whole main_v5_4).view.loc (c : Th) ↦{fullShare} SP (grp14 (sz X w1 w1s wh ww)))
    ∗ (∃ f, ((Memref.whole cc0_scratch1).view.loc (c : Th) ↦{fullShare} f)) ∗ (∃ f, ((Memref.whole cc0_scratch3).view.loc (c : Th) ↦{fullShare} f)) ∗ (∃ f, ((Memref.whole cc0_scratch4).view.loc (c : Th) ↦{fullShare} f)) ∗ (∃ f, ((Memref.whole cc0_scratch5).view.loc (c : Th) ↦{fullShare} f)) ∗ (∃ f, ((Memref.whole cc0_scratch7).view.loc (c : Th) ↦{fullShare} f)) ∗ (∃ f, ((Memref.whole cc0_scratch8).view.loc (c : Th) ↦{fullShare} f)) ∗ (∃ f, ((Memref.whole cc0_scratch9).view.loc (c : Th) ↦{fullShare} f)) ∗ (∃ f, ((Memref.whole cc0_scratch10).view.loc (c : Th) ↦{fullShare} f)) ∗ (∃ f, ((Memref.whole cc0_scratch11).view.loc (c : Th) ↦{fullShare} f)) ∗ (∃ f, ((Memref.whole cc0_scratch12).view.loc (c : Th) ↦{fullShare} f)) ∗ (∃ f, ((Memref.whole cc0_scratch13).view.loc (c : Th) ↦{fullShare} f)) ∗ (∃ f, ((Memref.whole cc0_scratch14).view.loc (c : Th) ↦{fullShare} f)) ∗ (∃ f, ((Memref.whole cc0_scratch15).view.loc (c : Th) ↦{fullShare} f))
    ∗ semVal ((c : Th), .dma 10) 0 ∗ semVal ((c : Th), .dma 11) 0 ∗ semVal ((c : Th), .dma 12) 0 ∗ semVal ((c : Th), .dma 13) 0 ∗ semVal ((c : Th), .dma 14) 0 ∗ semVal ((c : Th), .dma 22) 0 ∗ semVal ((c : Th), .dma 23) 0 ∗ semVal ((c : Th), .dma 24) 0 ∗ semVal ((c : Th), .dma 25) 0 ∗ semVal ((c : Th), cellY) 0
    ∗ bigSep Finset.univ (DY c w2 w2s b2 (qz X w1 w1s wh ww) (sz X w1 w1s wh ww)) ∗ ∃ W, owes (c : Th) 0 W)

theorem rangeSet_all (n : ℕ) : Ring.rangeSet n 0 n = Finset.univ := by
  ext i; simp [Ring.rangeSet]

set_option maxHeartbeats 1000000 in
theorem run_body (c : Dev nD) (X : Vec F S192x8192 .bf16) (w1 : Vec F S8192x2048 .fp8e4m3) (w2 : Vec F S2048x7168 .fp8e4m3) (w1s : Vec F S1x2048 .f32) (wh ww : Vec F S3x2048 .bf16) (w2s b2 : Vec F S1x7168 .f32) (K : PUnit → sProp 𝕄) :
    iprop(BodyPre c X w1 w2 w1s wh ww w2s b2 ∗ (BodyPost c X w1 w2 w1s wh ww w2s b2 -∗ K ⟨⟩))
      ⊢ wp frame (wpE (defs₀ (F := F)) Variants.none (c : Th) none) Set.univ (cc0_cp_conv (F := F) (Memref.whole main_v1) (iw _) (Memref.whole main_arg1) (iw _) (Memref.whole main_v2) (iw _) (Memref.whole main_arg3) (iw _) (Memref.whole main_arg4) (iw _) (Memref.whole main_arg5) (iw _) (Memref.whole main_v3) (iw _) (Memref.whole main_v4) (iw _) (Memref.whole main_v5_0) (iw _) (Memref.whole main_v5_1) (iw _) (Memref.whole main_v5_2) (iw _) (Memref.whole main_v5_3) (iw _) (Memref.whole main_v5_4) (iw _) (Memref.whole cc0_scratch0) (iw _) (Memref.whole cc0_scratch1) (iw _) (Memref.whole cc0_scratch2) (iw _) (Memref.whole cc0_scratch3) (iw _) (Memref.whole cc0_scratch4) (iw _) (Memref.whole cc0_scratch5) (iw _) (Memref.whole cc0_scratch6) (iw _) (Memref.whole cc0_scratch7) (iw _) (Memref.whole cc0_scratch8) (iw _) (Memref.whole cc0_scratch9) (iw _) (Memref.whole cc0_scratch10) (iw _) (Memref.whole cc0_scratch11) (iw _) (Memref.whole cc0_scratch12) (iw _) (Memref.whole cc0_scratch13) (iw _) (Memref.whole cc0_scratch14) (iw _) (Memref.whole cc0_scratch15) (iw _) (Memref.whole cc0_scratch16) (iw _) cc0_scratch17 cc0_scratch18 cc0_scratch19 cc0_scratch20 cc0_scratch21 cc0_scratch22 cc0_scratch23 cc0_scratch24 cc0_scratch25 cc0_scratch26 cc0_scratch27 cc0_scratch28 cc0_scratch29) K := by
  unfold BodyPre
  have r0 : (Finset.univ : Finset (Fin k0_t6_loop.trips)) = Ring.rangeSet k0_t6_loop.trips 0 k0_t6_loop.trips := (rangeSet_all _).symm
  rw [← stN_zero (n := 6) 1 0, ← stN_zero (n := 4) 1 0, ← stN_zero (n := 7) 1 0, r0]
  rw [cc0_cp_conv_eq_skeleton]; unfold cc0_cp_conv_skel
  rw [part57_eq]
  generalize hp : p57 (F := F) = pt57
  let L1 := invX c X
  let L2 := invW1 c w1
  let L3 := invW2 c w2
  iintro ⟨⟨HX, HW1, HW2, G2, G3, G4, G6, G7, ⟨%g9, G9⟩, ⟨%g10, G10⟩, ⟨%g11, G11⟩, ⟨%g12, G12⟩, ⟨%f14, H14⟩, ⟨%f16, H16⟩, ⟨%f17, H17⟩, ⟨%f18, H18⟩,
    ⟨%f20, H20⟩, ⟨%f21, H21⟩, ⟨%f22, H22⟩, ⟨%f23, H23⟩, ⟨%f24, H24⟩, ⟨%f25, H25⟩, ⟨%f26, H26⟩, ⟨%f27, H27⟩, ⟨%f28, H28⟩,
    S10, S11, S12, S13, S14, S22, S23, S24, S25, S26, Hds, Hys, %W, HO⟩, HK⟩
  sl_exec
  irename: Ring.AtW (ΦX c X) _ => HX
  irename: Ring.AtW (ΦW1 c w1) _ => HW1
  irename: Ring.AtW (ΦW2 c w2) _ => HW2
  irename: owes _ _ _ => HO
  have eX : (Ring.AtW (ΦX c X) (stN 1 0 (Scf.trips k0_t1_loop.lb k0_t1_loop.ub k0_t1_loop.st)) : sProp 𝕄) = Ring.AtW (ΦX c X) (stN 2 1 0) := by
    rw [show Scf.trips k0_t1_loop.lb k0_t1_loop.ub k0_t1_loop.st = 6 by decide, stN_zero, stN_all]
  have eW1 : (Ring.AtW (ΦW1 c w1) (stN 1 0 (Scf.trips k0_t2_loop.lb k0_t2_loop.ub k0_t2_loop.st)) : sProp 𝕄) = Ring.AtW (ΦW1 c w1) (stN 2 1 0) := by
    rw [show Scf.trips k0_t2_loop.lb k0_t2_loop.ub k0_t2_loop.st = 4 by decide, stN_zero, stN_all]
  have eW2 : (Ring.AtW (ΦW2 c w2) (stN 1 0 (Scf.trips k0_t3_loop.lb k0_t3_loop.ub k0_t3_loop.st)) : sProp 𝕄) = Ring.AtW (ΦW2 c w2) (stN 2 1 0) := by
    rw [show Scf.trips k0_t3_loop.lb k0_t3_loop.ub k0_t3_loop.st = 7 by decide, stN_zero, stN_all]
  ihave HX := (Entails.of_eq eX) $$ HX
  ihave HW1 := (Entails.of_eq eW1) $$ HW1
  ihave HW2 := (Entails.of_eq eW2) $$ HW2
  clear eX eW1 eW2
  sl_for (iQ c X) $$ [HX H14 H22 HO]
  case region => exact fun k a => (invQ c X).step k a
  · unfold iQ
    isplitl [HX]
    · iexact HX
    isplitl [H14]
    · iexists _
      isplitr; swap; · iexact H14
      ipureintro; intro i hi; exact absurd hi (Nat.not_lt_zero _)
    isplitl [H22]
    · iexists _
      isplitr; swap; · iexact H22
      ipureintro; intro i hi; exact absurd hi (Nat.not_lt_zero _)
    iexists _
    iexact HO
  iintro %a HI
  unfold iQ
  icases HI with ⟨HX, ⟨%f14', %h14, H14⟩, ⟨%f22', %h22, H22⟩, %W, HO⟩
  have e14 : f14' = XQ X := funext fun i => h14 i (lt_of_lt_of_eq (i 0).isLt (by rw [show Scf.trips k0_t4_loop.lb k0_t4_loop.ub k0_t4_loop.st = 6 by decide]; rfl))
  have e22 : f22' = XSV X := funext fun i => h22 i (lt_of_lt_of_eq (i 0).isLt (by rw [show Scf.trips k0_t4_loop.lb k0_t4_loop.ub k0_t4_loop.st = 6 by decide]; rfl))
  subst e14 e22
  clear h14 h22
  ihave H14 := (halve _ _ _).1 $$ H14
  icases H14 with ⟨H14a, H14b⟩
  sl_exec
  clear L1 L2 L3
  ihave H18 := (put18 c _ _ _ rfl) $$ H18
  ihave H17 := (put17 c _ _ _ rfl) $$ H17
  ihave H16 := (put16 c _ _ _ rfl) $$ H16
  irename: owes _ _ _ => HO
  sl_for (iZ c fullShare.right w1 w1s wh ww (XQ X) (XSV X)) $$ [HW1 H14b H22 H16 H17 H18 H24 H25 HO]
  case region => exact fun k a => (invZ c fullShare.right _ _ _ w1 w1s wh ww (XQ X) (XSV X)).step k a
  · unfold iZ
    isplitl [HW1]
    · iexact HW1
    isplitl [H14b]
    · iexact H14b
    isplitl [H22]
    · iexact H22
    isplitl [H16]
    · iexact H16
    isplitl [H17]
    · iexact H17
    isplitl [H18]
    · iexact H18
    isplitl [H24]
    · iexists _
      isplitr; swap; · iexact H24
      ipureintro; intro i hi; exact absurd hi (Nat.not_lt_zero _)
    isplitl [H25]
    · iexists _
      isplitr; swap; · iexact H25
      ipureintro; exact fill25 _ _
    iexists _
    iexact HO
  iintro %a HI
  unfold iZ
  icases HI with ⟨HW1, H14b, H22, H16, H17, H18, ⟨%f24', %h24, H24⟩, ⟨%f25', %h25, H25⟩, %W, HO⟩
  sl_exec
  have e24 : f24' = Z w1 w1s wh ww (XQ X) (XSV X) := funext fun i => h24 i (lt_of_lt_of_eq (i 1).isLt (by rw [show Scf.trips k0_t5_loop.lb k0_t5_loop.ub k0_t5_loop.st = 4 by decide]; rfl))
  rw [show Scf.trips k0_t5_loop.lb k0_t5_loop.ub k0_t5_loop.st = 4 by decide] at h25
  subst e24 h25
  clear h24
  ihave H26 := (nameZQ c _) $$ H26
  icases H26 with ⟨%q26, %h26, H26⟩
  have h26' : q26 = (Memref.whole cc0_scratch13 : Memref sig .tc .vmem S192x2048 .fp8e4m3).view.writes (Elt F) f26 (piecesZQ (Z w1 w1s wh ww (XQ X) (XSV X)) (ZM w1 w1s wh ww (XQ X) (XSV X) 4)) := h26
  rw [fillZQ] at h26'
  ihave H27 := (nameZS c _) $$ H27
  icases H27 with ⟨%q27, %h27, H27⟩
  have h27' : q27 = (Memref.whole cc0_scratch14 : Memref sig .tc .vmem S192x128 .f32).view.writes (Elt F) f27 (piecesS (ZM w1 w1s wh ww (XQ X) (XSV X) 4)) := h27
  rw [fillS] at h27'
  subst hp h26' h27'
  clear h26 h27
  ihave H26 := (halve _ _ _).1 $$ H26
  icases H26 with ⟨H26a, H26b⟩
  sl_exec
  ihave H20 := (put20 c _ _ _ rfl) $$ H20
  ihave H21 := (put21 c _ _ _ rfl) $$ H21
  irename: owes _ _ _ => HO
  generalize eQ : ZQ (Z w1 w1s wh ww (XQ X) (XSV X)) (ZM w1 w1s wh ww (XQ X) (XSV X) 4) = qy
  generalize eS : ZSV (ZM w1 w1s wh ww (XQ X) (XSV X) 4) = sy
  imod (Transfers.batch_alloc' (Lvl := ℕ) (countersEmb (U := Pipeline.UD sig nD τ)) (c : Th) () 12288 (DY c w2 w2s b2 qy sy) (sm := cellY) (E := Set.univ)) $$ S26 with HB
  sl_for (iY c fullShare.right w2 w2s b2 qy sy) $$ [HW2 H26b H27 H20 H21 HB Hds Hys HO]
  case region => exact fun k a => (invY c fullShare.right _ _ _ w2 w2s b2 qy sy).step k a
  · unfold iY batchY
    isplitl [HW2]
    · iexact HW2
    isplitl [H26b]
    · iexact H26b
    isplitl [H27]
    · iexact H27
    isplitl [H20]
    · iexact H20
    isplitl [H21]
    · iexact H21
    isplitl [HB]
    · iexact HB
    isplitl [Hds]
    · iexact Hds
    isplitl [Hys]
    · iexact Hys
    iexists _
    iexact HO
  iintro %a HI
  unfold iY batchY
  icases HI with ⟨HW2, H26b, H27, H20, H21, HB, Hds, Hys, %W, HO⟩
  have eB : (Transfers.Batch (countersEmb (U := Pipeline.UD sig nD τ)) (c : Th) cellY () 12288 (DY c w2 w2s b2 qy sy) (Scf.trips k0_t6_loop.lb k0_t6_loop.ub k0_t6_loop.st) 0 : sProp 𝕄)
      = Transfers.Batch (countersEmb (U := Pipeline.UD sig nD τ)) (c : Th) cellY () 12288 (DY c w2 w2s b2 qy sy) 7 0 := by
    rw [show Scf.trips k0_t6_loop.lb k0_t6_loop.ub k0_t6_loop.st = 7 by decide]
  ihave HB := (Entails.of_eq eB) $$ HB
  sl_exec
  irename: owes _ _ _ => HO
  subst eQ eS
  ihave G9 := (put9 c _ _ _ rfl) $$ G9
  ihave G10 := (put10 c _ _ _ rfl) $$ G10
  ihave G10 := (name10 c _) $$ G10
  icases G10 with ⟨%p10, %h10, G10⟩
  have h10' : p10 = (Memref.whole cc0_scratch10 : Memref sig .tc .vmem S2x8x12 .f32).view.writes (Elt F) f23 (piecesXP (XSV X)) := h10
  rw [fillXP] at h10'
  subst h10'
  clear h10
  ihave G11 := (put11 c _ _ _ rfl) $$ G11
  ihave G12 := (put12 c _ _ _ rfl) $$ G12
  ihave G12 := (name12 c _) $$ G12
  icases G12 with ⟨%p12, %h12, G12⟩
  have h12' : p12 = (Memref.whole cc0_scratch15 : Memref sig .tc .vmem S2x8x12 .f32).view.writes (Elt F) f28 (piecesZP (sz X w1 w1s wh ww)) := h12
  rw [fillZP] at h12'
  subst h12'
  clear h12
  ihave H14 := (halve _ _ _).2 $$ [H14a H14b]
  · isplitl [H14a]
    · iexact H14a
    iexact H14b
  ihave H26 := (halve _ _ _).2 $$ [H26a H26b]
  · isplitl [H26a]
    · iexact H26a
    iexact H26b
  have eX : (Ring.AtW (ΦX c X) (stN 2 1 (Scf.trips k0_t4_loop.lb k0_t4_loop.ub k0_t4_loop.st)) : sProp 𝕄) = Ring.AtW (ΦX c X) (fun _ => 2) := by
    rw [show Scf.trips k0_t4_loop.lb k0_t4_loop.ub k0_t4_loop.st = 6 by decide, stN_all]
  have eW1 : (Ring.AtW (ΦW1 c w1) (stN 2 1 (Scf.trips k0_t5_loop.lb k0_t5_loop.ub k0_t5_loop.st)) : sProp 𝕄) = Ring.AtW (ΦW1 c w1) (fun _ => 2) := by
    rw [show Scf.trips k0_t5_loop.lb k0_t5_loop.ub k0_t5_loop.st = 4 by decide, stN_all]
  have eW2 : (Ring.AtW (ΦW2 c w2) (stN 2 1 (Scf.trips k0_t6_loop.lb k0_t6_loop.ub k0_t6_loop.st)) : sProp 𝕄) = Ring.AtW (ΦW2 c w2) (fun _ => 2) := by
    rw [show Scf.trips k0_t6_loop.lb k0_t6_loop.ub k0_t6_loop.st = 7 by decide, stN_all]
  ihave HX := (Entails.of_eq eX) $$ HX
  ihave HW1 := (Entails.of_eq eW1) $$ HW1
  ihave HW2 := (Entails.of_eq eW2) $$ HW2
  sl_step
  iapply HK
  unfold BodyPost
  rw [fin7 trips6]
  unfold DY
  isplitl [HX]
  · iexact HX
  isplitl [HW1]
  · iexact HW1
  isplitl [HW2]
  · iexact HW2
  isplitl [G2]
  · iexact G2
  isplitl [G3]
  · iexact G3
  isplitl [G4]
  · iexact G4
  isplitl [G6]
  · iexact G6
  isplitl [G7]
  · iexact G7
  isplitl [G9]
  · iexact G9
  isplitl [G10]
  · iexact G10
  isplitl [G11]
  · iexact G11
  isplitl [G12]
  · iexact G12
  isplitl [H14]
  · iexists _; iexact H14
  isplitl [H16]
  · iexists _; iexact H16
  isplitl [H17]
  · iexists _; iexact H17
  isplitl [H18]
  · iexists _; iexact H18
  isplitl [H20]
  · iexists _; iexact H20
  isplitl [H21]
  · iexists _; iexact H21
  isplitl [H22]
  · iexists _; iexact H22
  isplitl [H23]
  · iexists _; iexact H23
  isplitl [H24]
  · iexists _; iexact H24
  isplitl [H25]
  · iexists _; iexact H25
  isplitl [H26]
  · iexists _; iexact H26
  isplitl [H27]
  · iexists _; iexact H27
  isplitl [H28]
  · iexists _; iexact H28
  isplitl [S10]
  · iexact S10
  isplitl [S11]
  · iexact S11
  isplitl [S12]
  · iexact S12
  isplitl [S13]
  · iexact S13
  isplitl [S14]
  · iexact S14
  isplitl [S22]
  · iexact S22
  isplitl [S23]
  · iexact S23
  isplitl [S24]
  · iexact S24
  isplitl [S25]
  · iexact S25
  isplitl [HB]
  · iexact HB
  isplitr [HO]
  · isplitl [HB_dst0 HB_src0]
    · isplitl [HB_dst0]
      · iexact HB_dst0
      iexact HB_src0
    isplitl [HB_dst1 HB_src1]
    · isplitl [HB_dst1]
      · iexact HB_dst1
      iexact HB_src1
    isplitl [HB_dst2 HB_src2]
    · isplitl [HB_dst2]
      · iexact HB_dst2
      iexact HB_src2
    isplitl [HB_dst3 HB_src3]
    · isplitl [HB_dst3]
      · iexact HB_dst3
      iexact HB_src3
    isplitl [HB_dst4 HB_src4]
    · isplitl [HB_dst4]
      · iexact HB_dst4
      iexact HB_src4
    isplitl [HB_dst5 HB_src5]
    · isplitl [HB_dst5]
      · iexact HB_dst5
      iexact HB_src5
    isplitl [HB_dst6]
    · iexact HB_dst6
    iexact HB_src6
  iexists _
  iexact HO

end Cert.Kernel.Hand
-- ==== Proof.KernelHand.Split.lean ====
module

public import proofs.«01_k».proof.Proof.Gen.Kernel.Skeleton
public import proofs.«01_k».proof.Proof.KernelHand.Body

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The proof's user algebra: the pipeline library's beside the transfers' counters. -/
local notation "𝕄" => MT nD τ sig Unit (Elt F) ℕ (Pipeline.UD sig nD τ) ℕ

theorem toEx {A : Type} (P : A → sProp 𝕄) (g : A) : P g ⊢ iprop(∃ g, P g) := by
  iintro H; iexists g; iexact H

theorem same (P : sProp 𝕄) : P ⊢ P := by
  iintro H; iexact H

theorem blocks_disj {ι : Type} [DecidableEq ι] {n : ℕ} (I : Fin n → Finset ι) (key : ι → ℕ) (h : ∀ k y, y ∈ I k ↔ key y = k.val) :
    ∀ b b', b ≠ b' → Disjoint (I b) (I b') := fun b b' hne => by
  rw [Finset.disjoint_left]; intro y hy hy'; rw [h] at hy hy'; exact hne (Fin.ext (hy.symm.trans hy'))

theorem blocks_cover {ι : Type} [DecidableEq ι] [Fintype ι] {n : ℕ} (I : Fin n → Finset ι) (key : ι → ℕ) (h : ∀ k y, y ∈ I k ↔ key y = k.val) (hk : ∀ y, key y < n) :
    Finset.univ.biUnion I = Finset.univ := by
  ext y; simp only [Finset.mem_biUnion, Finset.mem_univ, true_and, iff_true]; exact ⟨⟨key y, hk y⟩, (h _ _).mpr rfl⟩

abbrev blkX (k : Fin 6) : Finset S192x8192.Idx := (Rect.unit (s := S192x8192) ![32 * k.val, 0] S32x8192.size (inbSlotX k)).set

theorem mem_X (k : Fin 6) (y : S192x8192.Idx) : y ∈ blkX k ↔ (y 0).val / 32 = k.val := by
  have y0 : (y 0).val < 192 := (y 0).isLt
  have y1 : (y 1).val < 8192 := (y 1).isLt
  rw [Rect.mem_set_unit]
  constructor
  · intro H
    have a0 : 32 * k.val ≤ (y 0).val ∧ (y 0).val < 32 * k.val + 32 := H 0
    omega
  · intro H a
    fin_cases a
    · show 32 * k.val ≤ (y 0).val ∧ (y 0).val < 32 * k.val + 32; omega
    · show 0 ≤ (y 1).val ∧ (y 1).val < 0 + 8192; omega

theorem set_X (k : Fin 6) : (slotX ![32 * k.val, 0] (inbSlotX k)).view.set = blkX k := by
  unfold slotX; exact View.set_slice_whole _ _

theorem semsX (c : Dev nD) : (bigSep Finset.univ (fun k : Fin 6 => semVal ((c : Th), cellX k) 0) : sProp 𝕄)
    = iprop(semVal ((c : Th), .dma 0) 0 ∗ semVal ((c : Th), .dma 1) 0 ∗ semVal ((c : Th), .dma 2) 0 ∗ semVal ((c : Th), .dma 3) 0 ∗ semVal ((c : Th), .dma 4) 0 ∗ semVal ((c : Th), .dma 5) 0) := by
  rw [BI.bigSep_eq_bigSepL_of_eq [0, 1, 2, 3, 4, 5] (by decide) (by decide)]; rfl

theorem wholeX (c : Dev nD) (g : Vec F S192x8192 .bf16) : (((Memref.whole cc0_scratch0).view.loc (c : Th) ↦{fullShare} g) : sProp 𝕄) = bigSep Finset.univ fun k : Fin 6 => ((Memref.whole cc0_scratch0).view.loc (c : Th)) ↦[blkX k]{fullShare} g :=
  Ring.pointsTo_blocks (ℓ := (Memref.whole cc0_scratch0 : Memref sig .tc .vmem S192x8192 .bf16).view.loc (c : Th)) (q := fullShare) blkX
    (blocks_disj blkX (fun y => (y 0).val / 32) mem_X) (blocks_cover blkX (fun y => (y 0).val / 32) mem_X (fun y => by have h : (y 0).val < 192 := (y 0).isLt; show (y 0).val / 32 < 6; omega)) g

/-- The family of copies, none issued, out of its buffers held whole; -/
theorem enterX (c : Dev nD) (f : Vec F S192x8192 .bf16) :
    iprop((∃ g, ((Memref.whole cc0_scratch0).view.loc (c : Th) ↦{fullShare} g)) ∗ ((Memref.whole main_v1).view.loc (c : Th) ↦{fullShare} f) ∗ (semVal ((c : Th), .dma 0) 0 ∗ semVal ((c : Th), .dma 1) 0 ∗ semVal ((c : Th), .dma 2) 0 ∗ semVal ((c : Th), .dma 3) 0 ∗ semVal ((c : Th), .dma 4) 0 ∗ semVal ((c : Th), .dma 5) 0))
      ⊢ (iprop(Ring.AtW (ΦX c f) (fun _ => 0) ∗ ((Memref.whole main_v1).view.loc (c : Th) ↦{Transfers.shareDrop fullShare 6} f)) : sProp 𝕄) := by
  have e : (Ring.AtW (ΦX c f) (fun _ => 0) : sProp 𝕄) = iprop((bigSep Finset.univ fun k : Fin 6 => semVal ((c : Th), cellX k) 0)
      ∗ (bigSep Finset.univ fun k : Fin 6 => iprop(∃ g, (slotX ![32 * k.val, 0] (inbSlotX k)).view.loc (c : Th) ↦[(slotX ![32 * k.val, 0] (inbSlotX k)).view.set]{fullShare} g))
      ∗ bigSep Finset.univ fun k : Fin 6 => (Memref.whole main_v1).view.loc (c : Th) ↦[(Finset.univ : Finset S192x8192.Idx)]{Transfers.shareTok fullShare 6 k} f) := by
    rw [← bigSep_sep', ← bigSep_sep']; rfl
  have hs : ∀ g : Vec F S192x8192 .bf16, (((Memref.whole cc0_scratch0).view.loc (c : Th) ↦{fullShare} g) : sProp 𝕄) ⊢ (bigSep Finset.univ fun k : Fin 6 => iprop(∃ g, (slotX ![32 * k.val, 0] (inbSlotX k)).view.loc (c : Th) ↦[(slotX ![32 * k.val, 0] (inbSlotX k)).view.set]{fullShare} g)) := fun g =>
    (Entails.of_eq (wholeX c g)).trans (BI.bigSep_mono fun k _ => by
      rw [set_X]; exact toEx (fun g => _) g)
  rw [e, semsX]
  iintro ⟨⟨%g, H⟩, Hb, HS⟩
  ihave Hb := (Transfers.pointsTo_toks_split fullShare 6) $$ Hb
  icases Hb with ⟨Hd, Ht⟩
  ihave H := (hs g) $$ H
  isplitr [Hd]
  · isplitl [HS]
    · iexact HS
    isplitl [H]
    · iexact H
    iexact Ht
  iexact Hd

/-- and the other way round, landed. -/
theorem exitX (c : Dev nD) (f : Vec F S192x8192 .bf16) :
    iprop(Ring.AtW (ΦX c f) (fun _ => 2) ∗ ((Memref.whole main_v1).view.loc (c : Th) ↦{Transfers.shareDrop fullShare 6} f))
      ⊢ (iprop((∃ g, ((Memref.whole cc0_scratch0).view.loc (c : Th) ↦{fullShare} g)) ∗ ((Memref.whole main_v1).view.loc (c : Th) ↦{fullShare} f) ∗ (semVal ((c : Th), .dma 0) 0 ∗ semVal ((c : Th), .dma 1) 0 ∗ semVal ((c : Th), .dma 2) 0 ∗ semVal ((c : Th), .dma 3) 0 ∗ semVal ((c : Th), .dma 4) 0 ∗ semVal ((c : Th), .dma 5) 0)) : sProp 𝕄) := by
  have e : (Ring.AtW (ΦX c f) (fun _ => 2) : sProp 𝕄) = iprop((bigSep Finset.univ fun k : Fin 6 => semVal ((c : Th), cellX k) 0)
      ∗ (bigSep Finset.univ fun k : Fin 6 => (slotX ![32 * k.val, 0] (inbSlotX k)).view.loc (c : Th) ↦[(slotX ![32 * k.val, 0] (inbSlotX k)).view.set]{fullShare} gX f)
      ∗ bigSep Finset.univ fun k : Fin 6 => (Memref.whole main_v1).view.loc (c : Th) ↦[(Finset.univ : Finset S192x8192.Idx)]{Transfers.shareTok fullShare 6 k} f) := by
    rw [← bigSep_sep', ← bigSep_sep']; rfl
  have hs : (bigSep Finset.univ fun k : Fin 6 => (slotX ![32 * k.val, 0] (inbSlotX k)).view.loc (c : Th) ↦[(slotX ![32 * k.val, 0] (inbSlotX k)).view.set]{fullShare} gX f) ⊢ (((Memref.whole cc0_scratch0).view.loc (c : Th) ↦{fullShare} gX f) : sProp 𝕄) :=
    (BI.bigSep_mono fun k _ => by rw [set_X]; exact same _).trans (Entails.of_eq (wholeX c (gX f)).symm)
  rw [e, semsX]
  iintro ⟨⟨HS, H, Ht⟩, Hd⟩
  ihave H := hs $$ H
  ihave Hb := (Transfers.pointsTo_toks_join fullShare 6) $$ [Hd Ht]
  · isplitl [Hd]
    · iexact Hd
    iexact Ht
  isplitl [H]
  · iexists _; iexact H
  isplitl [Hb]
  · iexact Hb
  iexact HS

abbrev blkW1 (k : Fin 4) : Finset S4x8192x512.Idx := (Rect.unit (s := S4x8192x512) ![k.val, 0, 0] S1x8192x512.size (inbSlotW1 k)).set

theorem mem_W1 (k : Fin 4) (y : S4x8192x512.Idx) : y ∈ blkW1 k ↔ (y 0).val = k.val := by
  have y0 : (y 0).val < 4 := (y 0).isLt
  have y1 : (y 1).val < 8192 := (y 1).isLt
  have y2 : (y 2).val < 512 := (y 2).isLt
  rw [Rect.mem_set_unit]
  constructor
  · intro H
    have a0 : k.val ≤ (y 0).val ∧ (y 0).val < k.val + 1 := H 0
    omega
  · intro H a
    fin_cases a
    · show k.val ≤ (y 0).val ∧ (y 0).val < k.val + 1; omega
    · show 0 ≤ (y 1).val ∧ (y 1).val < 0 + 8192; omega
    · show 0 ≤ (y 2).val ∧ (y 2).val < 0 + 512; omega

theorem set_W1 (k : Fin 4) : (slotW1 ![k.val, 0, 0] (inbSlotW1 k)).view.set = blkW1 k := by
  unfold slotW1; exact (View.set_reshape _ _).trans (View.set_slice_whole _ _)

theorem semsW1 (c : Dev nD) : (bigSep Finset.univ (fun k : Fin 4 => semVal ((c : Th), cellW1 k) 0) : sProp 𝕄)
    = iprop(semVal ((c : Th), .dma 6) 0 ∗ semVal ((c : Th), .dma 7) 0 ∗ semVal ((c : Th), .dma 8) 0 ∗ semVal ((c : Th), .dma 9) 0) := by
  rw [BI.bigSep_eq_bigSepL_of_eq [0, 1, 2, 3] (by decide) (by decide)]; rfl

theorem wholeW1 (c : Dev nD) (g : Vec F S4x8192x512 .fp8e4m3) : (((Memref.whole cc0_scratch2).view.loc (c : Th) ↦{fullShare} g) : sProp 𝕄) = bigSep Finset.univ fun k : Fin 4 => ((Memref.whole cc0_scratch2).view.loc (c : Th)) ↦[blkW1 k]{fullShare} g :=
  Ring.pointsTo_blocks (ℓ := (Memref.whole cc0_scratch2 : Memref sig .tc .vmem S4x8192x512 .fp8e4m3).view.loc (c : Th)) (q := fullShare) blkW1
    (blocks_disj blkW1 (fun y => (y 0).val) mem_W1) (blocks_cover blkW1 (fun y => (y 0).val) mem_W1 (fun y => by have h : (y 0).val < 4 := (y 0).isLt; exact h)) g

/-- The family of copies, none issued, out of its buffers held whole; -/
theorem enterW1 (c : Dev nD) (f : Vec F S8192x2048 .fp8e4m3) :
    iprop((∃ g, ((Memref.whole cc0_scratch2).view.loc (c : Th) ↦{fullShare} g)) ∗ ((Memref.whole main_arg1).view.loc (c : Th) ↦{fullShare} f) ∗ (semVal ((c : Th), .dma 6) 0 ∗ semVal ((c : Th), .dma 7) 0 ∗ semVal ((c : Th), .dma 8) 0 ∗ semVal ((c : Th), .dma 9) 0))
      ⊢ (iprop(Ring.AtW (ΦW1 c f) (fun _ => 0) ∗ ((Memref.whole main_arg1).view.loc (c : Th) ↦{Transfers.shareDrop fullShare 4} f)) : sProp 𝕄) := by
  have e : (Ring.AtW (ΦW1 c f) (fun _ => 0) : sProp 𝕄) = iprop((bigSep Finset.univ fun k : Fin 4 => semVal ((c : Th), cellW1 k) 0)
      ∗ (bigSep Finset.univ fun k : Fin 4 => iprop(∃ g, (slotW1 ![k.val, 0, 0] (inbSlotW1 k)).view.loc (c : Th) ↦[(slotW1 ![k.val, 0, 0] (inbSlotW1 k)).view.set]{fullShare} g))
      ∗ bigSep Finset.univ fun k : Fin 4 => (Memref.whole main_arg1).view.loc (c : Th) ↦[(Finset.univ : Finset S8192x2048.Idx)]{Transfers.shareTok fullShare 4 k} f) := by
    rw [← bigSep_sep', ← bigSep_sep']; rfl
  have hs : ∀ g : Vec F S4x8192x512 .fp8e4m3, (((Memref.whole cc0_scratch2).view.loc (c : Th) ↦{fullShare} g) : sProp 𝕄) ⊢ (bigSep Finset.univ fun k : Fin 4 => iprop(∃ g, (slotW1 ![k.val, 0, 0] (inbSlotW1 k)).view.loc (c : Th) ↦[(slotW1 ![k.val, 0, 0] (inbSlotW1 k)).view.set]{fullShare} g)) := fun g =>
    (Entails.of_eq (wholeW1 c g)).trans (BI.bigSep_mono fun k _ => by
      rw [set_W1]; exact toEx (fun g => _) g)
  rw [e, semsW1]
  iintro ⟨⟨%g, H⟩, Hb, HS⟩
  ihave Hb := (Transfers.pointsTo_toks_split fullShare 4) $$ Hb
  icases Hb with ⟨Hd, Ht⟩
  ihave H := (hs g) $$ H
  isplitr [Hd]
  · isplitl [HS]
    · iexact HS
    isplitl [H]
    · iexact H
    iexact Ht
  iexact Hd

/-- and the other way round, landed. -/
theorem exitW1 (c : Dev nD) (f : Vec F S8192x2048 .fp8e4m3) :
    iprop(Ring.AtW (ΦW1 c f) (fun _ => 2) ∗ ((Memref.whole main_arg1).view.loc (c : Th) ↦{Transfers.shareDrop fullShare 4} f))
      ⊢ (iprop((∃ g, ((Memref.whole cc0_scratch2).view.loc (c : Th) ↦{fullShare} g)) ∗ ((Memref.whole main_arg1).view.loc (c : Th) ↦{fullShare} f) ∗ (semVal ((c : Th), .dma 6) 0 ∗ semVal ((c : Th), .dma 7) 0 ∗ semVal ((c : Th), .dma 8) 0 ∗ semVal ((c : Th), .dma 9) 0)) : sProp 𝕄) := by
  have e : (Ring.AtW (ΦW1 c f) (fun _ => 2) : sProp 𝕄) = iprop((bigSep Finset.univ fun k : Fin 4 => semVal ((c : Th), cellW1 k) 0)
      ∗ (bigSep Finset.univ fun k : Fin 4 => (slotW1 ![k.val, 0, 0] (inbSlotW1 k)).view.loc (c : Th) ↦[(slotW1 ![k.val, 0, 0] (inbSlotW1 k)).view.set]{fullShare} gW1 f)
      ∗ bigSep Finset.univ fun k : Fin 4 => (Memref.whole main_arg1).view.loc (c : Th) ↦[(Finset.univ : Finset S8192x2048.Idx)]{Transfers.shareTok fullShare 4 k} f) := by
    rw [← bigSep_sep', ← bigSep_sep']; rfl
  have hs : (bigSep Finset.univ fun k : Fin 4 => (slotW1 ![k.val, 0, 0] (inbSlotW1 k)).view.loc (c : Th) ↦[(slotW1 ![k.val, 0, 0] (inbSlotW1 k)).view.set]{fullShare} gW1 f) ⊢ (((Memref.whole cc0_scratch2).view.loc (c : Th) ↦{fullShare} gW1 f) : sProp 𝕄) :=
    (BI.bigSep_mono fun k _ => by rw [set_W1]; exact same _).trans (Entails.of_eq (wholeW1 c (gW1 f)).symm)
  rw [e, semsW1]
  iintro ⟨⟨HS, H, Ht⟩, Hd⟩
  ihave H := hs $$ H
  ihave Hb := (Transfers.pointsTo_toks_join fullShare 4) $$ [Hd Ht]
  · isplitl [Hd]
    · iexact Hd
    iexact Ht
  isplitl [H]
  · iexists _; iexact H
  isplitl [Hb]
  · iexact Hb
  iexact HS

abbrev blkW2 (k : Fin 7) : Finset S7x2048x1024.Idx := (Rect.unit (s := S7x2048x1024) ![k.val, 0, 0] S1x2048x1024.size (inbSlotW2 k)).set

theorem mem_W2 (k : Fin 7) (y : S7x2048x1024.Idx) : y ∈ blkW2 k ↔ (y 0).val = k.val := by
  have y0 : (y 0).val < 7 := (y 0).isLt
  have y1 : (y 1).val < 2048 := (y 1).isLt
  have y2 : (y 2).val < 1024 := (y 2).isLt
  rw [Rect.mem_set_unit]
  constructor
  · intro H
    have a0 : k.val ≤ (y 0).val ∧ (y 0).val < k.val + 1 := H 0
    omega
  · intro H a
    fin_cases a
    · show k.val ≤ (y 0).val ∧ (y 0).val < k.val + 1; omega
    · show 0 ≤ (y 1).val ∧ (y 1).val < 0 + 2048; omega
    · show 0 ≤ (y 2).val ∧ (y 2).val < 0 + 1024; omega

theorem set_W2 (k : Fin 7) : (slotW2 ![k.val, 0, 0] (inbSlotW2 k)).view.set = blkW2 k := by
  unfold slotW2; exact (View.set_reshape _ _).trans (View.set_slice_whole _ _)

theorem semsW2 (c : Dev nD) : (bigSep Finset.univ (fun k : Fin 7 => semVal ((c : Th), cellW2 k) 0) : sProp 𝕄)
    = iprop(semVal ((c : Th), .dma 15) 0 ∗ semVal ((c : Th), .dma 16) 0 ∗ semVal ((c : Th), .dma 17) 0 ∗ semVal ((c : Th), .dma 18) 0 ∗ semVal ((c : Th), .dma 19) 0 ∗ semVal ((c : Th), .dma 20) 0 ∗ semVal ((c : Th), .dma 21) 0) := by
  rw [BI.bigSep_eq_bigSepL_of_eq [0, 1, 2, 3, 4, 5, 6] (by decide) (by decide)]; rfl

theorem wholeW2 (c : Dev nD) (g : Vec F S7x2048x1024 .fp8e4m3) : (((Memref.whole cc0_scratch6).view.loc (c : Th) ↦{fullShare} g) : sProp 𝕄) = bigSep Finset.univ fun k : Fin 7 => ((Memref.whole cc0_scratch6).view.loc (c : Th)) ↦[blkW2 k]{fullShare} g :=
  Ring.pointsTo_blocks (ℓ := (Memref.whole cc0_scratch6 : Memref sig .tc .vmem S7x2048x1024 .fp8e4m3).view.loc (c : Th)) (q := fullShare) blkW2
    (blocks_disj blkW2 (fun y => (y 0).val) mem_W2) (blocks_cover blkW2 (fun y => (y 0).val) mem_W2 (fun y => by have h : (y 0).val < 7 := (y 0).isLt; exact h)) g

/-- The family of copies, none issued, out of its buffers held whole; -/
theorem enterW2 (c : Dev nD) (f : Vec F S2048x7168 .fp8e4m3) :
    iprop((∃ g, ((Memref.whole cc0_scratch6).view.loc (c : Th) ↦{fullShare} g)) ∗ ((Memref.whole main_arg5).view.loc (c : Th) ↦{fullShare} f) ∗ (semVal ((c : Th), .dma 15) 0 ∗ semVal ((c : Th), .dma 16) 0 ∗ semVal ((c : Th), .dma 17) 0 ∗ semVal ((c : Th), .dma 18) 0 ∗ semVal ((c : Th), .dma 19) 0 ∗ semVal ((c : Th), .dma 20) 0 ∗ semVal ((c : Th), .dma 21) 0))
      ⊢ (iprop(Ring.AtW (ΦW2 c f) (fun _ => 0) ∗ ((Memref.whole main_arg5).view.loc (c : Th) ↦{Transfers.shareDrop fullShare 7} f)) : sProp 𝕄) := by
  have e : (Ring.AtW (ΦW2 c f) (fun _ => 0) : sProp 𝕄) = iprop((bigSep Finset.univ fun k : Fin 7 => semVal ((c : Th), cellW2 k) 0)
      ∗ (bigSep Finset.univ fun k : Fin 7 => iprop(∃ g, (slotW2 ![k.val, 0, 0] (inbSlotW2 k)).view.loc (c : Th) ↦[(slotW2 ![k.val, 0, 0] (inbSlotW2 k)).view.set]{fullShare} g))
      ∗ bigSep Finset.univ fun k : Fin 7 => (Memref.whole main_arg5).view.loc (c : Th) ↦[(Finset.univ : Finset S2048x7168.Idx)]{Transfers.shareTok fullShare 7 k} f) := by
    rw [← bigSep_sep', ← bigSep_sep']; rfl
  have hs : ∀ g : Vec F S7x2048x1024 .fp8e4m3, (((Memref.whole cc0_scratch6).view.loc (c : Th) ↦{fullShare} g) : sProp 𝕄) ⊢ (bigSep Finset.univ fun k : Fin 7 => iprop(∃ g, (slotW2 ![k.val, 0, 0] (inbSlotW2 k)).view.loc (c : Th) ↦[(slotW2 ![k.val, 0, 0] (inbSlotW2 k)).view.set]{fullShare} g)) := fun g =>
    (Entails.of_eq (wholeW2 c g)).trans (BI.bigSep_mono fun k _ => by
      rw [set_W2]; exact toEx (fun g => _) g)
  rw [e, semsW2]
  iintro ⟨⟨%g, H⟩, Hb, HS⟩
  ihave Hb := (Transfers.pointsTo_toks_split fullShare 7) $$ Hb
  icases Hb with ⟨Hd, Ht⟩
  ihave H := (hs g) $$ H
  isplitr [Hd]
  · isplitl [HS]
    · iexact HS
    isplitl [H]
    · iexact H
    iexact Ht
  iexact Hd

/-- and the other way round, landed. -/
theorem exitW2 (c : Dev nD) (f : Vec F S2048x7168 .fp8e4m3) :
    iprop(Ring.AtW (ΦW2 c f) (fun _ => 2) ∗ ((Memref.whole main_arg5).view.loc (c : Th) ↦{Transfers.shareDrop fullShare 7} f))
      ⊢ (iprop((∃ g, ((Memref.whole cc0_scratch6).view.loc (c : Th) ↦{fullShare} g)) ∗ ((Memref.whole main_arg5).view.loc (c : Th) ↦{fullShare} f) ∗ (semVal ((c : Th), .dma 15) 0 ∗ semVal ((c : Th), .dma 16) 0 ∗ semVal ((c : Th), .dma 17) 0 ∗ semVal ((c : Th), .dma 18) 0 ∗ semVal ((c : Th), .dma 19) 0 ∗ semVal ((c : Th), .dma 20) 0 ∗ semVal ((c : Th), .dma 21) 0)) : sProp 𝕄) := by
  have e : (Ring.AtW (ΦW2 c f) (fun _ => 2) : sProp 𝕄) = iprop((bigSep Finset.univ fun k : Fin 7 => semVal ((c : Th), cellW2 k) 0)
      ∗ (bigSep Finset.univ fun k : Fin 7 => (slotW2 ![k.val, 0, 0] (inbSlotW2 k)).view.loc (c : Th) ↦[(slotW2 ![k.val, 0, 0] (inbSlotW2 k)).view.set]{fullShare} gW2 f)
      ∗ bigSep Finset.univ fun k : Fin 7 => (Memref.whole main_arg5).view.loc (c : Th) ↦[(Finset.univ : Finset S2048x7168.Idx)]{Transfers.shareTok fullShare 7 k} f) := by
    rw [← bigSep_sep', ← bigSep_sep']; rfl
  have hs : (bigSep Finset.univ fun k : Fin 7 => (slotW2 ![k.val, 0, 0] (inbSlotW2 k)).view.loc (c : Th) ↦[(slotW2 ![k.val, 0, 0] (inbSlotW2 k)).view.set]{fullShare} gW2 f) ⊢ (((Memref.whole cc0_scratch6).view.loc (c : Th) ↦{fullShare} gW2 f) : sProp 𝕄) :=
    (BI.bigSep_mono fun k _ => by rw [set_W2]; exact same _).trans (Entails.of_eq (wholeW2 c (gW2 f)).symm)
  rw [e, semsW2]
  iintro ⟨⟨HS, H, Ht⟩, Hd⟩
  ihave H := hs $$ H
  ihave Hb := (Transfers.pointsTo_toks_join fullShare 7) $$ [Hd Ht]
  · isplitl [Hd]
    · iexact Hd
    iexact Ht
  isplitl [H]
  · iexists _; iexact H
  isplitl [Hb]
  · iexact Hb
  iexact HS

abbrev blkYd (k : Fin k0_t6_loop.trips) : Finset S24x8x7168.Idx := (Rect.unit (s := S24x8x7168) (k0_off111 k) S24x8x1024.size (k0_off111_inb k)).set
abbrev blkYs (k : Fin k0_t6_loop.trips) : Finset S7x24x8x1024.Idx := (Rect.unit (s := S7x24x8x1024) (k0_off112 k) S1x24x8x1024.size (k0_off112_inb k)).set

theorem mem_Yd (k : Fin k0_t6_loop.trips) (y : S24x8x7168.Idx) : y ∈ blkYd k ↔ (y 2).val / 1024 = k.val := by
  have y0 : (y 0).val < 24 := (y 0).isLt
  have y1 : (y 1).val < 8 := (y 1).isLt
  have y2 : (y 2).val < 7168 := (y 2).isLt
  have h : ∀ (o : Fin 3 → ℕ) (e : o = ![0, 0, 1024 * k.val]) (hb : ∀ a, o a + S24x8x1024.size a ≤ S24x8x7168.size a), y ∈ (Rect.unit (s := S24x8x7168) o S24x8x1024.size hb).set ↔ (y 2).val / 1024 = k.val := by
    intro o e hb
    subst e
    rw [Rect.mem_set_unit]
    constructor
    · intro H
      have a0 : 1024 * k.val ≤ (y 2).val ∧ (y 2).val < 1024 * k.val + 1024 := H 2
      omega
    · intro H a
      fin_cases a
      · show 0 ≤ (y 0).val ∧ (y 0).val < 0 + 24; omega
      · show 0 ≤ (y 1).val ∧ (y 1).val < 0 + 8; omega
      · show 1024 * k.val ≤ (y 2).val ∧ (y 2).val < 1024 * k.val + 1024; omega
  exact h _ (k0_off111_eq k) _

theorem mem_Ys (k : Fin k0_t6_loop.trips) (y : S7x24x8x1024.Idx) : y ∈ blkYs k ↔ (y 0).val = k.val := by
  have y0 : (y 0).val < 7 := (y 0).isLt
  have y1 : (y 1).val < 24 := (y 1).isLt
  have y2 : (y 2).val < 8 := (y 2).isLt
  have y3 : (y 3).val < 1024 := (y 3).isLt
  have h : ∀ (o : Fin 4 → ℕ) (e : o = ![k.val, 0, 0, 0]) (hb : ∀ a, o a + S1x24x8x1024.size a ≤ S7x24x8x1024.size a), y ∈ (Rect.unit (s := S7x24x8x1024) o S1x24x8x1024.size hb).set ↔ (y 0).val = k.val := by
    intro o e hb
    subst e
    rw [Rect.mem_set_unit]
    constructor
    · intro H
      have a0 : k.val ≤ (y 0).val ∧ (y 0).val < k.val + 1 := H 0
      omega
    · intro H a
      fin_cases a
      · show k.val ≤ (y 0).val ∧ (y 0).val < k.val + 1; omega
      · show 0 ≤ (y 1).val ∧ (y 1).val < 0 + 24; omega
      · show 0 ≤ (y 2).val ∧ (y 2).val < 0 + 8; omega
      · show 0 ≤ (y 3).val ∧ (y 3).val < 0 + 1024; omega
  exact h _ (k0_off112_eq k) _

theorem wholeYd (c : Dev nD) (g : Vec F S24x8x7168 .bf16) : (((Memref.whole main_v5_0).view.loc (c : Th) ↦{fullShare} g) : sProp 𝕄) = bigSep Finset.univ fun k : Fin k0_t6_loop.trips => ((Memref.whole main_v5_0).view.loc (c : Th)) ↦[blkYd k]{fullShare} g :=
  Ring.pointsTo_blocks (ℓ := (Memref.whole main_v5_0 : Memref sig .tc .hbm S24x8x7168 .bf16).view.loc (c : Th)) (q := fullShare) blkYd
    (blocks_disj blkYd (fun y => (y 2).val / 1024) mem_Yd) (blocks_cover blkYd (fun y => (y 2).val / 1024) mem_Yd (fun y => by have h : (y 2).val < 7168 := (y 2).isLt; rw [trips6]; omega)) g

theorem wholeYs (c : Dev nD) (g : Vec F S7x24x8x1024 .bf16) : (((Memref.whole cc0_scratch16).view.loc (c : Th) ↦{fullShare} g) : sProp 𝕄) = bigSep Finset.univ fun k : Fin k0_t6_loop.trips => ((Memref.whole cc0_scratch16).view.loc (c : Th)) ↦[blkYs k]{fullShare} g :=
  Ring.pointsTo_blocks (ℓ := (Memref.whole cc0_scratch16 : Memref sig .tc .vmem S7x24x8x1024 .bf16).view.loc (c : Th)) (q := fullShare) blkYs
    (blocks_disj blkYs (fun y => (y 0).val) mem_Ys) (blocks_cover blkYs (fun y => (y 0).val) mem_Ys (fun y => by have h : (y 0).val < 7 := (y 0).isLt; rw [trips6]; exact h)) g

theorem enterYd (c : Dev nD) (g : Vec F S24x8x7168 .bf16) : (((Memref.whole main_v5_0).view.loc (c : Th) ↦{fullShare} g) : sProp 𝕄) ⊢ bigSep Finset.univ (dY c) :=
  (Entails.of_eq (wholeYd c g)).trans (BI.bigSep_mono fun k _ => by
    unfold dY; rw [dstY_set]; exact toEx (fun g => _) g)

theorem enterYs (c : Dev nD) (g : Vec F S7x24x8x1024 .bf16) : (((Memref.whole cc0_scratch16).view.loc (c : Th) ↦{fullShare} g) : sProp 𝕄) ⊢ bigSep Finset.univ (sY c) :=
  (Entails.of_eq (wholeYs c g)).trans (BI.bigSep_mono fun k _ => by
    unfold sY; rw [slotY_set]; exact toEx (fun g => _) g)

theorem exitY (c : Dev nD) (w2 : Vec F S2048x7168 .fp8e4m3) (w2s b2 : Vec F S1x7168 .f32) (f26 : Vec F S192x2048 .fp8e4m3) (f27 : Vec F S192x128 .f32) :
    bigSep Finset.univ (DY c w2 w2s b2 f26 f27) ⊢ (iprop(((Memref.whole main_v5_0).view.loc (c : Th) ↦{fullShare} GY w2 w2s b2 f26 f27) ∗ ∃ g, ((Memref.whole cc0_scratch16).view.loc (c : Th) ↦{fullShare} g)) : sProp 𝕄) := by
  have e : bigSep Finset.univ (DY c w2 w2s b2 f26 f27) = (iprop((bigSep Finset.univ fun k : Fin k0_t6_loop.trips => ((Memref.whole main_v5_0).view.loc (c : Th)) ↦[blkYd k]{fullShare} GY w2 w2s b2 f26 f27)
      ∗ bigSep Finset.univ fun k : Fin k0_t6_loop.trips => ((Memref.whole cc0_scratch16).view.loc (c : Th)) ↦[blkYs k]{fullShare} YV w2 w2s b2 f26 f27) : sProp 𝕄) := by
    rw [← bigSep_sep']
    refine BI.bigSep_congr fun k _ => ?_
    unfold DY; rw [dstY_set, slotY_set]; rfl
  rw [e]
  iintro ⟨H, H'⟩
  ihave H := (Entails.of_eq (wholeYd c (GY w2 w2s b2 f26 f27)).symm) $$ H
  ihave H' := (Entails.of_eq (wholeYs c (YV w2 w2s b2 f26 f27)).symm) $$ H'
  isplitl [H]
  · iexact H
  iexists _
  iexact H'

end Cert.Kernel.Hand
-- ==== Proof.KernelHand.Launch.lean ====
module

public import proofs.«01_k».proof.Proof.Gen.Kernel.Frame
public import Idealize.ShloMosaic.Lib.Pipeline.FrameSuffixV
public import proofs.«01_k».proof.Proof.KernelHand.Split

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.ShloMosaic.Rounds
open Idealize.ShloMosaic.Pipeline (Dat Cfg Window BodyObligation cellOf)
open Idealize.SL.BI.BIBase Idealize.SL.BI.Laws Idealize.SL.ProofMode Idealize.SL.Sem

variable {F : FTy → Type} [FloatOps F]

/-- The proof's user algebra: the pipeline library's beside the transfers' counters. -/
local notation "𝕄" => MT nD τ sig Unit (Elt F) ℕ (Pipeline.UD sig nD τ) ℕ

variable (m : (ℓ : Loc nD τ sig) → Buf (Elt F) ℓ) (ρ : Dev nD → PrngReg)

set_option maxHeartbeats 800000 in
/-- `main` around its one call, over the algebra with the transfers' counters. -/
theorem hmain (𝒱₀ : Variants) : Pipeline.HMainK (Ix := Unit) (Name := ℕ) (U := Pipeline.UD sig nD τ) (Lvl := ℕ) cfgs 0 defs₀ 𝒱₀ m (main (F := F)) (V m)
      (fun _ => Pipeline.chain ([hostOps1].map StableHlo.seq)) :=
  Pipeline.hmain_around cfgs 0 defs₀ 𝒱₀ m main [hostOps0] [hostOps1] (by simp only [List.Forall]; exact hostOps0_sub)
    (by simp only [List.Forall]; exact hostOps0_fresh) main_chain

/-- The body's semaphores, in the order of their numbers. -/
abbrev osem0 : Fin 27 → SemLoc sig := fun j => SemLoc.dma ⟨j.val, j.isLt⟩
theorem ownSemFacts0 : Pipeline.OwnSemFacts (cfg0.spec) osem0 := by decide
/-- The buffers the body reads, and those it writes. -/
def H0 : Finset (Ref sig .tc) := {main_v1, main_arg1, main_v2, main_arg3, main_arg4, main_arg5, main_v3, main_v4}
def R0 : Finset (Ref sig .tc) := {main_v5_0, main_v5_1, main_v5_2, main_v5_3, main_v5_4}
theorem H0_sub : H0 ⊆ Pipeline.restRefs sig (cfg0.spec) := by decide
theorem R0_sub : R0 ⊆ Pipeline.restRefs sig (cfg0.spec) \ H0 := by decide

theorem ownSems_eq (c : Dev nD) :
    (Pipeline.ownSems0 (Ix := Unit) (Name := ℕ) (U := Pipeline.UD sig nD τ) (Lvl := ℕ) (Val := Elt F) (τ := τ) osem0 c : sProp 𝕄)
      = iprop(semVal ((c : Th), .dma 0) 0 ∗ semVal ((c : Th), .dma 1) 0 ∗ semVal ((c : Th), .dma 2) 0 ∗ semVal ((c : Th), .dma 3) 0 ∗ semVal ((c : Th), .dma 4) 0 ∗ semVal ((c : Th), .dma 5) 0 ∗ semVal ((c : Th), .dma 6) 0 ∗ semVal ((c : Th), .dma 7) 0 ∗ semVal ((c : Th), .dma 8) 0 ∗ semVal ((c : Th), .dma 9) 0 ∗ semVal ((c : Th), .dma 10) 0 ∗ semVal ((c : Th), .dma 11) 0 ∗ semVal ((c : Th), .dma 12) 0 ∗ semVal ((c : Th), .dma 13) 0 ∗ semVal ((c : Th), .dma 14) 0 ∗ semVal ((c : Th), .dma 15) 0 ∗ semVal ((c : Th), .dma 16) 0 ∗ semVal ((c : Th), .dma 17) 0 ∗ semVal ((c : Th), .dma 18) 0 ∗ semVal ((c : Th), .dma 19) 0 ∗ semVal ((c : Th), .dma 20) 0 ∗ semVal ((c : Th), .dma 21) 0 ∗ semVal ((c : Th), .dma 22) 0 ∗ semVal ((c : Th), .dma 23) 0 ∗ semVal ((c : Th), .dma 24) 0 ∗ semVal ((c : Th), .dma 25) 0 ∗ semVal ((c : Th), .dma 26) 0) := by
  rw [Pipeline.ownSems0_eq_of_list c osem0 [0, 1, 2, 3, 4, 5, 6, 7, 8, 9, 10, 11, 12, 13, 14, 15, 16, 17, 18, 19, 20, 21, 22, 23, 24, 25, 26] (by decide) (by decide)]; rfl
theorem scoped_eq (c : Dev nD) :
    (Pipeline.scopedRest (Ix := Unit) (Name := ℕ) (U := Pipeline.UD sig nD τ) (Lvl := ℕ) (Val := Elt F) (cfg0.spec) c : sProp 𝕄)
      = iprop((∃ f, ((Memref.whole cc0_scratch0).view.loc (c : Th) ↦{fullShare} f)) ∗ (∃ f, ((Memref.whole cc0_scratch1).view.loc (c : Th) ↦{fullShare} f)) ∗ (∃ f, ((Memref.whole cc0_scratch2).view.loc (c : Th) ↦{fullShare} f)) ∗ (∃ f, ((Memref.whole cc0_scratch3).view.loc (c : Th) ↦{fullShare} f)) ∗ (∃ f, ((Memref.whole cc0_scratch4).view.loc (c : Th) ↦{fullShare} f)) ∗ (∃ f, ((Memref.whole cc0_scratch5).view.loc (c : Th) ↦{fullShare} f)) ∗ (∃ f, ((Memref.whole cc0_scratch6).view.loc (c : Th) ↦{fullShare} f)) ∗ (∃ f, ((Memref.whole cc0_scratch7).view.loc (c : Th) ↦{fullShare} f)) ∗ (∃ f, ((Memref.whole cc0_scratch8).view.loc (c : Th) ↦{fullShare} f)) ∗ (∃ f, ((Memref.whole cc0_scratch9).view.loc (c : Th) ↦{fullShare} f)) ∗ (∃ f, ((Memref.whole cc0_scratch10).view.loc (c : Th) ↦{fullShare} f)) ∗ (∃ f, ((Memref.whole cc0_scratch11).view.loc (c : Th) ↦{fullShare} f)) ∗ (∃ f, ((Memref.whole cc0_scratch12).view.loc (c : Th) ↦{fullShare} f)) ∗ (∃ f, ((Memref.whole cc0_scratch13).view.loc (c : Th) ↦{fullShare} f)) ∗ (∃ f, ((Memref.whole cc0_scratch14).view.loc (c : Th) ↦{fullShare} f)) ∗ (∃ f, ((Memref.whole cc0_scratch15).view.loc (c : Th) ↦{fullShare} f)) ∗ (∃ f, ((Memref.whole cc0_scratch16).view.loc (c : Th) ↦{fullShare} f))) := scopedRest0_eq c
theorem readPts_eq (c : Dev nD) (W : (b : Ref sig .tc) → Buf (Elt F) ((c : Th).loc b)) :
    (bigSep H0 (fun b => ((c : Th).loc b) ↦{fullShare} W b) : sProp 𝕄)
      = iprop(((Memref.whole main_v1).view.loc (c : Th) ↦{fullShare} W main_v1) ∗ ((Memref.whole main_arg1).view.loc (c : Th) ↦{fullShare} W main_arg1) ∗ ((Memref.whole main_v2).view.loc (c : Th) ↦{fullShare} W main_v2) ∗ ((Memref.whole main_arg3).view.loc (c : Th) ↦{fullShare} W main_arg3) ∗ ((Memref.whole main_arg4).view.loc (c : Th) ↦{fullShare} W main_arg4) ∗ ((Memref.whole main_arg5).view.loc (c : Th) ↦{fullShare} W main_arg5) ∗ ((Memref.whole main_v3).view.loc (c : Th) ↦{fullShare} W main_v3) ∗ ((Memref.whole main_v4).view.loc (c : Th) ↦{fullShare} W main_v4)) := by
  rw [BI.bigSep_eq_bigSepL_of_eq [main_v1, main_arg1, main_v2, main_arg3, main_arg4, main_arg5, main_v3, main_v4] (by decide) (by decide)]; rfl
theorem writtenPts_eq (c : Dev nD) (W : (b : Ref sig .tc) → Buf (Elt F) ((c : Th).loc b)) :
    (bigSep R0 (fun b => ((c : Th).loc b) ↦{fullShare} W b) : sProp 𝕄)
      = iprop(((Memref.whole main_v5_0).view.loc (c : Th) ↦{fullShare} W main_v5_0) ∗ ((Memref.whole main_v5_1).view.loc (c : Th) ↦{fullShare} W main_v5_1) ∗ ((Memref.whole main_v5_2).view.loc (c : Th) ↦{fullShare} W main_v5_2) ∗ ((Memref.whole main_v5_3).view.loc (c : Th) ↦{fullShare} W main_v5_3) ∗ ((Memref.whole main_v5_4).view.loc (c : Th) ↦{fullShare} W main_v5_4)) := by
  rw [BI.bigSep_eq_bigSepL_of_eq [main_v5_0, main_v5_1, main_v5_2, main_v5_3, main_v5_4] (by decide) (by decide)]; rfl

/-- What the body leaves in each buffer it writes. -/
def G (c : Dev nD) : (b : Ref sig .tc) → Buf (Elt F) ((c : Th).loc b) :=
  Function.update (Function.update (Function.update (Function.update (Function.update (V m c)
    main_v5_0 (GY (V m c main_arg5) (V m c main_v3) (V m c main_v4) (qz (V m c main_v1) (V m c main_arg1) (V m c main_v2) (V m c main_arg3) (V m c main_arg4)) (sz (V m c main_v1) (V m c main_arg1) (V m c main_v2) (V m c main_arg3) (V m c main_arg4)) : Vec F S24x8x7168 .bf16))
    main_v5_1 (GC9 (XQ (V m c main_v1)) : Vec F S24x8x8192 .fp8e4m3))
    main_v5_2 (SP (grp9 (XSV (V m c main_v1))) : Vec F S2x8x12 .f32))
    main_v5_3 (GC11 (qz (V m c main_v1) (V m c main_arg1) (V m c main_v2) (V m c main_arg3) (V m c main_arg4)) : Vec F S24x8x2048 .fp8e4m3))
    main_v5_4 (SP (grp14 (sz (V m c main_v1) (V m c main_arg1) (V m c main_v2) (V m c main_arg3) (V m c main_arg4))) : Vec F S2x8x12 .f32)
theorem G_0 (c : Dev nD) : G m c main_v5_0 = (GY (V m c main_arg5) (V m c main_v3) (V m c main_v4) (qz (V m c main_v1) (V m c main_arg1) (V m c main_v2) (V m c main_arg3) (V m c main_arg4)) (sz (V m c main_v1) (V m c main_arg1) (V m c main_v2) (V m c main_arg3) (V m c main_arg4)) : Vec F S24x8x7168 .bf16) := by
  unfold G
  rw [Function.update_of_ne (show main_v5_0 ≠ main_v5_4 by decide), Function.update_of_ne (show main_v5_0 ≠ main_v5_3 by decide), Function.update_of_ne (show main_v5_0 ≠ main_v5_2 by decide), Function.update_of_ne (show main_v5_0 ≠ main_v5_1 by decide), Function.update_self]
theorem G_1 (c : Dev nD) : G m c main_v5_1 = (GC9 (XQ (V m c main_v1)) : Vec F S24x8x8192 .fp8e4m3) := by
  unfold G
  rw [Function.update_of_ne (show main_v5_1 ≠ main_v5_4 by decide), Function.update_of_ne (show main_v5_1 ≠ main_v5_3 by decide), Function.update_of_ne (show main_v5_1 ≠ main_v5_2 by decide), Function.update_self]
theorem G_2 (c : Dev nD) : G m c main_v5_2 = (SP (grp9 (XSV (V m c main_v1))) : Vec F S2x8x12 .f32) := by
  unfold G
  rw [Function.update_of_ne (show main_v5_2 ≠ main_v5_4 by decide), Function.update_of_ne (show main_v5_2 ≠ main_v5_3 by decide), Function.update_self]
theorem G_3 (c : Dev nD) : G m c main_v5_3 = (GC11 (qz (V m c main_v1) (V m c main_arg1) (V m c main_v2) (V m c main_arg3) (V m c main_arg4)) : Vec F S24x8x2048 .fp8e4m3) := by
  unfold G
  rw [Function.update_of_ne (show main_v5_3 ≠ main_v5_4 by decide), Function.update_self]
theorem G_4 (c : Dev nD) : G m c main_v5_4 = (SP (grp14 (sz (V m c main_v1) (V m c main_arg1) (V m c main_v2) (V m c main_arg3) (V m c main_arg4))) : Vec F S2x8x12 .f32) := by
  unfold G
  rw [Function.update_self]

theorem Phi_eq (c : Dev nD) (W : (c : Dev nD) → (b : Ref sig .tc) → Buf (Elt F) ((c : Th).loc b)) :
    (Pipeline.ΦDRV osem0 (cfg0.spec) H0 R0 (V m) W c : sProp 𝕄)
      = iprop(((∃ f, ((Memref.whole cc0_scratch0).view.loc (c : Th) ↦{fullShare} f)) ∗ (∃ f, ((Memref.whole cc0_scratch1).view.loc (c : Th) ↦{fullShare} f)) ∗ (∃ f, ((Memref.whole cc0_scratch2).view.loc (c : Th) ↦{fullShare} f)) ∗ (∃ f, ((Memref.whole cc0_scratch3).view.loc (c : Th) ↦{fullShare} f)) ∗ (∃ f, ((Memref.whole cc0_scratch4).view.loc (c : Th) ↦{fullShare} f)) ∗ (∃ f, ((Memref.whole cc0_scratch5).view.loc (c : Th) ↦{fullShare} f)) ∗ (∃ f, ((Memref.whole cc0_scratch6).view.loc (c : Th) ↦{fullShare} f)) ∗ (∃ f, ((Memref.whole cc0_scratch7).view.loc (c : Th) ↦{fullShare} f)) ∗ (∃ f, ((Memref.whole cc0_scratch8).view.loc (c : Th) ↦{fullShare} f)) ∗ (∃ f, ((Memref.whole cc0_scratch9).view.loc (c : Th) ↦{fullShare} f)) ∗ (∃ f, ((Memref.whole cc0_scratch10).view.loc (c : Th) ↦{fullShare} f)) ∗ (∃ f, ((Memref.whole cc0_scratch11).view.loc (c : Th) ↦{fullShare} f)) ∗ (∃ f, ((Memref.whole cc0_scratch12).view.loc (c : Th) ↦{fullShare} f)) ∗ (∃ f, ((Memref.whole cc0_scratch13).view.loc (c : Th) ↦{fullShare} f)) ∗ (∃ f, ((Memref.whole cc0_scratch14).view.loc (c : Th) ↦{fullShare} f)) ∗ (∃ f, ((Memref.whole cc0_scratch15).view.loc (c : Th) ↦{fullShare} f)) ∗ (∃ f, ((Memref.whole cc0_scratch16).view.loc (c : Th) ↦{fullShare} f)))
          ∗ (semVal ((c : Th), .dma 0) 0 ∗ semVal ((c : Th), .dma 1) 0 ∗ semVal ((c : Th), .dma 2) 0 ∗ semVal ((c : Th), .dma 3) 0 ∗ semVal ((c : Th), .dma 4) 0 ∗ semVal ((c : Th), .dma 5) 0 ∗ semVal ((c : Th), .dma 6) 0 ∗ semVal ((c : Th), .dma 7) 0 ∗ semVal ((c : Th), .dma 8) 0 ∗ semVal ((c : Th), .dma 9) 0 ∗ semVal ((c : Th), .dma 10) 0 ∗ semVal ((c : Th), .dma 11) 0 ∗ semVal ((c : Th), .dma 12) 0 ∗ semVal ((c : Th), .dma 13) 0 ∗ semVal ((c : Th), .dma 14) 0 ∗ semVal ((c : Th), .dma 15) 0 ∗ semVal ((c : Th), .dma 16) 0 ∗ semVal ((c : Th), .dma 17) 0 ∗ semVal ((c : Th), .dma 18) 0 ∗ semVal ((c : Th), .dma 19) 0 ∗ semVal ((c : Th), .dma 20) 0 ∗ semVal ((c : Th), .dma 21) 0 ∗ semVal ((c : Th), .dma 22) 0 ∗ semVal ((c : Th), .dma 23) 0 ∗ semVal ((c : Th), .dma 24) 0 ∗ semVal ((c : Th), .dma 25) 0 ∗ semVal ((c : Th), .dma 26) 0)
          ∗ (((Memref.whole main_v1).view.loc (c : Th) ↦{fullShare} V m c main_v1) ∗ ((Memref.whole main_arg1).view.loc (c : Th) ↦{fullShare} V m c main_arg1) ∗ ((Memref.whole main_v2).view.loc (c : Th) ↦{fullShare} V m c main_v2) ∗ ((Memref.whole main_arg3).view.loc (c : Th) ↦{fullShare} V m c main_arg3) ∗ ((Memref.whole main_arg4).view.loc (c : Th) ↦{fullShare} V m c main_arg4) ∗ ((Memref.whole main_arg5).view.loc (c : Th) ↦{fullShare} V m c main_arg5) ∗ ((Memref.whole main_v3).view.loc (c : Th) ↦{fullShare} V m c main_v3) ∗ ((Memref.whole main_v4).view.loc (c : Th) ↦{fullShare} V m c main_v4))
          ∗ (((Memref.whole main_v5_0).view.loc (c : Th) ↦{fullShare} W c main_v5_0) ∗ ((Memref.whole main_v5_1).view.loc (c : Th) ↦{fullShare} W c main_v5_1) ∗ ((Memref.whole main_v5_2).view.loc (c : Th) ↦{fullShare} W c main_v5_2) ∗ ((Memref.whole main_v5_3).view.loc (c : Th) ↦{fullShare} W c main_v5_3) ∗ ((Memref.whole main_v5_4).view.loc (c : Th) ↦{fullShare} W c main_v5_4))) := by
  unfold Pipeline.ΦDRV
  rw [scoped_eq, ownSems_eq, readPts_eq, writtenPts_eq]

/-- The call's resources at the start, and from then on. -/
def PhiAt (c : Dev nD) (n : ℕ) : sProp 𝕄 :=
  if n = 0 then Pipeline.ΦDRV osem0 (cfg0.spec) H0 R0 (V m) (V m) c else Pipeline.ΦDRV osem0 (cfg0.spec) H0 R0 (V m) (G m) c
theorem PhiAt_zero (c : Dev nD) (n : ℕ) (h : n = 0) : PhiAt m c n = Pipeline.ΦDRV osem0 (cfg0.spec) H0 R0 (V m) (V m) c := if_pos h
theorem PhiAt_pos (c : Dev nD) (n : ℕ) (h : n ≠ 0) : PhiAt m c n = Pipeline.ΦDRV osem0 (cfg0.spec) H0 R0 (V m) (G m) c := if_neg h

/-- The invariant: the results as the call finds them before the body, at their values after it. -/
def dats (_ : Fin 1) (c : Dev nD) : Dat τ (Elt F) Unit ℕ (Pipeline.UD sig nD τ) ℕ cfg0 c where
  A w := V m c (Pipeline.arrRef (cfg0.spec) w)
  after w t := w.elim0
  Φ t := PhiAt m c t.val
  q _ := fullShare
  owed _ := 0

theorem A_eq (c : Dev nD) (w : Fin cfg0.W) : (dats m 0 c).A w = V m c (Pipeline.arrRef (cfg0.spec) w) := w.elim0
theorem Phi_first (c : Dev nD) (t : Fin cfg0.N) : (dats m 0 c).Φ t.castSucc = Pipeline.ΦDRV osem0 (cfg0.spec) H0 R0 (V m) (V m) c := by
  have h : t.val < 1 := lt_of_lt_of_eq t.isLt N_0
  exact PhiAt_zero m c _ (show t.castSucc.val = 0 by rw [Fin.val_castSucc]; omega)
theorem Phi_next (c : Dev nD) (t : Fin cfg0.N) : (dats m 0 c).Φ t.succ = Pipeline.ΦDRV osem0 (cfg0.spec) H0 R0 (V m) (G m) c :=
  PhiAt_pos m c _ (show ¬ t.succ.val = 0 by rw [Fin.val_succ]; omega)

def bodyPre (c : Dev nD) (t : Fin cfg0.N) : sProp 𝕄 :=
  iprop((dats m 0 c).Φ t.castSucc ∗ (dats m 0 c).owesAt () t.castSucc)
def bodyPost (c : Dev nD) (t : Fin cfg0.N) : sProp 𝕄 :=
  iprop((dats m 0 c).Φ t.succ ∗ (dats m 0 c).owesAt () t.succ)

set_option maxHeartbeats 1000000 in
theorem sound_body (c : Dev nD) (t : Fin cfg0.N) :
    bodyPre m c t ⊢ wp frame (wpE (defs₀ (F := F)) Variants.none (c : Th) none) Set.univ (bodyAt0 t) (fun _ => bodyPost m c t) := by
  unfold bodyPre bodyPost bodyAt0
  rw [Phi_first, Phi_next, Phi_eq, Phi_eq, G_0, G_1, G_2, G_3, G_4]
  unfold Dat.owesAt Pipeline.owesWithin
  rw [show (dats m 0 c).owed t.castSucc = 0 from rfl, show (dats m 0 c).owed t.succ = 0 from rfl]
  iintro ⟨⟨⟨T0, T1, T2, T3, T4, T5, T6, T7, T8, T9, T10, T11, T12, T13, T14, T15, T16⟩, ⟨S0, S1, S2, S3, S4, S5, S6, S7, S8, S9, S10, S11, S12, S13, S14, S15, S16, S17, S18, S19, S20, S21, S22, S23, S24, S25, S26⟩, ⟨B1, B2, G2, G3, G4, B3, G6, G7⟩, ⟨O0, O1, O2, O3, O4⟩⟩, ⟨%W, -, HW⟩⟩
  ihave HX := (enterX c (V m c main_v1)) $$ [T0 B1 S0 S1 S2 S3 S4 S5]
  · isplitl [T0]
    · iexact T0
    isplitl [B1]
    · iexact B1
    iframe S0 S1 S2 S3 S4 S5
  icases HX with ⟨HX, D1⟩
  ihave HW1 := (enterW1 c (V m c main_arg1)) $$ [T2 B2 S6 S7 S8 S9]
  · isplitl [T2]
    · iexact T2
    isplitl [B2]
    · iexact B2
    iframe S6 S7 S8 S9
  icases HW1 with ⟨HW1, D2⟩
  ihave HW2 := (enterW2 c (V m c main_arg5)) $$ [T6 B3 S15 S16 S17 S18 S19 S20 S21]
  · isplitl [T6]
    · iexact T6
    isplitl [B3]
    · iexact B3
    iframe S15 S16 S17 S18 S19 S20 S21
  icases HW2 with ⟨HW2, D3⟩
  ihave Hds := (enterYd c (V m c main_v5_0)) $$ O0
  icases T16 with ⟨%g16, T16⟩
  ihave Hys := (enterYs c g16) $$ T16
  iapply (run_body c (V m c main_v1) (V m c main_arg1) (V m c main_arg5) (V m c main_v2) (V m c main_arg3) (V m c main_arg4) (V m c main_v3) (V m c main_v4) _)
  isplitl [HX HW1 HW2 G2 G3 G4 G6 G7 O1 O2 O3 O4 T1 T3 T4 T5 T7 T8 T9 T10 T11 T12 T13 T14 T15 S10 S11 S12 S13 S14 S22 S23 S24 S25 S26 Hds Hys HW]
  · unfold BodyPre
    isplitl [HX]
    · iexact HX
    isplitl [HW1]
    · iexact HW1
    isplitl [HW2]
    · iexact HW2
    isplitl [G2]
    · iexact G2
    isplitl [G3]
    · iexact G3
    isplitl [G4]
    · iexact G4
    isplitl [G6]
    · iexact G6
    isplitl [G7]
    · iexact G7
    isplitl [O1]
    · iexists _; iexact O1
    isplitl [O2]
    · iexists _; iexact O2
    isplitl [O3]
    · iexists _; iexact O3
    isplitl [O4]
    · iexists _; iexact O4
    isplitl [T1]
    · iexact T1
    isplitl [T3]
    · iexact T3
    isplitl [T4]
    · iexact T4
    isplitl [T5]
    · iexact T5
    isplitl [T7]
    · iexact T7
    isplitl [T8]
    · iexact T8
    isplitl [T9]
    · iexact T9
    isplitl [T10]
    · iexact T10
    isplitl [T11]
    · iexact T11
    isplitl [T12]
    · iexact T12
    isplitl [T13]
    · iexact T13
    isplitl [T14]
    · iexact T14
    isplitl [T15]
    · iexact T15
    isplitl [S10]
    · iexact S10
    isplitl [S11]
    · iexact S11
    isplitl [S12]
    · iexact S12
    isplitl [S13]
    · iexact S13
    isplitl [S14]
    · iexact S14
    isplitl [S22]
    · iexact S22
    isplitl [S23]
    · iexact S23
    isplitl [S24]
    · iexact S24
    isplitl [S25]
    · iexact S25
    isplitl [S26]
    · iexact S26
    isplitl [Hds]
    · iexact Hds
    isplitl [Hys]
    · iexact Hys
    iexists W
    iexact HW
  unfold BodyPost
  iintro ⟨HX, HW1, HW2, G2, G3, G4, G6, G7, O1, O2, O3, O4, T1, T3, T4, T5, T7, T8, T9, T10, T11, T12, T13, T14, T15, S10, S11, S12, S13, S14, S22, S23, S24, S25, S26, HY, %W', HW'⟩
  ihave HX := (exitX c (V m c main_v1)) $$ [HX D1]
  · iframe HX D1
  icases HX with ⟨T0, B1, S0, S1, S2, S3, S4, S5⟩
  ihave HW1 := (exitW1 c (V m c main_arg1)) $$ [HW1 D2]
  · iframe HW1 D2
  icases HW1 with ⟨T2, B2, S6, S7, S8, S9⟩
  ihave HW2 := (exitW2 c (V m c main_arg5)) $$ [HW2 D3]
  · iframe HW2 D3
  icases HW2 with ⟨T6, B3, S15, S16, S17, S18, S19, S20, S21⟩
  ihave HY := (exitY c _ _ _ _ _) $$ HY
  icases HY with ⟨O0, T16⟩
  isplitr [HW']
  · isplitl [T0 T1 T2 T3 T4 T5 T6 T7 T8 T9 T10 T11 T12 T13 T14 T15 T16]
    · isplitl [T0]
      · iexact T0
      isplitl [T1]
      · iexact T1
      isplitl [T2]
      · iexact T2
      isplitl [T3]
      · iexact T3
      isplitl [T4]
      · iexact T4
      isplitl [T5]
      · iexact T5
      isplitl [T6]
      · iexact T6
      isplitl [T7]
      · iexact T7
      isplitl [T8]
      · iexact T8
      isplitl [T9]
      · iexact T9
      isplitl [T10]
      · iexact T10
      isplitl [T11]
      · iexact T11
      isplitl [T12]
      · iexact T12
      isplitl [T13]
      · iexact T13
      isplitl [T14]
      · iexact T14
      isplitl [T15]
      · iexact T15
      iexact T16
    isplitl [S0 S1 S2 S3 S4 S5 S6 S7 S8 S9 S10 S11 S12 S13 S14 S15 S16 S17 S18 S19 S20 S21 S22 S23 S24 S25 S26]
    · isplitl [S0]
      · iexact S0
      isplitl [S1]
      · iexact S1
      isplitl [S2]
      · iexact S2
      isplitl [S3]
      · iexact S3
      isplitl [S4]
      · iexact S4
      isplitl [S5]
      · iexact S5
      isplitl [S6]
      · iexact S6
      isplitl [S7]
      · iexact S7
      isplitl [S8]
      · iexact S8
      isplitl [S9]
      · iexact S9
      isplitl [S10]
      · iexact S10
      isplitl [S11]
      · iexact S11
      isplitl [S12]
      · iexact S12
      isplitl [S13]
      · iexact S13
      isplitl [S14]
      · iexact S14
      isplitl [S15]
      · iexact S15
      isplitl [S16]
      · iexact S16
      isplitl [S17]
      · iexact S17
      isplitl [S18]
      · iexact S18
      isplitl [S19]
      · iexact S19
      isplitl [S20]
      · iexact S20
      isplitl [S21]
      · iexact S21
      isplitl [S22]
      · iexact S22
      isplitl [S23]
      · iexact S23
      isplitl [S24]
      · iexact S24
      isplitl [S25]
      · iexact S25
      iexact S26
    isplitl [B1 B2 G2 G3 G4 B3 G6 G7]
    · isplitl [B1]
      · iexact B1
      isplitl [B2]
      · iexact B2
      isplitl [G2]
      · iexact G2
      isplitl [G3]
      · iexact G3
      isplitl [G4]
      · iexact G4
      isplitl [B3]
      · iexact B3
      isplitl [G6]
      · iexact G6
      iexact G7
    isplitl [O0]
    · iexact O0
    isplitl [O1]
    · iexact O1
    isplitl [O2]
    · iexact O2
    isplitl [O3]
    · iexact O3
    iexact O4
  iexists W'
  isplitr
  · ipureintro; exact fun _ _ => Or.inl trivial
  iexact HW'

theorem defs₀_row (t : Fin cfg0.N) :
    defs₀ (F := F) .tc cfg0.body (cfg0.bodyArgs t (cfg0.slots t)) = bodyAt0 t := by
  unfold defs₀; rw [Defs.onTc_tc]

theorem noWindows (Φ : Fin cfg0.W → sProp 𝕄) : bigSep Finset.univ Φ = (BI.emp : sProp 𝕄) :=
  BI.bigSep_eq_bigSepL_of_eq [] (by decide) (by decide) Φ

theorem body_obligation (c : Dev nD) : BodyObligation (dats (F := F) m 0 c) (defs₀ (F := F)) Variants.none () Set.univ := fun t => by
  rw [noWindows, noWindows, defs₀_row]
  refine triple_restated (sound_body m c t) rfl ?_ fun _ => ?_
  · unfold bodyPre
    iintro ⟨H, H', -⟩
    iframe H H'
  · unfold bodyPost
    iintro ⟨H, H'⟩
    iframe H H'
    exact same _

/-- What the run leaves: each buffer as the closing host lines make it out of the entry contents and the body's results. -/
def Final (r : PUnit × MemSt nD τ sig (Elt F)) : Prop :=
  (∀ c : Dev nD, ∀ b ∈ Pipeline.restRefs sig (cfg0.spec), r.2.mem ((c : Thread nD τ).loc b)
      = StableHlo.after hostOps1 (Pipeline.withR (V0 m c) R0 c (G m c)) (Proc.devRef .tc b))
    ∧ r.2.sem = fun _ => 0

theorem noArrays (c : Dev nD) (W : Valuation τ sig (Elt F)) (A : (w : Fin cfg0.W) → Buf (Elt F) (((cfg0.spec) w).arr.view.loc (c : Thread nD τ))) :
    Pipeline.withArrays (cfg0.spec) c W A = W := by
  funext r
  unfold Pipeline.withArrays
  rw [dif_neg]
  rintro ⟨w, _⟩
  exact w.elim0

set_option backward.isDefEq.respectTransparency.types false in
theorem run_main : θ_run defs (onTc (τ := τ) (main (F := F))) (s₀ m ρ) (Final m) :=
  Pipeline.θ_run_frame_dmaR_aroundV cfgs (dats m) (0 : Fin 1) launch0 osem0 defs₀ Variants.none ownSemFacts0 H0 R0 H0_sub R0_sub m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (G := G m) (hmain := hmain m Variants.none) (hA := A_eq m)
    (hin := fun c => Entails.of_eq (PhiAt_zero m c 0 rfl).symm) (hout := fun c => Entails.of_eq (PhiAt_pos m c grid0.N (by decide)))
    (Q' := Final m) (hQ' := fun r h => ⟨fun c b hb => ((h.1 c).2 b hb).trans (by
      rw [show Pipeline.withArrays (cfgs 0).spec c (Pipeline.withR (V0 m c) R0 c (G m c)) (fun w => (dats m 0 c).arrAt w (cfgs 0).N) = Pipeline.withR (V0 m c) R0 c (G m c) from noArrays c _ _]; rfl), h.2⟩)

/-- A buffer no closing line writes and the body does not write ends as the call found it; -/
theorem final_kept (c : Dev nD) (b : Ref sig .tc) (hb : b ∉ R0)
    (h : b ≠ main_v6 ∧ b ≠ main_v7 ∧ b ≠ main_v8 ∧ b ≠ main_v9 ∧ b ≠ main_v10 ∧ b ≠ main_v11) :
    StableHlo.after hostOps1 (Pipeline.withR (V0 m c) R0 c (G m c)) (Proc.devRef .tc b) = V m c b := by
  have e : (hostOps1 : List (HloOp τ sig (Elt F))).Forall fun op => Proc.devRef .tc b ∉ op.writes := by
    simp only [hostOps1, List.Forall, StableHlo.unary_writes, StableHlo.reshape_writes, Finset.mem_singleton]
    obtain ⟨h6, h7, h8, h9, h10, h11⟩ := h
    repeat' apply And.intro
    all_goals exact StableHlo.devRef_ne_of_ne (by assumption)
  rw [StableHlo.after_of_forall_not_mem _ _ (List.forall_iff_forall_mem.mp e), Pipeline.withR_of_not_mem _ _ _ _ b hb]
theorem final_arg0 (c : Dev nD) : StableHlo.after hostOps1 (Pipeline.withR (V0 m c) R0 c (G m c)) (Proc.devRef .tc main_arg0) = m ((c : Th).loc main_arg0) :=
  (final_kept m c main_arg0 (by decide) (by decide)).trans (V_main_arg0 m c)
theorem final_arg1 (c : Dev nD) : StableHlo.after hostOps1 (Pipeline.withR (V0 m c) R0 c (G m c)) (Proc.devRef .tc main_arg1) = m ((c : Th).loc main_arg1) :=
  (final_kept m c main_arg1 (by decide) (by decide)).trans (V_main_arg1 m c)
theorem final_arg2 (c : Dev nD) : StableHlo.after hostOps1 (Pipeline.withR (V0 m c) R0 c (G m c)) (Proc.devRef .tc main_arg2) = m ((c : Th).loc main_arg2) :=
  (final_kept m c main_arg2 (by decide) (by decide)).trans (V_main_arg2 m c)
theorem final_arg3 (c : Dev nD) : StableHlo.after hostOps1 (Pipeline.withR (V0 m c) R0 c (G m c)) (Proc.devRef .tc main_arg3) = m ((c : Th).loc main_arg3) :=
  (final_kept m c main_arg3 (by decide) (by decide)).trans (V_main_arg3 m c)
theorem final_arg4 (c : Dev nD) : StableHlo.after hostOps1 (Pipeline.withR (V0 m c) R0 c (G m c)) (Proc.devRef .tc main_arg4) = m ((c : Th).loc main_arg4) :=
  (final_kept m c main_arg4 (by decide) (by decide)).trans (V_main_arg4 m c)
theorem final_arg5 (c : Dev nD) : StableHlo.after hostOps1 (Pipeline.withR (V0 m c) R0 c (G m c)) (Proc.devRef .tc main_arg5) = m ((c : Th).loc main_arg5) :=
  (final_kept m c main_arg5 (by decide) (by decide)).trans (V_main_arg5 m c)
theorem final_arg6 (c : Dev nD) : StableHlo.after hostOps1 (Pipeline.withR (V0 m c) R0 c (G m c)) (Proc.devRef .tc main_arg6) = m ((c : Th).loc main_arg6) :=
  (final_kept m c main_arg6 (by decide) (by decide)).trans (V_main_arg6 m c)
theorem final_arg7 (c : Dev nD) : StableHlo.after hostOps1 (Pipeline.withR (V0 m c) R0 c (G m c)) (Proc.devRef .tc main_arg7) = m ((c : Th).loc main_arg7) :=
  (final_kept m c main_arg7 (by decide) (by decide)).trans (V_main_arg7 m c)

/-- The arguments end as launched, every semaphore at zero. -/
theorem frame_all : θ_run defs (onTc (τ := τ) (main (F := F))) ⟨m, fun _ => 0, ρ⟩ (fun r => (∀ c : Dev nD,
      r.2.mem ((c : Thread nD τ).loc main_arg0) = m ((c : Thread nD τ).loc main_arg0) ∧ r.2.mem ((c : Thread nD τ).loc main_arg1) = m ((c : Thread nD τ).loc main_arg1) ∧ r.2.mem ((c : Thread nD τ).loc main_arg2) = m ((c : Thread nD τ).loc main_arg2) ∧ r.2.mem ((c : Thread nD τ).loc main_arg3) = m ((c : Thread nD τ).loc main_arg3) ∧ r.2.mem ((c : Thread nD τ).loc main_arg4) = m ((c : Thread nD τ).loc main_arg4) ∧ r.2.mem ((c : Thread nD τ).loc main_arg5) = m ((c : Thread nD τ).loc main_arg5) ∧ r.2.mem ((c : Thread nD τ).loc main_arg6) = m ((c : Thread nD τ).loc main_arg6) ∧ r.2.mem ((c : Thread nD τ).loc main_arg7) = m ((c : Thread nD τ).loc main_arg7))
      ∧ r.2.sem = fun _ => 0) :=
  (θ_run defs _ _).mono (fun r h => ⟨fun c => ⟨(h.1 c main_arg0 (Pipeline.mem_restRefs_of main_arg0 (by decide) (by decide))).trans (final_arg0 m c), (h.1 c main_arg1 (Pipeline.mem_restRefs_of main_arg1 (by decide) (by decide))).trans (final_arg1 m c), (h.1 c main_arg2 (Pipeline.mem_restRefs_of main_arg2 (by decide) (by decide))).trans (final_arg2 m c), (h.1 c main_arg3 (Pipeline.mem_restRefs_of main_arg3 (by decide) (by decide))).trans (final_arg3 m c), (h.1 c main_arg4 (Pipeline.mem_restRefs_of main_arg4 (by decide) (by decide))).trans (final_arg4 m c), (h.1 c main_arg5 (Pipeline.mem_restRefs_of main_arg5 (by decide) (by decide))).trans (final_arg5 m c), (h.1 c main_arg6 (Pipeline.mem_restRefs_of main_arg6 (by decide) (by decide))).trans (final_arg6 m c), (h.1 c main_arg7 (Pipeline.mem_restRefs_of main_arg7 (by decide) (by decide))).trans (final_arg7 m c)⟩, h.2⟩) (run_main m ρ)

end Cert.Kernel.Hand
-- ==== Proof.Value.Quant.lean ====
module
public import Idealize.ShloMosaic.Lib.Pointwise

/-! The two spellings of a row's scale agree over the extended reals: the kernel finds the exponent by bisection over
the bit patterns of the powers of two, the reference takes the floor of a logarithm. -/

@[expose] public noncomputable section

namespace Cert.Val
open Idealize.ShloMosaic

/-- The float whose exponent field is `b`. -/
def thr (b : BitVec 32) : EReal := Ideal.ofBits .f32 (IntOp.shli .vector b 23#32)

/-- One step of the bisection: `b + s` if that power of two is at most `t`. -/
def stp (t : EReal) (b s : BitVec 32) : BitVec 32 :=
  Scalar.select (Ideal.cmp .oge t (thr (IntOp.addi b s))) (IntOp.addi b s) b

/-- The first six steps, -/
def six (t : EReal) : BitVec 32 := stp t (stp t (stp t (stp t (stp t (stp t 0#32 128#32) 64#32) 32#32) 16#32) 8#32) 4#32

/-- and all eight, held to `252`. -/
def kb (t : EReal) : BitVec 32 := IntOp.minsi (stp t (stp t (six t) 2#32) 1#32) 252#32

/-- `t` lies strictly between zero and infinity. -/
def usual (t : EReal) : BitVec 1 :=
  IntOp.andi (Ideal.cmp .ogt t (Ideal.ofBits .f32 0x00000000#32)) (Ideal.cmp .olt t (Ideal.ofBits .f32 0x7F800000#32))

/-- The kernel's scale at `t`, -/
def ksc (t : EReal) : EReal := Scalar.select (usual t) (thr (IntOp.addi (kb t) 1#32)) (Ideal.ofBits .f32 0x3F800000#32)

/-- and its inverse. -/
def kiv (t : EReal) : EReal := Scalar.select (usual t) (thr (IntOp.subi 253#32 (kb t))) (Ideal.ofBits .f32 0x3F800000#32)

/-- The quantiser's factor `1/448`. -/
def c448 : EReal := Ideal.ofBits .f32 0x3B124925#32

/-- The reference's exponent for a row maximum `a`. -/
def eR (a : EReal) : EReal :=
  Scalar.select (IntOp.ori (Ideal.cmp .oeq a (Ideal.ofBits .f32 0x00000000#32)) (Ideal.cmp .oeq (a * c448) (Ideal.ofBits .f32 0x7F800000#32)))
    (Ideal.ofBits .f32 0x00000000#32)
    (min (Ideal.ofBits .f32 0x42FC0000#32) (max (Ideal.ofBits .f32 0xC2FC0000#32)
      (Ideal.liftRound Int.floor (Ideal.div (Ideal.log (a * c448)) (Ideal.log (Ideal.ofBits .f32 0x40000000#32)))
        + Ideal.ofBits .f32 0x3F800000#32)))

/-- The power of two with exponent field `n`. -/
def T (n : ℕ) : EReal := if n = 0 then 0 else if 255 ≤ n then ⊤ else (((2 : ℝ) ^ ((n : ℤ) - 127) : ℝ) : EReal)

theorem bits23 : ∀ n : Fin 256, (IntOp.shli .vector (BitVec.ofNat 32 n.val) 23#32).extractLsb' 31 1 = 0#1 ∧
    ((IntOp.shli .vector (BitVec.ofNat 32 n.val) 23#32).extractLsb' 23 8).toNat = n.val ∧
    ((IntOp.shli .vector (BitVec.ofNat 32 n.val) 23#32).extractLsb' 0 23).toNat = 0 := by decide +kernel

theorem f32_norm (b : BitVec 32) (ng : Bool) (E F : ℕ) (h1 : (b.extractLsb' 31 1 == 1#1) = ng) (h2 : (b.extractLsb' 23 8).toNat = E)
    (h3 : (b.extractLsb' 0 23).toNat = F) (hE : E ≠ 255) (hE0 : E ≠ 0) :
    Ideal.ofBits .f32 b = (((if ng then -1 else 1) * ((2 ^ 23 + F : ℕ) : ℝ) * (2 : ℝ) ^ ((E : ℤ) - 127 - 23) : ℝ) : EReal) := by
  have hb : ((2 : ℤ) ^ (8 - 1) - 1) = 127 := by norm_num
  have hm : (2 ^ 8 - 1 : ℕ) = 255 := by norm_num
  simp only [Ideal.ofBits, Ideal.ieee, h1, h2, h3, hb, hm]
  rw [if_neg hE, if_neg hE0]
  rfl

theorem f32_inf (b : BitVec 32) (h1 : (b.extractLsb' 31 1 == 1#1) = false) (h2 : (b.extractLsb' 23 8).toNat = 255)
    (h3 : (b.extractLsb' 0 23).toNat = 0) : Ideal.ofBits .f32 b = (⊤ : EReal) := by
  have hm : (2 ^ 8 - 1 : ℕ) = 255 := by norm_num
  simp only [Ideal.ofBits, Ideal.ieee, h1, h2, h3, hm]
  rfl

theorem two23 (e : ℤ) : (1 : ℝ) * ((2 ^ 23 + 0 : ℕ) : ℝ) * (2 : ℝ) ^ (e - 23) = (2 : ℝ) ^ e := by
  have : ((2 ^ 23 + 0 : ℕ) : ℝ) = (2 : ℝ) ^ (23 : ℤ) := by norm_num
  rw [this, one_mul, ← zpow_add₀ (by norm_num)]
  congr 1; ring

theorem thr_zero : thr 0#32 = 0 := by
  have e : IntOp.shli .vector 0#32 23#32 = 0#32 := by decide +kernel
  rw [thr, e]; simp [Ideal.ofBits, Ideal.ieee]
theorem thr_ofNat (n : ℕ) (h : n < 256) : thr (BitVec.ofNat 32 n) = T n := by
  obtain ⟨h1, h2, h3⟩ := bits23 ⟨n, h⟩
  simp only at h1 h2 h3
  by_cases h0 : n = 0
  · rw [h0, T, if_pos rfl]; exact thr_zero
  · by_cases hb : 255 ≤ n
    · have hT : T n = ⊤ := by unfold T; rw [if_neg h0, if_pos hb]
      rw [hT, thr]
      exact f32_inf _ (by rw [h1]; rfl) (by rw [h2]; omega) h3
    · have hT : T n = (((2 : ℝ) ^ ((n : ℤ) - 127) : ℝ) : EReal) := by unfold T; rw [if_neg h0, if_neg hb]
      rw [hT, thr, f32_norm _ false n 0 (by rw [h1]; rfl) h2 h3 (by omega) h0]
      exact congrArg (fun x : ℝ => (x : EReal)) (two23 ((n : ℤ) - 127))

theorem z0 : Ideal.ofBits .f32 0x00000000#32 = (0 : EReal) := by
  have e : thr 0#32 = Ideal.ofBits .f32 0x00000000#32 := by rw [thr]; congr 1
  rw [← e]; exact thr_zero
theorem zinf : Ideal.ofBits .f32 0x7F800000#32 = (⊤ : EReal) := by
  have e : thr (BitVec.ofNat 32 255) = Ideal.ofBits .f32 0x7F800000#32 := by rw [thr]; congr 1
  rw [← e, thr_ofNat 255 (by decide)]; simp [T]
theorem z1 : Ideal.ofBits .f32 0x3F800000#32 = (1 : EReal) := by
  have e : thr (BitVec.ofNat 32 127) = Ideal.ofBits .f32 0x3F800000#32 := by rw [thr]; congr 1
  rw [← e, thr_ofNat 127 (by decide)]; simp [T]
theorem z2 : Ideal.ofBits .f32 0x40000000#32 = ((2 : ℝ) : EReal) := by
  have e : thr (BitVec.ofNat 32 128) = Ideal.ofBits .f32 0x40000000#32 := by rw [thr]; congr 1
  rw [← e, thr_ofNat 128 (by decide)]; simp [T]

theorem stp_ofNat (t : EReal) (b s : ℕ) (h : b + s < 256) :
    stp t (BitVec.ofNat 32 b) (BitVec.ofNat 32 s) = BitVec.ofNat 32 (if T (b + s) ≤ t then b + s else b) := by
  have e : IntOp.addi (BitVec.ofNat 32 b) (BitVec.ofNat 32 s) = BitVec.ofNat 32 (b + s) := (BitVec.ofNat_add b s).symm
  rw [stp, e, thr_ofNat _ h]
  by_cases hc : T (b + s) ≤ t <;> simp [Ideal.cmp, hc, Scalar.select]

/-- `t` lies in the `w` binades from the one with exponent field `b`. -/
def Inv (t : EReal) (b w : ℕ) : Prop := T b ≤ t ∧ t < T (b + w) ∧ b + w ≤ 256

theorem inv_step {t : EReal} {b s : ℕ} (hs : 0 < s) (h : Inv t b (2 * s)) {B S : BitVec 32} (hB : B = BitVec.ofNat 32 b) (hS : S = BitVec.ofNat 32 s) :
    ∃ b', stp t B S = BitVec.ofNat 32 b' ∧ Inv t b' s := by
  subst hB hS
  obtain ⟨h1, h2, h3⟩ := h
  rw [stp_ofNat t b s (by omega)]
  by_cases hc : T (b + s) ≤ t
  · exact ⟨b + s, by rw [if_pos hc], hc, by rw [show b + s + s = b + 2 * s by omega]; exact h2, by omega⟩
  · exact ⟨b, by rw [if_neg hc], h1, lt_of_not_ge hc, by omega⟩

theorem kb_spec {t : EReal} (h0 : 0 < t) (h1 : t < ⊤) : ∃ b : ℕ, kb t = BitVec.ofNat 32 (min b 252) ∧ b ≤ 254 ∧ T b ≤ t ∧ t < T (b + 1) := by
  obtain ⟨b1, e1, i1⟩ := inv_step (t := t) (b := 0) (s := 128) (B := 0#32) (S := 128#32) (by decide) ⟨by simpa [T] using h0.le, by simpa [T] using h1, by decide⟩ rfl rfl
  obtain ⟨b2, e2, i2⟩ := inv_step (s := 64) (S := 64#32) (by decide) i1 e1 rfl
  obtain ⟨b3, e3, i3⟩ := inv_step (s := 32) (S := 32#32) (by decide) i2 e2 rfl
  obtain ⟨b4, e4, i4⟩ := inv_step (s := 16) (S := 16#32) (by decide) i3 e3 rfl
  obtain ⟨b5, e5, i5⟩ := inv_step (s := 8) (S := 8#32) (by decide) i4 e4 rfl
  obtain ⟨b6, e6, i6⟩ := inv_step (s := 4) (S := 4#32) (by decide) i5 e5 rfl
  obtain ⟨b7, e7, i7⟩ := inv_step (s := 2) (S := 2#32) (by decide) i6 e6 rfl
  obtain ⟨b, e8, i8⟩ := inv_step (s := 1) (S := 1#32) (by decide) i7 e7 rfl
  obtain ⟨j1, j2, j3⟩ := i8
  have hb : b ≤ 254 := by
    by_contra hc
    have : T b = ⊤ := by rw [T, if_neg (by omega), if_pos (by omega)]
    rw [this] at j1
    exact absurd (lt_of_le_of_lt j1 h1) (lt_irrefl _)
  refine ⟨b, ?_, hb, j1, j2⟩
  rw [kb, six, e8]
  have hm : ∀ n : Fin 255, IntOp.minsi (BitVec.ofNat 32 n.val) 252#32 = BitVec.ofNat 32 (min n.val 252) := by decide +kernel
  exact hm ⟨b, by omega⟩

theorem c448_pos : ∃ r : ℝ, 0 < r ∧ c448 = (r : EReal) := by
  refine ⟨_, ?_, f32_norm _ false 118 1198373 (by decide +kernel) (by decide +kernel) (by decide +kernel) (by decide) (by decide)⟩
  simp only [Bool.false_eq_true, if_false]
  positivity

theorem z126 : Ideal.ofBits .f32 0x42FC0000#32 = ((126 : ℝ) : EReal) := by
  rw [f32_norm _ false 133 8126464 (by decide +kernel) (by decide +kernel) (by decide +kernel) (by decide) (by decide)]
  congr 1; norm_num
theorem zm126 : Ideal.ofBits .f32 0xC2FC0000#32 = ((-126 : ℝ) : EReal) := by
  rw [f32_norm _ true 133 8126464 (by decide +kernel) (by decide +kernel) (by decide +kernel) (by decide) (by decide)]
  congr 1; norm_num

theorem sel_one {α : Type} (x y : α) : Scalar.select 1#1 x y = x := rfl
theorem sel_zero {α : Type} (x y : α) : Scalar.select 0#1 x y = y := rfl
theorem ori_one (x : BitVec 1) : IntOp.ori x 1#1 = 1#1 := by revert x; decide
theorem one_ori (x : BitVec 1) : IntOp.ori 1#1 x = 1#1 := by revert x; decide
theorem exp2_zero : Ideal.exp2 0 = 1 := (Ideal.exp2_coe (r := 0)).trans (by simp)
theorem coe_max' (a b : ℝ) : ((max a b : ℝ) : EReal) = max (a : EReal) b := (EReal.coe_strictMono.monotone.map_max)
theorem coe_min' (a b : ℝ) : ((min a b : ℝ) : EReal) = min (a : EReal) b := (EReal.coe_strictMono.monotone.map_min)

/-- The exponent as an integer, where `t` is usual. -/
theorem eR_spec {a : EReal} (ha : a * c448 ≠ ⊤) (h0 : 0 < a) (ht0 : 0 < a * c448) {b : ℕ} (hb : b ≤ 254) (j1 : T b ≤ a * c448) (j2 : a * c448 < T (b + 1)) :
    eR a = ((((min b 252 : ℕ) : ℤ) - 126 : ℤ) : ℝ) := by
  have e1 : Ideal.cmp .oeq a (Ideal.ofBits .f32 0x00000000#32) = 0#1 := by
    rw [z0]; simp [Ideal.cmp, h0.ne']
  have e2 : Ideal.cmp .oeq (a * c448) (Ideal.ofBits .f32 0x7F800000#32) = 0#1 := by
    rw [zinf]; simp [Ideal.cmp, ha]
  rw [eR, e1, e2, z0, z1, z126, zm126, z2]
  generalize a * c448 = t at *
  induction t with
  | bot => simp at ht0
  | top => exact absurd rfl ha
  | coe r =>
    have hr : 0 < r := by exact_mod_cast ht0
    have hl : (0 : ℝ) < Real.log 2 := Real.log_pos (by norm_num)
    have h1 : b ≠ 0 → ((b : ℤ) - 127) ≤ ⌊Real.log r / Real.log 2⌋ := by
      intro hn
      rw [T, if_neg hn, if_neg (by omega)] at j1
      have := EReal.coe_le_coe_iff.mp j1
      rw [Int.le_floor, le_div_iff₀ hl, ← Real.log_zpow]
      exact Real.log_le_log (by positivity) this
    have h2 : b ≤ 253 → ⌊Real.log r / Real.log 2⌋ < (b : ℤ) - 126 := by
      intro hn
      rw [T, if_neg (by omega), if_neg (by omega)] at j2
      have := EReal.coe_lt_coe_iff.mp j2
      rw [Int.floor_lt, div_lt_iff₀ hl, ← Real.log_zpow]
      refine Real.log_lt_log hr (lt_of_lt_of_eq this ?_)
      congr 1; push_cast; omega
    have hd : Ideal.div (Ideal.log (r : EReal)) (Ideal.log ((2 : ℝ) : EReal)) = ((Real.log r / Real.log 2 : ℝ) : EReal) := by
      rw [Ideal.log_coe, Ideal.log_coe, if_neg (by linarith), if_neg (by norm_num), Ideal.div_coe hl.ne', ← EReal.coe_mul]
      congr 1; ring
    rw [hd, Ideal.liftRound_coe]
    generalize ⌊Real.log r / Real.log 2⌋ = fl at *
    have hz : (((min b 252 : ℕ) : ℤ) - 126 : ℤ) = min 126 (max (-126) (fl + 1)) := by
      rcases Nat.eq_zero_or_pos b with rfl | hp
      · have := h2 (by omega); omega
      · have h1 := h1 (by omega)
        by_cases hq : b ≤ 253
        · have := h2 hq; omega
        · omega
    rw [hz]
    change min _ (max _ _) = _
    have h1e : (1 : EReal) = ((1 : ℝ) : EReal) := rfl
    rw [h1e, ← EReal.coe_add, ← coe_max', ← coe_min']
    push_cast
    rfl

theorem rpow_int (n : ℤ) : Ideal.exp2 (((n : ℝ)) : EReal) = (((2 : ℝ) ^ n : ℝ) : EReal) := by
  rw [Ideal.exp2_coe]; congr 1; exact Real.rpow_intCast 2 n

theorem quant {a : EReal} (ha : 0 ≤ a) : ksc (a * c448) = Ideal.exp2 (eR a) ∧ kiv (a * c448) = Ideal.exp2 (0 - eR a) := by
  obtain ⟨r, hr, hc⟩ := c448_pos
  by_cases h0 : a = 0
  · have e1 : eR a = 0 := by
      have e : Ideal.cmp .oeq (0 : EReal) 0 = 1#1 := by simp [Ideal.cmp]
      rw [eR, h0, z0, e, one_ori, sel_one]
    have e2 : usual (a * c448) = 0#1 := by
      rw [usual, h0, z0]; simp [Ideal.cmp, IntOp.andi]
    rw [ksc, kiv, e1, e2, z1, sel_zero, sel_zero, sub_zero, exp2_zero]; exact ⟨rfl, rfl⟩
  · have hp : 0 < a := lt_of_le_of_ne ha (Ne.symm h0)
    have ht0 : 0 < a * c448 := by rw [hc]; exact EReal.mul_pos hp (by exact_mod_cast hr)
    by_cases h1 : a * c448 = ⊤
    · have e1 : eR a = 0 := by
        have e : Ideal.cmp .oeq (⊤ : EReal) ⊤ = 1#1 := by simp [Ideal.cmp]
        rw [eR, h1, z0, zinf, e, ori_one, sel_one]
      have e2 : usual (a * c448) = 0#1 := by
        rw [usual, h1, zinf]; simp [Ideal.cmp, IntOp.andi]
      rw [ksc, kiv, e1, e2, z1, sel_zero, sel_zero, sub_zero, exp2_zero]; exact ⟨rfl, rfl⟩
    · obtain ⟨b, hk, hb, j1, j2⟩ := kb_spec ht0 (lt_top_iff_ne_top.mpr h1)
      have e2 : usual (a * c448) = 1#1 := by
        rw [usual, z0, zinf]; simp [Ideal.cmp, IntOp.andi, ht0, lt_top_iff_ne_top.mpr h1]
      have hA : ∀ n : Fin 253, IntOp.addi (BitVec.ofNat 32 n.val) 1#32 = BitVec.ofNat 32 (n.val + 1) := by decide +kernel
      have hS : ∀ n : Fin 253, IntOp.subi 253#32 (BitVec.ofNat 32 n.val) = BitVec.ofNat 32 (253 - n.val) := by decide +kernel
      have hA := hA ⟨min b 252, by omega⟩
      have hS := hS ⟨min b 252, by omega⟩
      simp only at hA hS
      rw [eR_spec h1 hp ht0 hb j1 j2, ksc, kiv, e2, hk, hA, hS, thr_ofNat _ (by omega), thr_ofNat _ (by omega)]
      generalize hn : min b 252 = n
      have hn2 : n ≤ 252 := by omega
      refine ⟨?_, ?_⟩
      · rw [rpow_int, T, if_neg (by omega), if_neg (by omega), sel_one]
        congr 2; push_cast; ring
      · rw [show (0 : EReal) - ((((n : ℤ) - 126 : ℤ) : ℝ) : EReal) = (((126 - (n : ℤ) : ℤ) : ℝ) : EReal) from ?_, rpow_int, T, if_neg (by omega), if_neg (by omega), sel_one]
        · congr 2; push_cast [Nat.cast_sub (show n ≤ 253 by omega)]; ring
        · rw [show (0 : EReal) = ((0 : ℝ) : EReal) from rfl, ← EReal.coe_sub]; congr 1; push_cast; ring

theorem bf16_norm (b : BitVec 16) (ng : Bool) (E F : ℕ) (h1 : (b.extractLsb' 15 1 == 1#1) = ng) (h2 : (b.extractLsb' 7 8).toNat = E)
    (h3 : (b.extractLsb' 0 7).toNat = F) (hE : E ≠ 255) (hE0 : E ≠ 0) :
    Ideal.ofBits .bf16 b = (((if ng then -1 else 1) * ((2 ^ 7 + F : ℕ) : ℝ) * (2 : ℝ) ^ ((E : ℤ) - 127 - 7) : ℝ) : EReal) := by
  have hb : ((2 : ℤ) ^ (8 - 1) - 1) = 127 := by norm_num
  have hm : (2 ^ 8 - 1 : ℕ) = 255 := by norm_num
  simp only [Ideal.ofBits, Ideal.ieee, h1, h2, h3, hb, hm]
  rw [if_neg hE, if_neg hE0]
  rfl

theorem bf448 : Ideal.ofBits .bf16 0x43E0#16 = (Ideal.ofBits .f32 0x43E00000#32 : EReal) := by
  rw [bf16_norm _ false 135 96 (by decide +kernel) (by decide +kernel) (by decide +kernel) (by decide) (by decide),
    f32_norm _ false 135 6291456 (by decide +kernel) (by decide +kernel) (by decide +kernel) (by decide) (by decide)]
  congr 1; norm_num
theorem bfm448 : Ideal.ofBits .bf16 0xC3E0#16 = (Ideal.ofBits .f32 0xC3E00000#32 : EReal) := by
  rw [bf16_norm _ true 135 96 (by decide +kernel) (by decide +kernel) (by decide +kernel) (by decide) (by decide),
    f32_norm _ true 135 6291456 (by decide +kernel) (by decide +kernel) (by decide +kernel) (by decide) (by decide)]
  congr 1; norm_num

end Cert.Val
-- ==== Proof.Value.Spec.lean ====
module
public import proofs.«01_k».proof.Proof.Value.Quant

/-! The quantiser of one row, over the extended reals. -/

@[expose] public noncomputable section

namespace Cert.Val
open Idealize.ShloMosaic

/-- The absolute value. -/
def ab (x : EReal) : EReal := max x (-x)

/-- The largest absolute value of a row, -/
def amx {n : ℕ} (f : Fin n → EReal) : EReal := Finset.univ.sup fun d => ab (f d)

/-- its scale, -/
def scl {n : ℕ} (f : Fin n → EReal) : EReal := Ideal.exp2 (eR (amx f))

/-- and its codes. -/
def code {n : ℕ} (f : Fin n → EReal) (d : Fin n) : EReal :=
  min (Ideal.ofBits .f32 0x43E00000#32) (max (Ideal.ofBits .f32 0xC3E00000#32) (f d * Ideal.exp2 (0 - eR (amx f))))

theorem ab_nonneg (x : EReal) : 0 ≤ ab x := by
  rcases le_total 0 x with h | h
  · exact le_max_of_le_left h
  · exact le_max_of_le_right (by rw [EReal.neg_nonneg]; exact h)

theorem amx_nonneg {n : ℕ} (f : Fin (n + 1) → EReal) : 0 ≤ amx f :=
  le_trans (ab_nonneg (f 0)) (Finset.le_sup (f := fun d => ab (f d)) (Finset.mem_univ 0))

theorem zbot : Ideal.ofBits .f32 0xFF800000#32 = (⊥ : EReal) := by
  have hm : (2 ^ 8 - 1 : ℕ) = 255 := by norm_num
  have h1 : (((0xFF800000#32 : BitVec 32).extractLsb' (8 + 23) 1) == 1#1) = true := by decide +kernel
  have h2 : ((0xFF800000#32 : BitVec 32).extractLsb' 23 8).toNat = 255 := by decide +kernel
  have h3 : ((0xFF800000#32 : BitVec 32).extractLsb' 0 23).toNat = 0 := by decide +kernel
  show Ideal.ieee 8 23 (0xFF800000#32 : BitVec 32) = _
  simp only [Ideal.ieee, h1, h2, h3, hm]
  rfl

theorem fold_amx {n : ℕ} (f : Fin n → EReal) : (Finset.univ.fold max (Ideal.ofBits .f32 0xFF800000#32 : EReal) fun d => ab (f d)) = amx f := by
  rw [zbot]; rfl

/-- The first product with its scales, at row `j` of group `(i, k)`, -/
def uS (x : Fin 2 → Fin 8 → Fin 12 → Fin 8192 → EReal) (p : Fin 8192 → Fin 2048 → EReal) (q : Fin 2048 → EReal) (i : Fin 2) (j : Fin 8) (k : Fin 12) (n : Fin 2048) : EReal :=
  (∑ d : Fin 8192, code (x i j k) d * p d n) * (scl (x i j k) * q n)

/-- a tensor after the stencil along `h`, -/
def vS (u : Fin 2 → Fin 8 → Fin 12 → Fin 2048 → EReal) (t : Fin 3 → Fin 2048 → EReal) (i : Fin 2) (j : Fin 8) (k : Fin 12) (n : Fin 2048) : EReal :=
  ((if h : j.val = 0 then 0 else u i ⟨j.val - 1, by omega⟩ k n) * t 0 n + u i j k n * t 1 n) + (if h : j.val = 7 then 0 else u i ⟨j.val + 1, by omega⟩ k n) * t 2 n

/-- after the one along `w`, -/
def zS (v : Fin 2 → Fin 8 → Fin 12 → Fin 2048 → EReal) (t : Fin 3 → Fin 2048 → EReal) (i : Fin 2) (j : Fin 8) (k : Fin 12) (n : Fin 2048) : EReal :=
  ((if h : k.val = 0 then 0 else v i j ⟨k.val - 1, by omega⟩ n) * t 0 n + v i j k n * t 1 n) + (if h : k.val = 11 then 0 else v i j ⟨k.val + 1, by omega⟩ n) * t 2 n

/-- and the second product, rescaled, with its bias. -/
def yS (z : Fin 2 → Fin 8 → Fin 12 → Fin 2048 → EReal) (p : Fin 2048 → Fin 7168 → EReal) (q b : Fin 7168 → EReal) (i : Fin 2) (j : Fin 8) (k : Fin 12) (o : Fin 7168) : EReal :=
  ((∑ n : Fin 2048, code (z i j k) n * p n o) * scl (z i j k)) * q o + b o

end Cert.Val
-- ==== Proof.Value.KX.lean ====
module
public import proofs.«01_k».proof.Proof.KernelIdealHand.Outs
public import proofs.«01_k».proof.Proof.Value.Spec
import Idealize.ShloMosaic.Lib.Pointwise

/-! The kernel's scales and codes of `x`, row by row. -/

@[expose] public noncomputable section

namespace Cert.Val

open Cert.KernelIdeal Cert.KernelIdeal.Gen Cert.KernelIdeal.Hand Idealize.ShloMosaic

/-- One step of the bisection on a vector. -/
def vstp {s : Shape} (v : FVec Ideal s .f32) (b : IVec s 32) (n : BitVec 32) : IVec s 32 :=
  select (cmpf .oge v (bitcastToFloat .f32 (shli (addi b (broadcast s n)) (broadcast s 23#32)))) (addi b (broadcast s n)) b
theorem vstp_at {s : Shape} (v : FVec Ideal s .f32) (b : IVec s 32) (n : BitVec 32) (i : s.Idx) : vstp v b n i = stp (v i) (b i) n := rfl

theorem pay4_v (v : FVec Ideal S32x1 .f32) : k0_pay4 v = vstp v (vstp v (vstp v (vstp v (vstp v (vstp v (broadcast _ 0#32) 128#32) 64#32) 32#32) 16#32) 8#32) 4#32 := rfl
theorem pay4_at (v : FVec Ideal S32x1 .f32) (i : S32x1.Idx) : k0_pay4 v i = six (v i) := by
  rw [pay4_v]; simp only [vstp_at]; rfl
theorem pay6_v (v : FVec Ideal S32x1 .f32) : k0_pay6 v (k0_pay4 v) (k0_pay5 v) 23#32 = minsi (vstp v (vstp v (k0_pay4 v) 2#32) 1#32) (broadcast _ 252#32) := rfl
theorem pay6_at (v : FVec Ideal S32x1 .f32) (i : S32x1.Idx) : k0_pay6 v (k0_pay4 v) (k0_pay5 v) 23#32 i = kb (v i) := by
  rw [pay6_v]; show IntOp.minsi (vstp v (vstp v (k0_pay4 v) 2#32) 1#32 i) 252#32 = _
  rw [vstp_at, vstp_at, pay4_at]; rfl

theorem sp128 (v : FVec Ideal S32x1 .f32) (r : Fin 32) (d : Fin 128) (h2 h3 h4) : shapeCast S32x128 (broadcastTo S32x128 (shapeCast S32x1 v h2) h3) h4 (ix2 r d) = v (ix2 r 0) := by
  pointwise

theorem pay8_at (v : FVec Ideal S32x1 .f32) (r : Fin 32) (l : Fin 128) : k0_pay8 v (k0_pay4 v) (k0_pay5 v) 23#32 (ix2 r l) = ksc (v (ix2 r 0)) := by
  unfold k0_pay8
  refine (sp128 _ r l _ _ _).trans ?_
  show Scalar.select (usual (v (ix2 r 0))) (thr (IntOp.addi (k0_pay6 v (k0_pay4 v) (k0_pay5 v) 23#32 (ix2 r 0)) 1#32)) _ = _
  rw [pay6_at]; rfl
theorem pay9_at (v : FVec Ideal S32x1 .f32) (i : S32x1.Idx) : k0_pay9 v (k0_pay4 v) (k0_pay5 v) 23#32 i = kiv (v i) := by
  unfold k0_pay9
  show Scalar.select (usual (v i)) (thr (IntOp.subi 253#32 (k0_pay6 v (k0_pay4 v) (k0_pay5 v) 23#32 i))) _ = _
  rw [pay6_at]; rfl

/-- A load of the buffer that `x` is in. -/
theorem ldX (f : Vec Ideal S192x8192 .bf16) {o : Fin 2 → ℕ} {a b : ℕ} {sz : Fin 2 → ℕ} (e : o = ![a, b]) (hb) (x : (⟨2, sz⟩ : Shape).Idx) (i : S192x8192.Idx)
    (h0 : (i 0).val = a + (x 0).val) (h1 : (i 1).val = b + (x 1).val) :
    (Memref.whole cc0_scratch0 : Memref sig .tc .vmem S192x8192 .bf16).view.readAt (Elt Ideal) (Rect.unit (s := S192x8192) o sz hb).toLoadRect (gX f) x = f i := by
  subst e
  refine congrArg f (funext fun d => Fin.ext ?_)
  fin_cases d
  · show a + 1 * (x 0).val = (i 0).val; omega
  · show b + 1 * (x 1).val = (i 1).val; omega

section Rows
variable (f : Vec Ideal S192x8192 .bf16) (k : Fin k0_t4_loop.trips)

theorem k6 (k : Fin k0_t4_loop.trips) : k.val < 6 := lt_of_lt_of_eq k.isLt trips4

/-- A block of 256 of the trip's columns. -/
def chk (c : Fin 32) : Vec Ideal S32x256 .bf16 := fun x =>
  f (ix2 ⟨32 * k.val + (x 0).val, by have h := k6 k; have h0 : (x 0).val < 32 := (x 0).isLt; omega⟩ ⟨256 * c.val + (x 1).val, by have h1 : (x 1).val < 256 := (x 1).isLt; omega⟩)

theorem ldc (c : Fin 32) {o : Fin 2 → ℕ} (e : o = ![32 * k.val, 256 * c.val]) (hb) :
    xRd f (a := 32) (b := 256) (o := o) hb = chk f k c :=
  funext fun x => ldX f e hb x _ rfl rfl

theorem E11 (k : Fin k0_t4_loop.trips) : k0_off11 k = ![32 * k.val, 256 * (0 : Fin 32).val] := by revert k; decide +kernel
theorem E12 (k : Fin k0_t4_loop.trips) : k0_off12 k = ![32 * k.val, 256 * (1 : Fin 32).val] := by revert k; decide +kernel
theorem E13 (k : Fin k0_t4_loop.trips) : k0_off13 k = ![32 * k.val, 256 * (2 : Fin 32).val] := by revert k; decide +kernel
theorem E14 (k : Fin k0_t4_loop.trips) : k0_off14 k = ![32 * k.val, 256 * (3 : Fin 32).val] := by revert k; decide +kernel
theorem E15 (k : Fin k0_t4_loop.trips) : k0_off15 k = ![32 * k.val, 256 * (4 : Fin 32).val] := by revert k; decide +kernel
theorem E16 (k : Fin k0_t4_loop.trips) : k0_off16 k = ![32 * k.val, 256 * (5 : Fin 32).val] := by revert k; decide +kernel
theorem E17 (k : Fin k0_t4_loop.trips) : k0_off17 k = ![32 * k.val, 256 * (6 : Fin 32).val] := by revert k; decide +kernel
theorem E18 (k : Fin k0_t4_loop.trips) : k0_off18 k = ![32 * k.val, 256 * (7 : Fin 32).val] := by revert k; decide +kernel
theorem E19 (k : Fin k0_t4_loop.trips) : k0_off19 k = ![32 * k.val, 256 * (8 : Fin 32).val] := by revert k; decide +kernel
theorem E20 (k : Fin k0_t4_loop.trips) : k0_off20 k = ![32 * k.val, 256 * (9 : Fin 32).val] := by revert k; decide +kernel
theorem E21 (k : Fin k0_t4_loop.trips) : k0_off21 k = ![32 * k.val, 256 * (10 : Fin 32).val] := by revert k; decide +kernel
theorem E22 (k : Fin k0_t4_loop.trips) : k0_off22 k = ![32 * k.val, 256 * (11 : Fin 32).val] := by revert k; decide +kernel
theorem E23 (k : Fin k0_t4_loop.trips) : k0_off23 k = ![32 * k.val, 256 * (12 : Fin 32).val] := by revert k; decide +kernel
theorem E24 (k : Fin k0_t4_loop.trips) : k0_off24 k = ![32 * k.val, 256 * (13 : Fin 32).val] := by revert k; decide +kernel
theorem E25 (k : Fin k0_t4_loop.trips) : k0_off25 k = ![32 * k.val, 256 * (14 : Fin 32).val] := by revert k; decide +kernel
theorem E26 (k : Fin k0_t4_loop.trips) : k0_off26 k = ![32 * k.val, 256 * (15 : Fin 32).val] := by revert k; decide +kernel
theorem E27 (k : Fin k0_t4_loop.trips) : k0_off27 k = ![32 * k.val, 256 * (16 : Fin 32).val] := by revert k; decide +kernel
theorem E28 (k : Fin k0_t4_loop.trips) : k0_off28 k = ![32 * k.val, 256 * (17 : Fin 32).val] := by revert k; decide +kernel
theorem E29 (k : Fin k0_t4_loop.trips) : k0_off29 k = ![32 * k.val, 256 * (18 : Fin 32).val] := by revert k; decide +kernel
theorem E30 (k : Fin k0_t4_loop.trips) : k0_off30 k = ![32 * k.val, 256 * (19 : Fin 32).val] := by revert k; decide +kernel
theorem E31 (k : Fin k0_t4_loop.trips) : k0_off31 k = ![32 * k.val, 256 * (20 : Fin 32).val] := by revert k; decide +kernel
theorem E32 (k : Fin k0_t4_loop.trips) : k0_off32 k = ![32 * k.val, 256 * (21 : Fin 32).val] := by revert k; decide +kernel
theorem E33 (k : Fin k0_t4_loop.trips) : k0_off33 k = ![32 * k.val, 256 * (22 : Fin 32).val] := by revert k; decide +kernel
theorem E34 (k : Fin k0_t4_loop.trips) : k0_off34 k = ![32 * k.val, 256 * (23 : Fin 32).val] := by revert k; decide +kernel
theorem E35 (k : Fin k0_t4_loop.trips) : k0_off35 k = ![32 * k.val, 256 * (24 : Fin 32).val] := by revert k; decide +kernel
theorem E36 (k : Fin k0_t4_loop.trips) : k0_off36 k = ![32 * k.val, 256 * (25 : Fin 32).val] := by revert k; decide +kernel
theorem E37 (k : Fin k0_t4_loop.trips) : k0_off37 k = ![32 * k.val, 256 * (26 : Fin 32).val] := by revert k; decide +kernel
theorem E38 (k : Fin k0_t4_loop.trips) : k0_off38 k = ![32 * k.val, 256 * (27 : Fin 32).val] := by revert k; decide +kernel
theorem E39 (k : Fin k0_t4_loop.trips) : k0_off39 k = ![32 * k.val, 256 * (28 : Fin 32).val] := by revert k; decide +kernel
theorem E40 (k : Fin k0_t4_loop.trips) : k0_off40 k = ![32 * k.val, 256 * (29 : Fin 32).val] := by revert k; decide +kernel
theorem E41 (k : Fin k0_t4_loop.trips) : k0_off41 k = ![32 * k.val, 256 * (30 : Fin 32).val] := by revert k; decide +kernel
theorem E42 (k : Fin k0_t4_loop.trips) : k0_off42 k = ![32 * k.val, 256 * (31 : Fin 32).val] := by revert k; decide +kernel
theorem E44 (k : Fin k0_t4_loop.trips) : k0_off44 k = ![32 * k.val, 1024 * (0 : Fin 8).val] := by revert k; decide +kernel
theorem E45 (k : Fin k0_t4_loop.trips) : k0_off45 k = ![32 * k.val, 1024 * (1 : Fin 8).val] := by revert k; decide +kernel
theorem E46 (k : Fin k0_t4_loop.trips) : k0_off46 k = ![32 * k.val, 1024 * (2 : Fin 8).val] := by revert k; decide +kernel
theorem E47 (k : Fin k0_t4_loop.trips) : k0_off47 k = ![32 * k.val, 1024 * (3 : Fin 8).val] := by revert k; decide +kernel
theorem E48 (k : Fin k0_t4_loop.trips) : k0_off48 k = ![32 * k.val, 1024 * (4 : Fin 8).val] := by revert k; decide +kernel
theorem E49 (k : Fin k0_t4_loop.trips) : k0_off49 k = ![32 * k.val, 1024 * (5 : Fin 8).val] := by revert k; decide +kernel
theorem E50 (k : Fin k0_t4_loop.trips) : k0_off50 k = ![32 * k.val, 1024 * (6 : Fin 8).val] := by revert k; decide +kernel
theorem E51 (k : Fin k0_t4_loop.trips) : k0_off51 k = ![32 * k.val, 1024 * (7 : Fin 8).val] := by revert k; decide +kernel

theorem chain_le (a : Fin 32 → EReal) (M : EReal) (h : ∀ c, a c ≤ M) : max (max (max (max (max (max (max (max (max (max (max (max (max (max (max (max (max (max (max (max (max (max (max (max (max (max (max (max (max (max (max (a 0) (a 1)) (a 2)) (a 3)) (a 4)) (a 5)) (a 6)) (a 7)) (a 8)) (a 9)) (a 10)) (a 11)) (a 12)) (a 13)) (a 14)) (a 15)) (a 16)) (a 17)) (a 18)) (a 19)) (a 20)) (a 21)) (a 22)) (a 23)) (a 24)) (a 25)) (a 26)) (a 27)) (a 28)) (a 29)) (a 30)) (a 31) ≤ M := by
  exact max_le (max_le (max_le (max_le (max_le (max_le (max_le (max_le (max_le (max_le (max_le (max_le (max_le (max_le (max_le (max_le (max_le (max_le (max_le (max_le (max_le (max_le (max_le (max_le (max_le (max_le (max_le (max_le (max_le (max_le (max_le (h 0) (h 1)) (h 2)) (h 3)) (h 4)) (h 5)) (h 6)) (h 7)) (h 8)) (h 9)) (h 10)) (h 11)) (h 12)) (h 13)) (h 14)) (h 15)) (h 16)) (h 17)) (h 18)) (h 19)) (h 20)) (h 21)) (h 22)) (h 23)) (h 24)) (h 25)) (h 26)) (h 27)) (h 28)) (h 29)) (h 30)) (h 31)
theorem le_chain (a : Fin 32 → EReal) (c : Fin 32) : a c ≤ max (max (max (max (max (max (max (max (max (max (max (max (max (max (max (max (max (max (max (max (max (max (max (max (max (max (max (max (max (max (max (a 0) (a 1)) (a 2)) (a 3)) (a 4)) (a 5)) (a 6)) (a 7)) (a 8)) (a 9)) (a 10)) (a 11)) (a 12)) (a 13)) (a 14)) (a 15)) (a 16)) (a 17)) (a 18)) (a 19)) (a 20)) (a 21)) (a 22)) (a 23)) (a 24)) (a 25)) (a 26)) (a 27)) (a 28)) (a 29)) (a 30)) (a 31) := by
  fin_cases c <;> repeat first | exact le_max_right _ _ | refine le_max_of_le_left ?_ | exact le_refl (a 0)

theorem rowmax (v : FVec Ideal S32x256 .f32) (r : Fin 32) (h1 h2 h3 h4) : shapeCast S32x1 (multiReduction .maximumf [1] S32 v 0xFF800000#32 h1 h2 h3) h4 (ix2 r 0) =
    (Finset.univ.fold max (Ideal.ofBits .f32 0xFF800000#32) fun d => v (ix2 r d) : EReal) := by
  pointwise

theorem pay3_v (g : Fin 32 → FVec Ideal S32x256 .bf16) :
    k0_pay3 (k0_pay2 (k0_pay1 (g 0) (g 1) (g 2) (g 3) (g 4) (g 5) (g 6) (g 7) (g 8)) (g 9) (g 10) (g 11) (g 12) (g 13) (g 14) (g 15) (g 16) (g 17) (g 18) (g 19) (g 20)) (g 21) (g 22) (g 23) (g 24) (g 25) (g 26) (g 27) (g 28) (g 29) (g 30) (g 31) =
      mulf (shapeCast S32x1 (multiReduction (F := Ideal) (φ := .f32) .maximumf [1] S32 (fun i => max (max (max (max (max (max (max (max (max (max (max (max (max (max (max (max (max (max (max (max (max (max (max (max (max (max (max (max (max (max (max (ab (g 0 i)) (ab (g 1 i))) (ab (g 2 i))) (ab (g 3 i))) (ab (g 4 i))) (ab (g 5 i))) (ab (g 6 i))) (ab (g 7 i))) (ab (g 8 i))) (ab (g 9 i))) (ab (g 10 i))) (ab (g 11 i))) (ab (g 12 i))) (ab (g 13 i))) (ab (g 14 i))) (ab (g 15 i))) (ab (g 16 i))) (ab (g 17 i))) (ab (g 18 i))) (ab (g 19 i))) (ab (g 20 i))) (ab (g 21 i))) (ab (g 22 i))) (ab (g 23 i))) (ab (g 24 i))) (ab (g 25 i))) (ab (g 26 i))) (ab (g 27 i))) (ab (g 28 i))) (ab (g 29 i))) (ab (g 30 i))) (ab (g 31 i))) 0xFF800000#32 reduces_S32x256_S32 (.inl rfl) rfl) shapeCasts_S32_S32x1)
        (broadcast S32x1 c448) := rfl

theorem xT_at (r : Fin 32) : xT f k (ix2 r 0) = amx (fun d : Fin 8192 => f (ix2 ⟨32 * k.val + r.val, by have h := k6 k; omega⟩ d)) * c448 := by
  unfold xT
  rw [ldc f k 0 (E11 k), ldc f k 1 (E12 k), ldc f k 2 (E13 k), ldc f k 3 (E14 k), ldc f k 4 (E15 k), ldc f k 5 (E16 k), ldc f k 6 (E17 k), ldc f k 7 (E18 k), ldc f k 8 (E19 k), ldc f k 9 (E20 k), ldc f k 10 (E21 k), ldc f k 11 (E22 k), ldc f k 12 (E23 k), ldc f k 13 (E24 k), ldc f k 14 (E25 k), ldc f k 15 (E26 k), ldc f k 16 (E27 k), ldc f k 17 (E28 k), ldc f k 18 (E29 k), ldc f k 19 (E30 k), ldc f k 20 (E31 k), ldc f k 21 (E32 k), ldc f k 22 (E33 k), ldc f k 23 (E34 k), ldc f k 24 (E35 k), ldc f k 25 (E36 k), ldc f k 26 (E37 k), ldc f k 27 (E38 k), ldc f k 28 (E39 k), ldc f k 29 (E40 k), ldc f k 30 (E41 k), ldc f k 31 (E42 k)]
  rw [pay3_v (chk f k)]
  refine congrArg (· * c448) ?_
  refine (rowmax _ r _ _ _ _).trans ?_
  rw [zbot]
  refine le_antisymm (Finset.sup_le fun l _ => chain_le (fun c => ab (chk f k c (ix2 r l))) _ fun c => ?_) (Finset.sup_le fun d _ => ?_)
  · exact Finset.le_sup (f := fun d : Fin 8192 => ab (f (ix2 ⟨32 * k.val + r.val, by have h := k6 k; omega⟩ d))) (Finset.mem_univ (⟨256 * c.val + l.val, by have hl := l.isLt; have hc := c.isLt; omega⟩ : Fin 8192))
  · have hd : d.val < 8192 := d.isLt
    refine le_trans (le_trans (le_of_eq ?_) (le_chain (fun c => ab (chk f k c (ix2 r ⟨d.val % 256, by omega⟩))) ⟨d.val / 256, by omega⟩))
      (Finset.le_sup (f := fun l : Fin 256 => max (max (max (max (max (max (max (max (max (max (max (max (max (max (max (max (max (max (max (max (max (max (max (max (max (max (max (max (max (max (max (ab (chk f k 0 (ix2 r l))) (ab (chk f k 1 (ix2 r l)))) (ab (chk f k 2 (ix2 r l)))) (ab (chk f k 3 (ix2 r l)))) (ab (chk f k 4 (ix2 r l)))) (ab (chk f k 5 (ix2 r l)))) (ab (chk f k 6 (ix2 r l)))) (ab (chk f k 7 (ix2 r l)))) (ab (chk f k 8 (ix2 r l)))) (ab (chk f k 9 (ix2 r l)))) (ab (chk f k 10 (ix2 r l)))) (ab (chk f k 11 (ix2 r l)))) (ab (chk f k 12 (ix2 r l)))) (ab (chk f k 13 (ix2 r l)))) (ab (chk f k 14 (ix2 r l)))) (ab (chk f k 15 (ix2 r l)))) (ab (chk f k 16 (ix2 r l)))) (ab (chk f k 17 (ix2 r l)))) (ab (chk f k 18 (ix2 r l)))) (ab (chk f k 19 (ix2 r l)))) (ab (chk f k 20 (ix2 r l)))) (ab (chk f k 21 (ix2 r l)))) (ab (chk f k 22 (ix2 r l)))) (ab (chk f k 23 (ix2 r l)))) (ab (chk f k 24 (ix2 r l)))) (ab (chk f k 25 (ix2 r l)))) (ab (chk f k 26 (ix2 r l)))) (ab (chk f k 27 (ix2 r l)))) (ab (chk f k 28 (ix2 r l)))) (ab (chk f k 29 (ix2 r l)))) (ab (chk f k 30 (ix2 r l)))) (ab (chk f k 31 (ix2 r l)))) (Finset.mem_univ (⟨d.val % 256, by omega⟩ : Fin 256)))
    refine congrArg (fun q => ab (f (ix2 _ q))) (Fin.ext ?_)
    show d.val = 256 * (d.val / 256) + d.val % 256
    omega

theorem xSc_at (r : Fin 32) (l : Fin 128) : xSc f k (ix2 r l) = scl (fun d : Fin 8192 => f (ix2 ⟨32 * k.val + r.val, by have h := k6 k; omega⟩ d)) := by
  unfold xSc
  rw [pay8_at, xT_at]
  exact (quant (amx_nonneg _)).1

theorem bc1024 (v : FVec Ideal S32x1 .bf16) (r : Fin 32) (d : Fin 1024) (h3) : broadcastTo S32x1024 v h3 (ix2 r d) = v (ix2 r 0) := by pointwise
theorem sc1024 (v : FVec Ideal S32x1024 .fp8e4m3) (r : Fin 32) (d : Fin 1024) (h3) : shapeCast S32x1024 v h3 (ix2 r d) = v (ix2 r d) := by pointwise

theorem pay12_at (v : FVec Ideal S32x1 .bf16) (w : FVec Ideal S32x1024 .bf16) (r : Fin 32) (d : Fin 1024) : k0_pay12 v w (ix2 r d) =
    min (Ideal.ofBits .f32 0x43E00000#32) (max (Ideal.ofBits .f32 0xC3E00000#32) (w (ix2 r d) * v (ix2 r 0))) := by
  unfold k0_pay12
  refine (sc1024 _ r d _).trans ?_
  show min (Ideal.ofBits .bf16 0x43E0#16) (max (Ideal.ofBits .bf16 0xC3E0#16) (w (ix2 r d) * broadcastTo S32x1024 v _ (ix2 r d))) = _
  rw [bc1024, bf448, bfm448]

theorem xQc_at (cc : Fin 8) (r : Fin 32) (l : Fin 1024) : xQc f k cc (ix2 r l) = code (fun d : Fin 8192 => f (ix2 ⟨32 * k.val + r.val, by have h := k6 k; omega⟩ d)) ⟨1024 * cc.val + l.val, by omega⟩ := by
  unfold xQc
  rw [pay12_at, xInv, pay9_at, xT_at, (quant (amx_nonneg _)).2]
  have hx : ((![xRd f (k0_off44_inb k), xRd f (k0_off45_inb k), xRd f (k0_off46_inb k), xRd f (k0_off47_inb k), xRd f (k0_off48_inb k), xRd f (k0_off49_inb k), xRd f (k0_off50_inb k), xRd f (k0_off51_inb k)] : Fin 8 → Vec Ideal S32x1024 .bf16) cc) (ix2 r l) =
      f (ix2 ⟨32 * k.val + r.val, by have h := k6 k; omega⟩ ⟨1024 * cc.val + l.val, by omega⟩) := by
    fin_cases cc
    · exact ldX f (E44 k) _ (ix2 r l) _ rfl rfl
    · exact ldX f (E45 k) _ (ix2 r l) _ rfl rfl
    · exact ldX f (E46 k) _ (ix2 r l) _ rfl rfl
    · exact ldX f (E47 k) _ (ix2 r l) _ rfl rfl
    · exact ldX f (E48 k) _ (ix2 r l) _ rfl rfl
    · exact ldX f (E49 k) _ (ix2 r l) _ rfl rfl
    · exact ldX f (E50 k) _ (ix2 r l) _ rfl rfl
    · exact ldX f (E51 k) _ (ix2 r l) _ rfl rfl
  rw [hx]; rfl

end Rows

theorem XQ_row (f : Vec Ideal S192x8192 .bf16) (r : Fin 192) (d : Fin 8192) : XQ f (ix2 r d) = code (fun d : Fin 8192 => f (ix2 r d)) d := by
  have h := XQ_at f ⟨r.val / 32, by rw [trips4]; omega⟩ ⟨d.val / 1024, by omega⟩ (ix2 ⟨r.val % 32, by omega⟩ ⟨d.val % 1024, by omega⟩) (ix2 r d)
    (show r.val = 32 * (r.val / 32) + r.val % 32 by omega) (show d.val = 1024 * (d.val / 1024) + d.val % 1024 by omega)
  rw [h, xQc_at]
  have e1 : (⟨32 * (r.val / 32) + r.val % 32, by omega⟩ : Fin 192) = r := Fin.ext (by show 32 * (r.val / 32) + r.val % 32 = r.val; omega)
  have e2 : (⟨1024 * (d.val / 1024) + d.val % 1024, by omega⟩ : Fin 8192) = d := Fin.ext (by show 1024 * (d.val / 1024) + d.val % 1024 = d.val; omega)
  have key : ∀ r' d', r' = r → d' = d → code (fun d : Fin 8192 => f (ix2 r' d)) d' = code (fun d : Fin 8192 => f (ix2 r d)) d := by rintro _ _ rfl rfl; rfl
  exact key _ _ e1 e2

theorem XSV_row (f : Vec Ideal S192x8192 .bf16) (r : Fin 192) (l : Fin 128) : XSV f (ix2 r l) = scl (fun d : Fin 8192 => f (ix2 r d)) := by
  have h := XSV_at f ⟨r.val / 32, by rw [trips4]; omega⟩ (ix2 ⟨r.val % 32, by omega⟩ l) (ix2 r l)
    (show r.val = 32 * (r.val / 32) + r.val % 32 by omega) rfl
  rw [h, xSc_at]
  have key : ∀ r', r' = r → scl (fun d : Fin 8192 => f (ix2 r' d)) = scl (fun d : Fin 8192 => f (ix2 r d)) := by rintro _ rfl; rfl
  exact key _ (Fin.ext (by show 32 * (r.val / 32) + r.val % 32 = r.val; omega))

end Cert.Val
-- ==== Proof.Value.KZ1.lean ====
module
public import proofs.«01_k».proof.Proof.KernelIdealHand.Outs
public import proofs.«01_k».proof.Proof.Value.Spec
import Idealize.ShloMosaic.Lib.Pointwise

/-! The kernel's vector operations, element by element. -/

@[expose] public noncomputable section

namespace Cert.Val.Ker

open Cert.KernelIdeal Cert.KernelIdeal.Gen Cert.KernelIdeal.Hand Idealize.ShloMosaic

theorem pay19_at (f : FVec Ideal S192x8192 .fp8e4m3) (w : FVec Ideal S1x8192x512 .fp8e4m3) (r : Fin 192) (c : Fin 512) :
    k0_pay19 (F := Ideal) f w (ix2 r c) = (∑ d : Fin 8192, f (ix2 r d) * w (ix3 0 d c) : EReal) := by pointwise [k0_pay19]
theorem pay155_at (f : FVec Ideal S192x2048 .fp8e4m3) (w : FVec Ideal S1x2048x1024 .fp8e4m3) (r : Fin 192) (c : Fin 1024) :
    k0_pay155 (F := Ideal) f w (ix2 r c) = (∑ d : Fin 2048, f (ix2 r d) * w (ix3 0 d c) : EReal) := by pointwise [k0_pay155]
theorem rot1 (v : FVec Ideal S8x512 .f32) (h : Fin 8) (c : Fin 512) : dynamicRotate 0 1#32 none v rotates_S8x512_d0 (ix2 h c) = v (ix2 ⟨(h.val + 7) % 8, Nat.mod_lt _ (by decide)⟩ c) := by
  fin_cases h <;> pointwise
theorem rot7 (v : FVec Ideal S8x512 .f32) (h : Fin 8) (c : Fin 512) : dynamicRotate 0 7#32 none v rotates_S8x512_d0 (ix2 h c) = v (ix2 ⟨(h.val + 1) % 8, Nat.mod_lt _ (by decide)⟩ c) := by
  fin_cases h <;> pointwise
theorem pay22_at (v : FVec Ideal S3x512 .bf16) (h : Fin 8) (c : Fin 512) : k0_pay22 (F := Ideal) v (ix2 h c) = (if h.val = 0 then 0 else v (ix2 0 c) : EReal) := by
  fin_cases h <;> pointwise [k0_pay22, k0_pay20] <;> rfl
theorem pay23_at (v : FVec Ideal S3x512 .bf16) (h : Fin 8) (c : Fin 512) : k0_pay23 (F := Ideal) v (ix2 h c) = (if h.val = 7 then 0 else v (ix2 2 c) : EReal) := by
  fin_cases h <;> pointwise [k0_pay23, k0_pay20] <;> rfl
theorem tap0 (v : FVec Ideal S3x512 .f32) (h : Fin 8) (c : Fin 512) (p q) : broadcastTo S8x512 (extractStridedSlice S1x512 ![0, 0] v p) q (ix2 h c) = v (ix2 0 c) := by pointwise
theorem tap1 (v : FVec Ideal S3x512 .f32) (h : Fin 8) (c : Fin 512) (p q) : broadcastTo S8x512 (extractStridedSlice S1x512 ![1, 0] v p) q (ix2 h c) = v (ix2 1 c) := by pointwise
theorem tap2 (v : FVec Ideal S3x512 .f32) (h : Fin 8) (c : Fin 512) (p q) : broadcastTo S8x512 (extractStridedSlice S1x512 ![2, 0] v p) q (ix2 h c) = v (ix2 2 c) := by pointwise
theorem bc512 (v : FVec Ideal S1x512 .f32) (h : Fin 8) (c : Fin 512) (q) : broadcastTo S8x512 v q (ix2 h c) = v (ix2 0 c) := by pointwise
theorem sl8 (v : FVec Ideal S192x512 .f32) (g : Fin 24) (h : Fin 8) (c : Fin 512) (p) : extractStridedSlice S8x512 ![8 * g.val, 0] v p (ix2 h c) = v (ix2 ⟨8 * g.val + h.val, by omega⟩ c) := by pointwise
theorem lane0 (v : FVec Ideal S8x512 .f32) (h : Fin 8) (c : Fin 128) (p) : extractStridedSlice S8x128 ![0, 0] v p (ix2 h c) = v (ix2 h ⟨c.val, by omega⟩) := by pointwise
theorem lane1 (v : FVec Ideal S8x512 .f32) (h : Fin 8) (c : Fin 128) (p) : extractStridedSlice S8x128 ![0, 128] v p (ix2 h c) = v (ix2 h ⟨128 + c.val, by omega⟩) := by pointwise
theorem lane2 (v : FVec Ideal S8x512 .f32) (h : Fin 8) (c : Fin 128) (p) : extractStridedSlice S8x128 ![0, 256] v p (ix2 h c) = v (ix2 h ⟨256 + c.val, by omega⟩) := by pointwise
theorem lane3 (v : FVec Ideal S8x512 .f32) (h : Fin 8) (c : Fin 128) (p) : extractStridedSlice S8x128 ![0, 384] v p (ix2 h c) = v (ix2 h ⟨384 + c.val, by omega⟩) := by pointwise
theorem same8 (v : FVec Ideal S8x128 .f32) (p) : shapeCast S8x128 v p = v := funext fun x => congrArg v (by simp)
theorem cat4 (v : FVec Ideal S8x128 .f32) (e : EReal) (h : Fin 8) (hv : ∀ c, v (ix2 h c) = e) (c : Fin 512) :
    concatenate S8x512 1 [⟨S8x128, v⟩, ⟨S8x128, v⟩, ⟨S8x128, v⟩, ⟨S8x128, v⟩] concatenates_S8x128_S8x128_S8x128_S8x128_S8x512_d1 (ix2 h c) = e := by
  pointwise [hv]
  split_ifs <;> rfl

theorem cat8 (v : FVec Ideal S8x128 .f32) (e : EReal) (h : Fin 8) (hv : ∀ c, v (ix2 h c) = e) (c : Fin 1024) :
    concatenate S8x1024 1 [⟨S8x128, v⟩, ⟨S8x128, v⟩, ⟨S8x128, v⟩, ⟨S8x128, v⟩, ⟨S8x128, v⟩, ⟨S8x128, v⟩, ⟨S8x128, v⟩, ⟨S8x128, v⟩] concatenates_S8x128_S8x128_S8x128_S8x128_S8x128_S8x128_S8x128_S8x128_S8x1024_d1 (ix2 h c) = e := by
  pointwise [hv]
  split_ifs <;> rfl
theorem slY (v : FVec Ideal S192x1024 .f32) (g : Fin 24) (h : Fin 8) (c : Fin 1024) (p) : extractStridedSlice S8x1024 ![8 * g.val, 0] v p (ix2 h c) = v (ix2 ⟨8 * g.val + h.val, by omega⟩ c) := by pointwise
theorem bc1 (v : FVec Ideal S1x1024 .f32) (h : Fin 8) (c : Fin 1024) (q) : broadcastTo S8x1024 v q (ix2 h c) = v (ix2 0 c) := by pointwise
theorem up4 (v : FVec Ideal S8x1024 .bf16) (h : Fin 8) (c : Fin 1024) (q) : shapeCast S1x1x8x1024 v q (ix4 0 0 h c) = v (ix2 h c) := by pointwise
theorem sameZ (v : FVec Ideal S8x512 .f32) (h : Fin 8) (c : Fin 512) (p) : shapeCast S8x512 v p (ix2 h c) = v (ix2 h c) := by pointwise
theorem sameM (v : FVec Ideal S8x128 .f32) (h : Fin 8) (c : Fin 128) (p) : shapeCast S8x128 v p (ix2 h c) = v (ix2 h c) := by pointwise
theorem sp32 (v : FVec Ideal S32x1 .f32) (r : Fin 32) (d : Fin 128) (h2 h3 h4) : shapeCast S32x128 (broadcastTo S32x128 (shapeCast S32x1 v h2) h3) h4 (ix2 r d) = v (ix2 r 0) := by pointwise
theorem bcZ (v : FVec Ideal S32x1 .f32) (r : Fin 32) (d : Fin 2048) (h) : broadcastTo S32x2048 v h (ix2 r d) = v (ix2 r 0) := by pointwise
theorem scZ (v : FVec Ideal S32x2048 .fp8e4m3) (r : Fin 32) (d : Fin 2048) (h) : shapeCast S32x2048 v h (ix2 r d) = v (ix2 r d) := by pointwise
theorem rowmax (v : FVec Ideal S32x128 .f32) (r : Fin 32) (h1 h2 h3 h4) : shapeCast S32x1 (multiReduction .maximumf [1] S32 v 0xFF800000#32 h1 h2 h3) h4 (ix2 r 0) =
    (Finset.univ.fold max (Ideal.ofBits .f32 0xFF800000#32) fun d => v (ix2 r d) : EReal) := by
  pointwise
theorem pay194_at (i : Fin 192) (j : Fin 128) : k0_pay194 (F := Ideal) (ix2 i j) = (0 : EReal) := z0
theorem low12 (v : FVec Ideal S8x128 .f32) (h : Fin 8) (w : Fin 12) (p q) : shapeCast S1x8x12 (extractStridedSlice S8x12 ![0, 0] v p) q (ix3 0 h w) = v (ix2 h ⟨w.val, by omega⟩) := by pointwise
theorem spB_at (l : Fin 12 → Vec Ideal S8x128 .f32) (h : Fin 8) (w : Fin 12) : spB l (ix3 0 h w) = l w (ix2 h ⟨w.val, by omega⟩) := by
  unfold spB k0_pay190
  refine (low12 _ h w _ _).trans ?_
  fin_cases w <;> pointwise [k0_pay188, k0_pay189] <;> rfl

end Cert.Val.Ker
-- ==== Proof.Value.KZ2.lean ====
module
public import proofs.«01_k».proof.Proof.Value.KX
public import proofs.«01_k».proof.Proof.Value.KZ1

/-! The kernel's `z`, row by row. -/

@[expose] public noncomputable section

namespace Cert.Val.Ker

open Cert.KernelIdeal Cert.KernelIdeal.Gen Cert.KernelIdeal.Hand Idealize.ShloMosaic

/-- Row `j` of group `(i, k)`. -/
def rw3 (i : Fin 2) (j : Fin 8) (k : Fin 12) : Fin 192 := ⟨8 * (12 * i.val + k.val) + j.val, by omega⟩
/-- The group. -/
def gp (i : Fin 2) (k : Fin 12) : Fin 24 := ⟨12 * i.val + k.val, by omega⟩

theorem rnd_u {s : Shape} (A B C : FVec Ideal s .f32) (h h') (i : s.Idx) : extf .f32 (truncf .bf16 (mulf A (mulf B C)) h) h' i = (A i * (B i * C i) : EReal) := rfl
theorem rnd_v {s : Shape} (A B C D E G : FVec Ideal s .f32) (h h') (i : s.Idx) :
    extf .f32 (truncf .bf16 (addf (addf (mulf A B) (mulf C D)) (mulf E G)) h) h' i = ((A i * B i + C i * D i) + E i * G i : EReal) := rfl
theorem k4 (t : Fin k0_t5_loop.trips) : t.val < 4 := lt_of_lt_of_eq t.isLt trips5

section
variable (w1 : Vec Ideal S8192x2048 .fp8e4m3) (w1s : Vec Ideal S1x2048 .f32) (wh ww : Vec Ideal S3x2048 .bf16)
    (f14 : Vec Ideal S192x8192 .fp8e4m3) (f22 : Vec Ideal S192x128 .f32) (t : Fin k0_t5_loop.trips)
    (x : Fin 2 → Fin 8 → Fin 12 → Fin 8192 → EReal)

/-- The column of `z` that lane `c` of the trip is. -/
def col (c : Fin 512) : Fin 2048 := ⟨512 * t.val + c.val, by have h := k4 t; omega⟩

theorem o55 : k0_off55 t = ![t.val, 0, 0] := by revert t; decide +kernel
theorem o56 : k0_off56 t = ![0, 512 * t.val] := by revert t; decide +kernel
theorem o57 : k0_off57 t = ![0, 512 * t.val] := by revert t; decide +kernel

theorem whL_at (a : Fin 3) (c : Fin 512) : whL wh t (ix2 a c) = wh (ix2 a (col t c)) := by
  refine congrArg wh (funext fun d => Fin.ext ?_)
  fin_cases d
  · show k0_off56 t 0 + 1 * a.val = a.val; rw [o56]; show 0 + 1 * a.val = a.val; omega
  · show k0_off56 t 1 + 1 * c.val = 512 * t.val + c.val; rw [o56]; show 512 * t.val + 1 * c.val = _; omega
theorem wwL_at (a : Fin 3) (c : Fin 512) : wwL ww t (ix2 a c) = ww (ix2 a (col t c)) := by
  refine congrArg ww (funext fun d => Fin.ext ?_)
  fin_cases d
  · show k0_off56 t 0 + 1 * a.val = a.val; rw [o56]; show 0 + 1 * a.val = a.val; omega
  · show k0_off56 t 1 + 1 * c.val = 512 * t.val + c.val; rw [o56]; show 512 * t.val + 1 * c.val = _; omega
theorem w1sL_at (c : Fin 512) : w1sL w1s t (ix2 0 c) = w1s (ix2 0 (col t c)) := by
  refine congrArg w1s (funext fun d => Fin.ext ?_)
  fin_cases d
  · show k0_off57 t 0 + 1 * 0 = 0; rw [o57]; rfl
  · show k0_off57 t 1 + 1 * c.val = 512 * t.val + c.val; rw [o57]; show 512 * t.val + 1 * c.val = _; omega
theorem w1_at (d : Fin 8192) (c : Fin 512) :
    (Memref.whole cc0_scratch2 : Memref sig .tc .vmem S4x8192x512 .fp8e4m3).view.readAt (Elt Ideal) (Rect.unit (s := S4x8192x512) (k0_off55 t) S1x8192x512.size (k0_off55_inb t)).toLoadRect (gW1 w1) (ix3 0 d c) = w1 (ix2 d (col t c)) := by
  refine congrArg w1 (funext fun a => Fin.ext ?_)
  fin_cases a
  · show k0_off55 t 1 + 1 * d.val = d.val; rw [o55]; show 0 + 1 * d.val = d.val; omega
  · show 512 * (k0_off55 t 0 + 1 * 0) + (k0_off55 t 2 + 1 * c.val) = 512 * t.val + c.val; rw [o55]; show 512 * (t.val + 1 * 0) + (0 + 1 * c.val) = _; omega

theorem mZ_at (r : Fin 192) (c : Fin 512) : mZ w1 f14 t (ix2 r c) = (∑ d : Fin 8192, f14 (ix2 r d) * w1 (ix2 d (col t c)) : EReal) := by
  unfold mZ
  rw [pay19_at]
  refine Finset.sum_congr rfl fun d _ => ?_
  rw [w1_at]
  refine congrArg (· * _) (congrArg f14 (funext fun a => Fin.ext ?_))
  fin_cases a <;> exact (Nat.zero_add _).trans (Nat.one_mul _)

theorem sL_at (g : Fin 24) (h : Fin 8) (l : Fin 128) : sL f22 g (ix2 h l) = f22 (ix2 ⟨8 * g.val + h.val, by omega⟩ l) := by
  refine congrArg f22 (funext fun d => Fin.ext ?_)
  fin_cases d
  · show 8 * g.val + 1 * h.val = 8 * g.val + h.val; omega
  · show 0 + 1 * l.val = l.val; omega

section
variable (hc : ∀ i j k d, f14 (ix2 (rw3 i j k) d) = code (x i j k) d) (hs : ∀ i j k l, f22 (ix2 (rw3 i j k) l) = scl (x i j k))
include hc hs

theorem uH_at (i : Fin 2) (j : Fin 8) (k : Fin 12) (c : Fin 512) :
    uH w1 w1s f14 f22 t (gp i k) (ix2 j c) = uS x (fun d n => w1 (ix2 d n)) (fun n => w1s (ix2 0 n)) i j k (col t c) := by
  unfold uH
  rw [rnd_u]
  rw [sl8, cat4 (sL f22 (gp i k)) (scl (x i j k)) j (fun l => (sL_at f22 (gp i k) j l).trans (hs i j k l)) c, bc512, mZ_at, w1sL_at]
  unfold uS
  have e : ∀ d, f14 (ix2 ⟨8 * (gp i k).val + j.val, by have := (gp i k).isLt; omega⟩ d) = code (x i j k) d := fun d => hc i j k d
  simp only [e]

theorem rH_at (i : Fin 2) (j : Fin 8) (k : Fin 12) (c : Fin 512) :
    rH w1 w1s wh f14 f22 t (gp i k) (ix2 j c) = vS (uS x (fun d n => w1 (ix2 d n)) (fun n => w1s (ix2 0 n))) (fun a n => wh (ix2 a n)) i j k (col t c) := by
  unfold rH
  rw [rnd_v]
  rw [rot1, rot7, pay22_at, pay23_at, tap1, uH_at w1 w1s f14 f22 t x hc hs, uH_at w1 w1s f14 f22 t x hc hs, uH_at w1 w1s f14 f22 t x hc hs]
  rw [show k0_pay20 (F := Ideal) (whL wh t) (ix2 1 c) = whL wh t (ix2 1 c) from rfl, whL_at, whL_at, whL_at]
  unfold vS
  refine congrArg₂ (· + ·) (congrArg₂ (· + ·) ?_ rfl) ?_
  · by_cases h : j.val = 0
    · rw [if_pos h, dif_pos h, mul_zero, zero_mul]
    · rw [if_neg h, dif_neg h, show (⟨(j.val + 7) % 8, Nat.mod_lt _ (by decide)⟩ : Fin 8) = ⟨j.val - 1, by omega⟩ from Fin.ext (by show (j.val + 7) % 8 = j.val - 1; omega)]
  · by_cases h : j.val = 7
    · rw [if_pos h, dif_pos h, mul_zero, zero_mul]
    · rw [if_neg h, dif_neg h, show (⟨(j.val + 1) % 8, Nat.mod_lt _ (by decide)⟩ : Fin 8) = ⟨j.val + 1, by omega⟩ from Fin.ext (by show (j.val + 1) % 8 = j.val + 1; omega)]

/-- The `z` of the buffers. -/
def zK : Fin 2 → Fin 8 → Fin 12 → Fin 2048 → EReal :=
  zS (vS (uS x (fun d n => w1 (ix2 d n)) (fun n => w1s (ix2 0 n))) (fun a n => wh (ix2 a n))) (fun a n => ww (ix2 a n))

theorem zB_at (i : Fin 2) (j : Fin 8) (k : Fin 12) (c : Fin 512) :
    zB w1 w1s wh ww f14 f22 t (gp i k) (ix2 j c) = zK w1 w1s wh ww x i j k (col t c) := by
  unfold zB
  show ((prevH w1 w1s wh f14 f22 t (gp i k) (ix2 j c) * broadcastTo S8x512 _ _ (ix2 j c) + rH w1 w1s wh f14 f22 t (gp i k) (ix2 j c) * broadcastTo S8x512 _ _ (ix2 j c)) +
    nextH w1 w1s wh f14 f22 t (gp i k) (ix2 j c) * broadcastTo S8x512 _ _ (ix2 j c) : EReal) = _
  rw [tap0, tap1, tap2, rH_at w1 w1s wh f14 f22 t x hc hs]
  rw [show ∀ a, k0_pay20 (F := Ideal) (wwL ww t) (ix2 a c) = wwL ww t (ix2 a c) from fun _ => rfl, show ∀ a, k0_pay20 (F := Ideal) (wwL ww t) (ix2 a c) = wwL ww t (ix2 a c) from fun _ => rfl, show ∀ a, k0_pay20 (F := Ideal) (wwL ww t) (ix2 a c) = wwL ww t (ix2 a c) from fun _ => rfl, wwL_at, wwL_at, wwL_at]
  unfold zK zS
  refine congrArg₂ (· + ·) (congrArg₂ (· + ·) (congrArg (· * _) ?_) rfl) (congrArg (· * _) ?_)
  · unfold prevH
    by_cases h : k.val = 0
    · rw [if_pos (by show (12 * i.val + k.val) % 12 = 0; omega), dif_pos h]; exact z0
    · rw [if_neg (by show ¬ (12 * i.val + k.val) % 12 = 0; omega), dif_neg h]
      rw [show (⟨((gp i k).val + 23) % 24, Nat.mod_lt _ (by decide)⟩ : Fin 24) = gp i ⟨k.val - 1, by omega⟩ from Fin.ext (by show (12 * i.val + k.val + 23) % 24 = 12 * i.val + (k.val - 1); omega)]
      exact rH_at w1 w1s wh f14 f22 t x hc hs i j _ c
  · unfold nextH
    by_cases h : k.val = 11
    · rw [if_pos (by show (12 * i.val + k.val) % 12 = 11; omega), dif_pos h]; exact z0
    · rw [if_neg (by show ¬ (12 * i.val + k.val) % 12 = 11; omega), dif_neg h]
      rw [show (⟨((gp i k).val + 1) % 24, Nat.mod_lt _ (by decide)⟩ : Fin 24) = gp i ⟨k.val + 1, by omega⟩ from Fin.ext (by show (12 * i.val + k.val + 1) % 24 = 12 * i.val + (k.val + 1); omega)]
      exact rH_at w1 w1s wh f14 f22 t x hc hs i j _ c
end
end

section
variable (w1 : Vec Ideal S8192x2048 .fp8e4m3) (w1s : Vec Ideal S1x2048 .f32) (wh ww : Vec Ideal S3x2048 .bf16)
    (f14 : Vec Ideal S192x8192 .fp8e4m3) (f22 : Vec Ideal S192x128 .f32)
    (x : Fin 2 → Fin 8 → Fin 12 → Fin 8192 → EReal)
    (hc : ∀ i j k d, f14 (ix2 (rw3 i j k) d) = code (x i j k) d) (hs : ∀ i j k l, f22 (ix2 (rw3 i j k) l) = scl (x i j k))
include hc hs

theorem Z_row (i : Fin 2) (j : Fin 8) (k : Fin 12) (n : Fin 2048) : Z w1 w1s wh ww f14 f22 (ix2 (rw3 i j k) n) = zK w1 w1s wh ww x i j k n := by
  rw [Z_at w1 w1s wh ww f14 f22 ⟨n.val / 512, by rw [trips5]; omega⟩ (gp i k) (ix2 j ⟨n.val % 512, by omega⟩) (ix2 (rw3 i j k) n) rfl
    (show n.val = 512 * (n.val / 512) + n.val % 512 by omega)]
  unfold zP
  rw [sameZ, zB_at w1 w1s wh ww f14 f22 _ x hc hs]
  exact congrArg _ (Fin.ext (by show 512 * (n.val / 512) + n.val % 512 = n.val; omega))

theorem ZM_step (t : Fin k0_t5_loop.trips) (i : Fin 2) (j : Fin 8) (k : Fin 12) (l : Fin 128) :
    ZM w1 w1s wh ww f14 f22 (t.val + 1) (ix2 (rw3 i j k) l) =
      max (max (max (max (ZM w1 w1s wh ww f14 f22 t.val (ix2 (rw3 i j k) l)) (ab (zK w1 w1s wh ww x i j k (col t ⟨l.val, by omega⟩)))) (ab (zK w1 w1s wh ww x i j k (col t ⟨128 + l.val, by omega⟩))))
        (ab (zK w1 w1s wh ww x i j k (col t ⟨256 + l.val, by omega⟩)))) (ab (zK w1 w1s wh ww x i j k (col t ⟨384 + l.val, by omega⟩))) := by
  rw [ZM_at w1 w1s wh ww f14 f22 t (gp i k) (ix2 j l) (ix2 (rw3 i j k) l) rfl (by show l.val = _; first | rfl | exact (Nat.zero_add _).symm)]
  unfold zmP k0_pay29
  rw [sameM]
  show max (max (max (max (sL (ZM w1 w1s wh ww f14 f22 t.val) (gp i k) (ix2 j l)) (extractStridedSlice S8x128 _ (absf (zB w1 w1s wh ww f14 f22 t (gp i k))) _ (ix2 j l))) (extractStridedSlice S8x128 _ (absf (zB w1 w1s wh ww f14 f22 t (gp i k))) _ (ix2 j l))) (extractStridedSlice S8x128 _ (absf (zB w1 w1s wh ww f14 f22 t (gp i k))) _ (ix2 j l))) (extractStridedSlice S8x128 _ (absf (zB w1 w1s wh ww f14 f22 t (gp i k))) _ (ix2 j l)) = _
  rw [lane0, lane1, lane2, lane3, sL_at]
  show max (max (max (max _ (ab (zB w1 w1s wh ww f14 f22 t (gp i k) (ix2 j _)))) (ab (zB w1 w1s wh ww f14 f22 t (gp i k) (ix2 j _)))) (ab (zB w1 w1s wh ww f14 f22 t (gp i k) (ix2 j _)))) (ab (zB w1 w1s wh ww f14 f22 t (gp i k) (ix2 j _))) = _
  rw [zB_at w1 w1s wh ww f14 f22 t x hc hs, zB_at w1 w1s wh ww f14 f22 t x hc hs, zB_at w1 w1s wh ww f14 f22 t x hc hs, zB_at w1 w1s wh ww f14 f22 t x hc hs]
  rfl

theorem ZM_mono (t : Fin k0_t5_loop.trips) (i : Fin 2) (j : Fin 8) (k : Fin 12) (l : Fin 128) :
    ZM w1 w1s wh ww f14 f22 t.val (ix2 (rw3 i j k) l) ≤ ZM w1 w1s wh ww f14 f22 (t.val + 1) (ix2 (rw3 i j k) l) := by
  rw [ZM_step w1 w1s wh ww f14 f22 x hc hs t]
  exact le_max_of_le_left (le_max_of_le_left (le_max_of_le_left (le_max_left _ _)))

theorem ZM_le (i : Fin 2) (j : Fin 8) (k : Fin 12) (l : Fin 128) : ∀ t, t ≤ 4 → ZM w1 w1s wh ww f14 f22 t (ix2 (rw3 i j k) l) ≤ amx (zK w1 w1s wh ww x i j k)
  | 0, _ => le_of_eq_of_le (pay194_at _ _) (amx_nonneg _)
  | t + 1, h => by
    have hl : ∀ n, ab (zK w1 w1s wh ww x i j k n) ≤ amx (zK w1 w1s wh ww x i j k) := fun n => Finset.le_sup (f := fun d => ab (zK w1 w1s wh ww x i j k d)) (Finset.mem_univ n)
    refine le_of_eq_of_le (ZM_step w1 w1s wh ww f14 f22 x hc hs ⟨t, by rw [trips5]; omega⟩ i j k l) ?_
    exact max_le (max_le (max_le (max_le (ZM_le i j k l t (by omega)) (hl _)) (hl _)) (hl _)) (hl _)

theorem ZM_up (i : Fin 2) (j : Fin 8) (k : Fin 12) (l : Fin 128) (a : ℕ) : ∀ b, a + b ≤ 4 → ZM w1 w1s wh ww f14 f22 a (ix2 (rw3 i j k) l) ≤ ZM w1 w1s wh ww f14 f22 (a + b) (ix2 (rw3 i j k) l)
  | 0, _ => le_refl _
  | b + 1, h => le_trans (ZM_up i j k l a b (by omega)) (ZM_mono w1 w1s wh ww f14 f22 x hc hs ⟨a + b, by rw [trips5]; omega⟩ i j k l)

theorem ZM_sup (i : Fin 2) (j : Fin 8) (k : Fin 12) :
    (Finset.univ.fold max (Ideal.ofBits .f32 0xFF800000#32) fun l : Fin 128 => ZM w1 w1s wh ww f14 f22 4 (ix2 (rw3 i j k) l) : EReal) = amx (zK w1 w1s wh ww x i j k) := by
  rw [zbot]
  refine le_antisymm (Finset.sup_le fun l _ => ZM_le w1 w1s wh ww f14 f22 x hc hs i j k l 4 (le_refl _)) (Finset.sup_le fun n _ => ?_)
  have hn : n.val < 2048 := n.isLt
  refine le_trans ?_ (Finset.le_sup (f := fun l : Fin 128 => ZM w1 w1s wh ww f14 f22 4 (ix2 (rw3 i j k) l)) (Finset.mem_univ (⟨n.val % 128, by omega⟩ : Fin 128)))
  have hu := ZM_up w1 w1s wh ww f14 f22 x hc hs i j k ⟨n.val % 128, by omega⟩ (n.val / 512 + 1) (3 - n.val / 512) (by omega)
  rw [show n.val / 512 + 1 + (3 - n.val / 512) = 4 by omega] at hu
  refine le_trans ?_ hu
  refine le_of_le_of_eq ?_ (ZM_step w1 w1s wh ww f14 f22 x hc hs ⟨n.val / 512, by rw [trips5]; omega⟩ i j k ⟨n.val % 128, by omega⟩).symm
  have key : ∀ m : Fin 2048, m.val = n.val → ab (zK w1 w1s wh ww x i j k n) ≤ ab (zK w1 w1s wh ww x i j k m) := by
    intro m hm; rw [show m = n from Fin.ext hm]
  have hq : n.val % 512 / 128 < 4 := by omega
  by_cases q0 : n.val % 512 / 128 = 0
  · exact le_max_of_le_left (le_max_of_le_left (le_max_of_le_left (le_max_of_le_right (key _ (by show 512 * (n.val / 512) + n.val % 128 = n.val; omega)))))
  by_cases q1 : n.val % 512 / 128 = 1
  · exact le_max_of_le_left (le_max_of_le_left (le_max_of_le_right (key _ (by show 512 * (n.val / 512) + (128 + n.val % 128) = n.val; omega))))
  by_cases q2 : n.val % 512 / 128 = 2
  · exact le_max_of_le_left (le_max_of_le_right (key _ (by show 512 * (n.val / 512) + (256 + n.val % 128) = n.val; omega)))
  · exact le_max_of_le_right (key _ (by show 512 * (n.val / 512) + (384 + n.val % 128) = n.val; omega))
end

end Cert.Val.Ker
-- ==== Proof.Value.KZ3.lean ====
module
public import proofs.«01_k».proof.Proof.Value.KZ2

/-! The kernel's scales and codes of `z`, row by row. -/

@[expose] public noncomputable section

namespace Cert.Val.Ker

open Cert.KernelIdeal Cert.KernelIdeal.Gen Cert.KernelIdeal.Hand Idealize.ShloMosaic

theorem pay198_v (v : FVec Ideal S32x1 .f32) : k0_pay198 v k0_pay197 = vstp v (vstp v (vstp v (vstp v (vstp v (vstp v (broadcast _ 0#32) 128#32) 64#32) 32#32) 16#32) 8#32) 4#32 := rfl
theorem pay198_at (v : FVec Ideal S32x1 .f32) (i : S32x1.Idx) : k0_pay198 v k0_pay197 i = six (v i) := by
  rw [pay198_v]; simp only [vstp_at]; rfl
theorem pay201_v (v : FVec Ideal S32x1 .f32) : k0_pay201 v (k0_pay198 v k0_pay197) (k0_pay199 v k0_pay197) (k0_pay200 v k0_pay197)
    = minsi (vstp v (vstp v (k0_pay198 v k0_pay197) 2#32) 1#32) (broadcast _ 252#32) := rfl
theorem pay201_at (v : FVec Ideal S32x1 .f32) (i : S32x1.Idx) : k0_pay201 v (k0_pay198 v k0_pay197) (k0_pay199 v k0_pay197) (k0_pay200 v k0_pay197) i = kb (v i) := by
  rw [pay201_v]; show IntOp.minsi (vstp v (vstp v (k0_pay198 v k0_pay197) 2#32) 1#32 i) 252#32 = _
  rw [vstp_at, vstp_at, pay198_at]; rfl
theorem pay203_at (v : FVec Ideal S32x1 .f32) (r : Fin 32) (l : Fin 128) :
    k0_pay203 v (k0_pay198 v k0_pay197) (k0_pay199 v k0_pay197) (k0_pay200 v k0_pay197) (ix2 r l) = ksc (v (ix2 r 0)) := by
  unfold k0_pay203
  refine (sp32 _ r l _ _ _).trans ?_
  show Scalar.select (usual (v (ix2 r 0))) (thr (IntOp.addi (k0_pay201 v (k0_pay198 v k0_pay197) (k0_pay199 v k0_pay197) (k0_pay200 v k0_pay197) (ix2 r 0)) 1#32)) _ = _
  rw [pay201_at]; rfl

theorem clip_v {s : Shape} (A B : FVec Ideal s .f32) (i : s.Idx) :
    maximumf (broadcast s (Scalar.ofBits (F := Ideal) .f32 0xC3E00000#32)) (mulf A B) i = max (Ideal.ofBits .f32 0xC3E00000#32) (A i * B i : EReal) := rfl
theorem pay204_at (v : FVec Ideal S32x1 .f32) (w : FVec Ideal S32x2048 .f32) (r : Fin 32) (d : Fin 2048) :
    k0_pay204 v (k0_pay198 v k0_pay197) (k0_pay199 v k0_pay197) (k0_pay200 v k0_pay197) w (ix2 r d) = max (Ideal.ofBits .f32 0xC3E00000#32) (w (ix2 r d) * kiv (v (ix2 r 0)) : EReal) := by
  unfold k0_pay204
  refine (clip_v _ _ _).trans ?_
  rw [bcZ]
  refine congrArg (fun e : EReal => max (Ideal.ofBits .f32 0xC3E00000#32) (w (ix2 r d) * e)) ?_
  show Scalar.select (usual (v (ix2 r 0))) (thr (IntOp.subi 253#32 (k0_pay201 v (k0_pay198 v k0_pay197) (k0_pay199 v k0_pay197) (k0_pay200 v k0_pay197) (ix2 r 0)))) _ = _
  rw [pay201_at]; rfl
theorem pay206_at (u : FVec Ideal S32x2048 .f32) (r : Fin 32) (d : Fin 2048) : k0_pay206 u k0_pay205 (ix2 r d) = min (Ideal.ofBits .f32 0x43E00000#32) (u (ix2 r d) : EReal) := by
  unfold k0_pay206
  exact scZ _ r d _

theorem top_v {s : Shape} (A : FVec Ideal s .f32) (i : s.Idx) : mulf A (broadcast s (Scalar.ofBits (F := Ideal) .f32 0x3B124925#32)) i = (A i * c448 : EReal) := rfl
theorem pay196_at (v : FVec Ideal S32x128 .f32) (r : Fin 32) :
    k0_pay196 v (ix2 r 0) = ((Finset.univ.fold max (Ideal.ofBits .f32 0xFF800000#32) fun d => v (ix2 r d)) * c448 : EReal) := by
  unfold k0_pay196
  refine (top_v _ _).trans ?_
  exact congrArg (· * c448) (rowmax v r _ _ _ _)

theorem rowsM_at (m : Vec Ideal S192x128 .f32) (k : Fin 6) (r : Fin 32) (l : Fin 128) : rowsM m k (ix2 r l) = m (ix2 ⟨32 * k.val + r.val, by omega⟩ l) := by
  refine congrArg m (funext fun d => Fin.ext ?_)
  fin_cases d
  · show 32 * k.val + 1 * r.val = 32 * k.val + r.val; omega
  · show 0 + 1 * l.val = l.val; omega
theorem rowsZ_at (m : Vec Ideal S192x2048 .f32) (k : Fin 6) (r : Fin 32) (l : Fin 2048) : rowsZ m k (ix2 r l) = m (ix2 ⟨32 * k.val + r.val, by omega⟩ l) := by
  refine congrArg m (funext fun d => Fin.ext ?_)
  fin_cases d
  · show 32 * k.val + 1 * r.val = 32 * k.val + r.val; omega
  · show 0 + 1 * l.val = l.val; omega

/-- The scale of a row whose running maxima have `M` for their largest. -/
theorem ZSV_val (m : Vec Ideal S192x128 .f32) (R : Fin 192) (M : EReal) (hM : 0 ≤ M)
    (h : (Finset.univ.fold max (Ideal.ofBits .f32 0xFF800000#32) fun l : Fin 128 => m (ix2 R l) : EReal) = M) (l : Fin 128) :
    ZSV m (ix2 R l) = Ideal.exp2 (eR M) := by
  have hr : (⟨32 * (R.val / 32) + R.val % 32, by omega⟩ : Fin 192) = R := Fin.ext (by show 32 * (R.val / 32) + R.val % 32 = R.val; omega)
  rw [ZSV_at m ⟨R.val / 32, by omega⟩ (ix2 ⟨R.val % 32, by omega⟩ l) (ix2 R l) (by show R.val = 32 * (R.val / 32) + R.val % 32; omega) (by show l.val = 0 + l.val; omega)]
  unfold zSc
  rw [pay203_at, pay196_at]
  simp only [rowsM_at, hr]
  rw [h, (quant hM).1]

theorem ZQ_val (z : Vec Ideal S192x2048 .f32) (m : Vec Ideal S192x128 .f32) (R : Fin 192) (M : EReal) (hM : 0 ≤ M)
    (h : (Finset.univ.fold max (Ideal.ofBits .f32 0xFF800000#32) fun l : Fin 128 => m (ix2 R l) : EReal) = M) (n : Fin 2048) :
    ZQ z m (ix2 R n) = min (Ideal.ofBits .f32 0x43E00000#32) (max (Ideal.ofBits .f32 0xC3E00000#32) (z (ix2 R n) * Ideal.exp2 (0 - eR M)) : EReal) := by
  have hr : (⟨32 * (R.val / 32) + R.val % 32, by omega⟩ : Fin 192) = R := Fin.ext (by show 32 * (R.val / 32) + R.val % 32 = R.val; omega)
  rw [ZQ_at z m ⟨R.val / 32, by omega⟩ (ix2 ⟨R.val % 32, by omega⟩ n) (ix2 R n) (by show R.val = 32 * (R.val / 32) + R.val % 32; omega) (by show n.val = 0 + n.val; omega)]
  unfold zQc
  rw [pay206_at, pay204_at, pay196_at]
  simp only [rowsM_at, rowsZ_at, hr]
  rw [h, (quant hM).2]

section
variable (X : Vec Ideal S192x8192 .bf16) (w1 : Vec Ideal S8192x2048 .fp8e4m3) (w1s : Vec Ideal S1x2048 .f32) (wh ww : Vec Ideal S3x2048 .bf16)
    (x : Fin 2 → Fin 8 → Fin 12 → Fin 8192 → EReal) (hX : ∀ i j k d, X (ix2 (rw3 i j k) d) = x i j k d)
include hX

theorem XQ_x (i : Fin 2) (j : Fin 8) (k : Fin 12) (d : Fin 8192) : XQ X (ix2 (rw3 i j k) d) = code (x i j k) d := by
  rw [XQ_row, show (fun d => X (ix2 (rw3 i j k) d)) = x i j k from funext fun d => hX i j k d]
theorem XSV_x (i : Fin 2) (j : Fin 8) (k : Fin 12) (l : Fin 128) : XSV X (ix2 (rw3 i j k) l) = scl (x i j k) := by
  rw [XSV_row, show (fun d => X (ix2 (rw3 i j k) d)) = x i j k from funext fun d => hX i j k d]

theorem sz_x (i : Fin 2) (j : Fin 8) (k : Fin 12) (l : Fin 128) : sz X w1 w1s wh ww (ix2 (rw3 i j k) l) = scl (zK w1 w1s wh ww x i j k) :=
  ZSV_val _ _ _ (amx_nonneg _) (ZM_sup w1 w1s wh ww (XQ X) (XSV X) x (XQ_x X x hX) (XSV_x X x hX) i j k) l
theorem qz_x (i : Fin 2) (j : Fin 8) (k : Fin 12) (n : Fin 2048) : qz X w1 w1s wh ww (ix2 (rw3 i j k) n) = code (zK w1 w1s wh ww x i j k) n := by
  unfold qz
  refine (ZQ_val _ _ _ _ (amx_nonneg _) (ZM_sup w1 w1s wh ww (XQ X) (XSV X) x (XQ_x X x hX) (XSV_x X x hX) i j k) n).trans ?_
  unfold zv
  rw [Z_row w1 w1s wh ww (XQ X) (XSV X) x (XQ_x X x hX) (XSV_x X x hX)]
  rfl
end

end Cert.Val.Ker
-- ==== Proof.Value.KY.lean ====
module
public import proofs.«01_k».proof.Proof.Value.KZ2
import Idealize.ShloMosaic.Lib.Pointwise

/-! The kernel's `y`, and the layouts of its results. -/

@[expose] public noncomputable section

namespace Cert.Val.Ker

open Cert.KernelIdeal Cert.KernelIdeal.Gen Cert.KernelIdeal.Hand Idealize.ShloMosaic

theorem rnd_y {s : Shape} (A B C D : FVec Ideal s .f32) (h) (i : s.Idx) : truncf .bf16 (addf (mulf (mulf A B) C) D) h i = ((A i * B i) * C i + D i : EReal) := rfl
theorem k7 (t : Fin k0_t6_loop.trips) : t.val < 7 := lt_of_lt_of_eq t.isLt trips6

section
variable (w2 : Vec Ideal S2048x7168 .fp8e4m3) (w2s b2 : Vec Ideal S1x7168 .f32) (f26 : Vec Ideal S192x2048 .fp8e4m3) (f27 : Vec Ideal S192x128 .f32)
    (t : Fin k0_t6_loop.trips)

/-- The column of `y` that lane `c` of the trip is. -/
def colY (c : Fin 1024) : Fin 7168 := ⟨1024 * t.val + c.val, by have h := k7 t; omega⟩

theorem o85 : k0_off85 t = ![t.val, 0, 0] := by revert t; decide +kernel
theorem o86 : k0_off86 t = ![0, 1024 * t.val] := by revert t; decide +kernel

theorem w2sL_at (c : Fin 1024) : w2sL w2s t (ix2 0 c) = w2s (ix2 0 (colY t c)) := by
  refine congrArg w2s (funext fun d => Fin.ext ?_)
  fin_cases d
  · show k0_off86 t 0 + 1 * 0 = 0; rw [o86]; rfl
  · show k0_off86 t 1 + 1 * c.val = 1024 * t.val + c.val; rw [o86]; show 1024 * t.val + 1 * c.val = _; omega
theorem b2L_at (c : Fin 1024) : b2L b2 t (ix2 0 c) = b2 (ix2 0 (colY t c)) := by
  refine congrArg b2 (funext fun d => Fin.ext ?_)
  fin_cases d
  · show k0_off86 t 0 + 1 * 0 = 0; rw [o86]; rfl
  · show k0_off86 t 1 + 1 * c.val = 1024 * t.val + c.val; rw [o86]; show 1024 * t.val + 1 * c.val = _; omega
theorem w2_at (d : Fin 2048) (c : Fin 1024) :
    (Memref.whole cc0_scratch6 : Memref sig .tc .vmem S7x2048x1024 .fp8e4m3).view.readAt (Elt Ideal) (Rect.unit (s := S7x2048x1024) (k0_off85 t) S1x2048x1024.size (k0_off85_inb t)).toLoadRect (gW2 w2) (ix3 0 d c) = w2 (ix2 d (colY t c)) := by
  refine congrArg w2 (funext fun a => Fin.ext ?_)
  fin_cases a
  · show k0_off85 t 1 + 1 * d.val = d.val; rw [o85]; show 0 + 1 * d.val = d.val; omega
  · show 1024 * (k0_off85 t 0 + 1 * 0) + (k0_off85 t 2 + 1 * c.val) = 1024 * t.val + c.val; rw [o85]; show 1024 * (t.val + 1 * 0) + (0 + 1 * c.val) = _; omega

theorem mY_at (r : Fin 192) (c : Fin 1024) : mY w2 f26 t (ix2 r c) = (∑ d : Fin 2048, f26 (ix2 r d) * w2 (ix2 d (colY t c)) : EReal) := by
  unfold mY
  rw [pay155_at]
  refine Finset.sum_congr rfl fun d _ => ?_
  rw [w2_at]
  refine congrArg (· * _) (congrArg f26 (funext fun a => Fin.ext ?_))
  fin_cases a <;> exact (Nat.zero_add _).trans (Nat.one_mul _)

theorem syL_at (g : Fin 24) (h : Fin 8) (l : Fin 128) : syL f27 g (ix2 h l) = f27 (ix2 ⟨8 * g.val + h.val, by omega⟩ l) := by
  refine congrArg f27 (funext fun d => Fin.ext ?_)
  fin_cases d
  · show 8 * g.val + 1 * h.val = 8 * g.val + h.val; omega
  · show 0 + 1 * l.val = l.val; omega
end

section
variable (w2 : Vec Ideal S2048x7168 .fp8e4m3) (w2s b2 : Vec Ideal S1x7168 .f32) (f26 : Vec Ideal S192x2048 .fp8e4m3) (f27 : Vec Ideal S192x128 .f32)
    (z : Fin 2 → Fin 8 → Fin 12 → Fin 2048 → EReal)
    (hc : ∀ i j k d, f26 (ix2 (rw3 i j k) d) = code (z i j k) d) (hs : ∀ i j k l, f27 (ix2 (rw3 i j k) l) = scl (z i j k))
include hc hs

theorem yB_at (t : Fin k0_t6_loop.trips) (i : Fin 2) (j : Fin 8) (k : Fin 12) (c : Fin 1024) :
    yB w2 w2s b2 f26 f27 t (gp i k) (ix2 j c) = yS z (fun n o => w2 (ix2 n o)) (fun o => w2s (ix2 0 o)) (fun o => b2 (ix2 0 o)) i j k (colY t c) := by
  unfold yB
  rw [rnd_y]
  rw [slY, cat8 (syL f27 (gp i k)) (scl (z i j k)) j (fun l => (syL_at f27 (gp i k) j l).trans (hs i j k l)) c, bc1, bc1, mY_at, w2sL_at, b2L_at]
  unfold yS
  have e : ∀ d, f26 (ix2 ⟨8 * (gp i k).val + j.val, by have := (gp i k).isLt; omega⟩ d) = code (z i j k) d := fun d => hc i j k d
  simp only [e]

theorem GY_x (i : Fin 2) (j : Fin 8) (k : Fin 12) (o : Fin 7168) :
    GY w2 w2s b2 f26 f27 (ix3 (gp i k) j o) = yS z (fun n o => w2 (ix2 n o)) (fun o => w2s (ix2 0 o)) (fun o => b2 (ix2 0 o)) i j k o := by
  refine Eq.trans (b := yP w2 w2s b2 f26 f27 ⟨o.val / 1024, by rw [trips6]; omega⟩ (gp i k) (ix4 0 0 j ⟨o.val % 1024, by omega⟩)) rfl ?_
  unfold yP
  rw [up4, yB_at w2 w2s b2 f26 f27 z hc hs]
  exact congrArg _ (Fin.ext (by show 1024 * (o.val / 1024) + o.val % 1024 = o.val; omega))
end

theorem grp9_at (v : Vec Ideal S192x128 .f32) (g : Fin 24) (h : Fin 8) (l : Fin 128) : grp9 v g (ix2 h l) = v (ix2 ⟨8 * g.val + h.val, by omega⟩ l) := by
  refine congrArg v (funext fun d => Fin.ext ?_)
  fin_cases d
  · show 8 * g.val + 1 * h.val = 8 * g.val + h.val; omega
  · show 0 + 1 * l.val = l.val; omega
theorem grp14_at (v : Vec Ideal S192x128 .f32) (g : Fin 24) (h : Fin 8) (l : Fin 128) : grp14 v g (ix2 h l) = v (ix2 ⟨8 * g.val + h.val, by omega⟩ l) := by
  refine congrArg v (funext fun d => Fin.ext ?_)
  fin_cases d
  · show 8 * g.val + 1 * h.val = 8 * g.val + h.val; omega
  · show 0 + 1 * l.val = l.val; omega

theorem SP9_x (v : Vec Ideal S192x128 .f32) (e : Fin 2 → Fin 8 → Fin 12 → EReal) (h : ∀ i j k l, v (ix2 (rw3 i j k) l) = e i j k) (i : Fin 2) (j : Fin 8) (k : Fin 12) :
    SP (grp9 v) (ix3 i j k) = e i j k := by
  refine Eq.trans (b := spB (fun w => grp9 v (gp i w)) (ix3 0 j k)) rfl ?_
  rw [spB_at, grp9_at]
  exact h i j k _
theorem SP14_x (v : Vec Ideal S192x128 .f32) (e : Fin 2 → Fin 8 → Fin 12 → EReal) (h : ∀ i j k l, v (ix2 (rw3 i j k) l) = e i j k) (i : Fin 2) (j : Fin 8) (k : Fin 12) :
    SP (grp14 v) (ix3 i j k) = e i j k := by
  refine Eq.trans (b := spB (fun w => grp14 v (gp i w)) (ix3 0 j k)) rfl ?_
  rw [spB_at, grp14_at]
  exact h i j k _

theorem GC9_at (w : Vec Ideal S192x8192 .fp8e4m3) (g : Fin 24) (j : Fin 8) (d : Fin 8192) : GC9 w (ix3 g j d) = w (ix2 ⟨8 * g.val + j.val, by omega⟩ d) := by
  pointwise [GC9]
  exact congrArg w (congrArg (fun r => ix2 r d) (Fin.ext (by show g.val * 8 + j.val = 8 * g.val + j.val; omega)))
theorem GC11_at (w : Vec Ideal S192x2048 .fp8e4m3) (g : Fin 24) (j : Fin 8) (d : Fin 2048) : GC11 w (ix3 g j d) = w (ix2 ⟨8 * g.val + j.val, by omega⟩ d) := by
  pointwise [GC11]
  exact congrArg w (congrArg (fun r => ix2 r d) (Fin.ext (by show g.val * 8 + j.val = 8 * g.val + j.val; omega)))

end Cert.Val.Ker
-- ==== Proof.Value.Host.lean ====
module
public import proofs.«01_k».proof.Proof.KernelIdealHand.Launch
public import proofs.«01_k».proof.Proof.Value.KZ2
import Idealize.ShloMosaic.Lib.Pointwise
import Idealize.ShloMosaic.Lib.StableHlo.ReadAt

/-! The kernel's host operations, element by element. -/

@[expose] public noncomputable section

namespace Cert.Val.Ker

open Cert.KernelIdeal Cert.KernelIdeal.Gen Cert.KernelIdeal.Hand Idealize.ShloMosaic Idealize.ShloMosaic.TcCoe Idealize.SL.Sem

variable (m : (ℓ : Loc nD τ sig) → Buf (Elt Ideal) ℓ) (c : Dev nD)

theorem inX (v : FVec Ideal S2x8x12x8192 .bf16) (i : Fin 2) (j : Fin 8) (k : Fin 12) (d : Fin 8192) (p q) :
    shapeCast S192x8192 (transpose S2x12x8x8192 [0, 2, 1, 3] v p) q (ix2 (rw3 i j k) d) = v (ix4 i j k d) := by
  pointwise [rw3]
theorem inS (v : FVec Ideal S2048 .f32) (n : Fin 2048) (p) : shapeCast S1x2048 v p (ix2 0 n) = v (ix1 n) := by pointwise
theorem inY (v : FVec Ideal S7168 .f32) (n : Fin 7168) (p) : shapeCast S1x7168 v p (ix2 0 n) = v (ix1 n) := by pointwise
theorem outX (v : FVec Ideal S24x8x8192 .fp8e4m3) (i : Fin 2) (j : Fin 8) (k : Fin 12) (d : Fin 8192) (p q) :
    transpose S2x8x12x8192 [0, 2, 1, 3] (shapeCast S2x12x8x8192 v p) q (ix4 i j k d) = v (ix3 (gp i k) j d) := by
  pointwise [gp]
  exact congrArg v (congrArg (fun r => ix3 r j d) (Fin.ext (by show i.val * 12 + k.val = 12 * i.val + k.val; omega)))
theorem outZ (v : FVec Ideal S24x8x2048 .fp8e4m3) (i : Fin 2) (j : Fin 8) (k : Fin 12) (d : Fin 2048) (p q) :
    transpose S2x8x12x2048 [0, 2, 1, 3] (shapeCast S2x12x8x2048 v p) q (ix4 i j k d) = v (ix3 (gp i k) j d) := by
  pointwise [gp]
  exact congrArg v (congrArg (fun r => ix3 r j d) (Fin.ext (by show i.val * 12 + k.val = 12 * i.val + k.val; omega)))
theorem outY (v : FVec Ideal S24x8x7168 .bf16) (i : Fin 2) (j : Fin 8) (k : Fin 12) (d : Fin 7168) (p q) :
    transpose S2x8x12x7168 [0, 2, 1, 3] (shapeCast S2x12x8x7168 v p) q (ix4 i j k d) = v (ix3 (gp i k) j d) := by
  pointwise [gp]
  exact congrArg v (congrArg (fun r => ix3 r j d) (Fin.ext (by show i.val * 12 + k.val = 12 * i.val + k.val; omega)))

theorem V1 : (V m c main_v1 : Vec Ideal S192x8192 .bf16) = shapeCast S192x8192 (transpose S2x12x8x8192 [0, 2, 1, 3] (m ((c : Thread nD τ).loc main_arg0) : Vec Ideal S2x8x12x8192 .bf16) transposes_S2x8x12x8192_S2x12x8x8192_0_2_1_3) shapeCasts_S2x12x8x8192_S192x8192 := by
  unfold V V0
  after_reads_simp
  rfl
theorem V2 : (V m c main_v2 : Vec Ideal S1x2048 .f32) = shapeCast S1x2048 (m ((c : Thread nD τ).loc main_arg2) : Vec Ideal S2048 .f32) shapeCasts_S2048_S1x2048 := by
  unfold V V0
  after_reads_simp
  rfl
theorem V3 : (V m c main_v3 : Vec Ideal S1x7168 .f32) = shapeCast S1x7168 (m ((c : Thread nD τ).loc main_arg6) : Vec Ideal S7168 .f32) shapeCasts_S7168_S1x7168 := by
  unfold V V0
  after_reads_simp
  rfl
theorem V4 : (V m c main_v4 : Vec Ideal S1x7168 .f32) = shapeCast S1x7168 (m ((c : Thread nD τ).loc main_arg7) : Vec Ideal S7168 .f32) shapeCasts_S7168_S1x7168 := by
  unfold V V0
  after_reads_simp
  rfl

section
variable (W : Valuation τ sig (Elt Ideal))
theorem W7 : (StableHlo.after hostOps1 W (Proc.devRef .tc main_v7) : Vec Ideal S2x8x12x7168 .bf16) = transpose S2x8x12x7168 [0, 2, 1, 3] (shapeCast S2x12x8x7168 (W (Proc.devRef .tc main_v5_0) : Vec Ideal S24x8x7168 .bf16) shapeCasts_S24x8x7168_S2x12x8x7168) transposes_S2x12x8x7168_S2x8x12x7168_0_2_1_3 := by
  after_reads_simp
  rfl
theorem W9 : (StableHlo.after hostOps1 W (Proc.devRef .tc main_v9) : Vec Ideal S2x8x12x8192 .fp8e4m3) = transpose S2x8x12x8192 [0, 2, 1, 3] (shapeCast S2x12x8x8192 (W (Proc.devRef .tc main_v5_1) : Vec Ideal S24x8x8192 .fp8e4m3) shapeCasts_S24x8x8192_S2x12x8x8192) transposes_S2x12x8x8192_S2x8x12x8192_0_2_1_3 := by
  after_reads_simp
  rfl
theorem W11 : (StableHlo.after hostOps1 W (Proc.devRef .tc main_v11) : Vec Ideal S2x8x12x2048 .fp8e4m3) = transpose S2x8x12x2048 [0, 2, 1, 3] (shapeCast S2x12x8x2048 (W (Proc.devRef .tc main_v5_3) : Vec Ideal S24x8x2048 .fp8e4m3) shapeCasts_S24x8x2048_S2x12x8x2048) transposes_S2x12x8x2048_S2x8x12x2048_0_2_1_3 := by
  after_reads_simp
  rfl
theorem W5_2 : StableHlo.after hostOps1 W (Proc.devRef .tc main_v5_2) = W (Proc.devRef .tc main_v5_2) :=
  StableHlo.after_of_forall_not_mem _ _ (List.forall_iff_forall_mem.mp (by
    simp only [hostOps1, List.Forall, StableHlo.unary_writes, StableHlo.reshape_writes, Finset.mem_singleton]
    repeat' apply And.intro
    all_goals exact StableHlo.devRef_ne_of_ne (by decide)))
theorem W5_4 : StableHlo.after hostOps1 W (Proc.devRef .tc main_v5_4) = W (Proc.devRef .tc main_v5_4) :=
  StableHlo.after_of_forall_not_mem _ _ (List.forall_iff_forall_mem.mp (by
    simp only [hostOps1, List.Forall, StableHlo.unary_writes, StableHlo.reshape_writes, Finset.mem_singleton]
    repeat' apply And.intro
    all_goals exact StableHlo.devRef_ne_of_ne (by decide)))
end

end Cert.Val.Ker
-- ==== Proof.Value.KRes.lean ====
module
public import proofs.«01_k».proof.Proof.Value.KZ3
public import proofs.«01_k».proof.Proof.Value.KY
public import proofs.«01_k».proof.Proof.Value.Host

/-! The kernel's five results, element by element, over its arguments. -/

@[expose] public noncomputable section

namespace Cert.Val.Ker

open Cert.KernelIdeal Cert.KernelIdeal.Gen Cert.KernelIdeal.Hand Idealize.ShloMosaic Idealize.ShloMosaic.TcCoe Idealize.SL.Sem

variable (m : (ℓ : Loc nD τ sig) → Buf (Elt Ideal) ℓ) (c : Dev nD)

/-- The arguments. -/
def a0 : Vec Ideal S2x8x12x8192 .bf16 := m ((c : Thread nD τ).loc main_arg0)
def a1 : Vec Ideal S8192x2048 .fp8e4m3 := m ((c : Thread nD τ).loc main_arg1)
def a2 : Vec Ideal S2048 .f32 := m ((c : Thread nD τ).loc main_arg2)
def a3 : Vec Ideal S3x2048 .bf16 := m ((c : Thread nD τ).loc main_arg3)
def a4 : Vec Ideal S3x2048 .bf16 := m ((c : Thread nD τ).loc main_arg4)
def a5 : Vec Ideal S2048x7168 .fp8e4m3 := m ((c : Thread nD τ).loc main_arg5)
def a6 : Vec Ideal S7168 .f32 := m ((c : Thread nD τ).loc main_arg6)
def a7 : Vec Ideal S7168 .f32 := m ((c : Thread nD τ).loc main_arg7)

/-- `x`, index by index, and `z` as the arguments give it. -/
def xA (i : Fin 2) (j : Fin 8) (k : Fin 12) (d : Fin 8192) : EReal := a0 m c (ix4 i j k d)
def zA : Fin 2 → Fin 8 → Fin 12 → Fin 2048 → EReal :=
  zS (vS (uS (xA m c) (fun d n => a1 m c (ix2 d n)) (fun n => a2 m c (ix1 n))) (fun a n => a3 m c (ix2 a n))) (fun a n => a4 m c (ix2 a n))

theorem V1_at (i : Fin 2) (j : Fin 8) (k : Fin 12) (d : Fin 8192) : (V m c main_v1 : Vec Ideal S192x8192 .bf16) (ix2 (rw3 i j k) d) = xA m c i j k d := by
  rw [V1]; exact inX _ i j k d _ _
theorem zK_eq : zK (V m c main_arg1) (V m c main_v2) (V m c main_arg3) (V m c main_arg4) (xA m c) = zA m c := by
  have e : (fun n : Fin 2048 => (V m c main_v2 : Vec Ideal S1x2048 .f32) (ix2 0 n)) = fun n => a2 m c (ix1 n) := by
    funext n; rw [V2]; exact inS _ n _
  unfold zK zA
  rw [e, V_main_arg1, V_main_arg3, V_main_arg4]
  rfl

/-- The state after the host operations. -/
def fin (b : Ref sig .tc) : Buf (Elt Ideal) ((c : Thread nD τ).loc b) := StableHlo.after hostOps1 (Pipeline.withR (V0 m c) R0 c (G m c)) (Proc.devRef .tc b)

theorem fin9 (i : Fin 2) (j : Fin 8) (k : Fin 12) (d : Fin 8192) : (fin m c main_v9 : Vec Ideal S2x8x12x8192 .fp8e4m3) (ix4 i j k d) = code (xA m c i j k) d := by
  unfold fin
  rw [W9]
  refine (outX _ i j k d _ _).trans ?_
  rw [Pipeline.withR_of_mem _ R0 c (G m c) main_v5_1 (by decide), G_1, GC9_at]
  exact XQ_x _ _ (V1_at m c) i j k d
theorem fin11 (i : Fin 2) (j : Fin 8) (k : Fin 12) (d : Fin 2048) : (fin m c main_v11 : Vec Ideal S2x8x12x2048 .fp8e4m3) (ix4 i j k d) = code (zA m c i j k) d := by
  unfold fin
  rw [W11]
  refine (outZ _ i j k d _ _).trans ?_
  rw [Pipeline.withR_of_mem _ R0 c (G m c) main_v5_3 (by decide), G_3, GC11_at]
  refine (qz_x _ _ _ _ _ _ (V1_at m c) i j k d).trans ?_
  rw [zK_eq]
theorem fin5_2 (i : Fin 2) (j : Fin 8) (k : Fin 12) : (fin m c main_v5_2 : Vec Ideal S2x8x12 .f32) (ix3 i j k) = scl (xA m c i j k) := by
  unfold fin
  rw [W5_2, Pipeline.withR_of_mem _ R0 c (G m c) main_v5_2 (by decide), G_2]
  exact SP9_x _ _ (fun i j k l => XSV_x _ _ (V1_at m c) i j k l) i j k
theorem fin5_4 (i : Fin 2) (j : Fin 8) (k : Fin 12) : (fin m c main_v5_4 : Vec Ideal S2x8x12 .f32) (ix3 i j k) = scl (zA m c i j k) := by
  unfold fin
  rw [W5_4, Pipeline.withR_of_mem _ R0 c (G m c) main_v5_4 (by decide), G_4]
  refine (SP14_x _ _ (fun i j k l => sz_x _ _ _ _ _ _ (V1_at m c) i j k l) i j k).trans ?_
  rw [zK_eq]
theorem fin7 (i : Fin 2) (j : Fin 8) (k : Fin 12) (o : Fin 7168) : (fin m c main_v7 : Vec Ideal S2x8x12x7168 .bf16) (ix4 i j k o) =
    yS (zA m c) (fun n o => a5 m c (ix2 n o)) (fun o => a6 m c (ix1 o)) (fun o => a7 m c (ix1 o)) i j k o := by
  unfold fin
  rw [W7]
  refine (outY _ i j k o _ _).trans ?_
  rw [Pipeline.withR_of_mem _ R0 c (G m c) main_v5_0 (by decide), G_0]
  refine (GY_x _ _ _ _ _ _ (qz_x _ _ _ _ _ _ (V1_at m c)) (sz_x _ _ _ _ _ _ (V1_at m c)) i j k o).trans ?_
  have e3 : (fun n : Fin 7168 => (V m c main_v3 : Vec Ideal S1x7168 .f32) (ix2 0 n)) = fun n => a6 m c (ix1 n) := by
    funext n; rw [V3]; exact inY _ n _
  have e4 : (fun n : Fin 7168 => (V m c main_v4 : Vec Ideal S1x7168 .f32) (ix2 0 n)) = fun n => a7 m c (ix1 n) := by
    funext n; rw [V4]; exact inY _ n _
  rw [zK_eq, e3, e4, V_main_arg5]
  rfl

end Cert.Val.Ker
-- ==== Proof.Value.RF1.lean ====
module
public import proofs.«01_k».proof.Proof.Gen.ReferenceIdeal.Value
public import proofs.«01_k».proof.Proof.Value.Spec
import Idealize.ShloMosaic.Lib.Pointwise

/-! The reference's vector operations, element by element. -/

@[expose] public noncomputable section

namespace Cert.Val.Ref

open Cert.ReferenceIdeal Cert.ReferenceIdeal.Gen Idealize.ShloMosaic

theorem max8192 (v : FVec Ideal S2x8x12x8192 .f32) (i : Fin 2) (j : Fin 8) (k : Fin 12) (h1 h2 h3 h4) :
    shapeCast S2x8x12x1 (multiReduction .maximumf [3] S2x8x12 v 0xFF800000#32 h1 h2 h3) h4 (ix4 i j k 0) =
      (Finset.univ.fold max (Ideal.ofBits .f32 0xFF800000#32) fun d => v (ix4 i j k d) : EReal) := by pointwise
theorem max2048 (v : FVec Ideal S2x8x12x2048 .f32) (i : Fin 2) (j : Fin 8) (k : Fin 12) (h1 h2 h3 h4) :
    shapeCast S2x8x12x1 (multiReduction .maximumf [3] S2x8x12 v 0xFF800000#32 h1 h2 h3) h4 (ix4 i j k 0) =
      (Finset.univ.fold max (Ideal.ofBits .f32 0xFF800000#32) fun d => v (ix4 i j k d) : EReal) := by pointwise
theorem bc8192 (v : FVec Ideal S2x8x12x1 .f32) (i : Fin 2) (j : Fin 8) (k : Fin 12) (d : Fin 8192) (h3) :
    (broadcastTo S2x8x12x8192 v h3) (ix4 i j k d) = v (ix4 i j k 0) := by pointwise
theorem bc2048 (v : FVec Ideal S2x8x12x1 .f32) (i : Fin 2) (j : Fin 8) (k : Fin 12) (d : Fin 2048) (h3) :
    (broadcastTo S2x8x12x2048 v h3) (ix4 i j k d) = v (ix4 i j k 0) := by pointwise
theorem bc7168 (v : FVec Ideal S2x8x12x1 .f32) (i : Fin 2) (j : Fin 8) (k : Fin 12) (d : Fin 7168) (h3) :
    (broadcastTo S2x8x12x7168 v h3) (ix4 i j k d) = v (ix4 i j k 0) := by pointwise
theorem dropL (v : FVec Ideal S2x8x12x1 .f32) (i : Fin 2) (j : Fin 8) (k : Fin 12) (h3) :
    (shapeCast S2x8x12 v h3) (ix3 i j k) = v (ix4 i j k 0) := by pointwise
theorem addL (v : FVec Ideal S2x8x12 .f32) (i : Fin 2) (j : Fin 8) (k : Fin 12) (h3) :
    (shapeCast S2x8x12x1 v h3) (ix4 i j k 0) = v (ix3 i j k) := by pointwise
theorem row2048 (v : FVec Ideal S2048 .f32) (i : Fin 2) (j : Fin 8) (k : Fin 12) (n : Fin 2048) (h h') :
    broadcastTo S2x8x12x2048 (shapeCast S1x1x1x2048 v h) h' (ix4 i j k n) = v (ix1 n) := by pointwise
theorem row7168 (v : FVec Ideal S7168 .f32) (i : Fin 2) (j : Fin 8) (k : Fin 12) (n : Fin 7168) (h h') :
    broadcastTo S2x8x12x7168 (shapeCast S1x1x1x7168 v h) h' (ix4 i j k n) = v (ix1 n) := by pointwise
theorem tap0 (v : FVec Ideal S3x2048 .f32) (n : Fin 2048) (h h') : shapeCast S2048 (extractStridedSlice S1x2048 ![0, 0] v h) h' (ix1 n) = v (ix2 0 n) := by pointwise
theorem tap1 (v : FVec Ideal S3x2048 .f32) (n : Fin 2048) (h h') : shapeCast S2048 (extractStridedSlice S1x2048 ![1, 0] v h) h' (ix1 n) = v (ix2 1 n) := by pointwise
theorem tap2 (v : FVec Ideal S3x2048 .f32) (n : Fin 2048) (h h') : shapeCast S2048 (extractStridedSlice S1x2048 ![2, 0] v h) h' (ix1 n) = v (ix2 2 n) := by pointwise

theorem mm1 (v : FVec Ideal S2x8x12x8192 .fp8e4m3) (w : FVec Ideal S8192x2048 .fp8e4m3) (i : Fin 2) (j : Fin 8) (k : Fin 12) (n : Fin 2048) :
    shapeCast S2x8x12x2048 (matmul (F := Ideal) dot_S192x8192_S8192x2048_S192x2048_1_0_0_1_n_n none (shapeCast S192x8192 v shapeCasts_S2x8x12x8192_S192x8192) w (constant S192x2048 .f32 0x00000000#32)) shapeCasts_S192x2048_S2x8x12x2048 (ix4 i j k n) =
      (∑ d : Fin 8192, v (ix4 i j k d) * w (ix2 d n) : EReal) := by pointwise
theorem mm2 (v : FVec Ideal S2x8x12x2048 .fp8e4m3) (w : FVec Ideal S2048x7168 .fp8e4m3) (i : Fin 2) (j : Fin 8) (k : Fin 12) (n : Fin 7168) :
    shapeCast S2x8x12x7168 (matmul (F := Ideal) dot_S192x2048_S2048x7168_S192x7168_1_0_0_1_n_n none (shapeCast S192x2048 v shapeCasts_S2x8x12x2048_S192x2048) w (constant S192x7168 .f32 0x00000000#32)) shapeCasts_S192x7168_S2x8x12x7168 (ix4 i j k n) =
      (∑ d : Fin 2048, v (ix4 i j k d) * w (ix2 d n) : EReal) := by pointwise

/-- One zero before and one after along `h`. -/
def padH (c : Ideal .f32) (v : FVec Ideal S2x8x12x2048 .f32) : FVec Ideal S2x10x12x2048 .f32 :=
  concatenate S2x10x12x2048 1 [⟨S2x9x12x2048, concatenate S2x9x12x2048 1 [⟨S2x1x12x2048, broadcast S2x1x12x2048 c⟩, ⟨S2x8x12x2048, v⟩] concatenates_S2x1x12x2048_S2x8x12x2048_S2x9x12x2048_d1⟩, ⟨S2x1x12x2048, broadcast S2x1x12x2048 c⟩] concatenates_S2x9x12x2048_S2x1x12x2048_S2x10x12x2048_d1
/-- The same along `w`. -/
def padW (c : Ideal .f32) (v : FVec Ideal S2x8x12x2048 .f32) : FVec Ideal S2x8x14x2048 .f32 :=
  concatenate S2x8x14x2048 2 [⟨S2x8x13x2048, concatenate S2x8x13x2048 2 [⟨S2x8x1x2048, broadcast S2x8x1x2048 c⟩, ⟨S2x8x12x2048, v⟩] concatenates_S2x8x1x2048_S2x8x12x2048_S2x8x13x2048_d2⟩, ⟨S2x8x1x2048, broadcast S2x8x1x2048 c⟩] concatenates_S2x8x13x2048_S2x8x1x2048_S2x8x14x2048_d2

theorem padH0 (c : Ideal .f32) (v : FVec Ideal S2x8x12x2048 .f32) (i : Fin 2) (j : Fin 8) (k : Fin 12) (n : Fin 2048) :
    extractStridedSlice S2x8x12x2048 ![0, 0, 0, 0] (padH c v) slices_S2x10x12x2048_o0_0_0_0_S2x8x12x2048 (ix4 i j k n) =
      if h : j.val = 0 then c else v (ix4 i ⟨j.val - 1, by omega⟩ k n) := by
  fin_cases j <;> pointwise [padH]
theorem padH1 (c : Ideal .f32) (v : FVec Ideal S2x8x12x2048 .f32) (i : Fin 2) (j : Fin 8) (k : Fin 12) (n : Fin 2048) :
    extractStridedSlice S2x8x12x2048 ![0, 1, 0, 0] (padH c v) slices_S2x10x12x2048_o0_1_0_0_S2x8x12x2048 (ix4 i j k n) = v (ix4 i j k n) := by
  pointwise [padH]
  rw [dif_pos (by omega)]
theorem padH2 (c : Ideal .f32) (v : FVec Ideal S2x8x12x2048 .f32) (i : Fin 2) (j : Fin 8) (k : Fin 12) (n : Fin 2048) :
    extractStridedSlice S2x8x12x2048 ![0, 2, 0, 0] (padH c v) slices_S2x10x12x2048_o0_2_0_0_S2x8x12x2048 (ix4 i j k n) =
      if h : j.val = 7 then c else v (ix4 i ⟨j.val + 1, by omega⟩ k n) := by
  by_cases h : j.val = 7
  · rw [dif_pos h]; pointwise [padH]; rw [dif_neg (by omega)]
  · rw [dif_neg h]; pointwise [padH]; rw [dif_pos (by omega), dif_neg (by omega)]
    exact congrArg (fun q => v (ix4 i q k n)) (Fin.ext (by show 2 + j.val - 1 = j.val + 1; omega))
theorem padW0 (c : Ideal .f32) (v : FVec Ideal S2x8x12x2048 .f32) (i : Fin 2) (j : Fin 8) (k : Fin 12) (n : Fin 2048) :
    extractStridedSlice S2x8x12x2048 ![0, 0, 0, 0] (padW c v) slices_S2x8x14x2048_o0_0_0_0_S2x8x12x2048 (ix4 i j k n) =
      if h : k.val = 0 then c else v (ix4 i j ⟨k.val - 1, by omega⟩ n) := by
  fin_cases k <;> pointwise [padW]
theorem padW1 (c : Ideal .f32) (v : FVec Ideal S2x8x12x2048 .f32) (i : Fin 2) (j : Fin 8) (k : Fin 12) (n : Fin 2048) :
    extractStridedSlice S2x8x12x2048 ![0, 0, 1, 0] (padW c v) slices_S2x8x14x2048_o0_0_1_0_S2x8x12x2048 (ix4 i j k n) = v (ix4 i j k n) := by
  pointwise [padW]
  rw [dif_pos (by omega)]
theorem padW2 (c : Ideal .f32) (v : FVec Ideal S2x8x12x2048 .f32) (i : Fin 2) (j : Fin 8) (k : Fin 12) (n : Fin 2048) :
    extractStridedSlice S2x8x12x2048 ![0, 0, 2, 0] (padW c v) slices_S2x8x14x2048_o0_0_2_0_S2x8x12x2048 (ix4 i j k n) =
      if h : k.val = 11 then c else v (ix4 i j ⟨k.val + 1, by omega⟩ n) := by
  by_cases h : k.val = 11
  · rw [dif_pos h]; pointwise [padW]; rw [dif_neg (by omega)]
  · rw [dif_neg h]; pointwise [padW]; rw [dif_pos (by omega), dif_neg (by omega)]
    exact congrArg (fun q => v (ix4 i j q n)) (Fin.ext (by show 2 + k.val - 1 = k.val + 1; omega))

/-- The exponents of a tensor of row maxima. -/
def eV (v4 : FVec Ideal S2x8x12x1 .f32) : FVec Ideal S2x8x12x1 .f32 :=
  have cst_3 : Ideal .f32 := Scalar.ofBits .f32 0x3B124925#32
  have v5 : FVec Ideal S2x8x12x1 .f32 := broadcast S2x8x12x1 cst_3
  have v6 : FVec Ideal S2x8x12x1 .f32 := mulf v4 v5
  have v7 : FVec Ideal S2x8x12x1 .f32 := log v6
  have cst_4 : Ideal .f32 := Scalar.ofBits .f32 0x40000000#32
  have v8 : Ideal .f32 := Scalar.log cst_4
  have v9 : FVec Ideal S2x8x12x1 .f32 := broadcast S2x8x12x1 v8
  have v10 : FVec Ideal S2x8x12x1 .f32 := divf v7 v9
  have v11 : FVec Ideal S2x8x12x1 .f32 := floor v10
  have cst_5 : Ideal .f32 := Scalar.ofBits .f32 0x3F800000#32
  have v12 : FVec Ideal S2x8x12x1 .f32 := broadcast S2x8x12x1 cst_5
  have v13 : FVec Ideal S2x8x12x1 .f32 := addf v11 v12
  have cst_6 : Ideal .f32 := Scalar.ofBits .f32 0xC2FC0000#32
  have cst_7 : Ideal .f32 := Scalar.ofBits .f32 0x42FC0000#32
  have v14 : FVec Ideal S2x8x12x1 .f32 := broadcast S2x8x12x1 cst_6
  have v15 : FVec Ideal S2x8x12x1 .f32 := maximumf v14 v13
  have v16 : FVec Ideal S2x8x12x1 .f32 := broadcast S2x8x12x1 cst_7
  have v17 : FVec Ideal S2x8x12x1 .f32 := minimumf v16 v15
  have cst_8 : Ideal .f32 := Scalar.ofBits .f32 0x00000000#32
  have v18 : FVec Ideal S2x8x12x1 .f32 := broadcast S2x8x12x1 cst_8
  have v19 : IVec S2x8x12x1 1 := cmpf .oeq v4 v18
  have cst_9 : Ideal .f32 := Scalar.ofBits .f32 0x7F800000#32
  have v20 : FVec Ideal S2x8x12x1 .f32 := broadcast S2x8x12x1 cst_9
  have v21 : IVec S2x8x12x1 1 := cmpf .oeq v6 v20
  have v22 : IVec S2x8x12x1 1 := ori v19 v21
  have cst_10 : Ideal .f32 := Scalar.ofBits .f32 0x00000000#32
  have v23 : FVec Ideal S2x8x12x1 .f32 := broadcast S2x8x12x1 cst_10
  have v24 : FVec Ideal S2x8x12x1 .f32 := select v22 v23 v17
  v24

theorem eV_at (v : FVec Ideal S2x8x12x1 .f32) (i : S2x8x12x1.Idx) : eV v i = eR (v i) := rfl
theorem pay3_e (a : Vec Ideal S2x8x12x8192 .bf16) : k0_pay3 a =
    eV (shapeCast S2x8x12x1 (multiReduction (F := Ideal) (φ := .f32) .maximumf [3] S2x8x12 (absf (k0_pay2 a)) 0xFF800000#32 reduces_S2x8x12x8192_S2x8x12 (.inl rfl) rfl) shapeCasts_S2x8x12_S2x8x12x1) := by
  unfold k0_pay3 eV
  rfl
theorem pay13_e (v79 : FVec Ideal S3x2048 .f32) (v85 : FVec Ideal S2x8x14x2048 .f32) (v91 : FVec Ideal S2x8x12x2048 .f32) (v92 : FVec Ideal S2x8x12x2048 .f32) (v93 : FVec Ideal S1x2048 .f32) : k0_pay13 v79 v85 v91 v92 v93 =
    eV (shapeCast S2x8x12x1 (multiReduction (F := Ideal) (φ := .f32) .maximumf [3] S2x8x12 (absf (k0_pay12 v79 v85 v91 v92 v93)) 0xFF800000#32 reduces_S2x8x12x2048_S2x8x12 (.inl rfl) rfl) shapeCasts_S2x8x12_S2x8x12x1) := by
  unfold k0_pay13 eV
  rfl

end Cert.Val.Ref
-- ==== Proof.Value.RA.lean ====
module
public import proofs.«01_k».proof.Proof.Value.RF1

/-! The reference's results, element by element. -/

@[expose] public noncomputable section

namespace Cert.Val.Ref

open Cert.ReferenceIdeal Cert.ReferenceIdeal.Gen Idealize.ShloMosaic

theorem absat {s : Shape} (v : FVec Ideal s .f32) (i : s.Idx) : absf v i = ab (v i) := rfl
theorem pay2at (a : Vec Ideal S2x8x12x8192 .bf16) (i : S2x8x12x8192.Idx) : k0_pay2 a i = a i := rfl
theorem amx8192 (v : FVec Ideal S2x8x12x8192 .f32) (i : Fin 2) (j : Fin 8) (k : Fin 12) :
    shapeCast S2x8x12x1 (multiReduction (F := Ideal) (φ := .f32) .maximumf [3] S2x8x12 (absf v) 0xFF800000#32 reduces_S2x8x12x8192_S2x8x12 (.inl rfl) rfl) shapeCasts_S2x8x12_S2x8x12x1 (ix4 i j k 0) = amx fun d : Fin 8192 => v (ix4 i j k d) := by
  refine (max8192 (absf v) i j k _ _ _ _).trans ?_
  simp only [absat]
  exact fold_amx _
theorem amx2048 (v : FVec Ideal S2x8x12x2048 .f32) (i : Fin 2) (j : Fin 8) (k : Fin 12) :
    shapeCast S2x8x12x1 (multiReduction (F := Ideal) (φ := .f32) .maximumf [3] S2x8x12 (absf v) 0xFF800000#32 reduces_S2x8x12x2048_S2x8x12 (.inl rfl) rfl) shapeCasts_S2x8x12_S2x8x12x1 (ix4 i j k 0) = amx fun d : Fin 2048 => v (ix4 i j k d) := by
  refine (max2048 (absf v) i j k _ _ _ _).trans ?_
  simp only [absat]
  exact fold_amx _

/-- The codes of a tensor with given exponents. -/
def qX (v : FVec Ideal S2x8x12x8192 .f32) (e : FVec Ideal S2x8x12x1 .f32) : FVec Ideal S2x8x12x8192 .fp8e4m3 :=
  truncf .fp8e4m3 (minimumf (broadcast S2x8x12x8192 (Scalar.ofBits .f32 0x43E00000#32)) (maximumf (broadcast S2x8x12x8192 (Scalar.ofBits .f32 0xC3E00000#32))
    (mulf v (broadcastTo S2x8x12x8192 (exp2 (subf (broadcast S2x8x12x1 (Scalar.ofBits .f32 0x00000000#32)) e)) broadcasts_S2x8x12x1_S2x8x12x8192)))) bitsLt_fp8e4m3_f32
def qZ (v : FVec Ideal S2x8x12x2048 .f32) (e : FVec Ideal S2x8x12x1 .f32) : FVec Ideal S2x8x12x2048 .fp8e4m3 :=
  truncf .fp8e4m3 (minimumf (broadcast S2x8x12x2048 (Scalar.ofBits .f32 0x43E00000#32)) (maximumf (broadcast S2x8x12x2048 (Scalar.ofBits .f32 0xC3E00000#32))
    (mulf v (broadcastTo S2x8x12x2048 (exp2 (subf (broadcast S2x8x12x1 (Scalar.ofBits .f32 0x00000000#32)) e)) broadcasts_S2x8x12x1_S2x8x12x2048)))) bitsLt_fp8e4m3_f32
theorem qX_at (v : FVec Ideal S2x8x12x8192 .f32) (e : FVec Ideal S2x8x12x1 .f32) (i : Fin 2) (j : Fin 8) (k : Fin 12) (d : Fin 8192) :
    qX v e (ix4 i j k d) = min (Ideal.ofBits .f32 0x43E00000#32) (max (Ideal.ofBits .f32 0xC3E00000#32) (v (ix4 i j k d) * Ideal.exp2 (Ideal.ofBits .f32 0x00000000#32 - e (ix4 i j k 0)))) := by
  have h := bc8192 (exp2 (subf (broadcast S2x8x12x1 (Scalar.ofBits .f32 0x00000000#32)) e)) i j k d broadcasts_S2x8x12x1_S2x8x12x8192
  exact congrArg (fun t : EReal => min (Ideal.ofBits .f32 0x43E00000#32 : EReal) (max (Ideal.ofBits .f32 0xC3E00000#32) (v (ix4 i j k d) * t))) h
theorem qZ_at (v : FVec Ideal S2x8x12x2048 .f32) (e : FVec Ideal S2x8x12x1 .f32) (i : Fin 2) (j : Fin 8) (k : Fin 12) (d : Fin 2048) :
    qZ v e (ix4 i j k d) = min (Ideal.ofBits .f32 0x43E00000#32) (max (Ideal.ofBits .f32 0xC3E00000#32) (v (ix4 i j k d) * Ideal.exp2 (Ideal.ofBits .f32 0x00000000#32 - e (ix4 i j k 0)))) := by
  have h := bc2048 (exp2 (subf (broadcast S2x8x12x1 (Scalar.ofBits .f32 0x00000000#32)) e)) i j k d broadcasts_S2x8x12x1_S2x8x12x2048
  exact congrArg (fun t : EReal => min (Ideal.ofBits .f32 0x43E00000#32 : EReal) (max (Ideal.ofBits .f32 0xC3E00000#32) (v (ix4 i j k d) * t))) h
theorem sV_at (e : FVec Ideal S2x8x12x1 .f32) (i : Fin 2) (j : Fin 8) (k : Fin 12) (h) : shapeCast S2x8x12 (exp2 e) h (ix3 i j k) = Ideal.exp2 (e (ix4 i j k 0)) :=
  dropL (exp2 e) i j k h

theorem pay3_at (a : Vec Ideal S2x8x12x8192 .bf16) (i : Fin 2) (j : Fin 8) (k : Fin 12) : k0_pay3 a (ix4 i j k 0) = eR (amx fun d : Fin 8192 => a (ix4 i j k d)) := by
  rw [pay3_e, eV_at, amx8192]
  simp only [pay2at]

theorem code_of {n : ℕ} (f : Fin n → EReal) (d : Fin n) (e : EReal) (h : e = eR (amx f)) :
    min (Ideal.ofBits .f32 0x43E00000#32) (max (Ideal.ofBits .f32 0xC3E00000#32) (f d * Ideal.exp2 (Ideal.ofBits .f32 0x00000000#32 - e))) = code f d := by
  rw [h, z0]; rfl

theorem pay4_v (a : Vec Ideal S2x8x12x8192 .bf16) : k0_pay4 a = qX (k0_pay2 a) (k0_pay3 a) := by
  unfold k0_pay4 qX; rfl
theorem pay4_at (a : Vec Ideal S2x8x12x8192 .bf16) (i : Fin 2) (j : Fin 8) (k : Fin 12) (d : Fin 8192) :
    k0_pay4 a (ix4 i j k d) = code (fun d : Fin 8192 => a (ix4 i j k d)) d := by
  rw [pay4_v, qX_at, pay2at]
  exact code_of (fun d : Fin 8192 => a (ix4 i j k d)) d _ (pay3_at a i j k)

theorem pay5_at (a : Vec Ideal S2x8x12x8192 .bf16) (i : Fin 2) (j : Fin 8) (k : Fin 12) :
    k0_pay5 a (ix3 i j k) = scl (fun d : Fin 8192 => a (ix4 i j k d)) := by
  unfold k0_pay5
  exact (sV_at (k0_pay3 a) i j k _).trans (congrArg Ideal.exp2 (pay3_at a i j k))

theorem pay6_at (a0 : Vec Ideal S2x8x12x8192 .bf16) (a1 : Vec Ideal S8192x2048 .fp8e4m3) (i : Fin 2) (j : Fin 8) (k : Fin 12) (n : Fin 2048) :
    k0_pay6 a0 a1 (ix4 i j k n) = (∑ d : Fin 8192, code (fun d : Fin 8192 => a0 (ix4 i j k d)) d * a1 (ix2 d n) : EReal) := by
  unfold k0_pay6
  refine (mm1 _ _ i j k n).trans ?_
  exact Finset.sum_congr rfl fun d _ => by rw [pay4_at]

end Cert.Val.Ref
-- ==== Proof.Value.RD.lean ====
module
public import proofs.«01_k».proof.Proof.Value.RF1

/-! The reference's results, element by element. -/

@[expose] public noncomputable section

namespace Cert.Val.Ref

open Cert.ReferenceIdeal Cert.ReferenceIdeal.Gen Idealize.ShloMosaic

theorem zc : (Scalar.sitofp .f32 0#32 : Ideal .f32) = (0 : EReal) := by
  show (((0#32 : BitVec 32).toInt : ℝ) : EReal) = 0
  simp

/-- The first product rescaled, -/
def uV (s : FVec Ideal S2x8x12 .f32) (m : FVec Ideal S2x8x12x2048 .f32) (q : Vec Ideal S2048 .f32) : FVec Ideal S2x8x12x2048 .f32 :=
  mulf m (mulf (broadcastTo S2x8x12x2048 (shapeCast S2x8x12x1 s shapeCasts_S2x8x12_S2x8x12x1) broadcasts_S2x8x12x1_S2x8x12x2048) (broadcastTo S2x8x12x2048 (shapeCast S1x1x1x2048 q shapeCasts_S2048_S1x1x1x2048) broadcasts_S1x1x1x2048_S2x8x12x2048))
/-- a stencil's tap, -/
def tp (v : FVec Ideal S2048 .f32) : FVec Ideal S2x8x12x2048 .f32 := broadcastTo S2x8x12x2048 (shapeCast S1x1x1x2048 v shapeCasts_S2048_S1x1x1x2048) broadcasts_S1x1x1x2048_S2x8x12x2048
/-- the stencil along `h` -/
def vV (u : FVec Ideal S2x8x12x2048 .f32) (t : FVec Ideal S3x2048 .f32) : FVec Ideal S2x8x12x2048 .f32 :=
  addf (addf (mulf (extractStridedSlice S2x8x12x2048 ![0, 0, 0, 0] (padH (Scalar.sitofp .f32 0#32) u) slices_S2x10x12x2048_o0_0_0_0_S2x8x12x2048) (tp (shapeCast S2048 (extractStridedSlice S1x2048 ![0, 0] t slices_S3x2048_o0_0_S1x2048) shapeCasts_S1x2048_S2048)))
    (mulf (extractStridedSlice S2x8x12x2048 ![0, 1, 0, 0] (padH (Scalar.sitofp .f32 0#32) u) slices_S2x10x12x2048_o0_1_0_0_S2x8x12x2048) (tp (shapeCast S2048 (extractStridedSlice S1x2048 ![1, 0] t slices_S3x2048_o1_0_S1x2048) shapeCasts_S1x2048_S2048))))
    (mulf (extractStridedSlice S2x8x12x2048 ![0, 2, 0, 0] (padH (Scalar.sitofp .f32 0#32) u) slices_S2x10x12x2048_o0_2_0_0_S2x8x12x2048) (tp (shapeCast S2048 (extractStridedSlice S1x2048 ![2, 0] t slices_S3x2048_o2_0_S1x2048) shapeCasts_S1x2048_S2048)))
/-- and the one along `w`. -/
def zV (u : FVec Ideal S2x8x12x2048 .f32) (t : FVec Ideal S3x2048 .f32) : FVec Ideal S2x8x12x2048 .f32 :=
  addf (addf (mulf (extractStridedSlice S2x8x12x2048 ![0, 0, 0, 0] (padW (Scalar.sitofp .f32 0#32) u) slices_S2x8x14x2048_o0_0_0_0_S2x8x12x2048) (tp (shapeCast S2048 (extractStridedSlice S1x2048 ![0, 0] t slices_S3x2048_o0_0_S1x2048) shapeCasts_S1x2048_S2048)))
    (mulf (extractStridedSlice S2x8x12x2048 ![0, 0, 1, 0] (padW (Scalar.sitofp .f32 0#32) u) slices_S2x8x14x2048_o0_0_1_0_S2x8x12x2048) (tp (shapeCast S2048 (extractStridedSlice S1x2048 ![1, 0] t slices_S3x2048_o1_0_S1x2048) shapeCasts_S1x2048_S2048))))
    (mulf (extractStridedSlice S2x8x12x2048 ![0, 0, 2, 0] (padW (Scalar.sitofp .f32 0#32) u) slices_S2x8x14x2048_o0_0_2_0_S2x8x12x2048) (tp (shapeCast S2048 (extractStridedSlice S1x2048 ![2, 0] t slices_S3x2048_o2_0_S1x2048) shapeCasts_S1x2048_S2048)))

end Cert.Val.Ref
-- ==== Proof.Value.RB.lean ====
module
public import proofs.«01_k».proof.Proof.Value.RD

/-! The reference's results, element by element. -/

@[expose] public noncomputable section

namespace Cert.Val.Ref

open Cert.ReferenceIdeal Cert.ReferenceIdeal.Gen Idealize.ShloMosaic

theorem uV_at (s : FVec Ideal S2x8x12 .f32) (m : FVec Ideal S2x8x12x2048 .f32) (q : Vec Ideal S2048 .f32) (i : Fin 2) (j : Fin 8) (k : Fin 12) (n : Fin 2048) :
    uV s m q (ix4 i j k n) = (m (ix4 i j k n) * (s (ix3 i j k) * q (ix1 n)) : EReal) := by
  show (m (ix4 i j k n) * (broadcastTo S2x8x12x2048 _ _ (ix4 i j k n) * broadcastTo S2x8x12x2048 _ _ (ix4 i j k n)) : EReal) = _
  rw [bc2048, addL, row2048]
theorem vV_at (u : FVec Ideal S2x8x12x2048 .f32) (t : FVec Ideal S3x2048 .f32) (i : Fin 2) (j : Fin 8) (k : Fin 12) (n : Fin 2048) :
    vV u t (ix4 i j k n) = vS (fun i j k n => u (ix4 i j k n)) (fun a n => t (ix2 a n)) i j k n := by
  show (((extractStridedSlice S2x8x12x2048 _ _ _ (ix4 i j k n) * broadcastTo S2x8x12x2048 _ _ (ix4 i j k n)) + (extractStridedSlice S2x8x12x2048 _ _ _ (ix4 i j k n) * broadcastTo S2x8x12x2048 _ _ (ix4 i j k n))) + (extractStridedSlice S2x8x12x2048 _ _ _ (ix4 i j k n) * broadcastTo S2x8x12x2048 _ _ (ix4 i j k n)) : EReal) = _
  rw [row2048, row2048, row2048, tap0, tap1, tap2, padH0, padH1, padH2, zc]; rfl
theorem zV_at (u : FVec Ideal S2x8x12x2048 .f32) (t : FVec Ideal S3x2048 .f32) (i : Fin 2) (j : Fin 8) (k : Fin 12) (n : Fin 2048) :
    zV u t (ix4 i j k n) = zS (fun i j k n => u (ix4 i j k n)) (fun a n => t (ix2 a n)) i j k n := by
  show (((extractStridedSlice S2x8x12x2048 _ _ _ (ix4 i j k n) * broadcastTo S2x8x12x2048 _ _ (ix4 i j k n)) + (extractStridedSlice S2x8x12x2048 _ _ _ (ix4 i j k n) * broadcastTo S2x8x12x2048 _ _ (ix4 i j k n))) + (extractStridedSlice S2x8x12x2048 _ _ _ (ix4 i j k n) * broadcastTo S2x8x12x2048 _ _ (ix4 i j k n)) : EReal) = _
  rw [row2048, row2048, row2048, tap0, tap1, tap2, padW0, padW1, padW2, zc]; rfl

end Cert.Val.Ref
-- ==== Proof.Value.RC.lean ====
module
public import proofs.«01_k».proof.Proof.Value.RD

/-! The reference's results, element by element. -/

@[expose] public noncomputable section

namespace Cert.Val.Ref

open Cert.ReferenceIdeal Cert.ReferenceIdeal.Gen Idealize.ShloMosaic

theorem pay8_v (s : FVec Ideal S2x8x12 .f32) (m : FVec Ideal S2x8x12x2048 .f32) (q : Vec Ideal S2048 .f32) (t : Vec Ideal S3x2048 .bf16) :
    k0_pay8 s m q t = padW (Scalar.sitofp .f32 0#32) (vV (uV s m q) t) := rfl
theorem pay12_v (s : FVec Ideal S2x8x12 .f32) (m : FVec Ideal S2x8x12x2048 .f32) (q : Vec Ideal S2048 .f32) (t t' : Vec Ideal S3x2048 .bf16) :
    k0_pay12 (k0_pay7 t') (k0_pay8 s m q t) (k0_pay9 s m q t t') (k0_pay10 s m q t) (k0_pay11 t') = zV (vV (uV s m q) t) t' := by
  unfold k0_pay12 k0_pay9 k0_pay10 k0_pay11 k0_pay7
  rw [pay8_v]; rfl

end Cert.Val.Ref
-- ==== Proof.Value.RE.lean ====
module
public import proofs.«01_k».proof.Proof.Value.RA

/-! The reference's results, element by element. -/

@[expose] public noncomputable section

namespace Cert.Val.Ref

open Cert.ReferenceIdeal Cert.ReferenceIdeal.Gen Idealize.ShloMosaic

section
variable (v79 : FVec Ideal S3x2048 .f32) (v85 : FVec Ideal S2x8x14x2048 .f32) (v91 : FVec Ideal S2x8x12x2048 .f32) (v92 : FVec Ideal S2x8x12x2048 .f32) (v93 : FVec Ideal S1x2048 .f32)
theorem pay13_at (i : Fin 2) (j : Fin 8) (k : Fin 12) : k0_pay13 v79 v85 v91 v92 v93 (ix4 i j k 0) = eR (amx fun d : Fin 2048 => k0_pay12 v79 v85 v91 v92 v93 (ix4 i j k d)) := by
  rw [pay13_e, eV_at, amx2048]

theorem pay14_v : k0_pay14 v79 v85 v91 v92 v93 = qZ (k0_pay12 v79 v85 v91 v92 v93) (k0_pay13 v79 v85 v91 v92 v93) := by
  unfold k0_pay14 qZ; rfl
theorem pay14_at (i : Fin 2) (j : Fin 8) (k : Fin 12) (d : Fin 2048) :
    k0_pay14 v79 v85 v91 v92 v93 (ix4 i j k d) = code (fun d : Fin 2048 => k0_pay12 v79 v85 v91 v92 v93 (ix4 i j k d)) d := by
  rw [pay14_v, qZ_at]
  exact code_of (fun d : Fin 2048 => k0_pay12 v79 v85 v91 v92 v93 (ix4 i j k d)) d _ (pay13_at v79 v85 v91 v92 v93 i j k)

theorem pay15_at (i : Fin 2) (j : Fin 8) (k : Fin 12) :
    k0_pay15 v79 v85 v91 v92 v93 (ix3 i j k) = scl (fun d : Fin 2048 => k0_pay12 v79 v85 v91 v92 v93 (ix4 i j k d)) := by
  unfold k0_pay15
  exact (sV_at (k0_pay13 v79 v85 v91 v92 v93) i j k _).trans (congrArg Ideal.exp2 (pay13_at v79 v85 v91 v92 v93 i j k))

theorem pay1_at (s : FVec Ideal S2x8x12 .f32) (w : Vec Ideal S2048x7168 .fp8e4m3) (q b : Vec Ideal S7168 .f32) (i : Fin 2) (j : Fin 8) (k : Fin 12) (o : Fin 7168) :
    k0_pay1 s (k0_pay16 v79 v85 v91 v92 v93) w q b (ix4 i j k o) =
      (((∑ n : Fin 2048, code (fun d : Fin 2048 => k0_pay12 v79 v85 v91 v92 v93 (ix4 i j k d)) n * w (ix2 n o)) * s (ix3 i j k)) * q (ix1 o) + b (ix1 o) : EReal) := by
  unfold k0_pay1 k0_pay16
  show (shapeCast S2x8x12x7168 _ _ (ix4 i j k o) * broadcastTo S2x8x12x7168 _ _ (ix4 i j k o) * broadcastTo S2x8x12x7168 _ _ (ix4 i j k o) + broadcastTo S2x8x12x7168 _ _ (ix4 i j k o) : EReal) = _
  rw [bc7168, addL, row7168, row7168, mm2]
  simp only [pay14_at]
end

end Cert.Val.Ref
-- ==== Proof.Value.RG.lean ====
module
public import proofs.«01_k».proof.Proof.Value.RA
public import proofs.«01_k».proof.Proof.Value.RB
public import proofs.«01_k».proof.Proof.Value.RC
public import proofs.«01_k».proof.Proof.Value.RE

/-! The reference's results, element by element. -/

@[expose] public noncomputable section

namespace Cert.Val.Ref

open Cert.ReferenceIdeal Cert.ReferenceIdeal.Gen Idealize.ShloMosaic

section
variable (a0 : Vec Ideal S2x8x12x8192 .bf16) (a1 : Vec Ideal S8192x2048 .fp8e4m3) (a2 : Vec Ideal S2048 .f32) (a3 a4 : Vec Ideal S3x2048 .bf16)
    (a5 : Vec Ideal S2048x7168 .fp8e4m3) (a6 a7 : Vec Ideal S7168 .f32)

theorem l0 : View.ld a0 r0_0 = a0 := funext fun i => congrArg a0 (funext fun a => Fin.ext (by fin_cases a <;> exact (Nat.zero_add _).trans (Nat.one_mul _)))
theorem l1 : View.ld a1 r0_1 = a1 := funext fun i => congrArg a1 (funext fun a => Fin.ext (by fin_cases a <;> exact (Nat.zero_add _).trans (Nat.one_mul _)))
theorem l2 : View.ld a2 r0_2 = a2 := funext fun i => congrArg a2 (funext fun a => Fin.ext (by fin_cases a <;> exact (Nat.zero_add _).trans (Nat.one_mul _)))
theorem l3 : View.ld a3 r0_3 = a3 := funext fun i => congrArg a3 (funext fun a => Fin.ext (by fin_cases a <;> exact (Nat.zero_add _).trans (Nat.one_mul _)))

/-- The tensor `z` of the arguments. -/
def zA : Fin 2 → Fin 8 → Fin 12 → Fin 2048 → EReal :=
  zS (vS (uS (fun i j k d => a0 (ix4 i j k d)) (fun d n => a1 (ix2 d n)) (fun n => a2 (ix1 n))) (fun a n => a3 (ix2 a n))) (fun a n => a4 (ix2 a n))

theorem z_at (i : Fin 2) (j : Fin 8) (k : Fin 12) (n : Fin 2048) :
    k0_pay12 (k0_pay19 a0 a1 a2 a3 a4 a5 a6 a7) (k0_pay20 a0 a1 a2 a3 a4 a5 a6 a7) (k0_pay21 a0 a1 a2 a3 a4 a5 a6 a7) (k0_pay22 a0 a1 a2 a3 a4 a5 a6 a7) (k0_pay23 a0 a1 a2 a3 a4 a5 a6 a7) (ix4 i j k n) =
      zA a0 a1 a2 a3 a4 i j k n := by
  unfold k0_pay19 k0_pay20 k0_pay21 k0_pay22 k0_pay23 k0_pay17 k0_pay18
  rw [l0, l1, l2, l3, l3, pay12_v, zV_at]
  have hu : (fun i j k n => uV (k0_pay5 a0) (k0_pay6 a0 a1) a2 (ix4 i j k n)) = uS (fun i j k d => a0 (ix4 i j k d)) (fun d n => a1 (ix2 d n)) (fun n => a2 (ix1 n)) := by
    funext i j k n
    rw [uV_at, pay5_at, pay6_at]; rfl
  have hv : (fun i j k n => vV (uV (k0_pay5 a0) (k0_pay6 a0 a1) a2) a3 (ix4 i j k n)) = vS (uS (fun i j k d => a0 (ix4 i j k d)) (fun d n => a1 (ix2 d n)) (fun n => a2 (ix1 n))) (fun a n => a3 (ix2 a n)) := by
    funext i j k n
    rw [vV_at, hu]
  rw [hv]; rfl

theorem G9_at (i : Fin 2) (j : Fin 8) (k : Fin 12) (d : Fin 8192) : Cert.ReferenceIdeal.Value.G9 a0 a1 a2 a3 a4 a5 a6 a7 (ix4 i j k d) = code (fun d : Fin 8192 => a0 (ix4 i j k d)) d := pay4_at a0 i j k d
theorem G10_at (i : Fin 2) (j : Fin 8) (k : Fin 12) : Cert.ReferenceIdeal.Value.G10 a0 a1 a2 a3 a4 a5 a6 a7 (ix3 i j k) = scl (fun d : Fin 8192 => a0 (ix4 i j k d)) := by
  show k0_pay5 (View.ld a0 r0_0) (ix3 i j k) = _
  rw [l0]; exact pay5_at a0 i j k
theorem zrow (i : Fin 2) (j : Fin 8) (k : Fin 12) : (fun d : Fin 2048 => k0_pay12 (k0_pay19 a0 a1 a2 a3 a4 a5 a6 a7) (k0_pay20 a0 a1 a2 a3 a4 a5 a6 a7) (k0_pay21 a0 a1 a2 a3 a4 a5 a6 a7) (k0_pay22 a0 a1 a2 a3 a4 a5 a6 a7) (k0_pay23 a0 a1 a2 a3 a4 a5 a6 a7) (ix4 i j k d)) = zA a0 a1 a2 a3 a4 i j k :=
  funext fun d => z_at a0 a1 a2 a3 a4 a5 a6 a7 i j k d
theorem G11_at (i : Fin 2) (j : Fin 8) (k : Fin 12) (d : Fin 2048) : Cert.ReferenceIdeal.Value.G11 a0 a1 a2 a3 a4 a5 a6 a7 (ix4 i j k d) = code (zA a0 a1 a2 a3 a4 i j k) d :=
  (pay14_at _ _ _ _ _ i j k d).trans (by rw [zrow])
theorem p24_at (i : Fin 2) (j : Fin 8) (k : Fin 12) : k0_pay24 a0 a1 a2 a3 a4 a5 a6 a7 (ix3 i j k) = scl (zA a0 a1 a2 a3 a4 i j k) :=
  (pay15_at _ _ _ _ _ i j k).trans (by rw [zrow])
theorem G12_at (i : Fin 2) (j : Fin 8) (k : Fin 12) : Cert.ReferenceIdeal.Value.G12 a0 a1 a2 a3 a4 a5 a6 a7 (ix3 i j k) = scl (zA a0 a1 a2 a3 a4 i j k) := p24_at a0 a1 a2 a3 a4 a5 a6 a7 i j k
theorem G8_at (i : Fin 2) (j : Fin 8) (k : Fin 12) (o : Fin 7168) : Cert.ReferenceIdeal.Value.G8 a0 a1 a2 a3 a4 a5 a6 a7 (ix4 i j k o) =
    yS (zA a0 a1 a2 a3 a4) (fun n o => a5 (ix2 n o)) (fun o => a6 (ix1 o)) (fun o => a7 (ix1 o)) i j k o :=
  (pay1_at _ _ _ _ _ _ a5 a6 a7 i j k o).trans (by rw [zrow, p24_at]; rfl)
end

end Cert.Val.Ref
-- ==== Proof.Value.Final.lean ====
module
public import proofs.«01_k».proof.Defs
public import proofs.«01_k».proof.Proof.Value.KRes
public import proofs.«01_k».proof.Proof.Value.RG

/-! The kernel's results are the reference's. -/

@[expose] public noncomputable section

namespace Cert.Val.Ker

open Idealize.ShloMosaic Idealize.ShloMosaic.TcCoe Idealize.SL.Sem

section
open Cert.KernelIdeal Cert.KernelIdeal.Gen Cert.KernelIdeal.Hand
variable (m : (ℓ : Loc nD τ sig) → Buf (Elt Ideal) ℓ) (c : Dev nD)

theorem eq8 : (Cert.ReferenceIdeal.Value.G8 (F := Ideal) (a0 m c) (a1 m c) (a2 m c) (a3 m c) (a4 m c) (a5 m c) (a6 m c) (a7 m c) : Vec Ideal S2x8x12x7168 .bf16) = fin m c main_v7 := by
  funext i
  rw [eq_ix4 i]
  exact (Ref.G8_at (a0 m c) (a1 m c) (a2 m c) (a3 m c) (a4 m c) (a5 m c) (a6 m c) (a7 m c) (i 0) (i 1) (i 2) (i 3)).trans (fin7 m c (i 0) (i 1) (i 2) (i 3)).symm
theorem eq9 : (Cert.ReferenceIdeal.Value.G9 (F := Ideal) (a0 m c) (a1 m c) (a2 m c) (a3 m c) (a4 m c) (a5 m c) (a6 m c) (a7 m c) : Vec Ideal S2x8x12x8192 .fp8e4m3) = fin m c main_v9 := by
  funext i
  rw [eq_ix4 i]
  exact (Ref.G9_at (a0 m c) (a1 m c) (a2 m c) (a3 m c) (a4 m c) (a5 m c) (a6 m c) (a7 m c) (i 0) (i 1) (i 2) (i 3)).trans (fin9 m c (i 0) (i 1) (i 2) (i 3)).symm
theorem eq10 : (Cert.ReferenceIdeal.Value.G10 (F := Ideal) (a0 m c) (a1 m c) (a2 m c) (a3 m c) (a4 m c) (a5 m c) (a6 m c) (a7 m c) : Vec Ideal S2x8x12 .f32) = fin m c main_v5_2 := by
  funext i
  rw [eq_ix3 i]
  exact (Ref.G10_at (a0 m c) (a1 m c) (a2 m c) (a3 m c) (a4 m c) (a5 m c) (a6 m c) (a7 m c) (i 0) (i 1) (i 2)).trans (fin5_2 m c (i 0) (i 1) (i 2)).symm
theorem eq11 : (Cert.ReferenceIdeal.Value.G11 (F := Ideal) (a0 m c) (a1 m c) (a2 m c) (a3 m c) (a4 m c) (a5 m c) (a6 m c) (a7 m c) : Vec Ideal S2x8x12x2048 .fp8e4m3) = fin m c main_v11 := by
  funext i
  rw [eq_ix4 i]
  exact (Ref.G11_at (a0 m c) (a1 m c) (a2 m c) (a3 m c) (a4 m c) (a5 m c) (a6 m c) (a7 m c) (i 0) (i 1) (i 2) (i 3)).trans (fin11 m c (i 0) (i 1) (i 2) (i 3)).symm
theorem eq12 : (Cert.ReferenceIdeal.Value.G12 (F := Ideal) (a0 m c) (a1 m c) (a2 m c) (a3 m c) (a4 m c) (a5 m c) (a6 m c) (a7 m c) : Vec Ideal S2x8x12 .f32) = fin m c main_v5_4 := by
  funext i
  rw [eq_ix3 i]
  exact (Ref.G12_at (a0 m c) (a1 m c) (a2 m c) (a3 m c) (a4 m c) (a5 m c) (a6 m c) (a7 m c) (i 0) (i 1) (i 2)).trans (fin5_4 m c (i 0) (i 1) (i 2)).symm
theorem kernel_run (ρ : Dev nD → PrngReg) : θ_run (defs (F := Ideal)) (onTc (τ := τ) (main (F := Ideal))) ⟨m, fun _ => 0, ρ⟩ (fun r => ∀ c : Dev nD,
    r.2.mem ((c.tc : Thread nD τ).loc main_v7) = fin m c main_v7
    ∧ r.2.mem ((c.tc : Thread nD τ).loc main_v9) = fin m c main_v9
    ∧ r.2.mem ((c.tc : Thread nD τ).loc main_v5_2) = fin m c main_v5_2
    ∧ r.2.mem ((c.tc : Thread nD τ).loc main_v11) = fin m c main_v11
    ∧ r.2.mem ((c.tc : Thread nD τ).loc main_v5_4) = fin m c main_v5_4
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6)
    ∧ r.2.mem ((c.tc : Thread nD τ).loc main_arg7) = m ((c.tc : Thread nD τ).loc main_arg7)) :=
  (θ_run defs _ _).mono (fun r h c => ⟨h.1 c main_v7 (Pipeline.mem_restRefs_of main_v7 (by decide) (by decide)),
      h.1 c main_v9 (Pipeline.mem_restRefs_of main_v9 (by decide) (by decide)),
      h.1 c main_v5_2 (Pipeline.mem_restRefs_of main_v5_2 (by decide) (by decide)),
      h.1 c main_v11 (Pipeline.mem_restRefs_of main_v11 (by decide) (by decide)),
      h.1 c main_v5_4 (Pipeline.mem_restRefs_of main_v5_4 (by decide) (by decide)),
      (h.1 c main_arg0 (Pipeline.mem_restRefs_of main_arg0 (by decide) (by decide))).trans (final_arg0 m c),
      (h.1 c main_arg1 (Pipeline.mem_restRefs_of main_arg1 (by decide) (by decide))).trans (final_arg1 m c),
      (h.1 c main_arg2 (Pipeline.mem_restRefs_of main_arg2 (by decide) (by decide))).trans (final_arg2 m c),
      (h.1 c main_arg3 (Pipeline.mem_restRefs_of main_arg3 (by decide) (by decide))).trans (final_arg3 m c),
      (h.1 c main_arg4 (Pipeline.mem_restRefs_of main_arg4 (by decide) (by decide))).trans (final_arg4 m c),
      (h.1 c main_arg5 (Pipeline.mem_restRefs_of main_arg5 (by decide) (by decide))).trans (final_arg5 m c),
      (h.1 c main_arg6 (Pipeline.mem_restRefs_of main_arg6 (by decide) (by decide))).trans (final_arg6 m c),
      (h.1 c main_arg7 (Pipeline.mem_restRefs_of main_arg7 (by decide) (by decide))).trans (final_arg7 m c)⟩) (run_main m ρ)
end

theorem algebraic_holds : @Cert.algebraic_KernelIdeal_ReferenceIdeal Cert.KernelIdeal.Gen.facts Cert.ReferenceIdeal.Gen.facts := by
  intro m g m' g' _ hm
  refine ⟨fun c => fin m c Cert.KernelIdeal.main_v7, fun c => fin m c Cert.KernelIdeal.main_v9, fun c => fin m c Cert.KernelIdeal.main_v5_2,
    fun c => fin m c Cert.KernelIdeal.main_v11, fun c => fin m c Cert.KernelIdeal.main_v5_4, kernel_run m g, ?_⟩
  refine (θ_run (Cert.ReferenceIdeal.defs (F := Ideal)) _ _).mono (fun r h c => ?_) (Cert.ReferenceIdeal.Value.run m' g')
  obtain ⟨e0, e1, e2, e3, e4, e5, e6, e7⟩ := hm c
  obtain ⟨h0, h1, h2, h3, h4, k⟩ := h c
  rw [e0, e1, e2, e3, e4, e5, e6, e7] at h0 h1 h2 h3 h4
  exact ⟨h0.trans (eq8 m c), h1.trans (eq9 m c), h2.trans (eq10 m c), h3.trans (eq11 m c), h4.trans (eq12 m c), k⟩

end Cert.Val.Ker
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal.Value
public import proofs.«01_k».proof.Proof.KernelIdealHand.Launch
public import proofs.«01_k».proof.Proof.KernelHand.Launch
public import proofs.«01_k».proof.Proof.Value.Final
public import Idealize.ShloMosaic.Adequacy
public import Idealize.ShloMosaic.Init

@[expose] public section

noncomputable section

namespace Cert.Proof

open Idealize.ShloMosaic Idealize.SL.Sem

theorem claim : Cert.Claim := ⟨Cert.Kernel.Gen.facts, Cert.KernelIdeal.Gen.facts, Cert.ReferenceIdeal.Gen.facts,
  fun m ρ _ => Cert.Kernel.Hand.frame_all m ρ,
  fun m ρ _ => Cert.KernelIdeal.Hand.frame_all m ρ,
  fun m ρ _ => Cert.ReferenceIdeal.Gen.frame m ρ,
  trivial,
  Cert.Val.Ker.algebraic_holds⟩

end Cert.Proof

end
